-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v101)) (v1 : (c : Dev Cert.KernelIdeal.nD) → Buf (Elt Ideal) ((c.tc : Thread Cert.KernelIdeal.nD Cert.KernelIdeal.τ).loc Cert.KernelIdeal.main_v103)) (v2 : (c : Dev Cert.KernelIdeal.nD) → Buf (Elt Ideal) ((c.tc : Thread Cert.KernelIdeal.nD Cert.KernelIdeal.τ).loc Cert.KernelIdeal.main_v106)) (v3 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_v103) = v1 c
          ∧ r.2.mem ((c.tc : Thread Cert.KernelIdeal.nD Cert.KernelIdeal.τ).loc Cert.KernelIdeal.main_v106) = v2 c
          ∧ r.2.mem ((c.tc : Thread Cert.KernelIdeal.nD Cert.KernelIdeal.τ).loc Cert.KernelIdeal.main_v111) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_v19) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v14) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v36) = v0 c
          ∧ r.2.mem ((c.tc : Thread Cert.Reference11Ideal.nD Cert.Reference11Ideal.τ).loc Cert.Reference11Ideal.main_v37) = v1 c
          ∧ r.2.mem ((c.tc : Thread Cert.Reference11Ideal.nD Cert.Reference11Ideal.τ).loc Cert.Reference11Ideal.main_v19) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v36) = v0 c
          ∧ r.2.mem ((c.tc : Thread Cert.Reference12Ideal.nD Cert.Reference12Ideal.τ).loc Cert.Reference12Ideal.main_v19) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v14) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v14) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S16x4096x64 : Shape := ⟨3, ![16, 4096, 64]⟩
abbrev S16x4096 : Shape := ⟨2, ![16, 4096]⟩
abbrev S_ : Shape := ⟨0, ![]⟩

class Facts : Prop where
  bcast_S_S16x4096x64 : S_.BroadcastsInDim S16x4096x64 (![] : Fin 0 → Fin S16x4096x64.rank)
  bcast_S_S16x4096 : S_.BroadcastsInDim S16x4096 (![] : Fin 0 → Fin S16x4096.rank)

variable [Facts]

def fn {F : FTy → Type} [FloatOps F] (main_arg0 : FVec F S16x4096x64 .f32) (main_arg1 : FVec F S16x4096x64 .f32) (main_arg2 : FVec F S16x4096x64 .f32) (main_arg3 : FVec F S16x4096 .f32) (main_arg4 : FVec F S16x4096x64 .f32) : IVec S16x4096x64 1 × IVec S16x4096x64 1 × IVec S16x4096x64 1 × IVec S16x4096 1 × IVec S16x4096x64 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_v3 : FVec F S16x4096x64 .f32 := Host.absf main_arg1
  let main_cst_0 : FVec F S_ .f32 := constant S_ .f32 0x7F800000#32
  let main_v4 : FVec F S16x4096x64 .f32 := broadcastInDim S16x4096x64 ![] bcast_S_S16x4096x64 main_cst_0
  let main_v5 : IVec S16x4096x64 1 := cmpf .olt main_v3 main_v4
  let main_v6 : FVec F S16x4096x64 .f32 := Host.absf main_arg2
  let main_cst_1 : FVec F S_ .f32 := constant S_ .f32 0x7F800000#32
  let main_v7 : FVec F S16x4096x64 .f32 := broadcastInDim S16x4096x64 ![] bcast_S_S16x4096x64 main_cst_1
  let main_v8 : IVec S16x4096x64 1 := cmpf .olt main_v6 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_v12 : FVec F S16x4096x64 .f32 := Host.absf main_arg4
  let main_cst_3 : FVec F S_ .f32 := constant S_ .f32 0x7F800000#32
  let main_v13 : FVec F S16x4096x64 .f32 := broadcastInDim S16x4096x64 ![] bcast_S_S16x4096x64 main_cst_3
  let main_v14 : IVec S16x4096x64 1 := cmpf .olt main_v12 main_v13
  (main_v2, main_v5, main_v8, main_v11, main_v14)
-- ==== Kernel.lean ====
abbrev S16x4096x64 : Shape := ⟨3, ![16, 4096, 64]⟩
abbrev S16x4096 : Shape := ⟨2, ![16, 4096]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S16x4096x55 : Shape := ⟨3, ![16, 4096, 55]⟩
abbrev S16x4096x128 : Shape := ⟨3, ![16, 4096, 128]⟩
abbrev S16x4096x61 : Shape := ⟨3, ![16, 4096, 61]⟩
abbrev S16x8x512x128 : Shape := ⟨4, ![16, 8, 512, 128]⟩
abbrev S16x8x128x512 : Shape := ⟨4, ![16, 8, 128, 512]⟩
abbrev S16x128x4096 : Shape := ⟨3, ![16, 128, 4096]⟩
abbrev S1024x4096 : Shape := ⟨2, ![1024, 4096]⟩
abbrev S2x4096x128 : Shape := ⟨3, ![2, 4096, 128]⟩
abbrev S2x8x128x512 : Shape := ⟨4, ![2, 8, 128, 512]⟩
abbrev S2x512x128 : Shape := ⟨3, ![2, 512, 128]⟩
abbrev S2x1x128x512 : Shape := ⟨4, ![2, 1, 128, 512]⟩
abbrev S2x128x512 : Shape := ⟨3, ![2, 128, 512]⟩
abbrev S128x512 : Shape := ⟨2, ![128, 512]⟩
abbrev S2x64x512 : Shape := ⟨3, ![2, 64, 512]⟩
abbrev S1x1024x128 : Shape := ⟨3, ![1, 1024, 128]⟩
abbrev S1024x128 : Shape := ⟨2, ![1024, 128]⟩
abbrev S1x1x128x512 : Shape := ⟨4, ![1, 1, 128, 512]⟩
abbrev S1024x512 : Shape := ⟨2, ![1024, 512]⟩
abbrev S1x64x512 : Shape := ⟨3, ![1, 64, 512]⟩
abbrev S64x512 : Shape := ⟨2, ![64, 512]⟩
abbrev S1x1x64x512 : Shape := ⟨4, ![1, 1, 64, 512]⟩
abbrev S512x512 : Shape := ⟨2, ![512, 512]⟩
abbrev S1x128x512 : Shape := ⟨3, ![1, 128, 512]⟩
abbrev S1x512x128 : Shape := ⟨3, ![1, 512, 128]⟩
abbrev S512x128 : Shape := ⟨2, ![512, 128]⟩
abbrev S16x64x4096 : Shape := ⟨3, ![16, 64, 4096]⟩

abbrev nBuf : Space → Nat
  | .hbm => 131
  | .vmem => 22
  | .smem => 0
  | _ => 0

abbrev hbmTy0_0 (i : Nat) : BufTy := match i % 128 with
  | 0 => ⟨S16x4096x64, .f32⟩
  | 1 => ⟨S16x4096x64, .f32⟩
  | 2 => ⟨S16x4096x64, .f32⟩
  | 3 => ⟨S16x4096, .f32⟩
  | 4 => ⟨S16x4096x64, .f32⟩
  | 5 => ⟨S16x4096x4096, .f32⟩
  | 6 => ⟨S_, .f32⟩
  | 7 => ⟨S16x4096x4096, .f32⟩
  | 8 => ⟨S16x4096x4096, .f32⟩
  | 9 => ⟨S16x4096x1, .f32⟩
  | 10 => ⟨S16x4096x4096, .f32⟩
  | 11 => ⟨S16x4096x4096, .f32⟩
  | 12 => ⟨S16x1x4096, .f32⟩
  | 13 => ⟨S16x4096x4096, .f32⟩
  | 14 => ⟨S16x4096x4096, .f32⟩
  | 15 => ⟨S16x4096x4096, .i32⟩
  | 16 => ⟨S16x4096x4096, .i32⟩
  | 17 => ⟨S16x4096x4096, .i1⟩
  | 18 => ⟨S_, .f32⟩
  | 19 => ⟨S16x4096x4096, .f32⟩
  | 20 => ⟨S16x4096x4096, .f32⟩
  | 21 => ⟨S_, .f32⟩
  | 22 => ⟨S16x4096, .f32⟩
  | 23 => ⟨S16x4096x1, .f32⟩
  | 24 => ⟨S16x4096x4096, .f32⟩
  | 25 => ⟨S16x4096x4096, .f32⟩
  | 26 => ⟨S16x4096x4096, .f32⟩
  | 27 => ⟨S_, .f32⟩
  | 28 => ⟨S16x4096, .f32⟩
  | 29 => ⟨S16x4096x64, .f32⟩
  | 30 => ⟨S16x4096x1, .f32⟩
  | 31 => ⟨S16x4096x64, .f32⟩
  | 32 => ⟨S16x4096x64, .f32⟩
  | 33 => ⟨S16x4096, .f32⟩
  | 34 => ⟨S16x4096, .f32⟩
  | 35 => ⟨S_, .f32⟩
  | 36 => ⟨S16x4096, .f32⟩
  | 37 => ⟨S16x4096, .bf16⟩
  | 38 => ⟨S16x4096, .f32⟩
  | 39 => ⟨S16x4096, .f32⟩
  | 40 => ⟨S16x4096, .bf16⟩
  | 41 => ⟨S16x4096, .f32⟩
  | 42 => ⟨S16x4096, .f32⟩
  | 43 => ⟨S16x4096, .f32⟩
  | 44 => ⟨S16x4096, .bf16⟩
  | 45 => ⟨S16x4096, .f32⟩
  | 46 => ⟨S16x4096, .f32⟩
  | 47 => ⟨S16x4096, .bf16⟩
  | 48 => ⟨S16x4096, .f32⟩
  | 49 => ⟨S16x4096, .f32⟩
  | 50 => ⟨S16x4096x64, .f32⟩
  | 51 => ⟨S_, .f32⟩
  | 52 => ⟨S16x4096, .f32⟩
  | 53 => ⟨S16x4096, .f32⟩
  | 54 => ⟨S16x4096, .bf16⟩
  | 55 => ⟨S16x4096, .f32⟩
  | 56 => ⟨S16x4096, .f32⟩
  | 57 => ⟨S16x4096, .bf16⟩
  | 58 => ⟨S16x4096, .f32⟩
  | 59 => ⟨S16x4096, .f32⟩
  | 60 => ⟨S_, .f32⟩
  | 61 => ⟨S16x4096x64, .f32⟩
  | 62 => ⟨S16x4096x64, .f32⟩
  | 63 => ⟨S16x4096x1, .f32⟩
  | 64 => ⟨S16x4096x1, .f32⟩
  | 65 => ⟨S16x4096x1, .f32⟩
  | 66 => ⟨S16x4096x1, .f32⟩
  | 67 => ⟨S16x4096x1, .f32⟩
  | 68 => ⟨S16x4096x1, .f32⟩
  | 69 => ⟨S16x4096x1, .f32⟩
  | 70 => ⟨S16x4096x1, .f32⟩
  | 71 => ⟨S16x4096x1, .f32⟩
  | 72 => ⟨S_, .f32⟩
  | 73 => ⟨S16x4096x55, .f32⟩
  | 74 => ⟨S16x4096x128, .f32⟩
  | 75 => ⟨S16x4096x128, .bf16⟩
  | 76 => ⟨S16x4096, .f32⟩
  | 77 => ⟨S16x4096, .f32⟩
  | 78 => ⟨S16x4096, .f32⟩
  | 79 => ⟨S16x4096x1, .f32⟩
  | 80 => ⟨S16x4096x1, .f32⟩
  | 81 => ⟨S16x4096x1, .f32⟩
  | 82 => ⟨S16x4096x1, .f32⟩
  | 83 => ⟨S16x4096x1, .f32⟩
  | 84 => ⟨S16x4096x1, .f32⟩
  | 85 => ⟨S16x4096x1, .f32⟩
  | 86 => ⟨S16x4096x1, .f32⟩
  | 87 => ⟨S16x4096x1, .f32⟩
  | 88 => ⟨S_, .f32⟩
  | 89 => ⟨S16x4096x55, .f32⟩
  | 90 => ⟨S16x4096x128, .f32⟩
  | 91 => ⟨S16x4096x128, .bf16⟩
  | 92 => ⟨S16x4096x1, .f32⟩
  | 93 => ⟨S16x4096x1, .f32⟩
  | 94 => ⟨S16x4096x1, .f32⟩
  | 95 => ⟨S_, .f32⟩
  | 96 => ⟨S16x4096x61, .f32⟩
  | 97 => ⟨S16x4096x128, .f32⟩
  | 98 => ⟨S16x4096x128, .bf16⟩
  | 99 => ⟨S16x4096x1, .f32⟩
  | 100 => ⟨S16x4096x1, .f32⟩
  | 101 => ⟨S16x4096x1, .f32⟩
  | 102 => ⟨S_, .f32⟩
  | 103 => ⟨S16x4096x61, .f32⟩
  | 104 => ⟨S16x4096x128, .f32⟩
  | 105 => ⟨S16x4096x128, .bf16⟩
  | 106 => ⟨S16x8x512x128, .bf16⟩
  | 107 => ⟨S16x8x128x512, .bf16⟩
  | 108 => ⟨S16x8x512x128, .bf16⟩
  | 109 => ⟨S16x8x128x512, .bf16⟩
  | 110 => ⟨S16x8x512x128, .bf16⟩
  | 111 => ⟨S16x8x128x512, .bf16⟩
  | 112 => ⟨S16x8x512x128, .bf16⟩
  | 113 => ⟨S16x8x128x512, .bf16⟩
  | 114 => ⟨S16x4096x128, .f32⟩
  | 115 => ⟨S16x128x4096, .f32⟩
  | 116 => ⟨S1024x4096, .bf16⟩
  | 117 => ⟨S16x4096x64, .f32⟩
  | 118 => ⟨S_, .f32⟩
  | 119 => ⟨S16x4096x64, .f32⟩
  | 120 => ⟨S16x4096x64, .f32⟩
  | 121 => ⟨S16x64x4096, .f32⟩
  | 122 => ⟨S16x4096x64, .f32⟩
  | 123 => ⟨S16x64x4096, .bf16⟩
  | 124 => ⟨S16x4096x64, .bf16⟩
  | 125 => ⟨S16x4096x64, .f32⟩
  | 126 => ⟨S16x4096x1, .f32⟩
  | 127 => ⟨S16x4096, .f32⟩
  | _ => ⟨S16x4096x64, .f32⟩

abbrev hbmTy0_1 (i : Nat) : BufTy := match i % 128 with
  | 0 => ⟨S16x1x4096, .f32⟩
  | 1 => ⟨S16x4096, .f32⟩
  | 2 => ⟨S16x4096, .f32⟩
  | _ => ⟨S16x4096x64, .f32⟩

abbrev hbmTy (i : Nat) : BufTy := match i / 128 with
  | 0 => hbmTy0_0 i
  | 1 => hbmTy0_1 i
  | _ => ⟨S16x4096x64, .f32⟩

abbrev bufTy : (tb : Table) → Fin (tcTables nBuf tb) → BufTy
  | .hbm, ⟨i, _⟩ => hbmTy i
  | .local _ .vmem, ⟨0, _⟩ => ⟨S2x4096x128, .bf16⟩
  | .local _ .vmem, ⟨1, _⟩ => ⟨S2x4096x128, .bf16⟩
  | .local _ .vmem, ⟨2, _⟩ => ⟨S2x4096x128, .bf16⟩
  | .local _ .vmem, ⟨3, _⟩ => ⟨S2x4096x128, .bf16⟩
  | .local _ .vmem, ⟨4, _⟩ => ⟨S2x8x128x512, .bf16⟩
  | .local _ .vmem, ⟨5, _⟩ => ⟨S2x8x128x512, .bf16⟩
  | .local _ .vmem, ⟨6, _⟩ => ⟨S2x8x128x512, .bf16⟩
  | .local _ .vmem, ⟨7, _⟩ => ⟨S2x8x128x512, .bf16⟩
  | .local _ .vmem, ⟨8, _⟩ => ⟨S2x512x128, .bf16⟩
  | .local _ .vmem, ⟨9, _⟩ => ⟨S2x512x128, .bf16⟩
  | .local _ .vmem, ⟨10, _⟩ => ⟨S2x1x128x512, .bf16⟩
  | .local _ .vmem, ⟨11, _⟩ => ⟨S2x1x128x512, .bf16⟩
  | .local _ .vmem, ⟨12, _⟩ => ⟨S2x1x128x512, .bf16⟩
  | .local _ .vmem, ⟨13, _⟩ => ⟨S2x1x128x512, .bf16⟩
  | .local _ .vmem, ⟨14, _⟩ => ⟨S2x4096x128, .f32⟩
  | .local _ .vmem, ⟨15, _⟩ => ⟨S2x4096x128, .f32⟩
  | .local _ .vmem, ⟨16, _⟩ => ⟨S2x128x512, .f32⟩
  | .local _ .vmem, ⟨17, _⟩ => ⟨S2x128x512, .f32⟩
  | .local _ .vmem, ⟨18, _⟩ => ⟨S128x512, .bf16⟩
  | .local _ .vmem, ⟨19, _⟩ => ⟨S128x512, .bf16⟩
  | .local _ .vmem, ⟨20, _⟩ => ⟨S2x128x512, .f32⟩
  | .local _ .vmem, ⟨21, _⟩ => ⟨S2x64x512, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_6 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_7 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_cst_8 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_cst_9 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98_0 : Ref sig .tc := ⟨.hbm, 114, rfl⟩
abbrev main_v98_1 : Ref sig .tc := ⟨.hbm, 115, rfl⟩
abbrev main_v98_2 : Ref sig .tc := ⟨.hbm, 116, rfl⟩
abbrev main_v99 : Ref sig .tc := ⟨.hbm, 117, rfl⟩
abbrev main_cst_10 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let c7_i32 : BitVec 32 := 7#32
  let arg1 : BitVec 32 := BitVec.ofNat 32 (i 1).val
  let v11 : BitVec 32 := Scalar.subi c7_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c1_i32_11 : BitVec 32 := 1#32
  let v22 : BitVec 1 := Scalar.cmpi .eq v21 c1_i32_11
  let v23 : BitVec 32 := Scalar.extui v22
  let c0_i32_12 : BitVec 32 := 0#32
  let v24 : BitVec 1 := Scalar.cmpi .ne v23 c0_i32_12
  v24

def k0_mult1 (i : grid0.Coords) : BitVec 32 :=
  let arg1 : BitVec 32 := BitVec.ofNat 32 (i 1).val
  let c512_i32 : BitVec 32 := 512#32
  let v62 : BitVec 32 := Scalar.muli arg1 c512_i32
  v62
def k0_off1 (i : grid0.Coords) : Fin 3 → Nat :=
  let c0_41 : Index := 0#32
  let arg1 : BitVec 32 := BitVec.ofNat 32 (i 1).val
  let c512_i32 : BitVec 32 := 512#32
  let v62 : BitVec 32 := Scalar.muli arg1 c512_i32
  let v63 : BitVec 32 := v62
  let v64 : Index := Scalar.indexCast v63
  let c0_42 : Index := 0#32
  ![0, v64.toNat, 0]
def k0_off2 (i : grid0.Coords) : Fin 3 → Nat :=
  let c1_48 : Index := 1#32
  let arg1 : BitVec 32 := BitVec.ofNat 32 (i 1).val
  let c512_i32 : BitVec 32 := 512#32
  let v62 : BitVec 32 := Scalar.muli arg1 c512_i32
  let v63 : BitVec 32 := v62
  let v70 : Index := Scalar.indexCast v63
  let c0_49 : Index := 0#32
  ![1, v70.toNat, 0]
def k0_off3 (i : grid0.Coords) (c0_i32_76 : BitVec 32) : Fin 4 → Nat :=
  let c0_77 : Index := 0#32
  let arg1 : BitVec 32 := BitVec.ofNat 32 (i 1).val
  let v112 : BitVec 32 := Scalar.addi arg1 c0_i32_76
  let v113 : Index := Scalar.indexCast v112
  let c0_78 : Index := 0#32
  let c0_79 : Index := 0#32
  ![0, v113.toNat, 0, 0]
def k0_off4 (i : grid0.Coords) (c0_i32_87 : BitVec 32) : Fin 4 → Nat :=
  let c0_88 : Index := 0#32
  let arg1 : BitVec 32 := BitVec.ofNat 32 (i 1).val
  let v124 : BitVec 32 := Scalar.addi arg1 c0_i32_87
  let v125 : Index := Scalar.indexCast v124
  let c0_89 : Index := 0#32
  let c0_90 : Index := 0#32
  ![0, v125.toNat, 0, 0]
def k0_off5 (i : grid0.Coords) (c0_i32_128 : BitVec 32) : Fin 4 → Nat :=
  let c1_129 : Index := 1#32
  let arg1 : BitVec 32 := BitVec.ofNat 32 (i 1).val
  let v171 : BitVec 32 := Scalar.addi arg1 c0_i32_128
  let v172 : Index := Scalar.indexCast v171
  let c0_130 : Index := 0#32
  let c0_131 : Index := 0#32
  ![1, v172.toNat, 0, 0]
def k0_off6 (i : grid0.Coords) (c0_i32_139 : BitVec 32) : Fin 4 → Nat :=
  let c1_140 : Index := 1#32
  let arg1 : BitVec 32 := BitVec.ofNat 32 (i 1).val
  let v183 : BitVec 32 := Scalar.addi arg1 c0_i32_139
  let v184 : Index := Scalar.indexCast v183
  let c0_141 : Index := 0#32
  let c0_142 : Index := 0#32
  ![1, v184.toNat, 0, 0]
def k0_cond3 (i : grid0.Coords) : BitVec 1 :=
  let c7_i32 : BitVec 32 := 7#32
  let arg1 : BitVec 32 := BitVec.ofNat 32 (i 1).val
  let v11 : BitVec 32 := Scalar.subi c7_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_13 : BitVec 32 := 0#32
  let v25 : BitVec 1 := Scalar.cmpi .eq v21 c0_i32_13
  let v26 : BitVec 32 := Scalar.extui v25
  let c0_i32_14 : BitVec 32 := 0#32
  let v27 : BitVec 1 := Scalar.cmpi .ne v26 c0_i32_14
  v27

def k0_mult2 (i : grid0.Coords) : BitVec 32 :=
  let arg1 : BitVec 32 := BitVec.ofNat 32 (i 1).val
  let c512_i32 : BitVec 32 := 512#32
  let v62 : BitVec 32 := Scalar.muli arg1 c512_i32
  v62
def k0_off7 (i : grid0.Coords) : Fin 3 → Nat :=
  let c0_41 : Index := 0#32
  let arg1 : BitVec 32 := BitVec.ofNat 32 (i 1).val
  let c512_i32 : BitVec 32 := 512#32
  let v62 : BitVec 32 := Scalar.muli arg1 c512_i32
  let v63 : BitVec 32 := v62
  let v64 : Index := Scalar.indexCast v63
  let c0_42 : Index := 0#32
  ![0, v64.toNat, 0]
def k0_off8 (i : grid0.Coords) : Fin 3 → Nat :=
  let c1_48 : Index := 1#32
  let arg1 : BitVec 32 := BitVec.ofNat 32 (i 1).val
  let c512_i32 : BitVec 32 := 512#32
  let v62 : BitVec 32 := Scalar.muli arg1 c512_i32
  let v63 : BitVec 32 := v62
  let v70 : Index := Scalar.indexCast v63
  let c0_49 : Index := 0#32
  ![1, v70.toNat, 0]
def k0_off9 (i : grid0.Coords) : Fin 4 → Nat :=
  let c0_77 : Index := 0#32
  let arg1 : BitVec 32 := BitVec.ofNat 32 (i 1).val
  let c0_i32_76 : BitVec 32 := 0#32
  let v112 : BitVec 32 := Scalar.addi arg1 c0_i32_76
  let v113 : Index := Scalar.indexCast v112
  let c0_78 : Index := 0#32
  let c0_79 : Index := 0#32
  ![0, v113.toNat, 0, 0]
def k0_off10 (i : grid0.Coords) : Fin 4 → Nat :=
  let c0_88 : Index := 0#32
  let arg1 : BitVec 32 := BitVec.ofNat 32 (i 1).val
  let c0_i32_87 : BitVec 32 := 0#32
  let v123 : BitVec 32 := Scalar.addi arg1 c0_i32_87
  let v124 : Index := Scalar.indexCast v123
  let c0_89 : Index := 0#32
  let c0_90 : Index := 0#32
  ![0, v124.toNat, 0, 0]
def k0_off11 (i : grid0.Coords) : Fin 4 → Nat :=
  let c1_107 : Index := 1#32
  let arg1 : BitVec 32 := BitVec.ofNat 32 (i 1).val
  let c0_i32_106 : BitVec 32 := 0#32
  let v145 : BitVec 32 := Scalar.addi arg1 c0_i32_106
  let v146 : Index := Scalar.indexCast v145
  let c0_108 : Index := 0#32
  let c0_109 : Index := 0#32
  ![1, v146.toNat, 0, 0]
def k0_off12 (i : grid0.Coords) : Fin 4 → Nat :=
  let c1_118 : Index := 1#32
  let arg1 : BitVec 32 := BitVec.ofNat 32 (i 1).val
  let c0_i32_117 : BitVec 32 := 0#32
  let v156 : BitVec 32 := Scalar.addi arg1 c0_i32_117
  let v157 : Index := Scalar.indexCast v156
  let c0_119 : Index := 0#32
  let c0_120 : Index := 0#32
  ![1, v157.toNat, 0, 0]
@[reducible] def k0_t1_loop (i : grid0.Coords) : Scf.Loop 32 :=
  let c0_i32_22 : BitVec 32 := 0#32
  let c7_i32 : BitVec 32 := 7#32
  let arg1 : BitVec 32 := BitVec.ofNat 32 (i 1).val
  let v11 : BitVec 32 := Scalar.subi c7_i32 arg1
  let c0_i32_16 : BitVec 32 := 0#32
  let v29 : BitVec 1 := Scalar.cmpi .sgt v11 c0_i32_16
  let v30 : BitVec 32 := Scalar.extui v29
  let c0_i32_17 : BitVec 32 := 0#32
  let v31 : BitVec 1 := Scalar.cmpi .slt v11 c0_i32_17
  let v32 : BitVec 32 := Scalar.extui v31
  let v33 : BitVec 32 := Scalar.subi v30 v32
  let c2_i32_15 : BitVec 32 := 2#32
  let c0_i32_18 : BitVec 32 := 0#32
  let v34 : BitVec 1 := Scalar.cmpi .sgt c2_i32_15 c0_i32_18
  let v35 : BitVec 32 := Scalar.extui v34
  let c0_i32_19 : BitVec 32 := 0#32
  let v36 : BitVec 1 := Scalar.cmpi .slt c2_i32_15 c0_i32_19
  let v37 : BitVec 32 := Scalar.extui v36
  let v38 : BitVec 32 := Scalar.subi v35 v37
  let v39 : BitVec 1 := Scalar.cmpi .ne v33 v38
  let v40 : BitVec 32 := Scalar.remsi v11 c2_i32_15
  let c0_i32_20 : BitVec 32 := 0#32
  let v41 : BitVec 1 := Scalar.cmpi .ne v40 c0_i32_20
  let v42 : BitVec 1 := Scalar.andi v39 v41
  let v28 : BitVec 32 := Scalar.divsi v11 c2_i32_15
  let c1_i32_21 : BitVec 32 := 1#32
  let v43 : BitVec 32 := Scalar.subi v28 c1_i32_21
  let v44 : BitVec 32 := Scalar.select v42 v43 v28
  let v45 : BitVec 32 := Scalar.subi v44 c0_i32_22
  let c1_i32_24 : BitVec 32 := 1#32
  let v47 : BitVec 32 := Scalar.divsi v45 c1_i32_24
  let v48 : BitVec 32 := Scalar.muli v47 c1_i32_24
  let v49 : BitVec 32 := Scalar.addi c0_i32_22 v48
  let c1_i32_25 : BitVec 32 := 1#32
  ⟨c0_i32_22, v49, c1_i32_25⟩
def k0_mult3 (i : grid0.Coords) (k0_t1 : Fin (k0_t1_loop i).trips) : BitVec 32 :=
  let arg1 : BitVec 32 := BitVec.ofNat 32 (i 1).val
  let c1_i32_41 : BitVec 32 := 1#32
  let v62 : BitVec 32 := Scalar.addi arg1 c1_i32_41
  let c7_i32 : BitVec 32 := 7#32
  let v11 : BitVec 32 := Scalar.subi c7_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v63 : BitVec 32 := Scalar.addi v62 v21
  let c2_i32_42 : BitVec 32 := 2#32
  let c0_i32_22 : BitVec 32 := 0#32
  let c1_i32_25 : BitVec 32 := 1#32
  let arg14 : BitVec 32 := Scf.iv c0_i32_22 c1_i32_25 k0_t1
  let v64 : BitVec 32 := Scalar.muli c2_i32_42 arg14
  let v65 : BitVec 32 := Scalar.addi v63 v64
  let c512_i32 : BitVec 32 := 512#32
  let v66 : BitVec 32 := Scalar.muli v65 c512_i32
  v66
def k0_off13 (i : grid0.Coords) (k0_t1 : Fin (k0_t1_loop i).trips) : Fin 3 → Nat :=
  let c0_43 : Index := 0#32
  let arg1 : BitVec 32 := BitVec.ofNat 32 (i 1).val
  let c1_i32_41 : BitVec 32 := 1#32
  let v62 : BitVec 32 := Scalar.addi arg1 c1_i32_41
  let c7_i32 : BitVec 32 := 7#32
  let v11 : BitVec 32 := Scalar.subi c7_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v63 : BitVec 32 := Scalar.addi v62 v21
  let c2_i32_42 : BitVec 32 := 2#32
  let c0_i32_22 : BitVec 32 := 0#32
  let c1_i32_25 : BitVec 32 := 1#32
  let arg14 : BitVec 32 := Scf.iv c0_i32_22 c1_i32_25 k0_t1
  let v64 : BitVec 32 := Scalar.muli c2_i32_42 arg14
  let v65 : BitVec 32 := Scalar.addi v63 v64
  let c512_i32 : BitVec 32 := 512#32
  let v66 : BitVec 32 := Scalar.muli v65 c512_i32
  let v67 : BitVec 32 := v66
  let v68 : Index := Scalar.indexCast v67
  let c0_44 : Index := 0#32
  ![0, v68.toNat, 0]
def k0_off14 (i : grid0.Coords) (k0_t1 : Fin (k0_t1_loop i).trips) : Fin 3 → Nat :=
  let c1_50 : Index := 1#32
  let arg1 : BitVec 32 := BitVec.ofNat 32 (i 1).val
  let c1_i32_41 : BitVec 32 := 1#32
  let v62 : BitVec 32 := Scalar.addi arg1 c1_i32_41
  let c7_i32 : BitVec 32 := 7#32
  let v11 : BitVec 32 := Scalar.subi c7_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v63 : BitVec 32 := Scalar.addi v62 v21
  let c2_i32_42 : BitVec 32 := 2#32
  let c0_i32_22 : BitVec 32 := 0#32
  let c1_i32_25 : BitVec 32 := 1#32
  let arg14 : BitVec 32 := Scf.iv c0_i32_22 c1_i32_25 k0_t1
  let v64 : BitVec 32 := Scalar.muli c2_i32_42 arg14
  let v65 : BitVec 32 := Scalar.addi v63 v64
  let c512_i32 : BitVec 32 := 512#32
  let v66 : BitVec 32 := Scalar.muli v65 c512_i32
  let v67 : BitVec 32 := v66
  let v74 : Index := Scalar.indexCast v67
  let c0_51 : Index := 0#32
  ![1, v74.toNat, 0]
def k0_off15 (i : grid0.Coords) (k0_t1 : Fin (k0_t1_loop i).trips) (c0_i32_74 : BitVec 32) : Fin 4 → Nat :=
  let c0_75 : Index := 0#32
  let arg1 : BitVec 32 := BitVec.ofNat 32 (i 1).val
  let c1_i32_41 : BitVec 32 := 1#32
  let v62 : BitVec 32 := Scalar.addi arg1 c1_i32_41
  let c7_i32 : BitVec 32 := 7#32
  let v11 : BitVec 32 := Scalar.subi c7_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v63 : BitVec 32 := Scalar.addi v62 v21
  let c2_i32_42 : BitVec 32 := 2#32
  let c0_i32_22 : BitVec 32 := 0#32
  let c1_i32_25 : BitVec 32 := 1#32
  let arg14 : BitVec 32 := Scf.iv c0_i32_22 c1_i32_25 k0_t1
  let v64 : BitVec 32 := Scalar.muli c2_i32_42 arg14
  let v65 : BitVec 32 := Scalar.addi v63 v64
  let v102 : BitVec 32 := Scalar.addi v65 c0_i32_74
  let v103 : Index := Scalar.indexCast v102
  let c0_76 : Index := 0#32
  let c0_77 : Index := 0#32
  ![0, v103.toNat, 0, 0]
def k0_off16 (i : grid0.Coords) (k0_t1 : Fin (k0_t1_loop i).trips) (c0_i32_85 : BitVec 32) : Fin 4 → Nat :=
  let c0_86 : Index := 0#32
  let arg1 : BitVec 32 := BitVec.ofNat 32 (i 1).val
  let c1_i32_41 : BitVec 32 := 1#32
  let v62 : BitVec 32 := Scalar.addi arg1 c1_i32_41
  let c7_i32 : BitVec 32 := 7#32
  let v11 : BitVec 32 := Scalar.subi c7_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v63 : BitVec 32 := Scalar.addi v62 v21
  let c2_i32_42 : BitVec 32 := 2#32
  let c0_i32_22 : BitVec 32 := 0#32
  let c1_i32_25 : BitVec 32 := 1#32
  let arg14 : BitVec 32 := Scf.iv c0_i32_22 c1_i32_25 k0_t1
  let v64 : BitVec 32 := Scalar.muli c2_i32_42 arg14
  let v65 : BitVec 32 := Scalar.addi v63 v64
  let v114 : BitVec 32 := Scalar.addi v65 c0_i32_85
  let v115 : Index := Scalar.indexCast v114
  let c0_87 : Index := 0#32
  let c0_88 : Index := 0#32
  ![0, v115.toNat, 0, 0]
def k0_off17 (i : grid0.Coords) (k0_t1 : Fin (k0_t1_loop i).trips) (c0_i32_126 : BitVec 32) : Fin 4 → Nat :=
  let c1_127 : Index := 1#32
  let arg1 : BitVec 32 := BitVec.ofNat 32 (i 1).val
  let c1_i32_41 : BitVec 32 := 1#32
  let v62 : BitVec 32 := Scalar.addi arg1 c1_i32_41
  let c7_i32 : BitVec 32 := 7#32
  let v11 : BitVec 32 := Scalar.subi c7_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v63 : BitVec 32 := Scalar.addi v62 v21
  let c2_i32_42 : BitVec 32 := 2#32
  let c0_i32_22 : BitVec 32 := 0#32
  let c1_i32_25 : BitVec 32 := 1#32
  let arg14 : BitVec 32 := Scf.iv c0_i32_22 c1_i32_25 k0_t1
  let v64 : BitVec 32 := Scalar.muli c2_i32_42 arg14
  let v65 : BitVec 32 := Scalar.addi v63 v64
  let v161 : BitVec 32 := Scalar.addi v65 c0_i32_126
  let v162 : Index := Scalar.indexCast v161
  let c0_128 : Index := 0#32
  let c0_129 : Index := 0#32
  ![1, v162.toNat, 0, 0]
def k0_off18 (i : grid0.Coords) (k0_t1 : Fin (k0_t1_loop i).trips) (c0_i32_137 : BitVec 32) : Fin 4 → Nat :=
  let c1_138 : Index := 1#32
  let arg1 : BitVec 32 := BitVec.ofNat 32 (i 1).val
  let c1_i32_41 : BitVec 32 := 1#32
  let v62 : BitVec 32 := Scalar.addi arg1 c1_i32_41
  let c7_i32 : BitVec 32 := 7#32
  let v11 : BitVec 32 := Scalar.subi c7_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v63 : BitVec 32 := Scalar.addi v62 v21
  let c2_i32_42 : BitVec 32 := 2#32
  let c0_i32_22 : BitVec 32 := 0#32
  let c1_i32_25 : BitVec 32 := 1#32
  let arg14 : BitVec 32 := Scf.iv c0_i32_22 c1_i32_25 k0_t1
  let v64 : BitVec 32 := Scalar.muli c2_i32_42 arg14
  let v65 : BitVec 32 := Scalar.addi v63 v64
  let v173 : BitVec 32 := Scalar.addi v65 c0_i32_137
  let v174 : Index := Scalar.indexCast v173
  let c0_139 : Index := 0#32
  let c0_140 : Index := 0#32
  ![1, v174.toNat, 0, 0]
@[reducible] def k0_t2_loop (i : grid0.Coords) : Scf.Loop 32 :=
  let c0_i32_22 : BitVec 32 := 0#32
  let c7_i32 : BitVec 32 := 7#32
  let arg1 : BitVec 32 := BitVec.ofNat 32 (i 1).val
  let v11 : BitVec 32 := Scalar.subi c7_i32 arg1
  let c0_i32_16 : BitVec 32 := 0#32
  let v29 : BitVec 1 := Scalar.cmpi .sgt v11 c0_i32_16
  let v30 : BitVec 32 := Scalar.extui v29
  let c0_i32_17 : BitVec 32 := 0#32
  let v31 : BitVec 1 := Scalar.cmpi .slt v11 c0_i32_17
  let v32 : BitVec 32 := Scalar.extui v31
  let v33 : BitVec 32 := Scalar.subi v30 v32
  let c2_i32_15 : BitVec 32 := 2#32
  let c0_i32_18 : BitVec 32 := 0#32
  let v34 : BitVec 1 := Scalar.cmpi .sgt c2_i32_15 c0_i32_18
  let v35 : BitVec 32 := Scalar.extui v34
  let c0_i32_19 : BitVec 32 := 0#32
  let v36 : BitVec 1 := Scalar.cmpi .slt c2_i32_15 c0_i32_19
  let v37 : BitVec 32 := Scalar.extui v36
  let v38 : BitVec 32 := Scalar.subi v35 v37
  let v39 : BitVec 1 := Scalar.cmpi .ne v33 v38
  let v40 : BitVec 32 := Scalar.remsi v11 c2_i32_15
  let c0_i32_20 : BitVec 32 := 0#32
  let v41 : BitVec 1 := Scalar.cmpi .ne v40 c0_i32_20
  let v42 : BitVec 1 := Scalar.andi v39 v41
  let v28 : BitVec 32 := Scalar.divsi v11 c2_i32_15
  let c1_i32_21 : BitVec 32 := 1#32
  let v43 : BitVec 32 := Scalar.subi v28 c1_i32_21
  let v44 : BitVec 32 := Scalar.select v42 v43 v28
  let v45 : BitVec 32 := Scalar.subi v44 c0_i32_22
  let c1_i32_24 : BitVec 32 := 1#32
  let v47 : BitVec 32 := Scalar.divsi v45 c1_i32_24
  let v48 : BitVec 32 := Scalar.muli v47 c1_i32_24
  let v49 : BitVec 32 := Scalar.addi c0_i32_22 v48
  let v46 : BitVec 32 := Scalar.addi c0_i32_22 v45
  let c1_i32_26 : BitVec 32 := 1#32
  ⟨v49, v46, c1_i32_26⟩
def k0_mult4 (i : grid0.Coords) (k0_t2 : Fin (k0_t2_loop i).trips) : BitVec 32 :=
  let arg1 : BitVec 32 := BitVec.ofNat 32 (i 1).val
  let c1_i32_41 : BitVec 32 := 1#32
  let v62 : BitVec 32 := Scalar.addi arg1 c1_i32_41
  let c7_i32 : BitVec 32 := 7#32
  let v11 : BitVec 32 := Scalar.subi c7_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v63 : BitVec 32 := Scalar.addi v62 v21
  let c2_i32_42 : BitVec 32 := 2#32
  let c0_i32_22 : BitVec 32 := 0#32
  let c0_i32_16 : BitVec 32 := 0#32
  let v29 : BitVec 1 := Scalar.cmpi .sgt v11 c0_i32_16
  let v30 : BitVec 32 := Scalar.extui v29
  let c0_i32_17 : BitVec 32 := 0#32
  let v31 : BitVec 1 := Scalar.cmpi .slt v11 c0_i32_17
  let v32 : BitVec 32 := Scalar.extui v31
  let v33 : BitVec 32 := Scalar.subi v30 v32
  let c2_i32_15 : BitVec 32 := 2#32
  let c0_i32_18 : BitVec 32 := 0#32
  let v34 : BitVec 1 := Scalar.cmpi .sgt c2_i32_15 c0_i32_18
  let v35 : BitVec 32 := Scalar.extui v34
  let c0_i32_19 : BitVec 32 := 0#32
  let v36 : BitVec 1 := Scalar.cmpi .slt c2_i32_15 c0_i32_19
  let v37 : BitVec 32 := Scalar.extui v36
  let v38 : BitVec 32 := Scalar.subi v35 v37
  let v39 : BitVec 1 := Scalar.cmpi .ne v33 v38
  let v40 : BitVec 32 := Scalar.remsi v11 c2_i32_15
  let c0_i32_20 : BitVec 32 := 0#32
  let v41 : BitVec 1 := Scalar.cmpi .ne v40 c0_i32_20
  let v42 : BitVec 1 := Scalar.andi v39 v41
  let v28 : BitVec 32 := Scalar.divsi v11 c2_i32_15
  let c1_i32_21 : BitVec 32 := 1#32
  let v43 : BitVec 32 := Scalar.subi v28 c1_i32_21
  let v44 : BitVec 32 := Scalar.select v42 v43 v28
  let v45 : BitVec 32 := Scalar.subi v44 c0_i32_22
  let c1_i32_24 : BitVec 32 := 1#32
  let v47 : BitVec 32 := Scalar.divsi v45 c1_i32_24
  let v48 : BitVec 32 := Scalar.muli v47 c1_i32_24
  let v49 : BitVec 32 := Scalar.addi c0_i32_22 v48
  let c1_i32_26 : BitVec 32 := 1#32
  let arg14 : BitVec 32 := Scf.iv v49 c1_i32_26 k0_t2
  let v64 : BitVec 32 := Scalar.muli c2_i32_42 arg14
  let v65 : BitVec 32 := Scalar.addi v63 v64
  let c512_i32 : BitVec 32 := 512#32
  let v66 : BitVec 32 := Scalar.muli v65 c512_i32
  v66
def k0_off19 (i : grid0.Coords) (k0_t2 : Fin (k0_t2_loop i).trips) : Fin 3 → Nat :=
  let c0_43 : Index := 0#32
  let arg1 : BitVec 32 := BitVec.ofNat 32 (i 1).val
  let c1_i32_41 : BitVec 32 := 1#32
  let v62 : BitVec 32 := Scalar.addi arg1 c1_i32_41
  let c7_i32 : BitVec 32 := 7#32
  let v11 : BitVec 32 := Scalar.subi c7_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v63 : BitVec 32 := Scalar.addi v62 v21
  let c2_i32_42 : BitVec 32 := 2#32
  let c0_i32_22 : BitVec 32 := 0#32
  let c0_i32_16 : BitVec 32 := 0#32
  let v29 : BitVec 1 := Scalar.cmpi .sgt v11 c0_i32_16
  let v30 : BitVec 32 := Scalar.extui v29
  let c0_i32_17 : BitVec 32 := 0#32
  let v31 : BitVec 1 := Scalar.cmpi .slt v11 c0_i32_17
  let v32 : BitVec 32 := Scalar.extui v31
  let v33 : BitVec 32 := Scalar.subi v30 v32
  let c2_i32_15 : BitVec 32 := 2#32
  let c0_i32_18 : BitVec 32 := 0#32
  let v34 : BitVec 1 := Scalar.cmpi .sgt c2_i32_15 c0_i32_18
  let v35 : BitVec 32 := Scalar.extui v34
  let c0_i32_19 : BitVec 32 := 0#32
  let v36 : BitVec 1 := Scalar.cmpi .slt c2_i32_15 c0_i32_19
  let v37 : BitVec 32 := Scalar.extui v36
  let v38 : BitVec 32 := Scalar.subi v35 v37
  let v39 : BitVec 1 := Scalar.cmpi .ne v33 v38
  let v40 : BitVec 32 := Scalar.remsi v11 c2_i32_15
  let c0_i32_20 : BitVec 32 := 0#32
  let v41 : BitVec 1 := Scalar.cmpi .ne v40 c0_i32_20
  let v42 : BitVec 1 := Scalar.andi v39 v41
  let v28 : BitVec 32 := Scalar.divsi v11 c2_i32_15
  let c1_i32_21 : BitVec 32 := 1#32
  let v43 : BitVec 32 := Scalar.subi v28 c1_i32_21
  let v44 : BitVec 32 := Scalar.select v42 v43 v28
  let v45 : BitVec 32 := Scalar.subi v44 c0_i32_22
  let c1_i32_24 : BitVec 32 := 1#32
  let v47 : BitVec 32 := Scalar.divsi v45 c1_i32_24
  let v48 : BitVec 32 := Scalar.muli v47 c1_i32_24
  let v49 : BitVec 32 := Scalar.addi c0_i32_22 v48
  let c1_i32_26 : BitVec 32 := 1#32
  let arg14 : BitVec 32 := Scf.iv v49 c1_i32_26 k0_t2
  let v64 : BitVec 32 := Scalar.muli c2_i32_42 arg14
  let v65 : BitVec 32 := Scalar.addi v63 v64
  let c512_i32 : BitVec 32 := 512#32
  let v66 : BitVec 32 := Scalar.muli v65 c512_i32
  let v67 : BitVec 32 := v66
  let v68 : Index := Scalar.indexCast v67
  let c0_44 : Index := 0#32
  ![0, v68.toNat, 0]
def k0_off20 (i : grid0.Coords) (k0_t2 : Fin (k0_t2_loop i).trips) : Fin 3 → Nat :=
  let c1_50 : Index := 1#32
  let arg1 : BitVec 32 := BitVec.ofNat 32 (i 1).val
  let c1_i32_41 : BitVec 32 := 1#32
  let v62 : BitVec 32 := Scalar.addi arg1 c1_i32_41
  let c7_i32 : BitVec 32 := 7#32
  let v11 : BitVec 32 := Scalar.subi c7_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v63 : BitVec 32 := Scalar.addi v62 v21
  let c2_i32_42 : BitVec 32 := 2#32
  let c0_i32_22 : BitVec 32 := 0#32
  let c0_i32_16 : BitVec 32 := 0#32
  let v29 : BitVec 1 := Scalar.cmpi .sgt v11 c0_i32_16
  let v30 : BitVec 32 := Scalar.extui v29
  let c0_i32_17 : BitVec 32 := 0#32
  let v31 : BitVec 1 := Scalar.cmpi .slt v11 c0_i32_17
  let v32 : BitVec 32 := Scalar.extui v31
  let v33 : BitVec 32 := Scalar.subi v30 v32
  let c2_i32_15 : BitVec 32 := 2#32
  let c0_i32_18 : BitVec 32 := 0#32
  let v34 : BitVec 1 := Scalar.cmpi .sgt c2_i32_15 c0_i32_18
  let v35 : BitVec 32 := Scalar.extui v34
  let c0_i32_19 : BitVec 32 := 0#32
  let v36 : BitVec 1 := Scalar.cmpi .slt c2_i32_15 c0_i32_19
  let v37 : BitVec 32 := Scalar.extui v36
  let v38 : BitVec 32 := Scalar.subi v35 v37
  let v39 : BitVec 1 := Scalar.cmpi .ne v33 v38
  let v40 : BitVec 32 := Scalar.remsi v11 c2_i32_15
  let c0_i32_20 : BitVec 32 := 0#32
  let v41 : BitVec 1 := Scalar.cmpi .ne v40 c0_i32_20
  let v42 : BitVec 1 := Scalar.andi v39 v41
  let v28 : BitVec 32 := Scalar.divsi v11 c2_i32_15
  let c1_i32_21 : BitVec 32 := 1#32
  let v43 : BitVec 32 := Scalar.subi v28 c1_i32_21
  let v44 : BitVec 32 := Scalar.select v42 v43 v28
  let v45 : BitVec 32 := Scalar.subi v44 c0_i32_22
  let c1_i32_24 : BitVec 32 := 1#32
  let v47 : BitVec 32 := Scalar.divsi v45 c1_i32_24
  let v48 : BitVec 32 := Scalar.muli v47 c1_i32_24
  let v49 : BitVec 32 := Scalar.addi c0_i32_22 v48
  let c1_i32_26 : BitVec 32 := 1#32
  let arg14 : BitVec 32 := Scf.iv v49 c1_i32_26 k0_t2
  let v64 : BitVec 32 := Scalar.muli c2_i32_42 arg14
  let v65 : BitVec 32 := Scalar.addi v63 v64
  let c512_i32 : BitVec 32 := 512#32
  let v66 : BitVec 32 := Scalar.muli v65 c512_i32
  let v67 : BitVec 32 := v66
  let v74 : Index := Scalar.indexCast v67
  let c0_51 : Index := 0#32
  ![1, v74.toNat, 0]
def k0_off21 (i : grid0.Coords) (k0_t2 : Fin (k0_t2_loop i).trips) (c0_i32_74 : BitVec 32) : Fin 4 → Nat :=
  let c0_75 : Index := 0#32
  let arg1 : BitVec 32 := BitVec.ofNat 32 (i 1).val
  let c1_i32_41 : BitVec 32 := 1#32
  let v62 : BitVec 32 := Scalar.addi arg1 c1_i32_41
  let c7_i32 : BitVec 32 := 7#32
  let v11 : BitVec 32 := Scalar.subi c7_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v63 : BitVec 32 := Scalar.addi v62 v21
  let c2_i32_42 : BitVec 32 := 2#32
  let c0_i32_22 : BitVec 32 := 0#32
  let c0_i32_16 : BitVec 32 := 0#32
  let v29 : BitVec 1 := Scalar.cmpi .sgt v11 c0_i32_16
  let v30 : BitVec 32 := Scalar.extui v29
  let c0_i32_17 : BitVec 32 := 0#32
  let v31 : BitVec 1 := Scalar.cmpi .slt v11 c0_i32_17
  let v32 : BitVec 32 := Scalar.extui v31
  let v33 : BitVec 32 := Scalar.subi v30 v32
  let c2_i32_15 : BitVec 32 := 2#32
  let c0_i32_18 : BitVec 32 := 0#32
  let v34 : BitVec 1 := Scalar.cmpi .sgt c2_i32_15 c0_i32_18
  let v35 : BitVec 32 := Scalar.extui v34
  let c0_i32_19 : BitVec 32 := 0#32
  let v36 : BitVec 1 := Scalar.cmpi .slt c2_i32_15 c0_i32_19
  let v37 : BitVec 32 := Scalar.extui v36
  let v38 : BitVec 32 := Scalar.subi v35 v37
  let v39 : BitVec 1 := Scalar.cmpi .ne v33 v38
  let v40 : BitVec 32 := Scalar.remsi v11 c2_i32_15
  let c0_i32_20 : BitVec 32 := 0#32
  let v41 : BitVec 1 := Scalar.cmpi .ne v40 c0_i32_20
  let v42 : BitVec 1 := Scalar.andi v39 v41
  let v28 : BitVec 32 := Scalar.divsi v11 c2_i32_15
  let c1_i32_21 : BitVec 32 := 1#32
  let v43 : BitVec 32 := Scalar.subi v28 c1_i32_21
  let v44 : BitVec 32 := Scalar.select v42 v43 v28
  let v45 : BitVec 32 := Scalar.subi v44 c0_i32_22
  let c1_i32_24 : BitVec 32 := 1#32
  let v47 : BitVec 32 := Scalar.divsi v45 c1_i32_24
  let v48 : BitVec 32 := Scalar.muli v47 c1_i32_24
  let v49 : BitVec 32 := Scalar.addi c0_i32_22 v48
  let c1_i32_26 : BitVec 32 := 1#32
  let arg14 : BitVec 32 := Scf.iv v49 c1_i32_26 k0_t2
  let v64 : BitVec 32 := Scalar.muli c2_i32_42 arg14
  let v65 : BitVec 32 := Scalar.addi v63 v64
  let v102 : BitVec 32 := Scalar.addi v65 c0_i32_74
  let v103 : Index := Scalar.indexCast v102
  let c0_76 : Index := 0#32
  let c0_77 : Index := 0#32
  ![0, v103.toNat, 0, 0]
def k0_off22 (i : grid0.Coords) (k0_t2 : Fin (k0_t2_loop i).trips) (c0_i32_85 : BitVec 32) : Fin 4 → Nat :=
  let c0_86 : Index := 0#32
  let arg1 : BitVec 32 := BitVec.ofNat 32 (i 1).val
  let c1_i32_41 : BitVec 32 := 1#32
  let v62 : BitVec 32 := Scalar.addi arg1 c1_i32_41
  let c7_i32 : BitVec 32 := 7#32
  let v11 : BitVec 32 := Scalar.subi c7_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v63 : BitVec 32 := Scalar.addi v62 v21
  let c2_i32_42 : BitVec 32 := 2#32
  let c0_i32_22 : BitVec 32 := 0#32
  let c0_i32_16 : BitVec 32 := 0#32
  let v29 : BitVec 1 := Scalar.cmpi .sgt v11 c0_i32_16
  let v30 : BitVec 32 := Scalar.extui v29
  let c0_i32_17 : BitVec 32 := 0#32
  let v31 : BitVec 1 := Scalar.cmpi .slt v11 c0_i32_17
  let v32 : BitVec 32 := Scalar.extui v31
  let v33 : BitVec 32 := Scalar.subi v30 v32
  let c2_i32_15 : BitVec 32 := 2#32
  let c0_i32_18 : BitVec 32 := 0#32
  let v34 : BitVec 1 := Scalar.cmpi .sgt c2_i32_15 c0_i32_18
  let v35 : BitVec 32 := Scalar.extui v34
  let c0_i32_19 : BitVec 32 := 0#32
  let v36 : BitVec 1 := Scalar.cmpi .slt c2_i32_15 c0_i32_19
  let v37 : BitVec 32 := Scalar.extui v36
  let v38 : BitVec 32 := Scalar.subi v35 v37
  let v39 : BitVec 1 := Scalar.cmpi .ne v33 v38
  let v40 : BitVec 32 := Scalar.remsi v11 c2_i32_15
  let c0_i32_20 : BitVec 32 := 0#32
  let v41 : BitVec 1 := Scalar.cmpi .ne v40 c0_i32_20
  let v42 : BitVec 1 := Scalar.andi v39 v41
  let v28 : BitVec 32 := Scalar.divsi v11 c2_i32_15
  let c1_i32_21 : BitVec 32 := 1#32
  let v43 : BitVec 32 := Scalar.subi v28 c1_i32_21
  let v44 : BitVec 32 := Scalar.select v42 v43 v28
  let v45 : BitVec 32 := Scalar.subi v44 c0_i32_22
  let c1_i32_24 : BitVec 32 := 1#32
  let v47 : BitVec 32 := Scalar.divsi v45 c1_i32_24
  let v48 : BitVec 32 := Scalar.muli v47 c1_i32_24
  let v49 : BitVec 32 := Scalar.addi c0_i32_22 v48
  let c1_i32_26 : BitVec 32 := 1#32
  let arg14 : BitVec 32 := Scf.iv v49 c1_i32_26 k0_t2
  let v64 : BitVec 32 := Scalar.muli c2_i32_42 arg14
  let v65 : BitVec 32 := Scalar.addi v63 v64
  let v114 : BitVec 32 := Scalar.addi v65 c0_i32_85
  let v115 : Index := Scalar.indexCast v114
  let c0_87 : Index := 0#32
  let c0_88 : Index := 0#32
  ![0, v115.toNat, 0, 0]
def k0_off23 (i : grid0.Coords) (k0_t2 : Fin (k0_t2_loop i).trips) (c0_i32_126 : BitVec 32) : Fin 4 → Nat :=
  let c1_127 : Index := 1#32
  let arg1 : BitVec 32 := BitVec.ofNat 32 (i 1).val
  let c1_i32_41 : BitVec 32 := 1#32
  let v62 : BitVec 32 := Scalar.addi arg1 c1_i32_41
  let c7_i32 : BitVec 32 := 7#32
  let v11 : BitVec 32 := Scalar.subi c7_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v63 : BitVec 32 := Scalar.addi v62 v21
  let c2_i32_42 : BitVec 32 := 2#32
  let c0_i32_22 : BitVec 32 := 0#32
  let c0_i32_16 : BitVec 32 := 0#32
  let v29 : BitVec 1 := Scalar.cmpi .sgt v11 c0_i32_16
  let v30 : BitVec 32 := Scalar.extui v29
  let c0_i32_17 : BitVec 32 := 0#32
  let v31 : BitVec 1 := Scalar.cmpi .slt v11 c0_i32_17
  let v32 : BitVec 32 := Scalar.extui v31
  let v33 : BitVec 32 := Scalar.subi v30 v32
  let c2_i32_15 : BitVec 32 := 2#32
  let c0_i32_18 : BitVec 32 := 0#32
  let v34 : BitVec 1 := Scalar.cmpi .sgt c2_i32_15 c0_i32_18
  let v35 : BitVec 32 := Scalar.extui v34
  let c0_i32_19 : BitVec 32 := 0#32
  let v36 : BitVec 1 := Scalar.cmpi .slt c2_i32_15 c0_i32_19
  let v37 : BitVec 32 := Scalar.extui v36
  let v38 : BitVec 32 := Scalar.subi v35 v37
  let v39 : BitVec 1 := Scalar.cmpi .ne v33 v38
  let v40 : BitVec 32 := Scalar.remsi v11 c2_i32_15
  let c0_i32_20 : BitVec 32 := 0#32
  let v41 : BitVec 1 := Scalar.cmpi .ne v40 c0_i32_20
  let v42 : BitVec 1 := Scalar.andi v39 v41
  let v28 : BitVec 32 := Scalar.divsi v11 c2_i32_15
  let c1_i32_21 : BitVec 32 := 1#32
  let v43 : BitVec 32 := Scalar.subi v28 c1_i32_21
  let v44 : BitVec 32 := Scalar.select v42 v43 v28
  let v45 : BitVec 32 := Scalar.subi v44 c0_i32_22
  let c1_i32_24 : BitVec 32 := 1#32
  let v47 : BitVec 32 := Scalar.divsi v45 c1_i32_24
  let v48 : BitVec 32 := Scalar.muli v47 c1_i32_24
  let v49 : BitVec 32 := Scalar.addi c0_i32_22 v48
  let c1_i32_26 : BitVec 32 := 1#32
  let arg14 : BitVec 32 := Scf.iv v49 c1_i32_26 k0_t2
  let v64 : BitVec 32 := Scalar.muli c2_i32_42 arg14
  let v65 : BitVec 32 := Scalar.addi v63 v64
  let v161 : BitVec 32 := Scalar.addi v65 c0_i32_126
  let v162 : Index := Scalar.indexCast v161
  let c0_128 : Index := 0#32
  let c0_129 : Index := 0#32
  ![1, v162.toNat, 0, 0]
def k0_off24 (i : grid0.Coords) (k0_t2 : Fin (k0_t2_loop i).trips) (c0_i32_137 : BitVec 32) : Fin 4 → Nat :=
  let c1_138 : Index := 1#32
  let arg1 : BitVec 32 := BitVec.ofNat 32 (i 1).val
  let c1_i32_41 : BitVec 32 := 1#32
  let v62 : BitVec 32 := Scalar.addi arg1 c1_i32_41
  let c7_i32 : BitVec 32 := 7#32
  let v11 : BitVec 32 := Scalar.subi c7_i32 arg1
  let c2_i32 : BitVec 32 := 2#32
  let c0_i32_7 : BitVec 32 := 0#32
  let v12 : BitVec 1 := Scalar.cmpi .eq c2_i32 c0_i32_7
  let c1_i32 : BitVec 32 := 1#32
  let v13 : BitVec 32 := Scalar.select v12 c1_i32 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v63 : BitVec 32 := Scalar.addi v62 v21
  let c2_i32_42 : BitVec 32 := 2#32
  let c0_i32_22 : BitVec 32 := 0#32
  let c0_i32_16 : BitVec 32 := 0#32
  let v29 : BitVec 1 := Scalar.cmpi .sgt v11 c0_i32_16
  let v30 : BitVec 32 := Scalar.extui v29
  let c0_i32_17 : BitVec 32 := 0#32
  let v31 : BitVec 1 := Scalar.cmpi .slt v11 c0_i32_17
  let v32 : BitVec 32 := Scalar.extui v31
  let v33 : BitVec 32 := Scalar.subi v30 v32
  let c2_i32_15 : BitVec 32 := 2#32
  let c0_i32_18 : BitVec 32 := 0#32
  let v34 : BitVec 1 := Scalar.cmpi .sgt c2_i32_15 c0_i32_18
  let v35 : BitVec 32 := Scalar.extui v34
  let c0_i32_19 : BitVec 32 := 0#32
  let v36 : BitVec 1 := Scalar.cmpi .slt c2_i32_15 c0_i32_19
  let v37 : BitVec 32 := Scalar.extui v36
  let v38 : BitVec 32 := Scalar.subi v35 v37
  let v39 : BitVec 1 := Scalar.cmpi .ne v33 v38
  let v40 : BitVec 32 := Scalar.remsi v11 c2_i32_15
  let c0_i32_20 : BitVec 32 := 0#32
  let v41 : BitVec 1 := Scalar.cmpi .ne v40 c0_i32_20
  let v42 : BitVec 1 := Scalar.andi v39 v41
  let v28 : BitVec 32 := Scalar.divsi v11 c2_i32_15
  let c1_i32_21 : BitVec 32 := 1#32
  let v43 : BitVec 32 := Scalar.subi v28 c1_i32_21
  let v44 : BitVec 32 := Scalar.select v42 v43 v28
  let v45 : BitVec 32 := Scalar.subi v44 c0_i32_22
  let c1_i32_24 : BitVec 32 := 1#32
  let v47 : BitVec 32 := Scalar.divsi v45 c1_i32_24
  let v48 : BitVec 32 := Scalar.muli v47 c1_i32_24
  let v49 : BitVec 32 := Scalar.addi c0_i32_22 v48
  let c1_i32_26 : BitVec 32 := 1#32
  let arg14 : BitVec 32 := Scf.iv v49 c1_i32_26 k0_t2
  let v64 : BitVec 32 := Scalar.muli c2_i32_42 arg14
  let v65 : BitVec 32 := Scalar.addi v63 v64
  let v173 : BitVec 32 := Scalar.addi v65 c0_i32_137
  let v174 : Index := Scalar.indexCast v173
  let c0_139 : Index := 0#32
  let c0_140 : Index := 0#32
  ![1, v174.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x4096x64 : Shape := ⟨3, ![16, 4096, 64]⟩
abbrev S16x4096 : Shape := ⟨2, ![16, 4096]⟩
abbrev S4096 : Shape := ⟨1, ![4096]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩

abbrev nBuf : Space → Nat
  | .hbm => 104
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S16x4096, .f32⟩
  | .hbm, ⟨4, _⟩ => ⟨S16x4096x64, .f32⟩
  | .hbm, ⟨5, _⟩ => ⟨S4096, .i32⟩
  | .hbm, ⟨6, _⟩ => ⟨S16x4096x4096, .f32⟩
  | .hbm, ⟨7, _⟩ => ⟨S_, .f32⟩
  | .hbm, ⟨8, _⟩ => ⟨S16x4096x4096, .f32⟩
  | .hbm, ⟨9, _⟩ => ⟨S16x4096x4096, .f32⟩
  | .hbm, ⟨10, _⟩ => ⟨S16x4096x1, .f32⟩
  | .hbm, ⟨11, _⟩ => ⟨S16x4096x4096, .f32⟩
  | .hbm, ⟨12, _⟩ => ⟨S16x4096x4096, .f32⟩
  | .hbm, ⟨13, _⟩ => ⟨S16x1x4096, .f32⟩
  | .hbm, ⟨14, _⟩ => ⟨S16x4096x4096, .f32⟩
  | .hbm, ⟨15, _⟩ => ⟨S16x4096x4096, .f32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S16x4096x4096, .i1⟩
  | .hbm, ⟨24, _⟩ => ⟨S16x4096x4096, .f32⟩
  | .hbm, ⟨25, _⟩ => ⟨S16x4096x4096, .f32⟩
  | .hbm, ⟨26, _⟩ => ⟨S_, .f32⟩
  | .hbm, ⟨27, _⟩ => ⟨S16x4096x4096, .f32⟩
  | .hbm, ⟨28, _⟩ => ⟨S_, .f32⟩
  | .hbm, ⟨29, _⟩ => ⟨S16x4096, .f32⟩
  | .hbm, ⟨30, _⟩ => ⟨S16x4096x1, .f32⟩
  | .hbm, ⟨31, _⟩ => ⟨S16x4096x4096, .f32⟩
  | .hbm, ⟨32, _⟩ => ⟨S16x4096x4096, .i1⟩
  | .hbm, ⟨33, _⟩ => ⟨S16x4096x4096, .f32⟩
  | .hbm, ⟨34, _⟩ => ⟨S_, .f32⟩
  | .hbm, ⟨35, _⟩ => ⟨S16x4096, .f32⟩
  | .hbm, ⟨36, _⟩ => ⟨S_, .f32⟩
  | .hbm, ⟨37, _⟩ => ⟨S16x4096, .f32⟩
  | .hbm, ⟨38, _⟩ => ⟨S16x4096, .f32⟩
  | .hbm, ⟨39, _⟩ => ⟨S_, .f32⟩
  | .hbm, ⟨40, _⟩ => ⟨S16x4096, .f32⟩
  | .hbm, ⟨41, _⟩ => ⟨S16x4096, .i1⟩
  | .hbm, ⟨42, _⟩ => ⟨S_, .f32⟩
  | .hbm, ⟨43, _⟩ => ⟨S16x4096, .f32⟩
  | .hbm, ⟨44, _⟩ => ⟨S16x4096, .i1⟩
  | .hbm, ⟨45, _⟩ => ⟨S_, .f32⟩
  | .hbm, ⟨46, _⟩ => ⟨S16x4096, .f32⟩
  | .hbm, ⟨47, _⟩ => ⟨S_, .f32⟩
  | .hbm, ⟨48, _⟩ => ⟨S16x4096, .f32⟩
  | .hbm, ⟨49, _⟩ => ⟨S_, .f32⟩
  | .hbm, ⟨50, _⟩ => ⟨S16x4096, .f32⟩
  | .hbm, ⟨51, _⟩ => ⟨S16x4096, .f32⟩
  | .hbm, ⟨52, _⟩ => ⟨S16x4096, .f32⟩
  | .hbm, ⟨53, _⟩ => ⟨S16x4096x1, .f32⟩
  | .hbm, ⟨54, _⟩ => ⟨S16x4096x4096, .f32⟩
  | .hbm, ⟨55, _⟩ => ⟨S16x4096x4096, .f32⟩
  | .hbm, ⟨56, _⟩ => ⟨S16x4096x4096, .f32⟩
  | .hbm, ⟨57, _⟩ => ⟨S_, .f32⟩
  | .hbm, ⟨58, _⟩ => ⟨S16x4096, .f32⟩
  | .hbm, ⟨59, _⟩ => ⟨S16x4096x1, .f32⟩
  | .hbm, ⟨60, _⟩ => ⟨S16x4096x4096, .f32⟩
  | .hbm, ⟨61, _⟩ => ⟨S16x4096x4096, .f32⟩
  | .hbm, ⟨62, _⟩ => ⟨S16x4096x1, .f32⟩
  | .hbm, ⟨63, _⟩ => ⟨S_, .f32⟩
  | .hbm, ⟨64, _⟩ => ⟨S16x4096x1, .f32⟩
  | .hbm, ⟨65, _⟩ => ⟨S16x4096x1, .f32⟩
  | .hbm, ⟨66, _⟩ => ⟨S16x4096x64, .f32⟩
  | .hbm, ⟨67, _⟩ => ⟨S16x64x4096, .f32⟩
  | .hbm, ⟨68, _⟩ => ⟨S16x4096x64, .f32⟩
  | .hbm, ⟨69, _⟩ => ⟨S16x4096x4096, .f32⟩
  | .hbm, ⟨70, _⟩ => ⟨S16x4096x4096, .f32⟩
  | .hbm, ⟨71, _⟩ => ⟨S16x4096x4096, .f32⟩
  | .hbm, ⟨72, _⟩ => ⟨S16x4096x4096, .f32⟩
  | .hbm, ⟨73, _⟩ => ⟨S_, .f32⟩
  | .hbm, ⟨74, _⟩ => ⟨S16x4096, .f32⟩
  | .hbm, ⟨75, _⟩ => ⟨S16x4096x1, .f32⟩
  | .hbm, ⟨76, _⟩ => ⟨S16x4096x1, .f32⟩
  | .hbm, ⟨77, _⟩ => ⟨S16x4096x4096, .f32⟩
  | .hbm, ⟨78, _⟩ => ⟨S16x4096x4096, .f32⟩
  | .hbm, ⟨79, _⟩ => ⟨S_, .f32⟩
  | .hbm, ⟨80, _⟩ => ⟨S16x4096, .f32⟩
  | .hbm, ⟨81, _⟩ => ⟨S16x4096x4096, .f32⟩
  | .hbm, ⟨82, _⟩ => ⟨S16x4096x4096, .f32⟩
  | .hbm, ⟨83, _⟩ => ⟨S16x4096x4096, .f32⟩
  | .hbm, ⟨84, _⟩ => ⟨S_, .f32⟩
  | .hbm, ⟨85, _⟩ => ⟨S16x4096x4096, .f32⟩
  | .hbm, ⟨86, _⟩ => ⟨S16x4096x4096, .f32⟩
  | .hbm, ⟨87, _⟩ => ⟨S16x4096x4096, .f32⟩
  | .hbm, ⟨88, _⟩ => ⟨S_, .f32⟩
  | .hbm, ⟨89, _⟩ => ⟨S16x4096, .f32⟩
  | .hbm, ⟨90, _⟩ => ⟨S16x1x4096, .f32⟩
  | .hbm, ⟨91, _⟩ => ⟨S_, .f32⟩
  | .hbm, ⟨92, _⟩ => ⟨S16x4096, .f32⟩
  | .hbm, ⟨93, _⟩ => ⟨S_, .f32⟩
  | .hbm, ⟨94, _⟩ => ⟨S16x4096, .f32⟩
  | .hbm, ⟨95, _⟩ => ⟨S16x4096x1, .f32⟩
  | .hbm, ⟨96, _⟩ => ⟨S_, .f32⟩
  | .hbm, ⟨97, _⟩ => ⟨S16x4096, .f32⟩
  | .hbm, ⟨98, _⟩ => ⟨S16x4096, .f32⟩
  | .hbm, ⟨99, _⟩ => ⟨S_, .f32⟩
  | .hbm, ⟨100, _⟩ => ⟨S16x4096x4096, .f32⟩
  | .hbm, ⟨101, _⟩ => ⟨S16x4096x4096, .f32⟩
  | .hbm, ⟨102, _⟩ => ⟨S16x4096x64, .f32⟩
  | .hbm, ⟨103, _⟩ => ⟨S16x4096x64, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_cst_16 : Ref sig .tc := ⟨.hbm, 96, rfl⟩
abbrev main_v67 : Ref sig .tc := ⟨.hbm, 97, rfl⟩
abbrev main_v68 : Ref sig .tc := ⟨.hbm, 98, rfl⟩
abbrev main_cst_17 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S_ : Shape := ⟨0, ![]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x1024, .bf16⟩
  | .hbm, ⟨9, _⟩ => ⟨S4096x1024, .bf16⟩
  | .hbm, ⟨10, _⟩ => ⟨S4x1024x1024, .bf16⟩
  | .hbm, ⟨11, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S_ : Shape := ⟨0, ![]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4x1024x1024, .f32⟩
  | .hbm, ⟨12, _⟩ => ⟨S4x1024x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x4096, .bf16⟩
  | .hbm, ⟨6, _⟩ => ⟨S1024x4096, .bf16⟩
  | .hbm, ⟨7, _⟩ => ⟨S1024x4x1024, .bf16⟩
  | .hbm, ⟨8, _⟩ => ⟨S4x1024x1024, .bf16⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v50 : BitVec 32 := Scalar.extui v0
  let c0_i32_29 : BitVec 32 := 0#32
  let v51 : BitVec 1 := Scalar.cmpi .ne v50 c0_i32_29
  v51

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v52 : BitVec 1 := Scalar.xori v0 v_true
  let v53 : BitVec 32 := Scalar.extui v52
  let c0_i32_30 : BitVec 32 := 0#32
  let v54 : BitVec 1 := Scalar.cmpi .ne v53 c0_i32_30
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== Reference5Ideal.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel6.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4096, .bf16⟩
  | .hbm, ⟨4, _⟩ => ⟨S1024x4x1024, .bf16⟩
  | .hbm, ⟨5, _⟩ => ⟨S4x1024x1024, .bf16⟩
  | .hbm, ⟨6, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S4096x4096 : Shape := ⟨2, ![4096, 4096]⟩
abbrev S4096x1024 : Shape := ⟨2, ![4096, 1024]⟩
abbrev S1x1024 : Shape := ⟨2, ![1, 1024]⟩
abbrev S4x1024x1024 : Shape := ⟨3, ![4, 1024, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x4096, .bf16⟩
  | .hbm, ⟨5, _⟩ => ⟨S4096x1024, .bf16⟩
  | .hbm, ⟨6, _⟩ => ⟨S4x1024x1024, .bf16⟩
  | .hbm, ⟨7, _⟩ => ⟨S4096x1024, .f32⟩
  | .hbm, ⟨8, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference7Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel8.lean ====
abbrev S4096x4096 : Shape := ⟨2, ![4096, 4096]⟩
abbrev S4096x1024 : Shape := ⟨2, ![4096, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x4096, .bf16⟩
  | .hbm, ⟨4, _⟩ => ⟨S4096x1024, .bf16⟩
  | .hbm, ⟨5, _⟩ => ⟨S4x1024x1024, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x4096 : Shape := ⟨2, ![4096, 4096]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel9.lean ====
abbrev S4096x1024 : Shape := ⟨2, ![4096, 1024]⟩
abbrev S4096x3200 : Shape := ⟨2, ![4096, 3200]⟩
abbrev S3200x4096 : Shape := ⟨2, ![3200, 4096]⟩
abbrev S3200x1024 : Shape := ⟨2, ![3200, 1024]⟩
abbrev S640x2048 : Shape := ⟨2, ![640, 2048]⟩
abbrev S2048x1024 : Shape := ⟨2, ![2048, 1024]⟩
abbrev S640x1024 : Shape := ⟨2, ![640, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3200, .f32⟩
  | .hbm, ⟨2, _⟩ => ⟨S3200x4096, .f32⟩
  | .hbm, ⟨3, _⟩ => ⟨S3200x4096, .bf16⟩
  | .hbm, ⟨4, _⟩ => ⟨S4096x1024, .bf16⟩
  | .hbm, ⟨5, _⟩ => ⟨S3200x1024, .bf16⟩
  | .local _ .vmem, ⟨0, _⟩ => ⟨S640x2048, .bf16⟩
  | .local _ .vmem, ⟨1, _⟩ => ⟨S640x2048, .bf16⟩
  | .local _ .vmem, ⟨2, _⟩ => ⟨S2048x1024, .bf16⟩
  | .local _ .vmem, ⟨3, _⟩ => ⟨S2048x1024, .bf16⟩
  | .local _ .vmem, ⟨4, _⟩ => ⟨S640x1024, .bf16⟩
  | .local _ .vmem, ⟨5, _⟩ => ⟨S640x1024, .bf16⟩
  | .local _ .vmem, ⟨6, _⟩ => ⟨S640x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S4096x3200 : Shape := ⟨2, ![4096, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3200, .f32⟩
  | .hbm, ⟨2, _⟩ => ⟨S_, .f32⟩
  | .hbm, ⟨3, _⟩ => ⟨S1024x3200, .f32⟩
  | .hbm, ⟨4, _⟩ => ⟨S4096x3200, .f32⟩
  | .hbm, ⟨5, _⟩ => ⟨S3200x1024, .f32⟩
  | .hbm, ⟨6, _⟩ => ⟨S1024x3200, .f32⟩
  | .hbm, ⟨7, _⟩ => ⟨S3200x1024, .f32⟩
  | .hbm, ⟨8, _⟩ => ⟨S3200x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x1024 : Shape := ⟨2, ![4096, 1024]⟩
abbrev S4096x2048 : Shape := ⟨2, ![4096, 2048]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S4x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S1024x3200 : Shape := ⟨2, ![1024, 3200]⟩
abbrev S4096x3200 : Shape := ⟨2, ![4096, 3200]⟩
abbrev S3200x4096 : Shape := ⟨2, ![3200, 4096]⟩
abbrev S3200x1024 : Shape := ⟨2, ![3200, 1024]⟩
abbrev S640x1024 : Shape := ⟨2, ![640, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3200, .f32⟩
  | .hbm, ⟨3, _⟩ => ⟨S4096x3200, .f32⟩
  | .hbm, ⟨4, _⟩ => ⟨S4096x1024, .f32⟩
  | .hbm, ⟨5, _⟩ => ⟨S3200x4096, .f32⟩
  | .hbm, ⟨6, _⟩ => ⟨S3200x4096, .bf16⟩
  | .hbm, ⟨7, _⟩ => ⟨S3200x1024, .f32⟩
  | .hbm, ⟨8, _⟩ => ⟨S3200x1024, .bf16⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S640x1024, .bf16⟩
  | .local _ .vmem, ⟨1, _⟩ => ⟨S640x1024, .bf16⟩
  | .local _ .vmem, ⟨2, _⟩ => ⟨S640x1024, .bf16⟩
  | .local _ .vmem, ⟨3, _⟩ => ⟨S640x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 5], ![false, false, false]⟩

def k0_cond2 (i : grid0.Coords) : BitVec 1 :=
  let arg2 : BitVec 32 := BitVec.ofNat 32 (i 2).val
  let c4_i32 : BitVec 32 := 4#32
  let v14 : BitVec 1 := Scalar.cmpi .eq arg2 c4_i32
  let v15 : BitVec 32 := Scalar.extui v14
  let c0_i32_9 : BitVec 32 := 0#32
  let v16 : BitVec 1 := Scalar.cmpi .ne v15 c0_i32_9
  v16

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v50 : BitVec 32 := Scalar.extui v0
  let c0_i32_28 : BitVec 32 := 0#32
  let v51 : BitVec 1 := Scalar.cmpi .ne v50 c0_i32_28
  v51

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v52 : BitVec 1 := Scalar.xori v0 v_true
  let v53 : BitVec 32 := Scalar.extui v52
  let c0_i32_29 : BitVec 32 := 0#32
  let v54 : BitVec 1 := Scalar.cmpi .ne v53 c0_i32_29
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== Reference11Ideal.lean ====
abbrev S4096x1024 : Shape := ⟨2, ![4096, 1024]⟩
abbrev S1x1024 : Shape := ⟨2, ![1, 1024]⟩
abbrev S1024x3200 : Shape := ⟨2, ![1024, 3200]⟩
abbrev S4096x3200 : Shape := ⟨2, ![4096, 3200]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3200, .f32⟩
  | .hbm, ⟨3, _⟩ => ⟨S4096x3200, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x3200, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S1024x4x512 : Shape := ⟨3, ![1024, 4, 512]⟩
abbrev S4x1024x512 : Shape := ⟨3, ![4, 1024, 512]⟩
abbrev S1024x512 : Shape := ⟨2, ![1024, 512]⟩
abbrev S1x1024x512 : Shape := ⟨3, ![1, 1024, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S4096x2048, .f32⟩
  | .hbm, ⟨4, _⟩ => ⟨S4096x1024, .f32⟩
  | .hbm, ⟨5, _⟩ => ⟨S4096x2048, .bf16⟩
  | .hbm, ⟨6, _⟩ => ⟨S1024x2048, .bf16⟩
  | .hbm, ⟨7, _⟩ => ⟨S1024x4x512, .bf16⟩
  | .hbm, ⟨8, _⟩ => ⟨S4x1024x512, .bf16⟩
  | .hbm, ⟨9, _⟩ => ⟨S4096x1024, .f32⟩
  | .hbm, ⟨10, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v48 : BitVec 32 := Scalar.extui v0
  let c0_i32_27 : BitVec 32 := 0#32
  let v49 : BitVec 1 := Scalar.cmpi .ne v48 c0_i32_27
  v49

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v50 : BitVec 1 := Scalar.xori v0 v_true
  let v51 : BitVec 32 := Scalar.extui v50
  let c0_i32_28 : BitVec 32 := 0#32
  let v52 : BitVec 1 := Scalar.cmpi .ne v51 c0_i32_28
  v52

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== Reference12Ideal.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x2048, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel13.lean ====
abbrev S4096x1024 : Shape := ⟨2, ![4096, 1024]⟩
abbrev S1024x3200 : Shape := ⟨2, ![1024, 3200]⟩
abbrev S3200x1024 : Shape := ⟨2, ![3200, 1024]⟩
abbrev S3200x4096 : Shape := ⟨2, ![3200, 4096]⟩
abbrev S640x1024 : Shape := ⟨2, ![640, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3200, .f32⟩
  | .hbm, ⟨2, _⟩ => ⟨S3200x1024, .f32⟩
  | .hbm, ⟨3, _⟩ => ⟨S3200x1024, .bf16⟩
  | .hbm, ⟨4, _⟩ => ⟨S4096x1024, .bf16⟩
  | .hbm, ⟨5, _⟩ => ⟨S3200x4096, .f32⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S1024x1024, .bf16⟩
  | .local _ .vmem, ⟨4, _⟩ => ⟨S640x1024, .f32⟩
  | .local _ .vmem, ⟨5, _⟩ => ⟨S640x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x3200 : Shape := ⟨2, ![1024, 3200]⟩
abbrev S4096x3200 : Shape := ⟨2, ![4096, 3200]⟩
abbrev S3200x4096 : Shape := ⟨2, ![3200, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3200, .f32⟩
  | .hbm, ⟨2, _⟩ => ⟨S4096x3200, .f32⟩
  | .hbm, ⟨3, _⟩ => ⟨S3200x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S4096x1024 : Shape := ⟨2, ![4096, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S4096x2048 : Shape := ⟨2, ![4096, 2048]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x2048, .bf16⟩
  | .hbm, ⟨4, _⟩ => ⟨S1024x4x512, .bf16⟩
  | .hbm, ⟨5, _⟩ => ⟨S4x1024x512, .bf16⟩
  | .hbm, ⟨6, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x512, .f32⟩
  | .local _ .vmem, ⟨5, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S1024x1024 : Shape := ⟨2, ![1024, 1024]⟩
abbrev S4096x1024 : Shape := ⟨2, ![4096, 1024]⟩
abbrev S4x256x1024 : Shape := ⟨3, ![4, 256, 1024]⟩
abbrev S1024x4096 : Shape := ⟨2, ![1024, 4096]⟩
abbrev S1x256x1024 : Shape := ⟨3, ![1, 256, 1024]⟩
abbrev S256x1024 : Shape := ⟨2, ![256, 1024]⟩

abbrev nBuf : Space → Nat
  | .hbm => 6
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S1024x1024, .bf16⟩
  | .hbm, ⟨3, _⟩ => ⟨S4x256x1024, .bf16⟩
  | .hbm, ⟨4, _⟩ => ⟨S4096x1024, .bf16⟩
  | .hbm, ⟨5, _⟩ => ⟨S1024x4096, .bf16⟩
  | .local _ .vmem, ⟨0, _⟩ => ⟨S1x256x1024, .bf16⟩
  | .local _ .vmem, ⟨1, _⟩ => ⟨S1x256x1024, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S1024x1024 : Shape := ⟨2, ![1024, 1024]⟩
abbrev S4096x1024 : Shape := ⟨2, ![4096, 1024]⟩
abbrev S_ : Shape := ⟨0, ![]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x4096, .f32⟩
  | .hbm, ⟨7, _⟩ => ⟨S1024x4096, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S4096x1024 : Shape := ⟨2, ![4096, 1024]⟩
abbrev S1024x4096 : Shape := ⟨2, ![1024, 4096]⟩
abbrev S4x256x1024 : Shape := ⟨3, ![4, 256, 1024]⟩
abbrev S256x2048 : Shape := ⟨2, ![256, 2048]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S1024x4096, .bf16⟩
  | .hbm, ⟨4, _⟩ => ⟨S4096x1024, .bf16⟩
  | .hbm, ⟨5, _⟩ => ⟨S4x256x1024, .bf16⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S4x256x1024, .f32⟩
  | .hbm, ⟨8, _⟩ => ⟨S4x256x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S1024x1024 : Shape := ⟨2, ![1024, 1024]⟩
abbrev S4096x1024 : Shape := ⟨2, ![4096, 1024]⟩
abbrev S4x256x1024 : Shape := ⟨3, ![4, 256, 1024]⟩
abbrev S2048x1024 : Shape := ⟨2, ![2048, 1024]⟩
abbrev S1x256x1024 : Shape := ⟨3, ![1, 256, 1024]⟩
abbrev S2048x256 : Shape := ⟨2, ![2048, 256]⟩
abbrev S256x1024 : Shape := ⟨2, ![256, 1024]⟩

abbrev nBuf : Space → Nat
  | .hbm => 6
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .hbm, ⟨4, _⟩ => ⟨S4x256x1024, .bf16⟩
  | .hbm, ⟨5, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S2048x256, .f32⟩
  | .local _ .vmem, ⟨5, _⟩ => ⟨S2048x256, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S4096x1024 : Shape := ⟨2, ![4096, 1024]⟩
abbrev S4x256x1024 : Shape := ⟨3, ![4, 256, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S4x256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S4x256x1024, .f32⟩
  | .hbm, ⟨8, _⟩ => ⟨S4x256x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S4x256x1024 : Shape := ⟨3, ![4, 256, 1024]⟩
abbrev S256x1024 : Shape := ⟨2, ![256, 1024]⟩
abbrev S1x256x1024 : Shape := ⟨3, ![1, 256, 1024]⟩
abbrev S1024 : Shape := ⟨1, ![1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1024x4096, .f32⟩
  | .hbm, ⟨5, _⟩ => ⟨S1024x4096, .bf16⟩
  | .hbm, ⟨6, _⟩ => ⟨S1024x1024, .bf16⟩
  | .hbm, ⟨7, _⟩ => ⟨S4x256x1024, .bf16⟩
  | .hbm, ⟨8, _⟩ => ⟨S4096x1024, .f32⟩
  | .hbm, ⟨9, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference19Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel20.lean ====
abbrev S4096x1024 : Shape := ⟨2, ![4096, 1024]⟩
abbrev S1024x1024 : Shape := ⟨2, ![1024, 1024]⟩
abbrev S1x1024 : Shape := ⟨2, ![1, 1024]⟩
abbrev S4x256x1024 : Shape := ⟨3, ![4, 256, 1024]⟩
abbrev S1024x256 : Shape := ⟨2, ![1024, 256]⟩
abbrev S1x256x1024 : Shape := ⟨3, ![1, 256, 1024]⟩
abbrev S256x1024 : Shape := ⟨2, ![256, 1024]⟩
abbrev S1024 : Shape := ⟨1, ![1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S1024x1024, .bf16⟩
  | .hbm, ⟨6, _⟩ => ⟨S4x256x1024, .bf16⟩
  | .hbm, ⟨7, _⟩ => ⟨S4096x1024, .f32⟩
  | .hbm, ⟨8, _⟩ => ⟨S4096x1024, .bf16⟩
  | .local _ .vmem, ⟨0, _⟩ => ⟨S1024x256, .bf16⟩
  | .local _ .vmem, ⟨1, _⟩ => ⟨S1024x256, .bf16⟩
  | .local _ .vmem, ⟨2, _⟩ => ⟨S1x256x1024, .bf16⟩
  | .local _ .vmem, ⟨3, _⟩ => ⟨S1x256x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference20Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Offs.lean ====
/- Closed forms of the row offsets the kernel body computes, of its conditions and of its loops' trip counts. -/
module

public import proofs.«01_k».proof.Proof.Gen.KernelIdeal
public import proofs.«01_k».proof.Proof.Gen.KernelIdeal.Skeleton
public import Idealize.ShloMosaic.Lib.Tactic

@[expose] public section

set_option maxRecDepth 16384

namespace Cert.KernelIdeal.Hand

open Cert.KernelIdeal Cert.KernelIdeal.Gen
open Idealize.ShloMosaic Idealize.ShloMosaic.Tactic

/-- The first query row of the diagonal span (two heads; an odd and an even number of rows of tiles below it). -/
theorem off1_eq : ∀ i : grid0.Coords, k0_off1 i = ![0, 512 * (i 1).val, 0] := by decide +kernel
theorem off2_eq : ∀ i : grid0.Coords, k0_off2 i = ![1, 512 * (i 1).val, 0] := by decide +kernel
theorem off7_eq : ∀ i : grid0.Coords, k0_off7 i = ![0, 512 * (i 1).val, 0] := by decide +kernel
theorem off8_eq : ∀ i : grid0.Coords, k0_off8 i = ![1, 512 * (i 1).val, 0] := by decide +kernel
instance (i : grid0.Coords) : ClosedOff (k0_off1 i) := ⟨_, off1_eq i⟩
instance (i : grid0.Coords) : ClosedOff (k0_off2 i) := ⟨_, off2_eq i⟩
instance (i : grid0.Coords) : ClosedOff (k0_off7 i) := ⟨_, off7_eq i⟩
instance (i : grid0.Coords) : ClosedOff (k0_off8 i) := ⟨_, off8_eq i⟩
theorem trips1_eq : ∀ i : grid0.Coords, (k0_t1_loop i).trips = (7 - (i 1).val) / 2 := by decide +kernel
theorem trips2_eq : ∀ i : grid0.Coords, (k0_t2_loop i).trips = 0 := by decide +kernel
theorem off13_eq : ∀ (i : grid0.Coords) (t : Fin (k0_t1_loop i).trips),
    k0_off13 i t = ![0, 512 * ((i 1).val + 1 + (7 - (i 1).val) % 2 + 2 * t.val), 0] := by decide +kernel
theorem off14_eq : ∀ (i : grid0.Coords) (t : Fin (k0_t1_loop i).trips),
    k0_off14 i t = ![1, 512 * ((i 1).val + 1 + (7 - (i 1).val) % 2 + 2 * t.val), 0] := by decide +kernel
instance (i : grid0.Coords) (t : Fin (k0_t1_loop i).trips) : ClosedOff (k0_off13 i t) := ⟨_, off13_eq i t⟩
instance (i : grid0.Coords) (t : Fin (k0_t1_loop i).trips) : ClosedOff (k0_off14 i t) := ⟨_, off14_eq i t⟩
theorem off15_eq : ∀ (i : grid0.Coords) (t : Fin (k0_t1_loop i).trips),
    k0_off15 i t 0#32 = ![0, (i 1).val + 1 + (7 - (i 1).val) % 2 + 2 * t.val, 0, 0] := by decide +kernel
theorem off15_eq1 : ∀ (i : grid0.Coords) (t : Fin (k0_t1_loop i).trips),
    k0_off15 i t 1#32 = ![0, (i 1).val + 1 + (7 - (i 1).val) % 2 + 2 * t.val + 1, 0, 0] := by decide +kernel
theorem cond2_iff : ∀ i : grid0.Coords, k0_cond2 i = 1#1 ↔ (i 1).val % 2 = 0 := by decide +kernel
theorem cond3_iff : ∀ i : grid0.Coords, k0_cond3 i = 1#1 ↔ (i 1).val % 2 = 1 := by decide +kernel

end Cert.KernelIdeal.Hand
-- ==== Proof.Trip.lean ====
/- One trip of the loop over pairs of query tiles, the loop's invariant, and that of its empty remainder loop. -/
module

public import proofs.«01_k».proof.Proof.Offs
public import proofs.«01_k».proof.Proof.Gen.KernelIdeal.Loops
public import proofs.«01_k».proof.Proof.Gen.KernelIdeal.Launch
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ
abbrev 𝒱₀ : Variants := Variants.none

section Trip

variable (c : Dev nD) (i : grid0.Coords)
  (arg2 : Memref sig .tc .vmem S2x4096x128 .bf16) (harg2 : arg2.IsWhole) (arg3 : Memref sig .tc .vmem S2x4096x128 .bf16) (harg3 : arg3.IsWhole) (arg4 : Memref sig .tc .vmem S2x8x128x512 .bf16) (harg4 : arg4.IsWhole) (arg5 : Memref sig .tc .vmem S2x8x128x512 .bf16) (harg5 : arg5.IsWhole) (arg6 : Memref sig .tc .vmem S2x512x128 .bf16) (harg6 : arg6.IsWhole) (arg7 : Memref sig .tc .vmem S2x1x128x512 .bf16) (harg7 : arg7.IsWhole) (arg8 : Memref sig .tc .vmem S2x1x128x512 .bf16) (harg8 : arg8.IsWhole) (arg9 : Memref sig .tc .vmem S2x4096x128 .f32) (harg9 : arg9.IsWhole) (arg10 : Memref sig .tc .vmem S2x128x512 .f32) (harg10 : arg10.IsWhole) (arg11 : Memref sig .tc .vmem S128x512 .bf16) (harg11 : arg11.IsWhole) (arg12 : Memref sig .tc .vmem S2x128x512 .f32) (harg12 : arg12.IsWhole) (arg13 : Memref sig .tc .vmem S2x64x512 .f32) (harg13 : arg13.IsWhole)
  (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f12 : Buf (Elt F) (arg12.view.loc (c : Thread nD τ))) (f13 : Buf (Elt F) (arg13.view.loc (c : Thread nD τ)))

/-- The buffers one trip touches, each held whole at the contents given. -/
abbrev Held : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg12.view.loc (c : Thread nD τ) ↦[arg12.view.set]{fullShare} f12) ∗ (arg13.view.loc (c : Thread nD τ) ↦[arg13.view.set]{fullShare} f13))

set_option backward.proofsInPublic true in
/-- One trip of the loop: the pieces it stores into the query gradient and the two accumulators, found by the run. -/
@[irreducible] def trip (arg1 v21 : BitVec 32) (k : Fin (k0_t1_loop i).trips) :
    Σ' (L9 : List (View.Piece (Elt F) S2x4096x128 .f32)) (L12 : List (View.Piece (Elt F) S2x128x512 .f32)),
      { L13 : List (View.Piece (Elt F) S2x64x512 .f32) // ∀ acc : BitVec 32,
        Held c arg2 arg3 arg4 arg5 arg6 arg7 arg8 arg9 arg12 arg13 f2 f3 f4 f5 f6 f7 f8 f9 f12 f13
          ⊢ wp frame (wpE (defs₀ (F := F)) 𝒱₀ (c : Thread nD τ) none) Set.univ
              (k0_t1_body (F := F) i arg2 harg2 arg3 harg3 arg4 harg4 arg5 harg5 arg6 harg6 arg7 harg7 arg8 harg8 arg9 harg9 arg10 harg10 arg11 harg11 arg12 harg12 arg13 harg13 arg1 0#32 v21 0#32 0#32 0#1 k acc)
              (fun _ => Held c arg2 arg3 arg4 arg5 arg6 arg7 arg8 arg9 arg12 arg13 f2 f3 f4 f5 f6 f7 f8 (arg9.view.writes (Elt F) f9 L9) (arg12.view.writes (Elt F) f12 L12) (arg13.view.writes (Elt F) f13 L13)) } := by
  refine ⟨?_, ?_, ?_, fun acc => ?run⟩
  case run =>
    unfold Held
    iintro ⟨H2, H3, H4, H5, H6, H7, H8, H9, H12, H13⟩
    sl_unfold [k0_t1_body]
    sl_exec
    sl_step
    sl_close

/-- The contents of the query gradient's block and of the two accumulators before trip `k`, from those the loop is
    entered with. -/
def st (arg1 v21 : BitVec 32) : ℕ → Buf (Elt F) (arg9.view.loc (c : Thread nD τ)) × Buf (Elt F) (arg12.view.loc (c : Thread nD τ)) × Buf (Elt F) (arg13.view.loc (c : Thread nD τ))
  | 0 => (f9, f12, f13)
  | k + 1 =>
    if h : k < (k0_t1_loop i).trips then
      (arg9.view.writes (Elt F) (st arg1 v21 k).1 (trip c i arg2 harg2 arg3 harg3 arg4 harg4 arg5 harg5 arg6 harg6 arg7 harg7 arg8 harg8 arg9 harg9 arg10 harg10 arg11 harg11 arg12 harg12 arg13 harg13 f2 f3 f4 f5 f6 f7 f8 (st arg1 v21 k).1 (st arg1 v21 k).2.1 (st arg1 v21 k).2.2 arg1 v21 ⟨k, h⟩).1,
       arg12.view.writes (Elt F) (st arg1 v21 k).2.1 (trip c i arg2 harg2 arg3 harg3 arg4 harg4 arg5 harg5 arg6 harg6 arg7 harg7 arg8 harg8 arg9 harg9 arg10 harg10 arg11 harg11 arg12 harg12 arg13 harg13 f2 f3 f4 f5 f6 f7 f8 (st arg1 v21 k).1 (st arg1 v21 k).2.1 (st arg1 v21 k).2.2 arg1 v21 ⟨k, h⟩).2.1,
       arg13.view.writes (Elt F) (st arg1 v21 k).2.2 (trip c i arg2 harg2 arg3 harg3 arg4 harg4 arg5 harg5 arg6 harg6 arg7 harg7 arg8 harg8 arg9 harg9 arg10 harg10 arg11 harg11 arg12 harg12 arg13 harg13 f2 f3 f4 f5 f6 f7 f8 (st arg1 v21 k).1 (st arg1 v21 k).2.1 (st arg1 v21 k).2.2 arg1 v21 ⟨k, h⟩).2.2.1)
    else st arg1 v21 k

theorem st_succ (arg1 v21 : BitVec 32) (k : Fin (k0_t1_loop i).trips) :
    st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 (k.val + 1) =
      (arg9.view.writes (Elt F) (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k.val).1 (trip c i arg2 harg2 arg3 harg3 arg4 harg4 arg5 harg5 arg6 harg6 arg7 harg7 arg8 harg8 arg9 harg9 arg10 harg10 arg11 harg11 arg12 harg12 arg13 harg13 f2 f3 f4 f5 f6 f7 f8 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k.val).1 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k.val).2.1 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k.val).2.2 arg1 v21 k).1,
       arg12.view.writes (Elt F) (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k.val).2.1 (trip c i arg2 harg2 arg3 harg3 arg4 harg4 arg5 harg5 arg6 harg6 arg7 harg7 arg8 harg8 arg9 harg9 arg10 harg10 arg11 harg11 arg12 harg12 arg13 harg13 f2 f3 f4 f5 f6 f7 f8 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k.val).1 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k.val).2.1 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k.val).2.2 arg1 v21 k).2.1,
       arg13.view.writes (Elt F) (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k.val).2.2 (trip c i arg2 harg2 arg3 harg3 arg4 harg4 arg5 harg5 arg6 harg6 arg7 harg7 arg8 harg8 arg9 harg9 arg10 harg10 arg11 harg11 arg12 harg12 arg13 harg13 f2 f3 f4 f5 f6 f7 f8 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k.val).1 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k.val).2.1 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k.val).2.2 arg1 v21 k).2.2.1) := by
  rw [st, dif_pos k.isLt]

/-- A state, with the one the loop is entered with spelled out. -/
@[reducible] def pick {α : Type} : ℕ → α → α → α
  | 0, a, _ => a
  | _ + 1, _, b => b

/-- Before trip `k` the loop's buffers hold the accumulation of the trips before it. -/
abbrev Inv (arg1 v21 : BitVec 32) (k : ℕ) : sProp 𝕄 :=
  Held c arg2 arg3 arg4 arg5 arg6 arg7 arg8 arg9 arg12 arg13 f2 f3 f4 f5 f6 f7 f8 (pick k f9 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k).1) (pick k f12 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k).2.1) (pick k f13 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k).2.2)

theorem Inv_eq (arg1 v21 : BitVec 32) (k : ℕ) : Inv c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k =
    Held c arg2 arg3 arg4 arg5 arg6 arg7 arg8 arg9 arg12 arg13 f2 f3 f4 f5 f6 f7 f8 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k).1 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k).2.1 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k).2.2 := by
  cases k <;> rfl

set_option warn.classDefReducibility false in
/-- The loop's invariant. -/
@[sl_loop] def loopInv1 (arg1 v21 : BitVec 32) (init : BitVec 32) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg1 0#32 v21 0#32 0#32 0#1 init where
  inv k _ := Inv c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k
  step k acc := by
    rw [Inv_eq, Inv_eq, st_succ]
    exact (trip c i arg2 harg2 arg3 harg3 arg4 harg4 arg5 harg5 arg6 harg6 arg7 harg7 arg8 harg8 arg9 harg9 arg10 harg10 arg11 harg11 arg12 harg12 arg13 harg13 f2 f3 f4 f5 f6 f7 f8 _ _ _ arg1 v21 k).2.2.2 acc

set_option warn.classDefReducibility false in
/-- The remainder loop has no trip: its invariant is the buffers as the loop is entered. -/
@[sl_loop] def loopInv2 (arg1 v21 : BitVec 32) (v49 init : BitVec 32) :
    LoopInvTy_k0_t2 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg1 0#32 v21 0#32 0#32 0#1 v49 init where
  inv _ _ := Held c arg2 arg3 arg4 arg5 arg6 arg7 arg8 arg9 arg12 arg13 f2 f3 f4 f5 f6 f7 f8 f9 f12 f13
  step k _ := (Nat.not_lt_zero _ (Nat.lt_of_lt_of_eq k.isLt (trips2_eq i))).elim

end Trip

end Cert.KernelIdeal.Hand
-- ==== Proof.Body.lean ====
/- The kernel body at one grid point: what it leaves in its three result blocks, in the three cases of its branches. -/
module

public import proofs.«01_k».proof.Proof.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option backward.proofsInPublic true in
/-- At the first key tile the query gradient starts from zero; seven query tiles lie below the diagonal. -/
@[irreducible] def runFirst (c : Dev nD) (i : grid0.Coords) (h1 : Scalar.cmpi .ne (Scalar.extui (Scalar.cmpi .eq (BitVec.ofNat 32 (i 1).val) 0#32) : BitVec 32) 0#32 = 1#1) (h2 : k0_cond2 i = 1#1) (h3 : ¬ k0_cond3 i = 1#1) (arg2 : Memref sig .tc .vmem S2x4096x128 .bf16) (harg2 : arg2.IsWhole) (arg3 : Memref sig .tc .vmem S2x4096x128 .bf16) (harg3 : arg3.IsWhole) (arg4 : Memref sig .tc .vmem S2x8x128x512 .bf16) (harg4 : arg4.IsWhole) (arg5 : Memref sig .tc .vmem S2x8x128x512 .bf16) (harg5 : arg5.IsWhole) (arg6 : Memref sig .tc .vmem S2x512x128 .bf16) (harg6 : arg6.IsWhole) (arg7 : Memref sig .tc .vmem S2x1x128x512 .bf16) (harg7 : arg7.IsWhole) (arg8 : Memref sig .tc .vmem S2x1x128x512 .bf16) (harg8 : arg8.IsWhole) (arg9 : Memref sig .tc .vmem S2x4096x128 .f32) (harg9 : arg9.IsWhole) (arg10 : Memref sig .tc .vmem S2x128x512 .f32) (harg10 : arg10.IsWhole) (arg11 : Memref sig .tc .vmem S128x512 .bf16) (harg11 : arg11.IsWhole) (arg12 : Memref sig .tc .vmem S2x128x512 .f32) (harg12 : arg12.IsWhole) (arg13 : Memref sig .tc .vmem S2x64x512 .f32) (harg13 : arg13.IsWhole) (x2 : Vec F S2x4096x128 .bf16) (x3 : Vec F S2x4096x128 .bf16) (x4 : Vec F S2x8x128x512 .bf16) (x5 : Vec F S2x8x128x512 .bf16) (x6 : Vec F S2x512x128 .bf16) (x7 : Vec F S2x1x128x512 .bf16) (x8 : Vec F S2x1x128x512 .bf16)  :
    Σ' (Y9 : Vec F S2x4096x128 .f32) (Y10 : Vec F S2x128x512 .f32),
      { Y11 : Vec F S128x512 .bf16 // ∀ K : PUnit → sProp 𝕄,
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare Y9 ∗ owns (c : Thread nD τ) arg10 fullShare Y10 ∗ owns (c : Thread nD τ) arg11 fullShare Y11 ∗ (∃ d, owns (c : Thread nD τ) arg12 fullShare d) ∗ (∃ d, owns (c : Thread nD τ) arg13 fullShare d)) -∗ K ⟨⟩))
          ⊢ wp frame (wpE (defs₀ (F := F)) 𝒱₀ (c : Thread nD τ) none) Set.univ (cc0_attn_backward (F := F) i arg2 harg2 arg3 harg3 arg4 harg4 arg5 harg5 arg6 harg6 arg7 harg7 arg8 harg8 arg9 harg9 arg10 harg10 arg11 harg11 arg12 harg12 arg13 harg13) K } := by
  refine ⟨?_, ?_, ?_, fun K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    skip

    sl_unfold [cc0_attn_backward]
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro; rfl
    isplitl [H10]
    · iexists _; isplitr; swap; · iexact H10
      ipureintro; rw [View.read_writes_eq_canon (Val := Elt F) arg10.view f10]; exact View.cover_of_tiled (Val := Elt F) _ S2x128x512.size rfl
    isplitl [H11]
    · iexists _; isplitr; swap; · iexact H11
      ipureintro; rw [View.read_writes_eq_canon (Val := Elt F) arg11.view f11]; exact View.cover_of_tiled (Val := Elt F) _ S64x512.size rfl
    isplitl [H12]
    · iexists _; iexists _; isplitr; swap; · iexact H12
      ipureintro; rfl
    iexists _; iexists _; isplitr; swap; · iexact H13
    ipureintro; rfl

set_option backward.proofsInPublic true in
/-- A later key tile with an odd number of query tiles below the diagonal: the diagonal span is two tiles high. -/
@[irreducible] def runOdd (c : Dev nD) (i : grid0.Coords) (h1 : ¬ Scalar.cmpi .ne (Scalar.extui (Scalar.cmpi .eq (BitVec.ofNat 32 (i 1).val) 0#32) : BitVec 32) 0#32 = 1#1) (h2 : k0_cond2 i = 1#1) (h3 : ¬ k0_cond3 i = 1#1) (arg2 : Memref sig .tc .vmem S2x4096x128 .bf16) (harg2 : arg2.IsWhole) (arg3 : Memref sig .tc .vmem S2x4096x128 .bf16) (harg3 : arg3.IsWhole) (arg4 : Memref sig .tc .vmem S2x8x128x512 .bf16) (harg4 : arg4.IsWhole) (arg5 : Memref sig .tc .vmem S2x8x128x512 .bf16) (harg5 : arg5.IsWhole) (arg6 : Memref sig .tc .vmem S2x512x128 .bf16) (harg6 : arg6.IsWhole) (arg7 : Memref sig .tc .vmem S2x1x128x512 .bf16) (harg7 : arg7.IsWhole) (arg8 : Memref sig .tc .vmem S2x1x128x512 .bf16) (harg8 : arg8.IsWhole) (arg9 : Memref sig .tc .vmem S2x4096x128 .f32) (harg9 : arg9.IsWhole) (arg10 : Memref sig .tc .vmem S2x128x512 .f32) (harg10 : arg10.IsWhole) (arg11 : Memref sig .tc .vmem S128x512 .bf16) (harg11 : arg11.IsWhole) (arg12 : Memref sig .tc .vmem S2x128x512 .f32) (harg12 : arg12.IsWhole) (arg13 : Memref sig .tc .vmem S2x64x512 .f32) (harg13 : arg13.IsWhole) (x2 : Vec F S2x4096x128 .bf16) (x3 : Vec F S2x4096x128 .bf16) (x4 : Vec F S2x8x128x512 .bf16) (x5 : Vec F S2x8x128x512 .bf16) (x6 : Vec F S2x512x128 .bf16) (x7 : Vec F S2x1x128x512 .bf16) (x8 : Vec F S2x1x128x512 .bf16) (x9 : Vec F S2x4096x128 .f32) :
    Σ' (Y9 : Vec F S2x4096x128 .f32) (Y10 : Vec F S2x128x512 .f32),
      { Y11 : Vec F S128x512 .bf16 // ∀ K : PUnit → sProp 𝕄,
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare Y9 ∗ owns (c : Thread nD τ) arg10 fullShare Y10 ∗ owns (c : Thread nD τ) arg11 fullShare Y11 ∗ (∃ d, owns (c : Thread nD τ) arg12 fullShare d) ∗ (∃ d, owns (c : Thread nD τ) arg13 fullShare d)) -∗ K ⟨⟩))
          ⊢ wp frame (wpE (defs₀ (F := F)) 𝒱₀ (c : Thread nD τ) none) Set.univ (cc0_attn_backward (F := F) i arg2 harg2 arg3 harg3 arg4 harg4 arg5 harg5 arg6 harg6 arg7 harg7 arg8 harg8 arg9 harg9 arg10 harg10 arg11 harg11 arg12 harg12 arg13 harg13) K } := by
  refine ⟨?_, ?_, ?_, fun K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    obtain rfl := harg9.eq_unread hf9

    sl_unfold [cc0_attn_backward]
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro; rfl
    isplitl [H10]
    · iexists _; isplitr; swap; · iexact H10
      ipureintro; rw [View.read_writes_eq_canon (Val := Elt F) arg10.view f10]; exact View.cover_of_tiled (Val := Elt F) _ S2x128x512.size rfl
    isplitl [H11]
    · iexists _; isplitr; swap; · iexact H11
      ipureintro; rw [View.read_writes_eq_canon (Val := Elt F) arg11.view f11]; exact View.cover_of_tiled (Val := Elt F) _ S64x512.size rfl
    isplitl [H12]
    · iexists _; iexists _; isplitr; swap; · iexact H12
      ipureintro; rfl
    iexists _; iexists _; isplitr; swap; · iexact H13
    ipureintro; rfl

set_option backward.proofsInPublic true in
/-- A later key tile with an even number of query tiles below the diagonal: the diagonal span is one tile high. -/
@[irreducible] def runEven (c : Dev nD) (i : grid0.Coords) (h1 : ¬ Scalar.cmpi .ne (Scalar.extui (Scalar.cmpi .eq (BitVec.ofNat 32 (i 1).val) 0#32) : BitVec 32) 0#32 = 1#1) (h2 : ¬ k0_cond2 i = 1#1) (h3 : k0_cond3 i = 1#1) (arg2 : Memref sig .tc .vmem S2x4096x128 .bf16) (harg2 : arg2.IsWhole) (arg3 : Memref sig .tc .vmem S2x4096x128 .bf16) (harg3 : arg3.IsWhole) (arg4 : Memref sig .tc .vmem S2x8x128x512 .bf16) (harg4 : arg4.IsWhole) (arg5 : Memref sig .tc .vmem S2x8x128x512 .bf16) (harg5 : arg5.IsWhole) (arg6 : Memref sig .tc .vmem S2x512x128 .bf16) (harg6 : arg6.IsWhole) (arg7 : Memref sig .tc .vmem S2x1x128x512 .bf16) (harg7 : arg7.IsWhole) (arg8 : Memref sig .tc .vmem S2x1x128x512 .bf16) (harg8 : arg8.IsWhole) (arg9 : Memref sig .tc .vmem S2x4096x128 .f32) (harg9 : arg9.IsWhole) (arg10 : Memref sig .tc .vmem S2x128x512 .f32) (harg10 : arg10.IsWhole) (arg11 : Memref sig .tc .vmem S128x512 .bf16) (harg11 : arg11.IsWhole) (arg12 : Memref sig .tc .vmem S2x128x512 .f32) (harg12 : arg12.IsWhole) (arg13 : Memref sig .tc .vmem S2x64x512 .f32) (harg13 : arg13.IsWhole) (x2 : Vec F S2x4096x128 .bf16) (x3 : Vec F S2x4096x128 .bf16) (x4 : Vec F S2x8x128x512 .bf16) (x5 : Vec F S2x8x128x512 .bf16) (x6 : Vec F S2x512x128 .bf16) (x7 : Vec F S2x1x128x512 .bf16) (x8 : Vec F S2x1x128x512 .bf16) (x9 : Vec F S2x4096x128 .f32) :
    Σ' (Y9 : Vec F S2x4096x128 .f32) (Y10 : Vec F S2x128x512 .f32),
      { Y11 : Vec F S128x512 .bf16 // ∀ K : PUnit → sProp 𝕄,
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare Y9 ∗ owns (c : Thread nD τ) arg10 fullShare Y10 ∗ owns (c : Thread nD τ) arg11 fullShare Y11 ∗ (∃ d, owns (c : Thread nD τ) arg12 fullShare d) ∗ (∃ d, owns (c : Thread nD τ) arg13 fullShare d)) -∗ K ⟨⟩))
          ⊢ wp frame (wpE (defs₀ (F := F)) 𝒱₀ (c : Thread nD τ) none) Set.univ (cc0_attn_backward (F := F) i arg2 harg2 arg3 harg3 arg4 harg4 arg5 harg5 arg6 harg6 arg7 harg7 arg8 harg8 arg9 harg9 arg10 harg10 arg11 harg11 arg12 harg12 arg13 harg13) K } := by
  refine ⟨?_, ?_, ?_, fun K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    obtain rfl := harg9.eq_unread hf9

    sl_unfold [cc0_attn_backward]
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro; rfl
    isplitl [H10]
    · iexists _; isplitr; swap; · iexact H10
      ipureintro; rw [View.read_writes_eq_canon (Val := Elt F) arg10.view f10]; exact View.cover_of_tiled (Val := Elt F) _ S2x128x512.size rfl
    isplitl [H11]
    · iexists _; isplitr; swap; · iexact H11
      ipureintro; rw [View.read_writes_eq_canon (Val := Elt F) arg11.view f11]; exact View.cover_of_tiled (Val := Elt F) _ S64x512.size rfl
    isplitl [H12]
    · iexists _; iexists _; isplitr; swap; · iexact H12
      ipureintro; rfl
    iexists _; iexists _; isplitr; swap; · iexact H13
    ipureintro; rfl

end Cert.KernelIdeal.Hand
-- ==== Proof.Run.lean ====
/- The pipeline's proof data and its run: what every staging buffer holds at every grid point. -/
module

public import proofs.«01_k».proof.Proof.Body
public import proofs.«01_k».proof.Proof.Gen.KernelIdeal.Frame
public import proofs.«01_k».proof.Proof.Gen.KernelIdeal.Points

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A point's second coordinate, the key tile. -/
theorem coord1 : ∀ t : Fin cfg0.N, (grid0.coords t 1).val = t.val % 8 := by decide +kernel

theorem cond1_iff : ∀ i : grid0.Coords, (Scalar.cmpi .ne (Scalar.extui (Scalar.cmpi .eq (BitVec.ofNat 32 (i 1).val) 0#32) : BitVec 32) 0#32 = 1#1) ↔ (i 1).val = 0 := by decide +kernel

section Cases
variable (t : Fin cfg0.N)
theorem h1_first (h : t.val % 8 = 0) : Scalar.cmpi .ne (Scalar.extui (Scalar.cmpi .eq (BitVec.ofNat 32 (grid0.coords t 1).val) 0#32) : BitVec 32) 0#32 = 1#1 := (cond1_iff _).2 ((coord1 t).trans h)
theorem h1_later (h : ¬ t.val % 8 = 0) : ¬ Scalar.cmpi .ne (Scalar.extui (Scalar.cmpi .eq (BitVec.ofNat 32 (grid0.coords t 1).val) 0#32) : BitVec 32) 0#32 = 1#1 := fun e => h ((coord1 t).symm.trans ((cond1_iff _).1 e))
theorem h2_even (h : t.val % 8 % 2 = 0) : k0_cond2 (grid0.coords t) = 1#1 := (cond2_iff _).2 (by rw [coord1]; exact h)
theorem h2_odd (h : ¬ t.val % 8 % 2 = 0) : ¬ k0_cond2 (grid0.coords t) = 1#1 := fun e => h (by rw [← coord1]; exact (cond2_iff _).1 e)
theorem h3_even (h : t.val % 8 % 2 = 0) : ¬ k0_cond3 (grid0.coords t) = 1#1 := fun e => by
  have := (cond3_iff _).1 e; rw [coord1] at this; omega
theorem h3_odd (h : ¬ t.val % 8 % 2 = 0) : k0_cond3 (grid0.coords t) = 1#1 := (cond3_iff _).2 (by rw [coord1]; omega)
theorem even_of_first (h : t.val % 8 = 0) : t.val % 8 % 2 = 0 := by rw [h]
end Cases

/-- What the body leaves at a point in its three result blocks, from what the query gradient's block held. -/
def point (c : Dev nD) (t : Fin cfg0.N) (x9 : Vec F S2x4096x128 .f32) : Vec F S2x4096x128 .f32 × Vec F S2x128x512 .f32 × Vec F S128x512 .bf16 :=
  if h : t.val % 8 = 0 then
    let r := runFirst c (grid0.coords t) (h1_first t h) (h2_even t (even_of_first t h)) (h3_even t (even_of_first t h)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t)
    (r.1, r.2.1, r.2.2.1)
  else if h2 : t.val % 8 % 2 = 0 then
    let r := runOdd c (grid0.coords t) (h1_later t h) (h2_even t h2) (h3_even t h2) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) x9
    (r.1, r.2.1, r.2.2.1)
  else
    let r := runEven c (grid0.coords t) (h1_later t h) (h2_odd t h2) (h3_odd t h2) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) x9
    (r.1, r.2.1, r.2.2.1)

theorem point_first (c : Dev nD) (t : Fin cfg0.N) (x9 : Vec F S2x4096x128 .f32) (h : t.val % 8 = 0) : point m c t x9 =
    ((runFirst c (grid0.coords t) (h1_first t h) (h2_even t (even_of_first t h)) (h3_even t (even_of_first t h)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t)).1,
     (runFirst c (grid0.coords t) (h1_first t h) (h2_even t (even_of_first t h)) (h3_even t (even_of_first t h)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t)).2.1,
     (runFirst c (grid0.coords t) (h1_first t h) (h2_even t (even_of_first t h)) (h3_even t (even_of_first t h)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t)).2.2.1) := by
  rw [point, dif_pos h]

theorem point_odd (c : Dev nD) (t : Fin cfg0.N) (x9 : Vec F S2x4096x128 .f32) (h : ¬ t.val % 8 = 0) (h2 : t.val % 8 % 2 = 0) : point m c t x9 =
    ((runOdd c (grid0.coords t) (h1_later t h) (h2_even t h2) (h3_even t h2) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) x9).1,
     (runOdd c (grid0.coords t) (h1_later t h) (h2_even t h2) (h3_even t h2) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) x9).2.1,
     (runOdd c (grid0.coords t) (h1_later t h) (h2_even t h2) (h3_even t h2) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) x9).2.2.1) := by
  rw [point, dif_neg h, dif_pos h2]

theorem point_even (c : Dev nD) (t : Fin cfg0.N) (x9 : Vec F S2x4096x128 .f32) (h : ¬ t.val % 8 = 0) (h2 : ¬ t.val % 8 % 2 = 0) : point m c t x9 =
    ((runEven c (grid0.coords t) (h1_later t h) (h2_odd t h2) (h3_odd t h2) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) x9).1,
     (runEven c (grid0.coords t) (h1_later t h) (h2_odd t h2) (h3_odd t h2) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) x9).2.1,
     (runEven c (grid0.coords t) (h1_later t h) (h2_odd t h2) (h3_odd t h2) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) x9).2.2.1) := by
  rw [point, dif_neg h, dif_neg h2]

/-- What the query gradient's block holds before point `n`. -/
def prior (c : Dev nD) : ℕ → Vec F S2x4096x128 .f32
  | 0 => View.canon (Val := Elt F) []
  | n + 1 => if h : n < cfg0.N then (point m c ⟨n, h⟩ (prior c n)).1 else prior c n

theorem prior_succ (c : Dev nD) (t : Fin cfg0.N) : prior m c (t.val + 1) = (point m c t (prior m c t.val)).1 := by
  rw [prior, dif_pos t.isLt]

/-- The arrays as the region finds them; after the body each operand's buffer at its block and the results' at what the
    body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (point m c t (prior m c t.val)).1
    | ⟨8, _⟩ => (point m c t (prior m c t.val)).2.1
    | ⟨9, _⟩ => (point m c t (prior m c t.val)).2.2
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (point m c t (prior m c t.val)).1 := by dsimp only [dats]
theorem after0_8 (c : Dev nD) (t : Fin cfg0.N) : (dats m 0 c).after 8 t = (point m c t (prior m c t.val)).2.1 := by dsimp only [dats]
theorem after0_9 (c : Dev nD) (t : Fin cfg0.N) : (dats m 0 c).after 9 t = (point m c t (prior m c t.val)).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- At a later key tile the query gradient's block holds what the tile before left. -/
theorem before0_7 (c : Dev nD) (t : Fin cfg0.N) (h : ¬ t.val % 8 = 0) (d) : (dats m 0 c).before 7 t d = prior m c t.val := by
  have ht : t.val ≠ 0 := fun e => h (by rw [e])
  rw [Dat.before_out_kept (dats m 0 c) 7 rfl t ht
    (Bool.eq_false_iff.2 fun e => by have := (flush0_7 _).1 e; simp only at this; omega) (fun _ => rfl) (fun _ _ => rfl)]
  rw [after0_7, ← prior_succ]
  congr 1
  exact Nat.sub_add_cancel (Nat.pos_of_ne_zero ht)

/-- Scratch is held whole at some contents. -/
theorem scratch_eq (c : Dev nD) : (Pipeline.scopedRest (Ix := Unit) (Name := ℕ) (U := UR sig nD τ) (Lvl := ℕ) (Val := Elt F) spec0 c : sProp 𝕄)
    = iprop((∃ d, owns (c : Thread nD τ) (Memref.whole cc0_scratch0) fullShare d) ∗ (∃ d, owns (c : Thread nD τ) (Memref.whole cc0_scratch1) fullShare d)) := by
  rw [scopedRest0_eq]
  simp only [owns_whole]

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8, after0_9]
  rw [show (dats m 0 c).Φ t.castSucc = iprop(Pipeline.scopedRest spec0 c ∗ ∃ r, prngReg c r) from rfl, scratch_eq]
  by_cases h : t.val % 8 = 0
  · rw [point_first m c t _ h]
    iintro ⟨⟨⟨S0, S1⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runFirst c (grid0.coords t) (h1_first t h) (h2_even t (even_of_first t h)) (h3_even t (even_of_first t h)) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)).2.2.2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [S0]; · iexact S0
    isplitl [S1]; · iexact S1
    iintro ⟨H0, H1, H2, H3, H4, H5, H6, H7, H8, H9, S0, S1⟩
    isplitl [HP S0 S1]
    · isplitl [S0 S1]
      · isplitl [S0]; · iexact S0
        iexact S1
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · simp only [before0_7 m c t h]
    by_cases h2 : t.val % 8 % 2 = 0
    · rw [point_odd m c t _ h h2]
      iintro ⟨⟨⟨S0, S1⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runOdd c (grid0.coords t) (h1_later t h) (h2_even t h2) (h3_even t h2) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (prior m c t.val)).2.2.2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [S0]; · iexact S0
      isplitl [S1]; · iexact S1
      iintro ⟨H0, H1, H2, H3, H4, H5, H6, H7, H8, H9, S0, S1⟩
      isplitl [HP S0 S1]
      · isplitl [S0 S1]
        · isplitl [S0]; · iexact S0
          iexact S1
        iexact HP
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [point_even m c t _ h h2]
      iintro ⟨⟨⟨S0, S1⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runEven c (grid0.coords t) (h1_later t h) (h2_odd t h2) (h3_odd t h2) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (prior m c t.val)).2.2.2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [S0]; · iexact S0
      isplitl [S1]; · iexact S1
      iintro ⟨H0, H1, H2, H3, H4, H5, H6, H7, H8, H9, S0, S1⟩
      isplitl [HP S0 S1]
      · isplitl [S0 S1]
        · isplitl [S0]; · iexact S0
          iexact S1
        iexact HP
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

set_option backward.isDefEq.respectTransparency.types false in
/-- Every execution of @main ends, with every array of the pipeline at what the proof data say and all counters zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) sfx_sub sfx_fresh sfx_keeps (hmain := hmain m 𝒱₀) (hA := fun _ _ => rfl) (hΦ := fun _ _ => rfl)

/-- Every execution ends with the arguments as they were and all counters zero, at any element values. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.KernelIdeal.Hand
-- ==== Proof.FrameKernel.lean ====
/- The frame of the kernel over the machine's floats, from the run proved over any element values. -/
module

public import proofs.«01_k».proof.Defs
public import proofs.«01_k».proof.Proof.Run
public import proofs.«01_k».proof.Proof.Gen.Kernel

@[expose] public section

set_option maxRecDepth 65536

noncomputable section

namespace Cert.KernelIdeal.Hand

open Idealize.ShloMosaic Idealize.ShloMosaic.TcCoe Idealize.SL.Sem

/-- Over the machine's floats the named mask constant is its own word. -/
@[reducible] def wordNamed : Named Bits where
  named _ _ {φ} b := FloatOps.ofBits φ b

section
local instance : Named Bits := wordNamed
local instance : Cert.Kernel.Facts := Cert.Kernel.Gen.facts
local instance : Cert.KernelIdeal.Facts := Cert.KernelIdeal.Gen.facts

/-! With the constant its own word, the two printed programs are one program. -/

set_option maxHeartbeats 8000000 in
theorem main_part0_eq : Cert.Kernel.main_part0 (F := Bits) = Cert.KernelIdeal.main_part0 (F := Bits) := rfl

set_option maxHeartbeats 8000000 in
theorem main_part1_eq : Cert.Kernel.main_part1 (F := Bits) = Cert.KernelIdeal.main_part1 (F := Bits) := rfl

theorem main_part2_eq : Cert.Kernel.main_part2 (F := Bits) = Cert.KernelIdeal.main_part2 (F := Bits) := rfl

theorem defs₀_eq : Cert.Kernel.defs₀ (F := Bits) = Cert.KernelIdeal.defs₀ (F := Bits) := by
  refine congrArg Defs.onTc (funext fun l => ?_)
  fin_cases l
  rfl

theorem defs_eq : Cert.Kernel.defs (F := Bits) = Cert.KernelIdeal.defs (F := Bits) :=
  congrArg (Pipeline.defs Cert.KernelIdeal.pcfgs) defs₀_eq

theorem main_eq : Cert.Kernel.main (F := Bits) = Cert.KernelIdeal.main (F := Bits) := by
  funext d
  unfold Cert.KernelIdeal.main
  rw [← main_part0_eq, ← main_part1_eq, ← main_part2_eq]
  rfl

/-- Every execution of the kernel over the machine's floats ends, its arguments as they were and all counters zero. -/
theorem frame_kernel : Cert.quiescent_Kernel (hKernel := Cert.Kernel.Gen.facts) := fun m g _ => by
  have h := frame_main (F := Bits) m g
  rw [← defs_eq, ← main_eq] at h
  exact h

end

end Cert.KernelIdeal.Hand
-- ==== Proof.Frames.lean ====
/- The frames of the idealized programs, and the ledger of the idealization. -/
module

public import proofs.«01_k».proof.Defs
public import proofs.«01_k».proof.Proof.Run
public import proofs.«01_k».proof.Proof.Gen.ReferenceIdeal
public import proofs.«01_k».proof.Proof.Gen.ReferenceIdeal.Run

@[expose] public section

noncomputable section

namespace Cert.Frames

open Idealize.ShloMosaic Idealize.SL.Sem

local instance : Cert.KernelIdeal.Facts := Cert.KernelIdeal.Gen.facts
local instance : Cert.ReferenceIdeal.Facts := Cert.ReferenceIdeal.Gen.facts

/-- Every execution of the idealized kernel ends, its arguments as they were and all counters zero. -/
theorem frame_kernelIdeal : Cert.quiescent_KernelIdeal := fun m g _ =>
  Cert.KernelIdeal.Hand.frame_main (F := Ideal) m g

/-- Every execution of the reference ends, its arguments as they were and all counters zero. -/
theorem frame_referenceIdeal : Cert.quiescent_ReferenceIdeal := fun m g _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m g)

/-- The one rewrite of the idealization: the mask's constant −10³⁰ is named −∞. -/
theorem preserves : Cert.preserves_Kernel_KernelIdeal :=
  IdealRules.named_const.statement Cert.KernelIdeal.κ "mask" .f32 0xF149F2CA#32 ⊥ rfl

end Cert.Frames

end
-- ==== Proof.Spec.lean ====
/- The attention's gradients over the reals: the functions of the arguments that both programs are shown to compute,
   and the few facts of the extended reals that the two readings share. -/
module

public import Idealize.ShloMosaic.Lib.Pipeline.Value
public import Idealize.ShloMosaic.Lib.ValueIdx
public import Idealize.ShloMosaic.PureOps.Ideal.Laws
public import Idealize.ShloMosaic.PureOps.Reduce
public import Idealize.ShloMosaic.Lib.IdealHost

@[expose] public section

noncomputable section

namespace Cert.Spec

open Idealize.ShloMosaic

section Real

variable (q k v : Fin 16 → Fin 4096 → Fin 64 → ℝ) (c : Fin 16 → Fin 4096 → ℝ) (ct : Fin 16 → Fin 4096 → Fin 64 → ℝ)

/-- The logit of row `n` against row `s`: the scaled product, raised by the row's forget sum and lowered by the other's. -/
def logit (h : Fin 16) (n s : Fin 4096) : ℝ := (∑ d, q h n d * k h s d) * (1 / 8) + c h n - c h s

/-- The exponential of the logit less a row's shift, on the causal half; zero elsewhere. -/
def expo (M : Fin 16 → Fin 4096 → ℝ) (h : Fin 16) (n s : Fin 4096) : ℝ :=
  if s.val ≤ n.val then Real.exp (logit q k c h n s - M h n) else 0

/-- The row's sum of the exponentials, at a shift. -/
def tot (M : Fin 16 → Fin 4096 → ℝ) (h : Fin 16) (n : Fin 4096) : ℝ := ∑ s, expo q k c M h n s

/-- The attention's weight: the exponential over its row's sum. -/
def prob (h : Fin 16) (n s : Fin 4096) : ℝ := expo q k c (fun _ _ => 0) h n s / tot q k c (fun _ _ => 0) h n

/-- The cotangent of the weights. -/
def wgt (h : Fin 16) (n s : Fin 4096) : ℝ := ∑ d, ct h n d * v h s d

/-- The row's sum of the weights against their cotangent. -/
def dlt (h : Fin 16) (n : Fin 4096) : ℝ := ∑ s, prob q k c h n s * wgt v ct h n s

/-- The cotangent of the logits. -/
def dlog (h : Fin 16) (n s : Fin 4096) : ℝ := prob q k c h n s * (wgt v ct h n s - dlt q k v c ct h n)

/-- The query gradient. -/
def gradQ (h : Fin 16) (n : Fin 4096) (d : Fin 64) : ℝ := ∑ s, dlog q k v c ct h n s * (1 / 8) * k h s d

/-- The key gradient. -/
def gradK (h : Fin 16) (s : Fin 4096) (d : Fin 64) : ℝ := ∑ n, dlog q k v c ct h n s * (1 / 8) * q h n d

/-- The value gradient. -/
def gradV (h : Fin 16) (s : Fin 4096) (d : Fin 64) : ℝ := ∑ n, ct h n d * prob q k c h n s

/-- The forget sums' gradient: what each row gives as a query less what it gives as a key. -/
def gradC (h : Fin 16) (n : Fin 4096) : ℝ := ∑ s, dlog q k v c ct h n s - ∑ n', dlog q k v c ct h n' n

theorem expo_nonneg (M : Fin 16 → Fin 4096 → ℝ) (h : Fin 16) (n s : Fin 4096) : 0 ≤ expo q k c M h n s := by
  unfold expo
  split
  · exact (Real.exp_pos _).le
  · exact le_rfl

/-- A row's sum is positive: the diagonal's exponential is. -/
theorem tot_pos (M : Fin 16 → Fin 4096 → ℝ) (h : Fin 16) (n : Fin 4096) : 0 < tot q k c M h n := by
  refine Finset.sum_pos' (fun s _ => expo_nonneg q k c M h n s) ⟨n, Finset.mem_univ _, ?_⟩
  unfold expo
  rw [if_pos le_rfl]
  exact Real.exp_pos _

/-- A shift multiplies every exponential of the row by one number. -/
theorem expo_shift (M : Fin 16 → Fin 4096 → ℝ) (h : Fin 16) (n s : Fin 4096) :
    expo q k c M h n s = expo q k c (fun _ _ => 0) h n s * Real.exp (-M h n) := by
  unfold expo
  split
  · rw [sub_zero, ← Real.exp_add, sub_eq_add_neg]
  · rw [zero_mul]

theorem tot_shift (M : Fin 16 → Fin 4096 → ℝ) (h : Fin 16) (n : Fin 4096) :
    tot q k c M h n = tot q k c (fun _ _ => 0) h n * Real.exp (-M h n) := by
  unfold tot
  rw [Finset.sum_mul]
  exact Finset.sum_congr rfl fun s _ => expo_shift q k c M h n s

/-- The weight does not depend on the row's shift. -/
theorem expo_div_tot (M : Fin 16 → Fin 4096 → ℝ) (h : Fin 16) (n s : Fin 4096) :
    expo q k c M h n s / tot q k c M h n = prob q k c h n s := by
  rw [expo_shift, tot_shift, mul_div_mul_right _ _ (Real.exp_pos _).ne']
  rfl

/-- The weight is zero off the causal half. -/
theorem prob_off (h : Fin 16) (n s : Fin 4096) (hs : ¬ s.val ≤ n.val) : prob q k c h n s = 0 := by
  unfold prob expo
  rw [if_neg hs, zero_div]

theorem dlog_off (h : Fin 16) (n s : Fin 4096) (hs : ¬ s.val ≤ n.val) : dlog q k v c ct h n s = 0 := by
  unfold dlog
  rw [prob_off q k c h n s hs, zero_mul]

/-- The weight by the row's log sum: what the kernel exponentiates. -/
theorem exp_lse (M : Fin 16 → Fin 4096 → ℝ) (h : Fin 16) (n s : Fin 4096) :
    (if s.val ≤ n.val then Real.exp (logit q k c h n s - (M h n + Real.log (tot q k c M h n))) else 0) = prob q k c h n s := by
  rw [← expo_div_tot q k c M h n s]
  unfold expo
  split
  · rw [← sub_sub, Real.exp_sub, Real.exp_log (tot_pos q k c M h n)]
  · rw [zero_div]

/-- The reference's cotangent of the logits, from the shifted exponentials and their sum. -/
theorem dlog_ref (M : Fin 16 → Fin 4096 → ℝ) (h : Fin 16) (n s : Fin 4096) :
    (wgt v ct h n s / tot q k c M h n
        + -∑ s', wgt v ct h n s' * (1 / (tot q k c M h n * tot q k c M h n)) * expo q k c M h n s') * expo q k c M h n s
      = dlog q k v c ct h n s := by
  have hL : tot q k c M h n ≠ 0 := (tot_pos q k c M h n).ne'
  have hE : ∀ s', expo q k c M h n s' = prob q k c h n s' * tot q k c M h n := fun s' => by
    rw [← expo_div_tot q k c M h n s', div_mul_cancel₀ _ hL]
  unfold dlog dlt
  have hS : (∑ s', wgt v ct h n s' * (1 / (tot q k c M h n * tot q k c M h n)) * expo q k c M h n s')
      = (∑ s', prob q k c h n s' * wgt v ct h n s') / tot q k c M h n := by
    rw [Finset.sum_div]
    refine Finset.sum_congr rfl fun s' _ => ?_
    rw [hE s']
    field_simp
  rw [hS, hE s]
  field_simp
  ring

end Real

/-! ### The extended reals -/

/-- A real's coercion is a sum's. -/
theorem coe_sum {ι : Type} (t : Finset ι) (f : ι → ℝ) : ((∑ a ∈ t, f a : ℝ) : EReal) = ∑ a ∈ t, (f a : EReal) := by
  classical
  induction t using Finset.induction_on with
  | empty => simp
  | insert a t ha ih => rw [Finset.sum_insert ha, Finset.sum_insert ha, EReal.coe_add, ih]

/-- Division of reals. -/
theorem div_real (a b : ℝ) (hb : b ≠ 0) : Ideal.div (a : EReal) (b : EReal) = ((a / b : ℝ) : EReal) := by
  rw [Ideal.div_coe hb, ← EReal.coe_mul, mul_one_div]

/-- The pattern of one eighth. -/
theorem ofBits_eighth : Ideal.ofBits .f32 0x3E000000#32 = (((1 : ℝ) / 8 : ℝ) : EReal) := by
  simp [Ideal.ofBits, Ideal.ieee, -EReal.coe_mul]; norm_num

/-- The pattern of minus infinity. -/
theorem ofBits_ninf : Ideal.ofBits .f32 0xFF800000#32 = (⊥ : EReal) := by
  simp [Ideal.ofBits, Ideal.ieee]

/-- The pattern of plus infinity. -/
theorem ofBits_inf : Ideal.ofBits .f32 0x7F800000#32 = (⊤ : EReal) := by
  simp [Ideal.ofBits, Ideal.ieee]

theorem max_real (l : List EReal) (h : ∀ y ∈ l, y ≠ ⊤) (a : EReal) (ha : a ≠ ⊤) : l.foldl max a ≠ ⊤ := by
  induction l generalizing a with
  | nil => exact ha
  | cons y l ih =>
    refine ih (fun z hz => h z (List.mem_cons_of_mem _ hz)) _ ?_
    have hy := h y (List.mem_cons_self ..)
    intro e
    rcases max_choice a y with h' | h' <;> rw [h'] at e
    · exact ha e
    · exact hy e

theorem le_foldl_max (l : List EReal) (a : EReal) : a ≤ l.foldl max a := by
  induction l generalizing a with
  | nil => exact le_rfl
  | cons y l ih => exact (le_max_left a y).trans (ih _)

theorem mem_le_foldl_max (l : List EReal) (a y : EReal) (hy : y ∈ l) : y ≤ l.foldl max a := by
  induction l generalizing a with
  | nil => cases hy
  | cons z l ih =>
    rcases List.mem_cons.mp hy with rfl | hy
    · exact (le_max_right a y).trans (le_foldl_max l _)
    · exact ih _ hy

/-- A row's maximum from minus infinity is a real when no entry is plus infinity and some entry is a real. -/
theorem reduce_max_real {s t u : Shape} {axes : List (Fin s.rank)} (x : s.Idx → EReal) (init : u.Idx → EReal)
    (h : s.ReducesTo axes t) (hu : 0 < u.numel) (j : t.Idx) (hinit : ∀ i, init i = ⊥)
    (htop : ∀ i, x i ≠ ⊤) (i₀ : s.Idx) (hi : h.drop i₀ = j) (hbot : x i₀ ≠ ⊥) :
    ∃ M : ℝ, Host.reduce (FloatOps.maximumf (F := Ideal) (φ := .f32)) x init h hu j = (M : EReal) := by
  have e : Host.reduce (FloatOps.maximumf (F := Ideal) (φ := .f32)) x init h hu j
      = ((((List.finRange s.numel).filter fun n => h.drop (s.rowMajor.symm n) = j).map fun n => x (s.rowMajor.symm n))).foldl max ⊥ := by
    unfold Host.reduce
    rw [List.foldl_map, hinit]
    rfl
  have h1 : Host.reduce (FloatOps.maximumf (F := Ideal) (φ := .f32)) x init h hu j ≠ ⊤ := by
    rw [e]
    refine max_real _ (fun y hy => ?_) _ bot_ne_top
    obtain ⟨n, _, rfl⟩ := List.mem_map.mp hy
    exact htop _
  have h2 : Host.reduce (FloatOps.maximumf (F := Ideal) (φ := .f32)) x init h hu j ≠ ⊥ := by
    rw [e]
    intro hb
    refine hbot (le_bot_iff.mp (hb ▸ mem_le_foldl_max _ ⊥ (x i₀) (List.mem_map.mpr ⟨s.rowMajor i₀, ?_, ?_⟩)))
    · rw [List.mem_filter]
      refine ⟨List.mem_finRange _, ?_⟩
      rw [Equiv.symm_apply_apply]
      exact decide_eq_true hi
    · rw [Equiv.symm_apply_apply]
  exact ⟨_, (EReal.coe_toReal h1 h2).symm⟩

end Cert.Spec

end
-- ==== Proof.RefValue.lean ====
/- What the reference program's results hold at an index, when its arguments are reals. -/
module

public import proofs.«01_k».proof.Proof.Spec
public import proofs.«01_k».proof.Proof.Gen.ReferenceIdeal.Read
public import Idealize.ShloMosaic.Lib.WordCmp
public import Idealize.ShloMosaic.Lib.Pointwise.Index

@[expose] public section

noncomputable section

namespace Cert.ReferenceIdeal.Hand

open Cert.ReferenceIdeal Cert.ReferenceIdeal.Gen Cert.ReferenceIdeal.Read Cert.Spec
open Idealize.ShloMosaic Idealize.ShloMosaic.TcCoe

variable {q k v : Fin 16 → Fin 4096 → Fin 64 → ℝ} {c : Fin 16 → Fin 4096 → ℝ} {ct : Fin 16 → Fin 4096 → Fin 64 → ℝ}
variable {x0 x1 x2 x4 : (⟨S16x4096x64, .f32⟩ : BufTy).Contents (Elt Ideal)} {x3 : (⟨S16x4096, .f32⟩ : BufTy).Contents (Elt Ideal)}

section Logit

variable (h0 : ∀ i : S16x4096x64.Idx, x0 i = ((q (i 0) (i 1) (i 2) : ℝ) : EReal))
  (h1 : ∀ i : S16x4096x64.Idx, x1 i = ((k (i 0) (i 1) (i 2) : ℝ) : EReal))
  (h3 : ∀ i : S16x4096.Idx, x3 i = ((c (i 0) (i 1) : ℝ) : EReal))
include h0 h1

theorem r1 (i : S16x4096x4096.Idx) :
    val_main_v1 (F := Ideal) x0 x1 i = ((∑ d, q (i 0) (i 1) d * k (i 0) (i 2) d : ℝ) : EReal) := by
  rw [val_main_v1_apply, coe_sum]
  refine Finset.sum_congr rfl fun d _ => ?_
  rw [h0, h1, EReal.coe_mul]
  rfl

theorem r3 (i : S16x4096x4096.Idx) :
    val_main_v3 (F := Ideal) x0 x1 i = (((∑ d, q (i 0) (i 1) d * k (i 0) (i 2) d) * (1 / 8) : ℝ) : EReal) := by
  rw [val_main_v3_apply, r1 h0 h1, val_main_v2_apply, val_main_cst_apply, Ideal.mulf_def, Ideal.ofBits_def, ofBits_eighth,
    ← EReal.coe_mul]

include h3

theorem r9 (i : S16x4096x4096.Idx) :
    val_main_v9 (F := Ideal) x0 x1 x3 i = ((logit q k c (i 0) (i 1) (i 2) : ℝ) : EReal) := by
  rw [val_main_v9_apply, val_main_v6_apply, r3 h0 h1, val_main_v5_apply, val_main_v4_apply, val_main_v8_apply,
    val_main_v7_apply, h3, h3, Ideal.subf_def, Ideal.addf_def, ← EReal.coe_add, ← EReal.coe_sub]
  rfl

omit h0 h1 h3 in
theorem r15m (i : S16x4096x4096.Idx) :
    val_main_v15_1 (F := Ideal) i = if (i 2).val ≤ (i 1).val then 1#1 else 0#1 := by
  rw [val_main_v15_1_apply, val_main_v14_apply, val_main_v12_apply, val_main_v10_apply, val_main_v0_apply, val_main_v13_apply,
    val_main_v11_apply, val_main_v0_apply]
  show IntOp.cmpi .sle (BitVec.ofNat 32 (i 2).val) (BitVec.ofNat 32 (i 1).val) = _
  have ha : (i 1).val < 4096 := (i 1).isLt
  have hb : (i 2).val < 4096 := (i 2).isLt
  rw [WordCmp.cmpi_sle_ofNat (by omega) (by omega)]
  by_cases h : (i 2).val ≤ (i 1).val
  · rw [if_pos h, decide_eq_true h]
    rfl
  · rw [if_neg h, decide_eq_false h]
    rfl

theorem r15 (i : S16x4096x4096.Idx) :
    val_main_v15_0 (F := Ideal) x0 x1 x3 i
      = if (i 2).val ≤ (i 1).val then ((logit q k c (i 0) (i 1) (i 2) : ℝ) : EReal) else ⊥ := by
  rw [val_main_v15_0_apply, r15m, r9 h0 h1 h3, val_main_call0_v2_apply, val_main_call0_v0_apply, val_main_cst_0_apply,
    Ideal.ofBits_def, ofBits_ninf]
  unfold Scalar.select
  by_cases h : (i 2).val ≤ (i 1).val
  · rw [if_pos h, if_pos h]
    exact if_pos rfl
  · rw [if_neg h, if_neg h]
    exact if_neg (by decide)

theorem r16 (i : S16x4096.Idx) : ∃ M : ℝ, val_main_v16 (F := Ideal) x0 x1 x3 i = (M : EReal) := by
  unfold val_main_v16
  refine reduce_max_real _ _ _ _ i (fun _ => ofBits_ninf) (fun j => ?_)
    (fun a => match a with | ⟨0, _⟩ => ⟨(i 0).val, (i 0).isLt⟩ | ⟨1, _⟩ => ⟨(i 1).val, (i 1).isLt⟩ | ⟨2, _⟩ => ⟨0, Nat.succ_pos 4095⟩) ?_ ?_
  · rw [r15 h0 h1 h3]
    split
    · exact EReal.coe_ne_top _
    · exact bot_ne_top
  · refine funext fun b => Fin.ext ?_
    match b with
    | ⟨0, _⟩ => exact Shape.ReducesTo.drop_apply_val_of_eq reducesTo_S16x4096x4096_S16x4096_d2 _ 0 0
    | ⟨1, _⟩ => exact Shape.ReducesTo.drop_apply_val_of_eq reducesTo_S16x4096x4096_S16x4096_d2 _ 1 1
  · rw [r15 h0 h1 h3, if_pos (Nat.zero_le _)]
    exact EReal.coe_ne_bot _

/-- The reference's row shifts are reals. -/
theorem shift : ∃ M : Fin 16 → Fin 4096 → ℝ, ∀ i : S16x4096.Idx,
    val_main_v23 (F := Ideal) x0 x1 x3 i = ((M (i 0) (i 1) : ℝ) : EReal) := by
  have hM : ∀ (a : Fin 16) (b : Fin 4096), ∃ M : ℝ, val_main_v16 (F := Ideal) x0 x1 x3 (ix2 a b) = (M : EReal) :=
    fun a b => r16 h0 h1 h3 _
  choose M hM using hM
  refine ⟨M, fun i => ?_⟩
  have e : i = ix2 (i 0) (i 1) := funext fun a => match a with | ⟨0, _⟩ => rfl | ⟨1, _⟩ => rfl
  rw [val_main_v23_apply, val_main_v22_apply, val_main_cst_3_apply, Ideal.maximumf_def, Ideal.ofBits_def, ofBits_ninf, max_bot_left]
  exact (congrArg _ e).trans (hM _ _)

variable {M : Fin 16 → Fin 4096 → ℝ} (hM : ∀ i : S16x4096.Idx, val_main_v23 (F := Ideal) x0 x1 x3 i = ((M (i 0) (i 1) : ℝ) : EReal))
include hM

theorem r36 (i : S16x4096x4096.Idx) :
    val_main_v36 (F := Ideal) x0 x1 x3 i = ((expo q k c M (i 0) (i 1) (i 2) : ℝ) : EReal) := by
  rw [val_main_v36_apply, val_main_v35_apply, r15 h0 h1 h3, val_main_v34_apply, val_main_v33_apply, hM, Ideal.subf_def]
  unfold expo
  show Ideal.exp _ = _
  by_cases h : (i 2).val ≤ (i 1).val
  · rw [if_pos h, if_pos h, ← EReal.coe_sub]
    rfl
  · rw [if_neg h, if_neg h, EReal.bot_sub]
    rfl

theorem r37 (i : S16x4096.Idx) :
    val_main_v37 (F := Ideal) x0 x1 x3 i = ((tot q k c M (i 0) (i 1) : ℝ) : EReal) := by
  rw [val_main_v37_apply, val_main_cst_9_apply, Ideal.ofBits_def, Ideal.ofBits_zero_f32, zero_add]
  refine Eq.trans ?_ (coe_sum _ _).symm
  refine Finset.sum_congr rfl fun s _ => ?_
  rw [r36 h0 h1 h3 hM]
  rfl

theorem r38 (i : S16x4096x1.Idx) :
    val_main_v38 (F := Ideal) x0 x1 x3 i = ((tot q k c M (i 0) (i 1) : ℝ) : EReal) := by
  rw [val_main_v38_apply, r37 h0 h1 h3 hM]
  rfl

theorem r40 (i : S16x4096x4096.Idx) :
    val_main_v40 (F := Ideal) x0 x1 x3 i = ((prob q k c (i 0) (i 1) (i 2) : ℝ) : EReal) := by
  rw [val_main_v40_apply, r36 h0 h1 h3 hM, val_main_v39_apply, r38 h0 h1 h3 hM]
  show Ideal.div _ _ = _
  exact (div_real _ _ (tot_pos q k c M _ _).ne').trans (congrArg _ (expo_div_tot q k c M _ _ _))

theorem r43 (i : S16x4096x1.Idx) :
    val_main_v43 (F := Ideal) x0 x1 x3 i = ((1 / (tot q k c M (i 0) (i 1) * tot q k c M (i 0) (i 1)) : ℝ) : EReal) := by
  rw [val_main_v43_apply, val_main_v42_apply, val_main_cst_10_apply, val_main_v41_apply, r38 h0 h1 h3 hM, Ideal.mulf_def,
    Ideal.ofBits_def, Ideal.ofBits_one_f32, ← EReal.coe_mul]
  show Ideal.div _ _ = _
  exact div_real 1 _ (mul_ne_zero (tot_pos q k c M _ _).ne' (tot_pos q k c M _ _).ne')

end Logit

section Grad

variable (h0 : ∀ i : S16x4096x64.Idx, x0 i = ((q (i 0) (i 1) (i 2) : ℝ) : EReal))
  (h1 : ∀ i : S16x4096x64.Idx, x1 i = ((k (i 0) (i 1) (i 2) : ℝ) : EReal))
  (h2 : ∀ i : S16x4096x64.Idx, x2 i = ((v (i 0) (i 1) (i 2) : ℝ) : EReal))
  (h3 : ∀ i : S16x4096.Idx, x3 i = ((c (i 0) (i 1) : ℝ) : EReal))
  (h4 : ∀ i : S16x4096x64.Idx, x4 i = ((ct (i 0) (i 1) (i 2) : ℝ) : EReal))
include h2 h4

theorem r47 (i : S16x4096x4096.Idx) :
    val_main_v47 (F := Ideal) x2 x4 i = ((wgt v ct (i 0) (i 1) (i 2) : ℝ) : EReal) := by
  rw [val_main_v47_apply]
  refine Eq.trans ?_ (coe_sum _ _).symm
  refine Finset.sum_congr rfl fun d _ => ?_
  rw [h2, h4, EReal.coe_mul]
  rfl

include h0 h1 h3

variable {M : Fin 16 → Fin 4096 → ℝ} (hM : ∀ i : S16x4096.Idx, val_main_v23 (F := Ideal) x0 x1 x3 i = ((M (i 0) (i 1) : ℝ) : EReal))
include hM

theorem r51 (i : S16x4096.Idx) :
    val_main_v51 (F := Ideal) x0 x1 x2 x3 x4 i = ((∑ s, wgt v ct (i 0) (i 1) s
      * (1 / (tot q k c M (i 0) (i 1) * tot q k c M (i 0) (i 1))) * expo q k c M (i 0) (i 1) s : ℝ) : EReal) := by
  rw [val_main_v51_apply, val_main_cst_11_apply, Ideal.ofBits_def, Ideal.ofBits_zero_f32, zero_add, coe_sum]
  refine Finset.sum_congr rfl fun s _ => ?_
  rw [val_main_v50_apply, val_main_v49_apply, r47 h2 h4, val_main_v48_apply, r43 h0 h1 h3 hM, r36 h0 h1 h3 hM, Ideal.mulf_def,
    Ideal.mulf_def, EReal.coe_mul, EReal.coe_mul]
  rfl

theorem r56 (i : S16x4096.Idx) :
    val_main_v56 (F := Ideal) x0 x1 x2 x3 x4 i = ((-∑ s, wgt v ct (i 0) (i 1) s
      * (1 / (tot q k c M (i 0) (i 1) * tot q k c M (i 0) (i 1))) * expo q k c M (i 0) (i 1) s : ℝ) : EReal) := by
  rw [val_main_v56_apply, val_main_cst_12_apply, Ideal.ofBits_def, Ideal.ofBits_zero_f32, zero_add, Fin.sum_univ_one,
    val_main_v53_apply, val_main_v52_apply]
  have e : idx_main_v52 (idx_main_v56 i 0) = i := by
    have ha : (i 0).val < 16 := (i 0).isLt
    have hb : (i 1).val < 4096 := (i 1).isLt
    refine funext fun a => Fin.ext ?_
    match a with
    | ⟨0, _⟩ => show (((i 0).val * 4096 + (i 1).val) * 1 + 0) / 4096 = (i 0).val; omega
    | ⟨1, _⟩ => show (((i 0).val * 4096 + (i 1).val) * 1 + 0) % 4096 = (i 1).val; omega
  rw [e, r51 h0 h1 h2 h3 h4 hM]
  exact (EReal.coe_neg _).symm

theorem r60 (i : S16x4096x4096.Idx) :
    val_main_v60 (F := Ideal) x0 x1 x2 x3 x4 i = ((dlog q k v c ct (i 0) (i 1) (i 2) : ℝ) : EReal) := by
  rw [val_main_v60_apply, r15m, val_main_call1_v0_apply, val_main_call1_cst_apply, Ideal.ofBits_def, Ideal.ofBits_zero_f32]
  unfold Scalar.select
  by_cases h : (i 2).val ≤ (i 1).val
  · rw [if_pos h]
    refine (if_pos rfl).trans ?_
    rw [val_main_v59_apply, val_main_v58_apply, val_main_v55_apply, r47 h2 h4, val_main_v54_apply,
      r38 h0 h1 h3 hM, val_main_v57_apply, r56 h0 h1 h2 h3 h4 hM, r36 h0 h1 h3 hM, Ideal.mulf_def, Ideal.addf_def]
    refine Eq.trans ?_ (congrArg _ (dlog_ref q k v c ct M (i 0) (i 1) (i 2)))
    rw [EReal.coe_mul, EReal.coe_add]
    exact congrArg (fun y : EReal => (y + _) * _) (div_real _ _ (tot_pos q k c M (i 0) (i 1)).ne')
  · rw [if_neg h]
    refine (if_neg (by decide)).trans ?_
    exact (congrArg (fun y : ℝ => (y : EReal)) (dlog_off q k v c ct (i 0) (i 1) (i 2) h)).symm

theorem r70 (i : S16x4096x4096.Idx) :
    val_main_v70 (F := Ideal) x0 x1 x2 x3 x4 i = ((dlog q k v c ct (i 0) (i 1) (i 2) * (1 / 8) : ℝ) : EReal) := by
  rw [val_main_v70_apply, r60 h0 h1 h2 h3 h4 hM, val_main_v69_apply, val_main_cst_17_apply, Ideal.mulf_def, Ideal.ofBits_def,
    ofBits_eighth, ← EReal.coe_mul]

omit hM

/-- The reference's query gradient. -/
theorem ref_q (i : S16x4096x64.Idx) :
    val_main_v72 (F := Ideal) x0 x1 x2 x3 x4 i = ((gradQ q k v c ct (i 0) (i 1) (i 2) : ℝ) : EReal) := by
  obtain ⟨M, hM⟩ := shift h0 h1 h3
  rw [val_main_v72_apply]
  refine Eq.trans ?_ (coe_sum _ _).symm
  refine Finset.sum_congr rfl fun s _ => ?_
  rw [r70 h0 h1 h2 h3 h4 hM, h1, EReal.coe_mul]
  rfl

/-- The reference's key gradient. -/
theorem ref_k (i : S16x4096x64.Idx) :
    val_main_v71 (F := Ideal) x0 x1 x2 x3 x4 i = ((gradK q k v c ct (i 0) (i 1) (i 2) : ℝ) : EReal) := by
  obtain ⟨M, hM⟩ := shift h0 h1 h3
  rw [val_main_v71_apply]
  refine Eq.trans ?_ (coe_sum _ _).symm
  refine Finset.sum_congr rfl fun s _ => ?_
  rw [r70 h0 h1 h2 h3 h4 hM, h0, EReal.coe_mul]
  rfl

/-- The reference's value gradient. -/
theorem ref_v (i : S16x4096x64.Idx) :
    val_main_v46 (F := Ideal) x0 x1 x3 x4 i = ((gradV q k c ct (i 0) (i 1) (i 2) : ℝ) : EReal) := by
  obtain ⟨M, hM⟩ := shift h0 h1 h3
  rw [val_main_v46_apply, val_main_v45_apply]
  refine Eq.trans ?_ (coe_sum _ _).symm
  refine Finset.sum_congr rfl fun s _ => ?_
  rw [r40 h0 h1 h3 hM, h4, EReal.coe_mul]
  rfl

/-- The reference's gradient of the forget sums. -/
theorem ref_c (i : S16x4096.Idx) :
    val_main_v68 (F := Ideal) x0 x1 x2 x3 x4 i = ((gradC q k v c ct (i 0) (i 1) : ℝ) : EReal) := by
  obtain ⟨M, hM⟩ := shift h0 h1 h3
  have ha : (i 0).val < 16 := (i 0).isLt
  have hb : (i 1).val < 4096 := (i 1).isLt
  have e1 : idx_main_v63 (idx_main_v64 i 0) = i := by
    refine funext fun a => Fin.ext ?_
    match a with
    | ⟨0, _⟩ => show (((i 0).val * 1 + 0) * 4096 + (i 1).val) / 4096 = (i 0).val; omega
    | ⟨1, _⟩ => show (((i 0).val * 1 + 0) * 4096 + (i 1).val) % 4096 = (i 1).val; omega
  have e2 : idx_main_v66 (idx_main_v67 i 0) = i := by
    refine funext fun a => Fin.ext ?_
    match a with
    | ⟨0, _⟩ => show (((i 0).val * 4096 + (i 1).val) * 1 + 0) / 4096 = (i 0).val; omega
    | ⟨1, _⟩ => show (((i 0).val * 4096 + (i 1).val) * 1 + 0) % 4096 = (i 1).val; omega
  have s1 : val_main_v64 (F := Ideal) x0 x1 x2 x3 x4 i = ((-∑ n', dlog q k v c ct (i 0) n' (i 1) : ℝ) : EReal) := by
    rw [val_main_v64_apply, val_main_cst_14_apply, Ideal.ofBits_def, Ideal.ofBits_zero_f32, zero_add, Fin.sum_univ_one,
      val_main_v63_apply, e1, val_main_v62_apply, val_main_cst_13_apply, Ideal.ofBits_def, Ideal.ofBits_zero_f32, zero_add,
      ← Finset.sum_neg_distrib, coe_sum]
    refine Finset.sum_congr rfl fun n' _ => ?_
    rw [val_main_v61_apply, r60 h0 h1 h2 h3 h4 hM]
    exact (EReal.coe_neg _).symm
  have s2 : val_main_v67 (F := Ideal) x0 x1 x2 x3 x4 i = ((∑ s, dlog q k v c ct (i 0) (i 1) s : ℝ) : EReal) := by
    rw [val_main_v67_apply, val_main_cst_16_apply, Ideal.ofBits_def, Ideal.ofBits_zero_f32, zero_add, Fin.sum_univ_one,
      val_main_v66_apply, e2, val_main_v65_apply, val_main_cst_15_apply, Ideal.ofBits_def, Ideal.ofBits_zero_f32, zero_add,
      coe_sum]
    refine Finset.sum_congr rfl fun s _ => ?_
    rw [r60 h0 h1 h2 h3 h4 hM]
    rfl
  rw [val_main_v68_apply, s1, s2, Ideal.addf_def, ← EReal.coe_add, neg_add_eq_sub]
  rfl

end Grad

end Cert.ReferenceIdeal.Hand

end
-- ==== Proof.Stages.lean ====
/- The host operations before the kernel's region, one definition each: what each leaves, of the arguments it reads. -/
module

public import proofs.«01_k».proof.Proof.Gen.KernelIdeal.Frame
public import Idealize.ShloMosaic.Lib.StableHlo.RunRead

@[expose] public section

set_option maxRecDepth 262144
set_option maxHeartbeats 4000000

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The arrays of a shape and an element type. -/
abbrev Arr (F : FTy → Type) (S : Shape) (e : EltTy) : Type := (⟨S, e⟩ : BufTy).Contents (Elt F)

/-! The five arguments: queries, keys, values, the running sums of the gates, the output's gradient. -/

variable (x0 x1 x2 : Arr F S16x4096x64 .f32) (x3 : Arr F S16x4096 .f32) (x4 : Arr F S16x4096x64 .f32)

def st_v0 : Arr F S16x4096x4096 .f32 :=
  ((fun l r => Host.dotGeneral dot_S16x4096x64_S16x4096x64_S16x4096x4096_2_2_1_1_0_0 none l r) : Arr F S16x4096x64 .f32 → Arr F S16x4096x64 .f32 → Arr F S16x4096x4096 .f32) x0 x1
def st_cst : Arr F S_ .f32 :=
  (constant S_ .f32 0x3E000000#32)
def st_v1 : Arr F S16x4096x4096 .f32 :=
  (broadcastInDim S16x4096x4096 ![] bcast_S_S16x4096x4096 : Arr F S_ .f32 → Arr F S16x4096x4096 .f32) (st_cst (F := F))
def st_v2 : Arr F S16x4096x4096 .f32 :=
  (mulf : Arr F S16x4096x4096 .f32 → Arr F S16x4096x4096 .f32 → Arr F S16x4096x4096 .f32) (st_v0 x0 x1) (st_v1 (F := F))
def st_v3 : Arr F S16x4096x1 .f32 :=
  (broadcastInDim S16x4096x1 ![0, 1] bcast_S16x4096_S16x4096x1_0_1 : Arr F S16x4096 .f32 → Arr F S16x4096x1 .f32) x3
def st_v4 : Arr F S16x4096x4096 .f32 :=
  (broadcastInDim S16x4096x4096 ![0, 1, 2] bcast_S16x4096x1_S16x4096x4096_0_1_2 : Arr F S16x4096x1 .f32 → Arr F S16x4096x4096 .f32) (st_v3 x3)
def st_v5 : Arr F S16x4096x4096 .f32 :=
  (addf : Arr F S16x4096x4096 .f32 → Arr F S16x4096x4096 .f32 → Arr F S16x4096x4096 .f32) (st_v2 x0 x1) (st_v4 x3)
def st_v6 : Arr F S16x1x4096 .f32 :=
  (broadcastInDim S16x1x4096 ![0, 2] bcast_S16x4096_S16x1x4096_0_2 : Arr F S16x4096 .f32 → Arr F S16x1x4096 .f32) x3
def st_v7 : Arr F S16x4096x4096 .f32 :=
  (broadcastInDim S16x4096x4096 ![0, 1, 2] bcast_S16x1x4096_S16x4096x4096_0_1_2 : Arr F S16x1x4096 .f32 → Arr F S16x4096x4096 .f32) (st_v6 x3)
def st_v8 : Arr F S16x4096x4096 .f32 :=
  (subf : Arr F S16x4096x4096 .f32 → Arr F S16x4096x4096 .f32 → Arr F S16x4096x4096 .f32) (st_v5 x0 x1 x3) (st_v7 x3)
def st_v9 : Arr F S16x4096x4096 .i32 :=
  (iotaInDim S16x4096x4096 32 1)
def st_v10 : Arr F S16x4096x4096 .i32 :=
  (iotaInDim S16x4096x4096 32 2)
def st_v11 : Arr F S16x4096x4096 .i1 :=
  (cmpi .sle : Arr F S16x4096x4096 .i32 → Arr F S16x4096x4096 .i32 → Arr F S16x4096x4096 .i1) (st_v10 (F := F)) (st_v9 (F := F))
def st_cst_0 : Arr F S_ .f32 :=
  (constant S_ .f32 0xFF800000#32)
def st_v12 : Arr F S16x4096x4096 .f32 :=
  (broadcastInDim S16x4096x4096 ![] bcast_S_S16x4096x4096 : Arr F S_ .f32 → Arr F S16x4096x4096 .f32) (st_cst_0 (F := F))
def st_v13 : Arr F S16x4096x4096 .f32 :=
  (select : Arr F S16x4096x4096 .i1 → Arr F S16x4096x4096 .f32 → Arr F S16x4096x4096 .f32 → Arr F S16x4096x4096 .f32) (st_v11 (F := F)) (st_v8 x0 x1 x3) (st_v12 (F := F))
def st_cst_1 : Arr F S_ .f32 :=
  (constant S_ .f32 0xFF800000#32)
def st_v14 : Arr F S16x4096 .f32 :=
  ((fun x v => Host.reduce FloatOps.maximumf x v reducesTo_S16x4096x4096_S16x4096_d2 h_S_) : Arr F S16x4096x4096 .f32 → Arr F S_ .f32 → Arr F S16x4096 .f32) (st_v13 x0 x1 x3) (st_cst_1 (F := F))
def st_v15 : Arr F S16x4096x1 .f32 :=
  (broadcastInDim S16x4096x1 ![0, 1] bcast_S16x4096_S16x4096x1_0_1 : Arr F S16x4096 .f32 → Arr F S16x4096x1 .f32) (st_v14 x0 x1 x3)
def st_v16 : Arr F S16x4096x4096 .f32 :=
  (broadcastInDim S16x4096x4096 ![0, 1, 2] bcast_S16x4096x1_S16x4096x4096_0_1_2 : Arr F S16x4096x1 .f32 → Arr F S16x4096x4096 .f32) (st_v15 x0 x1 x3)
def st_v17 : Arr F S16x4096x4096 .f32 :=
  (subf : Arr F S16x4096x4096 .f32 → Arr F S16x4096x4096 .f32 → Arr F S16x4096x4096 .f32) (st_v13 x0 x1 x3) (st_v16 x0 x1 x3)
def st_v18 : Arr F S16x4096x4096 .f32 :=
  (Host.exp : Arr F S16x4096x4096 .f32 → Arr F S16x4096x4096 .f32) (st_v17 x0 x1 x3)
def st_cst_2 : Arr F S_ .f32 :=
  (constant S_ .f32 0x00000000#32)
def st_v19 : Arr F S16x4096 .f32 :=
  ((fun x v => Host.reduceAdd x v reducesTo_S16x4096x4096_S16x4096_d2 h_S_) : Arr F S16x4096x4096 .f32 → Arr F S_ .f32 → Arr F S16x4096 .f32) (st_v18 x0 x1 x3) (st_cst_2 (F := F))
def st_v20 : Arr F S16x4096x64 .f32 :=
  ((fun l r => Host.dotGeneral dot_S16x4096x4096_S16x4096x64_S16x4096x64_2_1_1_2_0_0 none l r) : Arr F S16x4096x4096 .f32 → Arr F S16x4096x64 .f32 → Arr F S16x4096x64 .f32) (st_v18 x0 x1 x3) x2
def st_v21 : Arr F S16x4096x1 .f32 :=
  (broadcastInDim S16x4096x1 ![0, 1] bcast_S16x4096_S16x4096x1_0_1 : Arr F S16x4096 .f32 → Arr F S16x4096x1 .f32) (st_v19 x0 x1 x3)
def st_v22 : Arr F S16x4096x64 .f32 :=
  (broadcastInDim S16x4096x64 ![0, 1, 2] bcast_S16x4096x1_S16x4096x64_0_1_2 : Arr F S16x4096x1 .f32 → Arr F S16x4096x64 .f32) (st_v21 x0 x1 x3)
def st_v23 : Arr F S16x4096x64 .f32 :=
  (Host.divf : Arr F S16x4096x64 .f32 → Arr F S16x4096x64 .f32 → Arr F S16x4096x64 .f32) (st_v20 x0 x1 x2 x3) (st_v22 x0 x1 x3)
def st_v24 : Arr F S16x4096 .f32 :=
  (Host.log : Arr F S16x4096 .f32 → Arr F S16x4096 .f32) (st_v19 x0 x1 x3)
def st_v25 : Arr F S16x4096 .f32 :=
  (addf : Arr F S16x4096 .f32 → Arr F S16x4096 .f32 → Arr F S16x4096 .f32) (st_v14 x0 x1 x3) (st_v24 x0 x1 x3)
def st_cst_3 : Arr F S_ .f32 :=
  (constant S_ .f32 0x3F800000#32)
def st_v26 : Arr F S16x4096 .f32 :=
  (broadcastInDim S16x4096 ![] bcast_S_S16x4096 : Arr F S_ .f32 → Arr F S16x4096 .f32) (st_cst_3 (F := F))
def st_v27 : Arr F S16x4096 .bf16 :=
  ((truncf .bf16 · bitsLt_bf16_f32) : Arr F S16x4096 .f32 → Arr F S16x4096 .bf16) x3
def st_v28 : Arr F S16x4096 .f32 :=
  ((extf .f32 · bitsLt_bf16_f32) : Arr F S16x4096 .bf16 → Arr F S16x4096 .f32) (st_v27 x3)
def st_v29 : Arr F S16x4096 .f32 :=
  (subf : Arr F S16x4096 .f32 → Arr F S16x4096 .f32 → Arr F S16x4096 .f32) x3 (st_v28 x3)
def st_v30 : Arr F S16x4096 .bf16 :=
  ((truncf .bf16 · bitsLt_bf16_f32) : Arr F S16x4096 .f32 → Arr F S16x4096 .bf16) (st_v29 x3)
def st_v31 : Arr F S16x4096 .f32 :=
  ((extf .f32 · bitsLt_bf16_f32) : Arr F S16x4096 .bf16 → Arr F S16x4096 .f32) (st_v30 x3)
def st_v32 : Arr F S16x4096 .f32 :=
  (subf : Arr F S16x4096 .f32 → Arr F S16x4096 .f32 → Arr F S16x4096 .f32) (st_v29 x3) (st_v31 x3)
def st_v33 : Arr F S16x4096 .f32 :=
  (Host.negf : Arr F S16x4096 .f32 → Arr F S16x4096 .f32) (st_v25 x0 x1 x3)
def st_v34 : Arr F S16x4096 .bf16 :=
  ((truncf .bf16 · bitsLt_bf16_f32) : Arr F S16x4096 .f32 → Arr F S16x4096 .bf16) (st_v33 x0 x1 x3)
def st_v35 : Arr F S16x4096 .f32 :=
  ((extf .f32 · bitsLt_bf16_f32) : Arr F S16x4096 .bf16 → Arr F S16x4096 .f32) (st_v34 x0 x1 x3)
def st_v36 : Arr F S16x4096 .f32 :=
  (subf : Arr F S16x4096 .f32 → Arr F S16x4096 .f32 → Arr F S16x4096 .f32) (st_v33 x0 x1 x3) (st_v35 x0 x1 x3)
def st_v37 : Arr F S16x4096 .bf16 :=
  ((truncf .bf16 · bitsLt_bf16_f32) : Arr F S16x4096 .f32 → Arr F S16x4096 .bf16) (st_v36 x0 x1 x3)
def st_v38 : Arr F S16x4096 .f32 :=
  ((extf .f32 · bitsLt_bf16_f32) : Arr F S16x4096 .bf16 → Arr F S16x4096 .f32) (st_v37 x0 x1 x3)
def st_v39 : Arr F S16x4096 .f32 :=
  (subf : Arr F S16x4096 .f32 → Arr F S16x4096 .f32 → Arr F S16x4096 .f32) (st_v36 x0 x1 x3) (st_v38 x0 x1 x3)
def st_v40 : Arr F S16x4096x64 .f32 :=
  (mulf : Arr F S16x4096x64 .f32 → Arr F S16x4096x64 .f32 → Arr F S16x4096x64 .f32) x4 (st_v23 x0 x1 x2 x3)
def st_cst_4 : Arr F S_ .f32 :=
  (constant S_ .f32 0x00000000#32)
def st_v41 : Arr F S16x4096 .f32 :=
  ((fun x v => Host.reduceAdd x v reducesTo_S16x4096x64_S16x4096_d2 h_S_) : Arr F S16x4096x64 .f32 → Arr F S_ .f32 → Arr F S16x4096 .f32) (st_v40 x0 x1 x2 x3 x4) (st_cst_4 (F := F))
def st_v42 : Arr F S16x4096 .f32 :=
  (Host.negf : Arr F S16x4096 .f32 → Arr F S16x4096 .f32) (st_v41 x0 x1 x2 x3 x4)
def st_v43 : Arr F S16x4096 .bf16 :=
  ((truncf .bf16 · bitsLt_bf16_f32) : Arr F S16x4096 .f32 → Arr F S16x4096 .bf16) (st_v42 x0 x1 x2 x3 x4)
def st_v44 : Arr F S16x4096 .f32 :=
  ((extf .f32 · bitsLt_bf16_f32) : Arr F S16x4096 .bf16 → Arr F S16x4096 .f32) (st_v43 x0 x1 x2 x3 x4)
def st_v45 : Arr F S16x4096 .f32 :=
  (subf : Arr F S16x4096 .f32 → Arr F S16x4096 .f32 → Arr F S16x4096 .f32) (st_v42 x0 x1 x2 x3 x4) (st_v44 x0 x1 x2 x3 x4)
def st_v46 : Arr F S16x4096 .bf16 :=
  ((truncf .bf16 · bitsLt_bf16_f32) : Arr F S16x4096 .f32 → Arr F S16x4096 .bf16) (st_v45 x0 x1 x2 x3 x4)
def st_v47 : Arr F S16x4096 .f32 :=
  ((extf .f32 · bitsLt_bf16_f32) : Arr F S16x4096 .bf16 → Arr F S16x4096 .f32) (st_v46 x0 x1 x2 x3 x4)
def st_v48 : Arr F S16x4096 .f32 :=
  (subf : Arr F S16x4096 .f32 → Arr F S16x4096 .f32 → Arr F S16x4096 .f32) (st_v45 x0 x1 x2 x3 x4) (st_v47 x0 x1 x2 x3 x4)
def st_cst_5 : Arr F S_ .f32 :=
  (constant S_ .f32 0x3E000000#32)
def st_v49 : Arr F S16x4096x64 .f32 :=
  (broadcastInDim S16x4096x64 ![] bcast_S_S16x4096x64 : Arr F S_ .f32 → Arr F S16x4096x64 .f32) (st_cst_5 (F := F))
def st_v50 : Arr F S16x4096x64 .f32 :=
  (mulf : Arr F S16x4096x64 .f32 → Arr F S16x4096x64 .f32 → Arr F S16x4096x64 .f32) x0 (st_v49 (F := F))
def st_v51 : Arr F S16x4096x1 .f32 :=
  (broadcastInDim S16x4096x1 ![0, 1] bcast_S16x4096_S16x4096x1_0_1 : Arr F S16x4096 .f32 → Arr F S16x4096x1 .f32) (st_v28 x3)
def st_v52 : Arr F S16x4096x1 .f32 :=
  (broadcastInDim S16x4096x1 ![0, 1] bcast_S16x4096_S16x4096x1_0_1 : Arr F S16x4096 .f32 → Arr F S16x4096x1 .f32) (st_v31 x3)
def st_v53 : Arr F S16x4096x1 .f32 :=
  (broadcastInDim S16x4096x1 ![0, 1] bcast_S16x4096_S16x4096x1_0_1 : Arr F S16x4096 .f32 → Arr F S16x4096x1 .f32) (st_v32 x3)
def st_v54 : Arr F S16x4096x1 .f32 :=
  (broadcastInDim S16x4096x1 ![0, 1] bcast_S16x4096_S16x4096x1_0_1 : Arr F S16x4096 .f32 → Arr F S16x4096x1 .f32) (st_v26 (F := F))
def st_v55 : Arr F S16x4096x1 .f32 :=
  (broadcastInDim S16x4096x1 ![0, 1] bcast_S16x4096_S16x4096x1_0_1 : Arr F S16x4096 .f32 → Arr F S16x4096x1 .f32) (st_v26 (F := F))
def st_v56 : Arr F S16x4096x1 .f32 :=
  (broadcastInDim S16x4096x1 ![0, 1] bcast_S16x4096_S16x4096x1_0_1 : Arr F S16x4096 .f32 → Arr F S16x4096x1 .f32) (st_v26 (F := F))
def st_v57 : Arr F S16x4096x1 .f32 :=
  (broadcastInDim S16x4096x1 ![0, 1] bcast_S16x4096_S16x4096x1_0_1 : Arr F S16x4096 .f32 → Arr F S16x4096x1 .f32) (st_v35 x0 x1 x3)
def st_v58 : Arr F S16x4096x1 .f32 :=
  (broadcastInDim S16x4096x1 ![0, 1] bcast_S16x4096_S16x4096x1_0_1 : Arr F S16x4096 .f32 → Arr F S16x4096x1 .f32) (st_v38 x0 x1 x3)
def st_v59 : Arr F S16x4096x1 .f32 :=
  (broadcastInDim S16x4096x1 ![0, 1] bcast_S16x4096_S16x4096x1_0_1 : Arr F S16x4096 .f32 → Arr F S16x4096x1 .f32) (st_v39 x0 x1 x3)
def st_cst_6 : Arr F S_ .f32 :=
  (constant S_ .f32 0x00000000#32)
def st_v60 : Arr F S16x4096x55 .f32 :=
  (broadcastInDim S16x4096x55 ![] bcast_S_S16x4096x55 : Arr F S_ .f32 → Arr F S16x4096x55 .f32) (st_cst_6 (F := F))
def cat_v61 (p0 : Arr F S16x4096x64 .f32) (p1 : Arr F S16x4096x1 .f32) (p2 : Arr F S16x4096x1 .f32) (p3 : Arr F S16x4096x1 .f32) (p4 : Arr F S16x4096x1 .f32) (p5 : Arr F S16x4096x1 .f32) (p6 : Arr F S16x4096x1 .f32) (p7 : Arr F S16x4096x1 .f32) (p8 : Arr F S16x4096x1 .f32) (p9 : Arr F S16x4096x1 .f32) (p10 : Arr F S16x4096x55 .f32) : Arr F S16x4096x128 .f32 :=
  concatenate S16x4096x128 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2
def st_v61 : Arr F S16x4096x128 .f32 :=
  cat_v61 (st_v50 x0) (st_v51 x3) (st_v52 x3) (st_v53 x3) (st_v54 (F := F)) (st_v55 (F := F)) (st_v56 (F := F)) (st_v57 x0 x1 x3) (st_v58 x0 x1 x3) (st_v59 x0 x1 x3) (st_v60 (F := F))
def st_v62 : Arr F S16x4096x128 .bf16 :=
  ((truncf .bf16 · bitsLt_bf16_f32) : Arr F S16x4096x128 .f32 → Arr F S16x4096x128 .bf16) (st_v61 x0 x1 x3)
def st_v63 : Arr F S16x4096 .f32 :=
  (Host.negf : Arr F S16x4096 .f32 → Arr F S16x4096 .f32) (st_v28 x3)
def st_v64 : Arr F S16x4096 .f32 :=
  (Host.negf : Arr F S16x4096 .f32 → Arr F S16x4096 .f32) (st_v31 x3)
def st_v65 : Arr F S16x4096 .f32 :=
  (Host.negf : Arr F S16x4096 .f32 → Arr F S16x4096 .f32) (st_v32 x3)
def st_v66 : Arr F S16x4096x1 .f32 :=
  (broadcastInDim S16x4096x1 ![0, 1] bcast_S16x4096_S16x4096x1_0_1 : Arr F S16x4096 .f32 → Arr F S16x4096x1 .f32) (st_v26 (F := F))
def st_v67 : Arr F S16x4096x1 .f32 :=
  (broadcastInDim S16x4096x1 ![0, 1] bcast_S16x4096_S16x4096x1_0_1 : Arr F S16x4096 .f32 → Arr F S16x4096x1 .f32) (st_v26 (F := F))
def st_v68 : Arr F S16x4096x1 .f32 :=
  (broadcastInDim S16x4096x1 ![0, 1] bcast_S16x4096_S16x4096x1_0_1 : Arr F S16x4096 .f32 → Arr F S16x4096x1 .f32) (st_v26 (F := F))
def st_v69 : Arr F S16x4096x1 .f32 :=
  (broadcastInDim S16x4096x1 ![0, 1] bcast_S16x4096_S16x4096x1_0_1 : Arr F S16x4096 .f32 → Arr F S16x4096x1 .f32) (st_v63 x3)
def st_v70 : Arr F S16x4096x1 .f32 :=
  (broadcastInDim S16x4096x1 ![0, 1] bcast_S16x4096_S16x4096x1_0_1 : Arr F S16x4096 .f32 → Arr F S16x4096x1 .f32) (st_v64 x3)
def st_v71 : Arr F S16x4096x1 .f32 :=
  (broadcastInDim S16x4096x1 ![0, 1] bcast_S16x4096_S16x4096x1_0_1 : Arr F S16x4096 .f32 → Arr F S16x4096x1 .f32) (st_v65 x3)
def st_v72 : Arr F S16x4096x1 .f32 :=
  (broadcastInDim S16x4096x1 ![0, 1] bcast_S16x4096_S16x4096x1_0_1 : Arr F S16x4096 .f32 → Arr F S16x4096x1 .f32) (st_v26 (F := F))
def st_v73 : Arr F S16x4096x1 .f32 :=
  (broadcastInDim S16x4096x1 ![0, 1] bcast_S16x4096_S16x4096x1_0_1 : Arr F S16x4096 .f32 → Arr F S16x4096x1 .f32) (st_v26 (F := F))
def st_v74 : Arr F S16x4096x1 .f32 :=
  (broadcastInDim S16x4096x1 ![0, 1] bcast_S16x4096_S16x4096x1_0_1 : Arr F S16x4096 .f32 → Arr F S16x4096x1 .f32) (st_v26 (F := F))
def st_cst_7 : Arr F S_ .f32 :=
  (constant S_ .f32 0x00000000#32)
def st_v75 : Arr F S16x4096x55 .f32 :=
  (broadcastInDim S16x4096x55 ![] bcast_S_S16x4096x55 : Arr F S_ .f32 → Arr F S16x4096x55 .f32) (st_cst_7 (F := F))
def cat_v76 (p0 : Arr F S16x4096x64 .f32) (p1 : Arr F S16x4096x1 .f32) (p2 : Arr F S16x4096x1 .f32) (p3 : Arr F S16x4096x1 .f32) (p4 : Arr F S16x4096x1 .f32) (p5 : Arr F S16x4096x1 .f32) (p6 : Arr F S16x4096x1 .f32) (p7 : Arr F S16x4096x1 .f32) (p8 : Arr F S16x4096x1 .f32) (p9 : Arr F S16x4096x1 .f32) (p10 : Arr F S16x4096x55 .f32) : Arr F S16x4096x128 .f32 :=
  concatenate S16x4096x128 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2
def st_v76 : Arr F S16x4096x128 .f32 :=
  cat_v76 x1 (st_v66 (F := F)) (st_v67 (F := F)) (st_v68 (F := F)) (st_v69 x3) (st_v70 x3) (st_v71 x3) (st_v72 (F := F)) (st_v73 (F := F)) (st_v74 (F := F)) (st_v75 (F := F))
def st_v77 : Arr F S16x4096x128 .bf16 :=
  ((truncf .bf16 · bitsLt_bf16_f32) : Arr F S16x4096x128 .f32 → Arr F S16x4096x128 .bf16) (st_v76 x1 x3)
def st_v78 : Arr F S16x4096x1 .f32 :=
  (broadcastInDim S16x4096x1 ![0, 1] bcast_S16x4096_S16x4096x1_0_1 : Arr F S16x4096 .f32 → Arr F S16x4096x1 .f32) (st_v26 (F := F))
def st_v79 : Arr F S16x4096x1 .f32 :=
  (broadcastInDim S16x4096x1 ![0, 1] bcast_S16x4096_S16x4096x1_0_1 : Arr F S16x4096 .f32 → Arr F S16x4096x1 .f32) (st_v26 (F := F))
def st_v80 : Arr F S16x4096x1 .f32 :=
  (broadcastInDim S16x4096x1 ![0, 1] bcast_S16x4096_S16x4096x1_0_1 : Arr F S16x4096 .f32 → Arr F S16x4096x1 .f32) (st_v26 (F := F))
def st_cst_8 : Arr F S_ .f32 :=
  (constant S_ .f32 0x00000000#32)
def st_v81 : Arr F S16x4096x61 .f32 :=
  (broadcastInDim S16x4096x61 ![] bcast_S_S16x4096x61 : Arr F S_ .f32 → Arr F S16x4096x61 .f32) (st_cst_8 (F := F))
def cat_v82 (p0 : Arr F S16x4096x64 .f32) (p1 : Arr F S16x4096x1 .f32) (p2 : Arr F S16x4096x1 .f32) (p3 : Arr F S16x4096x1 .f32) (p4 : Arr F S16x4096x61 .f32) : Arr F S16x4096x128 .f32 :=
  concatenate S16x4096x128 2 [⟨S16x4096x64, p0⟩, ⟨S16x4096x1, p1⟩, ⟨S16x4096x1, p2⟩, ⟨S16x4096x1, p3⟩, ⟨S16x4096x61, p4⟩] concatenates_S16x4096x64_S16x4096x1_S16x4096x1_S16x4096x1_S16x4096x61_S16x4096x128_d2
def st_v82 : Arr F S16x4096x128 .f32 :=
  cat_v82 x2 (st_v78 (F := F)) (st_v79 (F := F)) (st_v80 (F := F)) (st_v81 (F := F))
def st_v83 : Arr F S16x4096x128 .bf16 :=
  ((truncf .bf16 · bitsLt_bf16_f32) : Arr F S16x4096x128 .f32 → Arr F S16x4096x128 .bf16) (st_v82 x2)
def st_v84 : Arr F S16x4096x1 .f32 :=
  (broadcastInDim S16x4096x1 ![0, 1] bcast_S16x4096_S16x4096x1_0_1 : Arr F S16x4096 .f32 → Arr F S16x4096x1 .f32) (st_v44 x0 x1 x2 x3 x4)
def st_v85 : Arr F S16x4096x1 .f32 :=
  (broadcastInDim S16x4096x1 ![0, 1] bcast_S16x4096_S16x4096x1_0_1 : Arr F S16x4096 .f32 → Arr F S16x4096x1 .f32) (st_v47 x0 x1 x2 x3 x4)
def st_v86 : Arr F S16x4096x1 .f32 :=
  (broadcastInDim S16x4096x1 ![0, 1] bcast_S16x4096_S16x4096x1_0_1 : Arr F S16x4096 .f32 → Arr F S16x4096x1 .f32) (st_v48 x0 x1 x2 x3 x4)
def st_cst_9 : Arr F S_ .f32 :=
  (constant S_ .f32 0x00000000#32)
def st_v87 : Arr F S16x4096x61 .f32 :=
  (broadcastInDim S16x4096x61 ![] bcast_S_S16x4096x61 : Arr F S_ .f32 → Arr F S16x4096x61 .f32) (st_cst_9 (F := F))
def cat_v88 (p0 : Arr F S16x4096x64 .f32) (p1 : Arr F S16x4096x1 .f32) (p2 : Arr F S16x4096x1 .f32) (p3 : Arr F S16x4096x1 .f32) (p4 : Arr F S16x4096x61 .f32) : Arr F S16x4096x128 .f32 :=
  concatenate S16x4096x128 2 [⟨S16x4096x64, p0⟩, ⟨S16x4096x1, p1⟩, ⟨S16x4096x1, p2⟩, ⟨S16x4096x1, p3⟩, ⟨S16x4096x61, p4⟩] concatenates_S16x4096x64_S16x4096x1_S16x4096x1_S16x4096x1_S16x4096x61_S16x4096x128_d2
def st_v88 : Arr F S16x4096x128 .f32 :=
  cat_v88 x4 (st_v84 x0 x1 x2 x3 x4) (st_v85 x0 x1 x2 x3 x4) (st_v86 x0 x1 x2 x3 x4) (st_v87 (F := F))
def st_v89 : Arr F S16x4096x128 .bf16 :=
  ((truncf .bf16 · bitsLt_bf16_f32) : Arr F S16x4096x128 .f32 → Arr F S16x4096x128 .bf16) (st_v88 x0 x1 x2 x3 x4)
def st_v90 : Arr F S16x8x512x128 .bf16 :=
  shapeCast _ (st_v62 x0 x1 x3) shapeCasts_S16x4096x128_S16x8x512x128
def st_v91 : Arr F S16x8x128x512 .bf16 :=
  ((transpose S16x8x128x512 [0, 1, 3, 2] · transposes_S16x8x512x128_S16x8x128x512_0_1_3_2) : Arr F S16x8x512x128 .bf16 → Arr F S16x8x128x512 .bf16) (st_v90 x0 x1 x3)
def st_v92 : Arr F S16x8x512x128 .bf16 :=
  shapeCast _ (st_v89 x0 x1 x2 x3 x4) shapeCasts_S16x4096x128_S16x8x512x128
def st_v93 : Arr F S16x8x128x512 .bf16 :=
  ((transpose S16x8x128x512 [0, 1, 3, 2] · transposes_S16x8x512x128_S16x8x128x512_0_1_3_2) : Arr F S16x8x512x128 .bf16 → Arr F S16x8x128x512 .bf16) (st_v92 x0 x1 x2 x3 x4)
def st_v94 : Arr F S16x8x512x128 .bf16 :=
  shapeCast _ (st_v77 x1 x3) shapeCasts_S16x4096x128_S16x8x512x128
def st_v95 : Arr F S16x8x128x512 .bf16 :=
  ((transpose S16x8x128x512 [0, 1, 3, 2] · transposes_S16x8x512x128_S16x8x128x512_0_1_3_2) : Arr F S16x8x512x128 .bf16 → Arr F S16x8x128x512 .bf16) (st_v94 x1 x3)
def st_v96 : Arr F S16x8x512x128 .bf16 :=
  shapeCast _ (st_v83 x2) shapeCasts_S16x4096x128_S16x8x512x128
def st_v97 : Arr F S16x8x128x512 .bf16 :=
  ((transpose S16x8x128x512 [0, 1, 3, 2] · transposes_S16x8x512x128_S16x8x128x512_0_1_3_2) : Arr F S16x8x512x128 .bf16 → Arr F S16x8x128x512 .bf16) (st_v96 x2)

variable (m : (ℓ : Loc nD τ sig) → Buf (Elt Ideal) ℓ) (c : Dev nD)

/-- What the first k host operations leave in a buffer. -/
abbrev upTo (k : ℕ) (r : Ref sig .tc) := StableHlo.upto hostOps0 (fun b => m (c, b)) k (Proc.devRef (τ := τ) .tc r)

theorem U_v61_v50 : upTo m c 69 main_v50 = st_v50 (m ((c : Thread nD τ).loc main_arg0)) := by
  after_reads_simp
  rfl

theorem U_v61_v51 : upTo m c 69 main_v51 = st_v51 (m ((c : Thread nD τ).loc main_arg3)) := by
  after_reads_simp
  rfl

theorem U_v61_v52 : upTo m c 69 main_v52 = st_v52 (m ((c : Thread nD τ).loc main_arg3)) := by
  after_reads_simp
  rfl

theorem U_v61_v53 : upTo m c 69 main_v53 = st_v53 (m ((c : Thread nD τ).loc main_arg3)) := by
  after_reads_simp
  rfl

theorem U_v61_v54 : upTo m c 69 main_v54 = st_v54 (F := Ideal)  := by
  after_reads_simp
  rfl

theorem U_v61_v55 : upTo m c 69 main_v55 = st_v55 (F := Ideal)  := by
  after_reads_simp
  rfl

theorem U_v61_v56 : upTo m c 69 main_v56 = st_v56 (F := Ideal)  := by
  after_reads_simp
  rfl

theorem U_v61_v57 : upTo m c 69 main_v57 = st_v57 (m ((c : Thread nD τ).loc main_arg0)) (m ((c : Thread nD τ).loc main_arg1)) (m ((c : Thread nD τ).loc main_arg3)) := by
  after_reads_simp
  rfl

theorem U_v61_v58 : upTo m c 69 main_v58 = st_v58 (m ((c : Thread nD τ).loc main_arg0)) (m ((c : Thread nD τ).loc main_arg1)) (m ((c : Thread nD τ).loc main_arg3)) := by
  after_reads_simp
  rfl

theorem U_v61_v59 : upTo m c 69 main_v59 = st_v59 (m ((c : Thread nD τ).loc main_arg0)) (m ((c : Thread nD τ).loc main_arg1)) (m ((c : Thread nD τ).loc main_arg3)) := by
  after_reads_simp
  rfl

theorem U_v61_v60 : upTo m c 69 main_v60 = st_v60 (F := Ideal)  := by
  after_reads_simp
  rfl

/-- What the region finds there. -/
theorem V_v62 : V (F := Ideal) m c main_v62 = st_v62 (m ((c : Thread nD τ).loc main_arg0)) (m ((c : Thread nD τ).loc main_arg1)) (m ((c : Thread nD τ).loc main_arg3)) := by
  unfold V V0
  simp only [List.flatten_cons, List.flatten_nil, List.append_nil]
  after_reads_simp
  show (((truncf (F := Ideal) .bf16 · bitsLt_bf16_f32) : Arr Ideal S16x4096x128 .f32 → Arr Ideal S16x4096x128 .bf16) (cat_v61 (F := Ideal) (upTo m c 69 main_v50) (upTo m c 69 main_v51) (upTo m c 69 main_v52) (upTo m c 69 main_v53) (upTo m c 69 main_v54) (upTo m c 69 main_v55) (upTo m c 69 main_v56) (upTo m c 69 main_v57) (upTo m c 69 main_v58) (upTo m c 69 main_v59) (upTo m c 69 main_v60))) = _
  rw [U_v61_v50, U_v61_v51, U_v61_v52, U_v61_v53, U_v61_v54, U_v61_v55, U_v61_v56, U_v61_v57, U_v61_v58, U_v61_v59, U_v61_v60]
  rfl

/-- What the region finds there. -/
theorem V_v91 : V (F := Ideal) m c main_v91 = st_v91 (m ((c : Thread nD τ).loc main_arg0)) (m ((c : Thread nD τ).loc main_arg1)) (m ((c : Thread nD τ).loc main_arg3)) := by
  unfold V V0
  simp only [List.flatten_cons, List.flatten_nil, List.append_nil]
  after_reads_simp
  show (((transpose S16x8x128x512 [0, 1, 3, 2] · transposes_S16x8x512x128_S16x8x128x512_0_1_3_2) : Arr Ideal S16x8x512x128 .bf16 → Arr Ideal S16x8x128x512 .bf16) (shapeCast _ (((truncf (F := Ideal) .bf16 · bitsLt_bf16_f32) : Arr Ideal S16x4096x128 .f32 → Arr Ideal S16x4096x128 .bf16) (cat_v61 (F := Ideal) (upTo m c 69 main_v50) (upTo m c 69 main_v51) (upTo m c 69 main_v52) (upTo m c 69 main_v53) (upTo m c 69 main_v54) (upTo m c 69 main_v55) (upTo m c 69 main_v56) (upTo m c 69 main_v57) (upTo m c 69 main_v58) (upTo m c 69 main_v59) (upTo m c 69 main_v60))) shapeCasts_S16x4096x128_S16x8x512x128)) = _
  rw [U_v61_v50, U_v61_v51, U_v61_v52, U_v61_v53, U_v61_v54, U_v61_v55, U_v61_v56, U_v61_v57, U_v61_v58, U_v61_v59, U_v61_v60]
  rfl

theorem U_v76_arg1 : upTo m c 85 main_arg1 = m ((c : Thread nD τ).loc main_arg1) := by
  after_reads_simp

theorem U_v76_v66 : upTo m c 85 main_v66 = st_v66 (F := Ideal)  := by
  after_reads_simp
  rfl

theorem U_v76_v67 : upTo m c 85 main_v67 = st_v67 (F := Ideal)  := by
  after_reads_simp
  rfl

theorem U_v76_v68 : upTo m c 85 main_v68 = st_v68 (F := Ideal)  := by
  after_reads_simp
  rfl

theorem U_v76_v69 : upTo m c 85 main_v69 = st_v69 (m ((c : Thread nD τ).loc main_arg3)) := by
  after_reads_simp
  rfl

theorem U_v76_v70 : upTo m c 85 main_v70 = st_v70 (m ((c : Thread nD τ).loc main_arg3)) := by
  after_reads_simp
  rfl

theorem U_v76_v71 : upTo m c 85 main_v71 = st_v71 (m ((c : Thread nD τ).loc main_arg3)) := by
  after_reads_simp
  rfl

theorem U_v76_v72 : upTo m c 85 main_v72 = st_v72 (F := Ideal)  := by
  after_reads_simp
  rfl

theorem U_v76_v73 : upTo m c 85 main_v73 = st_v73 (F := Ideal)  := by
  after_reads_simp
  rfl

theorem U_v76_v74 : upTo m c 85 main_v74 = st_v74 (F := Ideal)  := by
  after_reads_simp
  rfl

theorem U_v76_v75 : upTo m c 85 main_v75 = st_v75 (F := Ideal)  := by
  after_reads_simp
  rfl

/-- What the region finds there. -/
theorem V_v77 : V (F := Ideal) m c main_v77 = st_v77 (m ((c : Thread nD τ).loc main_arg1)) (m ((c : Thread nD τ).loc main_arg3)) := by
  unfold V V0
  simp only [List.flatten_cons, List.flatten_nil, List.append_nil]
  after_reads_simp
  show (((truncf (F := Ideal) .bf16 · bitsLt_bf16_f32) : Arr Ideal S16x4096x128 .f32 → Arr Ideal S16x4096x128 .bf16) (cat_v76 (F := Ideal) (upTo m c 85 main_arg1) (upTo m c 85 main_v66) (upTo m c 85 main_v67) (upTo m c 85 main_v68) (upTo m c 85 main_v69) (upTo m c 85 main_v70) (upTo m c 85 main_v71) (upTo m c 85 main_v72) (upTo m c 85 main_v73) (upTo m c 85 main_v74) (upTo m c 85 main_v75))) = _
  rw [U_v76_arg1, U_v76_v66, U_v76_v67, U_v76_v68, U_v76_v69, U_v76_v70, U_v76_v71, U_v76_v72, U_v76_v73, U_v76_v74, U_v76_v75]
  rfl

/-- What the region finds there. -/
theorem V_v95 : V (F := Ideal) m c main_v95 = st_v95 (m ((c : Thread nD τ).loc main_arg1)) (m ((c : Thread nD τ).loc main_arg3)) := by
  unfold V V0
  simp only [List.flatten_cons, List.flatten_nil, List.append_nil]
  after_reads_simp
  show (((transpose S16x8x128x512 [0, 1, 3, 2] · transposes_S16x8x512x128_S16x8x128x512_0_1_3_2) : Arr Ideal S16x8x512x128 .bf16 → Arr Ideal S16x8x128x512 .bf16) (shapeCast _ (((truncf (F := Ideal) .bf16 · bitsLt_bf16_f32) : Arr Ideal S16x4096x128 .f32 → Arr Ideal S16x4096x128 .bf16) (cat_v76 (F := Ideal) (upTo m c 85 main_arg1) (upTo m c 85 main_v66) (upTo m c 85 main_v67) (upTo m c 85 main_v68) (upTo m c 85 main_v69) (upTo m c 85 main_v70) (upTo m c 85 main_v71) (upTo m c 85 main_v72) (upTo m c 85 main_v73) (upTo m c 85 main_v74) (upTo m c 85 main_v75))) shapeCasts_S16x4096x128_S16x8x512x128)) = _
  rw [U_v76_arg1, U_v76_v66, U_v76_v67, U_v76_v68, U_v76_v69, U_v76_v70, U_v76_v71, U_v76_v72, U_v76_v73, U_v76_v74, U_v76_v75]
  rfl

theorem U_v82_arg2 : upTo m c 92 main_arg2 = m ((c : Thread nD τ).loc main_arg2) := by
  after_reads_simp

theorem U_v82_v78 : upTo m c 92 main_v78 = st_v78 (F := Ideal)  := by
  after_reads_simp
  rfl

theorem U_v82_v79 : upTo m c 92 main_v79 = st_v79 (F := Ideal)  := by
  after_reads_simp
  rfl

theorem U_v82_v80 : upTo m c 92 main_v80 = st_v80 (F := Ideal)  := by
  after_reads_simp
  rfl

theorem U_v82_v81 : upTo m c 92 main_v81 = st_v81 (F := Ideal)  := by
  after_reads_simp
  rfl

/-- What the region finds there. -/
theorem V_v97 : V (F := Ideal) m c main_v97 = st_v97 (m ((c : Thread nD τ).loc main_arg2)) := by
  unfold V V0
  simp only [List.flatten_cons, List.flatten_nil, List.append_nil]
  after_reads_simp
  show (((transpose S16x8x128x512 [0, 1, 3, 2] · transposes_S16x8x512x128_S16x8x128x512_0_1_3_2) : Arr Ideal S16x8x512x128 .bf16 → Arr Ideal S16x8x128x512 .bf16) (shapeCast _ (((truncf (F := Ideal) .bf16 · bitsLt_bf16_f32) : Arr Ideal S16x4096x128 .f32 → Arr Ideal S16x4096x128 .bf16) (cat_v82 (F := Ideal) (upTo m c 92 main_arg2) (upTo m c 92 main_v78) (upTo m c 92 main_v79) (upTo m c 92 main_v80) (upTo m c 92 main_v81))) shapeCasts_S16x4096x128_S16x8x512x128)) = _
  rw [U_v82_arg2, U_v82_v78, U_v82_v79, U_v82_v80, U_v82_v81]
  rfl

theorem U_v88_arg4 : upTo m c 99 main_arg4 = m ((c : Thread nD τ).loc main_arg4) := by
  after_reads_simp

theorem U_v88_v84 : upTo m c 99 main_v84 = st_v84 (m ((c : Thread nD τ).loc main_arg0)) (m ((c : Thread nD τ).loc main_arg1)) (m ((c : Thread nD τ).loc main_arg2)) (m ((c : Thread nD τ).loc main_arg3)) (m ((c : Thread nD τ).loc main_arg4)) := by
  after_reads_simp
  rfl

theorem U_v88_v85 : upTo m c 99 main_v85 = st_v85 (m ((c : Thread nD τ).loc main_arg0)) (m ((c : Thread nD τ).loc main_arg1)) (m ((c : Thread nD τ).loc main_arg2)) (m ((c : Thread nD τ).loc main_arg3)) (m ((c : Thread nD τ).loc main_arg4)) := by
  after_reads_simp
  rfl

theorem U_v88_v86 : upTo m c 99 main_v86 = st_v86 (m ((c : Thread nD τ).loc main_arg0)) (m ((c : Thread nD τ).loc main_arg1)) (m ((c : Thread nD τ).loc main_arg2)) (m ((c : Thread nD τ).loc main_arg3)) (m ((c : Thread nD τ).loc main_arg4)) := by
  after_reads_simp
  rfl

theorem U_v88_v87 : upTo m c 99 main_v87 = st_v87 (F := Ideal)  := by
  after_reads_simp
  rfl

/-- What the region finds there. -/
theorem V_v89 : V (F := Ideal) m c main_v89 = st_v89 (m ((c : Thread nD τ).loc main_arg0)) (m ((c : Thread nD τ).loc main_arg1)) (m ((c : Thread nD τ).loc main_arg2)) (m ((c : Thread nD τ).loc main_arg3)) (m ((c : Thread nD τ).loc main_arg4)) := by
  unfold V V0
  simp only [List.flatten_cons, List.flatten_nil, List.append_nil]
  after_reads_simp
  show (((truncf (F := Ideal) .bf16 · bitsLt_bf16_f32) : Arr Ideal S16x4096x128 .f32 → Arr Ideal S16x4096x128 .bf16) (cat_v88 (F := Ideal) (upTo m c 99 main_arg4) (upTo m c 99 main_v84) (upTo m c 99 main_v85) (upTo m c 99 main_v86) (upTo m c 99 main_v87))) = _
  rw [U_v88_arg4, U_v88_v84, U_v88_v85, U_v88_v86, U_v88_v87]
  rfl

/-- What the region finds there. -/
theorem V_v93 : V (F := Ideal) m c main_v93 = st_v93 (m ((c : Thread nD τ).loc main_arg0)) (m ((c : Thread nD τ).loc main_arg1)) (m ((c : Thread nD τ).loc main_arg2)) (m ((c : Thread nD τ).loc main_arg3)) (m ((c : Thread nD τ).loc main_arg4)) := by
  unfold V V0
  simp only [List.flatten_cons, List.flatten_nil, List.append_nil]
  after_reads_simp
  show (((transpose S16x8x128x512 [0, 1, 3, 2] · transposes_S16x8x512x128_S16x8x128x512_0_1_3_2) : Arr Ideal S16x8x512x128 .bf16 → Arr Ideal S16x8x128x512 .bf16) (shapeCast _ (((truncf (F := Ideal) .bf16 · bitsLt_bf16_f32) : Arr Ideal S16x4096x128 .f32 → Arr Ideal S16x4096x128 .bf16) (cat_v88 (F := Ideal) (upTo m c 99 main_arg4) (upTo m c 99 main_v84) (upTo m c 99 main_v85) (upTo m c 99 main_v86) (upTo m c 99 main_v87))) shapeCasts_S16x4096x128_S16x8x512x128)) = _
  rw [U_v88_arg4, U_v88_v84, U_v88_v85, U_v88_v86, U_v88_v87]
  rfl

end Cert.KernelIdeal.Hand

end
-- ==== Proof.StageKit.lean ====
/- The kernel's operands at an index, when the arguments are reals: the columns of the four packed arrays. -/
module

public import proofs.«01_k».proof.Proof.Spec
public import proofs.«01_k».proof.Proof.Stages
public import Idealize.ShloMosaic.Lib.WordCmp
public import Idealize.ShloMosaic.Lib.Pointwise.Index

@[expose] public section

set_option maxRecDepth 16384

noncomputable section

namespace Cert.KernelIdeal.Hand

open Cert.KernelIdeal Cert.KernelIdeal.Gen Cert.Spec
open Idealize.ShloMosaic Idealize.ShloMosaic.TcCoe

/-! ### The columns of a packed array -/
section
variable (p0 : Arr Ideal S16x4096x64 .f32) (p1 p2 p3 p4 p5 p6 p7 p8 p9 : Arr Ideal S16x4096x1 .f32) (p10 : Arr Ideal S16x4096x55 .f32)
theorem c61_0 (h : Fin 16) (n : Fin 4096) (d : Fin 64) :
    cat_v61 (F := Ideal) p0 p1 p2 p3 p4 p5 p6 p7 p8 p9 p10 (Idealize.ShloMosaic.ix3 h n (⟨d.val, by omega⟩ : Fin 128)) = p0 (Idealize.ShloMosaic.ix3 h n d) := by
  unfold cat_v61
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 0 (by simp) S16x4096x64 p0 rfl rfl 0 rfl (Idealize.ShloMosaic.ix3 h n d)
    (fun b hb => match b with
      | ⟨0, _⟩ => rfl
      | ⟨1, _⟩ => rfl
      | ⟨2, _⟩ => absurd rfl hb) (Nat.zero_add _)
theorem c61_1 (h : Fin 16) (n : Fin 4096) :
    cat_v61 (F := Ideal) p0 p1 p2 p3 p4 p5 p6 p7 p8 p9 p10 (Idealize.ShloMosaic.ix3 h n (⟨64, by decide⟩ : Fin 128)) = p1 (Idealize.ShloMosaic.ix3 h n 0) := by
  unfold cat_v61
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 1 (by simp) S16x4096x1 p1 rfl rfl 64 rfl (Idealize.ShloMosaic.ix3 h n 0)
    (fun b hb => match b with
      | ⟨0, _⟩ => rfl
      | ⟨1, _⟩ => rfl
      | ⟨2, _⟩ => absurd rfl hb) rfl
theorem c61_2 (h : Fin 16) (n : Fin 4096) :
    cat_v61 (F := Ideal) p0 p1 p2 p3 p4 p5 p6 p7 p8 p9 p10 (Idealize.ShloMosaic.ix3 h n (⟨65, by decide⟩ : Fin 128)) = p2 (Idealize.ShloMosaic.ix3 h n 0) := by
  unfold cat_v61
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 2 (by simp) S16x4096x1 p2 rfl rfl 65 rfl (Idealize.ShloMosaic.ix3 h n 0)
    (fun b hb => match b with
      | ⟨0, _⟩ => rfl
      | ⟨1, _⟩ => rfl
      | ⟨2, _⟩ => absurd rfl hb) rfl
theorem c61_3 (h : Fin 16) (n : Fin 4096) :
    cat_v61 (F := Ideal) p0 p1 p2 p3 p4 p5 p6 p7 p8 p9 p10 (Idealize.ShloMosaic.ix3 h n (⟨66, by decide⟩ : Fin 128)) = p3 (Idealize.ShloMosaic.ix3 h n 0) := by
  unfold cat_v61
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 3 (by simp) S16x4096x1 p3 rfl rfl 66 rfl (Idealize.ShloMosaic.ix3 h n 0)
    (fun b hb => match b with
      | ⟨0, _⟩ => rfl
      | ⟨1, _⟩ => rfl
      | ⟨2, _⟩ => absurd rfl hb) rfl
theorem c61_4 (h : Fin 16) (n : Fin 4096) :
    cat_v61 (F := Ideal) p0 p1 p2 p3 p4 p5 p6 p7 p8 p9 p10 (Idealize.ShloMosaic.ix3 h n (⟨67, by decide⟩ : Fin 128)) = p4 (Idealize.ShloMosaic.ix3 h n 0) := by
  unfold cat_v61
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 4 (by simp) S16x4096x1 p4 rfl rfl 67 rfl (Idealize.ShloMosaic.ix3 h n 0)
    (fun b hb => match b with
      | ⟨0, _⟩ => rfl
      | ⟨1, _⟩ => rfl
      | ⟨2, _⟩ => absurd rfl hb) rfl
theorem c61_5 (h : Fin 16) (n : Fin 4096) :
    cat_v61 (F := Ideal) p0 p1 p2 p3 p4 p5 p6 p7 p8 p9 p10 (Idealize.ShloMosaic.ix3 h n (⟨68, by decide⟩ : Fin 128)) = p5 (Idealize.ShloMosaic.ix3 h n 0) := by
  unfold cat_v61
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 5 (by simp) S16x4096x1 p5 rfl rfl 68 rfl (Idealize.ShloMosaic.ix3 h n 0)
    (fun b hb => match b with
      | ⟨0, _⟩ => rfl
      | ⟨1, _⟩ => rfl
      | ⟨2, _⟩ => absurd rfl hb) rfl
theorem c61_6 (h : Fin 16) (n : Fin 4096) :
    cat_v61 (F := Ideal) p0 p1 p2 p3 p4 p5 p6 p7 p8 p9 p10 (Idealize.ShloMosaic.ix3 h n (⟨69, by decide⟩ : Fin 128)) = p6 (Idealize.ShloMosaic.ix3 h n 0) := by
  unfold cat_v61
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 6 (by simp) S16x4096x1 p6 rfl rfl 69 rfl (Idealize.ShloMosaic.ix3 h n 0)
    (fun b hb => match b with
      | ⟨0, _⟩ => rfl
      | ⟨1, _⟩ => rfl
      | ⟨2, _⟩ => absurd rfl hb) rfl
theorem c61_7 (h : Fin 16) (n : Fin 4096) :
    cat_v61 (F := Ideal) p0 p1 p2 p3 p4 p5 p6 p7 p8 p9 p10 (Idealize.ShloMosaic.ix3 h n (⟨70, by decide⟩ : Fin 128)) = p7 (Idealize.ShloMosaic.ix3 h n 0) := by
  unfold cat_v61
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 7 (by simp) S16x4096x1 p7 rfl rfl 70 rfl (Idealize.ShloMosaic.ix3 h n 0)
    (fun b hb => match b with
      | ⟨0, _⟩ => rfl
      | ⟨1, _⟩ => rfl
      | ⟨2, _⟩ => absurd rfl hb) rfl
theorem c61_8 (h : Fin 16) (n : Fin 4096) :
    cat_v61 (F := Ideal) p0 p1 p2 p3 p4 p5 p6 p7 p8 p9 p10 (Idealize.ShloMosaic.ix3 h n (⟨71, by decide⟩ : Fin 128)) = p8 (Idealize.ShloMosaic.ix3 h n 0) := by
  unfold cat_v61
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 8 (by simp) S16x4096x1 p8 rfl rfl 71 rfl (Idealize.ShloMosaic.ix3 h n 0)
    (fun b hb => match b with
      | ⟨0, _⟩ => rfl
      | ⟨1, _⟩ => rfl
      | ⟨2, _⟩ => absurd rfl hb) rfl
theorem c61_9 (h : Fin 16) (n : Fin 4096) :
    cat_v61 (F := Ideal) p0 p1 p2 p3 p4 p5 p6 p7 p8 p9 p10 (Idealize.ShloMosaic.ix3 h n (⟨72, by decide⟩ : Fin 128)) = p9 (Idealize.ShloMosaic.ix3 h n 0) := by
  unfold cat_v61
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 9 (by simp) S16x4096x1 p9 rfl rfl 72 rfl (Idealize.ShloMosaic.ix3 h n 0)
    (fun b hb => match b with
      | ⟨0, _⟩ => rfl
      | ⟨1, _⟩ => rfl
      | ⟨2, _⟩ => absurd rfl hb) rfl
theorem c61_10 (h : Fin 16) (n : Fin 4096) (d : Fin 55) :
    cat_v61 (F := Ideal) p0 p1 p2 p3 p4 p5 p6 p7 p8 p9 p10 (Idealize.ShloMosaic.ix3 h n (⟨73 + d.val, by omega⟩ : Fin 128)) = p10 (Idealize.ShloMosaic.ix3 h n d) := by
  unfold cat_v61
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 10 (by simp) S16x4096x55 p10 rfl rfl 73 rfl (Idealize.ShloMosaic.ix3 h n d)
    (fun b hb => match b with
      | ⟨0, _⟩ => rfl
      | ⟨1, _⟩ => rfl
      | ⟨2, _⟩ => absurd rfl hb) rfl
theorem c76_0 (h : Fin 16) (n : Fin 4096) (d : Fin 64) :
    cat_v76 (F := Ideal) p0 p1 p2 p3 p4 p5 p6 p7 p8 p9 p10 (Idealize.ShloMosaic.ix3 h n (⟨d.val, by omega⟩ : Fin 128)) = p0 (Idealize.ShloMosaic.ix3 h n d) := by
  unfold cat_v76
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 0 (by simp) S16x4096x64 p0 rfl rfl 0 rfl (Idealize.ShloMosaic.ix3 h n d)
    (fun b hb => match b with
      | ⟨0, _⟩ => rfl
      | ⟨1, _⟩ => rfl
      | ⟨2, _⟩ => absurd rfl hb) (Nat.zero_add _)
theorem c76_1 (h : Fin 16) (n : Fin 4096) :
    cat_v76 (F := Ideal) p0 p1 p2 p3 p4 p5 p6 p7 p8 p9 p10 (Idealize.ShloMosaic.ix3 h n (⟨64, by decide⟩ : Fin 128)) = p1 (Idealize.ShloMosaic.ix3 h n 0) := by
  unfold cat_v76
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 1 (by simp) S16x4096x1 p1 rfl rfl 64 rfl (Idealize.ShloMosaic.ix3 h n 0)
    (fun b hb => match b with
      | ⟨0, _⟩ => rfl
      | ⟨1, _⟩ => rfl
      | ⟨2, _⟩ => absurd rfl hb) rfl
theorem c76_2 (h : Fin 16) (n : Fin 4096) :
    cat_v76 (F := Ideal) p0 p1 p2 p3 p4 p5 p6 p7 p8 p9 p10 (Idealize.ShloMosaic.ix3 h n (⟨65, by decide⟩ : Fin 128)) = p2 (Idealize.ShloMosaic.ix3 h n 0) := by
  unfold cat_v76
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 2 (by simp) S16x4096x1 p2 rfl rfl 65 rfl (Idealize.ShloMosaic.ix3 h n 0)
    (fun b hb => match b with
      | ⟨0, _⟩ => rfl
      | ⟨1, _⟩ => rfl
      | ⟨2, _⟩ => absurd rfl hb) rfl
theorem c76_3 (h : Fin 16) (n : Fin 4096) :
    cat_v76 (F := Ideal) p0 p1 p2 p3 p4 p5 p6 p7 p8 p9 p10 (Idealize.ShloMosaic.ix3 h n (⟨66, by decide⟩ : Fin 128)) = p3 (Idealize.ShloMosaic.ix3 h n 0) := by
  unfold cat_v76
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 3 (by simp) S16x4096x1 p3 rfl rfl 66 rfl (Idealize.ShloMosaic.ix3 h n 0)
    (fun b hb => match b with
      | ⟨0, _⟩ => rfl
      | ⟨1, _⟩ => rfl
      | ⟨2, _⟩ => absurd rfl hb) rfl
theorem c76_4 (h : Fin 16) (n : Fin 4096) :
    cat_v76 (F := Ideal) p0 p1 p2 p3 p4 p5 p6 p7 p8 p9 p10 (Idealize.ShloMosaic.ix3 h n (⟨67, by decide⟩ : Fin 128)) = p4 (Idealize.ShloMosaic.ix3 h n 0) := by
  unfold cat_v76
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 4 (by simp) S16x4096x1 p4 rfl rfl 67 rfl (Idealize.ShloMosaic.ix3 h n 0)
    (fun b hb => match b with
      | ⟨0, _⟩ => rfl
      | ⟨1, _⟩ => rfl
      | ⟨2, _⟩ => absurd rfl hb) rfl
theorem c76_5 (h : Fin 16) (n : Fin 4096) :
    cat_v76 (F := Ideal) p0 p1 p2 p3 p4 p5 p6 p7 p8 p9 p10 (Idealize.ShloMosaic.ix3 h n (⟨68, by decide⟩ : Fin 128)) = p5 (Idealize.ShloMosaic.ix3 h n 0) := by
  unfold cat_v76
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 5 (by simp) S16x4096x1 p5 rfl rfl 68 rfl (Idealize.ShloMosaic.ix3 h n 0)
    (fun b hb => match b with
      | ⟨0, _⟩ => rfl
      | ⟨1, _⟩ => rfl
      | ⟨2, _⟩ => absurd rfl hb) rfl
theorem c76_6 (h : Fin 16) (n : Fin 4096) :
    cat_v76 (F := Ideal) p0 p1 p2 p3 p4 p5 p6 p7 p8 p9 p10 (Idealize.ShloMosaic.ix3 h n (⟨69, by decide⟩ : Fin 128)) = p6 (Idealize.ShloMosaic.ix3 h n 0) := by
  unfold cat_v76
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 6 (by simp) S16x4096x1 p6 rfl rfl 69 rfl (Idealize.ShloMosaic.ix3 h n 0)
    (fun b hb => match b with
      | ⟨0, _⟩ => rfl
      | ⟨1, _⟩ => rfl
      | ⟨2, _⟩ => absurd rfl hb) rfl
theorem c76_7 (h : Fin 16) (n : Fin 4096) :
    cat_v76 (F := Ideal) p0 p1 p2 p3 p4 p5 p6 p7 p8 p9 p10 (Idealize.ShloMosaic.ix3 h n (⟨70, by decide⟩ : Fin 128)) = p7 (Idealize.ShloMosaic.ix3 h n 0) := by
  unfold cat_v76
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 7 (by simp) S16x4096x1 p7 rfl rfl 70 rfl (Idealize.ShloMosaic.ix3 h n 0)
    (fun b hb => match b with
      | ⟨0, _⟩ => rfl
      | ⟨1, _⟩ => rfl
      | ⟨2, _⟩ => absurd rfl hb) rfl
theorem c76_8 (h : Fin 16) (n : Fin 4096) :
    cat_v76 (F := Ideal) p0 p1 p2 p3 p4 p5 p6 p7 p8 p9 p10 (Idealize.ShloMosaic.ix3 h n (⟨71, by decide⟩ : Fin 128)) = p8 (Idealize.ShloMosaic.ix3 h n 0) := by
  unfold cat_v76
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 8 (by simp) S16x4096x1 p8 rfl rfl 71 rfl (Idealize.ShloMosaic.ix3 h n 0)
    (fun b hb => match b with
      | ⟨0, _⟩ => rfl
      | ⟨1, _⟩ => rfl
      | ⟨2, _⟩ => absurd rfl hb) rfl
theorem c76_9 (h : Fin 16) (n : Fin 4096) :
    cat_v76 (F := Ideal) p0 p1 p2 p3 p4 p5 p6 p7 p8 p9 p10 (Idealize.ShloMosaic.ix3 h n (⟨72, by decide⟩ : Fin 128)) = p9 (Idealize.ShloMosaic.ix3 h n 0) := by
  unfold cat_v76
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 9 (by simp) S16x4096x1 p9 rfl rfl 72 rfl (Idealize.ShloMosaic.ix3 h n 0)
    (fun b hb => match b with
      | ⟨0, _⟩ => rfl
      | ⟨1, _⟩ => rfl
      | ⟨2, _⟩ => absurd rfl hb) rfl
theorem c76_10 (h : Fin 16) (n : Fin 4096) (d : Fin 55) :
    cat_v76 (F := Ideal) p0 p1 p2 p3 p4 p5 p6 p7 p8 p9 p10 (Idealize.ShloMosaic.ix3 h n (⟨73 + d.val, by omega⟩ : Fin 128)) = p10 (Idealize.ShloMosaic.ix3 h n d) := by
  unfold cat_v76
  exact concatenate_apply_piece (α := EReal) (t := S16x4096x128) 2 [⟨S16x4096x64, p0⟩, ⟨S16x4096x1, p1⟩, ⟨S16x4096x1, p2⟩, ⟨S16x4096x1, p3⟩, ⟨S16x4096x1, p4⟩, ⟨S16x4096x1, p5⟩, ⟨S16x4096x1, p6⟩, ⟨S16x4096x1, p7⟩, ⟨S16x4096x1, p8⟩, ⟨S16x4096x1, p9⟩, ⟨S16x4096x55, p10⟩] concatenates_S16x4096x64_S16x4096x1_S16x4096x1_S16x4096x1_S16x4096x1_S16x4096x1_S16x4096x1_S16x4096x1_S16x4096x1_S16x4096x1_S16x4096x55_S16x4096x128_d2 _ 10 (by simp) S16x4096x55 p10 rfl rfl 73 rfl (Idealize.ShloMosaic.ix3 h n d)
    (fun b hb => match b with
      | ⟨0, _⟩ => rfl
      | ⟨1, _⟩ => rfl
      | ⟨2, _⟩ => absurd rfl hb) rfl
end

section
variable (p0 : Arr Ideal S16x4096x64 .f32) (p1 p2 p3 : Arr Ideal S16x4096x1 .f32) (p4 : Arr Ideal S16x4096x61 .f32)
theorem c82_0 (h : Fin 16) (n : Fin 4096) (d : Fin 64) :
    cat_v82 (F := Ideal) p0 p1 p2 p3 p4 (Idealize.ShloMosaic.ix3 h n (⟨d.val, by omega⟩ : Fin 128)) = p0 (Idealize.ShloMosaic.ix3 h n d) := by
  unfold cat_v82
  exact concatenate_apply_piece (α := EReal) (t := S16x4096x128) 2 [⟨S16x4096x64, p0⟩, ⟨S16x4096x1, p1⟩, ⟨S16x4096x1, p2⟩, ⟨S16x4096x1, p3⟩, ⟨S16x4096x61, p4⟩] concatenates_S16x4096x64_S16x4096x1_S16x4096x1_S16x4096x1_S16x4096x61_S16x4096x128_d2 _ 0 (by simp) S16x4096x64 p0 rfl rfl 0 rfl (Idealize.ShloMosaic.ix3 h n d)
    (fun b hb => match b with
      | ⟨0, _⟩ => rfl
      | ⟨1, _⟩ => rfl
      | ⟨2, _⟩ => absurd rfl hb) (Nat.zero_add _)
theorem c82_1 (h : Fin 16) (n : Fin 4096) :
    cat_v82 (F := Ideal) p0 p1 p2 p3 p4 (Idealize.ShloMosaic.ix3 h n (⟨64, by decide⟩ : Fin 128)) = p1 (Idealize.ShloMosaic.ix3 h n 0) := by
  unfold cat_v82
  exact concatenate_apply_piece (α := EReal) (t := S16x4096x128) 2 [⟨S16x4096x64, p0⟩, ⟨S16x4096x1, p1⟩, ⟨S16x4096x1, p2⟩, ⟨S16x4096x1, p3⟩, ⟨S16x4096x61, p4⟩] concatenates_S16x4096x64_S16x4096x1_S16x4096x1_S16x4096x1_S16x4096x61_S16x4096x128_d2 _ 1 (by simp) S16x4096x1 p1 rfl rfl 64 rfl (Idealize.ShloMosaic.ix3 h n 0)
    (fun b hb => match b with
      | ⟨0, _⟩ => rfl
      | ⟨1, _⟩ => rfl
      | ⟨2, _⟩ => absurd rfl hb) rfl
theorem c82_2 (h : Fin 16) (n : Fin 4096) :
    cat_v82 (F := Ideal) p0 p1 p2 p3 p4 (Idealize.ShloMosaic.ix3 h n (⟨65, by decide⟩ : Fin 128)) = p2 (Idealize.ShloMosaic.ix3 h n 0) := by
  unfold cat_v82
  exact concatenate_apply_piece (α := EReal) (t := S16x4096x128) 2 [⟨S16x4096x64, p0⟩, ⟨S16x4096x1, p1⟩, ⟨S16x4096x1, p2⟩, ⟨S16x4096x1, p3⟩, ⟨S16x4096x61, p4⟩] concatenates_S16x4096x64_S16x4096x1_S16x4096x1_S16x4096x1_S16x4096x61_S16x4096x128_d2 _ 2 (by simp) S16x4096x1 p2 rfl rfl 65 rfl (Idealize.ShloMosaic.ix3 h n 0)
    (fun b hb => match b with
      | ⟨0, _⟩ => rfl
      | ⟨1, _⟩ => rfl
      | ⟨2, _⟩ => absurd rfl hb) rfl
theorem c82_3 (h : Fin 16) (n : Fin 4096) :
    cat_v82 (F := Ideal) p0 p1 p2 p3 p4 (Idealize.ShloMosaic.ix3 h n (⟨66, by decide⟩ : Fin 128)) = p3 (Idealize.ShloMosaic.ix3 h n 0) := by
  unfold cat_v82
  exact concatenate_apply_piece (α := EReal) (t := S16x4096x128) 2 [⟨S16x4096x64, p0⟩, ⟨S16x4096x1, p1⟩, ⟨S16x4096x1, p2⟩, ⟨S16x4096x1, p3⟩, ⟨S16x4096x61, p4⟩] concatenates_S16x4096x64_S16x4096x1_S16x4096x1_S16x4096x1_S16x4096x61_S16x4096x128_d2 _ 3 (by simp) S16x4096x1 p3 rfl rfl 66 rfl (Idealize.ShloMosaic.ix3 h n 0)
    (fun b hb => match b with
      | ⟨0, _⟩ => rfl
      | ⟨1, _⟩ => rfl
      | ⟨2, _⟩ => absurd rfl hb) rfl
theorem c82_4 (h : Fin 16) (n : Fin 4096) (d : Fin 61) :
    cat_v82 (F := Ideal) p0 p1 p2 p3 p4 (Idealize.ShloMosaic.ix3 h n (⟨67 + d.val, by omega⟩ : Fin 128)) = p4 (Idealize.ShloMosaic.ix3 h n d) := by
  unfold cat_v82
  exact concatenate_apply_piece (α := EReal) (t := S16x4096x128) 2 [⟨S16x4096x64, p0⟩, ⟨S16x4096x1, p1⟩, ⟨S16x4096x1, p2⟩, ⟨S16x4096x1, p3⟩, ⟨S16x4096x61, p4⟩] concatenates_S16x4096x64_S16x4096x1_S16x4096x1_S16x4096x1_S16x4096x61_S16x4096x128_d2 _ 4 (by simp) S16x4096x61 p4 rfl rfl 67 rfl (Idealize.ShloMosaic.ix3 h n d)
    (fun b hb => match b with
      | ⟨0, _⟩ => rfl
      | ⟨1, _⟩ => rfl
      | ⟨2, _⟩ => absurd rfl hb) rfl
theorem c88_0 (h : Fin 16) (n : Fin 4096) (d : Fin 64) :
    cat_v88 (F := Ideal) p0 p1 p2 p3 p4 (Idealize.ShloMosaic.ix3 h n (⟨d.val, by omega⟩ : Fin 128)) = p0 (Idealize.ShloMosaic.ix3 h n d) := by
  unfold cat_v88
  exact concatenate_apply_piece (α := EReal) (t := S16x4096x128) 2 [⟨S16x4096x64, p0⟩, ⟨S16x4096x1, p1⟩, ⟨S16x4096x1, p2⟩, ⟨S16x4096x1, p3⟩, ⟨S16x4096x61, p4⟩] concatenates_S16x4096x64_S16x4096x1_S16x4096x1_S16x4096x1_S16x4096x61_S16x4096x128_d2 _ 0 (by simp) S16x4096x64 p0 rfl rfl 0 rfl (Idealize.ShloMosaic.ix3 h n d)
    (fun b hb => match b with
      | ⟨0, _⟩ => rfl
      | ⟨1, _⟩ => rfl
      | ⟨2, _⟩ => absurd rfl hb) (Nat.zero_add _)
theorem c88_1 (h : Fin 16) (n : Fin 4096) :
    cat_v88 (F := Ideal) p0 p1 p2 p3 p4 (Idealize.ShloMosaic.ix3 h n (⟨64, by decide⟩ : Fin 128)) = p1 (Idealize.ShloMosaic.ix3 h n 0) := by
  unfold cat_v88
  exact concatenate_apply_piece (α := EReal) (t := S16x4096x128) 2 [⟨S16x4096x64, p0⟩, ⟨S16x4096x1, p1⟩, ⟨S16x4096x1, p2⟩, ⟨S16x4096x1, p3⟩, ⟨S16x4096x61, p4⟩] concatenates_S16x4096x64_S16x4096x1_S16x4096x1_S16x4096x1_S16x4096x61_S16x4096x128_d2 _ 1 (by simp) S16x4096x1 p1 rfl rfl 64 rfl (Idealize.ShloMosaic.ix3 h n 0)
    (fun b hb => match b with
      | ⟨0, _⟩ => rfl
      | ⟨1, _⟩ => rfl
      | ⟨2, _⟩ => absurd rfl hb) rfl
theorem c88_2 (h : Fin 16) (n : Fin 4096) :
    cat_v88 (F := Ideal) p0 p1 p2 p3 p4 (Idealize.ShloMosaic.ix3 h n (⟨65, by decide⟩ : Fin 128)) = p2 (Idealize.ShloMosaic.ix3 h n 0) := by
  unfold cat_v88
  exact concatenate_apply_piece (α := EReal) (t := S16x4096x128) 2 [⟨S16x4096x64, p0⟩, ⟨S16x4096x1, p1⟩, ⟨S16x4096x1, p2⟩, ⟨S16x4096x1, p3⟩, ⟨S16x4096x61, p4⟩] concatenates_S16x4096x64_S16x4096x1_S16x4096x1_S16x4096x1_S16x4096x61_S16x4096x128_d2 _ 2 (by simp) S16x4096x1 p2 rfl rfl 65 rfl (Idealize.ShloMosaic.ix3 h n 0)
    (fun b hb => match b with
      | ⟨0, _⟩ => rfl
      | ⟨1, _⟩ => rfl
      | ⟨2, _⟩ => absurd rfl hb) rfl
theorem c88_3 (h : Fin 16) (n : Fin 4096) :
    cat_v88 (F := Ideal) p0 p1 p2 p3 p4 (Idealize.ShloMosaic.ix3 h n (⟨66, by decide⟩ : Fin 128)) = p3 (Idealize.ShloMosaic.ix3 h n 0) := by
  unfold cat_v88
  exact concatenate_apply_piece (α := EReal) (t := S16x4096x128) 2 [⟨S16x4096x64, p0⟩, ⟨S16x4096x1, p1⟩, ⟨S16x4096x1, p2⟩, ⟨S16x4096x1, p3⟩, ⟨S16x4096x61, p4⟩] concatenates_S16x4096x64_S16x4096x1_S16x4096x1_S16x4096x1_S16x4096x61_S16x4096x128_d2 _ 3 (by simp) S16x4096x1 p3 rfl rfl 66 rfl (Idealize.ShloMosaic.ix3 h n 0)
    (fun b hb => match b with
      | ⟨0, _⟩ => rfl
      | ⟨1, _⟩ => rfl
      | ⟨2, _⟩ => absurd rfl hb) rfl
theorem c88_4 (h : Fin 16) (n : Fin 4096) (d : Fin 61) :
    cat_v88 (F := Ideal) p0 p1 p2 p3 p4 (Idealize.ShloMosaic.ix3 h n (⟨67 + d.val, by omega⟩ : Fin 128)) = p4 (Idealize.ShloMosaic.ix3 h n d) := by
  unfold cat_v88
  exact concatenate_apply_piece (α := EReal) (t := S16x4096x128) 2 [⟨S16x4096x64, p0⟩, ⟨S16x4096x1, p1⟩, ⟨S16x4096x1, p2⟩, ⟨S16x4096x1, p3⟩, ⟨S16x4096x61, p4⟩] concatenates_S16x4096x64_S16x4096x1_S16x4096x1_S16x4096x1_S16x4096x61_S16x4096x128_d2 _ 4 (by simp) S16x4096x61 p4 rfl rfl 67 rfl (Idealize.ShloMosaic.ix3 h n d)
    (fun b hb => match b with
      | ⟨0, _⟩ => rfl
      | ⟨1, _⟩ => rfl
      | ⟨2, _⟩ => absurd rfl hb) rfl
end

theorem sum9 (g : Fin 9 → EReal) (x : EReal) : (∑ j, g j) + x = g ⟨0, by decide⟩ + (g ⟨1, by decide⟩ + (g ⟨2, by decide⟩ + (g ⟨3, by decide⟩ + (g ⟨4, by decide⟩ + (g ⟨5, by decide⟩ + (g ⟨6, by decide⟩ + (g ⟨7, by decide⟩ + (g ⟨8, by decide⟩ + x)))))))) := by
  simp only [Fin.sum_univ_succ, Fin.sum_univ_zero, add_zero, add_assoc]
  rfl

/-- A sum over 128 columns: the first 64, the next nine one by one, the rest. -/
theorem sum128a (f : Fin 128 → EReal) : (∑ d, f d) = (∑ d : Fin 64, f ⟨d.val, by omega⟩)
    + (f ⟨64, by decide⟩ + (f ⟨65, by decide⟩ + (f ⟨66, by decide⟩ + (f ⟨67, by decide⟩ + (f ⟨68, by decide⟩ + (f ⟨69, by decide⟩ + (f ⟨70, by decide⟩ + (f ⟨71, by decide⟩ + (f ⟨72, by decide⟩ + ∑ d : Fin 55, f ⟨73 + d.val, by omega⟩))))))))) := by
  rw [Fin.sum_univ_add (a := 64) (b := 64) f, Fin.sum_univ_add (a := 9) (b := 55) (fun i : Fin 64 => f (Fin.natAdd 64 i)), sum9]
  have e : (∑ i : Fin 55, f (Fin.natAdd 64 (Fin.natAdd 9 i))) = ∑ d : Fin 55, f ⟨73 + d.val, by omega⟩ :=
    Finset.sum_congr rfl fun (d : Fin 55) _ => congrArg f (Fin.ext (by show 64 + (9 + d.val) = 73 + d.val; omega))
  rw [e]
  rfl

theorem sum3 (g : Fin 3 → EReal) (x : EReal) : (∑ j, g j) + x = g ⟨0, by decide⟩ + (g ⟨1, by decide⟩ + (g ⟨2, by decide⟩ + x)) := by
  simp only [Fin.sum_univ_succ, Fin.sum_univ_zero, add_zero, add_assoc]
  rfl

/-- A sum over 128 columns: the first 64, the next three one by one, the rest. -/
theorem sum128b (f : Fin 128 → EReal) : (∑ d, f d) = (∑ d : Fin 64, f ⟨d.val, by omega⟩)
    + (f ⟨64, by decide⟩ + (f ⟨65, by decide⟩ + (f ⟨66, by decide⟩ + ∑ d : Fin 61, f ⟨67 + d.val, by omega⟩))) := by
  rw [Fin.sum_univ_add (a := 64) (b := 64) f, Fin.sum_univ_add (a := 3) (b := 61) (fun i : Fin 64 => f (Fin.natAdd 64 i)), sum3]
  have e : (∑ i : Fin 61, f (Fin.natAdd 64 (Fin.natAdd 3 i))) = ∑ d : Fin 61, f ⟨67 + d.val, by omega⟩ :=
    Finset.sum_congr rfl fun (d : Fin 61) _ => congrArg f (Fin.ext (by show 64 + (3 + d.val) = 67 + d.val; omega))
  rw [e]
  rfl

/-! ### The host's layout operations -/

theorem bcCol (y : S16x4096.Idx → EReal) (i : S16x4096x1.Idx) :
    broadcastInDim S16x4096x1 ![0, 1] bcast_S16x4096_S16x4096x1_0_1 y i = y (ix2 (i 0) (i 1)) :=
  broadcastInDim_apply _ bcast_S16x4096_S16x4096x1_0_1 y i (ix2 (i 0) (i 1)) (fun a => match a with
    | ⟨0, _⟩ => by show (i 0).val = if (16 : Nat) = 1 then 0 else (i 0).val; rw [if_neg (by decide)]
    | ⟨1, _⟩ => by show (i 1).val = if (4096 : Nat) = 1 then 0 else (i 1).val; rw [if_neg (by decide)])

theorem bcRow (y : S16x4096.Idx → EReal) (i : S16x1x4096.Idx) :
    broadcastInDim S16x1x4096 ![0, 2] bcast_S16x4096_S16x1x4096_0_2 y i = y (ix2 (i 0) (i 2)) :=
  broadcastInDim_apply _ bcast_S16x4096_S16x1x4096_0_2 y i (ix2 (i 0) (i 2)) (fun a => match a with
    | ⟨0, _⟩ => by show (i 0).val = if (16 : Nat) = 1 then 0 else (i 0).val; rw [if_neg (by decide)]
    | ⟨1, _⟩ => by show (i 2).val = if (4096 : Nat) = 1 then 0 else (i 2).val; rw [if_neg (by decide)])

theorem bcCols (y : S16x4096x1.Idx → EReal) (i : S16x4096x4096.Idx) :
    broadcastInDim S16x4096x4096 ![0, 1, 2] bcast_S16x4096x1_S16x4096x4096_0_1_2 y i = y (Idealize.ShloMosaic.ix3 (i 0) (i 1) 0) :=
  broadcastInDim_apply _ bcast_S16x4096x1_S16x4096x4096_0_1_2 y i (Idealize.ShloMosaic.ix3 (i 0) (i 1) 0) (fun a => match a with
    | ⟨0, _⟩ => by show (i 0).val = if (16 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])

theorem bcCols64 (y : S16x4096x1.Idx → EReal) (i : S16x4096x64.Idx) :
    broadcastInDim S16x4096x64 ![0, 1, 2] bcast_S16x4096x1_S16x4096x64_0_1_2 y i = y (Idealize.ShloMosaic.ix3 (i 0) (i 1) 0) :=
  broadcastInDim_apply _ bcast_S16x4096x1_S16x4096x64_0_1_2 y i (Idealize.ShloMosaic.ix3 (i 0) (i 1) 0) (fun a => match a with
    | ⟨0, _⟩ => by show (i 0).val = if (16 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])

theorem bcRows (y : S16x1x4096.Idx → EReal) (i : S16x4096x4096.Idx) :
    broadcastInDim S16x4096x4096 ![0, 1, 2] bcast_S16x1x4096_S16x4096x4096_0_1_2 y i = y (Idealize.ShloMosaic.ix3 (i 0) 0 (i 2)) :=
  broadcastInDim_apply _ bcast_S16x1x4096_S16x4096x4096_0_1_2 y i (Idealize.ShloMosaic.ix3 (i 0) 0 (i 2)) (fun a => match a with
    | ⟨0, _⟩ => by show (i 0).val = if (16 : Nat) = 1 then 0 else (i 0).val; rw [if_neg (by decide)]
    | ⟨1, _⟩ => by show 0 = if (1 : Nat) = 1 then 0 else (i 1).val; rw [if_pos rfl]
    | ⟨2, _⟩ => by show (i 2).val = if (4096 : Nat) = 1 then 0 else (i 2).val; rw [if_neg (by decide)])

theorem sumRow (y : S16x4096x4096.Idx → EReal) (i : S16x4096.Idx) :
    Host.reduceAdd (F := Ideal) (φ := .f32) y (constant (F := Ideal) S_ .f32 0x00000000#32) reducesTo_S16x4096x4096_S16x4096_d2 h_S_ i
      = ∑ s : Fin 4096, y (Idealize.ShloMosaic.ix3 (i 0) (i 1) s) := by
  simp only [Host.reduceAdd, Ideal.hostReduceAdd_def]
  rw [Ideal.hostReduceAdd_single reducesTo_S16x4096x4096_S16x4096_d2 (by decide)]
  refine Eq.trans (congrArg (· + _) Ideal.ofBits_zero_f32) ((zero_add _).trans (Finset.sum_congr rfl fun k _ => ?_))
  exact congrArg y (funext fun a => Fin.ext (by match a with | ⟨0, _⟩ => rfl | ⟨1, _⟩ => rfl | ⟨2, _⟩ => rfl))

theorem sumRow64 (y : S16x4096x64.Idx → EReal) (i : S16x4096.Idx) :
    Host.reduceAdd (F := Ideal) (φ := .f32) y (constant (F := Ideal) S_ .f32 0x00000000#32) reducesTo_S16x4096x64_S16x4096_d2 h_S_ i
      = ∑ s : Fin 64, y (Idealize.ShloMosaic.ix3 (i 0) (i 1) s) := by
  simp only [Host.reduceAdd, Ideal.hostReduceAdd_def]
  rw [Ideal.hostReduceAdd_single reducesTo_S16x4096x64_S16x4096_d2 (by decide)]
  refine Eq.trans (congrArg (· + _) Ideal.ofBits_zero_f32) ((zero_add _).trans (Finset.sum_congr rfl fun k _ => ?_))
  exact congrArg y (funext fun a => Fin.ext (by match a with | ⟨0, _⟩ => rfl | ⟨1, _⟩ => rfl | ⟨2, _⟩ => rfl))

theorem dotQK (l : S16x4096x64.Idx → EReal) (r : S16x4096x64.Idx → EReal) (i : S16x4096x4096.Idx) :
    Host.dotGeneral (F := Ideal) (φ₁ := .f32) (φ₂ := .f32) dot_S16x4096x64_S16x4096x64_S16x4096x4096_2_2_1_1_0_0 none l r i
      = ∑ k : Fin 64, l (Idealize.ShloMosaic.ix3 (i 0) (i 1) k) * r (Idealize.ShloMosaic.ix3 (i 0) (i 2) k) := by
  simp only [Host.dotGeneral]
  rw [Ideal.dotGeneral_apply, ← Equiv.sum_comp (ValueIdx.contrEquiv1 dot_S16x4096x64_S16x4096x64_S16x4096x4096_2_2_1_1_0_0 64 rfl rfl).symm]
  refine Finset.sum_congr rfl fun k _ => ?_
  have hk := ValueIdx.contrEquiv1_symm_val dot_S16x4096x64_S16x4096x64_S16x4096x4096_2_2_1_1_0_0 64 rfl rfl k
  have el : dot_S16x4096x64_S16x4096x64_S16x4096x4096_2_2_1_1_0_0.lhsIdx i ((ValueIdx.contrEquiv1 dot_S16x4096x64_S16x4096x64_S16x4096x4096_2_2_1_1_0_0 64 rfl rfl).symm k) = Idealize.ShloMosaic.ix3 (i 0) (i 1) k := funext fun a => Fin.ext (by
    match a with
    | ⟨0, _⟩ =>
      show (dot_S16x4096x64_S16x4096x64_S16x4096x4096_2_2_1_1_0_0.lhsIdx i _ 0).val = (i 0).val
      unfold DotDims.lhsIdx
      rw [dif_pos (show (0 : Fin S16x4096x64.rank) ∈ dot_S16x4096x64_S16x4096x64_S16x4096x4096_2_2_1_1_0_0.lhsBatch by decide)]
      rfl
    | ⟨1, _⟩ =>
      show (dot_S16x4096x64_S16x4096x64_S16x4096x4096_2_2_1_1_0_0.lhsIdx i _ 1).val = (i 1).val
      unfold DotDims.lhsIdx
      rw [dif_neg (show ¬(1 : Fin S16x4096x64.rank) ∈ dot_S16x4096x64_S16x4096x64_S16x4096x4096_2_2_1_1_0_0.lhsBatch by decide), dif_pos (show (1 : Fin S16x4096x64.rank) ∈ dot_S16x4096x64_S16x4096x64_S16x4096x4096_2_2_1_1_0_0.lhsNonContracting by decide)]
      rfl
    | ⟨2, _⟩ => exact (dot_S16x4096x64_S16x4096x64_S16x4096x4096_2_2_1_1_0_0.lhsIdx_val_of_single rfl i _).trans hk)
  have er : dot_S16x4096x64_S16x4096x64_S16x4096x4096_2_2_1_1_0_0.rhsIdx i ((ValueIdx.contrEquiv1 dot_S16x4096x64_S16x4096x64_S16x4096x4096_2_2_1_1_0_0 64 rfl rfl).symm k) = Idealize.ShloMosaic.ix3 (i 0) (i 2) k := funext fun a => Fin.ext (by
    match a with
    | ⟨0, _⟩ =>
      show (dot_S16x4096x64_S16x4096x64_S16x4096x4096_2_2_1_1_0_0.rhsIdx i _ 0).val = (i 0).val
      unfold DotDims.rhsIdx
      rw [dif_pos (show (0 : Fin S16x4096x64.rank) ∈ dot_S16x4096x64_S16x4096x64_S16x4096x4096_2_2_1_1_0_0.rhsBatch by decide)]
      rfl
    | ⟨1, _⟩ =>
      show (dot_S16x4096x64_S16x4096x64_S16x4096x4096_2_2_1_1_0_0.rhsIdx i _ 1).val = (i 2).val
      unfold DotDims.rhsIdx
      rw [dif_neg (show ¬(1 : Fin S16x4096x64.rank) ∈ dot_S16x4096x64_S16x4096x64_S16x4096x4096_2_2_1_1_0_0.rhsBatch by decide), dif_pos (show (1 : Fin S16x4096x64.rank) ∈ dot_S16x4096x64_S16x4096x64_S16x4096x4096_2_2_1_1_0_0.rhsNonContracting by decide)]
      rfl
    | ⟨2, _⟩ => exact (dot_S16x4096x64_S16x4096x64_S16x4096x4096_2_2_1_1_0_0.rhsIdx_val_of_single rfl i _).trans hk)
  rw [el, er]
  rfl

theorem dotPV (l : S16x4096x4096.Idx → EReal) (r : S16x4096x64.Idx → EReal) (i : S16x4096x64.Idx) :
    Host.dotGeneral (F := Ideal) (φ₁ := .f32) (φ₂ := .f32) dot_S16x4096x4096_S16x4096x64_S16x4096x64_2_1_1_2_0_0 none l r i
      = ∑ k : Fin 4096, l (Idealize.ShloMosaic.ix3 (i 0) (i 1) k) * r (Idealize.ShloMosaic.ix3 (i 0) k (i 2)) := by
  simp only [Host.dotGeneral]
  rw [Ideal.dotGeneral_apply, ← Equiv.sum_comp (ValueIdx.contrEquiv1 dot_S16x4096x4096_S16x4096x64_S16x4096x64_2_1_1_2_0_0 4096 rfl rfl).symm]
  refine Finset.sum_congr rfl fun k _ => ?_
  have hk := ValueIdx.contrEquiv1_symm_val dot_S16x4096x4096_S16x4096x64_S16x4096x64_2_1_1_2_0_0 4096 rfl rfl k
  have el : dot_S16x4096x4096_S16x4096x64_S16x4096x64_2_1_1_2_0_0.lhsIdx i ((ValueIdx.contrEquiv1 dot_S16x4096x4096_S16x4096x64_S16x4096x64_2_1_1_2_0_0 4096 rfl rfl).symm k) = Idealize.ShloMosaic.ix3 (i 0) (i 1) k := funext fun a => Fin.ext (by
    match a with
    | ⟨0, _⟩ =>
      show (dot_S16x4096x4096_S16x4096x64_S16x4096x64_2_1_1_2_0_0.lhsIdx i _ 0).val = (i 0).val
      unfold DotDims.lhsIdx
      rw [dif_pos (show (0 : Fin S16x4096x4096.rank) ∈ dot_S16x4096x4096_S16x4096x64_S16x4096x64_2_1_1_2_0_0.lhsBatch by decide)]
      rfl
    | ⟨1, _⟩ =>
      show (dot_S16x4096x4096_S16x4096x64_S16x4096x64_2_1_1_2_0_0.lhsIdx i _ 1).val = (i 1).val
      unfold DotDims.lhsIdx
      rw [dif_neg (show ¬(1 : Fin S16x4096x4096.rank) ∈ dot_S16x4096x4096_S16x4096x64_S16x4096x64_2_1_1_2_0_0.lhsBatch by decide), dif_pos (show (1 : Fin S16x4096x4096.rank) ∈ dot_S16x4096x4096_S16x4096x64_S16x4096x64_2_1_1_2_0_0.lhsNonContracting by decide)]
      rfl
    | ⟨2, _⟩ => exact (dot_S16x4096x4096_S16x4096x64_S16x4096x64_2_1_1_2_0_0.lhsIdx_val_of_single rfl i _).trans hk)
  have er : dot_S16x4096x4096_S16x4096x64_S16x4096x64_2_1_1_2_0_0.rhsIdx i ((ValueIdx.contrEquiv1 dot_S16x4096x4096_S16x4096x64_S16x4096x64_2_1_1_2_0_0 4096 rfl rfl).symm k) = Idealize.ShloMosaic.ix3 (i 0) k (i 2) := funext fun a => Fin.ext (by
    match a with
    | ⟨0, _⟩ =>
      show (dot_S16x4096x4096_S16x4096x64_S16x4096x64_2_1_1_2_0_0.rhsIdx i _ 0).val = (i 0).val
      unfold DotDims.rhsIdx
      rw [dif_pos (show (0 : Fin S16x4096x64.rank) ∈ dot_S16x4096x4096_S16x4096x64_S16x4096x64_2_1_1_2_0_0.rhsBatch by decide)]
      rfl
    | ⟨1, _⟩ => exact (dot_S16x4096x4096_S16x4096x64_S16x4096x64_2_1_1_2_0_0.rhsIdx_val_of_single rfl i _).trans hk
    | ⟨2, _⟩ =>
      show (dot_S16x4096x4096_S16x4096x64_S16x4096x64_2_1_1_2_0_0.rhsIdx i _ 2).val = (i 2).val
      unfold DotDims.rhsIdx
      rw [dif_neg (show ¬(2 : Fin S16x4096x64.rank) ∈ dot_S16x4096x4096_S16x4096x64_S16x4096x64_2_1_1_2_0_0.rhsBatch by decide), dif_pos (show (2 : Fin S16x4096x64.rank) ∈ dot_S16x4096x4096_S16x4096x64_S16x4096x64_2_1_1_2_0_0.rhsNonContracting by decide)]
      rfl)
  rw [el, er]
  rfl

end Cert.KernelIdeal.Hand

end
-- ==== Proof.Columns.lean ====
/- The packed operands' columns, when the arguments are reals, and the two products of packed rows that the kernel's
   body takes: the logit less the row's log sum, and the weight's cotangent less the row's sum. -/
module

public import proofs.«01_k».proof.Proof.StageKit

@[expose] public section

set_option maxRecDepth 16384

noncomputable section

namespace Cert.KernelIdeal.Hand

open Cert.KernelIdeal Cert.KernelIdeal.Gen Cert.Spec
open Idealize.ShloMosaic Idealize.ShloMosaic.TcCoe

/-! ### A number split in three parts

Over the reals the first part is the number and the other two are zero. -/

theorem part1 (y : S16x4096.Idx → EReal) : extf (F := Ideal) .f32 (truncf (F := Ideal) (φ := .f32) .bf16 y bitsLt_bf16_f32) bitsLt_bf16_f32 = y := rfl

theorem sub_at (y z : S16x4096.Idx → EReal) (i : S16x4096.Idx) : subf (F := Ideal) (φ := .f32) y z i = y i - z i := rfl

theorem neg_at (y : S16x4096.Idx → EReal) (i : S16x4096.Idx) : Host.negf (F := Ideal) (φ := .f32) y i = -y i := rfl

theorem sub_zero_of (y z : S16x4096.Idx → EReal) (r : Fin 16 → Fin 4096 → ℝ) (hy : ∀ i, y i = ((r (i 0) (i 1) : ℝ) : EReal)) (hz : z = y)
    (i : S16x4096.Idx) : subf (F := Ideal) (φ := .f32) y z i = 0 := by
  rw [sub_at, hz, hy, ← EReal.coe_sub, sub_self]
  rfl

theorem sub_zero_zero (y z : S16x4096.Idx → EReal) (hy : ∀ i, y i = 0) (hz : ∀ i, z i = 0) (i : S16x4096.Idx) :
    subf (F := Ideal) (φ := .f32) y z i = 0 := by
  rw [sub_at, hy, hz]
  exact sub_zero _

theorem neg_zero_of (y : S16x4096.Idx → EReal) (hy : ∀ i, y i = 0) (i : S16x4096.Idx) : Host.negf (F := Ideal) (φ := .f32) y i = 0 := by
  rw [neg_at, hy]
  exact neg_zero

theorem neg_real_of (y : S16x4096.Idx → EReal) (r : Fin 16 → Fin 4096 → ℝ) (hy : ∀ i, y i = ((r (i 0) (i 1) : ℝ) : EReal)) (i : S16x4096.Idx) :
    Host.negf (F := Ideal) (φ := .f32) y i = (((fun a b => -r a b) (i 0) (i 1) : ℝ) : EReal) := by
  rw [neg_at, hy]
  exact (EReal.coe_neg _).symm

theorem col (y : S16x4096.Idx → EReal) (z : EReal) (h : Fin 16) (n : Fin 4096) (hy : y (ix2 h n) = z) :
    broadcastInDim S16x4096x1 ![0, 1] bcast_S16x4096_S16x4096x1_0_1 y (Idealize.ShloMosaic.ix3 h n 0) = z :=
  (bcCol y _).trans hy

theorem one_at (i : S16x4096.Idx) : st_v26 (F := Ideal) i = 1 := Ideal.ofBits_one_f32

theorem pack (y : S16x4096x128.Idx → EReal) (i : S16x4096x128.Idx) : truncf (F := Ideal) (φ := .f32) .bf16 y bitsLt_bf16_f32 i = y i := rfl

/-- A packed array cut into blocks of 512 rows with each block turned: the block's row is a row of the array. -/
theorem blocks (y : S16x4096x128.Idx → EReal) (hd : Fin 16) (k : Fin 8) (d : Fin 128) (r : Fin 512) :
    transpose S16x8x128x512 [0, 1, 3, 2] (shapeCast S16x8x512x128 y shapeCasts_S16x4096x128_S16x8x512x128)
        transposes_S16x8x512x128_S16x8x128x512_0_1_3_2 (ix4 hd k d r)
      = y (Idealize.ShloMosaic.ix3 hd ⟨512 * k.val + r.val, by omega⟩ d) := by
  refine (transpose_apply _ _ _ _ (ix4 hd k r d) (fun b => ?_)).trans ?_
  · match b with
    | ⟨0, _⟩ => rfl
    | ⟨1, _⟩ => rfl
    | ⟨2, _⟩ => rfl
    | ⟨3, _⟩ => rfl
  · refine shapeCast_apply _ _ _ _ ?_
    refine (Shape.rowMajor_val_three _).trans (Eq.trans ?_ (Shape.rowMajor_val_four _).symm)
    show (hd.val * 4096 + (512 * k.val + r.val)) * 128 + d.val = ((hd.val * 8 + k.val) * 512 + r.val) * 128 + d.val
    omega

variable {q k v : Fin 16 → Fin 4096 → Fin 64 → ℝ} {c : Fin 16 → Fin 4096 → ℝ} {ct : Fin 16 → Fin 4096 → Fin 64 → ℝ}
variable {L D : Fin 16 → Fin 4096 → ℝ}
variable (x0 x1 x2 x4 : (⟨S16x4096x64, .f32⟩ : BufTy).Contents (Elt Ideal)) (x3 : (⟨S16x4096, .f32⟩ : BufTy).Contents (Elt Ideal))

/-- The packed queries. -/
def pQ (h : Fin 16) (n : Fin 4096) (d : Fin 128) : EReal := st_v62 (F := Ideal) x0 x1 x3 (Idealize.ShloMosaic.ix3 h n d)
/-- The packed keys. -/
def pK (h : Fin 16) (n : Fin 4096) (d : Fin 128) : EReal := st_v77 (F := Ideal) x1 x3 (Idealize.ShloMosaic.ix3 h n d)
/-- The packed values. -/
def pV (h : Fin 16) (n : Fin 4096) (d : Fin 128) : EReal := st_v83 (F := Ideal) x2 (Idealize.ShloMosaic.ix3 h n d)
/-- The packed cotangents. -/
def pC (h : Fin 16) (n : Fin 4096) (d : Fin 128) : EReal := st_v89 (F := Ideal) x0 x1 x2 x3 x4 (Idealize.ShloMosaic.ix3 h n d)

variable {x0 x1 x2 x4 x3}

section Split

variable (h3 : ∀ i : S16x4096.Idx, x3 i = ((c (i 0) (i 1) : ℝ) : EReal))
include h3

theorem cc2 (i : S16x4096.Idx) : st_v31 (F := Ideal) x3 i = 0 := by
  unfold st_v31 st_v30
  beta_reduce
  rw [part1]
  unfold st_v29 st_v28 st_v27
  exact sub_zero_of _ _ c h3 (part1 _) i

theorem cc3 (i : S16x4096.Idx) : st_v32 (F := Ideal) x3 i = 0 := by
  have e2 := cc2 h3
  unfold st_v32
  refine sub_zero_zero _ _ (fun j => ?_) e2 i
  have e := e2 j
  unfold st_v31 st_v30 at e
  beta_reduce at e
  rw [part1] at e
  exact e

end Split

section SplitL

variable (hL : ∀ i : S16x4096.Idx, st_v25 (F := Ideal) x0 x1 x3 i = ((L (i 0) (i 1) : ℝ) : EReal))
include hL

theorem ll0 (i : S16x4096.Idx) : st_v33 (F := Ideal) x0 x1 x3 i = (((fun a b => -L a b) (i 0) (i 1) : ℝ) : EReal) := by
  unfold st_v33
  exact neg_real_of _ L hL i

theorem ll2 (i : S16x4096.Idx) : st_v38 (F := Ideal) x0 x1 x3 i = 0 := by
  unfold st_v38 st_v37
  beta_reduce
  rw [part1]
  unfold st_v36 st_v35 st_v34
  exact sub_zero_of _ _ (fun a b => -L a b) (ll0 hL) (part1 _) i

theorem ll3 (i : S16x4096.Idx) : st_v39 (F := Ideal) x0 x1 x3 i = 0 := by
  have e2 := ll2 hL
  unfold st_v39
  refine sub_zero_zero _ _ (fun j => ?_) e2 i
  have e := e2 j
  unfold st_v38 st_v37 at e
  beta_reduce at e
  rw [part1] at e
  exact e

end SplitL

section SplitD

variable (hD : ∀ i : S16x4096.Idx, st_v41 (F := Ideal) x0 x1 x2 x3 x4 i = ((D (i 0) (i 1) : ℝ) : EReal))
include hD

theorem dd0 (i : S16x4096.Idx) : st_v42 (F := Ideal) x0 x1 x2 x3 x4 i = (((fun a b => -D a b) (i 0) (i 1) : ℝ) : EReal) := by
  unfold st_v42
  exact neg_real_of _ D hD i

theorem dd2 (i : S16x4096.Idx) : st_v47 (F := Ideal) x0 x1 x2 x3 x4 i = 0 := by
  unfold st_v47 st_v46
  beta_reduce
  rw [part1]
  unfold st_v45 st_v44 st_v43
  exact sub_zero_of _ _ (fun a b => -D a b) (dd0 hD) (part1 _) i

theorem dd3 (i : S16x4096.Idx) : st_v48 (F := Ideal) x0 x1 x2 x3 x4 i = 0 := by
  have e2 := dd2 hD
  unfold st_v48
  refine sub_zero_zero _ _ (fun j => ?_) e2 i
  have e := e2 j
  unfold st_v47 st_v46 at e
  beta_reduce at e
  rw [part1] at e
  exact e

end SplitD

section Query

variable (h0 : ∀ i : S16x4096x64.Idx, x0 i = ((q (i 0) (i 1) (i 2) : ℝ) : EReal))
  (h3 : ∀ i : S16x4096.Idx, x3 i = ((c (i 0) (i 1) : ℝ) : EReal))
  (hL : ∀ i : S16x4096.Idx, st_v25 (F := Ideal) x0 x1 x3 i = ((L (i 0) (i 1) : ℝ) : EReal))

include h0 in
theorem q_lo (h : Fin 16) (n : Fin 4096) (d : Fin 64) : pQ x0 x1 x3 h n ⟨d.val, by omega⟩ = ((q h n d * (1 / 8) : ℝ) : EReal) := by
  unfold pQ st_v62
  refine (pack _ _).trans ?_
  unfold st_v61
  refine (c61_0 _ _ _ _ _ _ _ _ _ _ _ h n d).trans ?_
  unfold st_v50
  show x0 _ * Ideal.ofBits .f32 0x3E000000#32 = _
  rw [ofBits_eighth, h0, EReal.coe_mul]
  rfl

include h3 in
theorem q64 (h : Fin 16) (n : Fin 4096) : pQ x0 x1 x3 h n ⟨64, by decide⟩ = ((c h n : ℝ) : EReal) := by
  unfold pQ st_v62
  refine (pack _ _).trans ?_
  unfold st_v61
  refine (c61_1 _ _ _ _ _ _ _ _ _ _ _ h n).trans ?_
  unfold st_v51 st_v28 st_v27
  refine col _ _ h n ?_
  beta_reduce
  rw [part1]
  exact h3 _

include h3 in
theorem q65 (h : Fin 16) (n : Fin 4096) : pQ x0 x1 x3 h n ⟨65, by decide⟩ = 0 := by
  unfold pQ st_v62
  refine (pack _ _).trans ?_
  unfold st_v61
  refine (c61_2 _ _ _ _ _ _ _ _ _ _ _ h n).trans ?_
  unfold st_v52
  refine col _ _ h n ?_
  exact cc2 h3 _

include h3 in
theorem q66 (h : Fin 16) (n : Fin 4096) : pQ x0 x1 x3 h n ⟨66, by decide⟩ = 0 := by
  unfold pQ st_v62
  refine (pack _ _).trans ?_
  unfold st_v61
  refine (c61_3 _ _ _ _ _ _ _ _ _ _ _ h n).trans ?_
  unfold st_v53
  refine col _ _ h n ?_
  exact cc3 h3 _

theorem q67 (h : Fin 16) (n : Fin 4096) : pQ x0 x1 x3 h n ⟨67, by decide⟩ = 1 := by
  unfold pQ st_v62
  refine (pack _ _).trans ?_
  unfold st_v61
  refine (c61_4 _ _ _ _ _ _ _ _ _ _ _ h n).trans ?_
  unfold st_v54
  refine col _ _ h n ?_
  exact one_at _

theorem q68 (h : Fin 16) (n : Fin 4096) : pQ x0 x1 x3 h n ⟨68, by decide⟩ = 1 := by
  unfold pQ st_v62
  refine (pack _ _).trans ?_
  unfold st_v61
  refine (c61_5 _ _ _ _ _ _ _ _ _ _ _ h n).trans ?_
  unfold st_v55
  refine col _ _ h n ?_
  exact one_at _

theorem q69 (h : Fin 16) (n : Fin 4096) : pQ x0 x1 x3 h n ⟨69, by decide⟩ = 1 := by
  unfold pQ st_v62
  refine (pack _ _).trans ?_
  unfold st_v61
  refine (c61_6 _ _ _ _ _ _ _ _ _ _ _ h n).trans ?_
  unfold st_v56
  refine col _ _ h n ?_
  exact one_at _

include hL in
theorem q70 (h : Fin 16) (n : Fin 4096) : pQ x0 x1 x3 h n ⟨70, by decide⟩ = ((-L h n : ℝ) : EReal) := by
  unfold pQ st_v62
  refine (pack _ _).trans ?_
  unfold st_v61
  refine (c61_7 _ _ _ _ _ _ _ _ _ _ _ h n).trans ?_
  unfold st_v57 st_v35 st_v34
  refine col _ _ h n ?_
  beta_reduce
  rw [part1]
  exact ll0 hL _

include hL in
theorem q71 (h : Fin 16) (n : Fin 4096) : pQ x0 x1 x3 h n ⟨71, by decide⟩ = 0 := by
  unfold pQ st_v62
  refine (pack _ _).trans ?_
  unfold st_v61
  refine (c61_8 _ _ _ _ _ _ _ _ _ _ _ h n).trans ?_
  unfold st_v58
  refine col _ _ h n ?_
  exact ll2 hL _

include hL in
theorem q72 (h : Fin 16) (n : Fin 4096) : pQ x0 x1 x3 h n ⟨72, by decide⟩ = 0 := by
  unfold pQ st_v62
  refine (pack _ _).trans ?_
  unfold st_v61
  refine (c61_9 _ _ _ _ _ _ _ _ _ _ _ h n).trans ?_
  unfold st_v59
  refine col _ _ h n ?_
  exact ll3 hL _

theorem q_hi (h : Fin 16) (n : Fin 4096) (d : Fin 55) : pQ x0 x1 x3 h n ⟨73 + d.val, by omega⟩ = 0 := by
  unfold pQ st_v62
  refine (pack _ _).trans ?_
  unfold st_v61
  refine (c61_10 _ _ _ _ _ _ _ _ _ _ _ h n d).trans ?_
  exact Ideal.ofBits_zero_f32

end Query

section Key

variable (h1 : ∀ i : S16x4096x64.Idx, x1 i = ((k (i 0) (i 1) (i 2) : ℝ) : EReal))
  (h3 : ∀ i : S16x4096.Idx, x3 i = ((c (i 0) (i 1) : ℝ) : EReal))

include h1 in
theorem k_lo (h : Fin 16) (n : Fin 4096) (d : Fin 64) : pK x1 x3 h n ⟨d.val, by omega⟩ = ((k h n d : ℝ) : EReal) := by
  unfold pK st_v77
  refine (pack _ _).trans ?_
  unfold st_v76
  refine (c76_0 _ _ _ _ _ _ _ _ _ _ _ h n d).trans ?_
  exact h1 _

theorem k64 (h : Fin 16) (n : Fin 4096) : pK x1 x3 h n ⟨64, by decide⟩ = 1 := by
  unfold pK st_v77
  refine (pack _ _).trans ?_
  unfold st_v76
  refine (c76_1 _ _ _ _ _ _ _ _ _ _ _ h n).trans ?_
  unfold st_v66
  refine col _ _ h n ?_
  exact one_at _

theorem k65 (h : Fin 16) (n : Fin 4096) : pK x1 x3 h n ⟨65, by decide⟩ = 1 := by
  unfold pK st_v77
  refine (pack _ _).trans ?_
  unfold st_v76
  refine (c76_2 _ _ _ _ _ _ _ _ _ _ _ h n).trans ?_
  unfold st_v67
  refine col _ _ h n ?_
  exact one_at _

theorem k66 (h : Fin 16) (n : Fin 4096) : pK x1 x3 h n ⟨66, by decide⟩ = 1 := by
  unfold pK st_v77
  refine (pack _ _).trans ?_
  unfold st_v76
  refine (c76_3 _ _ _ _ _ _ _ _ _ _ _ h n).trans ?_
  unfold st_v68
  refine col _ _ h n ?_
  exact one_at _

include h3 in
theorem k67 (h : Fin 16) (n : Fin 4096) : pK x1 x3 h n ⟨67, by decide⟩ = ((-c h n : ℝ) : EReal) := by
  unfold pK st_v77
  refine (pack _ _).trans ?_
  unfold st_v76
  refine (c76_4 _ _ _ _ _ _ _ _ _ _ _ h n).trans ?_
  unfold st_v69 st_v63 st_v28 st_v27
  refine col _ _ h n ?_
  beta_reduce
  rw [part1]
  exact neg_real_of _ c h3 _

include h3 in
theorem k68 (h : Fin 16) (n : Fin 4096) : pK x1 x3 h n ⟨68, by decide⟩ = 0 := by
  unfold pK st_v77
  refine (pack _ _).trans ?_
  unfold st_v76
  refine (c76_5 _ _ _ _ _ _ _ _ _ _ _ h n).trans ?_
  unfold st_v70 st_v64
  refine col _ _ h n ?_
  exact neg_zero_of _ (cc2 h3) _

include h3 in
theorem k69 (h : Fin 16) (n : Fin 4096) : pK x1 x3 h n ⟨69, by decide⟩ = 0 := by
  unfold pK st_v77
  refine (pack _ _).trans ?_
  unfold st_v76
  refine (c76_6 _ _ _ _ _ _ _ _ _ _ _ h n).trans ?_
  unfold st_v71 st_v65
  refine col _ _ h n ?_
  exact neg_zero_of _ (cc3 h3) _

theorem k70 (h : Fin 16) (n : Fin 4096) : pK x1 x3 h n ⟨70, by decide⟩ = 1 := by
  unfold pK st_v77
  refine (pack _ _).trans ?_
  unfold st_v76
  refine (c76_7 _ _ _ _ _ _ _ _ _ _ _ h n).trans ?_
  unfold st_v72
  refine col _ _ h n ?_
  exact one_at _

theorem k71 (h : Fin 16) (n : Fin 4096) : pK x1 x3 h n ⟨71, by decide⟩ = 1 := by
  unfold pK st_v77
  refine (pack _ _).trans ?_
  unfold st_v76
  refine (c76_8 _ _ _ _ _ _ _ _ _ _ _ h n).trans ?_
  unfold st_v73
  refine col _ _ h n ?_
  exact one_at _

theorem k72 (h : Fin 16) (n : Fin 4096) : pK x1 x3 h n ⟨72, by decide⟩ = 1 := by
  unfold pK st_v77
  refine (pack _ _).trans ?_
  unfold st_v76
  refine (c76_9 _ _ _ _ _ _ _ _ _ _ _ h n).trans ?_
  unfold st_v74
  refine col _ _ h n ?_
  exact one_at _

theorem k_hi (h : Fin 16) (n : Fin 4096) (d : Fin 55) : pK x1 x3 h n ⟨73 + d.val, by omega⟩ = 0 := by
  unfold pK st_v77
  refine (pack _ _).trans ?_
  unfold st_v76
  refine (c76_10 _ _ _ _ _ _ _ _ _ _ _ h n d).trans ?_
  exact Ideal.ofBits_zero_f32

end Key

section ValueAndCotangent

variable (h2 : ∀ i : S16x4096x64.Idx, x2 i = ((v (i 0) (i 1) (i 2) : ℝ) : EReal))
  (h4 : ∀ i : S16x4096x64.Idx, x4 i = ((ct (i 0) (i 1) (i 2) : ℝ) : EReal))
  (hD : ∀ i : S16x4096.Idx, st_v41 (F := Ideal) x0 x1 x2 x3 x4 i = ((D (i 0) (i 1) : ℝ) : EReal))

include h2 in
theorem v_lo (h : Fin 16) (n : Fin 4096) (d : Fin 64) : pV x2 h n ⟨d.val, by omega⟩ = ((v h n d : ℝ) : EReal) := by
  unfold pV st_v83
  refine (pack _ _).trans ?_
  unfold st_v82
  refine (c82_0 _ _ _ _ _ h n d).trans ?_
  exact h2 _

theorem v64 (h : Fin 16) (n : Fin 4096) : pV x2 h n ⟨64, by decide⟩ = 1 := by
  unfold pV st_v83
  refine (pack _ _).trans ?_
  unfold st_v82
  refine (c82_1 _ _ _ _ _ h n).trans ?_
  unfold st_v78
  refine col _ _ h n ?_
  exact one_at _

theorem v65 (h : Fin 16) (n : Fin 4096) : pV x2 h n ⟨65, by decide⟩ = 1 := by
  unfold pV st_v83
  refine (pack _ _).trans ?_
  unfold st_v82
  refine (c82_2 _ _ _ _ _ h n).trans ?_
  unfold st_v79
  refine col _ _ h n ?_
  exact one_at _

theorem v66 (h : Fin 16) (n : Fin 4096) : pV x2 h n ⟨66, by decide⟩ = 1 := by
  unfold pV st_v83
  refine (pack _ _).trans ?_
  unfold st_v82
  refine (c82_3 _ _ _ _ _ h n).trans ?_
  unfold st_v80
  refine col _ _ h n ?_
  exact one_at _

theorem v_hi (h : Fin 16) (n : Fin 4096) (d : Fin 61) : pV x2 h n ⟨67 + d.val, by omega⟩ = 0 := by
  unfold pV st_v83
  refine (pack _ _).trans ?_
  unfold st_v82
  refine (c82_4 _ _ _ _ _ h n d).trans ?_
  exact Ideal.ofBits_zero_f32

include h4 in
theorem t_lo (h : Fin 16) (n : Fin 4096) (d : Fin 64) : pC x0 x1 x2 x4 x3 h n ⟨d.val, by omega⟩ = ((ct h n d : ℝ) : EReal) := by
  unfold pC st_v89
  refine (pack _ _).trans ?_
  unfold st_v88
  refine (c88_0 _ _ _ _ _ h n d).trans ?_
  exact h4 _

include hD in
theorem t64 (h : Fin 16) (n : Fin 4096) : pC x0 x1 x2 x4 x3 h n ⟨64, by decide⟩ = ((-D h n : ℝ) : EReal) := by
  unfold pC st_v89
  refine (pack _ _).trans ?_
  unfold st_v88
  refine (c88_1 _ _ _ _ _ h n).trans ?_
  unfold st_v84 st_v44 st_v43
  refine col _ _ h n ?_
  beta_reduce
  rw [part1]
  exact dd0 hD _

include hD in
theorem t65 (h : Fin 16) (n : Fin 4096) : pC x0 x1 x2 x4 x3 h n ⟨65, by decide⟩ = 0 := by
  unfold pC st_v89
  refine (pack _ _).trans ?_
  unfold st_v88
  refine (c88_2 _ _ _ _ _ h n).trans ?_
  unfold st_v85
  refine col _ _ h n ?_
  exact dd2 hD _

include hD in
theorem t66 (h : Fin 16) (n : Fin 4096) : pC x0 x1 x2 x4 x3 h n ⟨66, by decide⟩ = 0 := by
  unfold pC st_v89
  refine (pack _ _).trans ?_
  unfold st_v88
  refine (c88_3 _ _ _ _ _ h n).trans ?_
  unfold st_v86
  refine col _ _ h n ?_
  exact dd3 hD _

theorem t_hi (h : Fin 16) (n : Fin 4096) (d : Fin 61) : pC x0 x1 x2 x4 x3 h n ⟨67 + d.val, by omega⟩ = 0 := by
  unfold pC st_v89
  refine (pack _ _).trans ?_
  unfold st_v88
  refine (c88_4 _ _ _ _ _ h n d).trans ?_
  exact Ideal.ofBits_zero_f32

end ValueAndCotangent

section Products

variable (h0 : ∀ i : S16x4096x64.Idx, x0 i = ((q (i 0) (i 1) (i 2) : ℝ) : EReal))
  (h1 : ∀ i : S16x4096x64.Idx, x1 i = ((k (i 0) (i 1) (i 2) : ℝ) : EReal))
  (h2 : ∀ i : S16x4096x64.Idx, x2 i = ((v (i 0) (i 1) (i 2) : ℝ) : EReal))
  (h3 : ∀ i : S16x4096.Idx, x3 i = ((c (i 0) (i 1) : ℝ) : EReal))
  (h4 : ∀ i : S16x4096x64.Idx, x4 i = ((ct (i 0) (i 1) (i 2) : ℝ) : EReal))
  (hL : ∀ i : S16x4096.Idx, st_v25 (F := Ideal) x0 x1 x3 i = ((L (i 0) (i 1) : ℝ) : EReal))
  (hD : ∀ i : S16x4096.Idx, st_v41 (F := Ideal) x0 x1 x2 x3 x4 i = ((D (i 0) (i 1) : ℝ) : EReal))

include h0 h1 h3 hL in
/-- A packed query against a packed key: the logit less the query's log sum. -/
theorem prod_qk (h : Fin 16) (n s : Fin 4096) :
    (∑ d, pQ x0 x1 x3 h n d * pK x1 x3 h s d) = ((logit q k c h n s - L h n : ℝ) : EReal) := by
  have e : (∑ d : Fin 64, pQ x0 x1 x3 h n ⟨d.val, by omega⟩ * pK x1 x3 h s ⟨d.val, by omega⟩)
      = (((∑ d, q h n d * k h s d) * (1 / 8) : ℝ) : EReal) := by
    rw [Finset.sum_mul, coe_sum]
    refine Finset.sum_congr rfl fun d _ => ?_
    rw [q_lo h0, k_lo h1, ← EReal.coe_mul]
    exact congrArg _ (by ring)
  have e' : (∑ d : Fin 55, pQ x0 x1 x3 h n ⟨73 + d.val, by omega⟩ * pK x1 x3 h s ⟨73 + d.val, by omega⟩) = 0 :=
    Finset.sum_eq_zero fun d _ => by rw [q_hi, zero_mul]
  rw [sum128a, e, e', q64 h3, q65 h3, q66 h3, q67, q68, q69, q70 hL, q71 hL, q72 hL, k64, k65, k66, k67 h3, k68 h3, k69 h3, k70,
    k71, k72]
  simp only [mul_one, one_mul, zero_add, add_zero]
  rw [← EReal.coe_add, ← EReal.coe_add, ← EReal.coe_add]
  refine congrArg _ ?_
  unfold logit
  ring

include h2 h4 hD in
/-- A packed cotangent against a packed value: the weight's cotangent less the row's sum. -/
theorem prod_cv (h : Fin 16) (n s : Fin 4096) :
    (∑ d, pC x0 x1 x2 x4 x3 h n d * pV x2 h s d) = ((wgt v ct h n s - D h n : ℝ) : EReal) := by
  have e : (∑ d : Fin 64, pC x0 x1 x2 x4 x3 h n ⟨d.val, by omega⟩ * pV x2 h s ⟨d.val, by omega⟩) = ((wgt v ct h n s : ℝ) : EReal) := by
    unfold wgt
    rw [coe_sum]
    refine Finset.sum_congr rfl fun d _ => ?_
    rw [t_lo h4, v_lo h2, ← EReal.coe_mul]
  have e' : (∑ d : Fin 61, pC x0 x1 x2 x4 x3 h n ⟨67 + d.val, by omega⟩ * pV x2 h s ⟨67 + d.val, by omega⟩) = 0 :=
    Finset.sum_eq_zero fun d _ => by rw [t_hi, zero_mul]
  rw [sum128b, e, e', t64 hD, t65 hD, t66 hD, v64, v65, v66]
  simp only [mul_one, add_zero]
  rw [← EReal.coe_add, sub_eq_add_neg]

end Products

end Cert.KernelIdeal.Hand

end
-- ==== Proof.StageValue.lean ====
/- What the kernel's host prefix computes, when the arguments are reals: the rows' log sums and the
   rows' sums of the weights against their cotangent. -/
module

public import proofs.«01_k».proof.Proof.StageKit

@[expose] public section

set_option maxRecDepth 16384

noncomputable section

namespace Cert.KernelIdeal.Hand

open Cert.KernelIdeal Cert.KernelIdeal.Gen Cert.Spec
open Idealize.ShloMosaic Idealize.ShloMosaic.TcCoe

variable {q k v : Fin 16 → Fin 4096 → Fin 64 → ℝ} {c : Fin 16 → Fin 4096 → ℝ} {ct : Fin 16 → Fin 4096 → Fin 64 → ℝ}
variable {x0 x1 x2 x4 : (⟨S16x4096x64, .f32⟩ : BufTy).Contents (Elt Ideal)} {x3 : (⟨S16x4096, .f32⟩ : BufTy).Contents (Elt Ideal)}

theorem coe_sub_self (r : ℝ) : (r : EReal) - (r : EReal) = 0 := by
  rw [← EReal.coe_sub, sub_self]
  rfl

theorem log_real (t : ℝ) (ht : 0 < t) : Ideal.log (t : EReal) = ((Real.log t : ℝ) : EReal) := by
  rw [Ideal.log_coe, if_neg (not_le.mpr ht)]

theorem add_log (y14 y19 : S16x4096.Idx → EReal) (i : S16x4096.Idx) (a t : ℝ) (ht : 0 < t) (e14 : y14 i = (a : EReal)) (e19 : y19 i = (t : EReal)) :
    (addf (F := Ideal) (φ := .f32) y14 (Host.log (F := Ideal) (φ := .f32) y19)) i = ((a + Real.log t : ℝ) : EReal) := by
  show y14 i + Ideal.log (y19 i) = _
  rw [e14, e19, log_real t ht, EReal.coe_add]

theorem out_real (M : Fin 16 → Fin 4096 → ℝ) (h : Fin 16) (n : Fin 4096) (d : Fin 64) :
    (∑ s, expo q k c M h n s * v h s d) / tot q k c M h n = ∑ s, prob q k c h n s * v h s d := by
  rw [Finset.sum_div]
  refine Finset.sum_congr rfl fun s _ => ?_
  rw [← expo_div_tot q k c M, div_mul_eq_mul_div]

section Prefix

variable (h0 : ∀ i : S16x4096x64.Idx, x0 i = ((q (i 0) (i 1) (i 2) : ℝ) : EReal))
  (h1 : ∀ i : S16x4096x64.Idx, x1 i = ((k (i 0) (i 1) (i 2) : ℝ) : EReal))
  (h2 : ∀ i : S16x4096x64.Idx, x2 i = ((v (i 0) (i 1) (i 2) : ℝ) : EReal))
  (h3 : ∀ i : S16x4096.Idx, x3 i = ((c (i 0) (i 1) : ℝ) : EReal))
  (h4 : ∀ i : S16x4096x64.Idx, x4 i = ((ct (i 0) (i 1) (i 2) : ℝ) : EReal))
include h0 h1

theorem s2 (i : S16x4096x4096.Idx) :
    st_v2 (F := Ideal) x0 x1 i = (((∑ d, q (i 0) (i 1) d * k (i 0) (i 2) d) * (1 / 8) : ℝ) : EReal) := by
  unfold st_v2
  show st_v0 (F := Ideal) x0 x1 i * Ideal.ofBits .f32 0x3E000000#32 = _
  rw [ofBits_eighth, EReal.coe_mul]
  refine congrArg (· * _) ?_
  refine (dotQK x0 x1 i).trans ?_
  refine Eq.trans ?_ (coe_sum _ _).symm
  refine Finset.sum_congr rfl fun d _ => ?_
  rw [h0, h1, EReal.coe_mul]
  rfl

include h3

theorem s8 (i : S16x4096x4096.Idx) :
    st_v8 (F := Ideal) x0 x1 x3 i = ((logit q k c (i 0) (i 1) (i 2) : ℝ) : EReal) := by
  unfold st_v8 st_v5
  show (st_v2 (F := Ideal) x0 x1 i + st_v4 (F := Ideal) x3 i) - st_v7 (F := Ideal) x3 i = _
  have e4 : st_v4 (F := Ideal) x3 i = ((c (i 0) (i 1) : ℝ) : EReal) := (bcCols _ i).trans ((bcCol x3 _).trans (h3 _))
  have e7 : st_v7 (F := Ideal) x3 i = ((c (i 0) (i 2) : ℝ) : EReal) := (bcRows _ i).trans ((bcRow x3 _).trans (h3 _))
  rw [s2 h0 h1, e4, e7, ← EReal.coe_add, ← EReal.coe_sub]
  rfl

omit h0 h1 h3 in
theorem s11 (i : S16x4096x4096.Idx) :
    st_v11 (F := Ideal) i = if (i 2).val ≤ (i 1).val then 1#1 else 0#1 := by
  show IntOp.cmpi .sle (BitVec.ofNat 32 (i 2).val) (BitVec.ofNat 32 (i 1).val) = _
  have ha : (i 1).val < 4096 := (i 1).isLt
  have hb : (i 2).val < 4096 := (i 2).isLt
  rw [WordCmp.cmpi_sle_ofNat (by omega) (by omega)]
  by_cases h : (i 2).val ≤ (i 1).val
  · rw [if_pos h, decide_eq_true h]
    rfl
  · rw [if_neg h, decide_eq_false h]
    rfl

theorem s13 (i : S16x4096x4096.Idx) :
    st_v13 (F := Ideal) x0 x1 x3 i
      = if (i 2).val ≤ (i 1).val then ((logit q k c (i 0) (i 1) (i 2) : ℝ) : EReal) else ⊥ := by
  unfold st_v13
  show Scalar.select (st_v11 (F := Ideal) i) (st_v8 (F := Ideal) x0 x1 x3 i) (Ideal.ofBits .f32 0xFF800000#32) = _
  rw [s11, s8 h0 h1 h3, ofBits_ninf]
  unfold Scalar.select
  by_cases h : (i 2).val ≤ (i 1).val
  · rw [if_pos h, if_pos h]
    exact if_pos rfl
  · rw [if_neg h, if_neg h]
    exact if_neg (by decide)

theorem s14 (i : S16x4096.Idx) : ∃ M : ℝ, st_v14 (F := Ideal) x0 x1 x3 i = (M : EReal) := by
  unfold st_v14
  refine reduce_max_real _ _ _ _ i (fun _ => ofBits_ninf) (fun j => ?_)
    (fun a => match a with | ⟨0, _⟩ => ⟨(i 0).val, (i 0).isLt⟩ | ⟨1, _⟩ => ⟨(i 1).val, (i 1).isLt⟩ | ⟨2, _⟩ => ⟨0, Nat.succ_pos 4095⟩) ?_ ?_
  · rw [s13 h0 h1 h3]
    split
    · exact EReal.coe_ne_top _
    · exact bot_ne_top
  · refine funext fun b => Fin.ext ?_
    match b with
    | ⟨0, _⟩ => exact Shape.ReducesTo.drop_apply_val_of_eq reducesTo_S16x4096x4096_S16x4096_d2 _ 0 0
    | ⟨1, _⟩ => exact Shape.ReducesTo.drop_apply_val_of_eq reducesTo_S16x4096x4096_S16x4096_d2 _ 1 1
  · rw [s13 h0 h1 h3, if_pos (Nat.zero_le _)]
    exact EReal.coe_ne_bot _

/-- The host's row shifts are reals. -/
theorem shift : ∃ M : Fin 16 → Fin 4096 → ℝ, ∀ i : S16x4096.Idx,
    st_v14 (F := Ideal) x0 x1 x3 i = ((M (i 0) (i 1) : ℝ) : EReal) := by
  have hM : ∀ (a : Fin 16) (b : Fin 4096), ∃ M : ℝ, st_v14 (F := Ideal) x0 x1 x3 (ix2 a b) = (M : EReal) :=
    fun a b => s14 h0 h1 h3 _
  choose M hM using hM
  refine ⟨M, fun i => ?_⟩
  have e : i = ix2 (i 0) (i 1) := funext fun a => match a with | ⟨0, _⟩ => rfl | ⟨1, _⟩ => rfl
  exact (congrArg _ e).trans (hM _ _)

variable {M : Fin 16 → Fin 4096 → ℝ} (hM : ∀ i : S16x4096.Idx, st_v14 (F := Ideal) x0 x1 x3 i = ((M (i 0) (i 1) : ℝ) : EReal))
include hM

theorem s18 (i : S16x4096x4096.Idx) :
    st_v18 (F := Ideal) x0 x1 x3 i = ((expo q k c M (i 0) (i 1) (i 2) : ℝ) : EReal) := by
  unfold st_v18 st_v17
  have e16 : st_v16 (F := Ideal) x0 x1 x3 i = ((M (i 0) (i 1) : ℝ) : EReal) := by
    unfold st_v16 st_v15
    exact (bcCols _ i).trans ((bcCol _ _).trans (hM _))
  have e13 := s13 h0 h1 h3 i
  generalize st_v13 (F := Ideal) x0 x1 x3 = y13 at e13 ⊢
  generalize st_v16 (F := Ideal) x0 x1 x3 = y16 at e16 ⊢
  show Ideal.exp (y13 i - y16 i) = _
  rw [e13, e16]
  unfold expo
  by_cases h : (i 2).val ≤ (i 1).val
  · rw [if_pos h, if_pos h, ← EReal.coe_sub]
    rfl
  · rw [if_neg h, if_neg h, EReal.bot_sub]
    rfl

theorem s19 (i : S16x4096.Idx) :
    st_v19 (F := Ideal) x0 x1 x3 i = ((tot q k c M (i 0) (i 1) : ℝ) : EReal) := by
  have e18 := s18 h0 h1 h3 hM
  unfold st_v19 st_cst_2
  generalize st_v18 (F := Ideal) x0 x1 x3 = y18 at e18 ⊢
  refine (sumRow y18 i).trans ?_
  unfold tot
  refine Eq.trans ?_ (coe_sum _ _).symm
  refine Finset.sum_congr rfl fun s _ => ?_
  rw [e18]
  rfl

theorem s25 (i : S16x4096.Idx) :
    st_v25 (F := Ideal) x0 x1 x3 i = ((M (i 0) (i 1) + Real.log (tot q k c M (i 0) (i 1)) : ℝ) : EReal) := by
  unfold st_v25 st_v24
  exact add_log _ _ i _ _ (tot_pos q k c M _ _) (hM i) (s19 h0 h1 h3 hM i)

include h2

theorem s23 (i : S16x4096x64.Idx) :
    st_v23 (F := Ideal) x0 x1 x2 x3 i = ((∑ s, prob q k c (i 0) (i 1) s * v (i 0) s (i 2) : ℝ) : EReal) := by
  unfold st_v23
  have e22 : st_v22 (F := Ideal) x0 x1 x3 i = ((tot q k c M (i 0) (i 1) : ℝ) : EReal) := by
    unfold st_v22 st_v21
    exact (bcCols64 _ i).trans ((bcCol _ _).trans (s19 h0 h1 h3 hM _))
  have e20 : st_v20 (F := Ideal) x0 x1 x2 x3 i = ((∑ s, expo q k c M (i 0) (i 1) s * v (i 0) s (i 2) : ℝ) : EReal) := by
    unfold st_v20
    refine (dotPV _ x2 i).trans ?_
    refine Eq.trans ?_ (coe_sum _ _).symm
    refine Finset.sum_congr rfl fun s _ => ?_
    rw [s18 h0 h1 h3 hM, h2, EReal.coe_mul]
    rfl
  generalize st_v20 (F := Ideal) x0 x1 x2 x3 = y20 at e20 ⊢
  generalize st_v22 (F := Ideal) x0 x1 x3 = y22 at e22 ⊢
  show Ideal.div (y20 i) (y22 i) = _
  rw [e20, e22]
  refine (div_real _ _ (tot_pos q k c M _ _).ne').trans (congrArg _ ?_)
  exact out_real M _ _ _

include h4

theorem s41 (i : S16x4096.Idx) :
    st_v41 (F := Ideal) x0 x1 x2 x3 x4 i = ((dlt q k v c ct (i 0) (i 1) : ℝ) : EReal) := by
  unfold st_v41 st_cst_4
  refine (sumRow64 _ i).trans ?_
  have e : dlt q k v c ct (i 0) (i 1) = ∑ d, ct (i 0) (i 1) d * ∑ s, prob q k c (i 0) (i 1) s * v (i 0) s d := by
    unfold dlt wgt
    simp only [Finset.mul_sum]
    rw [Finset.sum_comm]
    refine Finset.sum_congr rfl fun d _ => Finset.sum_congr rfl fun s _ => ?_
    ring
  rw [e]
  refine Eq.trans ?_ (coe_sum _ _).symm
  refine Finset.sum_congr rfl fun d _ => ?_
  have e23 := s23 h0 h1 h2 h3 hM
  unfold st_v40
  generalize st_v23 (F := Ideal) x0 x1 x2 x3 = y23 at e23 ⊢
  show x4 _ * y23 _ = _
  rw [e23, h4, EReal.coe_mul]
  rfl

end Prefix

end Cert.KernelIdeal.Hand

end
-- ==== Proof.OffsT.lean ====
/- Closed forms of the tile offsets the kernel body computes for the transposed copies. -/
module

public import proofs.«01_k».proof.Proof.Gen.KernelIdeal
public import proofs.«01_k».proof.Proof.Gen.KernelIdeal.Skeleton
public import Idealize.ShloMosaic.Lib.Tactic

@[expose] public section

set_option maxRecDepth 16384

namespace Cert.KernelIdeal.Hand

open Cert.KernelIdeal Cert.KernelIdeal.Gen
open Idealize.ShloMosaic Idealize.ShloMosaic.Tactic

/-- The query tiles the transposed copies are read at: those of the diagonal span, and those of one trip. -/
theorem off3_eq0 : ∀ i : grid0.Coords, k0_off3 i 0#32 = ![0, (i 1).val, 0, 0] := by decide +kernel
theorem off3_eq1 : ∀ i : grid0.Coords, k0_off3 i 1#32 = ![0, (i 1).val + 1, 0, 0] := by decide +kernel
theorem off4_eq0 : ∀ i : grid0.Coords, k0_off4 i 0#32 = ![0, (i 1).val, 0, 0] := by decide +kernel
theorem off4_eq1 : ∀ i : grid0.Coords, k0_off4 i 1#32 = ![0, (i 1).val + 1, 0, 0] := by decide +kernel
theorem off5_eq0 : ∀ i : grid0.Coords, k0_off5 i 0#32 = ![1, (i 1).val, 0, 0] := by decide +kernel
theorem off5_eq1 : ∀ i : grid0.Coords, k0_off5 i 1#32 = ![1, (i 1).val + 1, 0, 0] := by decide +kernel
theorem off6_eq0 : ∀ i : grid0.Coords, k0_off6 i 0#32 = ![1, (i 1).val, 0, 0] := by decide +kernel
theorem off6_eq1 : ∀ i : grid0.Coords, k0_off6 i 1#32 = ![1, (i 1).val + 1, 0, 0] := by decide +kernel
theorem off9_eq : ∀ i : grid0.Coords, k0_off9 i = ![0, (i 1).val, 0, 0] := by decide +kernel
theorem off10_eq : ∀ i : grid0.Coords, k0_off10 i = ![0, (i 1).val, 0, 0] := by decide +kernel
theorem off11_eq : ∀ i : grid0.Coords, k0_off11 i = ![1, (i 1).val, 0, 0] := by decide +kernel
theorem off12_eq : ∀ i : grid0.Coords, k0_off12 i = ![1, (i 1).val, 0, 0] := by decide +kernel
theorem off16_eq0 : ∀ (i : grid0.Coords) (t : Fin (k0_t1_loop i).trips),
    k0_off16 i t 0#32 = ![0, (i 1).val + 1 + (7 - (i 1).val) % 2 + 2 * t.val, 0, 0] := by decide +kernel
theorem off16_eq1 : ∀ (i : grid0.Coords) (t : Fin (k0_t1_loop i).trips),
    k0_off16 i t 1#32 = ![0, (i 1).val + 1 + (7 - (i 1).val) % 2 + 2 * t.val + 1, 0, 0] := by decide +kernel
theorem off17_eq0 : ∀ (i : grid0.Coords) (t : Fin (k0_t1_loop i).trips),
    k0_off17 i t 0#32 = ![1, (i 1).val + 1 + (7 - (i 1).val) % 2 + 2 * t.val, 0, 0] := by decide +kernel
theorem off17_eq1 : ∀ (i : grid0.Coords) (t : Fin (k0_t1_loop i).trips),
    k0_off17 i t 1#32 = ![1, (i 1).val + 1 + (7 - (i 1).val) % 2 + 2 * t.val + 1, 0, 0] := by decide +kernel
theorem off18_eq0 : ∀ (i : grid0.Coords) (t : Fin (k0_t1_loop i).trips),
    k0_off18 i t 0#32 = ![1, (i 1).val + 1 + (7 - (i 1).val) % 2 + 2 * t.val, 0, 0] := by decide +kernel
theorem off18_eq1 : ∀ (i : grid0.Coords) (t : Fin (k0_t1_loop i).trips),
    k0_off18 i t 1#32 = ![1, (i 1).val + 1 + (7 - (i 1).val) % 2 + 2 * t.val + 1, 0, 0] := by decide +kernel

end Cert.KernelIdeal.Hand
-- ==== Proof.Rows.lean ====
/- Reading one head's rows, tiles and slabs out of the kernel's blocks, and the scores made of them, at an index. -/
module

public import proofs.«01_k».proof.Proof.Gen.KernelIdeal
public import proofs.«01_k».proof.Proof.Gen.KernelIdeal.Skeleton
public import Idealize.ShloMosaic.Lib.Pipeline.ValueKit
public import Idealize.ShloMosaic.Lib.Pipeline.ReadBack
public import Idealize.ShloMosaic.Lib.WritesUnit
public import Idealize.ShloMosaic.Lib.MatmulPlain
public import Idealize.ShloMosaic.Lib.Pointwise
public import Idealize.ShloMosaic.Lib.Pipeline.RowLoads
public import Idealize.ShloMosaic.PureOps.Ideal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- Row `n` of one head of a block of 4096 rows, `0` past its end. -/
def row3 (X : S2x4096x128.Idx → EReal) (g : Fin 2) (n : ℕ) (d : Fin 128) : EReal :=
  if h : n < 4096 then X (ix3 g ⟨n, h⟩ d) else 0

/-- Column `n` of one head of a block kept transposed in eight tiles of 512 columns, `0` past its end. -/
def col4 (X : S2x8x128x512.Idx → EReal) (g : Fin 2) (d : Fin 128) (n : ℕ) : EReal :=
  if h : n < 4096 then X (ix4 g ⟨n / 512, by omega⟩ d ⟨n % 512, by omega⟩) else 0

variable {κ : Kind} {sp : Space}

theorem rd3 {Val : EltTy → Type} {e : EltTy} {A B C n m : ℕ} (v : View sig κ sp ⟨3, ![A, B, C]⟩ e) (f : v.ty.Contents Val)
    (off : Fin 3 → ℕ) (G R D : ℕ) (ho : off = ![G, R, D])
    (inb : ∀ a, off a + (![1, n, m] : Fin 3 → ℕ) a ≤ (![A, B, C] : Fin 3 → ℕ) a)
    (hc : (⟨3, ![1, n, m]⟩ : Shape).ShapeCasts ⟨2, ![n, m]⟩) (a : Fin n) (b : Fin m)
    (h0 : G < A) (h1 : R + a.val < B) (h2 : D + b.val < C) :
    shapeCast ⟨2, ![n, m]⟩ (v.readAt Val (Rect.unit (s := ⟨3, ![A, B, C]⟩) off ![1, n, m] inb).toLoadRect f) hc (ix2 a b)
      = v.read Val f (ix3 ⟨G, h0⟩ ⟨R + a.val, h1⟩ ⟨D + b.val, h2⟩) := by
  subst ho
  refine (shapeCast_dropUnit_apply ![n, m] _ hc (ix2 a b)).trans ?_
  rw [View.readAt_eq_ld]
  refine View.ld_unit_apply_of _ _ _ inb _ _ ?_
  intro x
  match x with
  | ⟨0, _⟩ => exact (Nat.add_zero _).symm
  | ⟨1, _⟩ => rfl
  | ⟨2, _⟩ => rfl

theorem drop2 {α : Type} {n m : ℕ} (w : (⟨4, ![1, 1, n, m]⟩ : Shape).Idx → α)
    (h : (⟨4, ![1, 1, n, m]⟩ : Shape).ShapeCasts ⟨2, ![n, m]⟩) (a : Fin n) (b : Fin m) :
    shapeCast ⟨2, ![n, m]⟩ w h (ix2 a b) = w (ix4 0 0 a b) := by
  unfold shapeCast
  congr 1
  apply Shape.reshapeEquiv_eq_of_rowMajor
  show (Shape.rowMajorPi ![1, 1, n, m] (ix4 0 0 a b)).val = (Shape.rowMajorPi ![n, m] (ix2 a b)).val
  rw [Shape.rowMajorPi_succ_val, Shape.rowMajorPi_succ_val]
  have e : (fun x : Fin 2 => ix4 (0 : Fin 1) (0 : Fin 1) a b x.succ.succ) = ix2 a b := by
    funext x
    match x with
    | ⟨0, _⟩ => rfl
    | ⟨1, _⟩ => rfl
  show 0 * _ + (0 * _ + (Shape.rowMajorPi ![n, m] (fun x : Fin 2 => ix4 (0 : Fin 1) (0 : Fin 1) a b x.succ.succ)).val) = _
  rw [e]; simp

theorem rd4 {Val : EltTy → Type} {e : EltTy} {A T B C n m : ℕ} (v : View sig κ sp ⟨4, ![A, T, B, C]⟩ e) (f : v.ty.Contents Val)
    (off : Fin 4 → ℕ) (G U R D : ℕ) (ho : off = ![G, U, R, D])
    (inb : ∀ a, off a + (![1, 1, n, m] : Fin 4 → ℕ) a ≤ (![A, T, B, C] : Fin 4 → ℕ) a)
    (hc : (⟨4, ![1, 1, n, m]⟩ : Shape).ShapeCasts ⟨2, ![n, m]⟩) (a : Fin n) (b : Fin m)
    (h0 : G < A) (h3 : U < T) (h1 : R + a.val < B) (h2 : D + b.val < C) :
    shapeCast ⟨2, ![n, m]⟩ (v.readAt Val (Rect.unit (s := ⟨4, ![A, T, B, C]⟩) off ![1, 1, n, m] inb).toLoadRect f) hc (ix2 a b)
      = v.read Val f (ix4 ⟨G, h0⟩ ⟨U, h3⟩ ⟨R + a.val, h1⟩ ⟨D + b.val, h2⟩) := by
  subst ho
  refine (drop2 _ hc a b).trans ?_
  rw [View.readAt_eq_ld]
  refine View.ld_unit_apply_of _ _ _ inb _ _ ?_
  intro x
  match x with
  | ⟨0, _⟩ => exact (Nat.add_zero _).symm
  | ⟨1, _⟩ => exact (Nat.add_zero _).symm
  | ⟨2, _⟩ => rfl
  | ⟨3, _⟩ => rfl

/-- Rows `R …` of head `g` of a block of rows. -/
theorem rdRow_bf16 {n : ℕ} (v : View sig κ sp S2x4096x128 .bf16) (f : v.ty.Contents (Elt Ideal))
    (off : Fin 3 → ℕ) (g : Fin 2) (R : ℕ) (ho : off = ![g.val, R, 0])
    (inb : ∀ a, off a + (![1, n, 128] : Fin 3 → ℕ) a ≤ S2x4096x128.size a)
    (hc : (⟨3, ![1, n, 128]⟩ : Shape).ShapeCasts ⟨2, ![n, 128]⟩) (a : Fin n) (b : Fin 128) :
    shapeCast ⟨2, ![n, 128]⟩ (v.readAt (Elt Ideal) (Rect.unit (s := S2x4096x128) off ![1, n, 128] inb).toLoadRect f) hc (ix2 a b)
      = row3 (v.read (Elt Ideal) f) g (R + a.val) b := by
  have h1 : R + a.val < 4096 := by
    have := inb 1; subst ho; have h := a.isLt; simp at this; omega
  rw [row3, dif_pos h1]
  refine (rd3 (A := 2) (B := 4096) (C := 128) v f off g.val R 0 ho inb hc a b g.isLt h1 (by omega)).trans ?_
  simp

/-- Head `g` of a block of one slab a head. -/
theorem rdSlab_bf16 {n m : ℕ} (v : View sig κ sp ⟨3, ![2, n, m]⟩ .bf16) (f : v.ty.Contents (Elt Ideal))
    (off : Fin 3 → ℕ) (g : Fin 2) (ho : off = ![g.val, 0, 0])
    (inb : ∀ a, off a + (![1, n, m] : Fin 3 → ℕ) a ≤ (![2, n, m] : Fin 3 → ℕ) a)
    (hc : (⟨3, ![1, n, m]⟩ : Shape).ShapeCasts ⟨2, ![n, m]⟩) (a : Fin n) (b : Fin m) :
    shapeCast ⟨2, ![n, m]⟩ (v.readAt (Elt Ideal) (Rect.unit (s := ⟨3, ![2, n, m]⟩) off ![1, n, m] inb).toLoadRect f) hc (ix2 a b)
      = v.read (Elt Ideal) f (ix3 g a b) := by
  refine (rd3 (A := 2) (B := n) (C := m) v f off g.val 0 0 ho inb hc a b g.isLt (by omega) (by omega)).trans ?_
  simp

/-- Rows `R …` of head `g` of a block of rows. -/
theorem rdRow_f32 {n : ℕ} (v : View sig κ sp S2x4096x128 .f32) (f : v.ty.Contents (Elt Ideal))
    (off : Fin 3 → ℕ) (g : Fin 2) (R : ℕ) (ho : off = ![g.val, R, 0])
    (inb : ∀ a, off a + (![1, n, 128] : Fin 3 → ℕ) a ≤ S2x4096x128.size a)
    (hc : (⟨3, ![1, n, 128]⟩ : Shape).ShapeCasts ⟨2, ![n, 128]⟩) (a : Fin n) (b : Fin 128) :
    shapeCast ⟨2, ![n, 128]⟩ (v.readAt (Elt Ideal) (Rect.unit (s := S2x4096x128) off ![1, n, 128] inb).toLoadRect f) hc (ix2 a b)
      = row3 (v.read (Elt Ideal) f) g (R + a.val) b := by
  have h1 : R + a.val < 4096 := by
    have := inb 1; subst ho; have h := a.isLt; simp at this; omega
  rw [row3, dif_pos h1]
  refine (rd3 (A := 2) (B := 4096) (C := 128) v f off g.val R 0 ho inb hc a b g.isLt h1 (by omega)).trans ?_
  simp

/-- Head `g` of a block of one slab a head. -/
theorem rdSlab_f32 {n m : ℕ} (v : View sig κ sp ⟨3, ![2, n, m]⟩ .f32) (f : v.ty.Contents (Elt Ideal))
    (off : Fin 3 → ℕ) (g : Fin 2) (ho : off = ![g.val, 0, 0])
    (inb : ∀ a, off a + (![1, n, m] : Fin 3 → ℕ) a ≤ (![2, n, m] : Fin 3 → ℕ) a)
    (hc : (⟨3, ![1, n, m]⟩ : Shape).ShapeCasts ⟨2, ![n, m]⟩) (a : Fin n) (b : Fin m) :
    shapeCast ⟨2, ![n, m]⟩ (v.readAt (Elt Ideal) (Rect.unit (s := ⟨3, ![2, n, m]⟩) off ![1, n, m] inb).toLoadRect f) hc (ix2 a b)
      = v.read (Elt Ideal) f (ix3 g a b) := by
  refine (rd3 (A := 2) (B := n) (C := m) v f off g.val 0 0 ho inb hc a b g.isLt (by omega) (by omega)).trans ?_
  simp

/-- The first `n` rows of tile `T` of head `g` of a block of transposed tiles. -/
theorem rdTile {n : ℕ} (v : View sig κ sp S2x8x128x512 .bf16) (f : v.ty.Contents (Elt Ideal))
    (off : Fin 4 → ℕ) (g : Fin 2) (T : ℕ) (ho : off = ![g.val, T, 0, 0])
    (inb : ∀ a, off a + (![1, 1, n, 512] : Fin 4 → ℕ) a ≤ S2x8x128x512.size a)
    (hc : (⟨4, ![1, 1, n, 512]⟩ : Shape).ShapeCasts ⟨2, ![n, 512]⟩) (a : Fin n) (b : Fin 512) (ha : a.val < 128) :
    shapeCast ⟨2, ![n, 512]⟩ (v.readAt (Elt Ideal) (Rect.unit (s := S2x8x128x512) off ![1, 1, n, 512] inb).toLoadRect f) hc (ix2 a b)
      = col4 (v.read (Elt Ideal) f) g ⟨a.val, ha⟩ (512 * T + b.val) := by
  have hT : T < 8 := by
    have := inb 1; subst ho; simp at this; omega
  have h1 : 512 * T + b.val < 4096 := by omega
  rw [col4, dif_pos h1]
  refine (rd4 (A := 2) (T := 8) (B := 128) (C := 512) v f off g.val T 0 0 ho inb hc a b g.isLt hT (by omega) (by omega)).trans ?_
  congr 2
  · exact Fin.ext (by show T = (512 * T + b.val) / 512; omega)
  · exact Fin.ext (by show 0 + _ = _; simp)
  · exact Fin.ext (by show 0 + b.val = (512 * T + b.val) % 512; omega)

/-- Head `g` of a block of one transposed tile a head. -/
theorem rdOne (v : View sig κ sp S2x1x128x512 .bf16) (f : v.ty.Contents (Elt Ideal))
    (off : Fin 4 → ℕ) (g : Fin 2) (ho : off = ![g.val, 0, 0, 0])
    (inb : ∀ a, off a + (![1, 1, 128, 512] : Fin 4 → ℕ) a ≤ S2x1x128x512.size a)
    (hc : (⟨4, ![1, 1, 128, 512]⟩ : Shape).ShapeCasts ⟨2, ![128, 512]⟩) (a : Fin 128) (b : Fin 512) :
    shapeCast ⟨2, ![128, 512]⟩ (v.readAt (Elt Ideal) (Rect.unit (s := S2x1x128x512) off ![1, 1, 128, 512] inb).toLoadRect f) hc (ix2 a b)
      = v.read (Elt Ideal) f (ix4 g 0 a b) := by
  refine (rd4 (A := 2) (T := 1) (B := 128) (C := 512) v f off g.val 0 0 0 ho inb hc a b g.isLt (by omega) (by omega) (by omega)).trans ?_
  simp

/-- A slab given a leading unit axis, read at an index. -/
theorem addUnit {α : Type} {n m : ℕ} (w : (⟨2, ![n, m]⟩ : Shape).Idx → α)
    (h : (⟨2, ![n, m]⟩ : Shape).ShapeCasts ⟨3, ![1, n, m]⟩) (a : Fin n) (b : Fin m) :
    shapeCast ⟨3, ![1, n, m]⟩ w h (ix3 0 a b) = w (ix2 a b) := by
  refine (shapeCast_addUnit_apply ![n, m] w h (ix3 0 a b)).trans ?_
  refine congrArg w (funext fun x => ?_)
  match x with
  | ⟨0, _⟩ => rfl
  | ⟨1, _⟩ => rfl

theorem dropUnit {α : Type} {n m : ℕ} (w : (⟨3, ![1, n, m]⟩ : Shape).Idx → α)
    (h : (⟨3, ![1, n, m]⟩ : Shape).ShapeCasts ⟨2, ![n, m]⟩) (a : Fin n) (b : Fin m) :
    shapeCast ⟨2, ![n, m]⟩ w h (ix2 a b) = w (ix3 0 a b) := by
  refine (shapeCast_dropUnit_apply ![n, m] w h (ix2 a b)).trans ?_
  refine congrArg w (funext fun x => ?_)
  match x with
  | ⟨0, _⟩ => rfl
  | ⟨1, _⟩ => rfl
  | ⟨2, _⟩ => rfl

theorem ix2_eq {n m : ℕ} (a : Fin n) (b : Fin m) : ValueIdx.ix2 a b = ix2 a b := rfl

/-- Rows `off …` of a matrix. -/
theorem sliceRows {α : Type} {M n m : ℕ} (off : ℕ) (x : (⟨2, ![M, m]⟩ : Shape).Idx → α)
    (h : (⟨2, ![M, m]⟩ : Shape).Slices ![off, 0] ⟨2, ![n, m]⟩) (a : Fin n) (b : Fin m) (ha : off + a.val < M) :
    extractStridedSlice ⟨2, ![n, m]⟩ ![off, 0] x h (ix2 a b) = x (ix2 ⟨off + a.val, ha⟩ b) := by
  refine extractStridedSlice_apply ![off, 0] x h _ _ ?_
  intro x
  match x with
  | ⟨0, _⟩ => rfl
  | ⟨1, _⟩ => exact (Nat.zero_add _).symm

theorem slice0 {α : Type} (x : S1024x512.Idx → α) (h : S1024x512.Slices ![0, 0] S512x512) (a b : Fin 512) :
    extractStridedSlice S512x512 ![0, 0] x h (ix2 a b) = x (ix2 ⟨0 + a.val, by omega⟩ b) := sliceRows 0 x h a b _
theorem slice512 {α : Type} (x : S1024x512.Idx → α) (h : S1024x512.Slices ![512, 0] S512x512) (a b : Fin 512) :
    extractStridedSlice S512x512 ![512, 0] x h (ix2 a b) = x (ix2 ⟨512 + a.val, by omega⟩ b) := sliceRows 512 x h a b _

theorem rdTile64 (v : View sig κ sp S2x8x128x512 .bf16) (f : v.ty.Contents (Elt Ideal))
    (off : Fin 4 → ℕ) (g : Fin 2) (T : ℕ) (ho : off = ![g.val, T, 0, 0])
    (inb : ∀ a, off a + (![1, 1, 64, 512] : Fin 4 → ℕ) a ≤ S2x8x128x512.size a)
    (hc : (⟨4, ![1, 1, 64, 512]⟩ : Shape).ShapeCasts ⟨2, ![64, 512]⟩) (a : Fin 64) (b : Fin 512) :
    shapeCast ⟨2, ![64, 512]⟩ (v.readAt (Elt Ideal) (Rect.unit (s := S2x8x128x512) off ![1, 1, 64, 512] inb).toLoadRect f) hc (ix2 a b)
      = col4 (v.read (Elt Ideal) f) g ⟨a.val, by omega⟩ (512 * T + b.val) := rdTile v f off g T ho inb hc a b (by omega)

theorem rdTile128 (v : View sig κ sp S2x8x128x512 .bf16) (f : v.ty.Contents (Elt Ideal))
    (off : Fin 4 → ℕ) (g : Fin 2) (T : ℕ) (ho : off = ![g.val, T, 0, 0])
    (inb : ∀ a, off a + (![1, 1, 128, 512] : Fin 4 → ℕ) a ≤ S2x8x128x512.size a)
    (hc : (⟨4, ![1, 1, 128, 512]⟩ : Shape).ShapeCasts ⟨2, ![128, 512]⟩) (a : Fin 128) (b : Fin 512) :
    shapeCast ⟨2, ![128, 512]⟩ (v.readAt (Elt Ideal) (Rect.unit (s := S2x8x128x512) off ![1, 1, 128, 512] inb).toLoadRect f) hc (ix2 a b)
      = col4 (v.read (Elt Ideal) f) g ⟨a.val, by omega⟩ (512 * T + b.val) := rdTile v f off g T ho inb hc a b (by omega)

theorem mm_1024_128_512 (a : FVec Ideal S1024x128 .bf16) (b : FVec Ideal S128x512 .bf16) (r : Fin 1024) (c : Fin 512) :
    matmul dot_S1024x128_S128x512_S1024x512_1_0_0_1_n_n none a b (constant S1024x512 .f32 0x00000000#32) (ix2 r c)
      = ∑ k : Fin 128, (a (ix2 r k) : EReal) * b (ix2 k c) :=
  (Ideal.matmul_plain_apply (M := 1024) (K := 128) (N := 512) none a b _ r c).trans
    ((congrArg (· + _) Ideal.ofBits_zero_f32).trans (zero_add (M := EReal) _) |>.trans (by simp only [ix2_eq]))
theorem mm_512_128_512 (a : FVec Ideal S512x128 .bf16) (b : FVec Ideal S128x512 .bf16) (r : Fin 512) (c : Fin 512) :
    matmul dot_S512x128_S128x512_S512x512_1_0_0_1_n_n none a b (constant S512x512 .f32 0x00000000#32) (ix2 r c)
      = ∑ k : Fin 128, (a (ix2 r k) : EReal) * b (ix2 k c) :=
  (Ideal.matmul_plain_apply (M := 512) (K := 128) (N := 512) none a b _ r c).trans
    ((congrArg (· + _) Ideal.ofBits_zero_f32).trans (zero_add (M := EReal) _) |>.trans (by simp only [ix2_eq]))
theorem mm_64_512_512 (a : FVec Ideal S64x512 .bf16) (b : FVec Ideal S512x512 .bf16) (r : Fin 64) (c : Fin 512) :
    matmul dot_S64x512_S512x512_S64x512_1_0_0_1_n_n none a b (constant S64x512 .f32 0x00000000#32) (ix2 r c)
      = ∑ k : Fin 512, (a (ix2 r k) : EReal) * b (ix2 k c) :=
  (Ideal.matmul_plain_apply (M := 64) (K := 512) (N := 512) none a b _ r c).trans
    ((congrArg (· + _) Ideal.ofBits_zero_f32).trans (zero_add (M := EReal) _) |>.trans (by simp only [ix2_eq]))
theorem mm_128_512_512 (a : FVec Ideal S128x512 .bf16) (b : FVec Ideal S512x512 .bf16) (r : Fin 128) (c : Fin 512) :
    matmul dot_S128x512_S512x512_S128x512_1_0_0_1_n_n none a b (constant S128x512 .f32 0x00000000#32) (ix2 r c)
      = ∑ k : Fin 512, (a (ix2 r k) : EReal) * b (ix2 k c) :=
  (Ideal.matmul_plain_apply (M := 128) (K := 512) (N := 512) none a b _ r c).trans
    ((congrArg (· + _) Ideal.ofBits_zero_f32).trans (zero_add (M := EReal) _) |>.trans (by simp only [ix2_eq]))
theorem mm_1024_512_128 (a : FVec Ideal S1024x512 .bf16) (b : FVec Ideal S512x128 .bf16) (r : Fin 1024) (c : Fin 128) :
    matmul dot_S1024x512_S512x128_S1024x128_1_0_0_1_n_n none a b (constant S1024x128 .f32 0x00000000#32) (ix2 r c)
      = ∑ k : Fin 512, (a (ix2 r k) : EReal) * b (ix2 k c) :=
  (Ideal.matmul_plain_apply (M := 1024) (K := 512) (N := 128) none a b _ r c).trans
    ((congrArg (· + _) Ideal.ofBits_zero_f32).trans (zero_add (M := EReal) _) |>.trans (by simp only [ix2_eq]))
theorem mm_512_512_128 (a : FVec Ideal S512x512 .bf16) (b : FVec Ideal S512x128 .bf16) (r : Fin 512) (c : Fin 128) :
    matmul dot_S512x512_S512x128_S512x128_1_0_0_1_n_n none a b (constant S512x128 .f32 0x00000000#32) (ix2 r c)
      = ∑ k : Fin 512, (a (ix2 r k) : EReal) * b (ix2 k c) :=
  (Ideal.matmul_plain_apply (M := 512) (K := 512) (N := 128) none a b _ r c).trans
    ((congrArg (· + _) Ideal.ofBits_zero_f32).trans (zero_add (M := EReal) _) |>.trans (by simp only [ix2_eq]))

theorem add_at {S : Shape} (a b : FVec Ideal S .f32) (j : S.Idx) : addf a b j = ((a j : EReal) + b j) := rfl
theorem mul_at {S : Shape} (a b : FVec Ideal S .f32) (j : S.Idx) : mulf a b j = ((a j : EReal) * b j) := rfl
theorem exp_at {S : Shape} (a : FVec Ideal S .f32) (j : S.Idx) : exp a j = Ideal.exp (a j) := rfl
theorem trunc_at {S : Shape} (a : FVec Ideal S .f32) (h : FTy.bits .bf16 < FTy.bits .f32) (j : S.Idx) : truncf .bf16 a h j = a j := rfl

/-- A store of one head's slab, read back in that head; -/
theorem slabHit {Val : EltTy → Type} {e : EltTy} {n m : ℕ} (v : View sig κ sp ⟨3, ![2, n, m]⟩ e) (f : v.ty.Contents Val) (g : Fin 2)
    (off : Fin 3 → ℕ) (ho : off = ![g.val, 0, 0]) (inb : ∀ a, off a + (![1, n, m] : Fin 3 → ℕ) a ≤ (![2, n, m] : Fin 3 → ℕ) a)
    (w : (⟨3, ![1, n, m]⟩ : Shape).Idx → Val e) (L : List (View.Piece Val ⟨3, ![2, n, m]⟩ e)) (a : Fin n) (b : Fin m) :
    v.read Val (v.writes Val f (⟨Rect.unit (s := ⟨3, ![2, n, m]⟩) off ![1, n, m] inb, w⟩ :: L)) (ix3 g a b) = w (ix3 0 a b) := by
  refine View.read_writes_cons_unit_of_mem v f inb w L _ (ix3 0 a b) ho ?_
  intro x
  match x with
  | ⟨0, _⟩ => rfl
  | ⟨1, _⟩ => exact (Nat.zero_add _).symm
  | ⟨2, _⟩ => exact (Nat.zero_add _).symm

/-- and in the other head, where it changes nothing. -/
theorem slabSkip {Val : EltTy → Type} {e : EltTy} {n m : ℕ} (v : View sig κ sp ⟨3, ![2, n, m]⟩ e) (f : v.ty.Contents Val) (g g' : Fin 2)
    (hg : g ≠ g') (off : Fin 3 → ℕ) (ho : off = ![g'.val, 0, 0])
    (inb : ∀ a, off a + (![1, n, m] : Fin 3 → ℕ) a ≤ (![2, n, m] : Fin 3 → ℕ) a)
    (w : (⟨3, ![1, n, m]⟩ : Shape).Idx → Val e) (L : List (View.Piece Val ⟨3, ![2, n, m]⟩ e)) (a : Fin n) (b : Fin m) :
    v.read Val (v.writes Val f (⟨Rect.unit (s := ⟨3, ![2, n, m]⟩) off ![1, n, m] inb, w⟩ :: L)) (ix3 g a b)
      = v.read Val (v.writes Val f L) (ix3 g a b) := by
  refine View.read_writes_cons_unit_of_not_mem v f inb w L _ ho 0 ?_
  show g.val < g'.val ∨ g'.val + 1 ≤ g.val
  omega

/-- A store of rows `R …` of one head, read back at a row it holds; -/
theorem rowHit {Val : EltTy → Type} {e : EltTy} {n : ℕ} (v : View sig κ sp S2x4096x128 e) (f : v.ty.Contents Val) (g : Fin 2) (R : ℕ)
    (off : Fin 3 → ℕ) (ho : off = ![g.val, R, 0]) (inb : ∀ a, off a + (![1, n, 128] : Fin 3 → ℕ) a ≤ S2x4096x128.size a)
    (w : (⟨3, ![1, n, 128]⟩ : Shape).Idx → Val e) (L : List (View.Piece Val S2x4096x128 e)) (r : Fin 4096) (b : Fin 128)
    (hr : R ≤ r.val) (hr' : r.val - R < n) :
    v.read Val (v.writes Val f (⟨Rect.unit (s := S2x4096x128) off ![1, n, 128] inb, w⟩ :: L)) (ix3 g r b) = w (ix3 0 ⟨r.val - R, hr'⟩ b) := by
  refine View.read_writes_cons_unit_of_mem v f inb w L _ (ix3 0 ⟨r.val - R, hr'⟩ b) ho ?_
  intro x
  match x with
  | ⟨0, _⟩ => rfl
  | ⟨1, _⟩ => show r.val = R + (r.val - R); omega
  | ⟨2, _⟩ => exact (Nat.zero_add _).symm

/-- and at an index it does not hold. -/
theorem rowSkip {Val : EltTy → Type} {e : EltTy} {n : ℕ} (v : View sig κ sp S2x4096x128 e) (f : v.ty.Contents Val) (g g' : Fin 2) (R : ℕ)
    (off : Fin 3 → ℕ) (ho : off = ![g'.val, R, 0]) (inb : ∀ a, off a + (![1, n, 128] : Fin 3 → ℕ) a ≤ S2x4096x128.size a)
    (w : (⟨3, ![1, n, 128]⟩ : Shape).Idx → Val e) (L : List (View.Piece Val S2x4096x128 e)) (r : Fin 4096) (b : Fin 128)
    (h : g ≠ g' ∨ r.val < R ∨ R + n ≤ r.val) :
    v.read Val (v.writes Val f (⟨Rect.unit (s := S2x4096x128) off ![1, n, 128] inb, w⟩ :: L)) (ix3 g r b)
      = v.read Val (v.writes Val f L) (ix3 g r b) := by
  rcases h with h | h
  · refine View.read_writes_cons_unit_of_not_mem v f inb w L _ ho 0 ?_
    show g.val < g'.val ∨ g'.val + 1 ≤ g.val
    omega
  · exact View.read_writes_cons_unit_of_not_mem v f inb w L _ ho 1 h

/-- A row of a block at an index of the block. -/
theorem row3_of (X : S2x4096x128.Idx → EReal) (g : Fin 2) (r : Fin 4096) (d : Fin 128) : row3 X g r.val d = X (ix3 g r d) :=
  dif_pos r.isLt

/-- The score of query row `n` of head `g` against key `c` of the tile. -/
def sc (x2 : S2x4096x128.Idx → EReal) (x7 : S2x1x128x512.Idx → EReal) (g : Fin 2) (n : ℕ) (c : Fin 512) : EReal :=
  ∑ d : Fin 128, row3 x2 g n d * x7 (ix4 g 0 d c)

/-- The weight of row `n` and key `c`, with no mask. -/
def Eu (x2 : S2x4096x128.Idx → EReal) (x7 : S2x1x128x512.Idx → EReal) (g : Fin 2) (n : ℕ) (c : Fin 512) : EReal :=
  Ideal.exp (sc x2 x7 g n c)

/-- The score's gradient of row `n` and key `c`, with no mask. -/
def Du (x2 x3 : S2x4096x128.Idx → EReal) (x7 x8 : S2x1x128x512.Idx → EReal) (g : Fin 2) (n : ℕ) (c : Fin 512) : EReal :=
  Eu x2 x7 g n c * sc x3 x8 g n c

/-- The weight, `0` where the key comes after the query. -/
def Em (x2 : S2x4096x128.Idx → EReal) (x7 : S2x1x128x512.Idx → EReal) (K : ℕ) (g : Fin 2) (n : ℕ) (c : Fin 512) : EReal :=
  if K + c.val ≤ n then Eu x2 x7 g n c else 0

/-- The score's gradient, `0` where the key comes after the query. -/
def Dm (x2 x3 : S2x4096x128.Idx → EReal) (x7 x8 : S2x1x128x512.Idx → EReal) (K : ℕ) (g : Fin 2) (n : ℕ) (c : Fin 512) : EReal :=
  Em x2 x7 K g n c * sc x3 x8 g n c

end Cert.KernelIdeal.Hand
-- ==== Proof.TripValue.lean ====
/- What one trip of the loop over pairs of query tiles adds to the gradients, at an index. -/
module

public import proofs.«01_k».proof.Proof.Trip
public import proofs.«01_k».proof.Proof.OffsT
public import proofs.«01_k».proof.Proof.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

section
variable (c : Dev nD) (i : grid0.Coords)
  (arg2 : Memref sig .tc .vmem S2x4096x128 .bf16) (harg2 : arg2.IsWhole) (arg3 : Memref sig .tc .vmem S2x4096x128 .bf16) (harg3 : arg3.IsWhole) (arg4 : Memref sig .tc .vmem S2x8x128x512 .bf16) (harg4 : arg4.IsWhole) (arg5 : Memref sig .tc .vmem S2x8x128x512 .bf16) (harg5 : arg5.IsWhole) (arg6 : Memref sig .tc .vmem S2x512x128 .bf16) (harg6 : arg6.IsWhole) (arg7 : Memref sig .tc .vmem S2x1x128x512 .bf16) (harg7 : arg7.IsWhole) (arg8 : Memref sig .tc .vmem S2x1x128x512 .bf16) (harg8 : arg8.IsWhole) (arg9 : Memref sig .tc .vmem S2x4096x128 .f32) (harg9 : arg9.IsWhole) (arg10 : Memref sig .tc .vmem S2x128x512 .f32) (harg10 : arg10.IsWhole) (arg11 : Memref sig .tc .vmem S128x512 .bf16) (harg11 : arg11.IsWhole) (arg12 : Memref sig .tc .vmem S2x128x512 .f32) (harg12 : arg12.IsWhole) (arg13 : Memref sig .tc .vmem S2x64x512 .f32) (harg13 : arg13.IsWhole)
  (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f12 : Buf (Elt Ideal) (arg12.view.loc (c : Thread nD τ))) (f13 : Buf (Elt Ideal) (arg13.view.loc (c : Thread nD τ))) (arg1 v21 : BitVec 32) (k : Fin (k0_t1_loop i).trips)

/-- The first query row of a trip. -/
def row0 (i : grid0.Coords) (k : ℕ) : ℕ := 512 * ((i 1).val + 1 + (7 - (i 1).val) % 2 + 2 * k)

/-- A sum over two consecutive tiles of 512 rows. -/
theorem sum_two (φ : ℕ → EReal) (T : ℕ) :
    (∑ a : Fin 512, φ (512 * T + a.val)) + ∑ a : Fin 512, φ (512 * (T + 1) + a.val)
      = ∑ n ∈ Finset.Ico (512 * T) (512 * T + 1024), φ n := by
  rw [← Finset.sum_Ico_consecutive φ (show 512 * T ≤ 512 * T + 512 by omega) (show 512 * T + 512 ≤ 512 * T + 1024 by omega),
    Finset.sum_Ico_eq_sum_range, Finset.sum_Ico_eq_sum_range, show 512 * T + 512 - 512 * T = 512 by omega,
    show 512 * T + 1024 - (512 * T + 512) = 512 by omega, Finset.sum_range, Finset.sum_range, Nat.mul_add]

theorem trip_dv (g : Fin 2) (d : Fin 64) (q : Fin 512) :
    arg13.view.read (Elt Ideal) (arg13.view.writes (Elt Ideal) f13 (trip c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k).2.2.1) (ix3 g d q)
      = ((arg13.view.read (Elt Ideal) f13 (ix3 g d q) : EReal)
        + ∑ n ∈ Finset.Ico (row0 i k.val) (row0 i k.val + 1024), col4 (arg5.view.read (Elt Ideal) f5) g ⟨d.val, by omega⟩ n * Eu (arg2.view.read (Elt Ideal) f2) (arg7.view.read (Elt Ideal) f7) g n q) := by
  unfold trip
  dsimp only
  sl_unfold_run_names
  unfold_payloads
  obtain rfl | rfl : g = 0 ∨ g = 1 := by omega
  · refine (slabSkip _ _ 0 1 (by decide) _ rfl _ _ _ _ _).trans ?_
    refine (slabSkip _ _ 0 1 (by decide) _ rfl _ _ _ _ _).trans ?_
    refine (slabHit _ _ 0 _ rfl _ _ _ _ _).trans ?_
    simp only [View.readCov_cons_toLoadRect, shapeCast_shapeCast]
    simp only [addUnit, add_at, mul_at, exp_at, trunc_at, mm_1024_128_512, mm_64_512_512, mm_128_512_512, mm_1024_512_128, slice0, slice512,
      rdSlab_f32 (g := 0) (off := ![0, 0, 0]) (ho := rfl), rdSlab_bf16 (g := 0) (off := ![0, 0, 0]) (ho := rfl), rdOne (g := 0) (off := ![0, 0, 0, 0]) (ho := rfl),
      rdRow_bf16 (g := 0) (ho := off13_eq i k), rdRow_f32 (g := 0) (ho := off13_eq i k), rdTile64 (g := 0) (ho := off15_eq i k), rdTile64 (g := 0) (ho := off15_eq1 i k)]
    rw [row0, ← sum_two]
    simp only [Du, Eu, sc, add_assoc, Nat.zero_add, Nat.mul_add, Nat.mul_one, Nat.add_assoc]
  · refine (slabHit _ _ 1 _ rfl _ _ _ _ _).trans ?_
    simp only [View.readCov_cons_toLoadRect, shapeCast_shapeCast]
    simp only [addUnit, add_at, mul_at, exp_at, trunc_at, mm_1024_128_512, mm_64_512_512, mm_128_512_512, mm_1024_512_128, slice0, slice512,
      rdSlab_f32 (g := 1) (off := ![1, 0, 0]) (ho := rfl), rdSlab_bf16 (g := 1) (off := ![1, 0, 0]) (ho := rfl), rdOne (g := 1) (off := ![1, 0, 0, 0]) (ho := rfl),
      rdRow_bf16 (g := 1) (ho := off14_eq i k), rdRow_f32 (g := 1) (ho := off14_eq i k), rdTile64 (g := 1) (ho := off17_eq0 i k), rdTile64 (g := 1) (ho := off17_eq1 i k)]
    rw [row0, ← sum_two]
    simp only [Du, Eu, sc, add_assoc, Nat.zero_add, Nat.mul_add, Nat.mul_one, Nat.add_assoc]

theorem trip_dk (g : Fin 2) (d : Fin 128) (q : Fin 512) :
    arg12.view.read (Elt Ideal) (arg12.view.writes (Elt Ideal) f12 (trip c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k).2.1) (ix3 g d q)
      = ((arg12.view.read (Elt Ideal) f12 (ix3 g d q) : EReal)
        + ∑ n ∈ Finset.Ico (row0 i k.val) (row0 i k.val + 1024), col4 (arg4.view.read (Elt Ideal) f4) g d n * Du (arg2.view.read (Elt Ideal) f2) (arg3.view.read (Elt Ideal) f3) (arg7.view.read (Elt Ideal) f7) (arg8.view.read (Elt Ideal) f8) g n q) := by
  unfold trip
  dsimp only
  sl_unfold_run_names
  unfold_payloads
  obtain rfl | rfl : g = 0 ∨ g = 1 := by omega
  · refine (slabSkip _ _ 0 1 (by decide) _ rfl _ _ _ _ _).trans ?_
    refine (slabSkip _ _ 0 1 (by decide) _ rfl _ _ _ _ _).trans ?_
    refine (slabHit _ _ 0 _ rfl _ _ _ _ _).trans ?_
    simp only [View.readCov_cons_toLoadRect, shapeCast_shapeCast]
    simp only [addUnit, add_at, mul_at, exp_at, trunc_at, mm_1024_128_512, mm_64_512_512, mm_128_512_512, mm_1024_512_128, slice0, slice512,
      rdSlab_f32 (g := 0) (off := ![0, 0, 0]) (ho := rfl), rdSlab_bf16 (g := 0) (off := ![0, 0, 0]) (ho := rfl), rdOne (g := 0) (off := ![0, 0, 0, 0]) (ho := rfl),
      rdRow_bf16 (g := 0) (ho := off13_eq i k), rdRow_f32 (g := 0) (ho := off13_eq i k), rdTile128 (g := 0) (ho := off16_eq0 i k), rdTile128 (g := 0) (ho := off16_eq1 i k)]
    rw [row0, ← sum_two]
    simp only [Du, Eu, sc, add_assoc, Nat.zero_add, Nat.mul_add, Nat.mul_one, Nat.add_assoc]
  · refine (slabHit _ _ 1 _ rfl _ _ _ _ _).trans ?_
    simp only [View.readCov_cons_toLoadRect, shapeCast_shapeCast]
    simp only [addUnit, add_at, mul_at, exp_at, trunc_at, mm_1024_128_512, mm_64_512_512, mm_128_512_512, mm_1024_512_128, slice0, slice512,
      rdSlab_f32 (g := 1) (off := ![1, 0, 0]) (ho := rfl), rdSlab_bf16 (g := 1) (off := ![1, 0, 0]) (ho := rfl), rdOne (g := 1) (off := ![1, 0, 0, 0]) (ho := rfl),
      rdRow_bf16 (g := 1) (ho := off14_eq i k), rdRow_f32 (g := 1) (ho := off14_eq i k), rdTile128 (g := 1) (ho := off18_eq0 i k), rdTile128 (g := 1) (ho := off18_eq1 i k)]
    rw [row0, ← sum_two]
    simp only [Du, Eu, sc, add_assoc, Nat.zero_add, Nat.mul_add, Nat.mul_one, Nat.add_assoc]

theorem trip_dq (g : Fin 2) (r : Fin 4096) (d : Fin 128) :
    arg9.view.read (Elt Ideal) (arg9.view.writes (Elt Ideal) f9 (trip c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 k).1) (ix3 g r d)
      = ((arg9.view.read (Elt Ideal) f9 (ix3 g r d) : EReal)
        + if row0 i k.val ≤ r.val ∧ r.val < row0 i k.val + 1024 then
            ∑ q : Fin 512, Du (arg2.view.read (Elt Ideal) f2) (arg3.view.read (Elt Ideal) f3) (arg7.view.read (Elt Ideal) f7) (arg8.view.read (Elt Ideal) f8) g r.val q * (arg6.view.read (Elt Ideal) f6) (ix3 g q d) else 0) := by
  unfold trip
  dsimp only
  sl_unfold_run_names
  unfold_payloads
  have hR : row0 i k.val = 512 * ((i 1).val + 1 + (7 - (i 1).val) % 2 + 2 * k.val) := rfl
  obtain rfl | rfl : g = 0 ∨ g = 1 := by omega
  · refine (rowSkip _ _ 0 1 _ _ (off14_eq i k) _ _ _ _ _ (Or.inl (by decide))).trans ?_
    split_ifs with h
    · refine (rowHit _ _ 0 _ _ (off13_eq i k) _ _ _ _ _ (by omega) (by omega)).trans ?_
      simp only [View.readCov_cons_toLoadRect, shapeCast_shapeCast]
      simp only [addUnit, add_at, mul_at, exp_at, trunc_at, mm_1024_128_512, mm_64_512_512, mm_128_512_512, mm_1024_512_128, slice0, slice512,
        rdSlab_f32 (g := 0) (off := ![0, 0, 0]) (ho := rfl), rdSlab_bf16 (g := 0) (off := ![0, 0, 0]) (ho := rfl), rdOne (g := 0) (off := ![0, 0, 0, 0]) (ho := rfl),
        rdRow_bf16 (g := 0) (ho := off13_eq i k), rdRow_f32 (g := 0) (ho := off13_eq i k), rdTile64 (g := 0) (ho := off15_eq i k), rdTile64 (g := 0) (ho := off15_eq1 i k)]
      have e : 512 * ((i 1).val + 1 + (7 - (i 1).val) % 2 + 2 * k.val) + (r.val - 512 * ((i 1).val + 1 + (7 - (i 1).val) % 2 + 2 * k.val)) = r.val := by omega
      simp only [e, row3_of, Du, Eu, sc]
    · refine (rowSkip _ _ 0 0 _ _ (off13_eq i k) _ _ _ _ _ (Or.inr (by omega))).trans ?_
      exact (add_zero _).symm
  · split_ifs with h
    · refine (rowHit _ _ 1 _ _ (off14_eq i k) _ _ _ _ _ (by omega) (by omega)).trans ?_
      simp only [addUnit, add_at, mul_at, exp_at, trunc_at, mm_1024_128_512, mm_64_512_512, mm_128_512_512, mm_1024_512_128, slice0, slice512,
        rdSlab_f32 (g := 1) (off := ![1, 0, 0]) (ho := rfl), rdSlab_bf16 (g := 1) (off := ![1, 0, 0]) (ho := rfl), rdOne (g := 1) (off := ![1, 0, 0, 0]) (ho := rfl),
        rdRow_bf16 (g := 1) (ho := off14_eq i k), rdRow_f32 (g := 1) (ho := off14_eq i k), rdTile64 (g := 1) (ho := off17_eq0 i k), rdTile64 (g := 1) (ho := off17_eq1 i k)]
      have e : 512 * ((i 1).val + 1 + (7 - (i 1).val) % 2 + 2 * k.val) + (r.val - 512 * ((i 1).val + 1 + (7 - (i 1).val) % 2 + 2 * k.val)) = r.val := by omega
      simp only [e, row3_of, Du, Eu, sc]
    · refine (rowSkip _ _ 1 1 _ _ (off14_eq i k) _ _ _ _ _ (Or.inr (by omega))).trans ?_
      refine (rowSkip _ _ 1 0 _ _ (off13_eq i k) _ _ _ _ _ (Or.inl (by decide))).trans ?_
      exact (add_zero _).symm

theorem row0_succ (i : grid0.Coords) (k : ℕ) : row0 i (k + 1) = row0 i k + 1024 := by unfold row0; omega
theorem row0_mono (i : grid0.Coords) (k : ℕ) : row0 i 0 ≤ row0 i k := by unfold row0; omega

/-- The value gradient's accumulator after `K` trips. -/
theorem st_dv (g : Fin 2) (d : Fin 64) (q : Fin 512) : ∀ K : ℕ, K ≤ (k0_t1_loop i).trips →
    arg13.view.read (Elt Ideal) (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 K).2.2 (ix3 g d q)
      = ((arg13.view.read (Elt Ideal) f13 (ix3 g d q) : EReal)
        + ∑ n ∈ Finset.Ico (row0 i 0) (row0 i K), col4 (arg5.view.read (Elt Ideal) f5) g ⟨d.val, by omega⟩ n * Eu (arg2.view.read (Elt Ideal) f2) (arg7.view.read (Elt Ideal) f7) g n q) := by
  intro K
  induction K with
  | zero => intro _; rw [Finset.Ico_self, Finset.sum_empty, add_zero]; rfl
  | succ K ih =>
    intro h
    rw [st_succ c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 ⟨K, h⟩]
    refine (trip_dv (k := ⟨K, h⟩) (g := g) (d := d) (q := q) ..).trans ?_
    rw [ih (Nat.le_of_succ_le h), row0_succ, ← Finset.sum_Ico_consecutive _ (row0_mono i K) (Nat.le_add_right _ 1024), add_assoc]

/-- The key gradient's accumulator after `K` trips. -/
theorem st_dk (g : Fin 2) (d : Fin 128) (q : Fin 512) : ∀ K : ℕ, K ≤ (k0_t1_loop i).trips →
    arg12.view.read (Elt Ideal) (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 K).2.1 (ix3 g d q)
      = ((arg12.view.read (Elt Ideal) f12 (ix3 g d q) : EReal)
        + ∑ n ∈ Finset.Ico (row0 i 0) (row0 i K), col4 (arg4.view.read (Elt Ideal) f4) g d n * Du (arg2.view.read (Elt Ideal) f2) (arg3.view.read (Elt Ideal) f3) (arg7.view.read (Elt Ideal) f7) (arg8.view.read (Elt Ideal) f8) g n q) := by
  intro K
  induction K with
  | zero => intro _; rw [Finset.Ico_self, Finset.sum_empty, add_zero]; rfl
  | succ K ih =>
    intro h
    rw [st_succ c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 ⟨K, h⟩]
    refine (trip_dk (k := ⟨K, h⟩) (g := g) (d := d) (q := q) ..).trans ?_
    rw [ih (Nat.le_of_succ_le h), row0_succ, ← Finset.sum_Ico_consecutive _ (row0_mono i K) (Nat.le_add_right _ 1024), add_assoc]

/-- The query gradient after `K` trips. -/
theorem st_dq (g : Fin 2) (r : Fin 4096) (d : Fin 128) : ∀ K : ℕ, K ≤ (k0_t1_loop i).trips →
    arg9.view.read (Elt Ideal) (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 K).1 (ix3 g r d)
      = ((arg9.view.read (Elt Ideal) f9 (ix3 g r d) : EReal)
        + if row0 i 0 ≤ r.val ∧ r.val < row0 i K then
            ∑ q : Fin 512, Du (arg2.view.read (Elt Ideal) f2) (arg3.view.read (Elt Ideal) f3) (arg7.view.read (Elt Ideal) f7) (arg8.view.read (Elt Ideal) f8) g r.val q * (arg6.view.read (Elt Ideal) f6) (ix3 g q d) else 0) := by
  intro K
  induction K with
  | zero => intro _; rw [if_neg (by omega), add_zero]; rfl
  | succ K ih =>
    intro h
    rw [st_succ c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 ⟨K, h⟩]
    refine (trip_dq (k := ⟨K, h⟩) (g := g) (r := r) (d := d) ..).trans ?_
    have hm := row0_mono i K
    rw [ih (Nat.le_of_succ_le h), row0_succ, add_assoc]
    congr 1
    show (if row0 i 0 ≤ r.val ∧ r.val < row0 i K then _ else 0) + (if row0 i K ≤ r.val ∧ r.val < row0 i K + 1024 then _ else 0) = _
    split_ifs <;> first | rfl | exact add_zero _ | exact zero_add _ | omega

end

end Cert.KernelIdeal.Hand
-- ==== Proof.BodyKit.lean ====
/- The diagonal mask at an index, and what the loop over pairs of query tiles leaves in the accumulators and the query gradient. -/
module

public import proofs.«01_k».proof.Proof.Body
public import proofs.«01_k».proof.Proof.TripValue
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

/-- The mask's stand-in is minus infinity. -/
theorem mask_bot : (Named.named κ "mask" 0xF149F2CA#32 : Ideal .f32) = (⊥ : EReal) :=
  IdealRules.named_const.ideal_named_scalar _ _ _ _ rfl

theorem maskE_1024 (v : FVec Ideal S1024x512 .f32) (r : Fin 1024) (q : Fin 512) :
    exp (select (cmpi .sle (subi (iota .tc S1024x512 32 (@List.cons (Fin 2) (1 : Fin S1024x512.rank) []) iota_S1024x512_d1_w32) (broadcast S1024x512 0#32)) (iota .tc S1024x512 32 (@List.cons (Fin 2) (0 : Fin S1024x512.rank) []) iota_S1024x512_d0_w32)) v
        (broadcast S1024x512 (Named.named κ "mask" 0xF149F2CA#32 : Ideal .f32))) (ix2 r q)
      = if q.val ≤ r.val then Ideal.exp (v (ix2 r q)) else 0 := by
  have h : cmpi .sle (subi (iota .tc S1024x512 32 [1] iota_S1024x512_d1_w32) (broadcast S1024x512 0#32)) (iota .tc S1024x512 32 [0] iota_S1024x512_d0_w32) (ix2 r q)
      = BitVec.ofBool (decide (q.val ≤ r.val)) := by
    show IntOp.cmpi .sle (BitVec.ofNat 32 (0 * 512 + q.val) - 0#32) (BitVec.ofNat 32 (0 * 1024 + r.val)) = _
    rw [BitVec.sub_zero, WordCmp.cmpi_sle_ofNat (by omega) (by omega)]
    congr 2
    simp
  show Ideal.exp (if cmpi .sle (subi (iota .tc S1024x512 32 [1] iota_S1024x512_d1_w32) (broadcast S1024x512 0#32)) (iota .tc S1024x512 32 [0] iota_S1024x512_d0_w32) (ix2 r q) = 1#1
    then v (ix2 r q) else (Named.named κ "mask" 0xF149F2CA#32 : Ideal .f32)) = _
  rw [h, mask_bot]
  by_cases hq : q.val ≤ r.val <;> simp [hq]

theorem maskE_512 (v : FVec Ideal S512x512 .f32) (r : Fin 512) (q : Fin 512) :
    exp (select (cmpi .sle (subi (iota .tc S512x512 32 (@List.cons (Fin 2) (1 : Fin S512x512.rank) []) iota_S512x512_d1_w32) (broadcast S512x512 0#32)) (iota .tc S512x512 32 (@List.cons (Fin 2) (0 : Fin S512x512.rank) []) iota_S512x512_d0_w32)) v
        (broadcast S512x512 (Named.named κ "mask" 0xF149F2CA#32 : Ideal .f32))) (ix2 r q)
      = if q.val ≤ r.val then Ideal.exp (v (ix2 r q)) else 0 := by
  have h : cmpi .sle (subi (iota .tc S512x512 32 [1] iota_S512x512_d1_w32) (broadcast S512x512 0#32)) (iota .tc S512x512 32 [0] iota_S512x512_d0_w32) (ix2 r q)
      = BitVec.ofBool (decide (q.val ≤ r.val)) := by
    show IntOp.cmpi .sle (BitVec.ofNat 32 (0 * 512 + q.val) - 0#32) (BitVec.ofNat 32 (0 * 512 + r.val)) = _
    rw [BitVec.sub_zero, WordCmp.cmpi_sle_ofNat (by omega) (by omega)]
    congr 2
    simp
  show Ideal.exp (if cmpi .sle (subi (iota .tc S512x512 32 [1] iota_S512x512_d1_w32) (broadcast S512x512 0#32)) (iota .tc S512x512 32 [0] iota_S512x512_d0_w32) (ix2 r q) = 1#1
    then v (ix2 r q) else (Named.named κ "mask" 0xF149F2CA#32 : Ideal .f32)) = _
  rw [h, mask_bot]
  by_cases hq : q.val ≤ r.val <;> simp [hq]

theorem fill3 {κ : Kind} {sp : Space} {Val : EltTy → Type} {e : EltTy} {A n m : ℕ} (v : View sig κ sp ⟨3, ![A, n, m]⟩ e) (f : v.ty.Contents Val)
    (inb : ∀ a, (![0, 0, 0] : Fin 3 → ℕ) a + (![A, n, m] : Fin 3 → ℕ) a ≤ (![A, n, m] : Fin 3 → ℕ) a)
    (w : (⟨3, ![A, n, m]⟩ : Shape).Idx → Val e) (L : List (View.Piece Val ⟨3, ![A, n, m]⟩ e)) (g : Fin A) (a : Fin n) (b : Fin m) :
    v.read Val (v.writes Val f (⟨Rect.unit (s := ⟨3, ![A, n, m]⟩) ![0, 0, 0] ![A, n, m] inb, w⟩ :: L)) (ix3 g a b) = w (ix3 g a b) := by
  refine View.read_writes_cons_unit_of_mem v f inb w L _ (ix3 g a b) rfl ?_
  intro x
  match x with
  | ⟨0, _⟩ => exact (Nat.zero_add _).symm
  | ⟨1, _⟩ => exact (Nat.zero_add _).symm
  | ⟨2, _⟩ => exact (Nat.zero_add _).symm

theorem castZero {S T : Shape} (h : S.ShapeCasts T) (j : T.Idx) :
    shapeCast T (broadcast S (FloatOps.ofBits .f32 0x00000000#32 : Ideal .f32)) h j = (0 : EReal) := Ideal.ofBits_zero_f32
theorem fillZero {S : Shape} (j : S.Idx) : broadcast S (FloatOps.ofBits .f32 0x00000000#32 : Ideal .f32) j = (0 : EReal) := Ideal.ofBits_zero_f32

/-- A load of one head's slab from what the stores so far left. -/
theorem rdCov {κ : Kind} {sp : Space} {n m : ℕ} (v : View sig κ sp ⟨3, ![2, n, m]⟩ .f32) (L : List (View.Piece (Elt Ideal) ⟨3, ![2, n, m]⟩ .f32))
    (off : Fin 3 → ℕ) (g : Fin 2) (ho : off = ![g.val, 0, 0])
    (inb : ∀ a, off a + (![1, n, m] : Fin 3 → ℕ) a ≤ (![2, n, m] : Fin 3 → ℕ) a)
    (hc : (⟨3, ![1, n, m]⟩ : Shape).ShapeCasts ⟨2, ![n, m]⟩) (a : Fin n) (b : Fin m) :
    shapeCast ⟨2, ![n, m]⟩ (v.readCov L (Rect.unit (s := ⟨3, ![2, n, m]⟩) off ![1, n, m] inb).toLoadRect) hc (ix2 a b)
      = v.read (Elt Ideal) (v.writes (Elt Ideal) v.junk L) (ix3 g a b) :=
  rdSlab_f32 v _ off g ho inb hc a b

section
variable (c : Dev nD) (i : grid0.Coords)
  (arg2 : Memref sig .tc .vmem S2x4096x128 .bf16) (harg2 : arg2.IsWhole) (arg3 : Memref sig .tc .vmem S2x4096x128 .bf16) (harg3 : arg3.IsWhole) (arg4 : Memref sig .tc .vmem S2x8x128x512 .bf16) (harg4 : arg4.IsWhole) (arg5 : Memref sig .tc .vmem S2x8x128x512 .bf16) (harg5 : arg5.IsWhole) (arg6 : Memref sig .tc .vmem S2x512x128 .bf16) (harg6 : arg6.IsWhole) (arg7 : Memref sig .tc .vmem S2x1x128x512 .bf16) (harg7 : arg7.IsWhole) (arg8 : Memref sig .tc .vmem S2x1x128x512 .bf16) (harg8 : arg8.IsWhole) (arg9 : Memref sig .tc .vmem S2x4096x128 .f32) (harg9 : arg9.IsWhole) (arg10 : Memref sig .tc .vmem S2x128x512 .f32) (harg10 : arg10.IsWhole) (arg11 : Memref sig .tc .vmem S128x512 .bf16) (harg11 : arg11.IsWhole) (arg12 : Memref sig .tc .vmem S2x128x512 .f32) (harg12 : arg12.IsWhole) (arg13 : Memref sig .tc .vmem S2x64x512 .f32) (harg13 : arg13.IsWhole)
  (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f12 : Buf (Elt Ideal) (arg12.view.loc (c : Thread nD τ))) (f13 : Buf (Elt Ideal) (arg13.view.loc (c : Thread nD τ))) (arg1 v21 : BitVec 32)

theorem row0_end : row0 i (k0_t1_loop i).trips = 4096 := by
  rw [trips1_eq]
  have h := (i 1).isLt
  change (i 1).val < 8 at h
  unfold row0
  omega

/-- The key gradient's block after the loop. -/
theorem fin_dk (K : ℕ) (hK : K = (k0_t1_loop i).trips)
    (inb : ∀ a, (![0, 0, 0] : Fin 3 → ℕ) a + (![2, 128, 512] : Fin 3 → ℕ) a ≤ S2x128x512.size a)
    (inb' : ∀ a, (![0, 0, 0] : Fin 3 → ℕ) a + (![2, 128, 512] : Fin 3 → ℕ) a ≤ S2x128x512.size a) (g : Fin 2) (d : Fin 128) (q : Fin 512) :
    View.canon (Val := Elt Ideal) (s := S2x128x512) (e := .f32) [⟨Rect.unit (s := S2x128x512) ![0, 0, 0] ![2, 128, 512] inb,
      arg12.view.readAt (Elt Ideal) (Rect.unit (s := S2x128x512) ![0, 0, 0] ![2, 128, 512] inb').toLoadRect
        (pick K f12 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 K).2.1)⟩] (ix3 g d q)
      = ((arg12.view.read (Elt Ideal) f12 (ix3 g d q) : EReal)
        + ∑ n ∈ Finset.Ico (row0 i 0) 4096, col4 (arg4.view.read (Elt Ideal) f4) g d n * Du (arg2.view.read (Elt Ideal) f2) (arg3.view.read (Elt Ideal) f3) (arg7.view.read (Elt Ideal) f7) (arg8.view.read (Elt Ideal) f8) g n q) := by
  refine (congrFun (View.canon_cons_unit_zero (S := S2x128x512) (by funext a; fin_cases a <;> rfl) inb _ []) _).trans ?_
  have hp : pick K f12 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 K).2.1 = (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 K).2.1 := by cases K <;> rfl
  rw [hp, View.readAt_eq_ld]
  refine (View.ld_unit_apply_of _ _ _ inb' _ (ix3 g d q) ?_).trans ?_
  · intro x
    match x with
    | ⟨0, _⟩ => exact (Nat.zero_add _).symm
    | ⟨1, _⟩ => exact (Nat.zero_add _).symm
    | ⟨2, _⟩ => exact (Nat.zero_add _).symm
  rw [st_dk _ _ _ _ _ _ _ _ _ _ _ _ _ _ _ _ _ _ _ _ _ _ _ _ _ _ _ _ _ _ _ _ _ _ _ _ _ _ _ _ _ K (le_of_eq hK), hK, row0_end]

/-- The value gradient's block after the loop, one head above the other. -/
theorem fin_dv (K : ℕ) (hK : K = (k0_t1_loop i).trips)
    (inb1 : ∀ a, (![64, 0] : Fin 2 → ℕ) a + (![64, 512] : Fin 2 → ℕ) a ≤ S128x512.size a)
    (inb0 : ∀ a, (![0, 0] : Fin 2 → ℕ) a + (![64, 512] : Fin 2 → ℕ) a ≤ S128x512.size a)
    (inbs1 : ∀ a, (![1, 0, 0] : Fin 3 → ℕ) a + (![1, 64, 512] : Fin 3 → ℕ) a ≤ S2x64x512.size a)
    (inbs0 : ∀ a, (![0, 0, 0] : Fin 3 → ℕ) a + (![1, 64, 512] : Fin 3 → ℕ) a ≤ S2x64x512.size a)
    (hc1 hc0 : S1x64x512.ShapeCasts S64x512) (ht1 ht0 : FTy.bits .bf16 < FTy.bits .f32) (g : Fin 2) (d : Fin 64) (q : Fin 512) :
    View.canon (Val := Elt Ideal) (s := S128x512) (e := .bf16) [⟨Rect.unit (s := S128x512) ![64, 0] ![64, 512] inb1,
        truncf (F := Ideal) (φ := .f32) .bf16 (shapeCast S64x512 (arg13.view.readAt (Elt Ideal) (Rect.unit (s := S2x64x512) ![1, 0, 0] ![1, 64, 512] inbs1).toLoadRect
          (pick K f13 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 K).2.2)) hc1) ht1⟩,
      ⟨Rect.unit (s := S128x512) ![0, 0] ![64, 512] inb0,
        truncf (F := Ideal) (φ := .f32) .bf16 (shapeCast S64x512 (arg13.view.readAt (Elt Ideal) (Rect.unit (s := S2x64x512) ![0, 0, 0] ![1, 64, 512] inbs0).toLoadRect
          (pick K f13 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 K).2.2)) hc0) ht0⟩] (ix2 ⟨64 * g.val + d.val, by omega⟩ q)
      = ((arg13.view.read (Elt Ideal) f13 (ix3 g d q) : EReal)
        + ∑ n ∈ Finset.Ico (row0 i 0) 4096, col4 (arg5.view.read (Elt Ideal) f5) g ⟨d.val, by omega⟩ n * Eu (arg2.view.read (Elt Ideal) f2) (arg7.view.read (Elt Ideal) f7) g n q) := by
  have hp : pick K f13 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 K).2.2 = (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 K).2.2 := by cases K <;> rfl
  rw [hp]
  have key := st_dv c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 g d q K (le_of_eq hK)
  rw [hK, row0_end, ← hK] at key
  rw [← key, ← View.read_writes_junk_eq_canon arg11.view]
  obtain rfl | rfl : g = 0 ∨ g = 1 := by omega
  · refine (View.read_writes_cons_unit_of_not_mem arg11.view _ inb1 _ _ _ rfl 0 (Or.inl ?_)).trans ?_
    · show 64 * 0 + d.val < 64; omega
    refine (View.read_writes_cons_unit_of_mem arg11.view _ inb0 _ _ _ (ix2 d q) rfl ?_).trans ?_
    · intro x
      match x with
      | ⟨0, _⟩ => rfl
      | ⟨1, _⟩ => exact (Nat.zero_add _).symm
    exact rdSlab_f32 arg13.view _ _ 0 rfl inbs0 hc0 d q
  · refine (View.read_writes_cons_unit_of_mem arg11.view _ inb1 _ _ _ (ix2 d q) rfl ?_).trans ?_
    · intro x
      match x with
      | ⟨0, _⟩ => rfl
      | ⟨1, _⟩ => exact (Nat.zero_add _).symm
    exact rdSlab_f32 arg13.view _ _ 1 rfl inbs1 hc1 d q

/-- The query gradient's block after the loop. -/
theorem fin_dq (K : ℕ) (hK : K = (k0_t1_loop i).trips) (g : Fin 2) (r : Fin 4096) (d : Fin 128) :
    arg9.view.read (Elt Ideal) (pick K f9 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 K).1) (ix3 g r d)
      = ((arg9.view.read (Elt Ideal) f9 (ix3 g r d) : EReal)
        + if row0 i 0 ≤ r.val then ∑ q : Fin 512, Du (arg2.view.read (Elt Ideal) f2) (arg3.view.read (Elt Ideal) f3) (arg7.view.read (Elt Ideal) f7) (arg8.view.read (Elt Ideal) f8) g r.val q * (arg6.view.read (Elt Ideal) f6) (ix3 g q d) else 0) := by
  have hp : pick K f9 (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 K).1 = (st c i arg2 harg2 arg3 harg3 arg4 harg4 arg5 harg5 arg6 harg6 arg7 harg7 arg8 harg8 arg9 harg9 arg10 harg10 arg11 harg11 arg12 harg12 arg13 harg13 f2 f3 f4 f5 f6 f7 f8 f9 f12 f13 arg1 v21 K).1 := by cases K <;> rfl
  rw [hp, st_dq _ _ _ _ _ _ _ _ _ _ _ _ _ _ _ _ _ _ _ _ _ _ _ _ _ _ _ _ _ _ _ _ _ _ _ _ _ _ _ _ _ K (le_of_eq hK), hK, row0_end]
  simp only [r.isLt, and_true]

end
end Cert.KernelIdeal.Hand
-- ==== Proof.BodyValue.lean ====
/- What the kernel body leaves in its three result blocks at one grid point, at an index. -/
module

public import proofs.«01_k».proof.Proof.BodyKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

/-- A sum over one tile of 512 rows. -/
theorem sum_one (φ : ℕ → EReal) (T : ℕ) :
    (∑ a : Fin 512, φ (512 * T + a.val)) = ∑ n ∈ Finset.Ico (512 * T) (512 * T + 512), φ n := by
  rw [Finset.sum_Ico_eq_sum_range, show 512 * T + 512 - 512 * T = 512 by omega, Finset.sum_range]

variable (c : Dev nD) (i : grid0.Coords) (arg2 : Memref sig .tc .vmem S2x4096x128 .bf16) (harg2 : arg2.IsWhole)
  (arg3 : Memref sig .tc .vmem S2x4096x128 .bf16) (harg3 : arg3.IsWhole) (arg4 : Memref sig .tc .vmem S2x8x128x512 .bf16)
  (harg4 : arg4.IsWhole) (arg5 : Memref sig .tc .vmem S2x8x128x512 .bf16) (harg5 : arg5.IsWhole)
  (arg6 : Memref sig .tc .vmem S2x512x128 .bf16) (harg6 : arg6.IsWhole) (arg7 : Memref sig .tc .vmem S2x1x128x512 .bf16)
  (harg7 : arg7.IsWhole) (arg8 : Memref sig .tc .vmem S2x1x128x512 .bf16) (harg8 : arg8.IsWhole)
  (arg9 : Memref sig .tc .vmem S2x4096x128 .f32) (harg9 : arg9.IsWhole) (arg10 : Memref sig .tc .vmem S2x128x512 .f32)
  (harg10 : arg10.IsWhole) (arg11 : Memref sig .tc .vmem S128x512 .bf16) (harg11 : arg11.IsWhole)
  (arg12 : Memref sig .tc .vmem S2x128x512 .f32) (harg12 : arg12.IsWhole) (arg13 : Memref sig .tc .vmem S2x64x512 .f32)
  (harg13 : arg13.IsWhole) (x2 : Vec Ideal S2x4096x128 .bf16) (x3 : Vec Ideal S2x4096x128 .bf16)
  (x4 : Vec Ideal S2x8x128x512 .bf16) (x5 : Vec Ideal S2x8x128x512 .bf16) (x6 : Vec Ideal S2x512x128 .bf16)
  (x7 : Vec Ideal S2x1x128x512 .bf16) (x8 : Vec Ideal S2x1x128x512 .bf16)

section Even

variable (h1 : ¬ Scalar.cmpi .ne (Scalar.extui (Scalar.cmpi .eq (BitVec.ofNat 32 (i 1).val) 0#32) : BitVec 32) 0#32 = 1#1) (h2 : ¬ k0_cond2 i = 1#1) (h3 : k0_cond3 i = 1#1) (x9 : Vec Ideal S2x4096x128 .f32)

/-- The key gradient's block. -/
theorem dk_Even (hpar : (7 - (i 1).val) % 2 = 0) (g : Fin 2) (d : Fin 128) (q : Fin 512) :
    (runEven c i h1 h2 h3 arg2 harg2 arg3 harg3 arg4 harg4 arg5 harg5 arg6 harg6 arg7 harg7 arg8 harg8 arg9 harg9 arg10 harg10 arg11 harg11 arg12 harg12 arg13 harg13 x2 x3 x4 x5 x6 x7 x8 x9).2.1 (ix3 g d q)
      = ∑ n ∈ Finset.Ico (512 * (i 1).val) 4096, (col4 x4 g d n * Dm x2 x3 x7 x8 (512 * (i 1).val) g n q : EReal) := by
  have hi : (i 1).val < 8 := (i 1).isLt
  have h0 : row0 i 0 = 512 * (i 1).val + 512 := by unfold row0; omega
  unfold runEven
  dsimp only
  sl_unfold_run_names
  unfold_payloads
  refine (fin_dk c i arg2 harg2 arg3 harg3 arg4 harg4 arg5 harg5 arg6 harg6 arg7 harg7 arg8 harg8 arg9 harg9 arg10 harg10 arg11 harg11 arg12 harg12 arg13 harg13 (harg2.unread x2) (harg3.unread x3) (harg4.unread x4) (harg5.unread x5) (harg6.unread x6) (harg7.unread x7) (harg8.unread x8) _ _ _ _ _ _ rfl _ _ g d q).trans ?_
  simp only [Memref.IsWhole.read_unread]
  rw [← Finset.sum_Ico_consecutive _ (show 512 * (i 1).val ≤ row0 i 0 by omega) (show row0 i 0 ≤ 4096 by omega)]
  congr 1
  · rw [h0, ← sum_one]
    obtain rfl | rfl : g = 0 ∨ g = 1 := by omega
    · simp only [addUnit, add_at, mul_at, trunc_at, mm_512_128_512, mm_64_512_512, mm_128_512_512, mm_512_512_128, maskE_512,
        slabHit (g := 0) (off := ![0, 0, 0]) (ho := rfl), slabSkip (g := 0) (g' := 1) (hg := by decide) (off := ![1, 0, 0]) (ho := rfl), slabSkip (g := 1) (g' := 0) (hg := by decide) (off := ![0, 0, 0]) (ho := rfl), fill3, castZero, fillZero,
        rdSlab_f32 (g := 0) (off := ![0, 0, 0]) (ho := rfl), rdSlab_bf16 (g := 0) (off := ![0, 0, 0]) (ho := rfl), rdCov (g := 0) (off := ![0, 0, 0]) (ho := rfl), rdOne (g := 0) (off := ![0, 0, 0, 0]) (ho := rfl),
        rdRow_bf16 (g := 0) (ho := off7_eq i), rdRow_f32 (g := 0) (ho := off7_eq i), rdTile64 (g := 0) (ho := off9_eq i), rdTile128 (g := 0) (ho := off10_eq i), Memref.IsWhole.read_unread]
      simp only [Dm, Em, Eu, sc, add_assoc, zero_add, Nat.zero_add, Nat.mul_add, Nat.mul_one, Nat.add_assoc, Nat.add_le_add_iff_left]
    · simp only [addUnit, add_at, mul_at, trunc_at, mm_512_128_512, mm_64_512_512, mm_128_512_512, mm_512_512_128, maskE_512,
        slabHit (g := 1) (off := ![1, 0, 0]) (ho := rfl), slabSkip (g := 0) (g' := 1) (hg := by decide) (off := ![1, 0, 0]) (ho := rfl), slabSkip (g := 1) (g' := 0) (hg := by decide) (off := ![0, 0, 0]) (ho := rfl), fill3, castZero, fillZero,
        rdSlab_f32 (g := 1) (off := ![1, 0, 0]) (ho := rfl), rdSlab_bf16 (g := 1) (off := ![1, 0, 0]) (ho := rfl), rdCov (g := 1) (off := ![1, 0, 0]) (ho := rfl), rdOne (g := 1) (off := ![1, 0, 0, 0]) (ho := rfl),
        rdRow_bf16 (g := 1) (ho := off8_eq i), rdRow_f32 (g := 1) (ho := off8_eq i), rdTile64 (g := 1) (ho := off11_eq i), rdTile128 (g := 1) (ho := off12_eq i), Memref.IsWhole.read_unread]
      simp only [Dm, Em, Eu, sc, add_assoc, zero_add, Nat.zero_add, Nat.mul_add, Nat.mul_one, Nat.add_assoc, Nat.add_le_add_iff_left]
  · refine Finset.sum_congr rfl fun n hn => ?_
    have hn' := (Finset.mem_Ico.mp hn).1
    simp only [Dm, Em, Du]
    rw [if_pos (by omega)]

/-- The value gradient's block. -/
theorem dv_Even (hpar : (7 - (i 1).val) % 2 = 0) (g : Fin 2) (d : Fin 64) (q : Fin 512) :
    (runEven c i h1 h2 h3 arg2 harg2 arg3 harg3 arg4 harg4 arg5 harg5 arg6 harg6 arg7 harg7 arg8 harg8 arg9 harg9 arg10 harg10 arg11 harg11 arg12 harg12 arg13 harg13 x2 x3 x4 x5 x6 x7 x8 x9).2.2.1 (ix2 ⟨64 * g.val + d.val, by omega⟩ q)
      = ∑ n ∈ Finset.Ico (512 * (i 1).val) 4096, (col4 x5 g ⟨d.val, by omega⟩ n * Em x2 x7 (512 * (i 1).val) g n q : EReal) := by
  have hi : (i 1).val < 8 := (i 1).isLt
  have h0 : row0 i 0 = 512 * (i 1).val + 512 := by unfold row0; omega
  unfold runEven
  dsimp only
  sl_unfold_run_names
  unfold_payloads
  refine (fin_dv c i arg2 harg2 arg3 harg3 arg4 harg4 arg5 harg5 arg6 harg6 arg7 harg7 arg8 harg8 arg9 harg9 arg10 harg10 arg11 harg11 arg12 harg12 arg13 harg13 (harg2.unread x2) (harg3.unread x3) (harg4.unread x4) (harg5.unread x5) (harg6.unread x6) (harg7.unread x7) (harg8.unread x8) _ _ _ _ _ _ rfl _ _ _ _ _ _ _ _ g d q).trans ?_
  simp only [Memref.IsWhole.read_unread]
  rw [← Finset.sum_Ico_consecutive _ (show 512 * (i 1).val ≤ row0 i 0 by omega) (show row0 i 0 ≤ 4096 by omega)]
  congr 1
  · rw [h0, ← sum_one]
    obtain rfl | rfl : g = 0 ∨ g = 1 := by omega
    · simp only [addUnit, add_at, mul_at, trunc_at, mm_512_128_512, mm_64_512_512, mm_128_512_512, mm_512_512_128, maskE_512,
        slabHit (g := 0) (off := ![0, 0, 0]) (ho := rfl), slabSkip (g := 0) (g' := 1) (hg := by decide) (off := ![1, 0, 0]) (ho := rfl), slabSkip (g := 1) (g' := 0) (hg := by decide) (off := ![0, 0, 0]) (ho := rfl), fill3, castZero, fillZero,
        rdSlab_f32 (g := 0) (off := ![0, 0, 0]) (ho := rfl), rdSlab_bf16 (g := 0) (off := ![0, 0, 0]) (ho := rfl), rdCov (g := 0) (off := ![0, 0, 0]) (ho := rfl), rdOne (g := 0) (off := ![0, 0, 0, 0]) (ho := rfl),
        rdRow_bf16 (g := 0) (ho := off7_eq i), rdRow_f32 (g := 0) (ho := off7_eq i), rdTile64 (g := 0) (ho := off9_eq i), rdTile128 (g := 0) (ho := off10_eq i), Memref.IsWhole.read_unread]
      simp only [Em, Eu, sc, add_assoc, zero_add, Nat.zero_add, Nat.mul_add, Nat.mul_one, Nat.add_assoc, Nat.add_le_add_iff_left]
    · simp only [addUnit, add_at, mul_at, trunc_at, mm_512_128_512, mm_64_512_512, mm_128_512_512, mm_512_512_128, maskE_512,
        slabHit (g := 1) (off := ![1, 0, 0]) (ho := rfl), slabSkip (g := 0) (g' := 1) (hg := by decide) (off := ![1, 0, 0]) (ho := rfl), slabSkip (g := 1) (g' := 0) (hg := by decide) (off := ![0, 0, 0]) (ho := rfl), fill3, castZero, fillZero,
        rdSlab_f32 (g := 1) (off := ![1, 0, 0]) (ho := rfl), rdSlab_bf16 (g := 1) (off := ![1, 0, 0]) (ho := rfl), rdCov (g := 1) (off := ![1, 0, 0]) (ho := rfl), rdOne (g := 1) (off := ![1, 0, 0, 0]) (ho := rfl),
        rdRow_bf16 (g := 1) (ho := off8_eq i), rdRow_f32 (g := 1) (ho := off8_eq i), rdTile64 (g := 1) (ho := off11_eq i), rdTile128 (g := 1) (ho := off12_eq i), Memref.IsWhole.read_unread]
      simp only [Em, Eu, sc, add_assoc, zero_add, Nat.zero_add, Nat.mul_add, Nat.mul_one, Nat.add_assoc, Nat.add_le_add_iff_left]
  · refine Finset.sum_congr rfl fun n hn => ?_
    have hn' := (Finset.mem_Ico.mp hn).1
    simp only [Em]
    rw [if_pos (by omega)]

/-- The query gradient's block. -/
theorem dq_Even (hpar : (7 - (i 1).val) % 2 = 0) (g : Fin 2) (r : Fin 4096) (d : Fin 128) :
    (runEven c i h1 h2 h3 arg2 harg2 arg3 harg3 arg4 harg4 arg5 harg5 arg6 harg6 arg7 harg7 arg8 harg8 arg9 harg9 arg10 harg10 arg11 harg11 arg12 harg12 arg13 harg13 x2 x3 x4 x5 x6 x7 x8 x9).1 (ix3 g r d)
      = (x9 (ix3 g r d) : EReal) + if 512 * (i 1).val ≤ r.val then ∑ q : Fin 512, Dm x2 x3 x7 x8 (512 * (i 1).val) g r.val q * x6 (ix3 g q d) else 0 := by
  have hi : (i 1).val < 8 := (i 1).isLt
  have h0 : row0 i 0 = 512 * (i 1).val + 512 := by unfold row0; omega
  unfold runEven
  dsimp only
  sl_unfold_run_names
  unfold_payloads
  refine (fin_dq c i arg2 harg2 arg3 harg3 arg4 harg4 arg5 harg5 arg6 harg6 arg7 harg7 arg8 harg8 arg9 harg9 arg10 harg10 arg11 harg11 arg12 harg12 arg13 harg13 (harg2.unread x2) (harg3.unread x3) (harg4.unread x4) (harg5.unread x5) (harg6.unread x6) (harg7.unread x7) (harg8.unread x8) _ _ _ _ _ _ rfl g r d).trans ?_
  simp only [Memref.IsWhole.read_unread]
  have e : 512 * (i 1).val ≤ r.val → 512 * (i 1).val + (r.val - 512 * (i 1).val) = r.val := by omega
  have hx : 512 * (i 1).val ≤ r.val → ∀ x : Fin 512, (x.val ≤ r.val - 512 * (i 1).val) = (512 * (i 1).val + x.val ≤ r.val) := fun h x => propext (by omega)
  have hu : row0 i 0 ≤ r.val → ∀ q : Fin 512, Du x2 x3 x7 x8 g r.val q = Dm x2 x3 x7 x8 (512 * (i 1).val) g r.val q := fun h q => by
    simp only [Du, Dm, Em]
    rw [if_pos (by omega)]
  obtain rfl | rfl : g = 0 ∨ g = 1 := by omega
  · by_cases hlo : 512 * (i 1).val ≤ r.val
    · by_cases hhi : r.val < 512 * (i 1).val + 512
      · rw [if_neg (show ¬ row0 i 0 ≤ r.val by omega), if_pos hlo]
        refine (congrArg (· + (0 : EReal)) ((rowSkip _ _ 0 1 _ _ (off8_eq i) _ _ _ _ _ (Or.inl (by decide))).trans
          (rowHit _ _ 0 _ _ (off7_eq i) _ _ _ _ _ hlo (by omega)))).trans ?_
        simp only [addUnit, add_at, mul_at, trunc_at, mm_512_128_512, mm_64_512_512, mm_128_512_512, mm_512_512_128, maskE_512,
          slabHit (g := 0) (off := ![0, 0, 0]) (ho := rfl), slabSkip (g := 0) (g' := 1) (hg := by decide) (off := ![1, 0, 0]) (ho := rfl), slabSkip (g := 1) (g' := 0) (hg := by decide) (off := ![0, 0, 0]) (ho := rfl), fill3, castZero, fillZero,
          rdSlab_f32 (g := 0) (off := ![0, 0, 0]) (ho := rfl), rdSlab_bf16 (g := 0) (off := ![0, 0, 0]) (ho := rfl), rdCov (g := 0) (off := ![0, 0, 0]) (ho := rfl), rdOne (g := 0) (off := ![0, 0, 0, 0]) (ho := rfl),
          rdRow_bf16 (g := 0) (ho := off7_eq i), rdRow_f32 (g := 0) (ho := off7_eq i), rdTile64 (g := 0) (ho := off9_eq i), rdTile128 (g := 0) (ho := off10_eq i), Memref.IsWhole.read_unread]
        rw [add_zero, e hlo]
        simp only [hx hlo, row3_of, View.writes_nil, Memref.IsWhole.read_unread]
        simp only [Dm, Em, Eu, sc, row3_of]
      · rw [if_pos (show row0 i 0 ≤ r.val by omega), if_pos hlo]
        refine (congrArg (· + _) ((rowSkip _ _ 0 1 _ _ (off8_eq i) _ _ _ _ _ (Or.inl (by decide))).trans (rowSkip _ _ 0 0 _ _ (off7_eq i) _ _ _ _ _ (Or.inr (Or.inr (by omega)))))).trans ?_
        simp only [hu (show row0 i 0 ≤ r.val by omega), View.writes_nil, Memref.IsWhole.read_unread]
    · rw [if_neg (show ¬ row0 i 0 ≤ r.val by omega), if_neg hlo]
      refine (congrArg (· + (0 : EReal)) ((rowSkip _ _ 0 1 _ _ (off8_eq i) _ _ _ _ _ (Or.inl (by decide))).trans (rowSkip _ _ 0 0 _ _ (off7_eq i) _ _ _ _ _ (Or.inr (Or.inl (by omega)))))).trans ?_
      simp only [View.writes_nil, Memref.IsWhole.read_unread]
  · by_cases hlo : 512 * (i 1).val ≤ r.val
    · by_cases hhi : r.val < 512 * (i 1).val + 512
      · rw [if_neg (show ¬ row0 i 0 ≤ r.val by omega), if_pos hlo]
        refine (congrArg (· + (0 : EReal)) (rowHit _ _ 1 _ _ (off8_eq i) _ _ _ _ _ hlo (by omega))).trans ?_
        simp only [addUnit, add_at, mul_at, trunc_at, mm_512_128_512, mm_64_512_512, mm_128_512_512, mm_512_512_128, maskE_512,
          slabHit (g := 1) (off := ![1, 0, 0]) (ho := rfl), slabSkip (g := 0) (g' := 1) (hg := by decide) (off := ![1, 0, 0]) (ho := rfl), slabSkip (g := 1) (g' := 0) (hg := by decide) (off := ![0, 0, 0]) (ho := rfl), fill3, castZero, fillZero,
          rdSlab_f32 (g := 1) (off := ![1, 0, 0]) (ho := rfl), rdSlab_bf16 (g := 1) (off := ![1, 0, 0]) (ho := rfl), rdCov (g := 1) (off := ![1, 0, 0]) (ho := rfl), rdOne (g := 1) (off := ![1, 0, 0, 0]) (ho := rfl),
          rdRow_bf16 (g := 1) (ho := off8_eq i), rdRow_f32 (g := 1) (ho := off8_eq i), rdTile64 (g := 1) (ho := off11_eq i), rdTile128 (g := 1) (ho := off12_eq i), Memref.IsWhole.read_unread]
        rw [add_zero, e hlo]
        simp only [hx hlo, row3_of, rowSkip (g := 1) (g' := 0) (ho := off7_eq i) (h := Or.inl (by decide)), View.writes_nil, Memref.IsWhole.read_unread]
        simp only [Dm, Em, Eu, sc, row3_of]
      · rw [if_pos (show row0 i 0 ≤ r.val by omega), if_pos hlo]
        refine (congrArg (· + _) ((rowSkip _ _ 1 1 _ _ (off8_eq i) _ _ _ _ _ (Or.inr (Or.inr (by omega)))).trans (rowSkip _ _ 1 0 _ _ (off7_eq i) _ _ _ _ _ (Or.inl (by decide))))).trans ?_
        simp only [hu (show row0 i 0 ≤ r.val by omega), View.writes_nil, Memref.IsWhole.read_unread]
    · rw [if_neg (show ¬ row0 i 0 ≤ r.val by omega), if_neg hlo]
      refine (congrArg (· + (0 : EReal)) ((rowSkip _ _ 1 1 _ _ (off8_eq i) _ _ _ _ _ (Or.inr (Or.inl (by omega)))).trans (rowSkip _ _ 1 0 _ _ (off7_eq i) _ _ _ _ _ (Or.inl (by decide))))).trans ?_
      simp only [View.writes_nil, Memref.IsWhole.read_unread]

end Even

section First

variable (h1 : Scalar.cmpi .ne (Scalar.extui (Scalar.cmpi .eq (BitVec.ofNat 32 (i 1).val) 0#32) : BitVec 32) 0#32 = 1#1) (h2 : k0_cond2 i = 1#1) (h3 : ¬ k0_cond3 i = 1#1)

/-- The key gradient's block. -/
theorem dk_First (hpar : (7 - (i 1).val) % 2 = 1) (g : Fin 2) (d : Fin 128) (q : Fin 512) :
    (runFirst c i h1 h2 h3 arg2 harg2 arg3 harg3 arg4 harg4 arg5 harg5 arg6 harg6 arg7 harg7 arg8 harg8 arg9 harg9 arg10 harg10 arg11 harg11 arg12 harg12 arg13 harg13 x2 x3 x4 x5 x6 x7 x8).2.1 (ix3 g d q)
      = ∑ n ∈ Finset.Ico (512 * (i 1).val) 4096, (col4 x4 g d n * Dm x2 x3 x7 x8 (512 * (i 1).val) g n q : EReal) := by
  have hi : (i 1).val < 8 := (i 1).isLt
  have h0 : row0 i 0 = 512 * (i 1).val + 1024 := by unfold row0; omega
  unfold runFirst
  dsimp only
  sl_unfold_run_names
  unfold_payloads
  refine (fin_dk c i arg2 harg2 arg3 harg3 arg4 harg4 arg5 harg5 arg6 harg6 arg7 harg7 arg8 harg8 arg9 harg9 arg10 harg10 arg11 harg11 arg12 harg12 arg13 harg13 (harg2.unread x2) (harg3.unread x3) (harg4.unread x4) (harg5.unread x5) (harg6.unread x6) (harg7.unread x7) (harg8.unread x8) _ _ _ _ _ _ rfl _ _ g d q).trans ?_
  simp only [Memref.IsWhole.read_unread]
  rw [← Finset.sum_Ico_consecutive _ (show 512 * (i 1).val ≤ row0 i 0 by omega) (show row0 i 0 ≤ 4096 by omega)]
  congr 1
  · rw [h0, ← sum_two]
    obtain rfl | rfl : g = 0 ∨ g = 1 := by omega
    · simp only [addUnit, add_at, mul_at, trunc_at, mm_1024_128_512, mm_64_512_512, mm_128_512_512, mm_1024_512_128, maskE_1024, slice0, slice512,
        slabHit (g := 0) (off := ![0, 0, 0]) (ho := rfl), slabSkip (g := 0) (g' := 1) (hg := by decide) (off := ![1, 0, 0]) (ho := rfl), slabSkip (g := 1) (g' := 0) (hg := by decide) (off := ![0, 0, 0]) (ho := rfl), fill3, castZero, fillZero,
        rdSlab_f32 (g := 0) (off := ![0, 0, 0]) (ho := rfl), rdSlab_bf16 (g := 0) (off := ![0, 0, 0]) (ho := rfl), rdCov (g := 0) (off := ![0, 0, 0]) (ho := rfl), rdOne (g := 0) (off := ![0, 0, 0, 0]) (ho := rfl),
        rdRow_bf16 (g := 0) (ho := off1_eq i), rdRow_f32 (g := 0) (ho := off1_eq i), rdTile64 (g := 0) (ho := off3_eq0 i), rdTile64 (g := 0) (ho := off3_eq1 i), rdTile128 (g := 0) (ho := off4_eq0 i), rdTile128 (g := 0) (ho := off4_eq1 i), Memref.IsWhole.read_unread]
      simp only [Dm, Em, Eu, sc, add_assoc, zero_add, Nat.zero_add, Nat.mul_add, Nat.mul_one, Nat.add_assoc, Nat.add_le_add_iff_left]
    · simp only [addUnit, add_at, mul_at, trunc_at, mm_1024_128_512, mm_64_512_512, mm_128_512_512, mm_1024_512_128, maskE_1024, slice0, slice512,
        slabHit (g := 1) (off := ![1, 0, 0]) (ho := rfl), slabSkip (g := 0) (g' := 1) (hg := by decide) (off := ![1, 0, 0]) (ho := rfl), slabSkip (g := 1) (g' := 0) (hg := by decide) (off := ![0, 0, 0]) (ho := rfl), fill3, castZero, fillZero,
        rdSlab_f32 (g := 1) (off := ![1, 0, 0]) (ho := rfl), rdSlab_bf16 (g := 1) (off := ![1, 0, 0]) (ho := rfl), rdCov (g := 1) (off := ![1, 0, 0]) (ho := rfl), rdOne (g := 1) (off := ![1, 0, 0, 0]) (ho := rfl),
        rdRow_bf16 (g := 1) (ho := off2_eq i), rdRow_f32 (g := 1) (ho := off2_eq i), rdTile64 (g := 1) (ho := off5_eq0 i), rdTile64 (g := 1) (ho := off5_eq1 i), rdTile128 (g := 1) (ho := off6_eq0 i), rdTile128 (g := 1) (ho := off6_eq1 i), Memref.IsWhole.read_unread]
      simp only [Dm, Em, Eu, sc, add_assoc, zero_add, Nat.zero_add, Nat.mul_add, Nat.mul_one, Nat.add_assoc, Nat.add_le_add_iff_left]
  · refine Finset.sum_congr rfl fun n hn => ?_
    have hn' := (Finset.mem_Ico.mp hn).1
    simp only [Dm, Em, Du]
    rw [if_pos (by omega)]

/-- The value gradient's block. -/
theorem dv_First (hpar : (7 - (i 1).val) % 2 = 1) (g : Fin 2) (d : Fin 64) (q : Fin 512) :
    (runFirst c i h1 h2 h3 arg2 harg2 arg3 harg3 arg4 harg4 arg5 harg5 arg6 harg6 arg7 harg7 arg8 harg8 arg9 harg9 arg10 harg10 arg11 harg11 arg12 harg12 arg13 harg13 x2 x3 x4 x5 x6 x7 x8).2.2.1 (ix2 ⟨64 * g.val + d.val, by omega⟩ q)
      = ∑ n ∈ Finset.Ico (512 * (i 1).val) 4096, (col4 x5 g ⟨d.val, by omega⟩ n * Em x2 x7 (512 * (i 1).val) g n q : EReal) := by
  have hi : (i 1).val < 8 := (i 1).isLt
  have h0 : row0 i 0 = 512 * (i 1).val + 1024 := by unfold row0; omega
  unfold runFirst
  dsimp only
  sl_unfold_run_names
  unfold_payloads
  refine (fin_dv c i arg2 harg2 arg3 harg3 arg4 harg4 arg5 harg5 arg6 harg6 arg7 harg7 arg8 harg8 arg9 harg9 arg10 harg10 arg11 harg11 arg12 harg12 arg13 harg13 (harg2.unread x2) (harg3.unread x3) (harg4.unread x4) (harg5.unread x5) (harg6.unread x6) (harg7.unread x7) (harg8.unread x8) _ _ _ _ _ _ rfl _ _ _ _ _ _ _ _ g d q).trans ?_
  simp only [Memref.IsWhole.read_unread]
  rw [← Finset.sum_Ico_consecutive _ (show 512 * (i 1).val ≤ row0 i 0 by omega) (show row0 i 0 ≤ 4096 by omega)]
  congr 1
  · rw [h0, ← sum_two]
    obtain rfl | rfl : g = 0 ∨ g = 1 := by omega
    · simp only [addUnit, add_at, mul_at, trunc_at, mm_1024_128_512, mm_64_512_512, mm_128_512_512, mm_1024_512_128, maskE_1024, slice0, slice512,
        slabHit (g := 0) (off := ![0, 0, 0]) (ho := rfl), slabSkip (g := 0) (g' := 1) (hg := by decide) (off := ![1, 0, 0]) (ho := rfl), slabSkip (g := 1) (g' := 0) (hg := by decide) (off := ![0, 0, 0]) (ho := rfl), fill3, castZero, fillZero,
        rdSlab_f32 (g := 0) (off := ![0, 0, 0]) (ho := rfl), rdSlab_bf16 (g := 0) (off := ![0, 0, 0]) (ho := rfl), rdCov (g := 0) (off := ![0, 0, 0]) (ho := rfl), rdOne (g := 0) (off := ![0, 0, 0, 0]) (ho := rfl),
        rdRow_bf16 (g := 0) (ho := off1_eq i), rdRow_f32 (g := 0) (ho := off1_eq i), rdTile64 (g := 0) (ho := off3_eq0 i), rdTile64 (g := 0) (ho := off3_eq1 i), rdTile128 (g := 0) (ho := off4_eq0 i), rdTile128 (g := 0) (ho := off4_eq1 i), Memref.IsWhole.read_unread]
      simp only [Em, Eu, sc, add_assoc, zero_add, Nat.zero_add, Nat.mul_add, Nat.mul_one, Nat.add_assoc, Nat.add_le_add_iff_left]
    · simp only [addUnit, add_at, mul_at, trunc_at, mm_1024_128_512, mm_64_512_512, mm_128_512_512, mm_1024_512_128, maskE_1024, slice0, slice512,
        slabHit (g := 1) (off := ![1, 0, 0]) (ho := rfl), slabSkip (g := 0) (g' := 1) (hg := by decide) (off := ![1, 0, 0]) (ho := rfl), slabSkip (g := 1) (g' := 0) (hg := by decide) (off := ![0, 0, 0]) (ho := rfl), fill3, castZero, fillZero,
        rdSlab_f32 (g := 1) (off := ![1, 0, 0]) (ho := rfl), rdSlab_bf16 (g := 1) (off := ![1, 0, 0]) (ho := rfl), rdCov (g := 1) (off := ![1, 0, 0]) (ho := rfl), rdOne (g := 1) (off := ![1, 0, 0, 0]) (ho := rfl),
        rdRow_bf16 (g := 1) (ho := off2_eq i), rdRow_f32 (g := 1) (ho := off2_eq i), rdTile64 (g := 1) (ho := off5_eq0 i), rdTile64 (g := 1) (ho := off5_eq1 i), rdTile128 (g := 1) (ho := off6_eq0 i), rdTile128 (g := 1) (ho := off6_eq1 i), Memref.IsWhole.read_unread]
      simp only [Em, Eu, sc, add_assoc, zero_add, Nat.zero_add, Nat.mul_add, Nat.mul_one, Nat.add_assoc, Nat.add_le_add_iff_left]
  · refine Finset.sum_congr rfl fun n hn => ?_
    have hn' := (Finset.mem_Ico.mp hn).1
    simp only [Em]
    rw [if_pos (by omega)]

/-- The query gradient's block. -/
theorem dq_First (hpar : (7 - (i 1).val) % 2 = 1) (g : Fin 2) (r : Fin 4096) (d : Fin 128) :
    (runFirst c i h1 h2 h3 arg2 harg2 arg3 harg3 arg4 harg4 arg5 harg5 arg6 harg6 arg7 harg7 arg8 harg8 arg9 harg9 arg10 harg10 arg11 harg11 arg12 harg12 arg13 harg13 x2 x3 x4 x5 x6 x7 x8).1 (ix3 g r d)
      = (0 : EReal) + if 512 * (i 1).val ≤ r.val then ∑ q : Fin 512, Dm x2 x3 x7 x8 (512 * (i 1).val) g r.val q * x6 (ix3 g q d) else 0 := by
  have hi : (i 1).val < 8 := (i 1).isLt
  have h0 : row0 i 0 = 512 * (i 1).val + 1024 := by unfold row0; omega
  unfold runFirst
  dsimp only
  sl_unfold_run_names
  unfold_payloads
  refine (fin_dq c i arg2 harg2 arg3 harg3 arg4 harg4 arg5 harg5 arg6 harg6 arg7 harg7 arg8 harg8 arg9 harg9 arg10 harg10 arg11 harg11 arg12 harg12 arg13 harg13 (harg2.unread x2) (harg3.unread x3) (harg4.unread x4) (harg5.unread x5) (harg6.unread x6) (harg7.unread x7) (harg8.unread x8) _ _ _ _ _ _ rfl g r d).trans ?_
  simp only [Memref.IsWhole.read_unread]
  have e : 512 * (i 1).val ≤ r.val → 512 * (i 1).val + (r.val - 512 * (i 1).val) = r.val := by omega
  have hx : 512 * (i 1).val ≤ r.val → ∀ x : Fin 512, (x.val ≤ r.val - 512 * (i 1).val) = (512 * (i 1).val + x.val ≤ r.val) := fun h x => propext (by omega)
  have hu : row0 i 0 ≤ r.val → ∀ q : Fin 512, Du x2 x3 x7 x8 g r.val q = Dm x2 x3 x7 x8 (512 * (i 1).val) g r.val q := fun h q => by
    simp only [Du, Dm, Em]
    rw [if_pos (by omega)]
  obtain rfl | rfl : g = 0 ∨ g = 1 := by omega
  · by_cases hlo : 512 * (i 1).val ≤ r.val
    · by_cases hhi : r.val < 512 * (i 1).val + 1024
      · rw [if_neg (show ¬ row0 i 0 ≤ r.val by omega), if_pos hlo]
        refine (congrArg (· + (0 : EReal)) ((rowSkip _ _ 0 1 _ _ (off2_eq i) _ _ _ _ _ (Or.inl (by decide))).trans
          (rowHit _ _ 0 _ _ (off1_eq i) _ _ _ _ _ hlo (by omega)))).trans ?_
        simp only [addUnit, add_at, mul_at, trunc_at, mm_1024_128_512, mm_64_512_512, mm_128_512_512, mm_1024_512_128, maskE_1024, slice0, slice512,
          slabHit (g := 0) (off := ![0, 0, 0]) (ho := rfl), slabSkip (g := 0) (g' := 1) (hg := by decide) (off := ![1, 0, 0]) (ho := rfl), slabSkip (g := 1) (g' := 0) (hg := by decide) (off := ![0, 0, 0]) (ho := rfl), fill3, castZero, fillZero,
          rdSlab_f32 (g := 0) (off := ![0, 0, 0]) (ho := rfl), rdSlab_bf16 (g := 0) (off := ![0, 0, 0]) (ho := rfl), rdCov (g := 0) (off := ![0, 0, 0]) (ho := rfl), rdOne (g := 0) (off := ![0, 0, 0, 0]) (ho := rfl),
          rdRow_bf16 (g := 0) (ho := off1_eq i), rdRow_f32 (g := 0) (ho := off1_eq i), rdTile64 (g := 0) (ho := off3_eq0 i), rdTile64 (g := 0) (ho := off3_eq1 i), rdTile128 (g := 0) (ho := off4_eq0 i), rdTile128 (g := 0) (ho := off4_eq1 i), Memref.IsWhole.read_unread]
        rw [add_zero, e hlo]
        simp only [hx hlo, row3_of, fill3, fillZero, zero_add]
        simp only [Dm, Em, Eu, sc, row3_of]
      · rw [if_pos (show row0 i 0 ≤ r.val by omega), if_pos hlo]
        refine (congrArg (· + _) ((rowSkip _ _ 0 1 _ _ (off2_eq i) _ _ _ _ _ (Or.inl (by decide))).trans (rowSkip _ _ 0 0 _ _ (off1_eq i) _ _ _ _ _ (Or.inr (Or.inr (by omega)))))).trans ?_
        simp only [hu (show row0 i 0 ≤ r.val by omega), fill3, fillZero, zero_add]
    · rw [if_neg (show ¬ row0 i 0 ≤ r.val by omega), if_neg hlo]
      refine (congrArg (· + (0 : EReal)) ((rowSkip _ _ 0 1 _ _ (off2_eq i) _ _ _ _ _ (Or.inl (by decide))).trans (rowSkip _ _ 0 0 _ _ (off1_eq i) _ _ _ _ _ (Or.inr (Or.inl (by omega)))))).trans ?_
      simp only [fill3, fillZero, zero_add]
  · by_cases hlo : 512 * (i 1).val ≤ r.val
    · by_cases hhi : r.val < 512 * (i 1).val + 1024
      · rw [if_neg (show ¬ row0 i 0 ≤ r.val by omega), if_pos hlo]
        refine (congrArg (· + (0 : EReal)) (rowHit _ _ 1 _ _ (off2_eq i) _ _ _ _ _ hlo (by omega))).trans ?_
        simp only [addUnit, add_at, mul_at, trunc_at, mm_1024_128_512, mm_64_512_512, mm_128_512_512, mm_1024_512_128, maskE_1024, slice0, slice512,
          slabHit (g := 1) (off := ![1, 0, 0]) (ho := rfl), slabSkip (g := 0) (g' := 1) (hg := by decide) (off := ![1, 0, 0]) (ho := rfl), slabSkip (g := 1) (g' := 0) (hg := by decide) (off := ![0, 0, 0]) (ho := rfl), fill3, castZero, fillZero,
          rdSlab_f32 (g := 1) (off := ![1, 0, 0]) (ho := rfl), rdSlab_bf16 (g := 1) (off := ![1, 0, 0]) (ho := rfl), rdCov (g := 1) (off := ![1, 0, 0]) (ho := rfl), rdOne (g := 1) (off := ![1, 0, 0, 0]) (ho := rfl),
          rdRow_bf16 (g := 1) (ho := off2_eq i), rdRow_f32 (g := 1) (ho := off2_eq i), rdTile64 (g := 1) (ho := off5_eq0 i), rdTile64 (g := 1) (ho := off5_eq1 i), rdTile128 (g := 1) (ho := off6_eq0 i), rdTile128 (g := 1) (ho := off6_eq1 i), Memref.IsWhole.read_unread]
        rw [add_zero, e hlo]
        simp only [hx hlo, row3_of]
        refine (congrArg (· + _) (rowSkip _ _ 1 0 _ _ (off1_eq i) _ _ _ _ _ (Or.inl (by decide)))).trans ?_
        simp only [fill3, fillZero, zero_add]
        simp only [Dm, Em, Eu, sc, row3_of]
      · rw [if_pos (show row0 i 0 ≤ r.val by omega), if_pos hlo]
        refine (congrArg (· + _) ((rowSkip _ _ 1 1 _ _ (off2_eq i) _ _ _ _ _ (Or.inr (Or.inr (by omega)))).trans (rowSkip _ _ 1 0 _ _ (off1_eq i) _ _ _ _ _ (Or.inl (by decide))))).trans ?_
        simp only [hu (show row0 i 0 ≤ r.val by omega), fill3, fillZero, zero_add]
    · rw [if_neg (show ¬ row0 i 0 ≤ r.val by omega), if_neg hlo]
      refine (congrArg (· + (0 : EReal)) ((rowSkip _ _ 1 1 _ _ (off2_eq i) _ _ _ _ _ (Or.inr (Or.inl (by omega)))).trans (rowSkip _ _ 1 0 _ _ (off1_eq i) _ _ _ _ _ (Or.inl (by decide))))).trans ?_
      simp only [fill3, fillZero, zero_add]

end First

section Odd

variable (h1 : ¬ Scalar.cmpi .ne (Scalar.extui (Scalar.cmpi .eq (BitVec.ofNat 32 (i 1).val) 0#32) : BitVec 32) 0#32 = 1#1) (h2 : k0_cond2 i = 1#1) (h3 : ¬ k0_cond3 i = 1#1) (x9 : Vec Ideal S2x4096x128 .f32)

/-- The key gradient's block. -/
theorem dk_Odd (hpar : (7 - (i 1).val) % 2 = 1) (g : Fin 2) (d : Fin 128) (q : Fin 512) :
    (runOdd c i h1 h2 h3 arg2 harg2 arg3 harg3 arg4 harg4 arg5 harg5 arg6 harg6 arg7 harg7 arg8 harg8 arg9 harg9 arg10 harg10 arg11 harg11 arg12 harg12 arg13 harg13 x2 x3 x4 x5 x6 x7 x8 x9).2.1 (ix3 g d q)
      = ∑ n ∈ Finset.Ico (512 * (i 1).val) 4096, (col4 x4 g d n * Dm x2 x3 x7 x8 (512 * (i 1).val) g n q : EReal) := by
  have hi : (i 1).val < 8 := (i 1).isLt
  have h0 : row0 i 0 = 512 * (i 1).val + 1024 := by unfold row0; omega
  unfold runOdd
  dsimp only
  sl_unfold_run_names
  unfold_payloads
  refine (fin_dk c i arg2 harg2 arg3 harg3 arg4 harg4 arg5 harg5 arg6 harg6 arg7 harg7 arg8 harg8 arg9 harg9 arg10 harg10 arg11 harg11 arg12 harg12 arg13 harg13 (harg2.unread x2) (harg3.unread x3) (harg4.unread x4) (harg5.unread x5) (harg6.unread x6) (harg7.unread x7) (harg8.unread x8) _ _ _ _ _ _ rfl _ _ g d q).trans ?_
  simp only [Memref.IsWhole.read_unread]
  rw [← Finset.sum_Ico_consecutive _ (show 512 * (i 1).val ≤ row0 i 0 by omega) (show row0 i 0 ≤ 4096 by omega)]
  congr 1
  · rw [h0, ← sum_two]
    obtain rfl | rfl : g = 0 ∨ g = 1 := by omega
    · simp only [addUnit, add_at, mul_at, trunc_at, mm_1024_128_512, mm_64_512_512, mm_128_512_512, mm_1024_512_128, maskE_1024, slice0, slice512,
        slabHit (g := 0) (off := ![0, 0, 0]) (ho := rfl), slabSkip (g := 0) (g' := 1) (hg := by decide) (off := ![1, 0, 0]) (ho := rfl), slabSkip (g := 1) (g' := 0) (hg := by decide) (off := ![0, 0, 0]) (ho := rfl), fill3, castZero, fillZero,
        rdSlab_f32 (g := 0) (off := ![0, 0, 0]) (ho := rfl), rdSlab_bf16 (g := 0) (off := ![0, 0, 0]) (ho := rfl), rdCov (g := 0) (off := ![0, 0, 0]) (ho := rfl), rdOne (g := 0) (off := ![0, 0, 0, 0]) (ho := rfl),
        rdRow_bf16 (g := 0) (ho := off1_eq i), rdRow_f32 (g := 0) (ho := off1_eq i), rdTile64 (g := 0) (ho := off3_eq0 i), rdTile64 (g := 0) (ho := off3_eq1 i), rdTile128 (g := 0) (ho := off4_eq0 i), rdTile128 (g := 0) (ho := off4_eq1 i), Memref.IsWhole.read_unread]
      simp only [Dm, Em, Eu, sc, add_assoc, zero_add, Nat.zero_add, Nat.mul_add, Nat.mul_one, Nat.add_assoc, Nat.add_le_add_iff_left]
    · simp only [addUnit, add_at, mul_at, trunc_at, mm_1024_128_512, mm_64_512_512, mm_128_512_512, mm_1024_512_128, maskE_1024, slice0, slice512,
        slabHit (g := 1) (off := ![1, 0, 0]) (ho := rfl), slabSkip (g := 0) (g' := 1) (hg := by decide) (off := ![1, 0, 0]) (ho := rfl), slabSkip (g := 1) (g' := 0) (hg := by decide) (off := ![0, 0, 0]) (ho := rfl), fill3, castZero, fillZero,
        rdSlab_f32 (g := 1) (off := ![1, 0, 0]) (ho := rfl), rdSlab_bf16 (g := 1) (off := ![1, 0, 0]) (ho := rfl), rdCov (g := 1) (off := ![1, 0, 0]) (ho := rfl), rdOne (g := 1) (off := ![1, 0, 0, 0]) (ho := rfl),
        rdRow_bf16 (g := 1) (ho := off2_eq i), rdRow_f32 (g := 1) (ho := off2_eq i), rdTile64 (g := 1) (ho := off5_eq0 i), rdTile64 (g := 1) (ho := off5_eq1 i), rdTile128 (g := 1) (ho := off6_eq0 i), rdTile128 (g := 1) (ho := off6_eq1 i), Memref.IsWhole.read_unread]
      simp only [Dm, Em, Eu, sc, add_assoc, zero_add, Nat.zero_add, Nat.mul_add, Nat.mul_one, Nat.add_assoc, Nat.add_le_add_iff_left]
  · refine Finset.sum_congr rfl fun n hn => ?_
    have hn' := (Finset.mem_Ico.mp hn).1
    simp only [Dm, Em, Du]
    rw [if_pos (by omega)]

/-- The value gradient's block. -/
theorem dv_Odd (hpar : (7 - (i 1).val) % 2 = 1) (g : Fin 2) (d : Fin 64) (q : Fin 512) :
    (runOdd c i h1 h2 h3 arg2 harg2 arg3 harg3 arg4 harg4 arg5 harg5 arg6 harg6 arg7 harg7 arg8 harg8 arg9 harg9 arg10 harg10 arg11 harg11 arg12 harg12 arg13 harg13 x2 x3 x4 x5 x6 x7 x8 x9).2.2.1 (ix2 ⟨64 * g.val + d.val, by omega⟩ q)
      = ∑ n ∈ Finset.Ico (512 * (i 1).val) 4096, (col4 x5 g ⟨d.val, by omega⟩ n * Em x2 x7 (512 * (i 1).val) g n q : EReal) := by
  have hi : (i 1).val < 8 := (i 1).isLt
  have h0 : row0 i 0 = 512 * (i 1).val + 1024 := by unfold row0; omega
  unfold runOdd
  dsimp only
  sl_unfold_run_names
  unfold_payloads
  refine (fin_dv c i arg2 harg2 arg3 harg3 arg4 harg4 arg5 harg5 arg6 harg6 arg7 harg7 arg8 harg8 arg9 harg9 arg10 harg10 arg11 harg11 arg12 harg12 arg13 harg13 (harg2.unread x2) (harg3.unread x3) (harg4.unread x4) (harg5.unread x5) (harg6.unread x6) (harg7.unread x7) (harg8.unread x8) _ _ _ _ _ _ rfl _ _ _ _ _ _ _ _ g d q).trans ?_
  simp only [Memref.IsWhole.read_unread]
  rw [← Finset.sum_Ico_consecutive _ (show 512 * (i 1).val ≤ row0 i 0 by omega) (show row0 i 0 ≤ 4096 by omega)]
  congr 1
  · rw [h0, ← sum_two]
    obtain rfl | rfl : g = 0 ∨ g = 1 := by omega
    · simp only [addUnit, add_at, mul_at, trunc_at, mm_1024_128_512, mm_64_512_512, mm_128_512_512, mm_1024_512_128, maskE_1024, slice0, slice512,
        slabHit (g := 0) (off := ![0, 0, 0]) (ho := rfl), slabSkip (g := 0) (g' := 1) (hg := by decide) (off := ![1, 0, 0]) (ho := rfl), slabSkip (g := 1) (g' := 0) (hg := by decide) (off := ![0, 0, 0]) (ho := rfl), fill3, castZero, fillZero,
        rdSlab_f32 (g := 0) (off := ![0, 0, 0]) (ho := rfl), rdSlab_bf16 (g := 0) (off := ![0, 0, 0]) (ho := rfl), rdCov (g := 0) (off := ![0, 0, 0]) (ho := rfl), rdOne (g := 0) (off := ![0, 0, 0, 0]) (ho := rfl),
        rdRow_bf16 (g := 0) (ho := off1_eq i), rdRow_f32 (g := 0) (ho := off1_eq i), rdTile64 (g := 0) (ho := off3_eq0 i), rdTile64 (g := 0) (ho := off3_eq1 i), rdTile128 (g := 0) (ho := off4_eq0 i), rdTile128 (g := 0) (ho := off4_eq1 i), Memref.IsWhole.read_unread]
      simp only [Em, Eu, sc, add_assoc, zero_add, Nat.zero_add, Nat.mul_add, Nat.mul_one, Nat.add_assoc, Nat.add_le_add_iff_left]
    · simp only [addUnit, add_at, mul_at, trunc_at, mm_1024_128_512, mm_64_512_512, mm_128_512_512, mm_1024_512_128, maskE_1024, slice0, slice512,
        slabHit (g := 1) (off := ![1, 0, 0]) (ho := rfl), slabSkip (g := 0) (g' := 1) (hg := by decide) (off := ![1, 0, 0]) (ho := rfl), slabSkip (g := 1) (g' := 0) (hg := by decide) (off := ![0, 0, 0]) (ho := rfl), fill3, castZero, fillZero,
        rdSlab_f32 (g := 1) (off := ![1, 0, 0]) (ho := rfl), rdSlab_bf16 (g := 1) (off := ![1, 0, 0]) (ho := rfl), rdCov (g := 1) (off := ![1, 0, 0]) (ho := rfl), rdOne (g := 1) (off := ![1, 0, 0, 0]) (ho := rfl),
        rdRow_bf16 (g := 1) (ho := off2_eq i), rdRow_f32 (g := 1) (ho := off2_eq i), rdTile64 (g := 1) (ho := off5_eq0 i), rdTile64 (g := 1) (ho := off5_eq1 i), rdTile128 (g := 1) (ho := off6_eq0 i), rdTile128 (g := 1) (ho := off6_eq1 i), Memref.IsWhole.read_unread]
      simp only [Em, Eu, sc, add_assoc, zero_add, Nat.zero_add, Nat.mul_add, Nat.mul_one, Nat.add_assoc, Nat.add_le_add_iff_left]
  · refine Finset.sum_congr rfl fun n hn => ?_
    have hn' := (Finset.mem_Ico.mp hn).1
    simp only [Em]
    rw [if_pos (by omega)]

/-- The query gradient's block. -/
theorem dq_Odd (hpar : (7 - (i 1).val) % 2 = 1) (g : Fin 2) (r : Fin 4096) (d : Fin 128) :
    (runOdd c i h1 h2 h3 arg2 harg2 arg3 harg3 arg4 harg4 arg5 harg5 arg6 harg6 arg7 harg7 arg8 harg8 arg9 harg9 arg10 harg10 arg11 harg11 arg12 harg12 arg13 harg13 x2 x3 x4 x5 x6 x7 x8 x9).1 (ix3 g r d)
      = (x9 (ix3 g r d) : EReal) + if 512 * (i 1).val ≤ r.val then ∑ q : Fin 512, Dm x2 x3 x7 x8 (512 * (i 1).val) g r.val q * x6 (ix3 g q d) else 0 := by
  have hi : (i 1).val < 8 := (i 1).isLt
  have h0 : row0 i 0 = 512 * (i 1).val + 1024 := by unfold row0; omega
  unfold runOdd
  dsimp only
  sl_unfold_run_names
  unfold_payloads
  refine (fin_dq c i arg2 harg2 arg3 harg3 arg4 harg4 arg5 harg5 arg6 harg6 arg7 harg7 arg8 harg8 arg9 harg9 arg10 harg10 arg11 harg11 arg12 harg12 arg13 harg13 (harg2.unread x2) (harg3.unread x3) (harg4.unread x4) (harg5.unread x5) (harg6.unread x6) (harg7.unread x7) (harg8.unread x8) _ _ _ _ _ _ rfl g r d).trans ?_
  simp only [Memref.IsWhole.read_unread]
  have e : 512 * (i 1).val ≤ r.val → 512 * (i 1).val + (r.val - 512 * (i 1).val) = r.val := by omega
  have hx : 512 * (i 1).val ≤ r.val → ∀ x : Fin 512, (x.val ≤ r.val - 512 * (i 1).val) = (512 * (i 1).val + x.val ≤ r.val) := fun h x => propext (by omega)
  have hu : row0 i 0 ≤ r.val → ∀ q : Fin 512, Du x2 x3 x7 x8 g r.val q = Dm x2 x3 x7 x8 (512 * (i 1).val) g r.val q := fun h q => by
    simp only [Du, Dm, Em]
    rw [if_pos (by omega)]
  obtain rfl | rfl : g = 0 ∨ g = 1 := by omega
  · by_cases hlo : 512 * (i 1).val ≤ r.val
    · by_cases hhi : r.val < 512 * (i 1).val + 1024
      · rw [if_neg (show ¬ row0 i 0 ≤ r.val by omega), if_pos hlo]
        refine (congrArg (· + (0 : EReal)) ((rowSkip _ _ 0 1 _ _ (off2_eq i) _ _ _ _ _ (Or.inl (by decide))).trans
          (rowHit _ _ 0 _ _ (off1_eq i) _ _ _ _ _ hlo (by omega)))).trans ?_
        simp only [addUnit, add_at, mul_at, trunc_at, mm_1024_128_512, mm_64_512_512, mm_128_512_512, mm_1024_512_128, maskE_1024, slice0, slice512,
          slabHit (g := 0) (off := ![0, 0, 0]) (ho := rfl), slabSkip (g := 0) (g' := 1) (hg := by decide) (off := ![1, 0, 0]) (ho := rfl), slabSkip (g := 1) (g' := 0) (hg := by decide) (off := ![0, 0, 0]) (ho := rfl), fill3, castZero, fillZero,
          rdSlab_f32 (g := 0) (off := ![0, 0, 0]) (ho := rfl), rdSlab_bf16 (g := 0) (off := ![0, 0, 0]) (ho := rfl), rdCov (g := 0) (off := ![0, 0, 0]) (ho := rfl), rdOne (g := 0) (off := ![0, 0, 0, 0]) (ho := rfl),
          rdRow_bf16 (g := 0) (ho := off1_eq i), rdRow_f32 (g := 0) (ho := off1_eq i), rdTile64 (g := 0) (ho := off3_eq0 i), rdTile64 (g := 0) (ho := off3_eq1 i), rdTile128 (g := 0) (ho := off4_eq0 i), rdTile128 (g := 0) (ho := off4_eq1 i), Memref.IsWhole.read_unread]
        rw [add_zero, e hlo]
        simp only [hx hlo, row3_of, View.writes_nil, Memref.IsWhole.read_unread]
        simp only [Dm, Em, Eu, sc, row3_of]
      · rw [if_pos (show row0 i 0 ≤ r.val by omega), if_pos hlo]
        refine (congrArg (· + _) ((rowSkip _ _ 0 1 _ _ (off2_eq i) _ _ _ _ _ (Or.inl (by decide))).trans (rowSkip _ _ 0 0 _ _ (off1_eq i) _ _ _ _ _ (Or.inr (Or.inr (by omega)))))).trans ?_
        simp only [hu (show row0 i 0 ≤ r.val by omega), View.writes_nil, Memref.IsWhole.read_unread]
    · rw [if_neg (show ¬ row0 i 0 ≤ r.val by omega), if_neg hlo]
      refine (congrArg (· + (0 : EReal)) ((rowSkip _ _ 0 1 _ _ (off2_eq i) _ _ _ _ _ (Or.inl (by decide))).trans (rowSkip _ _ 0 0 _ _ (off1_eq i) _ _ _ _ _ (Or.inr (Or.inl (by omega)))))).trans ?_
      simp only [View.writes_nil, Memref.IsWhole.read_unread]
  · by_cases hlo : 512 * (i 1).val ≤ r.val
    · by_cases hhi : r.val < 512 * (i 1).val + 1024
      · rw [if_neg (show ¬ row0 i 0 ≤ r.val by omega), if_pos hlo]
        refine (congrArg (· + (0 : EReal)) (rowHit _ _ 1 _ _ (off2_eq i) _ _ _ _ _ hlo (by omega))).trans ?_
        simp only [addUnit, add_at, mul_at, trunc_at, mm_1024_128_512, mm_64_512_512, mm_128_512_512, mm_1024_512_128, maskE_1024, slice0, slice512,
          slabHit (g := 1) (off := ![1, 0, 0]) (ho := rfl), slabSkip (g := 0) (g' := 1) (hg := by decide) (off := ![1, 0, 0]) (ho := rfl), slabSkip (g := 1) (g' := 0) (hg := by decide) (off := ![0, 0, 0]) (ho := rfl), fill3, castZero, fillZero,
          rdSlab_f32 (g := 1) (off := ![1, 0, 0]) (ho := rfl), rdSlab_bf16 (g := 1) (off := ![1, 0, 0]) (ho := rfl), rdCov (g := 1) (off := ![1, 0, 0]) (ho := rfl), rdOne (g := 1) (off := ![1, 0, 0, 0]) (ho := rfl),
          rdRow_bf16 (g := 1) (ho := off2_eq i), rdRow_f32 (g := 1) (ho := off2_eq i), rdTile64 (g := 1) (ho := off5_eq0 i), rdTile64 (g := 1) (ho := off5_eq1 i), rdTile128 (g := 1) (ho := off6_eq0 i), rdTile128 (g := 1) (ho := off6_eq1 i), Memref.IsWhole.read_unread]
        rw [add_zero, e hlo]
        simp only [hx hlo, row3_of, rowSkip (g := 1) (g' := 0) (ho := off1_eq i) (h := Or.inl (by decide)), View.writes_nil, Memref.IsWhole.read_unread]
        simp only [Dm, Em, Eu, sc, row3_of]
      · rw [if_pos (show row0 i 0 ≤ r.val by omega), if_pos hlo]
        refine (congrArg (· + _) ((rowSkip _ _ 1 1 _ _ (off2_eq i) _ _ _ _ _ (Or.inr (Or.inr (by omega)))).trans (rowSkip _ _ 1 0 _ _ (off1_eq i) _ _ _ _ _ (Or.inl (by decide))))).trans ?_
        simp only [hu (show row0 i 0 ≤ r.val by omega), View.writes_nil, Memref.IsWhole.read_unread]
    · rw [if_neg (show ¬ row0 i 0 ≤ r.val by omega), if_neg hlo]
      refine (congrArg (· + (0 : EReal)) ((rowSkip _ _ 1 1 _ _ (off2_eq i) _ _ _ _ _ (Or.inr (Or.inl (by omega)))).trans (rowSkip _ _ 1 0 _ _ (off1_eq i) _ _ _ _ _ (Or.inl (by decide))))).trans ?_
      simp only [View.writes_nil, Memref.IsWhole.read_unread]

end Odd

end Cert.KernelIdeal.Hand
-- ==== Proof.Arrays.lean ====
/- What the region leaves in its three result arrays, at an index, from what its seven operand arrays hold. -/
module

public import proofs.«01_k».proof.Proof.BodyValue
public import proofs.«01_k».proof.Proof.Run
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

open Idealize.SL Idealize.SL.RA Idealize.SL.BI Idealize.SL.Sem
open Idealize.ShloMosaic.Pipeline (Dat Cfg Window)

variable (m : (ℓ : Loc nD τ sig) → Buf (Elt Ideal) ℓ) (c : Dev nD)

theorem coord0 : ∀ t : Fin cfg0.N, (grid0.coords t 0).val = t.val / 8 := by decide +kernel
theorem points : ∀ t : Fin cfg0.N, t.val < 64 := by decide +kernel

theorem point_dk (t : Fin cfg0.N) (x9 : Vec Ideal S2x4096x128 .f32) (g : Fin 2) (d : Fin 128) (q : Fin 512) :
    (point m c t x9).2.1 (ix3 g d q) = ∑ n ∈ Finset.Ico (512 * (t.val % 8)) 4096, (col4 (iblk m c 2 t) g d n * Dm (iblk m c 0 t) (iblk m c 1 t) (iblk m c 5 t) (iblk m c 6 t) (512 * (t.val % 8)) g n q : EReal) := by
  by_cases h : t.val % 8 = 0
  · rw [point_first m c t x9 h]
    refine (dk_First c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ (by rw [coord1]; omega) _ _ _).trans ?_
    rw [coord1]
  · by_cases h2 : t.val % 8 % 2 = 0
    · rw [point_odd m c t x9 h h2]
      refine (dk_Odd c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ x9 (by rw [coord1]; omega) _ _ _).trans ?_
      rw [coord1]
    · rw [point_even m c t x9 h h2]
      refine (dk_Even c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ x9 (by rw [coord1]; omega) _ _ _).trans ?_
      rw [coord1]

theorem point_dv (t : Fin cfg0.N) (x9 : Vec Ideal S2x4096x128 .f32) (g : Fin 2) (d : Fin 64) (q : Fin 512) :
    (point m c t x9).2.2 (ix2 ⟨64 * g.val + d.val, by omega⟩ q) = ∑ n ∈ Finset.Ico (512 * (t.val % 8)) 4096, (col4 (iblk m c 3 t) g ⟨d.val, by omega⟩ n * Em (iblk m c 0 t) (iblk m c 5 t) (512 * (t.val % 8)) g n q : EReal) := by
  by_cases h : t.val % 8 = 0
  · rw [point_first m c t x9 h]
    refine (dv_First c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ (by rw [coord1]; omega) _ _ _).trans ?_
    rw [coord1]
  · by_cases h2 : t.val % 8 % 2 = 0
    · rw [point_odd m c t x9 h h2]
      refine (dv_Odd c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ x9 (by rw [coord1]; omega) _ _ _).trans ?_
      rw [coord1]
    · rw [point_even m c t x9 h h2]
      refine (dv_Even c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ x9 (by rw [coord1]; omega) _ _ _).trans ?_
      rw [coord1]

theorem point_dq (t : Fin cfg0.N) (x9 : Vec Ideal S2x4096x128 .f32) (g : Fin 2) (r : Fin 4096) (d : Fin 128) :
    (point m c t x9).1 (ix3 g r d) = (if t.val % 8 = 0 then (0 : EReal) else x9 (ix3 g r d)) + if 512 * (t.val % 8) ≤ r.val then ∑ q : Fin 512, Dm (iblk m c 0 t) (iblk m c 1 t) (iblk m c 5 t) (iblk m c 6 t) (512 * (t.val % 8)) g r.val q * (iblk m c 4 t) (ix3 g q d) else 0 := by
  by_cases h : t.val % 8 = 0
  · rw [point_first m c t x9 h]
    refine (dq_First c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ (by rw [coord1]; omega) _ _ _).trans ?_
    rw [coord1, if_pos h]
  · by_cases h2 : t.val % 8 % 2 = 0
    · rw [point_odd m c t x9 h h2]
      refine (dq_Odd c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ x9 (by rw [coord1]; omega) _ _ _).trans ?_
      rw [coord1, if_neg h]
    · rw [point_even m c t x9 h h2]
      refine (dq_Even c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ x9 (by rw [coord1]; omega) _ _ _).trans ?_
      rw [coord1, if_neg h]

theorem iblk0 (t : Fin cfg0.N) (g : Fin 2) (n : Fin 4096) (d : Fin 128) :
    iblk m c 0 t (ix3 g n d) = (V m c main_v62 : S16x4096x128.Idx → EReal) (ix3 ⟨2 * (t.val / 8) + g.val, by have := points t; omega⟩ n d) := by
  have ht := points t
  unfold iblk
  refine congrArg (V m c main_v62 : S16x4096x128.Idx → EReal) (funext fun a => Fin.ext ?_)
  match a with
  | ⟨0, _⟩ =>
    refine (Pipeline.Window.rect_emb_val (cfg0.win 0) t (ix3 g n d) ⟨0, by decide⟩).trans ?_
    show (BitVec.ofNat 32 (grid0.coords t 0).val).toNat * 2 + g.val = 2 * (t.val / 8) + g.val
    rw [coord0, BitVec.toNat_ofNat, Nat.mod_eq_of_lt (by omega)]
    omega
  | ⟨1, _⟩ =>
    refine (Pipeline.Window.rect_emb_val (cfg0.win 0) t (ix3 g n d) ⟨1, by decide⟩).trans ?_
    show (0#32 : BitVec 32).toNat * 4096 + n.val = n.val
    exact (congrArg (· + n.val) (Nat.zero_mul _)).trans (Nat.zero_add _)
  | ⟨2, _⟩ =>
    refine (Pipeline.Window.rect_emb_val (cfg0.win 0) t (ix3 g n d) ⟨2, by decide⟩).trans ?_
    show (0#32 : BitVec 32).toNat * 128 + d.val = d.val
    exact (congrArg (· + d.val) (Nat.zero_mul _)).trans (Nat.zero_add _)

theorem iblk1 (t : Fin cfg0.N) (g : Fin 2) (n : Fin 4096) (d : Fin 128) :
    iblk m c 1 t (ix3 g n d) = (V m c main_v89 : S16x4096x128.Idx → EReal) (ix3 ⟨2 * (t.val / 8) + g.val, by have := points t; omega⟩ n d) := by
  have ht := points t
  unfold iblk
  refine congrArg (V m c main_v89 : S16x4096x128.Idx → EReal) (funext fun a => Fin.ext ?_)
  match a with
  | ⟨0, _⟩ =>
    refine (Pipeline.Window.rect_emb_val (cfg0.win 1) t (ix3 g n d) ⟨0, by decide⟩).trans ?_
    show (BitVec.ofNat 32 (grid0.coords t 0).val).toNat * 2 + g.val = 2 * (t.val / 8) + g.val
    rw [coord0, BitVec.toNat_ofNat, Nat.mod_eq_of_lt (by omega)]
    omega
  | ⟨1, _⟩ =>
    refine (Pipeline.Window.rect_emb_val (cfg0.win 1) t (ix3 g n d) ⟨1, by decide⟩).trans ?_
    show (0#32 : BitVec 32).toNat * 4096 + n.val = n.val
    exact (congrArg (· + n.val) (Nat.zero_mul _)).trans (Nat.zero_add _)
  | ⟨2, _⟩ =>
    refine (Pipeline.Window.rect_emb_val (cfg0.win 1) t (ix3 g n d) ⟨2, by decide⟩).trans ?_
    show (0#32 : BitVec 32).toNat * 128 + d.val = d.val
    exact (congrArg (· + d.val) (Nat.zero_mul _)).trans (Nat.zero_add _)

theorem iblk2 (t : Fin cfg0.N) (g : Fin 2) (k : Fin 8) (d : Fin 128) (q : Fin 512) :
    iblk m c 2 t (ix4 g k d q) = (V m c main_v91 : S16x8x128x512.Idx → EReal) (ix4 ⟨2 * (t.val / 8) + g.val, (by have := points t; omega)⟩ k d q) := by
  have ht := points t
  unfold iblk
  refine congrArg (V m c main_v91 : S16x8x128x512.Idx → EReal) (funext fun a => Fin.ext ?_)
  match a with
  | ⟨0, _⟩ =>
    refine (Pipeline.Window.rect_emb_val (cfg0.win 2) t (ix4 g k d q) ⟨0, by decide⟩).trans ?_
    show (BitVec.ofNat 32 (grid0.coords t 0).val).toNat * 2 + g.val = 2 * (t.val / 8) + g.val
    rw [coord0, BitVec.toNat_ofNat, Nat.mod_eq_of_lt (by omega)]
    omega
  | ⟨1, _⟩ =>
    refine (Pipeline.Window.rect_emb_val (cfg0.win 2) t (ix4 g k d q) ⟨1, by decide⟩).trans ?_
    show (0#32 : BitVec 32).toNat * 8 + k.val = k.val
    exact (congrArg (· + k.val) (Nat.zero_mul _)).trans (Nat.zero_add _)
  | ⟨2, _⟩ =>
    refine (Pipeline.Window.rect_emb_val (cfg0.win 2) t (ix4 g k d q) ⟨2, by decide⟩).trans ?_
    show (0#32 : BitVec 32).toNat * 128 + d.val = d.val
    exact (congrArg (· + d.val) (Nat.zero_mul _)).trans (Nat.zero_add _)
  | ⟨3, _⟩ =>
    refine (Pipeline.Window.rect_emb_val (cfg0.win 2) t (ix4 g k d q) ⟨3, by decide⟩).trans ?_
    show (0#32 : BitVec 32).toNat * 512 + q.val = q.val
    exact (congrArg (· + q.val) (Nat.zero_mul _)).trans (Nat.zero_add _)

theorem iblk3 (t : Fin cfg0.N) (g : Fin 2) (k : Fin 8) (d : Fin 128) (q : Fin 512) :
    iblk m c 3 t (ix4 g k d q) = (V m c main_v93 : S16x8x128x512.Idx → EReal) (ix4 ⟨2 * (t.val / 8) + g.val, (by have := points t; omega)⟩ k d q) := by
  have ht := points t
  unfold iblk
  refine congrArg (V m c main_v93 : S16x8x128x512.Idx → EReal) (funext fun a => Fin.ext ?_)
  match a with
  | ⟨0, _⟩ =>
    refine (Pipeline.Window.rect_emb_val (cfg0.win 3) t (ix4 g k d q) ⟨0, by decide⟩).trans ?_
    show (BitVec.ofNat 32 (grid0.coords t 0).val).toNat * 2 + g.val = 2 * (t.val / 8) + g.val
    rw [coord0, BitVec.toNat_ofNat, Nat.mod_eq_of_lt (by omega)]
    omega
  | ⟨1, _⟩ =>
    refine (Pipeline.Window.rect_emb_val (cfg0.win 3) t (ix4 g k d q) ⟨1, by decide⟩).trans ?_
    show (0#32 : BitVec 32).toNat * 8 + k.val = k.val
    exact (congrArg (· + k.val) (Nat.zero_mul _)).trans (Nat.zero_add _)
  | ⟨2, _⟩ =>
    refine (Pipeline.Window.rect_emb_val (cfg0.win 3) t (ix4 g k d q) ⟨2, by decide⟩).trans ?_
    show (0#32 : BitVec 32).toNat * 128 + d.val = d.val
    exact (congrArg (· + d.val) (Nat.zero_mul _)).trans (Nat.zero_add _)
  | ⟨3, _⟩ =>
    refine (Pipeline.Window.rect_emb_val (cfg0.win 3) t (ix4 g k d q) ⟨3, by decide⟩).trans ?_
    show (0#32 : BitVec 32).toNat * 512 + q.val = q.val
    exact (congrArg (· + q.val) (Nat.zero_mul _)).trans (Nat.zero_add _)

theorem iblk4 (t : Fin cfg0.N) (g : Fin 2) (q : Fin 512) (d : Fin 128) :
    iblk m c 4 t (ix3 g q d) = (V m c main_v77 : S16x4096x128.Idx → EReal) (ix3 ⟨2 * (t.val / 8) + g.val, by have := points t; omega⟩ ⟨512 * (t.val % 8) + q.val, by omega⟩ d) := by
  have ht := points t
  unfold iblk
  refine congrArg (V m c main_v77 : S16x4096x128.Idx → EReal) (funext fun a => Fin.ext ?_)
  match a with
  | ⟨0, _⟩ =>
    refine (Pipeline.Window.rect_emb_val (cfg0.win 4) t (ix3 g q d) ⟨0, by decide⟩).trans ?_
    show (BitVec.ofNat 32 (grid0.coords t 0).val).toNat * 2 + g.val = 2 * (t.val / 8) + g.val
    rw [coord0, BitVec.toNat_ofNat, Nat.mod_eq_of_lt (by omega)]
    omega
  | ⟨1, _⟩ =>
    refine (Pipeline.Window.rect_emb_val (cfg0.win 4) t (ix3 g q d) ⟨1, by decide⟩).trans ?_
    show (BitVec.ofNat 32 (grid0.coords t 1).val).toNat * 512 + q.val = 512 * (t.val % 8) + q.val
    rw [coord1, BitVec.toNat_ofNat, Nat.mod_eq_of_lt (by omega)]
    omega
  | ⟨2, _⟩ =>
    refine (Pipeline.Window.rect_emb_val (cfg0.win 4) t (ix3 g q d) ⟨2, by decide⟩).trans ?_
    show (0#32 : BitVec 32).toNat * 128 + d.val = d.val
    exact (congrArg (· + d.val) (Nat.zero_mul _)).trans (Nat.zero_add _)

theorem iblk5 (t : Fin cfg0.N) (g : Fin 2) (k : Fin 1) (d : Fin 128) (q : Fin 512) :
    iblk m c 5 t (ix4 g k d q) = (V m c main_v95 : S16x8x128x512.Idx → EReal) (ix4 ⟨2 * (t.val / 8) + g.val, by have := points t; omega⟩ ⟨t.val % 8, by omega⟩ d q) := by
  have ht := points t
  unfold iblk
  refine congrArg (V m c main_v95 : S16x8x128x512.Idx → EReal) (funext fun a => Fin.ext ?_)
  match a with
  | ⟨0, _⟩ =>
    refine (Pipeline.Window.rect_emb_val (cfg0.win 5) t (ix4 g k d q) ⟨0, by decide⟩).trans ?_
    show (BitVec.ofNat 32 (grid0.coords t 0).val).toNat * 2 + g.val = 2 * (t.val / 8) + g.val
    rw [coord0, BitVec.toNat_ofNat, Nat.mod_eq_of_lt (by omega)]
    omega
  | ⟨1, _⟩ =>
    refine (Pipeline.Window.rect_emb_val (cfg0.win 5) t (ix4 g k d q) ⟨1, by decide⟩).trans ?_
    show (BitVec.ofNat 32 (grid0.coords t 1).val).toNat * 1 + k.val = t.val % 8
    rw [coord1, BitVec.toNat_ofNat, Nat.mod_eq_of_lt (by omega)]
    omega
  | ⟨2, _⟩ =>
    refine (Pipeline.Window.rect_emb_val (cfg0.win 5) t (ix4 g k d q) ⟨2, by decide⟩).trans ?_
    show (0#32 : BitVec 32).toNat * 128 + d.val = d.val
    exact (congrArg (· + d.val) (Nat.zero_mul _)).trans (Nat.zero_add _)
  | ⟨3, _⟩ =>
    refine (Pipeline.Window.rect_emb_val (cfg0.win 5) t (ix4 g k d q) ⟨3, by decide⟩).trans ?_
    show (0#32 : BitVec 32).toNat * 512 + q.val = q.val
    exact (congrArg (· + q.val) (Nat.zero_mul _)).trans (Nat.zero_add _)

theorem iblk6 (t : Fin cfg0.N) (g : Fin 2) (k : Fin 1) (d : Fin 128) (q : Fin 512) :
    iblk m c 6 t (ix4 g k d q) = (V m c main_v97 : S16x8x128x512.Idx → EReal) (ix4 ⟨2 * (t.val / 8) + g.val, by have := points t; omega⟩ ⟨t.val % 8, by omega⟩ d q) := by
  have ht := points t
  unfold iblk
  refine congrArg (V m c main_v97 : S16x8x128x512.Idx → EReal) (funext fun a => Fin.ext ?_)
  match a with
  | ⟨0, _⟩ =>
    refine (Pipeline.Window.rect_emb_val (cfg0.win 6) t (ix4 g k d q) ⟨0, by decide⟩).trans ?_
    show (BitVec.ofNat 32 (grid0.coords t 0).val).toNat * 2 + g.val = 2 * (t.val / 8) + g.val
    rw [coord0, BitVec.toNat_ofNat, Nat.mod_eq_of_lt (by omega)]
    omega
  | ⟨1, _⟩ =>
    refine (Pipeline.Window.rect_emb_val (cfg0.win 6) t (ix4 g k d q) ⟨1, by decide⟩).trans ?_
    show (BitVec.ofNat 32 (grid0.coords t 1).val).toNat * 1 + k.val = t.val % 8
    rw [coord1, BitVec.toNat_ofNat, Nat.mod_eq_of_lt (by omega)]
    omega
  | ⟨2, _⟩ =>
    refine (Pipeline.Window.rect_emb_val (cfg0.win 6) t (ix4 g k d q) ⟨2, by decide⟩).trans ?_
    show (0#32 : BitVec 32).toNat * 128 + d.val = d.val
    exact (congrArg (· + d.val) (Nat.zero_mul _)).trans (Nat.zero_add _)
  | ⟨3, _⟩ =>
    refine (Pipeline.Window.rect_emb_val (cfg0.win 6) t (ix4 g k d q) ⟨3, by decide⟩).trans ?_
    show (0#32 : BitVec 32).toNat * 512 + q.val = q.val
    exact (congrArg (· + q.val) (Nat.zero_mul _)).trans (Nat.zero_add _)

end Cert.KernelIdeal.Hand
-- ==== Proof.ArraysOut.lean ====
/- The region's three result arrays after the run, from what its operand arrays hold. -/
module

public import proofs.«01_k».proof.Proof.Arrays

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

open Idealize.SL Idealize.SL.RA Idealize.SL.BI Idealize.SL.Sem
open Idealize.ShloMosaic.Pipeline (Dat Cfg Window)

variable (QA DOA KA VA : Fin 16 → Fin 4096 → Fin 128 → EReal)

/-- The masked exponential of a query row against a key row. -/
def EE (hd : Fin 16) (n s : Fin 4096) : EReal := if s.val ≤ n.val then Ideal.exp (∑ d, QA hd n d * KA hd s d) else 0
/-- The gradient of the score of a query row against a key row. -/
def DD (hd : Fin 16) (n s : Fin 4096) : EReal := EE QA KA hd n s * ∑ d, DOA hd n d * VA hd s d
def gDk (hd : Fin 16) (d : Fin 128) (s : Fin 4096) : EReal := ∑ n, QA hd n d * DD QA DOA KA VA hd n s
def gDv (hd : Fin 16) (d : Fin 64) (s : Fin 4096) : EReal := ∑ n, DOA hd n ⟨d.val, by omega⟩ * EE QA KA hd n s
def gDq (hd : Fin 16) (n : Fin 4096) (d : Fin 128) : EReal := ∑ s, DD QA DOA KA VA hd n s * KA hd s d

variable (m : (ℓ : Loc nD τ sig) → Buf (Elt Ideal) ℓ) (c : Dev nD)

/-- What the seven operand arrays hold: four arrays of rows, three of them also laid out by tiles of columns, and one
    by tiles of columns only. -/
structure Operands : Prop where
  h62 : ∀ hd n d, (V m c main_v62 : S16x4096x128.Idx → EReal) (ix3 hd n d) = QA hd n d
  h89 : ∀ hd n d, (V m c main_v89 : S16x4096x128.Idx → EReal) (ix3 hd n d) = DOA hd n d
  h91 : ∀ (hd : Fin 16) (k : Fin 8) (d : Fin 128) (q : Fin 512), (V m c main_v91 : S16x8x128x512.Idx → EReal) (ix4 hd k d q) = QA hd ⟨512 * k.val + q.val, by omega⟩ d
  h93 : ∀ (hd : Fin 16) (k : Fin 8) (d : Fin 128) (q : Fin 512), (V m c main_v93 : S16x8x128x512.Idx → EReal) (ix4 hd k d q) = DOA hd ⟨512 * k.val + q.val, by omega⟩ d
  h77 : ∀ hd n d, (V m c main_v77 : S16x4096x128.Idx → EReal) (ix3 hd n d) = KA hd n d
  h95 : ∀ (hd : Fin 16) (k : Fin 8) (d : Fin 128) (q : Fin 512), (V m c main_v95 : S16x8x128x512.Idx → EReal) (ix4 hd k d q) = KA hd ⟨512 * k.val + q.val, by omega⟩ d
  h97 : ∀ (hd : Fin 16) (k : Fin 8) (d : Fin 128) (q : Fin 512), (V m c main_v97 : S16x8x128x512.Idx → EReal) (ix4 hd k d q) = VA hd ⟨512 * k.val + q.val, by omega⟩ d

variable {m c QA DOA KA VA} (H : Operands QA DOA KA VA m c)
include H

/-- The head and the key of the whole arrays that a block's head and key are. -/
abbrev hdOf (t : Fin cfg0.N) (g : Fin 2) : Fin 16 := ⟨2 * (t.val / 8) + g.val, by have := points t; omega⟩
abbrev keyOf (t : Fin cfg0.N) (q : Fin 512) : Fin 4096 := ⟨512 * (t.val % 8) + q.val, by omega⟩

theorem b0 (t : Fin cfg0.N) (g : Fin 2) (n : Fin 4096) (d : Fin 128) : row3 (iblk m c 0 t) g n.val d = QA (hdOf t g) n d :=
  (row3_of _ g n d).trans ((iblk0 m c t g n d).trans (H.h62 _ _ _))
theorem b1 (t : Fin cfg0.N) (g : Fin 2) (n : Fin 4096) (d : Fin 128) : row3 (iblk m c 1 t) g n.val d = DOA (hdOf t g) n d :=
  (row3_of _ g n d).trans ((iblk1 m c t g n d).trans (H.h89 _ _ _))
theorem b2 (t : Fin cfg0.N) (g : Fin 2) (n : Fin 4096) (d : Fin 128) : col4 (iblk m c 2 t) g d n.val = QA (hdOf t g) n d := by
  refine (dif_pos n.isLt).trans ((iblk2 m c t g _ d _).trans ((H.h91 _ _ _ _).trans ?_))
  exact congrArg (fun z => QA (hdOf t g) z d) (Fin.ext (Nat.div_add_mod n.val 512))
theorem b3 (t : Fin cfg0.N) (g : Fin 2) (n : Fin 4096) (d : Fin 128) : col4 (iblk m c 3 t) g d n.val = DOA (hdOf t g) n d := by
  refine (dif_pos n.isLt).trans ((iblk3 m c t g _ d _).trans ((H.h93 _ _ _ _).trans ?_))
  exact congrArg (fun z => DOA (hdOf t g) z d) (Fin.ext (Nat.div_add_mod n.val 512))
theorem b4 (t : Fin cfg0.N) (g : Fin 2) (q : Fin 512) (d : Fin 128) : (iblk m c 4 t) (ix3 g q d) = KA (hdOf t g) (keyOf t q) d :=
  (iblk4 m c t g q d).trans (H.h77 _ _ _)
theorem b5 (t : Fin cfg0.N) (g : Fin 2) (q : Fin 512) (d : Fin 128) : (iblk m c 5 t) (ix4 g 0 d q) = KA (hdOf t g) (keyOf t q) d :=
  (iblk5 m c t g 0 d q).trans (H.h95 _ _ _ _)
theorem b6 (t : Fin cfg0.N) (g : Fin 2) (q : Fin 512) (d : Fin 128) : (iblk m c 6 t) (ix4 g 0 d q) = VA (hdOf t g) (keyOf t q) d :=
  (iblk6 m c t g 0 d q).trans (H.h97 _ _ _ _)

theorem Em_eq (t : Fin cfg0.N) (g : Fin 2) (n : Fin 4096) (q : Fin 512) :
    Em (iblk m c 0 t) (iblk m c 5 t) (512 * (t.val % 8)) g n.val q = EE QA KA (hdOf t g) n (keyOf t q) := by
  simp only [Em, Eu, sc, EE, b0 H, b5 H]

theorem Dm_eq (t : Fin cfg0.N) (g : Fin 2) (n : Fin 4096) (q : Fin 512) :
    Dm (iblk m c 0 t) (iblk m c 1 t) (iblk m c 5 t) (iblk m c 6 t) (512 * (t.val % 8)) g n.val q = DD QA DOA KA VA (hdOf t g) n (keyOf t q) := by
  simp only [Dm, DD, Em_eq H, sc, b1 H, b6 H]

omit H in
/-- A sum from a row on, of terms that vanish before it, is the sum over all rows. -/
theorem sum_Ico_all (φ : ℕ → EReal) (ψ : Fin 4096 → EReal) (K : ℕ) (hK : K ≤ 4096) (h : ∀ n : Fin 4096, φ n.val = ψ n) (h0 : ∀ n < K, φ n = 0) :
    (∑ n ∈ Finset.Ico K 4096, φ n) = ∑ n, ψ n := by
  have e : (∑ n ∈ Finset.range 4096, φ n) = ∑ n, ψ n := (Finset.sum_range φ).trans (Finset.sum_congr rfl fun n _ => h n)
  rw [← e, ← Finset.sum_range_add_sum_Ico φ hK, Finset.sum_eq_zero fun n hn => h0 n (Finset.mem_range.mp hn), zero_add]

theorem blk_dk (t : Fin cfg0.N) (x9 : Vec Ideal S2x4096x128 .f32) (g : Fin 2) (d : Fin 128) (q : Fin 512) :
    (point m c t x9).2.1 (ix3 g d q) = gDk QA DOA KA VA (hdOf t g) d (keyOf t q) := by
  refine (point_dk m c t x9 g d q).trans (sum_Ico_all _ _ _ (by omega) (fun n => ?_) fun n hn => ?_)
  · rw [b2 H, Dm_eq H]
  · rw [Dm, Em, if_neg (by omega), zero_mul, mul_zero]

theorem blk_dv (t : Fin cfg0.N) (x9 : Vec Ideal S2x4096x128 .f32) (g : Fin 2) (d : Fin 64) (q : Fin 512) :
    (point m c t x9).2.2 (ix2 ⟨64 * g.val + d.val, by omega⟩ q) = gDv QA DOA KA (hdOf t g) d (keyOf t q) := by
  refine (point_dv m c t x9 g d q).trans (sum_Ico_all _ _ _ (by omega) (fun n => ?_) fun n hn => ?_)
  · rw [b3 H, Em_eq H]
  · rw [Em, if_neg (by omega), mul_zero]

/-- One key's share of a query row's gradient. -/
def psi (QA DOA KA VA : Fin 16 → Fin 4096 → Fin 128 → EReal) (hd : Fin 16) (r : Fin 4096) (d : Fin 128) (s : ℕ) : EReal :=
  if h : s < 4096 then DD QA DOA KA VA hd r ⟨s, h⟩ * KA hd ⟨s, h⟩ d else 0

theorem tile_dq (t : Fin cfg0.N) (g : Fin 2) (r : Fin 4096) (d : Fin 128) :
    (if 512 * (t.val % 8) ≤ r.val then ∑ q : Fin 512, Dm (iblk m c 0 t) (iblk m c 1 t) (iblk m c 5 t) (iblk m c 6 t) (512 * (t.val % 8)) g r.val q * (iblk m c 4 t) (ix3 g q d) else 0)
      = ∑ s ∈ Finset.Ico (512 * (t.val % 8)) (512 * (t.val % 8) + 512), psi QA DOA KA VA (hdOf t g) r d s := by
  rw [← sum_one]
  have e : ∀ q : Fin 512, psi QA DOA KA VA (hdOf t g) r d (512 * (t.val % 8) + q.val) = DD QA DOA KA VA (hdOf t g) r (keyOf t q) * KA (hdOf t g) (keyOf t q) d :=
    fun q => dif_pos (by omega)
  simp only [e, Dm_eq H, b4 H]
  split
  · rfl
  · refine (Finset.sum_eq_zero fun q _ => ?_).symm
    rw [DD, EE, if_neg (show ¬ 512 * (t.val % 8) + q.val ≤ r.val by omega), zero_mul, zero_mul]

theorem blk_dq (k : ℕ) (hk : k < 8) : ∀ (t : Fin cfg0.N) (ht : t.val % 8 = k) (g : Fin 2) (r : Fin 4096) (d : Fin 128),
    (point m c t (prior m c t.val)).1 (ix3 g r d) = ∑ s ∈ Finset.range (512 * (k + 1)), psi QA DOA KA VA (hdOf t g) r d s := by
  induction k with
  | zero =>
    intro t ht g r d
    rw [point_dq, tile_dq H, if_pos ht, zero_add, ht, Finset.range_eq_Ico]
  | succ k ih =>
    intro t ht g r d
    have hp := points t
    have hv : t.val = (t.val - 1) + 1 := by omega
    rw [point_dq, tile_dq H, if_neg (by omega), hv, prior_succ m c ⟨t.val - 1, by omega⟩,
      ih (by omega) ⟨t.val - 1, by omega⟩ (by show (t.val - 1) % 8 = k; omega) g r d]
    have hh : hdOf ⟨t.val - 1, by omega⟩ g = hdOf t g := Fin.ext (by show 2 * ((t.val - 1) / 8) + g.val = 2 * (t.val / 8) + g.val; omega)
    rw [hh, ← hv, ht, Finset.range_eq_Ico, Finset.sum_Ico_consecutive _ (by omega) (by omega), Finset.range_eq_Ico]
    rfl

theorem last_dq (t : Fin cfg0.N) (ht : t.val % 8 = 7) (g : Fin 2) (r : Fin 4096) (d : Fin 128) :
    (point m c t (prior m c t.val)).1 (ix3 g r d) = gDq QA DOA KA VA (hdOf t g) r d := by
  refine (blk_dq H 7 (by omega) t ht g r d).trans ((Finset.sum_range _).trans (Finset.sum_congr rfl fun s _ => ?_))
  exact dif_pos s.isLt

omit H in
theorem emb7 (t : Fin cfg0.N) (g : Fin 2) (n : Fin 4096) (d : Fin 128) : ((cfg0.win 7).blk t).view.emb (ix3 g n d) = (ix3 (hdOf t g) n d : S16x4096x128.Idx) := by
  have ht := points t
  refine funext fun x => Fin.ext ?_
  match x with
  | ⟨0, _⟩ =>
    refine (Pipeline.Window.rect_emb_val (cfg0.win 7) t (ix3 g n d) ⟨0, by decide⟩).trans ?_
    show (BitVec.ofNat 32 (grid0.coords t 0).val).toNat * 2 + g.val = 2 * (t.val / 8) + g.val
    rw [coord0, BitVec.toNat_ofNat, Nat.mod_eq_of_lt (by omega)]
    omega
  | ⟨1, _⟩ =>
    refine (Pipeline.Window.rect_emb_val (cfg0.win 7) t (ix3 g n d) ⟨1, by decide⟩).trans ?_
    show (0#32 : BitVec 32).toNat * 4096 + n.val = n.val
    exact (congrArg (· + n.val) (Nat.zero_mul _)).trans (Nat.zero_add _)
  | ⟨2, _⟩ =>
    refine (Pipeline.Window.rect_emb_val (cfg0.win 7) t (ix3 g n d) ⟨2, by decide⟩).trans ?_
    show (0#32 : BitVec 32).toNat * 128 + d.val = d.val
    exact (congrArg (· + d.val) (Nat.zero_mul _)).trans (Nat.zero_add _)

omit H in
theorem emb8 (t : Fin cfg0.N) (g : Fin 2) (d : Fin 128) (q : Fin 512) : ((cfg0.win 8).blk t).view.emb (ix3 g d q) = (ix3 (hdOf t g) d (keyOf t q) : S16x128x4096.Idx) := by
  have ht := points t
  refine funext fun x => Fin.ext ?_
  match x with
  | ⟨0, _⟩ =>
    refine (Pipeline.Window.rect_emb_val (cfg0.win 8) t (ix3 g d q) ⟨0, by decide⟩).trans ?_
    show (BitVec.ofNat 32 (grid0.coords t 0).val).toNat * 2 + g.val = 2 * (t.val / 8) + g.val
    rw [coord0, BitVec.toNat_ofNat, Nat.mod_eq_of_lt (by omega)]
    omega
  | ⟨1, _⟩ =>
    refine (Pipeline.Window.rect_emb_val (cfg0.win 8) t (ix3 g d q) ⟨1, by decide⟩).trans ?_
    show (0#32 : BitVec 32).toNat * 128 + d.val = d.val
    exact (congrArg (· + d.val) (Nat.zero_mul _)).trans (Nat.zero_add _)
  | ⟨2, _⟩ =>
    refine (Pipeline.Window.rect_emb_val (cfg0.win 8) t (ix3 g d q) ⟨2, by decide⟩).trans ?_
    show (BitVec.ofNat 32 (grid0.coords t 1).val).toNat * 512 + q.val = 512 * (t.val % 8) + q.val
    rw [coord1, BitVec.toNat_ofNat, Nat.mod_eq_of_lt (by omega)]
    omega

omit H in
theorem emb9 (t : Fin cfg0.N) (a : Fin 128) (q : Fin 512) : ((cfg0.win 9).blk t).view.emb (ix2 a q) = (ix2 ⟨128 * (t.val / 8) + a.val, by have := points t; omega⟩ (keyOf t q) : S1024x4096.Idx) := by
  have ht := points t
  refine funext fun x => Fin.ext ?_
  match x with
  | ⟨0, _⟩ =>
    refine (Pipeline.Window.rect_emb_val (cfg0.win 9) t (ix2 a q) ⟨0, by decide⟩).trans ?_
    show (BitVec.ofNat 32 (grid0.coords t 0).val).toNat * 128 + a.val = 128 * (t.val / 8) + a.val
    rw [coord0, BitVec.toNat_ofNat, Nat.mod_eq_of_lt (by omega)]
    omega
  | ⟨1, _⟩ =>
    refine (Pipeline.Window.rect_emb_val (cfg0.win 9) t (ix2 a q) ⟨1, by decide⟩).trans ?_
    show (BitVec.ofNat 32 (grid0.coords t 1).val).toNat * 512 + q.val = 512 * (t.val % 8) + q.val
    rw [coord1, BitVec.toNat_ofNat, Nat.mod_eq_of_lt (by omega)]
    omega

theorem arr_dq (hd : Fin 16) (n : Fin 4096) (d : Fin 128) :
    ((dats m 0 c).arrAt 7 cfg0.N : S16x4096x128.Idx → EReal) (ix3 hd n d) = gDq QA DOA KA VA hd n d := by
  have h : (dats m 0 c).arrAt 7 cfg0.N = (fun i : S16x4096x128.Idx => gDq QA DOA KA VA (i 0) (i 1) (i 2)) := by
    refine (dats m 0 c).arrAt_eq_of_covers 7 _ (by decide +kernel) fun t hf y => ?_
    refine (congrFun (after0_7 m c t) _).trans ?_
    obtain ⟨g, r, d, rfl⟩ : ∃ (g : Fin 2) (r : Fin 4096) (d : Fin 128), y = ix3 g r d := ⟨y 0, y 1, y 2, funext fun x => by match x with | ⟨0, _⟩ => rfl | ⟨1, _⟩ => rfl | ⟨2, _⟩ => rfl⟩
    rw [emb7]
    exact last_dq H t ((flush0_7 t).1 hf) g r d
  rw [h]
  rfl

theorem arr_dk (hd : Fin 16) (d : Fin 128) (s : Fin 4096) :
    ((dats m 0 c).arrAt 8 cfg0.N : S16x128x4096.Idx → EReal) (ix3 hd d s) = gDk QA DOA KA VA hd d s := by
  have h : (dats m 0 c).arrAt 8 cfg0.N = (fun i : S16x128x4096.Idx => gDk QA DOA KA VA (i 0) (i 1) (i 2)) := by
    refine (dats m 0 c).arrAt_eq_of_covers 8 _ (by decide +kernel) fun t hf y => ?_
    refine (congrFun (after0_8 m c t) _).trans ?_
    obtain ⟨g, d, q, rfl⟩ : ∃ (g : Fin 2) (d : Fin 128) (q : Fin 512), y = ix3 g d q := ⟨y 0, y 1, y 2, funext fun x => by match x with | ⟨0, _⟩ => rfl | ⟨1, _⟩ => rfl | ⟨2, _⟩ => rfl⟩
    rw [emb8]
    exact blk_dk H t _ g d q
  rw [h]
  rfl

theorem arr_dv (hd : Fin 16) (d : Fin 64) (s : Fin 4096) :
    ((dats m 0 c).arrAt 9 cfg0.N : S1024x4096.Idx → EReal) (ix2 ⟨64 * hd.val + d.val, by omega⟩ s) = gDv QA DOA KA hd d s := by
  have h : (dats m 0 c).arrAt 9 cfg0.N = (fun i : S1024x4096.Idx => gDv QA DOA KA ⟨(i 0).val / 64, by have : (i 0).val < 1024 := (i 0).isLt; omega⟩ ⟨(i 0).val % 64, by omega⟩ (i 1)) := by
    refine (dats m 0 c).arrAt_eq_of_covers 9 _ (by decide +kernel) fun t hf y => ?_
    refine (congrFun (after0_9 m c t) _).trans ?_
    obtain ⟨a, q, rfl⟩ : ∃ (a : Fin 128) (q : Fin 512), y = ix2 a q := ⟨y 0, y 1, funext fun x => by match x with | ⟨0, _⟩ => rfl | ⟨1, _⟩ => rfl⟩
    rw [emb9]
    obtain ⟨g, d, rfl⟩ : ∃ (g : Fin 2) (d : Fin 64), a = ⟨64 * g.val + d.val, by omega⟩ :=
      ⟨⟨a.val / 64, by omega⟩, ⟨a.val % 64, by omega⟩, Fin.ext (by show a.val = 64 * (a.val / 64) + a.val % 64; omega)⟩
    refine (blk_dv H t _ g d q).trans ?_
    have ht := points t
    refine congr (congrArg₂ (gDv QA DOA KA) (Fin.ext ?_) (Fin.ext ?_)) rfl
    · show 2 * (t.val / 8) + g.val = (128 * (t.val / 8) + (64 * g.val + d.val)) / 64
      omega
    · show d.val = (128 * (t.val / 8) + (64 * g.val + d.val)) % 64
      omega
  rw [h]
  refine congr (congrArg₂ (gDv QA DOA KA) (Fin.ext ?_) (Fin.ext ?_)) rfl
  · show (64 * hd.val + d.val) / 64 = hd.val
    omega
  · show (64 * hd.val + d.val) % 64 = d.val
    omega

end Cert.KernelIdeal.Hand
-- ==== Proof.Values.lean ====
/- The kernel's three arrays hold the gradients: the packed operands are put in the arrays' sums. -/
module

public import proofs.«01_k».proof.Proof.Columns
public import proofs.«01_k».proof.Proof.StageValue
public import proofs.«01_k».proof.Proof.ArraysOut

@[expose] public section

set_option maxRecDepth 16384

noncomputable section

namespace Cert.KernelIdeal.Hand

open Cert.KernelIdeal Cert.KernelIdeal.Gen Cert.Spec
open Idealize.ShloMosaic Idealize.ShloMosaic.TcCoe

section Operand

variable (m : (ℓ : Loc nD τ sig) → Buf (Elt Ideal) ℓ) (c : Dev nD)

/-- The launch's operands are the packed arrays. -/
theorem operands : Operands
    (pQ (m ((c : Thread nD τ).loc main_arg0)) (m ((c : Thread nD τ).loc main_arg1)) (m ((c : Thread nD τ).loc main_arg3)))
    (pC (m ((c : Thread nD τ).loc main_arg0)) (m ((c : Thread nD τ).loc main_arg1)) (m ((c : Thread nD τ).loc main_arg2))
      (m ((c : Thread nD τ).loc main_arg4)) (m ((c : Thread nD τ).loc main_arg3)))
    (pK (m ((c : Thread nD τ).loc main_arg1)) (m ((c : Thread nD τ).loc main_arg3)))
    (pV (m ((c : Thread nD τ).loc main_arg2))) m c where
  h62 hd n d := congrFun (V_v62 m c) _
  h89 hd n d := congrFun (V_v89 m c) _
  h77 hd n d := congrFun (V_v77 m c) _
  h91 hd k d q := by
    refine (congrFun (V_v91 m c) _).trans ?_
    unfold st_v91 st_v90
    exact blocks _ hd k d q
  h93 hd k d q := by
    refine (congrFun (V_v93 m c) _).trans ?_
    unfold st_v93 st_v92
    exact blocks _ hd k d q
  h95 hd k d q := by
    refine (congrFun (V_v95 m c) _).trans ?_
    unfold st_v95 st_v94
    exact blocks _ hd k d q
  h97 hd k d q := by
    refine (congrFun (V_v97 m c) _).trans ?_
    unfold st_v97 st_v96
    exact blocks _ hd k d q

end Operand

section Sums

variable {q k v : Fin 16 → Fin 4096 → Fin 64 → ℝ} {c : Fin 16 → Fin 4096 → ℝ} {ct : Fin 16 → Fin 4096 → Fin 64 → ℝ}
variable {x0 x1 x2 x4 : (⟨S16x4096x64, .f32⟩ : BufTy).Contents (Elt Ideal)} {x3 : (⟨S16x4096, .f32⟩ : BufTy).Contents (Elt Ideal)}
variable (h0 : ∀ i : S16x4096x64.Idx, x0 i = ((q (i 0) (i 1) (i 2) : ℝ) : EReal))
  (h1 : ∀ i : S16x4096x64.Idx, x1 i = ((k (i 0) (i 1) (i 2) : ℝ) : EReal))
  (h2 : ∀ i : S16x4096x64.Idx, x2 i = ((v (i 0) (i 1) (i 2) : ℝ) : EReal))
  (h3 : ∀ i : S16x4096.Idx, x3 i = ((c (i 0) (i 1) : ℝ) : EReal))
  (h4 : ∀ i : S16x4096x64.Idx, x4 i = ((ct (i 0) (i 1) (i 2) : ℝ) : EReal))
include h0 h1 h3

/-- The kernel's exponential is the attention's weight. -/
theorem EE_real (h : Fin 16) (n s : Fin 4096) :
    EE (pQ x0 x1 x3) (pK x1 x3) h n s = ((prob q k c h n s : ℝ) : EReal) := by
  obtain ⟨M, hM⟩ := shift h0 h1 h3
  have hL := s25 h0 h1 h3 hM
  unfold EE
  rw [prod_qk (L := fun a b => M a b + Real.log (tot q k c M a b)) h0 h1 h3 hL, ← exp_lse q k c M h n s]
  by_cases hs : s.val ≤ n.val
  · rw [if_pos hs, if_pos hs]
    exact Ideal.exp_coe _
  · rw [if_neg hs, if_neg hs]
    rfl

include h2 h4

/-- The weight times its centred cotangent is the logit's cotangent. -/
theorem DD_real (h : Fin 16) (n s : Fin 4096) :
    DD (pQ x0 x1 x3) (pC x0 x1 x2 x4 x3) (pK x1 x3) (pV x2) h n s = ((dlog q k v c ct h n s : ℝ) : EReal) := by
  obtain ⟨M, hM⟩ := shift h0 h1 h3
  have hD := s41 h0 h1 h2 h3 h4 hM
  unfold DD
  rw [EE_real h0 h1 h3, prod_cv (D := dlt q k v c ct) h2 h4 hD, ← EReal.coe_mul]
  rfl

theorem gDq_lo (h : Fin 16) (n : Fin 4096) (d : Fin 64) :
    gDq (pQ x0 x1 x3) (pC x0 x1 x2 x4 x3) (pK x1 x3) (pV x2) h n ⟨d.val, by omega⟩ * Ideal.ofBits .f32 0x3E000000#32
      = ((gradQ q k v c ct h n d : ℝ) : EReal) := by
  have e : gDq (pQ x0 x1 x3) (pC x0 x1 x2 x4 x3) (pK x1 x3) (pV x2) h n ⟨d.val, by omega⟩
      = ((∑ s, dlog q k v c ct h n s * k h s d : ℝ) : EReal) := by
    unfold gDq
    rw [coe_sum]
    refine Finset.sum_congr rfl fun s _ => ?_
    rw [DD_real h0 h1 h2 h3 h4, k_lo h1, ← EReal.coe_mul]
  rw [e, ofBits_eighth, ← EReal.coe_mul]
  refine congrArg _ ?_
  unfold gradQ
  rw [Finset.sum_mul]
  exact Finset.sum_congr rfl fun s _ => by ring

theorem gDq_64 (h : Fin 16) (n : Fin 4096) :
    gDq (pQ x0 x1 x3) (pC x0 x1 x2 x4 x3) (pK x1 x3) (pV x2) h n ⟨64, by decide⟩
      = ((∑ s, dlog q k v c ct h n s : ℝ) : EReal) := by
  unfold gDq
  rw [coe_sum]
  refine Finset.sum_congr rfl fun s _ => ?_
  rw [DD_real h0 h1 h2 h3 h4, k64, mul_one]

theorem gDk_lo (h : Fin 16) (s : Fin 4096) (d : Fin 64) :
    gDk (pQ x0 x1 x3) (pC x0 x1 x2 x4 x3) (pK x1 x3) (pV x2) h ⟨d.val, by omega⟩ s
      = ((gradK q k v c ct h s d : ℝ) : EReal) := by
  unfold gDk gradK
  rw [coe_sum]
  refine Finset.sum_congr rfl fun n _ => ?_
  rw [DD_real h0 h1 h2 h3 h4, q_lo h0, ← EReal.coe_mul]
  exact congrArg _ (by ring)

theorem gDk_67 (h : Fin 16) (s : Fin 4096) :
    gDk (pQ x0 x1 x3) (pC x0 x1 x2 x4 x3) (pK x1 x3) (pV x2) h ⟨67, by decide⟩ s
      = ((∑ n, dlog q k v c ct h n s : ℝ) : EReal) := by
  unfold gDk
  rw [coe_sum]
  refine Finset.sum_congr rfl fun n _ => ?_
  rw [DD_real h0 h1 h2 h3 h4, q67, one_mul]

theorem gDv_real (h : Fin 16) (s : Fin 4096) (d : Fin 64) :
    gDv (pQ x0 x1 x3) (pC x0 x1 x2 x4 x3) (pK x1 x3) h d s = ((gradV q k c ct h s d : ℝ) : EReal) := by
  unfold gDv gradV
  rw [coe_sum]
  refine Finset.sum_congr rfl fun n _ => ?_
  rw [EE_real h0 h1 h3, t_lo h4, ← EReal.coe_mul]

theorem gDc_real (h : Fin 16) (n : Fin 4096) :
    gDq (pQ x0 x1 x3) (pC x0 x1 x2 x4 x3) (pK x1 x3) (pV x2) h n ⟨64, by decide⟩
        - gDk (pQ x0 x1 x3) (pC x0 x1 x2 x4 x3) (pK x1 x3) (pV x2) h ⟨67, by decide⟩ n
      = ((gradC q k v c ct h n : ℝ) : EReal) := by
  rw [gDq_64 h0 h1 h2 h3 h4, gDk_67 h0 h1 h2 h3 h4, ← EReal.coe_sub]
  rfl

end Sums

end Cert.KernelIdeal.Hand

end
-- ==== Proof.Tail.lean ====
/- The host operations after the kernel's region, at an index of each result. -/
module

public import proofs.«01_k».proof.Proof.Values
public import Idealize.ShloMosaic.Lib.StableHlo.RunRead

@[expose] public section

set_option maxRecDepth 65536

noncomputable section

namespace Cert.KernelIdeal.Hand

open Cert.KernelIdeal Cert.KernelIdeal.Gen Cert.Spec
open Idealize.ShloMosaic Idealize.ShloMosaic.TcCoe
open Idealize.SL Idealize.SL.Sem

section Layout

variable (w0 : S16x4096x128.Idx → EReal) (w1 : S16x128x4096.Idx → EReal) (w2 : S1024x4096.Idx → EReal)

theorem lay_q (i : S16x4096x64.Idx) :
    mulf (F := Ideal) (φ := .f32) (extractStridedSlice S16x4096x64 ![0, 0, 0] w0 slices_S16x4096x128_S16x4096x64_0_0_0)
        (broadcastInDim S16x4096x64 ![] bcast_S_S16x4096x64 (constant (F := Ideal) S_ .f32 0x3E000000#32)) i
      = w0 (Idealize.ShloMosaic.ix3 (i 0) (i 1) ⟨(i 2).val, (i 2).isLt.trans (by decide)⟩) * Ideal.ofBits .f32 0x3E000000#32 := by
  show extractStridedSlice S16x4096x64 ![0, 0, 0] w0 slices_S16x4096x128_S16x4096x64_0_0_0 i * Ideal.ofBits .f32 0x3E000000#32 = _
  refine congrArg (· * _) (extractStridedSlice_apply _ _ _ _ _ (fun a => ?_))
  match a with
  | ⟨0, _⟩ => exact (Nat.zero_add _).symm
  | ⟨1, _⟩ => exact (Nat.zero_add _).symm
  | ⟨2, _⟩ => exact (Nat.zero_add _).symm

theorem lay_k (i : S16x4096x64.Idx) :
    transpose S16x4096x64 [0, 2, 1] (extractStridedSlice S16x64x4096 ![0, 0, 0] w1 slices_S16x128x4096_S16x64x4096_0_0_0)
        transposes_S16x64x4096_S16x4096x64_0_2_1 i
      = w1 (Idealize.ShloMosaic.ix3 (i 0) ⟨(i 2).val, (i 2).isLt.trans (by decide)⟩ (i 1)) := by
  refine (transpose_apply _ _ _ _ (Idealize.ShloMosaic.ix3 (i 0) (i 2) (i 1)) (fun b => ?_)).trans ?_
  · match b with
    | ⟨0, _⟩ => rfl
    | ⟨1, _⟩ => rfl
    | ⟨2, _⟩ => rfl
  · refine extractStridedSlice_apply _ _ _ _ _ (fun a => ?_)
    match a with
    | ⟨0, _⟩ => exact (Nat.zero_add _).symm
    | ⟨1, _⟩ => exact (Nat.zero_add _).symm
    | ⟨2, _⟩ => exact (Nat.zero_add _).symm

theorem lay_v (i : S16x4096x64.Idx) :
    extf (F := Ideal) (φ := .bf16) .f32 (transpose S16x4096x64 [0, 2, 1] (shapeCast S16x64x4096 w2 shapeCasts_S1024x4096_S16x64x4096)
        transposes_S16x64x4096_S16x4096x64_0_2_1) bitsLt_bf16_f32 i
      = w2 (ix2 ⟨64 * (i 0).val + (i 2).val, by have h0 : (i 0).val < 16 := (i 0).isLt; have h2 : (i 2).val < 64 := (i 2).isLt; omega⟩ (i 1)) := by
  refine Eq.trans (b := transpose S16x4096x64 [0, 2, 1] (shapeCast S16x64x4096 w2 shapeCasts_S1024x4096_S16x64x4096)
        transposes_S16x64x4096_S16x4096x64_0_2_1 i) rfl ?_
  refine (transpose_apply _ _ _ _ (Idealize.ShloMosaic.ix3 (i 0) (i 2) (i 1)) (fun b => ?_)).trans ?_
  · match b with
    | ⟨0, _⟩ => rfl
    | ⟨1, _⟩ => rfl
    | ⟨2, _⟩ => rfl
  · refine shapeCast_apply _ _ _ _ ?_
    refine (Shape.rowMajor_val_two _).trans (Eq.trans ?_ (Shape.rowMajor_val_three _).symm)
    show (64 * (i 0).val + (i 2).val) * 4096 + (i 1).val = ((i 0).val * 64 + (i 2).val) * 4096 + (i 1).val
    omega

theorem lay_c (i : S16x4096.Idx) :
    subf (F := Ideal) (φ := .f32)
        (shapeCast S16x4096 (extractStridedSlice S16x4096x1 ![0, 0, 64] w0 slices_S16x4096x128_S16x4096x1_0_0_64) shapeCasts_S16x4096x1_S16x4096)
        (shapeCast S16x4096 (extractStridedSlice S16x1x4096 ![0, 67, 0] w1 slices_S16x128x4096_S16x1x4096_0_67_0) shapeCasts_S16x1x4096_S16x4096) i
      = w0 (Idealize.ShloMosaic.ix3 (i 0) (i 1) ⟨64, by decide⟩) - w1 (Idealize.ShloMosaic.ix3 (i 0) ⟨67, by decide⟩ (i 1)) := by
  refine (sub_at _ _ i).trans (congr (congrArg _ ?_) ?_)
  · refine (shapeCast_apply _ _ _ (Idealize.ShloMosaic.ix3 (i 0) (i 1) 0) ?_).trans ?_
    · refine (Shape.rowMajor_val_three _).trans (Eq.trans ?_ (Shape.rowMajor_val_two _).symm)
      show ((i 0).val * 4096 + (i 1).val) * 1 + 0 = (i 0).val * 4096 + (i 1).val
      omega
    · refine extractStridedSlice_apply _ _ _ _ _ (fun a => ?_)
      match a with
      | ⟨0, _⟩ => exact (Nat.zero_add _).symm
      | ⟨1, _⟩ => exact (Nat.zero_add _).symm
      | ⟨2, _⟩ => rfl
  · refine (shapeCast_apply _ _ _ (Idealize.ShloMosaic.ix3 (i 0) 0 (i 1)) ?_).trans ?_
    · refine (Shape.rowMajor_val_three _).trans (Eq.trans ?_ (Shape.rowMajor_val_two _).symm)
      show ((i 0).val * 1 + 0) * 4096 + (i 1).val = (i 0).val * 4096 + (i 1).val
      omega
    · refine extractStridedSlice_apply _ _ _ _ _ (fun a => ?_)
      match a with
      | ⟨0, _⟩ => exact (Nat.zero_add _).symm
      | ⟨1, _⟩ => rfl
      | ⟨2, _⟩ => exact (Nat.zero_add _).symm

end Layout

section After

variable (W : Valuation τ sig (Elt Ideal))

theorem after_q : (StableHlo.after hostOps1 W (Proc.devRef .tc main_v101) : S16x4096x64.Idx → EReal)
    = mulf (F := Ideal) (φ := .f32) (extractStridedSlice S16x4096x64 ![0, 0, 0] (W (Proc.devRef .tc main_v98_0) : S16x4096x128.Idx → EReal) slices_S16x4096x128_S16x4096x64_0_0_0)
        (broadcastInDim S16x4096x64 ![] bcast_S_S16x4096x64 (constant (F := Ideal) S_ .f32 0x3E000000#32)) := by
  after_reads_simp

theorem after_k : (StableHlo.after hostOps1 W (Proc.devRef .tc main_v103) : S16x4096x64.Idx → EReal)
    = transpose S16x4096x64 [0, 2, 1] (extractStridedSlice S16x64x4096 ![0, 0, 0] (W (Proc.devRef .tc main_v98_1) : S16x128x4096.Idx → EReal) slices_S16x128x4096_S16x64x4096_0_0_0)
        transposes_S16x64x4096_S16x4096x64_0_2_1 := by
  after_reads_simp

theorem after_v : (StableHlo.after hostOps1 W (Proc.devRef .tc main_v106) : S16x4096x64.Idx → EReal)
    = extf (F := Ideal) (φ := .bf16) .f32 (transpose S16x4096x64 [0, 2, 1] (shapeCast S16x64x4096 (W (Proc.devRef .tc main_v98_2) : S1024x4096.Idx → EReal) shapeCasts_S1024x4096_S16x64x4096)
        transposes_S16x64x4096_S16x4096x64_0_2_1) bitsLt_bf16_f32 := by
  after_reads_simp
  rfl

theorem after_c : (StableHlo.after hostOps1 W (Proc.devRef .tc main_v111) : S16x4096.Idx → EReal)
    = subf (F := Ideal) (φ := .f32)
        (shapeCast S16x4096 (extractStridedSlice S16x4096x1 ![0, 0, 64] (W (Proc.devRef .tc main_v98_0) : S16x4096x128.Idx → EReal) slices_S16x4096x128_S16x4096x1_0_0_64) shapeCasts_S16x4096x1_S16x4096)
        (shapeCast S16x4096 (extractStridedSlice S16x1x4096 ![0, 67, 0] (W (Proc.devRef .tc main_v98_1) : S16x128x4096.Idx → EReal) slices_S16x128x4096_S16x1x4096_0_67_0) shapeCasts_S16x1x4096_S16x4096) := by
  after_reads_simp
  rfl

end After

section Results

variable (m : (ℓ : Loc nD τ sig) → Buf (Elt Ideal) ℓ) (c : Dev nD)

theorem arr_inj : Function.Injective (Pipeline.arrRef spec0) :=
  (by decide : ∀ w w', Pipeline.arrRef spec0 w = Pipeline.arrRef spec0 w' → w = w')

variable {m c}
variable {q k v : Fin 16 → Fin 4096 → Fin 64 → ℝ} {f : Fin 16 → Fin 4096 → ℝ} {ct : Fin 16 → Fin 4096 → Fin 64 → ℝ}
variable (h0 : ∀ i : S16x4096x64.Idx, (m ((c : Thread nD τ).loc main_arg0) : S16x4096x64.Idx → EReal) i = ((q (i 0) (i 1) (i 2) : ℝ) : EReal))
  (h1 : ∀ i : S16x4096x64.Idx, (m ((c : Thread nD τ).loc main_arg1) : S16x4096x64.Idx → EReal) i = ((k (i 0) (i 1) (i 2) : ℝ) : EReal))
  (h2 : ∀ i : S16x4096x64.Idx, (m ((c : Thread nD τ).loc main_arg2) : S16x4096x64.Idx → EReal) i = ((v (i 0) (i 1) (i 2) : ℝ) : EReal))
  (h3 : ∀ i : S16x4096.Idx, (m ((c : Thread nD τ).loc main_arg3) : S16x4096.Idx → EReal) i = ((f (i 0) (i 1) : ℝ) : EReal))
  (h4 : ∀ i : S16x4096x64.Idx, (m ((c : Thread nD τ).loc main_arg4) : S16x4096x64.Idx → EReal) i = ((ct (i 0) (i 1) (i 2) : ℝ) : EReal))
include h0 h1 h2 h3 h4

/-- The kernel's query gradient. -/
theorem out_q (i : S16x4096x64.Idx) :
    (Pipeline.afterTail₀ cfgs (dats m) 0 (V0 m) [hostOps1] c main_v101 : S16x4096x64.Idx → EReal) i
      = ((gradQ q k v f ct (i 0) (i 1) (i 2) : ℝ) : EReal) := by
  unfold Pipeline.afterTail₀
  simp only [List.flatten_cons, List.flatten_nil, List.append_nil]
  refine (congrFun (after_q _) i).trans ((lay_q _ i).trans ?_)
  refine (congrArg (· * Ideal.ofBits .f32 0x3E000000#32) ?_).trans (gDq_lo h0 h1 h2 h3 h4 (i 0) (i 1) (i 2))
  exact (congrFun (Pipeline.withArrays_arr spec0 arr_inj c (V0 m c) (fun w => (dats m 0 c).arrAt w cfg0.N) 7) _).trans
    (arr_dq (operands m c) _ _ _)

/-- The kernel's key gradient. -/
theorem out_k (i : S16x4096x64.Idx) :
    (Pipeline.afterTail₀ cfgs (dats m) 0 (V0 m) [hostOps1] c main_v103 : S16x4096x64.Idx → EReal) i
      = ((gradK q k v f ct (i 0) (i 1) (i 2) : ℝ) : EReal) := by
  unfold Pipeline.afterTail₀
  simp only [List.flatten_cons, List.flatten_nil, List.append_nil]
  refine (congrFun (after_k _) i).trans ((lay_k _ i).trans ?_)
  refine Eq.trans ?_ (gDk_lo h0 h1 h2 h3 h4 (i 0) (i 1) (i 2))
  exact (congrFun (Pipeline.withArrays_arr spec0 arr_inj c (V0 m c) (fun w => (dats m 0 c).arrAt w cfg0.N) 8) _).trans
    (arr_dk (operands m c) _ _ _)

/-- The kernel's value gradient. -/
theorem out_v (i : S16x4096x64.Idx) :
    (Pipeline.afterTail₀ cfgs (dats m) 0 (V0 m) [hostOps1] c main_v106 : S16x4096x64.Idx → EReal) i
      = ((gradV q k f ct (i 0) (i 1) (i 2) : ℝ) : EReal) := by
  unfold Pipeline.afterTail₀
  simp only [List.flatten_cons, List.flatten_nil, List.append_nil]
  refine (congrFun (after_v _) i).trans ((lay_v _ i).trans ?_)
  refine Eq.trans ?_ (gDv_real h0 h1 h2 h3 h4 (i 0) (i 1) (i 2))
  exact (congrFun (Pipeline.withArrays_arr spec0 arr_inj c (V0 m c) (fun w => (dats m 0 c).arrAt w cfg0.N) 9) _).trans
    (arr_dv (operands m c) (i 0) (i 2) (i 1))

/-- The kernel's gradient of the forget sums. -/
theorem out_c (i : S16x4096.Idx) :
    (Pipeline.afterTail₀ cfgs (dats m) 0 (V0 m) [hostOps1] c main_v111 : S16x4096.Idx → EReal) i
      = ((gradC q k v f ct (i 0) (i 1) : ℝ) : EReal) := by
  unfold Pipeline.afterTail₀
  simp only [List.flatten_cons, List.flatten_nil, List.append_nil]
  refine (congrFun (after_c _) i).trans ((lay_c _ _ i).trans ?_)
  refine Eq.trans (congr (congrArg _ ?_) ?_) (gDc_real h0 h1 h2 h3 h4 (i 0) (i 1))
  · exact (congrFun (Pipeline.withArrays_arr spec0 arr_inj c (V0 m c) (fun w => (dats m 0 c).arrAt w cfg0.N) 7) _).trans
      (arr_dq (operands m c) _ _ _)
  · exact (congrFun (Pipeline.withArrays_arr spec0 arr_inj c (V0 m c) (fun w => (dats m 0 c).arrAt w cfg0.N) 8) _).trans
      (arr_dk (operands m c) _ _ _)

end Results

end Cert.KernelIdeal.Hand

end
-- ==== Proof.Algebraic.lean ====
/- The idealized kernel and the reference end with equal results: both hold the gradients of the real arguments. -/
module

public import proofs.«01_k».proof.Defs
public import proofs.«01_k».proof.Proof.Gen.Pre_finite
public import proofs.«01_k».proof.Proof.Gen.ReferenceIdeal.Run
public import proofs.«01_k».proof.Proof.RefValue
public import proofs.«01_k».proof.Proof.Tail
public import proofs.«01_k».proof.Proof.Frames

@[expose] public section

noncomputable section

namespace Cert.Frames

open Idealize.ShloMosaic Idealize.ShloMosaic.TcCoe Idealize.SL.Sem Cert.Spec

local instance : Cert.KernelIdeal.Facts := Cert.KernelIdeal.Gen.facts
local instance : Cert.ReferenceIdeal.Facts := Cert.ReferenceIdeal.Gen.facts

/-- An extended real whose absolute value is below plus infinity is a real. -/
theorem real_of_abs (a : EReal) (h : Ideal.cmp .olt (max a (-a)) (Ideal.ofBits .f32 0x7F800000#32) = 1#1) : ∃ r : ℝ, a = (r : EReal) := by
  have h' : BitVec.ofBool (decide (max a (-a) < Ideal.ofBits .f32 0x7F800000#32)) = 1#1 := h
  rw [ofBits_inf] at h'
  have hlt : max a (-a) < ⊤ := by
    by_contra hn
    rw [decide_eq_false hn] at h'
    exact absurd h' (by decide)
  have h1 : a ≠ ⊤ := ((le_max_left a (-a)).trans_lt hlt).ne
  have h2 : a ≠ ⊥ := fun e => by
    have := ((le_max_right a (-a)).trans_lt hlt).ne
    rw [e, EReal.neg_bot] at this
    exact this rfl
  exact ⟨_, (EReal.coe_toReal h1 h2).symm⟩

/-- A rank-3 array of such entries is an array of reals. -/
theorem real3 (x : Cert.KernelIdeal.S16x4096x64.Idx → EReal) (h : ∀ i, ∃ r : ℝ, x i = (r : EReal)) :
    ∃ q : Fin 16 → Fin 4096 → Fin 64 → ℝ, ∀ i : Cert.KernelIdeal.S16x4096x64.Idx, x i = ((q (i 0) (i 1) (i 2) : ℝ) : EReal) := by
  have h' : ∀ (a : Fin 16) (b : Fin 4096) (d : Fin 64), ∃ r : ℝ, x (Idealize.ShloMosaic.ix3 a b d) = (r : EReal) := fun a b d => h _
  choose q hq using h'
  refine ⟨q, fun i => ?_⟩
  have e : i = Idealize.ShloMosaic.ix3 (i 0) (i 1) (i 2) := funext fun a => match a with | ⟨0, _⟩ => rfl | ⟨1, _⟩ => rfl | ⟨2, _⟩ => rfl
  exact (congrArg x e).trans (hq _ _ _)

theorem real2 (x : Cert.KernelIdeal.S16x4096.Idx → EReal) (h : ∀ i, ∃ r : ℝ, x i = (r : EReal)) :
    ∃ q : Fin 16 → Fin 4096 → ℝ, ∀ i : Cert.KernelIdeal.S16x4096.Idx, x i = ((q (i 0) (i 1) : ℝ) : EReal) := by
  have h' : ∀ (a : Fin 16) (b : Fin 4096), ∃ r : ℝ, x (ix2 a b) = (r : EReal) := fun a b => h _
  choose q hq using h'
  refine ⟨q, fun i => ?_⟩
  have e : i = ix2 (i 0) (i 1) := funext fun a => match a with | ⟨0, _⟩ => rfl | ⟨1, _⟩ => rfl
  exact (congrArg x e).trans (hq _ _)

/-- The function's arrays all ones make every argument an array of reals. -/
theorem finite_real (x0 x1 x2 x4 : Cert.KernelIdeal.S16x4096x64.Idx → EReal) (x3 : Cert.KernelIdeal.S16x4096.Idx → EReal)
    (h0 : (Cert.Pre_finite.fn (F := Ideal) x0 x1 x2 x3 x4).1 = fun _ => 1#1)
    (h1 : (Cert.Pre_finite.fn (F := Ideal) x0 x1 x2 x3 x4).2.1 = fun _ => 1#1)
    (h2 : (Cert.Pre_finite.fn (F := Ideal) x0 x1 x2 x3 x4).2.2.1 = fun _ => 1#1)
    (h3 : (Cert.Pre_finite.fn (F := Ideal) x0 x1 x2 x3 x4).2.2.2.1 = fun _ => 1#1)
    (h4 : (Cert.Pre_finite.fn (F := Ideal) x0 x1 x2 x3 x4).2.2.2.2 = fun _ => 1#1) :
    (∃ q : Fin 16 → Fin 4096 → Fin 64 → ℝ, ∀ i : Cert.KernelIdeal.S16x4096x64.Idx, x0 i = ((q (i 0) (i 1) (i 2) : ℝ) : EReal))
    ∧ (∃ k : Fin 16 → Fin 4096 → Fin 64 → ℝ, ∀ i : Cert.KernelIdeal.S16x4096x64.Idx, x1 i = ((k (i 0) (i 1) (i 2) : ℝ) : EReal))
    ∧ (∃ v : Fin 16 → Fin 4096 → Fin 64 → ℝ, ∀ i : Cert.KernelIdeal.S16x4096x64.Idx, x2 i = ((v (i 0) (i 1) (i 2) : ℝ) : EReal))
    ∧ (∃ f : Fin 16 → Fin 4096 → ℝ, ∀ i : Cert.KernelIdeal.S16x4096.Idx, x3 i = ((f (i 0) (i 1) : ℝ) : EReal))
    ∧ (∃ ct : Fin 16 → Fin 4096 → Fin 64 → ℝ, ∀ i : Cert.KernelIdeal.S16x4096x64.Idx, x4 i = ((ct (i 0) (i 1) (i 2) : ℝ) : EReal)) :=
  ⟨real3 x0 fun i => real_of_abs (x0 i) (congrFun h0 i), real3 x1 fun i => real_of_abs (x1 i) (congrFun h1 i),
    real3 x2 fun i => real_of_abs (x2 i) (congrFun h2 i), real2 x3 fun i => real_of_abs (x3 i) (congrFun h3 i),
    real3 x4 fun i => real_of_abs (x4 i) (congrFun h4 i)⟩

/-- From finite arguments the idealized kernel and the reference end with the same four gradients. -/
theorem algebraic : Cert.algebraic_KernelIdeal_ReferenceIdeal_pre_finite := by
  intro m g m' g' hpre hargs
  have hreal := fun c => finite_real _ _ _ _ _ (hpre c).1 (hpre c).2.1 (hpre c).2.2.1 (hpre c).2.2.2.1 (hpre c).2.2.2.2
  choose hq hk hv hf hct using hreal
  choose q hq using hq
  choose k hk using hk
  choose v hv using hv
  choose f hf using hf
  choose ct hct using hct
  refine ⟨fun c => fun i : Cert.KernelIdeal.S16x4096x64.Idx => ((gradQ (q c) (k c) (v c) (f c) (ct c) (i 0) (i 1) (i 2) : ℝ) : EReal),
    fun c => fun i : Cert.KernelIdeal.S16x4096x64.Idx => ((gradK (q c) (k c) (v c) (f c) (ct c) (i 0) (i 1) (i 2) : ℝ) : EReal),
    fun c => fun i : Cert.KernelIdeal.S16x4096x64.Idx => ((gradV (q c) (k c) (f c) (ct c) (i 0) (i 1) (i 2) : ℝ) : EReal),
    fun c => fun i : Cert.KernelIdeal.S16x4096.Idx => ((gradC (q c) (k c) (v c) (f c) (ct c) (i 0) (i 1) : ℝ) : EReal), ?_, ?_⟩
  · refine (θ_run Cert.KernelIdeal.defs _ _).mono (fun r h c => ?_) (Cert.KernelIdeal.Hand.run_main (F := Ideal) m g)
    have hr := (h.1 c).2
    exact ⟨(hr Cert.KernelIdeal.main_v101 (Pipeline.mem_restRefs_of Cert.KernelIdeal.main_v101 (by decide) (by decide))).trans
        (funext fun i => Cert.KernelIdeal.Hand.out_q (hq c) (hk c) (hv c) (hf c) (hct c) i),
      (hr Cert.KernelIdeal.main_v103 (Pipeline.mem_restRefs_of Cert.KernelIdeal.main_v103 (by decide) (by decide))).trans
        (funext fun i => Cert.KernelIdeal.Hand.out_k (hq c) (hk c) (hv c) (hf c) (hct c) i),
      (hr Cert.KernelIdeal.main_v106 (Pipeline.mem_restRefs_of Cert.KernelIdeal.main_v106 (by decide) (by decide))).trans
        (funext fun i => Cert.KernelIdeal.Hand.out_v (hq c) (hk c) (hv c) (hf c) (hct c) i),
      (hr Cert.KernelIdeal.main_v111 (Pipeline.mem_restRefs_of Cert.KernelIdeal.main_v111 (by decide) (by decide))).trans
        (funext fun i => Cert.KernelIdeal.Hand.out_c (hq c) (hk c) (hv c) (hf c) (hct c) i),
      (hr Cert.KernelIdeal.main_arg0 (Pipeline.mem_restRefs_of Cert.KernelIdeal.main_arg0 (by decide) (by decide))).trans
        (Cert.KernelIdeal.Gen.W_main_arg0 m (Cert.KernelIdeal.Hand.dats m) c),
      (hr Cert.KernelIdeal.main_arg1 (Pipeline.mem_restRefs_of Cert.KernelIdeal.main_arg1 (by decide) (by decide))).trans
        (Cert.KernelIdeal.Gen.W_main_arg1 m (Cert.KernelIdeal.Hand.dats m) c),
      (hr Cert.KernelIdeal.main_arg2 (Pipeline.mem_restRefs_of Cert.KernelIdeal.main_arg2 (by decide) (by decide))).trans
        (Cert.KernelIdeal.Gen.W_main_arg2 m (Cert.KernelIdeal.Hand.dats m) c),
      (hr Cert.KernelIdeal.main_arg3 (Pipeline.mem_restRefs_of Cert.KernelIdeal.main_arg3 (by decide) (by decide))).trans
        (Cert.KernelIdeal.Gen.W_main_arg3 m (Cert.KernelIdeal.Hand.dats m) c),
      (hr Cert.KernelIdeal.main_arg4 (Pipeline.mem_restRefs_of Cert.KernelIdeal.main_arg4 (by decide) (by decide))).trans
        (Cert.KernelIdeal.Gen.W_main_arg4 m (Cert.KernelIdeal.Hand.dats m) c)⟩
  · have hq' := fun c i => (congrFun (hargs c).1 i).trans (hq c i)
    have hk' := fun c i => (congrFun (hargs c).2.1 i).trans (hk c i)
    have hv' := fun c i => (congrFun (hargs c).2.2.1 i).trans (hv c i)
    have hf' := fun c i => (congrFun (hargs c).2.2.2.1 i).trans (hf c i)
    have hct' := fun c i => (congrFun (hargs c).2.2.2.2 i).trans (hct c i)
    refine (θ_run Cert.ReferenceIdeal.defs _ _).mono (fun r h c => ?_) (Cert.ReferenceIdeal.Value.run (F := Ideal) m' g')
    exact ⟨((h c).1.trans (Cert.ReferenceIdeal.Read.val_main_v72_eq m' c)).trans
        (funext fun i => Cert.ReferenceIdeal.Hand.ref_q (hq' c) (hk' c) (hv' c) (hf' c) (hct' c) i),
      ((h c).2.1.trans (Cert.ReferenceIdeal.Read.val_main_v71_eq m' c)).trans
        (funext fun i => Cert.ReferenceIdeal.Hand.ref_k (hq' c) (hk' c) (hv' c) (hf' c) (hct' c) i),
      ((h c).2.2.1.trans (Cert.ReferenceIdeal.Read.val_main_v46_eq m' c)).trans
        (funext fun i => Cert.ReferenceIdeal.Hand.ref_v (hq' c) (hk' c) (hv' c) (hf' c) (hct' c) i),
      ((h c).2.2.2.1.trans (Cert.ReferenceIdeal.Read.val_main_v68_eq m' c)).trans
        (funext fun i => Cert.ReferenceIdeal.Hand.ref_c (hq' c) (hk' c) (hv' c) (hf' c) (hct' c) i),
      (h c).2.2.2.2⟩

end Cert.Frames

end
-- ==== Proof.MatKit.lean ====
/- Small facts shared by the readings of the tiled products: a sum cut into the stretches the tiles take, and the
   reading of a product of two matrices that are both contracted along their first axis. -/
module

public import Mathlib.Data.EReal.Operations
public import Mathlib.Algebra.BigOperators.Fin
public import Idealize.ShloMosaic.Lib.Pointwise.Contract
public import Idealize.ShloMosaic.Lib.Pipeline.ValueKit

@[expose] public section

noncomputable section

namespace Cert.Mat

open Idealize.ShloMosaic

/-- Two zero offsets. -/
theorem off2 : (![0, 0] : Fin 2 → Nat) = fun _ => 0 := funext fun a => by fin_cases a <;> rfl

/-- Three zero offsets. -/
theorem off3 : (![0, 0, 0] : Fin 3 → Nat) = fun _ => 0 := funext fun a => by fin_cases a <;> rfl

/-- Which tile and which step of it the four steps of a tile are. -/
theorem quarters (p : ℕ) : 4 * p / 4 = p ∧ (4 * p + 1) / 4 = p ∧ (4 * p + 2) / 4 = p ∧ (4 * p + 3) / 4 = p
    ∧ 4 * p % 4 = 0 ∧ (4 * p + 1) % 4 = 1 ∧ (4 * p + 2) % 4 = 2 ∧ (4 * p + 3) % 4 = 3 := by omega

/-- The same of a tile of five steps. -/
theorem fifths (p : ℕ) : 5 * p / 5 = p ∧ (5 * p + 1) / 5 = p ∧ (5 * p + 2) / 5 = p ∧ (5 * p + 3) / 5 = p ∧ (5 * p + 4) / 5 = p
    ∧ 5 * p % 5 = 0 ∧ (5 * p + 1) % 5 = 1 ∧ (5 * p + 2) % 5 = 2 ∧ (5 * p + 3) % 5 = 3 ∧ (5 * p + 4) % 5 = 4 := by omega

/-- The same of a tile of two steps. -/
theorem halves (p : ℕ) : 2 * p / 2 = p ∧ (2 * p + 1) / 2 = p ∧ 2 * p % 2 = 0 ∧ (2 * p + 1) % 2 = 1 := by omega

/-- A sum over 4096 terms is the sum of its first 2048 and of its last 2048. -/
theorem sum_halves (f : Fin 4096 → EReal) :
    (∑ k : Fin 2048, f ⟨k.val, by omega⟩) + (∑ k : Fin 2048, f ⟨2048 + k.val, by omega⟩) = ∑ k, f k :=
  (Fin.sum_univ_add (a := 2048) (b := 2048) f).symm

/-- A sum is the sum of its four equal stretches, added up in order. -/
theorem sum_cut {n p q N : ℕ} (hp : p = n + n) (hq : q = p + n) (hN : N = q + n) (f : Fin N → EReal) :
    (((∑ k : Fin n, f ⟨k.val, by omega⟩) + (∑ k : Fin n, f ⟨n + k.val, by omega⟩))
      + (∑ k : Fin n, f ⟨p + k.val, by omega⟩)) + (∑ k : Fin n, f ⟨q + k.val, by omega⟩) = ∑ k, f k := by
  subst hp hq hN
  rw [Fin.sum_univ_add f, Fin.sum_univ_add (fun i => f (Fin.castAdd n i)), Fin.sum_univ_add (fun i => f (Fin.castAdd n (Fin.castAdd n i)))]
  rfl

/-- A sum over 4096 terms is the sum of its four quarters, added up in order. -/
theorem sum_quarters (f : Fin 4096 → EReal) :
    (((∑ k : Fin 1024, f ⟨k.val, by omega⟩) + (∑ k : Fin 1024, f ⟨1024 + k.val, by omega⟩))
      + (∑ k : Fin 1024, f ⟨2048 + k.val, by omega⟩)) + (∑ k : Fin 1024, f ⟨3072 + k.val, by omega⟩) = ∑ k, f k :=
  sum_cut (n := 1024) (p := 2048) (q := 3072) (by omega) (by omega) (by omega) f

/-- The same of 1024 terms. -/
theorem sum_four (f : Fin 1024 → EReal) :
    (((∑ k : Fin 256, f ⟨k.val, by omega⟩) + (∑ k : Fin 256, f ⟨256 + k.val, by omega⟩))
      + (∑ k : Fin 256, f ⟨512 + k.val, by omega⟩)) + (∑ k : Fin 256, f ⟨768 + k.val, by omega⟩) = ∑ k, f k :=
  sum_cut (n := 256) (p := 512) (q := 768) (by omega) (by omega) (by omega) f

/-- The same of 2048 terms. -/
theorem sum_short (f : Fin 2048 → EReal) :
    (((∑ k : Fin 512, f ⟨k.val, by omega⟩) + (∑ k : Fin 512, f ⟨512 + k.val, by omega⟩))
      + (∑ k : Fin 512, f ⟨1024 + k.val, by omega⟩)) + (∑ k : Fin 512, f ⟨1536 + k.val, by omega⟩) = ∑ k, f k :=
  sum_cut (n := 512) (p := 1024) (q := 1536) (by omega) (by omega) (by omega) f

/-- A sum over 3200 terms is the sum of its five fifths, added up in order. -/
theorem sum_fifths (f : Fin 3200 → EReal) :
    ((((∑ k : Fin 640, f ⟨k.val, by omega⟩) + (∑ k : Fin 640, f ⟨640 + k.val, by omega⟩)) + (∑ k : Fin 640, f ⟨1280 + k.val, by omega⟩))
      + (∑ k : Fin 640, f ⟨1920 + k.val, by omega⟩)) + (∑ k : Fin 640, f ⟨2560 + k.val, by omega⟩) = ∑ k, f k := by
  rw [Fin.sum_univ_add (a := 2560) (b := 640) f, ← sum_cut (n := 640) (p := 1280) (q := 1920) (N := 2560) (by omega) (by omega) (by omega)]
  rfl

/-- A place of a rank-two array is given by its two coordinates. -/
theorem idx2 {a b : ℕ} {x : (⟨2, ![a, b]⟩ : Shape).Idx} {i : Fin a} {j : Fin b} (h0 : (x 0).val = i.val) (h1 : (x 1).val = j.val) :
    x = ix2 i j :=
  funext fun d => Fin.ext (by match d with | ⟨0, _⟩ => exact h0 | ⟨1, _⟩ => exact h1)

/-- A place of a rank-three array is given by its three coordinates. -/
theorem idx3 {a b c : ℕ} {x : (⟨3, ![a, b, c]⟩ : Shape).Idx} {i : Fin a} {j : Fin b} {k : Fin c} (h0 : (x 0).val = i.val)
    (h1 : (x 1).val = j.val) (h2 : (x 2).val = k.val) : x = ix3 i j k :=
  funext fun d => Fin.ext (by match d with | ⟨0, _⟩ => exact h0 | ⟨1, _⟩ => exact h1 | ⟨2, _⟩ => exact h2)

/-- A row over the root of its mean square, the small constant 1e-6 (as a float32) added under the root. -/
def unit (x : Fin 1024 → EReal) (j : Fin 1024) : EReal :=
  x j * Ideal.rsqrt (Ideal.div (∑ k, x k * x k) (Ideal.ofBits .f32 0x44800000#32) + Ideal.ofBits .f32 0x358637BD#32)

end Cert.Mat

end
-- ==== Proof.Dact.lean ====
/- The gradient that reaches an MLP's hidden layer: what the tiled kernel leaves in its result, entry by entry. -/
module

public import proofs.«01_k».proof.Proof.MatKit
public import proofs.«01_k».proof.Proof.Gen.Kernel2Ideal.Value
public import proofs.«01_k».proof.Proof.Gen.Reference2Ideal.Run
public import Idealize.ShloMosaic.Lib.Pointwise
public import Idealize.ShloMosaic.Lib.Tactic

@[expose] public section

set_option maxRecDepth 16384

noncomputable section

namespace Cert.Dact

open Cert.Kernel2Ideal Cert.Kernel2Ideal.Gen Cert.Kernel2Ideal.Value
open Idealize.ShloMosaic Idealize.ShloMosaic.TcCoe Idealize.ShloMosaic.Tactic
open Idealize.SL Idealize.SL.Sem

/-- The slope of the squared positive part at `z`, recovered from the squared positive part. -/
def slope (z : EReal) : EReal := Ideal.ofBits .f32 0x40000000#32 * Ideal.sqrt (max z 0 * max z 0)

/-- The root of a square of a value that is not negative is that value. -/
theorem sqrt_sq (x : EReal) (h : 0 ≤ x) : Ideal.sqrt (x * x) = x := by
  induction x using EReal.rec with
  | bot => exact absurd h (by decide)
  | top => rw [EReal.top_mul_top]; rfl
  | coe r =>
    have hr : 0 ≤ r := EReal.coe_nonneg.mp h
    rw [← EReal.coe_mul]
    show (if r * r < 0 then (⊥ : EReal) else ((Real.sqrt (r * r) : ℝ) : EReal)) = _
    rw [if_neg (not_lt.mpr (mul_self_nonneg r)), Real.sqrt_mul_self hr]

/-- Times the slope is what the derivative's case distinction says. -/
theorem mul_slope (s z : EReal) :
    s * slope z = if 0 < z then s * (Ideal.ofBits .f32 0x40000000#32 * max z 0) else 0 := by
  unfold slope
  rw [sqrt_sq _ (le_max_right z 0)]
  split
  · rfl
  · rename_i h
    rw [max_eq_right (not_lt.mp h), mul_zero, mul_zero]

/-- The product of two blocks at an entry: the sum along the second axis, which both are contracted along. -/
theorem prod_apply (x : S2048x1024.Idx → EReal) (y : S1024x1024.Idx → EReal) (r : Fin 2048) (q : Fin 1024) :
    (matmul (F := Ideal) (φ₁ := .bf16) (φ₂ := .bf16) dot_S2048x1024_S1024x1024_S2048x1024_1_1_0_0_n_n none x y
      (constant S2048x1024 .f32 0x00000000#32) (ix2 r q) : EReal) = ∑ k : Fin 1024, x (ix2 r k) * y (ix2 q k) := by
  simp only [pointwise, zero_add]

/-- What a step stores, at an entry. -/
theorem out_apply (x : Vec Ideal S2048x1024 .bf16) (y : Vec Ideal S1x1024x1024 .bf16) (a : Vec Ideal S2048x1024 .bf16)
    (r : Fin 2048) (q : Fin 1024) :
    (out0_3 x y a (ix2 r q) : EReal) = (∑ k : Fin 1024, (x (ix2 r k) : EReal) * y (ix3 0 q k))
      * (Ideal.ofBits .f32 0x40000000#32 * Ideal.sqrt (a (ix2 r q))) := by
  unfold out0_3
  rw [View.canon_unit_zero (S := S2048x1024) Mat.off2, View.ld_unit_zero (S := S2048x1024) Mat.off2,
    View.ld_unit_zero (S := S1x1024x1024) Mat.off3, View.ld_unit_zero (S := S2048x1024) Mat.off2]
  unfold k0_pay1
  simp only [shapeCast_self]
  refine congrArg (fun e : EReal => e * (Ideal.ofBits .f32 0x40000000#32 * Ideal.sqrt (a (ix2 r q)))) ((prod_apply x _ r q).trans ?_)
  refine Finset.sum_congr rfl fun k _ => congrArg (fun e : EReal => (x (ix2 r k) : EReal) * e) ?_
  simp only [pointwise]

variable (m : (ℓ : Loc nD τ sig) → Buf (Elt Ideal) ℓ) (c : Dev nD)

theorem at0 : ∀ t : Fin cfg0.N, win0_0.index t 0 = t.val / 4 ∧ win0_0.index t 1 = 0 := by decide +kernel
theorem at1 : ∀ t : Fin cfg0.N, win0_1.index t 0 = t.val % 4 ∧ win0_1.index t 1 = 0 ∧ win0_1.index t 2 = 0 := by decide +kernel
theorem at2 : ∀ t : Fin cfg0.N, win0_2.index t 0 = t.val / 4 ∧ win0_2.index t 1 = t.val % 4 := by decide +kernel
theorem at3 : ∀ t : Fin cfg0.N, win0_3.index t 0 = t.val / 4 ∧ win0_3.index t 1 = t.val % 4 := by decide +kernel
theorem fl3 : ∀ t : Fin cfg0.N, (cfg0.win 3).flush t = true := by decide +kernel
theorem pts (t : Fin cfg0.N) : t.val < 8 := lt_of_lt_of_eq t.isLt (show cfg0.N = 8 from N_0)

/-- The cotangents, as the kernel's first operand holds them. -/
def cot : S4096x1024.Idx → EReal := V m c main_v4
/-- The weight's shards, as the kernel's second operand holds them. -/
def wts : S4x1024x1024.Idx → EReal := V m c main_v6
/-- The activations, as the kernel's third operand holds them. -/
def act : S4096x4096.Idx → EReal := V m c main_v3
/-- The result array. -/
def res : S4096x4096.Idx → EReal := (dats m 0 c).arrAt 3 cfg0.N

/-- The hidden layer before its activation, the first argument. -/
def argZ : S4096x4096.Idx → EReal := m ((c.tc : Thread nD τ).loc main_arg0)
/-- The weight, the second argument. -/
def argW : S4096x1024.Idx → EReal := m ((c.tc : Thread nD τ).loc main_arg1)
/-- The cotangent of the layer's output, the third argument. -/
def argD : S4096x1024.Idx → EReal := m ((c.tc : Thread nD τ).loc main_arg2)

/-- The block of cotangents a step reads. -/
theorem blk0 (t : Fin cfg0.N) (r : Fin 2048) (k : Fin 1024) :
    (iblk m c 0 t (ix2 r k) : EReal) = cot m c (ix2 ⟨2048 * (t.val / 4) + r.val, by have := pts t; omega⟩ k) := by
  unfold iblk
  refine congrArg (cot m c) (funext fun a => Fin.ext ?_)
  match a with
  | ⟨0, _⟩ => show win0_0.index t 0 * 2048 + 1 * r.val = 2048 * (t.val / 4) + r.val; rw [(at0 t).1]; omega
  | ⟨1, _⟩ => show win0_0.index t 1 * 1024 + 1 * k.val = k.val; rw [(at0 t).2]; omega

/-- The shard of the weight a step reads. -/
theorem blk1 (t : Fin cfg0.N) (q k : Fin 1024) :
    (iblk m c 1 t (ix3 0 q k) : EReal) = wts m c (ix3 ⟨t.val % 4, by omega⟩ q k) := by
  unfold iblk
  refine congrArg (wts m c) (funext fun a => Fin.ext ?_)
  match a with
  | ⟨0, _⟩ => show win0_1.index t 0 * 1 + 1 * 0 = t.val % 4; rw [(at1 t).1]; omega
  | ⟨1, _⟩ => show win0_1.index t 1 * 1024 + 1 * q.val = q.val; rw [(at1 t).2.1]; omega
  | ⟨2, _⟩ => show win0_1.index t 2 * 1024 + 1 * k.val = k.val; rw [(at1 t).2.2]; omega

/-- The block of activations a step reads. -/
theorem blk2 (t : Fin cfg0.N) (r : Fin 2048) (q : Fin 1024) :
    (iblk m c 2 t (ix2 r q) : EReal) = act m c (ix2 ⟨2048 * (t.val / 4) + r.val, by have := pts t; omega⟩
      ⟨1024 * (t.val % 4) + q.val, by omega⟩) := by
  unfold iblk
  refine congrArg (act m c) (funext fun a => Fin.ext ?_)
  match a with
  | ⟨0, _⟩ => show win0_2.index t 0 * 2048 + 1 * r.val = 2048 * (t.val / 4) + r.val; rw [(at2 t).1]; omega
  | ⟨1, _⟩ => show win0_2.index t 1 * 1024 + 1 * q.val = 1024 * (t.val % 4) + q.val; rw [(at2 t).2]; omega

/-- What a step leaves in the result array. -/
theorem res_blk (t : Fin cfg0.N) (r : Fin 2048) (q : Fin 1024) :
    res m c (ix2 ⟨2048 * (t.val / 4) + r.val, by have := pts t; omega⟩ ⟨1024 * (t.val % 4) + q.val, by omega⟩)
      = out0_3 (iblk m c 0 t) (iblk m c 1 t) (iblk m c 2 t) (ix2 r q) := by
  refine Eq.trans (congrArg (res m c) (funext fun a => Fin.ext ?_)) (congrFun ((blocks3 m c t (fl3 t)).trans (flushed3 m c t)) (ix2 r q))
  match a with
  | ⟨0, _⟩ => show 2048 * (t.val / 4) + r.val = win0_3.index t 0 * 2048 + 1 * r.val; rw [(at3 t).1]; omega
  | ⟨1, _⟩ => show 1024 * (t.val % 4) + q.val = win0_3.index t 1 * 1024 + 1 * q.val; rw [(at3 t).2]; omega

/-- **The kernel's result at an entry**, in block coordinates. -/
theorem kernel_entry (t : Fin cfg0.N) (r : Fin 2048) (q : Fin 1024) :
    res m c (ix2 ⟨2048 * (t.val / 4) + r.val, by have := pts t; omega⟩ ⟨1024 * (t.val % 4) + q.val, by omega⟩)
      = (∑ k : Fin 1024, cot m c (ix2 ⟨2048 * (t.val / 4) + r.val, by have := pts t; omega⟩ k)
          * wts m c (ix3 ⟨t.val % 4, by omega⟩ q k))
        * (Ideal.ofBits .f32 0x40000000#32 * Ideal.sqrt (act m c (ix2 ⟨2048 * (t.val / 4) + r.val, by have := pts t; omega⟩
          ⟨1024 * (t.val % 4) + q.val, by omega⟩))) := by
  rw [res_blk, out_apply, blk2]
  simp only [blk0, blk1]

/-- The cotangents are the third argument. -/
theorem cot_eq : cot m c = argD m c := by
  unfold cot V
  after_results
  rfl

/-- The activations from the argument: the square of its positive part. -/
theorem act_eq (i : S4096x4096.Idx) : act m c i = max (argZ m c i) 0
    * max (argZ m c i) 0 := by
  have e : act m c = truncf (F := Ideal) .bf16 (mulf (F := Ideal) (φ := .f32)
    (maximumf (m ((c.tc : Thread nD τ).loc main_arg0)) (broadcastInDim S4096x4096 ![] bcast_S_S4096x4096 (constant S_ .f32 0x00000000#32)))
    (maximumf (m ((c.tc : Thread nD τ).loc main_arg0)) (broadcastInDim S4096x4096 ![] bcast_S_S4096x4096 (constant S_ .f32 0x00000000#32)))) bitsLt_bf16_f32 := by
    unfold act V
    after_results
  rw [e]
  simp only [pointwise]
  rfl

/-- The shards are the second argument's rows. -/
theorem wts_eq (p : Fin 4) (q k : Fin 1024) : wts m c (ix3 p q k)
    = argW m c (ix2 ⟨1024 * p.val + q.val, by omega⟩ k) := by
  have e : wts m c = shapeCast S4x1024x1024 (truncf (F := Ideal) .bf16 (m ((c.tc : Thread nD τ).loc main_arg1)) bitsLt_bf16_f32) shapeCasts_S4096x1024_S4x1024x1024 := by
    unfold wts V
    after_results
    rfl
  rw [e]
  simp only [pointwise]
  simp only [Nat.mul_comm p.val 1024]
  rfl

/-- **The kernel's result at an entry**, of its arguments. -/
theorem kernel_arg (i : Fin 4096) (j : Fin 4096) :
    res m c (ix2 i j) = (∑ k : Fin 1024, argD m c (ix2 i k)
        * argW m c (ix2 j k))
      * slope (argZ m c (ix2 i j)) := by
  have hN : cfg0.N = 8 := N_0
  obtain ⟨t, r, q, hi, hj⟩ : ∃ (t : Fin cfg0.N) (r : Fin 2048) (q : Fin 1024),
      i.val = 2048 * (t.val / 4) + r.val ∧ j.val = 1024 * (t.val % 4) + q.val :=
    ⟨⟨4 * (i.val / 2048) + j.val / 1024, by omega⟩, ⟨i.val % 2048, by omega⟩, ⟨j.val % 1024, by omega⟩, by dsimp only; omega, by dsimp only; omega⟩
  have bi : 2048 * (t.val / 4) + r.val < 4096 := by have := pts t; clear hi hj; omega
  have bj : 1024 * (t.val % 4) + q.val < 4096 := by clear hi hj; omega
  obtain rfl : i = ⟨2048 * (t.val / 4) + r.val, bi⟩ := Fin.ext hi
  obtain rfl : j = ⟨1024 * (t.val % 4) + q.val, bj⟩ := Fin.ext hj
  rw [kernel_entry, cot_eq, act_eq]
  simp only [wts_eq]
  rfl

end Cert.Dact

namespace Cert.Dact.Ref

open Cert.Reference2Ideal Cert.Reference2Ideal.Gen
open Idealize.ShloMosaic Idealize.ShloMosaic.TcCoe

/-- **The reference's result at an entry**. -/
theorem entry (z : S4096x4096.Idx → EReal) (w d : S4096x1024.Idx → EReal) (i j : Fin 4096) :
    (truncf (F := Ideal) .bf16 (select (cmpf (F := Ideal) (φ := .f32) .ogt z (broadcastInDim S4096x4096 ![] bcast_S_S4096x4096 (constant S_ .f32 0x00000000#32)))
      (mulf (F := Ideal) (φ := .f32) (Host.dotGeneral (F := Ideal) (φ₁ := .f32) (φ₂ := .f32) dot_S4096x1024_S4096x1024_S4096x4096_1_1_0_0_n_n none d w)
        (mulf (broadcastInDim S4096x4096 ![] bcast_S_S4096x4096 (constant S_ .f32 0x40000000#32))
          (maximumf z (broadcastInDim S4096x4096 ![] bcast_S_S4096x4096 (constant S_ .f32 0x00000000#32)))))
      (broadcastInDim S4096x4096 ![] bcast_S_S4096x4096 (constant S_ .f32 0x00000000#32))) bitsLt_bf16_f32 (ix2 i j) : EReal)
      = (∑ k : Fin 1024, d (ix2 i k) * w (ix2 j k)) * slope (z (ix2 i j)) := by
  rw [mul_slope]
  simp only [pointwise, zero_add]

end Cert.Dact.Ref

end
-- ==== Proof.Dw2.lean ====
/- The gradient of an MLP's second weight: what the tiled kernel leaves in its result, entry by entry. -/
module

public import proofs.«01_k».proof.Proof.MatKit
public import proofs.«01_k».proof.Proof.Gen.Kernel3Ideal.Value
public import proofs.«01_k».proof.Proof.Gen.Reference3Ideal.Run
public import Idealize.ShloMosaic.Lib.Pointwise
public import Idealize.ShloMosaic.Lib.Tactic

@[expose] public section

set_option maxRecDepth 16384

noncomputable section

namespace Cert.Dw2

open Cert.Kernel3Ideal Cert.Kernel3Ideal.Gen Cert.Kernel3Ideal.Value
open Idealize.ShloMosaic Idealize.ShloMosaic.TcCoe Idealize.ShloMosaic.Tactic
open Idealize.SL Idealize.SL.Sem

/-- The first step of a tile leaves, in the accumulator, the product of the two blocks over a zero start. -/
theorem acc_first (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1x1024x1024 .bf16) (h5 : a5.IsWhole)
    (a6 : Memref sig .tc .vmem S1024x1024 .f32) (h6 : a6.IsWhole) (hc0 : cond0_0 i) (hc1 : ¬cond0_1 i)
    (x y : Vec Ideal S2048x1024 .bf16) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) Mat.off2, View.readCov_unit_zero (S := S1024x1024) _ Mat.off2]
  simp only [View.readAt_eq_ld, h3.read_unread, h4.read_unread, View.ld_unit_zero (S := S2048x1024) Mat.off2]

/-- The last step of a tile stores the accumulator with the product of its two blocks added. -/
theorem out_last (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1x1024x1024 .bf16) (h5 : a5.IsWhole)
    (a6 : Memref sig .tc .vmem S1024x1024 .f32) (h6 : a6.IsWhole) (hc0 : ¬cond0_0 i) (hc1 : cond0_1 i)
    (x y : Vec Ideal S2048x1024 .bf16) (s : Vec Ideal S1024x1024 .f32) :
    out0_B_2 c i a3 h3 a4 h4 a5 h5 a6 h6 hc0 hc1 x y s = k0_pay3 (k0_pay2 s x y) := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero (S := S1x1024x1024) Mat.off3, View.readCov_unit_zero (S := S1024x1024) _ Mat.off2]
  simp only [View.readAt_eq_ld, h3.read_unread, h4.read_unread, h6.read_unread, View.ld_unit_zero (S := S2048x1024) Mat.off2,
    View.ld_unit_zero (S := S1024x1024) Mat.off2]

/-- The product of two blocks at an entry: the sum along the first axis, which both are contracted along. -/
theorem prod_apply (x y : S2048x1024.Idx → EReal) (r q : Fin 1024) :
    (matmul (F := Ideal) (φ₁ := .bf16) (φ₂ := .bf16) dot_S2048x1024_S2048x1024_S1024x1024_0_0_1_1_n_n none x y
      (constant S1024x1024 .f32 0x00000000#32) (ix2 r q) : EReal) = ∑ k : Fin 2048, x (ix2 k r) * y (ix2 k q) := by
  simp only [pointwise, zero_add]

/-- An accumulating step at an entry: the entry plus the sum along the shared first axis. -/
theorem step_apply (s : Vec Ideal S1024x1024 .f32) (x y : Vec Ideal S2048x1024 .bf16) (r q : Fin 1024) :
    k0_pay2 s x y (ix2 r q) = (s (ix2 r q) : EReal) + ∑ k : Fin 2048, (x (ix2 k r) : EReal) * y (ix2 k q) := by
  unfold k0_pay2
  simp only [shapeCast_self]
  exact congrArg (fun e : EReal => (s (ix2 r q) : EReal) + e) (prod_apply x y r q)

/-- The zero start. -/
theorem zero_apply (i : S1024x1024.Idx) : (k0_pay1 (F := Ideal) i : EReal) = 0 := by
  unfold k0_pay1
  simp only [shapeCast_self]
  exact Ideal.ofBits_zero_f32

variable (m : (ℓ : Loc nD τ sig) → Buf (Elt Ideal) ℓ) (c : Dev nD)

theorem at0 : ∀ t : Fin cfg0.N, win0_0.index t 0 = t.val % 2 ∧ win0_0.index t 1 = t.val / 2 := by decide +kernel
theorem at1 : ∀ t : Fin cfg0.N, win0_1.index t 0 = t.val % 2 ∧ win0_1.index t 1 = 0 := by decide +kernel
theorem pts (t : Fin cfg0.N) : t.val < 8 := lt_of_lt_of_eq t.isLt (show cfg0.N = 8 from N_0)

/-- The activations, as the kernel's first operand holds them. -/
def act : S4096x4096.Idx → EReal := V m c main_v3

/-- The cotangents, as the kernel's second operand holds them. -/
def cot : S4096x1024.Idx → EReal := V m c main_v4

/-- The result array. -/
def res : S4x1024x1024.Idx → EReal := G2 m c

/-- The block of activations a step reads. -/
theorem blk0 (t : Fin cfg0.N) (k : Fin 2048) (r : Fin 1024) :
    (iblk m c 0 t (ix2 k r) : EReal) = act m c
      (ix2 ⟨2048 * (t.val % 2) + k.val, by omega⟩ ⟨1024 * (t.val / 2) + r.val, by have := pts t; omega⟩) := by
  unfold iblk
  refine congrArg (act m c) (funext fun a => Fin.ext ?_)
  match a with
  | ⟨0, _⟩ => show win0_0.index t 0 * 2048 + 1 * k.val = 2048 * (t.val % 2) + k.val; rw [(at0 t).1]; omega
  | ⟨1, _⟩ => show win0_0.index t 1 * 1024 + 1 * r.val = 1024 * (t.val / 2) + r.val; rw [(at0 t).2]; omega

/-- The block of cotangents a step reads. -/
theorem blk1 (t : Fin cfg0.N) (k : Fin 2048) (q : Fin 1024) :
    (iblk m c 1 t (ix2 k q) : EReal) = cot m c (ix2 ⟨2048 * (t.val % 2) + k.val, by omega⟩ q) := by
  unfold iblk
  refine congrArg (cot m c) (funext fun a => Fin.ext ?_)
  match a with
  | ⟨0, _⟩ => show win0_1.index t 0 * 2048 + 1 * k.val = 2048 * (t.val % 2) + k.val; rw [(at1 t).1]; omega
  | ⟨1, _⟩ => show win0_1.index t 1 * 1024 + 1 * q.val = q.val; rw [(at1 t).2]; omega

/-- What is left after a step depends on the step's number alone. -/
theorem outs_congr {n n' : ℕ} (h : n = n') (hn : n < cfg0.N) (hn' : n' < cfg0.N) : outsAt0 m c n hn = outsAt0 m c n' hn' := by
  subst h; rfl

/-- After the first step of a tile. -/
theorem pair_acc (t : Fin cfg0.N) (h : t.val % 2 = 0) :
    (outsAt0 m c t.val t.isLt).2 = k0_pay2 k0_pay1 (iblk m c 0 t) (iblk m c 1 t) := by
  have e := congrArg Prod.snd (outsAt0_A m c t h (by omega))
  dsimp only at e
  rw [acc_first] at e
  exact e

/-- After the two steps of a tile. -/
theorem pair_out (t u : Fin cfg0.N) (hu : u.val = t.val + 1) (h : t.val % 2 = 0) :
    (outsAt0 m c u.val u.isLt).1 = k0_pay3 (k0_pay2 (k0_pay2 k0_pay1 (iblk m c 0 t) (iblk m c 1 t)) (iblk m c 0 u) (iblk m c 1 u)) := by
  have e := congrArg Prod.fst (outsAt0_B m c u (by omega) (by omega))
  rw [outs_congr m c (show u.val - 1 = t.val by omega) _ t.isLt, pair_acc m c t h] at e
  dsimp only at e
  rw [out_last] at e
  exact e

/-- **The kernel's result at an entry**: the sum over all rows of the products of the two operands' columns. -/
theorem kernel_entry (p : Fin 4) (r q : Fin 1024) :
    res m c (ix3 p r q) = ∑ k : Fin 4096,
      act m c (ix2 k ⟨1024 * p.val + r.val, by omega⟩)
        * cot m c (ix2 k q) := by
  have hp : pt2Of (ix3 p r q) = 2 * p.val + 1 := by
    show 2 * (1 * (p.val / 1 - 0) + 1 * (r.val / 1024 - 0) + 1 * (q.val / 1024 - 0)) + 1 = _
    omega
  have hl : loc2Of (ix3 p r q) = ix3 0 r q := funext fun a => Fin.ext (by
    match a with
    | ⟨0, _⟩ => exact Nat.mod_one _
    | ⟨1, _⟩ => exact Nat.mod_eq_of_lt r.isLt
    | ⟨2, _⟩ => exact Nat.mod_eq_of_lt q.isLt)
  have hN : cfg0.N = 8 := N_0
  have hb : 2 * p.val + 1 < cfg0.N := by omega
  have ha : 2 * p.val < cfg0.N := by omega
  have e : res m c (ix3 p r q) = (outsAt0 m c (2 * p.val + 1) hb).1 (ix3 0 r q) := by
    have hb' : pt2Of (ix3 p r q) < cfg0.N := hp.symm ▸ hb
    refine (dif_pos hb').trans ?_
    rw [hl, outsAt0_sweep]
    exact congrFun (congrArg Prod.fst (fold0_congr m c _ _ _ _ hp)) _
  rw [e, pair_out m c ⟨2 * p.val, ha⟩ ⟨2 * p.val + 1, hb⟩ rfl (by dsimp only; omega)]
  have e3 : ∀ v : Vec Ideal S1024x1024 .f32, (k0_pay3 v (ix3 0 r q) : EReal) = v (ix2 r q) := fun v => by
    unfold k0_pay3
    simp only [pointwise]
  rw [e3, step_apply, step_apply, zero_apply, zero_add, ← Mat.sum_halves]
  refine congrArg₂ (· + ·) (Finset.sum_congr rfl fun k _ => ?_) (Finset.sum_congr rfl fun k _ => ?_)
  · rw [blk0, blk1]
    have h1 : 2 * p.val % 2 = 0 := by omega
    have h2 : 2 * p.val / 2 = p.val := by omega
    simp only [h1, h2, Nat.mul_zero, Nat.zero_add]
  · rw [blk0, blk1]
    have h1 : (2 * p.val + 1) % 2 = 1 := by omega
    have h2 : (2 * p.val + 1) / 2 = p.val := by omega
    simp only [h1, h2, Nat.mul_one]

/-- The activations from the argument: the square of its positive part. -/
theorem act_eq : act m c = mulf (F := Ideal) (φ := .f32)
    (maximumf (m ((c.tc : Thread nD τ).loc main_arg0)) (broadcastInDim S4096x4096 ![] bcast_S_S4096x4096 (constant S_ .f32 0x00000000#32)))
    (maximumf (m ((c.tc : Thread nD τ).loc main_arg0)) (broadcastInDim S4096x4096 ![] bcast_S_S4096x4096 (constant S_ .f32 0x00000000#32))) := by
  unfold act V
  after_results
  rfl

/-- The cotangents are the second argument. -/
theorem cot_eq : cot m c = (m ((c.tc : Thread nD τ).loc main_arg1) : S4096x1024.Idx → EReal) := by
  unfold cot V
  after_results
  rfl

end Cert.Dw2

namespace Cert.Dw2.Ref

open Cert.Reference3Ideal Cert.Reference3Ideal.Gen
open Idealize.ShloMosaic Idealize.ShloMosaic.TcCoe

/-- **The reference's result at an entry**: the cotangents' columns against the activations' columns, in the
    shards' layout. -/
theorem entry (a : S4096x4096.Idx → EReal) (d : S4096x1024.Idx → EReal) (p : Fin 4) (r q : Fin 1024) :
    (truncf (F := Ideal) .bf16 (shapeCast S4x1024x1024 (transpose S4096x1024 [1, 0]
      (Host.dotGeneral (F := Ideal) (φ₁ := .f32) (φ₂ := .f32) dot_S4096x1024_S4096x4096_S1024x4096_0_0_1_1_n_n none d a)
      transposes_S1024x4096_S4096x1024_1_0) shapeCasts_S4096x1024_S4x1024x1024) bitsLt_bf16_f32 (ix3 p r q) : EReal)
      = ∑ k : Fin 4096, a (ix2 k ⟨1024 * p.val + r.val, by omega⟩) * d (ix2 k q) := by
  simp only [pointwise]
  refine (zero_add _).trans (Finset.sum_congr rfl fun k _ => ?_)
  rw [mul_comm]
  simp only [Nat.mul_comm p.val 1024]

end Cert.Dw2.Ref

end
-- ==== Proof.Dw1.lean ====
/- The gradient of an MLP's first weight: what the tiled kernel leaves in its result, entry by entry. -/
module

public import proofs.«01_k».proof.Proof.MatKit
public import proofs.«01_k».proof.Proof.Gen.Kernel4Ideal.Value
public import proofs.«01_k».proof.Proof.Gen.Reference4Ideal.Run
public import Idealize.ShloMosaic.Lib.Pointwise
public import Idealize.ShloMosaic.Lib.Tactic

@[expose] public section

set_option maxRecDepth 16384

noncomputable section

namespace Cert.Dw1

open Cert.Kernel4Ideal Cert.Kernel4Ideal.Gen Cert.Kernel4Ideal.Value
open Idealize.ShloMosaic Idealize.ShloMosaic.TcCoe Idealize.ShloMosaic.Tactic
open Idealize.SL Idealize.SL.Sem

/-- The first step of a tile leaves, in the accumulator, the product of the two blocks over a zero start. -/
theorem acc_first (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1x1024x1024 .bf16) (h5 : a5.IsWhole)
    (a6 : Memref sig .tc .vmem S1024x1024 .f32) (h6 : a6.IsWhole) (hc0 : cond0_0 i) (hc1 : ¬cond0_1 i)
    (x y : Vec Ideal S2048x1024 .bf16) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) Mat.off2, View.readCov_unit_zero (S := S1024x1024) _ Mat.off2]
  simp only [View.readAt_eq_ld, h3.read_unread, h4.read_unread, View.ld_unit_zero (S := S2048x1024) Mat.off2]

/-- The last step of a tile stores the accumulator with the product of its two blocks added. -/
theorem out_last (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1x1024x1024 .bf16) (h5 : a5.IsWhole)
    (a6 : Memref sig .tc .vmem S1024x1024 .f32) (h6 : a6.IsWhole) (hc0 : ¬cond0_0 i) (hc1 : cond0_1 i)
    (x y : Vec Ideal S2048x1024 .bf16) (s : Vec Ideal S1024x1024 .f32) :
    out0_B_2 c i a3 h3 a4 h4 a5 h5 a6 h6 hc0 hc1 x y s = k0_pay3 (k0_pay2 s x y) := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero (S := S1x1024x1024) Mat.off3, View.readCov_unit_zero (S := S1024x1024) _ Mat.off2]
  simp only [View.readAt_eq_ld, h3.read_unread, h4.read_unread, h6.read_unread, View.ld_unit_zero (S := S2048x1024) Mat.off2,
    View.ld_unit_zero (S := S1024x1024) Mat.off2]

/-- The product of two blocks at an entry: the sum along the first axis, which both are contracted along. -/
theorem prod_apply (x y : S2048x1024.Idx → EReal) (r q : Fin 1024) :
    (matmul (F := Ideal) (φ₁ := .bf16) (φ₂ := .bf16) dot_S2048x1024_S2048x1024_S1024x1024_0_0_1_1_n_n none x y
      (constant S1024x1024 .f32 0x00000000#32) (ix2 r q) : EReal) = ∑ k : Fin 2048, x (ix2 k r) * y (ix2 k q) := by
  simp only [pointwise, zero_add]

/-- An accumulating step at an entry: the entry plus the sum along the shared first axis. -/
theorem step_apply (s : Vec Ideal S1024x1024 .f32) (x y : Vec Ideal S2048x1024 .bf16) (r q : Fin 1024) :
    k0_pay2 s x y (ix2 r q) = (s (ix2 r q) : EReal) + ∑ k : Fin 2048, (x (ix2 k r) : EReal) * y (ix2 k q) := by
  unfold k0_pay2
  simp only [shapeCast_self]
  exact congrArg (fun e : EReal => (s (ix2 r q) : EReal) + e) (prod_apply x y r q)

/-- The zero start. -/
theorem zero_apply (i : S1024x1024.Idx) : (k0_pay1 (F := Ideal) i : EReal) = 0 := by
  unfold k0_pay1
  simp only [shapeCast_self]
  exact Ideal.ofBits_zero_f32

variable (m : (ℓ : Loc nD τ sig) → Buf (Elt Ideal) ℓ) (c : Dev nD)

theorem at0 : ∀ t : Fin cfg0.N, win0_0.index t 0 = t.val % 2 ∧ win0_0.index t 1 = 0 := by decide +kernel
theorem at1 : ∀ t : Fin cfg0.N, win0_1.index t 0 = t.val % 2 ∧ win0_1.index t 1 = t.val / 2 := by decide +kernel
theorem pts (t : Fin cfg0.N) : t.val < 8 := lt_of_lt_of_eq t.isLt (show cfg0.N = 8 from N_0)

/-- The inputs, as the kernel's first operand holds them. -/
def inp : S4096x1024.Idx → EReal := V m c main_v0

/-- The cotangents, as the kernel's second operand holds them. -/
def cot : S4096x4096.Idx → EReal := V m c main_v1

/-- The result array. -/
def res : S4x1024x1024.Idx → EReal := G2 m c

/-- The block of inputs a step reads. -/
theorem blk0 (t : Fin cfg0.N) (k : Fin 2048) (r : Fin 1024) :
    (iblk m c 0 t (ix2 k r) : EReal) = inp m c (ix2 ⟨2048 * (t.val % 2) + k.val, by omega⟩ r) := by
  unfold iblk
  refine congrArg (inp m c) (funext fun a => Fin.ext ?_)
  match a with
  | ⟨0, _⟩ => show win0_0.index t 0 * 2048 + 1 * k.val = 2048 * (t.val % 2) + k.val; rw [(at0 t).1]; omega
  | ⟨1, _⟩ => show win0_0.index t 1 * 1024 + 1 * r.val = r.val; rw [(at0 t).2]; omega

/-- The block of cotangents a step reads. -/
theorem blk1 (t : Fin cfg0.N) (k : Fin 2048) (q : Fin 1024) :
    (iblk m c 1 t (ix2 k q) : EReal) = cot m c
      (ix2 ⟨2048 * (t.val % 2) + k.val, by omega⟩ ⟨1024 * (t.val / 2) + q.val, by have := pts t; omega⟩) := by
  unfold iblk
  refine congrArg (cot m c) (funext fun a => Fin.ext ?_)
  match a with
  | ⟨0, _⟩ => show win0_1.index t 0 * 2048 + 1 * k.val = 2048 * (t.val % 2) + k.val; rw [(at1 t).1]; omega
  | ⟨1, _⟩ => show win0_1.index t 1 * 1024 + 1 * q.val = 1024 * (t.val / 2) + q.val; rw [(at1 t).2]; omega

/-- What is left after a step depends on the step's number alone. -/
theorem outs_congr {n n' : ℕ} (h : n = n') (hn : n < cfg0.N) (hn' : n' < cfg0.N) : outsAt0 m c n hn = outsAt0 m c n' hn' := by
  subst h; rfl

/-- After the first step of a tile. -/
theorem pair_acc (t : Fin cfg0.N) (h : t.val % 2 = 0) :
    (outsAt0 m c t.val t.isLt).2 = k0_pay2 k0_pay1 (iblk m c 0 t) (iblk m c 1 t) := by
  have e := congrArg Prod.snd (outsAt0_A m c t h (by omega))
  dsimp only at e
  rw [acc_first] at e
  exact e

/-- After the two steps of a tile. -/
theorem pair_out (t u : Fin cfg0.N) (hu : u.val = t.val + 1) (h : t.val % 2 = 0) :
    (outsAt0 m c u.val u.isLt).1 = k0_pay3 (k0_pay2 (k0_pay2 k0_pay1 (iblk m c 0 t) (iblk m c 1 t)) (iblk m c 0 u) (iblk m c 1 u)) := by
  have e := congrArg Prod.fst (outsAt0_B m c u (by omega) (by omega))
  rw [outs_congr m c (show u.val - 1 = t.val by omega) _ t.isLt, pair_acc m c t h] at e
  dsimp only at e
  rw [out_last] at e
  exact e

/-- **The kernel's result at an entry**: the sum over all rows of the products of the two operands' columns. -/
theorem kernel_entry (p : Fin 4) (r q : Fin 1024) :
    res m c (ix3 p r q) = ∑ k : Fin 4096, inp m c (ix2 k r) * cot m c (ix2 k ⟨1024 * p.val + q.val, by omega⟩) := by
  have hp : pt2Of (ix3 p r q) = 2 * p.val + 1 := by
    show 2 * (1 * (p.val / 1 - 0) + 1 * (r.val / 1024 - 0) + 1 * (q.val / 1024 - 0)) + 1 = _
    omega
  have hl : loc2Of (ix3 p r q) = ix3 0 r q := funext fun a => Fin.ext (by
    match a with
    | ⟨0, _⟩ => exact Nat.mod_one _
    | ⟨1, _⟩ => exact Nat.mod_eq_of_lt r.isLt
    | ⟨2, _⟩ => exact Nat.mod_eq_of_lt q.isLt)
  have hN : cfg0.N = 8 := N_0
  have hb : 2 * p.val + 1 < cfg0.N := by omega
  have ha : 2 * p.val < cfg0.N := by omega
  have e : res m c (ix3 p r q) = (outsAt0 m c (2 * p.val + 1) hb).1 (ix3 0 r q) := by
    have hb' : pt2Of (ix3 p r q) < cfg0.N := hp.symm ▸ hb
    refine (dif_pos hb').trans ?_
    rw [hl, outsAt0_sweep]
    exact congrFun (congrArg Prod.fst (fold0_congr m c _ _ _ _ hp)) _
  rw [e, pair_out m c ⟨2 * p.val, ha⟩ ⟨2 * p.val + 1, hb⟩ rfl (by dsimp only; omega)]
  have e3 : ∀ v : Vec Ideal S1024x1024 .f32, (k0_pay3 v (ix3 0 r q) : EReal) = v (ix2 r q) := fun v => by
    unfold k0_pay3
    simp only [pointwise]
  rw [e3, step_apply, step_apply, zero_apply, zero_add, ← Mat.sum_halves]
  refine congrArg₂ (· + ·) (Finset.sum_congr rfl fun k _ => ?_) (Finset.sum_congr rfl fun k _ => ?_)
  · rw [blk0, blk1]
    have h1 : 2 * p.val % 2 = 0 := by omega
    have h2 : 2 * p.val / 2 = p.val := by omega
    simp only [h1, h2, Nat.mul_zero, Nat.zero_add]
  · rw [blk0, blk1]
    have h1 : (2 * p.val + 1) % 2 = 1 := by omega
    have h2 : (2 * p.val + 1) / 2 = p.val := by omega
    simp only [h1, h2, Nat.mul_one]

/-- The inputs are the first argument. -/
theorem inp_eq : inp m c = (m ((c.tc : Thread nD τ).loc main_arg0) : S4096x1024.Idx → EReal) := by
  unfold inp V
  after_results
  rfl

/-- The cotangents are the second argument. -/
theorem cot_eq : cot m c = (m ((c.tc : Thread nD τ).loc main_arg1) : S4096x4096.Idx → EReal) := by
  unfold cot V
  after_results
  rfl

end Cert.Dw1

namespace Cert.Dw1.Ref

open Cert.Reference4Ideal Cert.Reference4Ideal.Gen
open Idealize.ShloMosaic Idealize.ShloMosaic.TcCoe

/-- **The reference's result at an entry**: the cotangents' columns against the inputs' columns, in the shards'
    layout. -/
theorem entry (h : S4096x1024.Idx → EReal) (d : S4096x4096.Idx → EReal) (p : Fin 4) (r q : Fin 1024) :
    (truncf (F := Ideal) .bf16 (transpose S4x1024x1024 [1, 0, 2] (shapeCast S1024x4x1024 (transpose S1024x4096 [1, 0]
      (Host.dotGeneral (F := Ideal) (φ₁ := .f32) (φ₂ := .f32) dot_S4096x4096_S4096x1024_S4096x1024_0_0_1_1_n_n none d h)
      transposes_S4096x1024_S1024x4096_1_0) shapeCasts_S1024x4096_S1024x4x1024) transposes_S1024x4x1024_S4x1024x1024_1_0_2)
      bitsLt_bf16_f32 (ix3 p r q) : EReal)
      = ∑ k : Fin 4096, h (ix2 k r) * d (ix2 k ⟨1024 * p.val + q.val, by omega⟩) := by
  simp only [pointwise]
  refine (zero_add _).trans (Finset.sum_congr rfl fun k _ => ?_)
  rw [mul_comm]
  simp only [Nat.mul_comm p.val 1024]

end Cert.Dw1.Ref

end
-- ==== Proof.MlpClaims.lean ====
/- The claims of the MLP's backward products: the frames of their references, and the equality of results. -/
module

public import proofs.«01_k».proof.Defs
public import proofs.«01_k».proof.Proof.Dact
public import proofs.«01_k».proof.Proof.Dw2
public import proofs.«01_k».proof.Proof.Dw1

@[expose] public section

set_option maxRecDepth 16384

noncomputable section

namespace Cert.Mlp

open Idealize.ShloMosaic Idealize.SL.Sem

attribute [local instance] Kernel2Ideal.Gen.facts Reference2Ideal.Gen.facts Kernel3Ideal.Gen.facts Reference3Ideal.Gen.facts
  Kernel4Ideal.Gen.facts Reference4Ideal.Gen.facts

section

variable {nD : ℕ} {τ : Topo} {sig : RefSig} {Val : EltTy → Type} {Λ : Labels} {defs : Defs nD τ sig Val Λ}
  {p : (c : Thread nD τ) → Prog (TpuEff nD τ sig Val Λ c.2) PUnit} {s : MemSt nD τ sig Val}

/-- A program that declares no counter ends with what its run says of each device, and with all counters zero. -/
theorem quiet {Q R : Dev nD → PUnit × MemSt nD τ sig Val → Prop} (n : sig.nSem + sig.nDmaSem = 0)
    (h : θ_run defs p s fun r => ∀ c, Q c r) (hq : ∀ c r, Q c r → R c r) :
    θ_run defs p s fun r => (∀ c, R c r) ∧ r.2.sem = fun _ => 0 :=
  (θ_run defs p s).mono (fun r h => ⟨fun c => hq c r (h c), sem_eq_zero_of_no_sems n r.2⟩) h

/-- A run whose result on each device is known ends with every value equal to that result. -/
theorem answers {ℓ : Dev nD → Loc nD τ sig} {w v : (c : Dev nD) → Buf Val (ℓ c)} {B : Dev nD → PUnit × MemSt nD τ sig Val → Prop}
    (h : θ_run defs p s fun r => ∀ c, r.2.mem (ℓ c) = w c ∧ B c r) (e : ∀ c, w c = v c) :
    θ_run defs p s fun r => ∀ c, r.2.mem (ℓ c) = v c ∧ B c r :=
  (θ_run defs p s).mono (fun r h c => ⟨(h c).1.trans (e c), (h c).2⟩) h

end

/-- Every execution of the reference for the hidden layer's gradient ends, its arguments as they were and all
    counters zero. -/
theorem frame_reference2 : quiescent_Reference2Ideal := fun m g _ =>
  quiet (by decide) (Reference2Ideal.Value.run m g) fun _ _ h => h.2

/-- The same of the reference for the second weight's gradient. -/
theorem frame_reference3 : quiescent_Reference3Ideal := fun m g _ =>
  quiet (by decide) (Reference3Ideal.Value.run m g) fun _ _ h => h.2

/-- The same of the reference for the first weight's gradient. -/
theorem frame_reference4 : quiescent_Reference4Ideal := fun m g _ =>
  quiet (by decide) (Reference4Ideal.Value.run m g) fun _ _ h => h.2

/-- A rank-two array is given by its entries. -/
theorem ext2 {a b : ℕ} {f g : (⟨2, ![a, b]⟩ : Shape).Idx → EReal} (h : ∀ i j, f (ix2 i j) = g (ix2 i j)) : f = g :=
  funext fun i => by
    have e : i = ix2 (i 0) (i 1) := funext fun x => by match x with | ⟨0, _⟩ => rfl | ⟨1, _⟩ => rfl
    rw [e]; exact h _ _

/-- A rank-three array is given by its entries. -/
theorem ext3 {a b d : ℕ} {f g : (⟨3, ![a, b, d]⟩ : Shape).Idx → EReal} (h : ∀ i j k, f (ix3 i j k) = g (ix3 i j k)) : f = g :=
  funext fun i => by
    have e : i = ix3 (i 0) (i 1) (i 2) := funext fun x => by match x with | ⟨0, _⟩ => rfl | ⟨1, _⟩ => rfl | ⟨2, _⟩ => rfl
    rw [e]; exact h _ _ _

/-- **The gradient that reaches the hidden layer**: kernel and reference leave the same result. -/
theorem algebraic2 : Cert.algebraic_Kernel2Ideal_Reference2Ideal := fun m g m' g' _ hargs =>
  ⟨fun c => Cert.Dact.res m c,
    (θ_run Cert.Kernel2Ideal.defs _ _).mono (fun r h c => h c) (Cert.Kernel2Ideal.Value.run_blocks (F := Ideal) m g),
    (θ_run Cert.Reference2Ideal.defs _ _).mono (fun r h c => ⟨(h c).1.trans (ext2 fun i j => by
        refine Eq.trans ?_ (Cert.Dact.kernel_arg m c i j).symm
        refine (Cert.Dact.Ref.entry _ _ _ i j).trans ?_
        rw [(hargs c).1, (hargs c).2.1, (hargs c).2.2]
        rfl), (h c).2⟩)
      (Cert.Reference2Ideal.Value.run (F := Ideal) m' g')⟩

/-- **The second weight's gradient**: kernel and reference leave the same result. -/
theorem algebraic3 : Cert.algebraic_Kernel3Ideal_Reference3Ideal := fun m g m' g' _ hargs =>
  ⟨fun c => Cert.Dw2.res m c,
    (θ_run Cert.Kernel3Ideal.defs _ _).mono (fun r h c => h c) (Cert.Kernel3Ideal.Value.run (F := Ideal) m g),
    (θ_run Cert.Reference3Ideal.defs _ _).mono (fun r h c => ⟨(h c).1.trans (ext3 fun p i j => by
        refine Eq.trans ?_ (Cert.Dw2.kernel_entry m c p i j).symm
        rw [Cert.Dw2.act_eq, Cert.Dw2.cot_eq]
        refine (Cert.Dw2.Ref.entry _ _ p i j).trans ?_
        rw [(hargs c).1, (hargs c).2]), (h c).2⟩)
      (Cert.Reference3Ideal.Value.run (F := Ideal) m' g')⟩

/-- **The first weight's gradient**: kernel and reference leave the same result. -/
theorem algebraic4 : Cert.algebraic_Kernel4Ideal_Reference4Ideal := fun m g m' g' _ hargs =>
  ⟨fun c => Cert.Dw1.res m c,
    (θ_run Cert.Kernel4Ideal.defs _ _).mono (fun r h c => h c) (Cert.Kernel4Ideal.Value.run (F := Ideal) m g),
    (θ_run Cert.Reference4Ideal.defs _ _).mono (fun r h c => ⟨(h c).1.trans (ext3 fun p i j => by
        refine Eq.trans ?_ (Cert.Dw1.kernel_entry m c p i j).symm
        rw [Cert.Dw1.inp_eq, Cert.Dw1.cot_eq]
        refine (Cert.Dw1.Ref.entry _ _ p i j).trans ?_
        rw [(hargs c).1, (hargs c).2]), (h c).2⟩)
      (Cert.Reference4Ideal.Value.run (F := Ideal) m' g')⟩

end Cert.Mlp

end
-- ==== Proof.NormBwd.lean ====
/- The backward pass of a row's scaling to unit mean square: the closed form that a tile computes, and the form in which
   the product and chain rules give it. The two agree for every row, infinite entries included. -/
module

public import proofs.«01_k».proof.Proof.MatKit

@[expose] public section

noncomputable section

namespace Cert.Mat

open Idealize.ShloMosaic

/-- A sum over 4096 terms is the sum over the four tiles, added up in order. -/
theorem sum_tiles (f : Fin 4096 → EReal) :
    (((∑ r : Fin 1024, f ⟨1024 * (0 : Fin 4).val + r.val, by omega⟩) + (∑ r : Fin 1024, f ⟨1024 * (1 : Fin 4).val + r.val, by omega⟩))
      + (∑ r : Fin 1024, f ⟨1024 * (2 : Fin 4).val + r.val, by omega⟩)) + (∑ r : Fin 1024, f ⟨1024 * (3 : Fin 4).val + r.val, by omega⟩)
      = ∑ i, f i := by
  rw [← sum_quarters]
  have z : ∀ r : Fin 1024, (⟨1024 * (0 : Fin 4).val + r.val, by omega⟩ : Fin 4096) = ⟨r.val, by omega⟩ := fun r => Fin.ext (Nat.zero_add _)
  simp only [z]
  rfl

/-- A result that stays as it is through the steps of a tile before its last, takes the first tile's part at that tile's last step
    and gets a later tile's part added at that tile's last step, is the sum of the four parts after the last step of all. -/
theorem gather {K N : ℕ} (hK : 2 ≤ K) (hN : N = 4 * K) (g : Fin N → EReal) (part : Fin 4 → EReal)
    (keep : ∀ t u : Fin N, u.val = t.val + 1 → ¬u.val % K = K - 1 → g u = g t)
    (first : ∀ t u : Fin N, u.val = t.val + 1 → u.val = K - 1 → g u = part 0)
    (later : ∀ (p : Fin 4) (t u : Fin N), u.val = t.val + 1 → u.val = K * p.val + (K - 1) → 0 < p.val → g u = g t + part p)
    (u : Fin N) (hu : u.val = 4 * K - 1) : g u = ((part 0 + part 1) + part 2) + part 3 := by
  have stay : ∀ (b i : ℕ), i < K - 1 → ∀ t u : Fin N, t.val + 1 = K * b → u.val = K * b + i → g u = g t := by
    intro b i
    induction i with
    | zero =>
      intro hi t u ht hu
      exact keep t u (by omega) (by rw [hu, Nat.add_zero, Nat.mul_mod_right]; omega)
    | succ i ih =>
      intro hi t u ht hu
      have h : K * b + i < N := by have := u.isLt; omega
      rw [keep ⟨K * b + i, h⟩ u hu (by rw [hu, Nat.mul_add_mod, Nat.mod_eq_of_lt (by omega : i + 1 < K)]; omega)]
      exact ih (by omega) t _ ht rfl
  have step : ∀ (p : Fin 4) (t u : Fin N), 0 < p.val → t.val + 1 = K * p.val → u.val = K * p.val + (K - 1) → g u = g t + part p := by
    intro p t u h0 ht hu
    have h : K * p.val + (K - 2) < N := by have := u.isLt; omega
    rw [later p ⟨K * p.val + (K - 2), h⟩ u (by dsimp only; omega) hu h0, stay p.val (K - 2) (by omega) t _ ht rfl]
  have h0 : K - 1 < N := by omega
  have h1 : 2 * K - 1 < N := by omega
  have h2 : 3 * K - 1 < N := by omega
  rw [step 3 ⟨3 * K - 1, h2⟩ u (by decide) (by show 3 * K - 1 + 1 = K * 3; omega) (by show u.val = K * 3 + (K - 1); omega),
    step 2 ⟨2 * K - 1, h1⟩ ⟨3 * K - 1, h2⟩ (by decide) (by show 2 * K - 1 + 1 = K * 2; omega) (by show 3 * K - 1 = K * 2 + (K - 1); omega),
    step 1 ⟨K - 1, h0⟩ ⟨2 * K - 1, h1⟩ (by decide) (by show K - 1 + 1 = K * 1; omega) (by show 2 * K - 1 = K * 1 + (K - 1); omega),
    first ⟨K - 2, by omega⟩ ⟨K - 1, h0⟩ (by dsimp only; omega) rfl]

theorem ofBits_1024 : Ideal.ofBits .f32 0x44800000#32 = ((1024 : ℝ) : EReal) := by
  simp [Ideal.ofBits, Ideal.ieee, -EReal.coe_mul]; norm_num

theorem ofBits_half : Ideal.ofBits .f32 0xBF000000#32 = -(((1 : ℝ) / 2 : ℝ) : EReal) := by
  simp [Ideal.ofBits, Ideal.ieee, -EReal.coe_mul]; norm_num

/-- The small constant is a positive real. -/
theorem ofBits_small : ∃ e : ℝ, 0 < e ∧ Ideal.ofBits .f32 0x358637BD#32 = (e : EReal) := by
  refine ⟨_, ?_, by simp [Ideal.ofBits, Ideal.ieee, -EReal.coe_mul]; rfl⟩
  norm_num

/-- The root's argument: a row's mean square plus the small constant. -/
def msq (x : Fin 1024 → EReal) : EReal :=
  Ideal.div (∑ k, x k * x k) (Ideal.ofBits .f32 0x44800000#32) + Ideal.ofBits .f32 0x358637BD#32

/-- A row's scale. -/
def rms (x : Fin 1024 → EReal) : EReal := Ideal.rsqrt (msq x)

theorem unit_eq (x : Fin 1024 → EReal) (j : Fin 1024) : unit x j = x j * rms x := rfl

/-- What a tile adds up for a row x: the gradient d that comes past the layer, and the scaled row's gradient b without its
    part along the scaled row. -/
def back (x b : Fin 1024 → EReal) (d : EReal) (j : Fin 1024) : EReal :=
  d + rms x * (b j - unit x j * Ideal.div (∑ k, b k * unit x k) (Ideal.ofBits .f32 0x44800000#32))

/-- Division by 1024 is the product with a real number. -/
theorem div_1024 (y : EReal) : Ideal.div y (Ideal.ofBits .f32 0x44800000#32) = y * ((1024⁻¹ : ℝ) : EReal) := by
  rw [ofBits_1024]
  unfold Ideal.div
  rw [if_neg (by norm_num), EReal.coe_inv]

theorem sq_nonneg (x : EReal) : 0 ≤ x * x := by
  rcases le_total 0 x with h | h
  · exact mul_nonneg h h
  · have := mul_nonneg (EReal.neg_nonneg.mpr h) (EReal.neg_nonneg.mpr h)
    rwa [neg_mul_neg] at this

/-- The scale is a real number, at least zero, and the scale over the root's argument is its cube. -/
theorem rms_real (x : Fin 1024 → EReal) :
    ∃ r : ℝ, 0 ≤ r ∧ rms x = (r : EReal) ∧ Ideal.div (rms x) (msq x) = ((r * r * r : ℝ) : EReal) := by
  obtain ⟨e, he, hs⟩ := ofBits_small
  have hm : ((e : ℝ) : EReal) ≤ msq x := by
    unfold msq
    rw [div_1024, hs]
    have : (0 : EReal) ≤ (∑ k, x k * x k) * ((1024⁻¹ : ℝ) : EReal) :=
      mul_nonneg (Finset.sum_nonneg fun k _ => sq_nonneg _) (EReal.coe_nonneg.mpr (by norm_num))
    simpa using add_le_add_left this ((e : ℝ) : EReal)
  unfold rms
  generalize msq x = v at hm
  induction v with
  | bot => exact absurd hm (by simp)
  | top => exact ⟨0, le_refl _, rfl, by simp [Ideal.div, Ideal.rsqrt]⟩
  | coe v =>
    have hv : 0 < v := lt_of_lt_of_le he (EReal.coe_le_coe_iff.mp hm)
    have hr : Ideal.rsqrt (v : EReal) = (((Real.sqrt v)⁻¹ : ℝ) : EReal) := by
      show (if v < 0 then ⊥ else if v = 0 then ⊤ else (((Real.sqrt v)⁻¹ : ℝ) : EReal)) = _
      rw [if_neg (not_lt.mpr hv.le), if_neg hv.ne']
    refine ⟨(Real.sqrt v)⁻¹, by positivity, hr, ?_⟩
    rw [hr]
    unfold Ideal.div
    rw [if_neg (by exact_mod_cast hv.ne'), ← EReal.coe_inv, ← EReal.coe_mul]
    congr 1
    have : v⁻¹ = (Real.sqrt v)⁻¹ * (Real.sqrt v)⁻¹ := by rw [← mul_inv, Real.mul_self_sqrt hv.le]
    rw [this, mul_assoc]

/-- A product with a real number that is at least zero goes through a sum. -/
theorem sum_mul_real {r : ℝ} (hr : 0 ≤ r) (f : Fin 1024 → EReal) : (∑ k, f k * (r : EReal)) = (∑ k, f k) * (r : EReal) := by
  have h : ∀ s : Finset (Fin 1024), (∑ k ∈ s, f k * (r : EReal)) = (∑ k ∈ s, f k) * (r : EReal) := fun s => by
    induction s using Finset.cons_induction with
    | empty => simp
    | cons a s ha ih =>
      rw [Finset.sum_cons, Finset.sum_cons, ih, mul_comm _ (r : EReal), mul_comm _ (r : EReal), mul_comm _ (r : EReal),
        EReal.left_distrib_of_nonneg_of_ne_top (EReal.coe_nonneg.mpr hr) (EReal.coe_ne_top r)]
  exact h _

/-- **The closed form is what the product and chain rules give**: through the scaled row directly, and through the root
    twice, once for each factor of the square. -/
theorem back_eq (x b : Fin 1024 → EReal) (d : EReal) (j : Fin 1024) :
    ((d + b j * rms x)
        + x j * Ideal.div ((∑ k, x k * b k) * (Ideal.ofBits .f32 0xBF000000#32 * Ideal.div (rms x) (msq x)))
            (Ideal.ofBits .f32 0x44800000#32))
      + Ideal.div ((∑ k, x k * b k) * (Ideal.ofBits .f32 0xBF000000#32 * Ideal.div (rms x) (msq x)))
            (Ideal.ofBits .f32 0x44800000#32) * x j = back x b d j := by
  obtain ⟨r, hr, e, ec⟩ := rms_real x
  have hu : (∑ k, b k * unit x k) = (∑ k, x k * b k) * (r : EReal) := by
    rw [← sum_mul_real hr]
    exact Finset.sum_congr rfl fun k _ => by rw [unit_eq, e, ← mul_assoc, mul_comm (b k)]
  unfold back
  rw [hu, unit_eq, ec, e, div_1024, div_1024, ofBits_half, sub_eq_add_neg,
    EReal.left_distrib_of_nonneg_of_ne_top (EReal.coe_nonneg.mpr hr) (EReal.coe_ne_top r), mul_comm (b j)]
  generalize (∑ k, x k * b k) = p
  have h1 : p * (-(((1 : ℝ) / 2 : ℝ) : EReal) * ((r * r * r : ℝ) : EReal)) * ((1024⁻¹ : ℝ) : EReal)
      = -(p * ((1 / 2 * (r * r * r) * 1024⁻¹ : ℝ) : EReal)) := by
    rw [EReal.coe_mul (1 / 2 * (r * r * r)) 1024⁻¹, EReal.coe_mul (1 / 2) (r * r * r)]
    simp only [EReal.neg_mul, mul_neg, mul_assoc]
  have h2 : (r : EReal) * -(x j * (r : EReal) * (p * (r : EReal) * ((1024⁻¹ : ℝ) : EReal)))
      = -(x j * p * ((r * r * r * 1024⁻¹ : ℝ) : EReal)) := by
    rw [EReal.coe_mul, EReal.coe_mul, EReal.coe_mul, mul_neg]
    congr 1
    ac_rfl
  have h3 : ((r * r * r * 1024⁻¹ : ℝ) : EReal)
      = ((1 / 2 * (r * r * r) * 1024⁻¹ : ℝ) : EReal) + ((1 / 2 * (r * r * r) * 1024⁻¹ : ℝ) : EReal) := by
    rw [← EReal.coe_add]
    congr 1
    ring
  have hc : (0 : EReal) ≤ ((1 / 2 * (r * r * r) * 1024⁻¹ : ℝ) : EReal) := EReal.coe_nonneg.mpr (by positivity)
  rw [h1, h2, h3, EReal.left_distrib_of_nonneg hc hc, mul_comm (-_) (x j), mul_neg, ← mul_assoc]
  generalize x j * p * ((1 / 2 * (r * r * r) * 1024⁻¹ : ℝ) : EReal) = t
  rw [add_assoc, add_assoc]
  have ht : t ≠ ⊥ ∨ t ≠ ⊤ := by
    by_cases h : t = ⊥
    · exact Or.inr (by simp [h])
    · exact Or.inl h
  rw [EReal.neg_add ht ht.symm, sub_eq_add_neg]

end Cert.Mat

end
-- ==== Proof.Dh.lean ====
/- The gradient of an MLP's input through its norm: what the tiled backward product computes, and the reference's form of it. -/
module

public import proofs.«01_k».proof.Proof.NormBwd
public import proofs.«01_k».proof.Proof.Gen.Kernel5Ideal.Value
public import proofs.«01_k».proof.Proof.Gen.Reference5Ideal.Run
public import Idealize.ShloMosaic.Lib.Pointwise
public import Idealize.ShloMosaic.Lib.Tactic

@[expose] public section

set_option maxRecDepth 16384

noncomputable section

namespace Cert.Dh

open Cert.Kernel5Ideal Cert.Kernel5Ideal.Gen Cert.Kernel5Ideal.Value
open Idealize.ShloMosaic Idealize.ShloMosaic.TcCoe Idealize.ShloMosaic.Tactic
open Idealize.SL Idealize.SL.Sem

/-- The first step of a tile leaves, in the accumulator, the product of the two blocks over a zero start. -/
theorem acc_first (c i a3 h3 a4 h4 a5 h5 a6 h6 a7 h7 a8 h8 a9 h9 a10 h10 a11 h11 hc0 hc1) (x y v d g) :
    sout0_A_0 (F := Ideal) c i a3 h3 a4 h4 a5 h5 a6 h6 a7 h7 a8 h8 a9 h9 a10 h10 a11 h11 hc0 hc1 x y v d g = k0_pay2 k0_pay1 x y := by
  unfold sout0_A_0
  rw [View.read_writes_eq_canon _ _ _ (scover0_A_0 c i a3 h3 a4 h4 a5 h5 a6 h6 a7 h7 a8 h8 a9 h9 a10 h10 a11 h11 hc0 hc1 x y v d g)]
  unfold kernelRun0_A
  dsimp only
  sl_unfold_words
  rw [View.canon_cons_unit_zero (S := S1024x1024) Mat.off2, View.readCov_unit_zero (S := S1024x1024) _ Mat.off2]
  simp only [View.readAt_eq_ld, h3.read_unread, h4.read_unread, View.ld_unit_zero (S := S1024x1024) Mat.off2,
    View.ld_unit_zero (S := S1x1024x1024) Mat.off3]

/-- A middle step adds the product of its two blocks to the accumulator. -/
theorem acc_mid (c i a3 h3 a4 h4 a5 h5 a6 h6 a7 h7 a8 h8 a9 h9 a10 h10 a11 h11 hc0 hc1) (x y v d g s) :
    sout0_B_0 (F := Ideal) c i a3 h3 a4 h4 a5 h5 a6 h6 a7 h7 a8 h8 a9 h9 a10 h10 a11 h11 hc0 hc1 x y v d g s = k0_pay2 s x y := by
  unfold sout0_B_0
  rw [View.read_writes_eq_canon _ _ _ (scover0_B_0 c i a3 h3 a4 h4 a5 h5 a6 h6 a7 h7 a8 h8 a9 h9 a10 h10 a11 h11 hc0 hc1 x y v d g s)]
  unfold kernelRun0_B
  dsimp only
  sl_unfold_words
  rw [View.canon_unit_zero (S := S1024x1024) Mat.off2]
  simp only [View.readAt_eq_ld, h3.read_unread, h4.read_unread, h11.read_unread, View.ld_unit_zero (S := S1024x1024) Mat.off2,
    View.ld_unit_zero (S := S1x1024x1024) Mat.off3]

/-- The last step of the first tile stores the tile's part of the three results, from the finished accumulator. -/
theorem out_c (c i a3 h3 a4 h4 a5 h5 a6 h6 a7 h7 a8 h8 a9 h9 a10 h10 a11 h11 hc0 hc1 hc2 hc3) (x y v d g s) :
    out0_C_5 (F := Ideal) c i a3 h3 a4 h4 a5 h5 a6 h6 a7 h7 a8 h8 a9 h9 a10 h10 a11 h11 hc0 hc1 hc2 hc3 x y v d g s = k0_pay6 (k0_pay2 s x y) v d g
      ∧ out0_C_6 (F := Ideal) c i a3 h3 a4 h4 a5 h5 a6 h6 a7 h7 a8 h8 a9 h9 a10 h10 a11 h11 hc0 hc1 hc2 hc3 x y v d g s = k0_pay8 (k0_pay2 s x y) v d g
      ∧ out0_C_7 (F := Ideal) c i a3 h3 a4 h4 a5 h5 a6 h6 a7 h7 a8 h8 a9 h9 a10 h10 a11 h11 hc0 hc1 hc2 hc3 x y v d g s = k0_pay7 (k0_pay2 s x y) v := by
  unfold out0_C_5 out0_C_6 out0_C_7
  rw [View.read_writes_eq_canon _ _ _ (cover0_C_5 c i a3 h3 a4 h4 a5 h5 a6 h6 a7 h7 a8 h8 a9 h9 a10 h10 a11 h11 hc0 hc1 hc2 hc3 x y v d g s),
    View.read_writes_eq_canon _ _ _ (cover0_C_6 c i a3 h3 a4 h4 a5 h5 a6 h6 a7 h7 a8 h8 a9 h9 a10 h10 a11 h11 hc0 hc1 hc2 hc3 x y v d g s),
    View.read_writes_eq_canon _ _ _ (cover0_C_7 c i a3 h3 a4 h4 a5 h5 a6 h6 a7 h7 a8 h8 a9 h9 a10 h10 a11 h11 hc0 hc1 hc2 hc3 x y v d g s)]
  unfold kernelRun0_C
  dsimp only
  sl_unfold_words
  simp only [View.canon_unit_zero (S := S1024x1024) Mat.off2, View.canon_unit_zero (S := S1x1024) Mat.off2,
    View.readCov_unit_zero (S := S1024x1024) _ Mat.off2, View.readAt_eq_ld, h3.read_unread, h4.read_unread, h5.read_unread, h6.read_unread,
    h7.read_unread, h10.read_unread, h11.read_unread, View.ld_unit_zero (S := S1024x1024) Mat.off2,
    View.ld_unit_zero (S := S1x1024x1024) Mat.off3, View.ld_unit_zero (S := S1x1024) Mat.off2, and_self]

/-- The last step of a later tile stores the same, and adds its part of the third to what the earlier tiles left. -/
theorem out_d (c i a3 h3 a4 h4 a5 h5 a6 h6 a7 h7 a8 h8 a9 h9 a10 h10 a11 h11 hc0 hc1 hc2 hc3) (x y v d g o s) :
    out0_D_5 (F := Ideal) c i a3 h3 a4 h4 a5 h5 a6 h6 a7 h7 a8 h8 a9 h9 a10 h10 a11 h11 hc0 hc1 hc2 hc3 x y v d g o s = k0_pay6 (k0_pay2 s x y) v d g
      ∧ out0_D_6 (F := Ideal) c i a3 h3 a4 h4 a5 h5 a6 h6 a7 h7 a8 h8 a9 h9 a10 h10 a11 h11 hc0 hc1 hc2 hc3 x y v d g o s = k0_pay8 (k0_pay2 s x y) v d g
      ∧ out0_D_7 (F := Ideal) c i a3 h3 a4 h4 a5 h5 a6 h6 a7 h7 a8 h8 a9 h9 a10 h10 a11 h11 hc0 hc1 hc2 hc3 x y v d g o s = k0_pay3 (k0_pay7 (k0_pay2 s x y) v) o := by
  unfold out0_D_5 out0_D_6 out0_D_7
  rw [View.read_writes_eq_canon _ _ _ (cover0_D_5 c i a3 h3 a4 h4 a5 h5 a6 h6 a7 h7 a8 h8 a9 h9 a10 h10 a11 h11 hc0 hc1 hc2 hc3 x y v d g o s),
    View.read_writes_eq_canon _ _ _ (cover0_D_6 c i a3 h3 a4 h4 a5 h5 a6 h6 a7 h7 a8 h8 a9 h9 a10 h10 a11 h11 hc0 hc1 hc2 hc3 x y v d g o s),
    View.read_writes_eq_canon _ _ _ (cover0_D_7 c i a3 h3 a4 h4 a5 h5 a6 h6 a7 h7 a8 h8 a9 h9 a10 h10 a11 h11 hc0 hc1 hc2 hc3 x y v d g o s)]
  unfold kernelRun0_D
  dsimp only
  sl_unfold_words
  simp only [View.canon_unit_zero (S := S1024x1024) Mat.off2, View.canon_unit_zero (S := S1x1024) Mat.off2,
    View.readCov_unit_zero (S := S1024x1024) _ Mat.off2, View.readAt_eq_ld, h3.read_unread, h4.read_unread, h5.read_unread, h6.read_unread,
    h7.read_unread, h10.read_unread, h11.read_unread, View.ld_unit_zero (S := S1024x1024) Mat.off2,
    View.ld_unit_zero (S := S1x1024x1024) Mat.off3, View.ld_unit_zero (S := S1x1024) Mat.off2, and_self]

/-- The product of two blocks at an entry: both are contracted along their second axis. -/
theorem prod_apply (x y : S1024x1024.Idx → EReal) (r q : Fin 1024) :
    (matmul (F := Ideal) (φ₁ := .bf16) (φ₂ := .bf16) dot_S1024x1024_S1024x1024_S1024x1024_1_1_0_0_n_n none x y
      (constant S1024x1024 .f32 0x00000000#32) (ix2 r q) : EReal) = ∑ k : Fin 1024, x (ix2 r k) * y (ix2 q k) := by
  simp only [pointwise, zero_add]

/-- An accumulating step at an entry. -/
theorem step_apply (s : Vec Ideal S1024x1024 .f32) (x : Vec Ideal S1024x1024 .bf16) (y : Vec Ideal S1x1024x1024 .bf16) (r q : Fin 1024) :
    k0_pay2 s x y (ix2 r q) = (s (ix2 r q) : EReal) + ∑ k : Fin 1024, (x (ix2 r k) : EReal) * y (ix3 0 q k) := by
  unfold k0_pay2
  simp only [shapeCast_self]
  refine congrArg (fun e : EReal => (s (ix2 r q) : EReal) + e) ((prod_apply x _ r q).trans ?_)
  exact Finset.sum_congr rfl fun k _ => congrArg (fun e : EReal => (x (ix2 r k) : EReal) * e) (by simp only [pointwise])

/-- The zero start. -/
theorem zero_apply (i : S1024x1024.Idx) : (k0_pay1 (F := Ideal) i : EReal) = 0 := by
  unfold k0_pay1
  simp only [shapeCast_self]
  exact Ideal.ofBits_zero_f32

/-- A row's scale, and the scaled row. -/
theorem rms_apply (v : Vec Ideal S1024x1024 .f32) (r : Fin 1024) :
    (k0_pay4 v (ix2 r 0) : EReal) = Mat.rms fun k => (v (ix2 r k) : EReal) := by
  unfold k0_pay4 Mat.rms Mat.msq
  simp only [pointwise, zero_add]

theorem unit_apply (v : Vec Ideal S1024x1024 .f32) (r q : Fin 1024) :
    (k0_pay5 v (ix2 r q) : EReal) = Mat.unit (fun k => (v (ix2 r k) : EReal)) q := by
  unfold k0_pay5
  simp only [pointwise]
  exact congrArg (fun e : EReal => (v (ix2 r q) : EReal) * e) (rms_apply v r)

/-- The first result's tile at an entry. -/
theorem tot_apply (s v d : Vec Ideal S1024x1024 .f32) (g : Vec Ideal S1x1024 .f32) (r q : Fin 1024) :
    (k0_pay6 s v d g (ix2 r q) : EReal)
      = Mat.back (fun k => (v (ix2 r k) : EReal)) (fun k => (s (ix2 r k) : EReal) * (g (ix2 0 k) : EReal)) (d (ix2 r q)) q := by
  unfold k0_pay6 Mat.back
  simp only [← unit_apply, ← rms_apply]
  simp only [pointwise, zero_add]
  rfl

/-- A tile's part of the third result at an entry. -/
theorem gain_apply (s v : Vec Ideal S1024x1024 .f32) (q : Fin 1024) :
    (k0_pay7 s v (ix2 0 q) : EReal) = ∑ r : Fin 1024, (s (ix2 r q) : EReal) * Mat.unit (fun k => (v (ix2 r k) : EReal)) q := by
  unfold k0_pay7
  simp only [pointwise, unit_apply, zero_add]

/-- A later tile's part of the third result is added to what is there. -/
theorem add_apply (y o : Vec Ideal S1x1024 .f32) (q : Fin 1024) :
    (k0_pay3 y o (ix2 0 q) : EReal) = (o (ix2 0 q) : EReal) + y (ix2 0 q) := by
  unfold k0_pay3
  simp only [shapeCast_self]
  rfl

variable (m : (ℓ : Loc nD τ sig) → Buf (Elt Ideal) ℓ) (c : Dev nD)

theorem at0 : ∀ t : Fin cfg0.N, win0_0.index t 0 = t.val / 4 ∧ win0_0.index t 1 = t.val % 4 := by decide +kernel
theorem at1 : ∀ t : Fin cfg0.N, win0_1.index t 0 = t.val % 4 ∧ win0_1.index t 1 = 0 ∧ win0_1.index t 2 = 0 := by decide +kernel
theorem at2 : ∀ t : Fin cfg0.N, win0_2.index t 0 = t.val / 4 ∧ win0_2.index t 1 = 0 := by decide +kernel
theorem at3 : ∀ t : Fin cfg0.N, win0_3.index t 0 = t.val / 4 ∧ win0_3.index t 1 = 0 := by decide +kernel
theorem at4 : ∀ t : Fin cfg0.N, win0_4.index t 0 = 0 ∧ win0_4.index t 1 = 0 := by decide +kernel
theorem pts (t : Fin cfg0.N) : t.val < 16 := lt_of_lt_of_eq t.isLt (show cfg0.N = 16 from N_0)

/-- The five arguments (the norm's input, its gains, the weight, the hidden layer's gradient, the gradient that comes past
    the layer), the weight as the kernel holds it, and the three result arrays. -/
def argX : S4096x1024.Idx → EReal := m ((c.tc : Thread nD τ).loc main_arg0)
def argG : S1x1024.Idx → EReal := m ((c.tc : Thread nD τ).loc main_arg1)
def argW : S1024x4096.Idx → EReal := m ((c.tc : Thread nD τ).loc main_arg2)
def argZ : S4096x4096.Idx → EReal := m ((c.tc : Thread nD τ).loc main_arg3)
def argD : S4096x1024.Idx → EReal := m ((c.tc : Thread nD τ).loc main_arg4)
def wts : S4x1024x1024.Idx → EReal := V m c main_v3
def tot : S4096x1024.Idx → EReal := G5 m c
def low : S4096x1024.Idx → EReal := G6 m c
def gain : S1x1024.Idx → EReal := G7 m c

theorem z_eq : (V m c main_v0 : S4096x4096.Idx → EReal) = argZ m c := by unfold V; after_results; rfl
theorem x_eq : (V m c main_arg0 : S4096x1024.Idx → EReal) = argX m c := by unfold V; after_results; rfl
theorem d_eq : (V m c main_arg4 : S4096x1024.Idx → EReal) = argD m c := by unfold V; after_results; rfl
theorem g_eq : (V m c main_arg1 : S1x1024.Idx → EReal) = argG m c := by unfold V; after_results; rfl

theorem wts_eq (p : Fin 4) (q k : Fin 1024) : wts m c (ix3 p q k) = argW m c (ix2 q ⟨1024 * p.val + k.val, by omega⟩) := by
  have e : wts m c = transpose S4x1024x1024 [1, 0, 2] (shapeCast S1024x4x1024 (truncf (F := Ideal) .bf16
      (m ((c.tc : Thread nD τ).loc main_arg2)) bitsLt_bf16_f32) shapeCasts_S1024x4096_S1024x4x1024)
      transposes_S1024x4x1024_S4x1024x1024_1_0_2 := by
    unfold wts V
    after_results
    rfl
  rw [e]
  simp only [pointwise]
  simp only [Nat.mul_comm p.val 1024]
  rfl

/-- The blocks a step reads. -/
theorem blk0 (t : Fin cfg0.N) (r k : Fin 1024) : (iblk m c 0 t (ix2 r k) : EReal) = argZ m c
    (ix2 ⟨1024 * (t.val / 4) + r.val, by have := pts t; omega⟩ ⟨1024 * (t.val % 4) + k.val, by omega⟩) := by
  rw [← z_eq]
  unfold iblk
  refine congrArg (V m c main_v0 : S4096x4096.Idx → EReal) (Mat.idx2 ?_ ?_)
  · show win0_0.index t 0 * 1024 + 1 * r.val = 1024 * (t.val / 4) + r.val; rw [(at0 t).1]; omega
  · show win0_0.index t 1 * 1024 + 1 * k.val = 1024 * (t.val % 4) + k.val; rw [(at0 t).2]; omega

theorem blk1 (t : Fin cfg0.N) (q k : Fin 1024) : (iblk m c 1 t (ix3 0 q k) : EReal) = argW m c
    (ix2 q ⟨1024 * (t.val % 4) + k.val, by omega⟩) := by
  refine Eq.trans ?_ (wts_eq m c ⟨t.val % 4, by omega⟩ q k)
  unfold iblk
  refine congrArg (wts m c) (Mat.idx3 ?_ ?_ ?_)
  · show win0_1.index t 0 * 1 + 1 * 0 = t.val % 4; rw [(at1 t).1]; omega
  · show win0_1.index t 1 * 1024 + 1 * q.val = q.val; rw [(at1 t).2.1]; omega
  · show win0_1.index t 2 * 1024 + 1 * k.val = k.val; rw [(at1 t).2.2]; omega

theorem blk2 (t : Fin cfg0.N) (r q : Fin 1024) : (iblk m c 2 t (ix2 r q) : EReal) = argX m c
    (ix2 ⟨1024 * (t.val / 4) + r.val, by have := pts t; omega⟩ q) := by
  rw [← x_eq]
  unfold iblk
  refine congrArg (V m c main_arg0 : S4096x1024.Idx → EReal) (Mat.idx2 ?_ ?_)
  · show win0_2.index t 0 * 1024 + 1 * r.val = 1024 * (t.val / 4) + r.val; rw [(at2 t).1]; omega
  · show win0_2.index t 1 * 1024 + 1 * q.val = q.val; rw [(at2 t).2]; omega

theorem blk3 (t : Fin cfg0.N) (r q : Fin 1024) : (iblk m c 3 t (ix2 r q) : EReal) = argD m c
    (ix2 ⟨1024 * (t.val / 4) + r.val, by have := pts t; omega⟩ q) := by
  rw [← d_eq]
  unfold iblk
  refine congrArg (V m c main_arg4 : S4096x1024.Idx → EReal) (Mat.idx2 ?_ ?_)
  · show win0_3.index t 0 * 1024 + 1 * r.val = 1024 * (t.val / 4) + r.val; rw [(at3 t).1]; omega
  · show win0_3.index t 1 * 1024 + 1 * q.val = q.val; rw [(at3 t).2]; omega

theorem blk4 (t : Fin cfg0.N) (q : Fin 1024) : (iblk m c 4 t (ix2 0 q) : EReal) = argG m c (ix2 0 q) := by
  rw [← g_eq]
  unfold iblk
  refine congrArg (V m c main_arg1 : S1x1024.Idx → EReal) (Mat.idx2 ?_ ?_)
  · show win0_4.index t 0 * 1 + 1 * 0 = 0; rw [(at4 t).1]
  · show win0_4.index t 1 * 1024 + 1 * q.val = q.val; rw [(at4 t).2]; omega

/-- What is left after a step depends on the step's number alone. -/
theorem outs_congr {n n' : ℕ} (h : n = n') (hn : n < cfg0.N) (hn' : n' < cfg0.N) : outsAt0 m c n hn = outsAt0 m c n' hn' := by
  subst h; rfl

/-- The accumulator after the first step of a tile, and after a middle step. -/
theorem acc_a (t : Fin cfg0.N) (h : t.val % 4 = 0) :
    (outsAt0 m c t.val t.isLt).2.2.2 = k0_pay2 k0_pay1 (iblk m c 0 t) (iblk m c 1 t) := by
  have e := congrArg (fun p => p.2.2.2) (outsAt0_A m c t h (by omega))
  dsimp only at e
  rw [acc_first] at e
  exact e

theorem acc_b (t u : Fin cfg0.N) (hu : u.val = t.val + 1) (h0 : ¬u.val % 4 = 0) (h1 : ¬u.val % 4 = 3) :
    (outsAt0 m c u.val u.isLt).2.2.2 = k0_pay2 (outsAt0 m c t.val t.isLt).2.2.2 (iblk m c 0 u) (iblk m c 1 u) := by
  have e := congrArg (fun p => p.2.2.2) (outsAt0_B m c u h0 h1)
  rw [outs_congr m c (show u.val - 1 = t.val by omega) _ t.isLt] at e
  dsimp only at e
  rw [acc_mid] at e
  exact e

/-- The third result stays as it is through the steps of a tile before its last. -/
theorem keep (t u : Fin cfg0.N) (hu : u.val = t.val + 1) (h1 : ¬u.val % 4 = 3) :
    (outsAt0 m c u.val u.isLt).2.2.1 = (outsAt0 m c t.val t.isLt).2.2.1 := by
  rw [← outs_congr m c (show u.val - 1 = t.val by omega) (by omega) t.isLt]
  by_cases h0 : u.val % 4 = 0
  · exact congrArg (fun p => p.2.2.1) (outsAt0_A m c u h0 h1)
  · exact congrArg (fun p => p.2.2.1) (outsAt0_B m c u h0 h1)

/-- The finished accumulator of a step, were it the last of its tile. -/
def fin (t u : Fin cfg0.N) : Vec Ideal S1024x1024 .f32 := k0_pay2 (outsAt0 m c t.val t.isLt).2.2.2 (iblk m c 0 u) (iblk m c 1 u)

/-- The blocks stored after the last step of a tile. -/
theorem out_last (t u : Fin cfg0.N) (hu : u.val = t.val + 1) (h1 : u.val % 4 = 3) :
    (outsAt0 m c u.val u.isLt).1 = k0_pay6 (fin m c t u) (iblk m c 2 u) (iblk m c 3 u) (iblk m c 4 u)
      ∧ (outsAt0 m c u.val u.isLt).2.1 = k0_pay8 (fin m c t u) (iblk m c 2 u) (iblk m c 3 u) (iblk m c 4 u)
      ∧ (outsAt0 m c u.val u.isLt).2.2.1 = if u.val < 4 then k0_pay7 (fin m c t u) (iblk m c 2 u)
          else k0_pay3 (k0_pay7 (fin m c t u) (iblk m c 2 u)) (outsAt0 m c t.val t.isLt).2.2.1 := by
  by_cases h2 : u.val < 4
  · have e := outsAt0_C m c u (by omega) h1 h2 (by omega)
    rw [outs_congr m c (show u.val - 1 = t.val by omega) _ t.isLt, (out_c ..).1, (out_c ..).2.1, (out_c ..).2.2] at e
    rw [e, if_pos h2]
    exact ⟨rfl, rfl, rfl⟩
  · have e := outsAt0_D m c u (by omega) h1 h2 (by omega)
    rw [outs_congr m c (show u.val - 1 = t.val by omega) _ t.isLt, (out_d ..).1, (out_d ..).2.1, (out_d ..).2.2] at e
    rw [e, if_neg h2]
    exact ⟨rfl, rfl, rfl⟩

/-- The gradient of the scaled row times the gains: the product at an entry. -/
def prd (i : Fin 4096) (q : Fin 1024) : EReal := ∑ k : Fin 4096, argZ m c (ix2 i k) * argW m c (ix2 q k)

/-- A row of the norm's input. -/
def row (i : Fin 4096) : Fin 1024 → EReal := fun k => argX m c (ix2 i k)

/-- The finished accumulator of a tile. -/
theorem acc_tile (p : Fin 4) (t u : Fin cfg0.N) (ht : t.val = 4 * p.val + 2) (hu : u.val = 4 * p.val + 3) (r q : Fin 1024) :
    (fin m c t u (ix2 r q) : EReal) = prd m c ⟨1024 * p.val + r.val, by omega⟩ q := by
  have hN : cfg0.N = 16 := N_0
  have ha : 4 * p.val < cfg0.N := by omega
  have hb : 4 * p.val + 1 < cfg0.N := by omega
  unfold fin
  rw [acc_b m c ⟨4 * p.val + 1, hb⟩ t (by dsimp only; omega) (by omega) (by omega),
    acc_b m c ⟨4 * p.val, ha⟩ ⟨4 * p.val + 1, hb⟩ rfl (by dsimp only; omega) (by dsimp only; omega),
    acc_a m c ⟨4 * p.val, ha⟩ (by dsimp only; omega)]
  rw [step_apply, step_apply, step_apply, step_apply, zero_apply, zero_add]
  unfold prd
  rw [← Mat.sum_quarters]
  refine congrArg₂ (· + ·) (congrArg₂ (· + ·) (congrArg₂ (· + ·) ?_ ?_) ?_) ?_ <;> refine Finset.sum_congr rfl fun k _ => ?_ <;>
    rw [blk0, blk1] <;> simp only [ht, hu, Mat.quarters, Nat.mul_zero, Nat.mul_one, Nat.zero_add] <;> rfl

/-- The first result's tile at an entry; the second is the same. -/
theorem tile_tot (p : Fin 4) (t u : Fin cfg0.N) (ht : t.val = 4 * p.val + 2) (hu : u.val = 4 * p.val + 3) (r q : Fin 1024) :
    (k0_pay6 (fin m c t u) (iblk m c 2 u) (iblk m c 3 u) (iblk m c 4 u) (ix2 r q) : EReal)
      = Mat.back (row m c ⟨1024 * p.val + r.val, by omega⟩)
          (fun k => prd m c ⟨1024 * p.val + r.val, by omega⟩ k * argG m c (ix2 0 k)) (argD m c (ix2 ⟨1024 * p.val + r.val, by omega⟩ q)) q := by
  have d3 : u.val / 4 = p.val := by omega
  rw [tot_apply]
  simp only [acc_tile m c p t u ht hu, blk2, blk3, blk4, d3]
  rfl

/-- A tile's part of the third result. -/
def part (p : Fin 4) (q : Fin 1024) : EReal :=
  ∑ r : Fin 1024, prd m c ⟨1024 * p.val + r.val, by omega⟩ q * Mat.unit (row m c ⟨1024 * p.val + r.val, by omega⟩) q

theorem tile_gain (p : Fin 4) (t u : Fin cfg0.N) (ht : t.val = 4 * p.val + 2) (hu : u.val = 4 * p.val + 3) (q : Fin 1024) :
    (k0_pay7 (fin m c t u) (iblk m c 2 u) (ix2 0 q) : EReal) = part m c p q := by
  have d3 : u.val / 4 = p.val := by omega
  rw [gain_apply]
  simp only [acc_tile m c p t u ht hu, blk2, d3]
  rfl

/-- **The kernel's third result at an entry**: the gradient of the gains. -/
theorem kernel_gain (q : Fin 1024) : gain m c (ix2 0 q) = ∑ i : Fin 4096, prd m c i q * Mat.unit (row m c i) q := by
  have hN : cfg0.N = 16 := N_0
  have h15 : 15 < cfg0.N := by omega
  refine Eq.trans ?_ ((Mat.gather (K := 4) (by omega) hN (fun n => (outsAt0 m c n.val n.isLt).2.2.1 (ix2 0 q)) (fun p => part m c p q)
    (fun t u hu h => congrFun (keep m c t u hu h) _) (fun t u hu h => ?_) (fun p t u hu h h0 => ?_) ⟨15, h15⟩ rfl).trans ?_)
  · unfold gain
    rw [G7_last, outsAt0_sweep]
  · rw [(out_last m c t u hu (by omega)).2.2, if_pos (by omega)]
    exact tile_gain m c 0 t u (by show t.val = 4 * 0 + 2; omega) (by show u.val = 4 * 0 + 3; omega) q
  · rw [(out_last m c t u hu (by omega)).2.2, if_neg (by omega)]
    exact (add_apply _ _ q).trans (congrArg (fun e : EReal => (outsAt0 m c t.val t.isLt).2.2.1 (ix2 0 q) + e)
      (tile_gain m c p t u (by omega) (by omega) q))
  · unfold part
    exact Mat.sum_tiles fun i => prd m c i q * Mat.unit (row m c i) q

/-- **The kernel's first two results at an entry**: the gradient of the norm's input. -/
theorem kernel_tot (i : Fin 4096) (q : Fin 1024) :
    tot m c (ix2 i q) = Mat.back (row m c i) (fun k => prd m c i k * argG m c (ix2 0 k)) (argD m c (ix2 i q)) q
      ∧ low m c (ix2 i q) = Mat.back (row m c i) (fun k => prd m c i k * argG m c (ix2 0 k)) (argD m c (ix2 i q)) q := by
  have hN : cfg0.N = 16 := N_0
  obtain ⟨p, r, rfl⟩ : ∃ p : Fin 4, ∃ r : Fin 1024, i = ⟨1024 * p.val + r.val, by omega⟩ :=
    ⟨⟨i.val / 1024, by omega⟩, ⟨i.val % 1024, by omega⟩, Fin.ext (Nat.div_add_mod _ _).symm⟩
  have ha : 4 * p.val + 2 < cfg0.N := by omega
  have hb : 4 * p.val + 3 < cfg0.N := by omega
  have hp : pt5Of (ix2 ⟨1024 * p.val + r.val, by omega⟩ q) = 4 * p.val + 3 := by
    show 4 * (1 * ((1024 * p.val + r.val) / 1024 - 0) + 1 * (q.val / 1024 - 0)) + 3 = _
    omega
  have hl : loc5Of (ix2 ⟨1024 * p.val + r.val, by omega⟩ q) = ix2 r q := Mat.idx2
    (by show (1024 * p.val + r.val) % 1024 = r.val; omega) (Nat.mod_eq_of_lt q.isLt)
  have f := (outsAt0_sweep m c _ hb).trans (fold0_congr m c _ (by rw [hp, Nat.zero_add]; exact hb) _ _ hp).symm
  have o := out_last m c ⟨4 * p.val + 2, ha⟩ ⟨4 * p.val + 3, hb⟩ rfl (by dsimp only; omega)
  constructor
  · refine (dif_pos (hp.symm ▸ hb)).trans ?_
    rw [hl, ← f, o.1]
    exact tile_tot m c p _ _ rfl rfl r q
  · have hq : pt6Of (ix2 ⟨1024 * p.val + r.val, by omega⟩ q) = 4 * p.val + 3 := hp
    refine (dif_pos (hq.symm ▸ hb)).trans ?_
    refine (congrArg _ hl).trans ?_
    rw [← f, o.2.1]
    exact tile_tot m c p _ _ rfl rfl r q

end Cert.Dh

namespace Cert.Dh.Ref

open Cert.Reference5Ideal Cert.Reference5Ideal.Gen
open Idealize.ShloMosaic Idealize.ShloMosaic.TcCoe

/-! The reference's results, of the norm's input x, the product y of the hidden layer's gradient with the transposed weight, and
the gradient d that comes past the layer; b is y times the gains. -/

/-- The roots' arguments, one for each row. -/
def root (x : S4096x1024.Idx → EReal) : S4096x1.Idx → EReal :=
  addf (F := Ideal) (φ := .f32) (Host.divf (F := Ideal) (φ := .f32) (broadcastInDim S4096x1 ![0] bcast_S4096_S4096x1_0
    (Host.reduceAdd (F := Ideal) (φ := .f32) (mulf (F := Ideal) (φ := .f32) x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))

/-- What a row's entries get through the root. -/
def coef (x b : S4096x1024.Idx → EReal) : S4096.Idx → EReal :=
  Host.reduceAdd (F := Ideal) (φ := .f32) (Host.divf (F := Ideal) (φ := .f32) (mulf (F := Ideal) (φ := .f32) (shapeCast S4096x1
    (Host.reduceAdd (F := Ideal) (φ := .f32) (mulf (F := Ideal) (φ := .f32) x b) (constant S_ .f32 0x00000000#32) reducesTo_S4096x1024_S4096_d1 h_S_)
    shapeCasts_S4096_S4096x1) (mulf (F := Ideal) (φ := .f32) (broadcastInDim S4096x1 ![] bcast_S_S4096x1 (constant S_ .f32 0xBF000000#32))
      (Host.divf (F := Ideal) (φ := .f32) (Host.rsqrt (F := Ideal) (φ := .f32) (root x)) (root x))))
    (broadcastInDim S4096x1 ![] bcast_S_S4096x1 (constant S_ .f32 0x44800000#32))) (constant S_ .f32 0x00000000#32) reducesTo_S4096x1_S4096_d1 h_S_

/-- The gradient of x. -/
def total (x b d : S4096x1024.Idx → EReal) : S4096x1024.Idx → EReal :=
  addf (F := Ideal) (φ := .f32) (addf (F := Ideal) (φ := .f32) (addf (F := Ideal) (φ := .f32) d (mulf (F := Ideal) (φ := .f32) b
    (broadcastInDim S4096x1024 ![0, 1] bcast_S4096x1_S4096x1024_0_1 (Host.rsqrt (F := Ideal) (φ := .f32) (root x)))))
    (mulf (F := Ideal) (φ := .f32) x (broadcastInDim S4096x1024 ![0] bcast_S4096_S4096x1024_0 (coef x b))))
    (mulf (F := Ideal) (φ := .f32) (broadcastInDim S4096x1024 ![0] bcast_S4096_S4096x1024_0 (coef x b)) x)

/-- The gradient of the gains. -/
def gains (x y : S4096x1024.Idx → EReal) : S1x1024.Idx → EReal :=
  shapeCast S1x1024 (Host.reduceAdd (F := Ideal) (φ := .f32) (mulf (F := Ideal) (φ := .f32) (mulf (F := Ideal) (φ := .f32) x
    (broadcastInDim S4096x1024 ![0, 1] bcast_S4096x1_S4096x1024_0_1 (Host.rsqrt (F := Ideal) (φ := .f32) (root x)))) y)
    (constant S_ .f32 0x00000000#32) reducesTo_S4096x1024_S1024_d0 h_S_) shapeCasts_S1024_S1x1024

theorem root_apply (x : S4096x1024.Idx → EReal) (i : Fin 4096) : root x (ix2 i 0) = Mat.msq fun k => x (ix2 i k) := by
  unfold root Mat.msq
  simp only [pointwise, zero_add]
  rfl

theorem coef_apply (x b : S4096x1024.Idx → EReal) (i : Fin 4096) :
    coef x b (ix1 i) = Ideal.div ((∑ k, x (ix2 i k) * b (ix2 i k)) * (Ideal.ofBits .f32 0xBF000000#32
      * Ideal.div (Mat.rms fun k => x (ix2 i k)) (Mat.msq fun k => x (ix2 i k)))) (Ideal.ofBits .f32 0x44800000#32) := by
  unfold coef Mat.rms
  simp only [← root_apply]
  simp only [pointwise, zero_add]
  exact Fin.sum_univ_one _

/-- **The gradient of x at an entry**, in the closed form. -/
theorem total_apply (x b d : S4096x1024.Idx → EReal) (i : Fin 4096) (j : Fin 1024) :
    total x b d (ix2 i j) = Mat.back (fun k => x (ix2 i k)) (fun k => b (ix2 i k)) (d (ix2 i j)) j := by
  rw [← Mat.back_eq, ← coef_apply]
  unfold total Mat.rms
  rw [← root_apply]
  simp only [pointwise]
  rfl

/-- **The gradient of the gains at an entry**. -/
theorem gains_apply (x y : S4096x1024.Idx → EReal) (j : Fin 1024) :
    gains x y (ix2 0 j) = ∑ i : Fin 4096, y (ix2 i j) * Mat.unit (fun k => x (ix2 i k)) j := by
  unfold gains
  simp only [Mat.unit_eq, Mat.rms, ← root_apply]
  simp only [pointwise, zero_add]
  exact Finset.sum_congr rfl fun i _ => mul_comm _ _

/-- The product of the reference at an entry. -/
theorem prod (z : S4096x4096.Idx → EReal) (w : S1024x4096.Idx → EReal) (i : Fin 4096) (j : Fin 1024) :
    (Host.dotGeneral (F := Ideal) (φ₁ := .f32) (φ₂ := .f32) dot_S4096x4096_S1024x4096_S4096x1024_1_1_0_0_n_n none z w (ix2 i j) : EReal)
      = ∑ k : Fin 4096, z (ix2 i k) * w (ix2 j k) := by
  simp only [pointwise, zero_add]

/-- A product times the gains, one for each column. -/
def scaled (y : S4096x1024.Idx → EReal) (g : S1x1024.Idx → EReal) : S4096x1024.Idx → EReal :=
  mulf (F := Ideal) (φ := .f32) y (broadcastInDim S4096x1024 ![0, 1] bcast_S1x1024_S4096x1024_0_1 g)

theorem scaled_apply (y : S4096x1024.Idx → EReal) (g : S1x1024.Idx → EReal) (i : Fin 4096) (j : Fin 1024) :
    scaled y g (ix2 i j) = y (ix2 i j) * g (ix2 0 j) := by
  unfold scaled
  simp only [pointwise]
  rfl

/-- **The reference's gradients at an entry**, of the product's entries. -/
theorem grads (x d y : S4096x1024.Idx → EReal) (g : S1x1024.Idx → EReal) (P : Fin 4096 → Fin 1024 → EReal) (p : ∀ i j, y (ix2 i j) = P i j) :
    (∀ i j, total x (scaled y g) d (ix2 i j) = Mat.back (fun k => x (ix2 i k)) (fun k => P i k * g (ix2 0 k)) (d (ix2 i j)) j)
      ∧ ∀ j, gains x y (ix2 0 j) = ∑ i, P i j * Mat.unit (fun k => x (ix2 i k)) j := by
  refine ⟨fun i j => (total_apply x _ d i j).trans ?_, fun j => (gains_apply x y j).trans ?_⟩
  · exact congrArg (fun b => Mat.back _ b _ j) (funext fun k => (scaled_apply y g i k).trans (congrArg (fun e : EReal => e * g (ix2 0 k)) (p i k)))
  · exact Finset.sum_congr rfl fun i _ => congrArg (fun e : EReal => e * _) (p i j)

end Cert.Dh.Ref

end
-- ==== Proof.LruDh.lean ====
/- The gradient of the linear recurrence's input through its norm: what the tiled backward product computes. The norm's part is the
   one of an MLP's. -/
module

public import proofs.«01_k».proof.Proof.Dh
public import proofs.«01_k».proof.Proof.Gen.Kernel12Ideal.Value
public import proofs.«01_k».proof.Proof.Gen.Reference12Ideal.Run

@[expose] public section

set_option maxRecDepth 16384

noncomputable section

namespace Cert.LruDh

open Cert.Kernel12Ideal Cert.Kernel12Ideal.Gen Cert.Kernel12Ideal.Value
open Idealize.ShloMosaic Idealize.ShloMosaic.TcCoe Idealize.ShloMosaic.Tactic
open Idealize.SL Idealize.SL.Sem

/-- The first step of a tile leaves, in the accumulator, the product of the two blocks over a zero start. -/
theorem acc_first (c i a3 h3 a4 h4 a5 h5 a6 h6 a7 h7 a8 h8 a9 h9 a10 h10 hc0 hc1) (x y v d g) :
    sout0_A_0 (F := Ideal) c i a3 h3 a4 h4 a5 h5 a6 h6 a7 h7 a8 h8 a9 h9 a10 h10 hc0 hc1 x y v d g = k0_pay2 k0_pay1 x y := by
  unfold sout0_A_0
  rw [View.read_writes_eq_canon _ _ _ (scover0_A_0 c i a3 h3 a4 h4 a5 h5 a6 h6 a7 h7 a8 h8 a9 h9 a10 h10 hc0 hc1 x y v d g)]
  unfold kernelRun0_A
  dsimp only
  sl_unfold_words
  rw [View.canon_cons_unit_zero (S := S1024x1024) Mat.off2, View.readCov_unit_zero (S := S1024x1024) _ Mat.off2]
  simp only [View.readAt_eq_ld, h3.read_unread, h4.read_unread, View.ld_unit_zero (S := S1024x1024) Mat.off2,
    View.ld_unit_zero (S := S1024x512) Mat.off2, View.ld_unit_zero (S := S1x1024x512) Mat.off3]

/-- A middle step adds the product of its two blocks to the accumulator. -/
theorem acc_mid (c i a3 h3 a4 h4 a5 h5 a6 h6 a7 h7 a8 h8 a9 h9 a10 h10 hc0 hc1) (x y v d g s) :
    sout0_B_0 (F := Ideal) c i a3 h3 a4 h4 a5 h5 a6 h6 a7 h7 a8 h8 a9 h9 a10 h10 hc0 hc1 x y v d g s = k0_pay2 s x y := by
  unfold sout0_B_0
  rw [View.read_writes_eq_canon _ _ _ (scover0_B_0 c i a3 h3 a4 h4 a5 h5 a6 h6 a7 h7 a8 h8 a9 h9 a10 h10 hc0 hc1 x y v d g s)]
  unfold kernelRun0_B
  dsimp only
  sl_unfold_words
  rw [View.canon_unit_zero (S := S1024x1024) Mat.off2]
  simp only [View.readAt_eq_ld, h3.read_unread, h4.read_unread, h10.read_unread, View.ld_unit_zero (S := S1024x1024) Mat.off2,
    View.ld_unit_zero (S := S1024x512) Mat.off2, View.ld_unit_zero (S := S1x1024x512) Mat.off3]

/-- The last step of the first tile stores the tile's part of the two results, from the finished accumulator. -/
theorem out_c (c i a3 h3 a4 h4 a5 h5 a6 h6 a7 h7 a8 h8 a9 h9 a10 h10 hc0 hc1 hc2 hc3) (x y v d g s) :
    out0_C_5 (F := Ideal) c i a3 h3 a4 h4 a5 h5 a6 h6 a7 h7 a8 h8 a9 h9 a10 h10 hc0 hc1 hc2 hc3 x y v d g s = k0_pay5 (k0_pay2 s x y) v d g
      ∧ out0_C_6 (F := Ideal) c i a3 h3 a4 h4 a5 h5 a6 h6 a7 h7 a8 h8 a9 h9 a10 h10 hc0 hc1 hc2 hc3 x y v d g s = k0_pay6 (k0_pay2 s x y) v := by
  unfold out0_C_5 out0_C_6
  rw [View.read_writes_eq_canon _ _ _ (cover0_C_5 c i a3 h3 a4 h4 a5 h5 a6 h6 a7 h7 a8 h8 a9 h9 a10 h10 hc0 hc1 hc2 hc3 x y v d g s),
    View.read_writes_eq_canon _ _ _ (cover0_C_6 c i a3 h3 a4 h4 a5 h5 a6 h6 a7 h7 a8 h8 a9 h9 a10 h10 hc0 hc1 hc2 hc3 x y v d g s)]
  unfold kernelRun0_C
  dsimp only
  sl_unfold_words
  simp only [View.canon_unit_zero (S := S1024x1024) Mat.off2, View.canon_unit_zero (S := S1x1024) Mat.off2,
    View.readCov_unit_zero (S := S1024x1024) _ Mat.off2, View.readAt_eq_ld, h3.read_unread, h4.read_unread, h5.read_unread, h6.read_unread,
    h7.read_unread, h9.read_unread, h10.read_unread, View.ld_unit_zero (S := S1024x1024) Mat.off2,
    View.ld_unit_zero (S := S1024x512) Mat.off2, View.ld_unit_zero (S := S1x1024x512) Mat.off3, View.ld_unit_zero (S := S1x1024) Mat.off2, and_self]

/-- The last step of a later tile stores the same, and adds its part of the second to what the earlier tiles left. -/
theorem out_d (c i a3 h3 a4 h4 a5 h5 a6 h6 a7 h7 a8 h8 a9 h9 a10 h10 hc0 hc1 hc2 hc3) (x y v d g o s) :
    out0_D_5 (F := Ideal) c i a3 h3 a4 h4 a5 h5 a6 h6 a7 h7 a8 h8 a9 h9 a10 h10 hc0 hc1 hc2 hc3 x y v d g o s = k0_pay5 (k0_pay2 s x y) v d g
      ∧ out0_D_6 (F := Ideal) c i a3 h3 a4 h4 a5 h5 a6 h6 a7 h7 a8 h8 a9 h9 a10 h10 hc0 hc1 hc2 hc3 x y v d g o s = k0_pay7 (k0_pay2 s x y) v o := by
  unfold out0_D_5 out0_D_6
  rw [View.read_writes_eq_canon _ _ _ (cover0_D_5 c i a3 h3 a4 h4 a5 h5 a6 h6 a7 h7 a8 h8 a9 h9 a10 h10 hc0 hc1 hc2 hc3 x y v d g o s),
    View.read_writes_eq_canon _ _ _ (cover0_D_6 c i a3 h3 a4 h4 a5 h5 a6 h6 a7 h7 a8 h8 a9 h9 a10 h10 hc0 hc1 hc2 hc3 x y v d g o s)]
  unfold kernelRun0_D
  dsimp only
  sl_unfold_words
  simp only [View.canon_unit_zero (S := S1024x1024) Mat.off2, View.canon_unit_zero (S := S1x1024) Mat.off2,
    View.readCov_unit_zero (S := S1024x1024) _ Mat.off2, View.readAt_eq_ld, h3.read_unread, h4.read_unread, h5.read_unread, h6.read_unread,
    h7.read_unread, h9.read_unread, h10.read_unread, View.ld_unit_zero (S := S1024x1024) Mat.off2,
    View.ld_unit_zero (S := S1024x512) Mat.off2, View.ld_unit_zero (S := S1x1024x512) Mat.off3, View.ld_unit_zero (S := S1x1024) Mat.off2, and_self]

/-- The product of two blocks at an entry: both are contracted along their second axis. -/
theorem prod_apply (x y : S1024x512.Idx → EReal) (r q : Fin 1024) :
    (matmul (F := Ideal) (φ₁ := .bf16) (φ₂ := .bf16) dot_S1024x512_S1024x512_S1024x1024_1_1_0_0_n_n none x y
      (constant S1024x1024 .f32 0x00000000#32) (ix2 r q) : EReal) = ∑ k : Fin 512, x (ix2 r k) * y (ix2 q k) := by
  simp only [pointwise, zero_add]

/-- An accumulating step at an entry. -/
theorem step_apply (s : Vec Ideal S1024x1024 .f32) (x : Vec Ideal S1024x512 .bf16) (y : Vec Ideal S1x1024x512 .bf16) (r q : Fin 1024) :
    k0_pay2 s x y (ix2 r q) = (s (ix2 r q) : EReal) + ∑ k : Fin 512, (x (ix2 r k) : EReal) * y (ix3 0 q k) := by
  unfold k0_pay2
  simp only [shapeCast_self]
  refine congrArg (fun e : EReal => (s (ix2 r q) : EReal) + e) ((prod_apply x _ r q).trans ?_)
  exact Finset.sum_congr rfl fun k _ => congrArg (fun e : EReal => (x (ix2 r k) : EReal) * e) (by simp only [pointwise])

/-- The zero start. -/
theorem zero_apply (i : S1024x1024.Idx) : (k0_pay1 (F := Ideal) i : EReal) = 0 := Dh.zero_apply i

variable (m : (ℓ : Loc nD τ sig) → Buf (Elt Ideal) ℓ) (c : Dev nD)

theorem at0 : ∀ t : Fin cfg0.N, win0_0.index t 0 = t.val / 4 ∧ win0_0.index t 1 = t.val % 4 := by decide +kernel
theorem at1 : ∀ t : Fin cfg0.N, win0_1.index t 0 = t.val % 4 ∧ win0_1.index t 1 = 0 ∧ win0_1.index t 2 = 0 := by decide +kernel
theorem at2 : ∀ t : Fin cfg0.N, win0_2.index t 0 = t.val / 4 ∧ win0_2.index t 1 = 0 := by decide +kernel
theorem at3 : ∀ t : Fin cfg0.N, win0_3.index t 0 = t.val / 4 ∧ win0_3.index t 1 = 0 := by decide +kernel
theorem at4 : ∀ t : Fin cfg0.N, win0_4.index t 0 = 0 ∧ win0_4.index t 1 = 0 := by decide +kernel
theorem pts (t : Fin cfg0.N) : t.val < 16 := lt_of_lt_of_eq t.isLt (show cfg0.N = 16 from N_0)

/-- The five arguments (the norm's input, its gains, the weight, the gradient of the product, the gradient that comes past
    the layer), the weight as the kernel holds it, and the two result arrays. -/
def argX : S4096x1024.Idx → EReal := m ((c.tc : Thread nD τ).loc main_arg0)
def argG : S1x1024.Idx → EReal := m ((c.tc : Thread nD τ).loc main_arg1)
def argW : S1024x2048.Idx → EReal := m ((c.tc : Thread nD τ).loc main_arg2)
def argZ : S4096x2048.Idx → EReal := m ((c.tc : Thread nD τ).loc main_arg3)
def argD : S4096x1024.Idx → EReal := m ((c.tc : Thread nD τ).loc main_arg4)
def wts : S4x1024x512.Idx → EReal := V m c main_v3
def tot : S4096x1024.Idx → EReal := G5 m c
def gain : S1x1024.Idx → EReal := G6 m c

theorem z_eq : (V m c main_v0 : S4096x2048.Idx → EReal) = argZ m c := by unfold V; after_results; rfl
theorem x_eq : (V m c main_arg0 : S4096x1024.Idx → EReal) = argX m c := by unfold V; after_results; rfl
theorem d_eq : (V m c main_arg4 : S4096x1024.Idx → EReal) = argD m c := by unfold V; after_results; rfl
theorem g_eq : (V m c main_arg1 : S1x1024.Idx → EReal) = argG m c := by unfold V; after_results; rfl

theorem wts_eq (p : Fin 4) (q : Fin 1024) (k : Fin 512) : wts m c (ix3 p q k) = argW m c (ix2 q ⟨512 * p.val + k.val, by omega⟩) := by
  have e : wts m c = transpose S4x1024x512 [1, 0, 2] (shapeCast S1024x4x512 (truncf (F := Ideal) .bf16
      (m ((c.tc : Thread nD τ).loc main_arg2)) bitsLt_bf16_f32) shapeCasts_S1024x2048_S1024x4x512)
      transposes_S1024x4x512_S4x1024x512_1_0_2 := by
    unfold wts V
    after_results
    rfl
  rw [e]
  simp only [pointwise]
  simp only [Nat.mul_comm p.val 512]
  rfl

/-- The blocks a step reads. -/
theorem blk0 (t : Fin cfg0.N) (r : Fin 1024) (k : Fin 512) : (iblk m c 0 t (ix2 r k) : EReal) = argZ m c
    (ix2 ⟨1024 * (t.val / 4) + r.val, by have := pts t; omega⟩ ⟨512 * (t.val % 4) + k.val, by omega⟩) := by
  rw [← z_eq]
  unfold iblk
  refine congrArg (V m c main_v0 : S4096x2048.Idx → EReal) (Mat.idx2 ?_ ?_)
  · show win0_0.index t 0 * 1024 + 1 * r.val = 1024 * (t.val / 4) + r.val; rw [(at0 t).1]; omega
  · show win0_0.index t 1 * 512 + 1 * k.val = 512 * (t.val % 4) + k.val; rw [(at0 t).2]; omega

theorem blk1 (t : Fin cfg0.N) (q : Fin 1024) (k : Fin 512) : (iblk m c 1 t (ix3 0 q k) : EReal) = argW m c
    (ix2 q ⟨512 * (t.val % 4) + k.val, by omega⟩) := by
  refine Eq.trans ?_ (wts_eq m c ⟨t.val % 4, by omega⟩ q k)
  unfold iblk
  refine congrArg (wts m c) (Mat.idx3 ?_ ?_ ?_)
  · show win0_1.index t 0 * 1 + 1 * 0 = t.val % 4; rw [(at1 t).1]; omega
  · show win0_1.index t 1 * 1024 + 1 * q.val = q.val; rw [(at1 t).2.1]; omega
  · show win0_1.index t 2 * 512 + 1 * k.val = k.val; rw [(at1 t).2.2]; omega

theorem blk2 (t : Fin cfg0.N) (r q : Fin 1024) : (iblk m c 2 t (ix2 r q) : EReal) = argX m c
    (ix2 ⟨1024 * (t.val / 4) + r.val, by have := pts t; omega⟩ q) := by
  rw [← x_eq]
  unfold iblk
  refine congrArg (V m c main_arg0 : S4096x1024.Idx → EReal) (Mat.idx2 ?_ ?_)
  · show win0_2.index t 0 * 1024 + 1 * r.val = 1024 * (t.val / 4) + r.val; rw [(at2 t).1]; omega
  · show win0_2.index t 1 * 1024 + 1 * q.val = q.val; rw [(at2 t).2]; omega

theorem blk3 (t : Fin cfg0.N) (r q : Fin 1024) : (iblk m c 3 t (ix2 r q) : EReal) = argD m c
    (ix2 ⟨1024 * (t.val / 4) + r.val, by have := pts t; omega⟩ q) := by
  rw [← d_eq]
  unfold iblk
  refine congrArg (V m c main_arg4 : S4096x1024.Idx → EReal) (Mat.idx2 ?_ ?_)
  · show win0_3.index t 0 * 1024 + 1 * r.val = 1024 * (t.val / 4) + r.val; rw [(at3 t).1]; omega
  · show win0_3.index t 1 * 1024 + 1 * q.val = q.val; rw [(at3 t).2]; omega

theorem blk4 (t : Fin cfg0.N) (q : Fin 1024) : (iblk m c 4 t (ix2 0 q) : EReal) = argG m c (ix2 0 q) := by
  rw [← g_eq]
  unfold iblk
  refine congrArg (V m c main_arg1 : S1x1024.Idx → EReal) (Mat.idx2 ?_ ?_)
  · show win0_4.index t 0 * 1 + 1 * 0 = 0; rw [(at4 t).1]
  · show win0_4.index t 1 * 1024 + 1 * q.val = q.val; rw [(at4 t).2]; omega

/-- What is left after a step depends on the step's number alone. -/
theorem outs_congr {n n' : ℕ} (h : n = n') (hn : n < cfg0.N) (hn' : n' < cfg0.N) : outsAt0 m c n hn = outsAt0 m c n' hn' := by
  subst h; rfl

/-- The accumulator after the first step of a tile, and after a middle step. -/
theorem acc_a (t : Fin cfg0.N) (h : t.val % 4 = 0) :
    (outsAt0 m c t.val t.isLt).2.2 = k0_pay2 k0_pay1 (iblk m c 0 t) (iblk m c 1 t) := by
  have e := congrArg (fun p => p.2.2) (outsAt0_A m c t h (by omega))
  dsimp only at e
  rw [acc_first] at e
  exact e

theorem acc_b (t u : Fin cfg0.N) (hu : u.val = t.val + 1) (h0 : ¬u.val % 4 = 0) (h1 : ¬u.val % 4 = 3) :
    (outsAt0 m c u.val u.isLt).2.2 = k0_pay2 (outsAt0 m c t.val t.isLt).2.2 (iblk m c 0 u) (iblk m c 1 u) := by
  have e := congrArg (fun p => p.2.2) (outsAt0_B m c u h0 h1)
  rw [outs_congr m c (show u.val - 1 = t.val by omega) _ t.isLt] at e
  dsimp only at e
  rw [acc_mid] at e
  exact e

/-- The second result stays as it is through the steps of a tile before its last. -/
theorem keep (t u : Fin cfg0.N) (hu : u.val = t.val + 1) (h1 : ¬u.val % 4 = 3) :
    (outsAt0 m c u.val u.isLt).2.1 = (outsAt0 m c t.val t.isLt).2.1 := by
  rw [← outs_congr m c (show u.val - 1 = t.val by omega) (by omega) t.isLt]
  by_cases h0 : u.val % 4 = 0
  · exact congrArg (fun p => p.2.1) (outsAt0_A m c u h0 h1)
  · exact congrArg (fun p => p.2.1) (outsAt0_B m c u h0 h1)

/-- The finished accumulator of a step, were it the last of its tile. -/
def fin (t u : Fin cfg0.N) : Vec Ideal S1024x1024 .f32 := k0_pay2 (outsAt0 m c t.val t.isLt).2.2 (iblk m c 0 u) (iblk m c 1 u)

/-- The blocks stored after the last step of a tile. -/
theorem out_last (t u : Fin cfg0.N) (hu : u.val = t.val + 1) (h1 : u.val % 4 = 3) :
    (outsAt0 m c u.val u.isLt).1 = k0_pay5 (fin m c t u) (iblk m c 2 u) (iblk m c 3 u) (iblk m c 4 u)
      ∧ (outsAt0 m c u.val u.isLt).2.1 = if u.val < 4 then k0_pay6 (fin m c t u) (iblk m c 2 u)
          else k0_pay7 (fin m c t u) (iblk m c 2 u) (outsAt0 m c t.val t.isLt).2.1 := by
  by_cases h2 : u.val < 4
  · have e := outsAt0_C m c u (by omega) h1 h2 (by omega)
    rw [outs_congr m c (show u.val - 1 = t.val by omega) _ t.isLt, (out_c ..).1, (out_c ..).2] at e
    rw [e, if_pos h2]
    exact ⟨rfl, rfl⟩
  · have e := outsAt0_D m c u (by omega) h1 h2 (by omega)
    rw [outs_congr m c (show u.val - 1 = t.val by omega) _ t.isLt, (out_d ..).1, (out_d ..).2] at e
    rw [e, if_neg h2]
    exact ⟨rfl, rfl⟩

/-- The gradient of the scaled row times the gains: the product at an entry. -/
def prd (i : Fin 4096) (q : Fin 1024) : EReal := ∑ k : Fin 2048, argZ m c (ix2 i k) * argW m c (ix2 q k)

/-- A row of the norm's input. -/
def row (i : Fin 4096) : Fin 1024 → EReal := fun k => argX m c (ix2 i k)

/-- The finished accumulator of a tile. -/
theorem acc_tile (p : Fin 4) (t u : Fin cfg0.N) (ht : t.val = 4 * p.val + 2) (hu : u.val = 4 * p.val + 3) (r q : Fin 1024) :
    (fin m c t u (ix2 r q) : EReal) = prd m c ⟨1024 * p.val + r.val, by omega⟩ q := by
  have hN : cfg0.N = 16 := N_0
  have ha : 4 * p.val < cfg0.N := by omega
  have hb : 4 * p.val + 1 < cfg0.N := by omega
  unfold fin
  rw [acc_b m c ⟨4 * p.val + 1, hb⟩ t (by dsimp only; omega) (by omega) (by omega),
    acc_b m c ⟨4 * p.val, ha⟩ ⟨4 * p.val + 1, hb⟩ rfl (by dsimp only; omega) (by dsimp only; omega),
    acc_a m c ⟨4 * p.val, ha⟩ (by dsimp only; omega)]
  rw [step_apply, step_apply, step_apply, step_apply, zero_apply, zero_add]
  unfold prd
  rw [← Mat.sum_short]
  refine congrArg₂ (· + ·) (congrArg₂ (· + ·) (congrArg₂ (· + ·) ?_ ?_) ?_) ?_ <;> refine Finset.sum_congr rfl fun k _ => ?_ <;>
    rw [blk0, blk1] <;> simp only [ht, hu, Mat.quarters, Nat.mul_zero, Nat.mul_one, Nat.zero_add] <;> rfl

/-- The first result's tile at an entry. -/
theorem tile_tot (p : Fin 4) (t u : Fin cfg0.N) (ht : t.val = 4 * p.val + 2) (hu : u.val = 4 * p.val + 3) (r q : Fin 1024) :
    (k0_pay5 (fin m c t u) (iblk m c 2 u) (iblk m c 3 u) (iblk m c 4 u) (ix2 r q) : EReal)
      = Mat.back (row m c ⟨1024 * p.val + r.val, by omega⟩)
          (fun k => prd m c ⟨1024 * p.val + r.val, by omega⟩ k * argG m c (ix2 0 k)) (argD m c (ix2 ⟨1024 * p.val + r.val, by omega⟩ q)) q := by
  have d3 : u.val / 4 = p.val := by omega
  refine (Dh.tot_apply _ _ _ _ r q).trans ?_
  simp only [acc_tile m c p t u ht hu, blk2, blk3, blk4, d3]
  rfl

/-- A tile's part of the second result. -/
def part (p : Fin 4) (q : Fin 1024) : EReal :=
  ∑ r : Fin 1024, prd m c ⟨1024 * p.val + r.val, by omega⟩ q * Mat.unit (row m c ⟨1024 * p.val + r.val, by omega⟩) q

theorem tile_gain (p : Fin 4) (t u : Fin cfg0.N) (ht : t.val = 4 * p.val + 2) (hu : u.val = 4 * p.val + 3) (q : Fin 1024) :
    (k0_pay6 (fin m c t u) (iblk m c 2 u) (ix2 0 q) : EReal) = part m c p q := by
  have d3 : u.val / 4 = p.val := by omega
  refine (Dh.gain_apply _ _ q).trans ?_
  simp only [acc_tile m c p t u ht hu, blk2, d3]
  rfl

/-- **The kernel's second result at an entry**: the gradient of the gains. -/
theorem kernel_gain (q : Fin 1024) : gain m c (ix2 0 q) = ∑ i : Fin 4096, prd m c i q * Mat.unit (row m c i) q := by
  have hN : cfg0.N = 16 := N_0
  have h15 : 15 < cfg0.N := by omega
  refine Eq.trans ?_ ((Mat.gather (K := 4) (by omega) hN (fun n => (outsAt0 m c n.val n.isLt).2.1 (ix2 0 q)) (fun p => part m c p q)
    (fun t u hu h => congrFun (keep m c t u hu h) _) (fun t u hu h => ?_) (fun p t u hu h h0 => ?_) ⟨15, h15⟩ rfl).trans ?_)
  · unfold gain
    rw [G6_last, outsAt0_sweep]
  · rw [(out_last m c t u hu (by omega)).2, if_pos (by omega)]
    exact tile_gain m c 0 t u (by show t.val = 4 * 0 + 2; omega) (by show u.val = 4 * 0 + 3; omega) q
  · rw [(out_last m c t u hu (by omega)).2, if_neg (by omega)]
    exact (Dh.add_apply _ _ q).trans (congrArg (fun e : EReal => (outsAt0 m c t.val t.isLt).2.1 (ix2 0 q) + e)
      (tile_gain m c p t u (by omega) (by omega) q))
  · unfold part
    exact Mat.sum_tiles fun i => prd m c i q * Mat.unit (row m c i) q

/-- **The kernel's first result at an entry**: the gradient of the norm's input. -/
theorem kernel_tot (i : Fin 4096) (q : Fin 1024) :
    tot m c (ix2 i q) = Mat.back (row m c i) (fun k => prd m c i k * argG m c (ix2 0 k)) (argD m c (ix2 i q)) q := by
  have hN : cfg0.N = 16 := N_0
  obtain ⟨p, r, rfl⟩ : ∃ p : Fin 4, ∃ r : Fin 1024, i = ⟨1024 * p.val + r.val, by omega⟩ :=
    ⟨⟨i.val / 1024, by omega⟩, ⟨i.val % 1024, by omega⟩, Fin.ext (Nat.div_add_mod _ _).symm⟩
  have ha : 4 * p.val + 2 < cfg0.N := by omega
  have hb : 4 * p.val + 3 < cfg0.N := by omega
  have hp : pt5Of (ix2 ⟨1024 * p.val + r.val, by omega⟩ q) = 4 * p.val + 3 := by
    show 4 * (1 * ((1024 * p.val + r.val) / 1024 - 0) + 1 * (q.val / 1024 - 0)) + 3 = _
    omega
  have hl : loc5Of (ix2 ⟨1024 * p.val + r.val, by omega⟩ q) = ix2 r q := Mat.idx2
    (by show (1024 * p.val + r.val) % 1024 = r.val; omega) (Nat.mod_eq_of_lt q.isLt)
  have f := (outsAt0_sweep m c _ hb).trans (fold0_congr m c _ (by rw [hp, Nat.zero_add]; exact hb) _ _ hp).symm
  have o := out_last m c ⟨4 * p.val + 2, ha⟩ ⟨4 * p.val + 3, hb⟩ rfl (by dsimp only; omega)
  refine (dif_pos (hp.symm ▸ hb)).trans ?_
  rw [hl, ← f, o.1]
  exact tile_tot m c p _ _ rfl rfl r q

/-- The product of the reference at an entry. -/
theorem ref_prod (z : S4096x2048.Idx → EReal) (w : S1024x2048.Idx → EReal) (i : Fin 4096) (j : Fin 1024) :
    (Host.dotGeneral (F := Ideal) (φ₁ := .f32) (φ₂ := .f32) Reference12Ideal.dot_S4096x2048_S1024x2048_S4096x1024_1_1_0_0_n_n none z w (ix2 i j) : EReal)
      = ∑ k : Fin 2048, z (ix2 i k) * w (ix2 j k) := by
  simp only [pointwise, zero_add]

end Cert.LruDh

end
-- ==== Proof.FoxDh.lean ====
/- The gradient of the attention layer's input through its norm: what the tiled backward product computes. The norm's part is the
   one of an MLP's. -/
module

public import proofs.«01_k».proof.Proof.Dh
public import proofs.«01_k».proof.Proof.Gen.Kernel11Ideal.Value
public import proofs.«01_k».proof.Proof.Gen.Reference11Ideal.Run

@[expose] public section

set_option maxRecDepth 16384

noncomputable section

namespace Cert.FoxDh

open Cert.Kernel11Ideal Cert.Kernel11Ideal.Gen Cert.Kernel11Ideal.Value
open Idealize.ShloMosaic Idealize.ShloMosaic.TcCoe Idealize.ShloMosaic.Tactic
open Idealize.SL Idealize.SL.Sem

/-- The first step of a tile leaves, in the accumulator, the product of the two blocks over a zero start. -/
theorem acc_first (c i a3 h3 a4 h4 a5 h5 a6 h6 a7 h7 a8 h8 a9 h9 a10 h10 a11 h11 hc0 hc1) (x y v d g) :
    sout0_A_0 (F := Ideal) c i a3 h3 a4 h4 a5 h5 a6 h6 a7 h7 a8 h8 a9 h9 a10 h10 a11 h11 hc0 hc1 x y v d g = k0_pay2 k0_pay1 x y := by
  unfold sout0_A_0
  rw [View.read_writes_eq_canon _ _ _ (scover0_A_0 c i a3 h3 a4 h4 a5 h5 a6 h6 a7 h7 a8 h8 a9 h9 a10 h10 a11 h11 hc0 hc1 x y v d g)]
  unfold kernelRun0_A
  dsimp only
  sl_unfold_words
  rw [View.canon_cons_unit_zero (S := S1024x1024) Mat.off2, View.readCov_unit_zero (S := S1024x1024) _ Mat.off2]
  simp only [View.readAt_eq_ld, h3.read_unread, h4.read_unread, View.ld_unit_zero (S := S1024x1024) Mat.off2,
    View.ld_unit_zero (S := S640x1024) Mat.off2]

/-- A middle step adds the product of its two blocks to the accumulator. -/
theorem acc_mid (c i a3 h3 a4 h4 a5 h5 a6 h6 a7 h7 a8 h8 a9 h9 a10 h10 a11 h11 hc0 hc1) (x y v d g s) :
    sout0_B_0 (F := Ideal) c i a3 h3 a4 h4 a5 h5 a6 h6 a7 h7 a8 h8 a9 h9 a10 h10 a11 h11 hc0 hc1 x y v d g s = k0_pay2 s x y := by
  unfold sout0_B_0
  rw [View.read_writes_eq_canon _ _ _ (scover0_B_0 c i a3 h3 a4 h4 a5 h5 a6 h6 a7 h7 a8 h8 a9 h9 a10 h10 a11 h11 hc0 hc1 x y v d g s)]
  unfold kernelRun0_B
  dsimp only
  sl_unfold_words
  rw [View.canon_unit_zero (S := S1024x1024) Mat.off2]
  simp only [View.readAt_eq_ld, h3.read_unread, h4.read_unread, h11.read_unread, View.ld_unit_zero (S := S1024x1024) Mat.off2,
    View.ld_unit_zero (S := S640x1024) Mat.off2]

/-- The last step of the first tile stores the tile's part of the three results, from the finished accumulator. -/
theorem out_c (c i a3 h3 a4 h4 a5 h5 a6 h6 a7 h7 a8 h8 a9 h9 a10 h10 a11 h11 hc0 hc1 hc2 hc3) (x y v d g s) :
    out0_C_5 (F := Ideal) c i a3 h3 a4 h4 a5 h5 a6 h6 a7 h7 a8 h8 a9 h9 a10 h10 a11 h11 hc0 hc1 hc2 hc3 x y v d g s = k0_pay6 (k0_pay2 s x y) v d g
      ∧ out0_C_6 (F := Ideal) c i a3 h3 a4 h4 a5 h5 a6 h6 a7 h7 a8 h8 a9 h9 a10 h10 a11 h11 hc0 hc1 hc2 hc3 x y v d g s = k0_pay8 (k0_pay2 s x y) v d g
      ∧ out0_C_7 (F := Ideal) c i a3 h3 a4 h4 a5 h5 a6 h6 a7 h7 a8 h8 a9 h9 a10 h10 a11 h11 hc0 hc1 hc2 hc3 x y v d g s = k0_pay7 (k0_pay2 s x y) v := by
  unfold out0_C_5 out0_C_6 out0_C_7
  rw [View.read_writes_eq_canon _ _ _ (cover0_C_5 c i a3 h3 a4 h4 a5 h5 a6 h6 a7 h7 a8 h8 a9 h9 a10 h10 a11 h11 hc0 hc1 hc2 hc3 x y v d g s),
    View.read_writes_eq_canon _ _ _ (cover0_C_6 c i a3 h3 a4 h4 a5 h5 a6 h6 a7 h7 a8 h8 a9 h9 a10 h10 a11 h11 hc0 hc1 hc2 hc3 x y v d g s),
    View.read_writes_eq_canon _ _ _ (cover0_C_7 c i a3 h3 a4 h4 a5 h5 a6 h6 a7 h7 a8 h8 a9 h9 a10 h10 a11 h11 hc0 hc1 hc2 hc3 x y v d g s)]
  unfold kernelRun0_C
  dsimp only
  sl_unfold_words
  simp only [View.canon_unit_zero (S := S1024x1024) Mat.off2, View.canon_unit_zero (S := S1x1024) Mat.off2,
    View.readCov_unit_zero (S := S1024x1024) _ Mat.off2, View.readAt_eq_ld, h3.read_unread, h4.read_unread, h5.read_unread, h6.read_unread,
    h7.read_unread, h10.read_unread, h11.read_unread, View.ld_unit_zero (S := S1024x1024) Mat.off2,
    View.ld_unit_zero (S := S640x1024) Mat.off2, View.ld_unit_zero (S := S1x1024) Mat.off2, and_self]

/-- The last step of a later tile stores the same, and adds its part of the third to what the earlier tiles left. -/
theorem out_d (c i a3 h3 a4 h4 a5 h5 a6 h6 a7 h7 a8 h8 a9 h9 a10 h10 a11 h11 hc0 hc1 hc2 hc3) (x y v d g o s) :
    out0_D_5 (F := Ideal) c i a3 h3 a4 h4 a5 h5 a6 h6 a7 h7 a8 h8 a9 h9 a10 h10 a11 h11 hc0 hc1 hc2 hc3 x y v d g o s = k0_pay6 (k0_pay2 s x y) v d g
      ∧ out0_D_6 (F := Ideal) c i a3 h3 a4 h4 a5 h5 a6 h6 a7 h7 a8 h8 a9 h9 a10 h10 a11 h11 hc0 hc1 hc2 hc3 x y v d g o s = k0_pay8 (k0_pay2 s x y) v d g
      ∧ out0_D_7 (F := Ideal) c i a3 h3 a4 h4 a5 h5 a6 h6 a7 h7 a8 h8 a9 h9 a10 h10 a11 h11 hc0 hc1 hc2 hc3 x y v d g o s = k0_pay3 (k0_pay7 (k0_pay2 s x y) v) o := by
  unfold out0_D_5 out0_D_6 out0_D_7
  rw [View.read_writes_eq_canon _ _ _ (cover0_D_5 c i a3 h3 a4 h4 a5 h5 a6 h6 a7 h7 a8 h8 a9 h9 a10 h10 a11 h11 hc0 hc1 hc2 hc3 x y v d g o s),
    View.read_writes_eq_canon _ _ _ (cover0_D_6 c i a3 h3 a4 h4 a5 h5 a6 h6 a7 h7 a8 h8 a9 h9 a10 h10 a11 h11 hc0 hc1 hc2 hc3 x y v d g o s),
    View.read_writes_eq_canon _ _ _ (cover0_D_7 c i a3 h3 a4 h4 a5 h5 a6 h6 a7 h7 a8 h8 a9 h9 a10 h10 a11 h11 hc0 hc1 hc2 hc3 x y v d g o s)]
  unfold kernelRun0_D
  dsimp only
  sl_unfold_words
  simp only [View.canon_unit_zero (S := S1024x1024) Mat.off2, View.canon_unit_zero (S := S1x1024) Mat.off2,
    View.readCov_unit_zero (S := S1024x1024) _ Mat.off2, View.readAt_eq_ld, h3.read_unread, h4.read_unread, h5.read_unread, h6.read_unread,
    h7.read_unread, h10.read_unread, h11.read_unread, View.ld_unit_zero (S := S1024x1024) Mat.off2,
    View.ld_unit_zero (S := S640x1024) Mat.off2, View.ld_unit_zero (S := S1x1024) Mat.off2, and_self]

/-- The product of two blocks at an entry: both are contracted along their first axis. -/
theorem prod_apply (x y : S640x1024.Idx → EReal) (r q : Fin 1024) :
    (matmul (F := Ideal) (φ₁ := .bf16) (φ₂ := .bf16) dot_S640x1024_S640x1024_S1024x1024_0_0_1_1_n_n none x y
      (constant S1024x1024 .f32 0x00000000#32) (ix2 r q) : EReal) = ∑ k : Fin 640, x (ix2 k r) * y (ix2 k q) := by
  simp only [pointwise, zero_add]

/-- An accumulating step at an entry. -/
theorem step_apply (s : Vec Ideal S1024x1024 .f32) (x y : Vec Ideal S640x1024 .bf16) (r q : Fin 1024) :
    k0_pay2 s x y (ix2 r q) = (s (ix2 r q) : EReal) + ∑ k : Fin 640, (x (ix2 k r) : EReal) * y (ix2 k q) := by
  unfold k0_pay2
  simp only [shapeCast_self]
  exact congrArg (fun e : EReal => (s (ix2 r q) : EReal) + e) (prod_apply x y r q)

/-- The zero start. -/
theorem zero_apply (i : S1024x1024.Idx) : (k0_pay1 (F := Ideal) i : EReal) = 0 := Dh.zero_apply i

variable (m : (ℓ : Loc nD τ sig) → Buf (Elt Ideal) ℓ) (c : Dev nD)

theorem at0 : ∀ t : Fin cfg0.N, win0_0.index t 0 = t.val % 5 ∧ win0_0.index t 1 = t.val / 5 := by decide +kernel
theorem at1 : ∀ t : Fin cfg0.N, win0_1.index t 0 = t.val % 5 ∧ win0_1.index t 1 = 0 := by decide +kernel
theorem at2 : ∀ t : Fin cfg0.N, win0_2.index t 0 = t.val / 5 ∧ win0_2.index t 1 = 0 := by decide +kernel
theorem at3 : ∀ t : Fin cfg0.N, win0_3.index t 0 = t.val / 5 ∧ win0_3.index t 1 = 0 := by decide +kernel
theorem at4 : ∀ t : Fin cfg0.N, win0_4.index t 0 = 0 ∧ win0_4.index t 1 = 0 := by decide +kernel
theorem pts (t : Fin cfg0.N) : t.val < 20 := lt_of_lt_of_eq t.isLt (show cfg0.N = 20 from N_0)

/-- The five arguments (the norm's input, its gains, the weight, the gradient of the product, the gradient that comes past
    the layer), the two factors as the kernel holds them, both turned, and the three result arrays. -/
def argX : S4096x1024.Idx → EReal := m ((c.tc : Thread nD τ).loc main_arg0)
def argG : S1x1024.Idx → EReal := m ((c.tc : Thread nD τ).loc main_arg1)
def argW : S1024x3200.Idx → EReal := m ((c.tc : Thread nD τ).loc main_arg2)
def argZ : S4096x3200.Idx → EReal := m ((c.tc : Thread nD τ).loc main_arg3)
def argD : S4096x1024.Idx → EReal := m ((c.tc : Thread nD τ).loc main_arg4)
def zts : S3200x4096.Idx → EReal := V m c main_v1
def wts : S3200x1024.Idx → EReal := V m c main_v3
def tot : S4096x1024.Idx → EReal := G5 m c
def low : S4096x1024.Idx → EReal := G6 m c
def gain : S1x1024.Idx → EReal := G7 m c

theorem x_eq : (V m c main_arg0 : S4096x1024.Idx → EReal) = argX m c := by unfold V; after_results; rfl
theorem d_eq : (V m c main_arg4 : S4096x1024.Idx → EReal) = argD m c := by unfold V; after_results; rfl
theorem g_eq : (V m c main_arg1 : S1x1024.Idx → EReal) = argG m c := by unfold V; after_results; rfl

theorem zts_eq (k : Fin 3200) (i : Fin 4096) : zts m c (ix2 k i) = argZ m c (ix2 i k) := by
  have e : zts m c = transpose S3200x4096 [1, 0] (argZ m c) transposes_S4096x3200_S3200x4096_1_0 := by
    unfold zts V
    after_results
    rfl
  rw [e]
  simp only [pointwise]

theorem wts_eq (k : Fin 3200) (q : Fin 1024) : wts m c (ix2 k q) = argW m c (ix2 q k) := by
  have e : wts m c = transpose S3200x1024 [1, 0] (argW m c) transposes_S1024x3200_S3200x1024_1_0 := by
    unfold wts V
    after_results
    rfl
  rw [e]
  simp only [pointwise]

/-- The blocks a step reads. -/
theorem blk0 (t : Fin cfg0.N) (k : Fin 640) (r : Fin 1024) : (iblk m c 0 t (ix2 k r) : EReal) = argZ m c
    (ix2 ⟨1024 * (t.val / 5) + r.val, by have := pts t; omega⟩ ⟨640 * (t.val % 5) + k.val, by omega⟩) := by
  rw [← zts_eq]
  unfold iblk
  refine congrArg (zts m c) (Mat.idx2 ?_ ?_)
  · show win0_0.index t 0 * 640 + 1 * k.val = 640 * (t.val % 5) + k.val; rw [(at0 t).1]; omega
  · show win0_0.index t 1 * 1024 + 1 * r.val = 1024 * (t.val / 5) + r.val; rw [(at0 t).2]; omega

theorem blk1 (t : Fin cfg0.N) (k : Fin 640) (q : Fin 1024) : (iblk m c 1 t (ix2 k q) : EReal) = argW m c
    (ix2 q ⟨640 * (t.val % 5) + k.val, by omega⟩) := by
  rw [← wts_eq]
  unfold iblk
  refine congrArg (wts m c) (Mat.idx2 ?_ ?_)
  · show win0_1.index t 0 * 640 + 1 * k.val = 640 * (t.val % 5) + k.val; rw [(at1 t).1]; omega
  · show win0_1.index t 1 * 1024 + 1 * q.val = q.val; rw [(at1 t).2]; omega

theorem blk2 (t : Fin cfg0.N) (r q : Fin 1024) : (iblk m c 2 t (ix2 r q) : EReal) = argX m c
    (ix2 ⟨1024 * (t.val / 5) + r.val, by have := pts t; omega⟩ q) := by
  rw [← x_eq]
  unfold iblk
  refine congrArg (V m c main_arg0 : S4096x1024.Idx → EReal) (Mat.idx2 ?_ ?_)
  · show win0_2.index t 0 * 1024 + 1 * r.val = 1024 * (t.val / 5) + r.val; rw [(at2 t).1]; omega
  · show win0_2.index t 1 * 1024 + 1 * q.val = q.val; rw [(at2 t).2]; omega

theorem blk3 (t : Fin cfg0.N) (r q : Fin 1024) : (iblk m c 3 t (ix2 r q) : EReal) = argD m c
    (ix2 ⟨1024 * (t.val / 5) + r.val, by have := pts t; omega⟩ q) := by
  rw [← d_eq]
  unfold iblk
  refine congrArg (V m c main_arg4 : S4096x1024.Idx → EReal) (Mat.idx2 ?_ ?_)
  · show win0_3.index t 0 * 1024 + 1 * r.val = 1024 * (t.val / 5) + r.val; rw [(at3 t).1]; omega
  · show win0_3.index t 1 * 1024 + 1 * q.val = q.val; rw [(at3 t).2]; omega

theorem blk4 (t : Fin cfg0.N) (q : Fin 1024) : (iblk m c 4 t (ix2 0 q) : EReal) = argG m c (ix2 0 q) := by
  rw [← g_eq]
  unfold iblk
  refine congrArg (V m c main_arg1 : S1x1024.Idx → EReal) (Mat.idx2 ?_ ?_)
  · show win0_4.index t 0 * 1 + 1 * 0 = 0; rw [(at4 t).1]
  · show win0_4.index t 1 * 1024 + 1 * q.val = q.val; rw [(at4 t).2]; omega

/-- What is left after a step depends on the step's number alone. -/
theorem outs_congr {n n' : ℕ} (h : n = n') (hn : n < cfg0.N) (hn' : n' < cfg0.N) : outsAt0 m c n hn = outsAt0 m c n' hn' := by
  subst h; rfl

/-- The accumulator after the first step of a tile, and after a middle step. -/
theorem acc_a (t : Fin cfg0.N) (h : t.val % 5 = 0) :
    (outsAt0 m c t.val t.isLt).2.2.2 = k0_pay2 k0_pay1 (iblk m c 0 t) (iblk m c 1 t) := by
  have e := congrArg (fun p => p.2.2.2) (outsAt0_A m c t h (by omega))
  dsimp only at e
  rw [acc_first] at e
  exact e

theorem acc_b (t u : Fin cfg0.N) (hu : u.val = t.val + 1) (h0 : ¬u.val % 5 = 0) (h1 : ¬u.val % 5 = 4) :
    (outsAt0 m c u.val u.isLt).2.2.2 = k0_pay2 (outsAt0 m c t.val t.isLt).2.2.2 (iblk m c 0 u) (iblk m c 1 u) := by
  have e := congrArg (fun p => p.2.2.2) (outsAt0_B m c u h0 h1)
  rw [outs_congr m c (show u.val - 1 = t.val by omega) _ t.isLt] at e
  dsimp only at e
  rw [acc_mid] at e
  exact e

/-- The third result stays as it is through the steps of a tile before its last. -/
theorem keep (t u : Fin cfg0.N) (hu : u.val = t.val + 1) (h1 : ¬u.val % 5 = 4) :
    (outsAt0 m c u.val u.isLt).2.2.1 = (outsAt0 m c t.val t.isLt).2.2.1 := by
  rw [← outs_congr m c (show u.val - 1 = t.val by omega) (by omega) t.isLt]
  by_cases h0 : u.val % 5 = 0
  · exact congrArg (fun p => p.2.2.1) (outsAt0_A m c u h0 h1)
  · exact congrArg (fun p => p.2.2.1) (outsAt0_B m c u h0 h1)

/-- The finished accumulator of a step, were it the last of its tile. -/
def fin (t u : Fin cfg0.N) : Vec Ideal S1024x1024 .f32 := k0_pay2 (outsAt0 m c t.val t.isLt).2.2.2 (iblk m c 0 u) (iblk m c 1 u)

/-- The blocks stored after the last step of a tile. -/
theorem out_last (t u : Fin cfg0.N) (hu : u.val = t.val + 1) (h1 : u.val % 5 = 4) :
    (outsAt0 m c u.val u.isLt).1 = k0_pay6 (fin m c t u) (iblk m c 2 u) (iblk m c 3 u) (iblk m c 4 u)
      ∧ (outsAt0 m c u.val u.isLt).2.1 = k0_pay8 (fin m c t u) (iblk m c 2 u) (iblk m c 3 u) (iblk m c 4 u)
      ∧ (outsAt0 m c u.val u.isLt).2.2.1 = if u.val < 5 then k0_pay7 (fin m c t u) (iblk m c 2 u)
          else k0_pay3 (k0_pay7 (fin m c t u) (iblk m c 2 u)) (outsAt0 m c t.val t.isLt).2.2.1 := by
  by_cases h2 : u.val < 5
  · have e := outsAt0_C m c u (by omega) h1 h2 (by omega)
    rw [outs_congr m c (show u.val - 1 = t.val by omega) _ t.isLt, (out_c ..).1, (out_c ..).2.1, (out_c ..).2.2] at e
    rw [e, if_pos h2]
    exact ⟨rfl, rfl, rfl⟩
  · have e := outsAt0_D m c u (by omega) h1 h2 (by omega)
    rw [outs_congr m c (show u.val - 1 = t.val by omega) _ t.isLt, (out_d ..).1, (out_d ..).2.1, (out_d ..).2.2] at e
    rw [e, if_neg h2]
    exact ⟨rfl, rfl, rfl⟩

/-- The gradient of the scaled row times the gains: the product at an entry. -/
def prd (i : Fin 4096) (q : Fin 1024) : EReal := ∑ k : Fin 3200, argZ m c (ix2 i k) * argW m c (ix2 q k)

/-- A row of the norm's input. -/
def row (i : Fin 4096) : Fin 1024 → EReal := fun k => argX m c (ix2 i k)

/-- The finished accumulator of a tile. -/
theorem acc_tile (p : Fin 4) (t u : Fin cfg0.N) (ht : t.val = 5 * p.val + 3) (hu : u.val = 5 * p.val + 4) (r q : Fin 1024) :
    (fin m c t u (ix2 r q) : EReal) = prd m c ⟨1024 * p.val + r.val, by omega⟩ q := by
  have hN : cfg0.N = 20 := N_0
  have ha : 5 * p.val < cfg0.N := by omega
  have hb : 5 * p.val + 1 < cfg0.N := by omega
  have hc : 5 * p.val + 2 < cfg0.N := by omega
  unfold fin
  rw [acc_b m c ⟨5 * p.val + 2, hc⟩ t (by dsimp only; omega) (by omega) (by omega),
    acc_b m c ⟨5 * p.val + 1, hb⟩ ⟨5 * p.val + 2, hc⟩ rfl (by dsimp only; omega) (by dsimp only; omega),
    acc_b m c ⟨5 * p.val, ha⟩ ⟨5 * p.val + 1, hb⟩ rfl (by dsimp only; omega) (by dsimp only; omega),
    acc_a m c ⟨5 * p.val, ha⟩ (by dsimp only; omega)]
  rw [step_apply, step_apply, step_apply, step_apply, step_apply, zero_apply, zero_add]
  unfold prd
  rw [← Mat.sum_fifths]
  refine congrArg₂ (· + ·) (congrArg₂ (· + ·) (congrArg₂ (· + ·) (congrArg₂ (· + ·) ?_ ?_) ?_) ?_) ?_ <;>
    refine Finset.sum_congr rfl fun k _ => ?_ <;>
    rw [blk0, blk1] <;> simp only [ht, hu, Mat.fifths, Nat.mul_zero, Nat.mul_one, Nat.zero_add] <;> rfl

/-- The first result's tile at an entry; the second is the same. -/
theorem tile_tot (p : Fin 4) (t u : Fin cfg0.N) (ht : t.val = 5 * p.val + 3) (hu : u.val = 5 * p.val + 4) (r q : Fin 1024) :
    (k0_pay6 (fin m c t u) (iblk m c 2 u) (iblk m c 3 u) (iblk m c 4 u) (ix2 r q) : EReal)
      = Mat.back (row m c ⟨1024 * p.val + r.val, by omega⟩)
          (fun k => prd m c ⟨1024 * p.val + r.val, by omega⟩ k * argG m c (ix2 0 k)) (argD m c (ix2 ⟨1024 * p.val + r.val, by omega⟩ q)) q := by
  have d3 : u.val / 5 = p.val := by omega
  refine (Dh.tot_apply _ _ _ _ r q).trans ?_
  simp only [acc_tile m c p t u ht hu, blk2, blk3, blk4, d3]
  rfl

/-- A tile's part of the third result. -/
def part (p : Fin 4) (q : Fin 1024) : EReal :=
  ∑ r : Fin 1024, prd m c ⟨1024 * p.val + r.val, by omega⟩ q * Mat.unit (row m c ⟨1024 * p.val + r.val, by omega⟩) q

theorem tile_gain (p : Fin 4) (t u : Fin cfg0.N) (ht : t.val = 5 * p.val + 3) (hu : u.val = 5 * p.val + 4) (q : Fin 1024) :
    (k0_pay7 (fin m c t u) (iblk m c 2 u) (ix2 0 q) : EReal) = part m c p q := by
  have d3 : u.val / 5 = p.val := by omega
  refine (Dh.gain_apply _ _ q).trans ?_
  simp only [acc_tile m c p t u ht hu, blk2, d3]
  rfl

/-- **The kernel's third result at an entry**: the gradient of the gains. -/
theorem kernel_gain (q : Fin 1024) : gain m c (ix2 0 q) = ∑ i : Fin 4096, prd m c i q * Mat.unit (row m c i) q := by
  have hN : cfg0.N = 20 := N_0
  have h19 : 19 < cfg0.N := by omega
  refine Eq.trans ?_ ((Mat.gather (K := 5) (by omega) hN (fun n => (outsAt0 m c n.val n.isLt).2.2.1 (ix2 0 q)) (fun p => part m c p q)
    (fun t u hu h => congrFun (keep m c t u hu h) _) (fun t u hu h => ?_) (fun p t u hu h h0 => ?_) ⟨19, h19⟩ rfl).trans ?_)
  · unfold gain
    rw [G7_last, outsAt0_sweep]
  · rw [(out_last m c t u hu (by omega)).2.2, if_pos (by omega)]
    exact tile_gain m c 0 t u (by show t.val = 5 * 0 + 3; omega) (by show u.val = 5 * 0 + 4; omega) q
  · rw [(out_last m c t u hu (by omega)).2.2, if_neg (by omega)]
    exact (Dh.add_apply _ _ q).trans (congrArg (fun e : EReal => (outsAt0 m c t.val t.isLt).2.2.1 (ix2 0 q) + e)
      (tile_gain m c p t u (by omega) (by omega) q))
  · unfold part
    exact Mat.sum_tiles fun i => prd m c i q * Mat.unit (row m c i) q

/-- **The kernel's first two results at an entry**: the gradient of the norm's input. -/
theorem kernel_tot (i : Fin 4096) (q : Fin 1024) :
    tot m c (ix2 i q) = Mat.back (row m c i) (fun k => prd m c i k * argG m c (ix2 0 k)) (argD m c (ix2 i q)) q
      ∧ low m c (ix2 i q) = Mat.back (row m c i) (fun k => prd m c i k * argG m c (ix2 0 k)) (argD m c (ix2 i q)) q := by
  have hN : cfg0.N = 20 := N_0
  obtain ⟨p, r, rfl⟩ : ∃ p : Fin 4, ∃ r : Fin 1024, i = ⟨1024 * p.val + r.val, by omega⟩ :=
    ⟨⟨i.val / 1024, by omega⟩, ⟨i.val % 1024, by omega⟩, Fin.ext (Nat.div_add_mod _ _).symm⟩
  have ha : 5 * p.val + 3 < cfg0.N := by omega
  have hb : 5 * p.val + 4 < cfg0.N := by omega
  have hp : pt5Of (ix2 ⟨1024 * p.val + r.val, by omega⟩ q) = 5 * p.val + 4 := by
    show 5 * (1 * ((1024 * p.val + r.val) / 1024 - 0) + 1 * (q.val / 1024 - 0)) + 4 = _
    omega
  have hl : loc5Of (ix2 ⟨1024 * p.val + r.val, by omega⟩ q) = ix2 r q := Mat.idx2
    (by show (1024 * p.val + r.val) % 1024 = r.val; omega) (Nat.mod_eq_of_lt q.isLt)
  have f := (outsAt0_sweep m c _ hb).trans (fold0_congr m c _ (by rw [hp, Nat.zero_add]; exact hb) _ _ hp).symm
  have o := out_last m c ⟨5 * p.val + 3, ha⟩ ⟨5 * p.val + 4, hb⟩ rfl (by dsimp only; omega)
  constructor
  · refine (dif_pos (hp.symm ▸ hb)).trans ?_
    rw [hl, ← f, o.1]
    exact tile_tot m c p _ _ rfl rfl r q
  · have hq : pt6Of (ix2 ⟨1024 * p.val + r.val, by omega⟩ q) = 5 * p.val + 4 := hp
    refine (dif_pos (hq.symm ▸ hb)).trans ?_
    refine (congrArg _ hl).trans ?_
    rw [← f, o.2.1]
    exact tile_tot m c p _ _ rfl rfl r q

/-- The product of the reference at an entry. -/
theorem ref_prod (z : S4096x3200.Idx → EReal) (w : S1024x3200.Idx → EReal) (i : Fin 4096) (j : Fin 1024) :
    (Host.dotGeneral (F := Ideal) (φ₁ := .f32) (φ₂ := .f32) Reference11Ideal.dot_S4096x3200_S1024x3200_S4096x1024_1_1_0_0_n_n none z w (ix2 i j) : EReal)
      = ∑ k : Fin 3200, z (ix2 i k) * w (ix2 j k) := by
  simp only [pointwise, zero_add]

end Cert.FoxDh

end
-- ==== Proof.Up.lean ====
/- The first product of an MLP and its activation: what the tiled kernel leaves in its result, entry by entry. -/
module

public import proofs.«01_k».proof.Proof.MatKit
public import proofs.«01_k».proof.Proof.Gen.Kernel6Ideal.Value
public import proofs.«01_k».proof.Proof.Gen.Reference6Ideal.Run
public import Idealize.ShloMosaic.Lib.Pointwise
public import Idealize.ShloMosaic.Lib.Tactic

@[expose] public section

set_option maxRecDepth 16384

noncomputable section

namespace Cert.Up

open Cert.Kernel6Ideal Cert.Kernel6Ideal.Gen Cert.Kernel6Ideal.Value
open Idealize.ShloMosaic Idealize.ShloMosaic.TcCoe Idealize.ShloMosaic.Tactic
open Idealize.SL Idealize.SL.Sem

/-- The product of two blocks at an entry. -/
theorem prod_apply (x : S2048x1024.Idx → EReal) (y : S1024x1024.Idx → EReal) (r : Fin 2048) (q : Fin 1024) :
    (matmul (F := Ideal) (φ₁ := .bf16) (φ₂ := .bf16) dot_S2048x1024_S1024x1024_S2048x1024_1_0_0_1_n_n none x y
      (constant S2048x1024 .f32 0x00000000#32) (ix2 r q) : EReal) = ∑ k : Fin 1024, x (ix2 r k) * y (ix2 k q) := by
  simp only [pointwise, zero_add]

/-- The square of the positive part. -/
def relu2 (e : EReal) : EReal := max e 0 * max e 0

/-- What a step stores, at an entry. -/
theorem out_apply (x : Vec Ideal S2048x1024 .bf16) (y : Vec Ideal S1x1024x1024 .bf16) (r : Fin 2048) (q : Fin 1024) :
    (out0_2 x y (ix2 r q) : EReal) = relu2 (∑ k : Fin 1024, (x (ix2 r k) : EReal) * y (ix3 0 k q)) := by
  unfold out0_2
  rw [View.canon_unit_zero (S := S2048x1024) Mat.off2, View.ld_unit_zero (S := S2048x1024) Mat.off2,
    View.ld_unit_zero (S := S1x1024x1024) Mat.off3]
  unfold k0_pay1
  simp only [shapeCast_self]
  refine Eq.trans ?_ (congrArg relu2 ((prod_apply x (shapeCast S1024x1024 y shapeCasts_S1x1024x1024_S1024x1024) r q).trans
    (Finset.sum_congr rfl fun k _ => congrArg (fun e : EReal => (x (ix2 r k) : EReal) * e) (by simp only [pointwise]))))
  unfold relu2
  rw [← Ideal.ofBits_zero_f32]
  rfl

variable (m : (ℓ : Loc nD τ sig) → Buf (Elt Ideal) ℓ) (c : Dev nD)

theorem at0 : ∀ t : Fin cfg0.N, win0_0.index t 0 = t.val / 4 ∧ win0_0.index t 1 = 0 := by decide +kernel
theorem at1 : ∀ t : Fin cfg0.N, win0_1.index t 0 = t.val % 4 ∧ win0_1.index t 1 = 0 ∧ win0_1.index t 2 = 0 := by decide +kernel
theorem at2 : ∀ t : Fin cfg0.N, win0_2.index t 0 = t.val / 4 ∧ win0_2.index t 1 = t.val % 4 := by decide +kernel
theorem fl2 : ∀ t : Fin cfg0.N, (cfg0.win 2).flush t = true := by decide +kernel
theorem pts (t : Fin cfg0.N) : t.val < 8 := lt_of_lt_of_eq t.isLt (show cfg0.N = 8 from N_0)

/-- The layer's input, as the kernel's first operand holds it. -/
def inp : S4096x1024.Idx → EReal := V m c main_v0
/-- The weight's shards, as the kernel's second operand holds them. -/
def wts : S4x1024x1024.Idx → EReal := V m c main_v3
/-- The result array. -/
def res : S4096x4096.Idx → EReal := (dats m 0 c).arrAt 2 cfg0.N
/-- The layer's input, the first argument. -/
def argH : S4096x1024.Idx → EReal := m ((c.tc : Thread nD τ).loc main_arg0)
/-- The weight, the second argument. -/
def argW : S1024x4096.Idx → EReal := m ((c.tc : Thread nD τ).loc main_arg1)

/-- The block of inputs a step reads. -/
theorem blk0 (t : Fin cfg0.N) (r : Fin 2048) (k : Fin 1024) :
    (iblk m c 0 t (ix2 r k) : EReal) = inp m c (ix2 ⟨2048 * (t.val / 4) + r.val, by have := pts t; omega⟩ k) := by
  unfold iblk
  refine congrArg (inp m c) (funext fun a => Fin.ext ?_)
  match a with
  | ⟨0, _⟩ => show win0_0.index t 0 * 2048 + 1 * r.val = 2048 * (t.val / 4) + r.val; rw [(at0 t).1]; omega
  | ⟨1, _⟩ => show win0_0.index t 1 * 1024 + 1 * k.val = k.val; rw [(at0 t).2]; omega

/-- The shard of the weight a step reads. -/
theorem blk1 (t : Fin cfg0.N) (k q : Fin 1024) :
    (iblk m c 1 t (ix3 0 k q) : EReal) = wts m c (ix3 ⟨t.val % 4, by omega⟩ k q) := by
  unfold iblk
  refine congrArg (wts m c) (funext fun a => Fin.ext ?_)
  match a with
  | ⟨0, _⟩ => show win0_1.index t 0 * 1 + 1 * 0 = t.val % 4; rw [(at1 t).1]; omega
  | ⟨1, _⟩ => show win0_1.index t 1 * 1024 + 1 * k.val = k.val; rw [(at1 t).2.1]; omega
  | ⟨2, _⟩ => show win0_1.index t 2 * 1024 + 1 * q.val = q.val; rw [(at1 t).2.2]; omega

/-- What a step leaves in the result array. -/
theorem res_blk (t : Fin cfg0.N) (r : Fin 2048) (q : Fin 1024) :
    res m c (ix2 ⟨2048 * (t.val / 4) + r.val, by have := pts t; omega⟩ ⟨1024 * (t.val % 4) + q.val, by omega⟩)
      = out0_2 (iblk m c 0 t) (iblk m c 1 t) (ix2 r q) := by
  refine Eq.trans (congrArg (res m c) (funext fun a => Fin.ext ?_)) (congrFun ((blocks2 m c t (fl2 t)).trans (flushed2 m c t)) (ix2 r q))
  match a with
  | ⟨0, _⟩ => show 2048 * (t.val / 4) + r.val = win0_2.index t 0 * 2048 + 1 * r.val; rw [(at2 t).1]; omega
  | ⟨1, _⟩ => show 1024 * (t.val % 4) + q.val = win0_2.index t 1 * 1024 + 1 * q.val; rw [(at2 t).2]; omega

/-- The input is the first argument. -/
theorem inp_eq : inp m c = argH m c := by
  unfold inp V
  after_results
  rfl

/-- The shards are the second argument's columns. -/
theorem wts_eq (p : Fin 4) (k q : Fin 1024) : wts m c (ix3 p k q) = argW m c (ix2 k ⟨1024 * p.val + q.val, by omega⟩) := by
  have e : wts m c = transpose S4x1024x1024 [1, 0, 2] (shapeCast S1024x4x1024 (truncf (F := Ideal) .bf16
      (m ((c.tc : Thread nD τ).loc main_arg1)) bitsLt_bf16_f32) shapeCasts_S1024x4096_S1024x4x1024)
      transposes_S1024x4x1024_S4x1024x1024_1_0_2 := by
    unfold wts V
    after_results
    rfl
  rw [e]
  simp only [pointwise]
  simp only [Nat.mul_comm p.val 1024]
  rfl

/-- **The kernel's result at an entry**, of its arguments. -/
theorem kernel_entry (i : Fin 4096) (j : Fin 4096) :
    res m c (ix2 i j) = relu2 (∑ k : Fin 1024, argH m c (ix2 i k) * argW m c (ix2 k j)) := by
  have hN : cfg0.N = 8 := N_0
  obtain ⟨t, r, q, hi, hj⟩ : ∃ (t : Fin cfg0.N) (r : Fin 2048) (q : Fin 1024),
      i.val = 2048 * (t.val / 4) + r.val ∧ j.val = 1024 * (t.val % 4) + q.val :=
    ⟨⟨4 * (i.val / 2048) + j.val / 1024, by omega⟩, ⟨i.val % 2048, by omega⟩, ⟨j.val % 1024, by omega⟩, by dsimp only; omega, by dsimp only; omega⟩
  have bi : 2048 * (t.val / 4) + r.val < 4096 := by have := pts t; clear hi hj; omega
  have bj : 1024 * (t.val % 4) + q.val < 4096 := by clear hi hj; omega
  obtain rfl : i = ⟨2048 * (t.val / 4) + r.val, bi⟩ := Fin.ext hi
  obtain rfl : j = ⟨1024 * (t.val % 4) + q.val, bj⟩ := Fin.ext hj
  rw [res_blk, out_apply]
  simp only [blk0, blk1, inp_eq, wts_eq]

end Cert.Up

namespace Cert.Up.Ref

open Cert.Reference6Ideal Cert.Reference6Ideal.Gen
open Idealize.ShloMosaic Idealize.ShloMosaic.TcCoe

/-- **The reference's result at an entry**. -/
theorem entry (h : S4096x1024.Idx → EReal) (w : S1024x4096.Idx → EReal) (i j : Fin 4096) :
    (truncf (F := Ideal) .bf16 (mulf (F := Ideal) (φ := .f32)
      (maximumf (Host.dotGeneral (F := Ideal) (φ₁ := .f32) (φ₂ := .f32) dot_S4096x1024_S1024x4096_S4096x4096_1_0_0_1_n_n none h w)
        (broadcastInDim S4096x4096 ![] bcast_S_S4096x4096 (constant S_ .f32 0x00000000#32)))
      (maximumf (Host.dotGeneral (F := Ideal) (φ₁ := .f32) (φ₂ := .f32) dot_S4096x1024_S1024x4096_S4096x4096_1_0_0_1_n_n none h w)
        (broadcastInDim S4096x4096 ![] bcast_S_S4096x4096 (constant S_ .f32 0x00000000#32)))) bitsLt_bf16_f32 (ix2 i j) : EReal)
      = relu2 (∑ k : Fin 1024, h (ix2 i k) * w (ix2 k j)) := by
  unfold relu2
  simp only [pointwise, zero_add]

end Cert.Up.Ref

end
-- ==== Proof.Down.lean ====
/- The second product of an MLP, added to the residual, and the next layer's normalised input: what the tiled kernel
   leaves in its two results, entry by entry. -/
module

public import proofs.«01_k».proof.Proof.MatKit
public import proofs.«01_k».proof.Proof.Gen.Kernel7Ideal.Value
public import proofs.«01_k».proof.Proof.Gen.Reference7Ideal.Run
public import Idealize.ShloMosaic.Lib.Pointwise
public import Idealize.ShloMosaic.Lib.Tactic

@[expose] public section

set_option maxRecDepth 16384

noncomputable section

namespace Cert.Down

open Cert.Kernel7Ideal Cert.Kernel7Ideal.Gen Cert.Kernel7Ideal.Value
open Idealize.ShloMosaic Idealize.ShloMosaic.TcCoe Idealize.ShloMosaic.Tactic
open Idealize.SL Idealize.SL.Sem

/-- The first step of a tile leaves, in the accumulator, the product of the two blocks over a zero start. -/
theorem acc_first (c i a3 h3 a4 h4 a5 h5 a6 h6 a7 h7 a8 h8 a9 h9 hc0 hc1) (x y v g) :
    sout0_A_0 (F := Ideal) c i a3 h3 a4 h4 a5 h5 a6 h6 a7 h7 a8 h8 a9 h9 hc0 hc1 x y v g = k0_pay2 k0_pay1 x y := by
  unfold sout0_A_0
  rw [View.read_writes_eq_canon _ _ _ (scover0_A_0 c i a3 h3 a4 h4 a5 h5 a6 h6 a7 h7 a8 h8 a9 h9 hc0 hc1 x y v g)]
  unfold kernelRun0_A
  dsimp only
  sl_unfold_words
  rw [View.canon_cons_unit_zero (S := S1024x1024) Mat.off2, View.readCov_unit_zero (S := S1024x1024) _ Mat.off2]
  simp only [View.readAt_eq_ld, h3.read_unread, h4.read_unread, View.ld_unit_zero (S := S1024x1024) Mat.off2,
    View.ld_unit_zero (S := S1x1024x1024) Mat.off3]

/-- A middle step adds the product of its two blocks to the accumulator. -/
theorem acc_mid (c i a3 h3 a4 h4 a5 h5 a6 h6 a7 h7 a8 h8 a9 h9 hc0 hc1) (x y v g s) :
    sout0_B_0 (F := Ideal) c i a3 h3 a4 h4 a5 h5 a6 h6 a7 h7 a8 h8 a9 h9 hc0 hc1 x y v g s = k0_pay2 s x y := by
  unfold sout0_B_0
  rw [View.read_writes_eq_canon _ _ _ (scover0_B_0 c i a3 h3 a4 h4 a5 h5 a6 h6 a7 h7 a8 h8 a9 h9 hc0 hc1 x y v g s)]
  unfold kernelRun0_B
  dsimp only
  sl_unfold_words
  rw [View.canon_unit_zero (S := S1024x1024) Mat.off2]
  simp only [View.readAt_eq_ld, h3.read_unread, h4.read_unread, h9.read_unread, View.ld_unit_zero (S := S1024x1024) Mat.off2,
    View.ld_unit_zero (S := S1x1024x1024) Mat.off3]

/-- The last step of a tile stores the residual plus the finished accumulator. -/
theorem sum_last (c i a3 h3 a4 h4 a5 h5 a6 h6 a7 h7 a8 h8 a9 h9 hc0 hc1) (x y v g s) :
    out0_C_4 (F := Ideal) c i a3 h3 a4 h4 a5 h5 a6 h6 a7 h7 a8 h8 a9 h9 hc0 hc1 x y v g s = k0_pay3 (k0_pay2 s x y) v := by
  unfold out0_C_4
  rw [View.read_writes_eq_canon _ _ _ (cover0_C_4 c i a3 h3 a4 h4 a5 h5 a6 h6 a7 h7 a8 h8 a9 h9 hc0 hc1 x y v g s)]
  unfold kernelRun0_C
  dsimp only
  sl_unfold_words
  rw [View.canon_unit_zero (S := S1024x1024) Mat.off2, View.readCov_unit_zero (S := S1024x1024) _ Mat.off2]
  simp only [View.readAt_eq_ld, h3.read_unread, h4.read_unread, h5.read_unread, h9.read_unread,
    View.ld_unit_zero (S := S1024x1024) Mat.off2, View.ld_unit_zero (S := S1x1024x1024) Mat.off3]

/-- And beside it that sum scaled to unit mean square along its rows, times the layer's gains. -/
theorem norm_last (c i a3 h3 a4 h4 a5 h5 a6 h6 a7 h7 a8 h8 a9 h9 hc0 hc1) (x y v g s) :
    out0_C_5 (F := Ideal) c i a3 h3 a4 h4 a5 h5 a6 h6 a7 h7 a8 h8 a9 h9 hc0 hc1 x y v g s = k0_pay4 (k0_pay2 s x y) v g := by
  unfold out0_C_5
  rw [View.read_writes_eq_canon _ _ _ (cover0_C_5 c i a3 h3 a4 h4 a5 h5 a6 h6 a7 h7 a8 h8 a9 h9 hc0 hc1 x y v g s)]
  unfold kernelRun0_C
  dsimp only
  sl_unfold_words
  rw [View.canon_unit_zero (S := S1024x1024) Mat.off2, View.readCov_unit_zero (S := S1024x1024) _ Mat.off2]
  simp only [View.readAt_eq_ld, h3.read_unread, h4.read_unread, h5.read_unread, h6.read_unread, h9.read_unread,
    View.ld_unit_zero (S := S1024x1024) Mat.off2, View.ld_unit_zero (S := S1x1024x1024) Mat.off3,
    View.ld_unit_zero (S := S1x1024) Mat.off2]

/-- The product of two blocks at an entry. -/
theorem prod_apply (x y : S1024x1024.Idx → EReal) (r q : Fin 1024) :
    (matmul (F := Ideal) (φ₁ := .bf16) (φ₂ := .bf16) dot_S1024x1024_S1024x1024_S1024x1024_1_0_0_1_n_n none x y
      (constant S1024x1024 .f32 0x00000000#32) (ix2 r q) : EReal) = ∑ k : Fin 1024, x (ix2 r k) * y (ix2 k q) := by
  simp only [pointwise, zero_add]

/-- An accumulating step at an entry. -/
theorem step_apply (s : Vec Ideal S1024x1024 .f32) (x : Vec Ideal S1024x1024 .bf16) (y : Vec Ideal S1x1024x1024 .bf16) (r q : Fin 1024) :
    k0_pay2 s x y (ix2 r q) = (s (ix2 r q) : EReal) + ∑ k : Fin 1024, (x (ix2 r k) : EReal) * y (ix3 0 k q) := by
  unfold k0_pay2
  simp only [shapeCast_self]
  refine congrArg (fun e : EReal => (s (ix2 r q) : EReal) + e) ((prod_apply x _ r q).trans ?_)
  exact Finset.sum_congr rfl fun k _ => congrArg (fun e : EReal => (x (ix2 r k) : EReal) * e) (by simp only [pointwise])

/-- The zero start. -/
theorem zero_apply (i : S1024x1024.Idx) : (k0_pay1 (F := Ideal) i : EReal) = 0 := by
  unfold k0_pay1
  simp only [shapeCast_self]
  exact Ideal.ofBits_zero_f32

/-- The stored sum at an entry. -/
theorem sum_apply (s v : Vec Ideal S1024x1024 .f32) (r q : Fin 1024) :
    k0_pay3 s v (ix2 r q) = (v (ix2 r q) : EReal) + s (ix2 r q) := rfl

/-- The stored scaled sum at an entry. -/
theorem norm_apply (s v : Vec Ideal S1024x1024 .f32) (g : Vec Ideal S1x1024 .f32) (r q : Fin 1024) :
    (k0_pay4 s v g (ix2 r q) : EReal) = Mat.unit (fun k => (v (ix2 r k) : EReal) + s (ix2 r k)) q * (g (ix2 0 q) : EReal) := by
  unfold k0_pay4 Mat.unit
  simp only [pointwise, sum_apply, zero_add]
  rfl

variable (m : (ℓ : Loc nD τ sig) → Buf (Elt Ideal) ℓ) (c : Dev nD)

theorem at0 : ∀ t : Fin cfg0.N, win0_0.index t 0 = t.val / 4 ∧ win0_0.index t 1 = t.val % 4 := by decide +kernel
theorem at1 : ∀ t : Fin cfg0.N, win0_1.index t 0 = t.val % 4 ∧ win0_1.index t 1 = 0 ∧ win0_1.index t 2 = 0 := by decide +kernel
theorem at2 : ∀ t : Fin cfg0.N, win0_2.index t 0 = t.val / 4 ∧ win0_2.index t 1 = 0 := by decide +kernel
theorem at3 : ∀ t : Fin cfg0.N, win0_3.index t 0 = 0 ∧ win0_3.index t 1 = 0 := by decide +kernel
theorem pts (t : Fin cfg0.N) : t.val < 16 := lt_of_lt_of_eq t.isLt (show cfg0.N = 16 from N_0)

/-- The activations, the first argument. -/
def argA : S4096x4096.Idx → EReal := m ((c.tc : Thread nD τ).loc main_arg0)
/-- The weight, the second argument. -/
def argW : S4096x1024.Idx → EReal := m ((c.tc : Thread nD τ).loc main_arg1)
/-- The residual, the third argument. -/
def argX : S4096x1024.Idx → EReal := m ((c.tc : Thread nD τ).loc main_arg2)
/-- The gains, the fourth argument. -/
def argG : S1x1024.Idx → EReal := m ((c.tc : Thread nD τ).loc main_arg3)
/-- The activations, as the kernel's first operand holds them. -/
def act : S4096x4096.Idx → EReal := V m c main_v0
/-- The weight's shards, as the kernel's second operand holds them. -/
def wts : S4x1024x1024.Idx → EReal := V m c main_v2
/-- The first result array. -/
def res : S4096x1024.Idx → EReal := G4 m c
/-- The second result array. -/
def nrm : S4096x1024.Idx → EReal := G5 m c

theorem act_eq : act m c = argA m c := by
  unfold act V
  after_results
  rfl

theorem wts_eq (p : Fin 4) (k q : Fin 1024) : wts m c (ix3 p k q) = argW m c (ix2 ⟨1024 * p.val + k.val, by omega⟩ q) := by
  have e : wts m c = shapeCast S4x1024x1024 (truncf (F := Ideal) .bf16 (m ((c.tc : Thread nD τ).loc main_arg1)) bitsLt_bf16_f32)
      shapeCasts_S4096x1024_S4x1024x1024 := by
    unfold wts V
    after_results
    rfl
  rw [e]
  simp only [pointwise]
  simp only [Nat.mul_comm p.val 1024]
  rfl

theorem res2_eq : (V m c main_arg2 : S4096x1024.Idx → EReal) = argX m c := by
  unfold V
  after_results
  rfl

theorem gain_eq : (V m c main_arg3 : S1x1024.Idx → EReal) = argG m c := by
  unfold V
  after_results
  rfl

/-- The block of activations a step reads. -/
theorem blk0 (t : Fin cfg0.N) (r k : Fin 1024) : (iblk m c 0 t (ix2 r k) : EReal) = argA m c
    (ix2 ⟨1024 * (t.val / 4) + r.val, by have := pts t; omega⟩ ⟨1024 * (t.val % 4) + k.val, by omega⟩) := by
  rw [← act_eq]
  unfold iblk
  refine congrArg (act m c) (funext fun a => Fin.ext ?_)
  match a with
  | ⟨0, _⟩ => show win0_0.index t 0 * 1024 + 1 * r.val = 1024 * (t.val / 4) + r.val; rw [(at0 t).1]; omega
  | ⟨1, _⟩ => show win0_0.index t 1 * 1024 + 1 * k.val = 1024 * (t.val % 4) + k.val; rw [(at0 t).2]; omega

/-- The shard of the weight a step reads. -/
theorem blk1 (t : Fin cfg0.N) (k q : Fin 1024) : (iblk m c 1 t (ix3 0 k q) : EReal) = argW m c
    (ix2 ⟨1024 * (t.val % 4) + k.val, by omega⟩ q) := by
  refine Eq.trans ?_ (wts_eq m c ⟨t.val % 4, by omega⟩ k q)
  unfold iblk
  refine congrArg (wts m c) (funext fun a => Fin.ext ?_)
  match a with
  | ⟨0, _⟩ => show win0_1.index t 0 * 1 + 1 * 0 = t.val % 4; rw [(at1 t).1]; omega
  | ⟨1, _⟩ => show win0_1.index t 1 * 1024 + 1 * k.val = k.val; rw [(at1 t).2.1]; omega
  | ⟨2, _⟩ => show win0_1.index t 2 * 1024 + 1 * q.val = q.val; rw [(at1 t).2.2]; omega

/-- The block of the residual a step reads. -/
theorem blk2 (t : Fin cfg0.N) (r q : Fin 1024) : (iblk m c 2 t (ix2 r q) : EReal) = argX m c
    (ix2 ⟨1024 * (t.val / 4) + r.val, by have := pts t; omega⟩ q) := by
  rw [← res2_eq]
  unfold iblk
  refine congrArg (V m c main_arg2 : S4096x1024.Idx → EReal) (funext fun a => Fin.ext ?_)
  match a with
  | ⟨0, _⟩ => show win0_2.index t 0 * 1024 + 1 * r.val = 1024 * (t.val / 4) + r.val; rw [(at2 t).1]; omega
  | ⟨1, _⟩ => show win0_2.index t 1 * 1024 + 1 * q.val = q.val; rw [(at2 t).2]; omega

/-- The gains a step reads. -/
theorem blk3 (t : Fin cfg0.N) (q : Fin 1024) : (iblk m c 3 t (ix2 0 q) : EReal) = argG m c (ix2 0 q) := by
  rw [← gain_eq]
  unfold iblk
  refine congrArg (V m c main_arg3 : S1x1024.Idx → EReal) (funext fun a => Fin.ext ?_)
  match a with
  | ⟨0, _⟩ => show win0_3.index t 0 * 1 + 1 * 0 = 0; rw [(at3 t).1]
  | ⟨1, _⟩ => show win0_3.index t 1 * 1024 + 1 * q.val = q.val; rw [(at3 t).2]; omega

/-- What is left after a step depends on the step's number alone. -/
theorem outs_congr {n n' : ℕ} (h : n = n') (hn : n < cfg0.N) (hn' : n' < cfg0.N) : outsAt0 m c n hn = outsAt0 m c n' hn' := by
  subst h; rfl

/-- The accumulator after the first step of a tile. -/
theorem acc_a (t : Fin cfg0.N) (h : t.val % 4 = 0) :
    (outsAt0 m c t.val t.isLt).2.2 = k0_pay2 k0_pay1 (iblk m c 0 t) (iblk m c 1 t) := by
  have e := congrArg (fun p => p.2.2) (outsAt0_A m c t h (by omega))
  dsimp only at e
  rw [acc_first] at e
  exact e

/-- The accumulator after a middle step. -/
theorem acc_b (t u : Fin cfg0.N) (hu : u.val = t.val + 1) (h0 : ¬u.val % 4 = 0) (h1 : ¬u.val % 4 = 3) :
    (outsAt0 m c u.val u.isLt).2.2 = k0_pay2 (outsAt0 m c t.val t.isLt).2.2 (iblk m c 0 u) (iblk m c 1 u) := by
  have e := congrArg (fun p => p.2.2) (outsAt0_B m c u h0 h1)
  rw [outs_congr m c (show u.val - 1 = t.val by omega) _ t.isLt] at e
  dsimp only at e
  rw [acc_mid] at e
  exact e

/-- The two stored blocks after the last step. -/
theorem out_c (t u : Fin cfg0.N) (hu : u.val = t.val + 1) (h1 : u.val % 4 = 3) :
    (outsAt0 m c u.val u.isLt).1
        = k0_pay3 (k0_pay2 (outsAt0 m c t.val t.isLt).2.2 (iblk m c 0 u) (iblk m c 1 u)) (iblk m c 2 u)
      ∧ (outsAt0 m c u.val u.isLt).2.1
        = k0_pay4 (k0_pay2 (outsAt0 m c t.val t.isLt).2.2 (iblk m c 0 u) (iblk m c 1 u)) (iblk m c 2 u) (iblk m c 3 u) := by
  have e := outsAt0_C m c u (by omega) h1
  rw [outs_congr m c (show u.val - 1 = t.val by omega) _ t.isLt] at e
  have e1 := congrArg (fun p => p.1) e
  have e2 := congrArg (fun p => p.2.1) e
  dsimp only at e1 e2
  rw [sum_last] at e1
  rw [norm_last] at e2
  exact ⟨e1, e2⟩

/-- The product of the activations and the weight at an entry. -/
def prd (i : Fin 4096) (q : Fin 1024) : EReal := ∑ k : Fin 4096, argA m c (ix2 i k) * argW m c (ix2 k q)

/-- The finished accumulator of a tile. -/
theorem acc_tile (p : Fin 4) (t u : Fin cfg0.N) (ht : t.val = 4 * p.val + 2) (hu : u.val = 4 * p.val + 3) (r q : Fin 1024) :
    (k0_pay2 (outsAt0 m c t.val t.isLt).2.2 (iblk m c 0 u) (iblk m c 1 u) (ix2 r q) : EReal)
      = prd m c ⟨1024 * p.val + r.val, by omega⟩ q := by
  have hN : cfg0.N = 16 := N_0
  have ha : 4 * p.val < cfg0.N := by omega
  have hb : 4 * p.val + 1 < cfg0.N := by omega
  rw [acc_b m c ⟨4 * p.val + 1, hb⟩ t (by dsimp only; omega) (by omega) (by omega),
    acc_b m c ⟨4 * p.val, ha⟩ ⟨4 * p.val + 1, hb⟩ rfl (by dsimp only; omega) (by dsimp only; omega),
    acc_a m c ⟨4 * p.val, ha⟩ (by dsimp only; omega)]
  rw [step_apply, step_apply, step_apply, step_apply, zero_apply, zero_add]
  unfold prd
  rw [← Mat.sum_quarters]
  refine congrArg₂ (· + ·) (congrArg₂ (· + ·) (congrArg₂ (· + ·) ?_ ?_) ?_) ?_ <;> refine Finset.sum_congr rfl fun k _ => ?_ <;>
    rw [blk0, blk1] <;> simp only [ht, hu, Mat.quarters, Nat.mul_zero, Nat.mul_one, Nat.zero_add] <;> rfl

/-- **The kernel's first result at an entry**: the residual plus the product. -/
theorem res_entry (p : Fin 4) (r q : Fin 1024) :
    res m c (ix2 ⟨1024 * p.val + r.val, by omega⟩ q)
      = argX m c (ix2 ⟨1024 * p.val + r.val, by omega⟩ q) + prd m c ⟨1024 * p.val + r.val, by omega⟩ q := by
  have hN : cfg0.N = 16 := N_0
  have ha : 4 * p.val + 2 < cfg0.N := by omega
  have hb : 4 * p.val + 3 < cfg0.N := by omega
  have hp : pt4Of (ix2 ⟨1024 * p.val + r.val, by omega⟩ q) = 4 * p.val + 3 := by
    show 4 * (1 * ((1024 * p.val + r.val) / 1024 - 0) + 1 * (q.val / 1024 - 0)) + 3 = _
    omega
  have hl : loc4Of (ix2 ⟨1024 * p.val + r.val, by omega⟩ q) = ix2 r q := funext fun a => Fin.ext (by
    match a with
    | ⟨0, _⟩ => show (1024 * p.val + r.val) % 1024 = r.val; omega
    | ⟨1, _⟩ => exact Nat.mod_eq_of_lt q.isLt)
  have e : res m c (ix2 ⟨1024 * p.val + r.val, by omega⟩ q) = (outsAt0 m c (4 * p.val + 3) hb).1 (ix2 r q) := by
    refine (dif_pos (hp.symm ▸ hb)).trans ?_
    rw [hl, outsAt0_sweep]
    exact congrFun (congrArg (fun p => p.1) (fold0_congr m c _ _ _ _ hp)) _
  rw [e, (out_c m c ⟨4 * p.val + 2, ha⟩ ⟨4 * p.val + 3, hb⟩ rfl (by dsimp only; omega)).1, sum_apply, blk2,
    acc_tile m c p _ _ rfl rfl]
  simp only [Mat.quarters]

/-- **The kernel's second result at an entry**: the first result's row scaled to unit mean square, times the gains. -/
theorem nrm_entry (p : Fin 4) (r q : Fin 1024) :
    nrm m c (ix2 ⟨1024 * p.val + r.val, by omega⟩ q)
      = Mat.unit (fun k => argX m c (ix2 ⟨1024 * p.val + r.val, by omega⟩ k) + prd m c ⟨1024 * p.val + r.val, by omega⟩ k) q
        * argG m c (ix2 0 q) := by
  have hN : cfg0.N = 16 := N_0
  have ha : 4 * p.val + 2 < cfg0.N := by omega
  have hb : 4 * p.val + 3 < cfg0.N := by omega
  have hp : pt5Of (ix2 ⟨1024 * p.val + r.val, by omega⟩ q) = 4 * p.val + 3 := by
    show 4 * (1 * ((1024 * p.val + r.val) / 1024 - 0) + 1 * (q.val / 1024 - 0)) + 3 = _
    omega
  have hl : loc5Of (ix2 ⟨1024 * p.val + r.val, by omega⟩ q) = ix2 r q := funext fun a => Fin.ext (by
    match a with
    | ⟨0, _⟩ => show (1024 * p.val + r.val) % 1024 = r.val; omega
    | ⟨1, _⟩ => exact Nat.mod_eq_of_lt q.isLt)
  have e : nrm m c (ix2 ⟨1024 * p.val + r.val, by omega⟩ q) = (outsAt0 m c (4 * p.val + 3) hb).2.1 (ix2 r q) := by
    refine (dif_pos (hp.symm ▸ hb)).trans ?_
    rw [hl, outsAt0_sweep]
    exact congrFun (congrArg (fun p => p.2.1) (fold0_congr m c _ _ _ _ hp)) _
  rw [e, (out_c m c ⟨4 * p.val + 2, ha⟩ ⟨4 * p.val + 3, hb⟩ rfl (by dsimp only; omega)).2, norm_apply, blk3]
  refine congrArg (fun e : EReal => e * argG m c (ix2 0 q)) (congrArg (fun f => Mat.unit f q) (funext fun k => ?_))
  rw [blk2, acc_tile m c p _ _ rfl rfl]
  simp only [Mat.quarters]

/-- The two results at any entry. -/
theorem kernel_sum (i : Fin 4096) (q : Fin 1024) : res m c (ix2 i q) = argX m c (ix2 i q) + prd m c i q := by
  have b : 1024 * (i.val / 1024) + i.val % 1024 < 4096 := by omega
  obtain e : i = ⟨1024 * (i.val / 1024) + i.val % 1024, b⟩ := Fin.ext (Nat.div_add_mod _ _).symm
  rw [e]
  exact res_entry m c ⟨i.val / 1024, by omega⟩ ⟨i.val % 1024, by omega⟩ q

theorem kernel_norm (i : Fin 4096) (q : Fin 1024) :
    nrm m c (ix2 i q) = Mat.unit (fun k => argX m c (ix2 i k) + prd m c i k) q * argG m c (ix2 0 q) := by
  have b : 1024 * (i.val / 1024) + i.val % 1024 < 4096 := by omega
  obtain e : i = ⟨1024 * (i.val / 1024) + i.val % 1024, b⟩ := Fin.ext (Nat.div_add_mod _ _).symm
  rw [e]
  exact nrm_entry m c ⟨i.val / 1024, by omega⟩ ⟨i.val % 1024, by omega⟩ q

end Cert.Down

namespace Cert.Down.Ref

open Cert.Reference7Ideal Cert.Reference7Ideal.Gen
open Idealize.ShloMosaic Idealize.ShloMosaic.TcCoe

/-- The product of the reference at an entry. -/
theorem prod (a : S4096x4096.Idx → EReal) (w : S4096x1024.Idx → EReal) (i : Fin 4096) (j : Fin 1024) :
    (Host.dotGeneral (F := Ideal) (φ₁ := .f32) (φ₂ := .f32) dot_S4096x4096_S4096x1024_S4096x1024_1_0_0_1_n_n none a w (ix2 i j) : EReal)
      = ∑ k : Fin 4096, a (ix2 i k) * w (ix2 k j) := by
  simp only [pointwise, zero_add]

/-- **The reference's second result at an entry**, of its first result. -/
theorem norm (x : S4096x1024.Idx → EReal) (g : S1x1024.Idx → EReal) (i : Fin 4096) (j : Fin 1024) :
    (truncf (F := Ideal) .bf16 (mulf (F := Ideal) (φ := .f32) (mulf x (broadcastInDim S4096x1024 ![0, 1] bcast_S4096x1_S4096x1024_0_1
      (Host.rsqrt (F := Ideal) (φ := .f32) (addf (Host.divf (broadcastInDim S4096x1 ![0] bcast_S4096_S4096x1_0 (Host.reduceAdd (F := Ideal) (φ := .f32) (mulf x x)
        (constant S_ .f32 0x00000000#32) reducesTo_S4096x1024_S4096_d1 h_S_)) (broadcastInDim S4096x1 ![] bcast_S_S4096x1 (constant S_ .f32 0x44800000#32)))
        (broadcastInDim S4096x1 ![] bcast_S_S4096x1 (constant S_ .f32 0x358637BD#32))))))
      (broadcastInDim S4096x1024 ![0, 1] bcast_S1x1024_S4096x1024_0_1 g)) bitsLt_bf16_f32 (ix2 i j) : EReal)
      = Mat.unit (fun k => x (ix2 i k)) j * g (ix2 0 j) := by
  unfold Mat.unit
  simp only [pointwise, zero_add]
  rfl

end Cert.Down.Ref

end
-- ==== Proof.DownLast.lean ====
/- The second product of the last MLP, added to the residual: what the tiled kernel leaves, entry by entry. -/
module

public import proofs.«01_k».proof.Proof.Down
public import proofs.«01_k».proof.Proof.Gen.Kernel8Ideal.Value
public import proofs.«01_k».proof.Proof.Gen.Reference8Ideal.Run
public import Idealize.ShloMosaic.Lib.Pointwise
public import Idealize.ShloMosaic.Lib.Tactic

@[expose] public section

set_option maxRecDepth 16384

noncomputable section

namespace Cert.DownLast

open Cert.Kernel8Ideal Cert.Kernel8Ideal.Gen Cert.Kernel8Ideal.Value
open Idealize.ShloMosaic Idealize.ShloMosaic.TcCoe Idealize.ShloMosaic.Tactic
open Idealize.SL Idealize.SL.Sem

/-- The first step of a tile leaves, in the accumulator, the product of the two blocks over a zero start. -/
theorem acc_first (c i a3 h3 a4 h4 a5 h5 a6 h6 a7 h7 hc0 hc1) (x y v) :
    sout0_A_0 (F := Ideal) c i a3 h3 a4 h4 a5 h5 a6 h6 a7 h7 hc0 hc1 x y v = k0_pay2 k0_pay1 x y := by
  unfold sout0_A_0
  rw [View.read_writes_eq_canon _ _ _ (scover0_A_0 c i a3 h3 a4 h4 a5 h5 a6 h6 a7 h7 hc0 hc1 x y v)]
  unfold kernelRun0_A
  dsimp only
  sl_unfold_words
  rw [View.canon_cons_unit_zero (S := S1024x1024) Mat.off2, View.readCov_unit_zero (S := S1024x1024) _ Mat.off2]
  simp only [View.readAt_eq_ld, h3.read_unread, h4.read_unread, View.ld_unit_zero (S := S1024x1024) Mat.off2,
    View.ld_unit_zero (S := S1x1024x1024) Mat.off3]

/-- A middle step adds the product of its two blocks to the accumulator. -/
theorem acc_mid (c i a3 h3 a4 h4 a5 h5 a6 h6 a7 h7 hc0 hc1) (x y v s) :
    sout0_B_0 (F := Ideal) c i a3 h3 a4 h4 a5 h5 a6 h6 a7 h7 hc0 hc1 x y v s = k0_pay2 s x y := by
  unfold sout0_B_0
  rw [View.read_writes_eq_canon _ _ _ (scover0_B_0 c i a3 h3 a4 h4 a5 h5 a6 h6 a7 h7 hc0 hc1 x y v s)]
  unfold kernelRun0_B
  dsimp only
  sl_unfold_words
  rw [View.canon_unit_zero (S := S1024x1024) Mat.off2]
  simp only [View.readAt_eq_ld, h3.read_unread, h4.read_unread, h7.read_unread, View.ld_unit_zero (S := S1024x1024) Mat.off2,
    View.ld_unit_zero (S := S1x1024x1024) Mat.off3]

/-- The last step of a tile stores the residual plus the finished accumulator. -/
theorem sum_last (c i a3 h3 a4 h4 a5 h5 a6 h6 a7 h7 hc0 hc1) (x y v s) :
    out0_C_3 (F := Ideal) c i a3 h3 a4 h4 a5 h5 a6 h6 a7 h7 hc0 hc1 x y v s = k0_pay3 (k0_pay2 s x y) v := by
  unfold out0_C_3
  rw [View.read_writes_eq_canon _ _ _ (cover0_C_3 c i a3 h3 a4 h4 a5 h5 a6 h6 a7 h7 hc0 hc1 x y v s)]
  unfold kernelRun0_C
  dsimp only
  sl_unfold_words
  rw [View.canon_unit_zero (S := S1024x1024) Mat.off2, View.readCov_unit_zero (S := S1024x1024) _ Mat.off2]
  simp only [View.readAt_eq_ld, h3.read_unread, h4.read_unread, h5.read_unread, h7.read_unread,
    View.ld_unit_zero (S := S1024x1024) Mat.off2, View.ld_unit_zero (S := S1x1024x1024) Mat.off3]

/-- An accumulating step, the zero start and the stored sum at an entry: as in the first MLP's product. -/
theorem step_apply (s : Vec Ideal S1024x1024 .f32) (x : Vec Ideal S1024x1024 .bf16) (y : Vec Ideal S1x1024x1024 .bf16) (r q : Fin 1024) :
    k0_pay2 s x y (ix2 r q) = (s (ix2 r q) : EReal) + ∑ k : Fin 1024, (x (ix2 r k) : EReal) * y (ix3 0 k q) := Down.step_apply s x y r q

theorem zero_apply (i : S1024x1024.Idx) : (k0_pay1 (F := Ideal) i : EReal) = 0 := Down.zero_apply i

theorem sum_apply (s v : Vec Ideal S1024x1024 .f32) (r q : Fin 1024) :
    k0_pay3 s v (ix2 r q) = (v (ix2 r q) : EReal) + s (ix2 r q) := rfl

variable (m : (ℓ : Loc nD τ sig) → Buf (Elt Ideal) ℓ) (c : Dev nD)

theorem at0 : ∀ t : Fin cfg0.N, win0_0.index t 0 = t.val / 4 ∧ win0_0.index t 1 = t.val % 4 := by decide +kernel
theorem at1 : ∀ t : Fin cfg0.N, win0_1.index t 0 = t.val % 4 ∧ win0_1.index t 1 = 0 ∧ win0_1.index t 2 = 0 := by decide +kernel
theorem at2 : ∀ t : Fin cfg0.N, win0_2.index t 0 = t.val / 4 ∧ win0_2.index t 1 = 0 := by decide +kernel
theorem pts (t : Fin cfg0.N) : t.val < 16 := lt_of_lt_of_eq t.isLt (show cfg0.N = 16 from N_0)

/-- The three arguments (activations, weight, residual), the two arrays prepared for the kernel, and the result array. -/
def argA : S4096x4096.Idx → EReal := m ((c.tc : Thread nD τ).loc main_arg0)
def argW : S4096x1024.Idx → EReal := m ((c.tc : Thread nD τ).loc main_arg1)
def argX : S4096x1024.Idx → EReal := m ((c.tc : Thread nD τ).loc main_arg2)
def act : S4096x4096.Idx → EReal := V m c main_v0
def wts : S4x1024x1024.Idx → EReal := V m c main_v2
def res : S4096x1024.Idx → EReal := G3 m c

theorem act_eq : act m c = argA m c := by
  unfold act V
  after_results
  rfl

theorem wts_eq (p : Fin 4) (k q : Fin 1024) : wts m c (ix3 p k q) = argW m c (ix2 ⟨1024 * p.val + k.val, by omega⟩ q) := by
  have e : wts m c = shapeCast S4x1024x1024 (truncf (F := Ideal) .bf16 (m ((c.tc : Thread nD τ).loc main_arg1)) bitsLt_bf16_f32)
      shapeCasts_S4096x1024_S4x1024x1024 := by
    unfold wts V
    after_results
    rfl
  rw [e]
  simp only [pointwise]
  simp only [Nat.mul_comm p.val 1024]
  rfl

theorem res2_eq : (V m c main_arg2 : S4096x1024.Idx → EReal) = argX m c := by
  unfold V
  after_results
  rfl

/-- The blocks a step reads. -/
theorem blk0 (t : Fin cfg0.N) (r k : Fin 1024) : (iblk m c 0 t (ix2 r k) : EReal) = argA m c
    (ix2 ⟨1024 * (t.val / 4) + r.val, by have := pts t; omega⟩ ⟨1024 * (t.val % 4) + k.val, by omega⟩) := by
  rw [← act_eq]
  unfold iblk
  refine congrArg (act m c) (Mat.idx2 ?_ ?_)
  · show win0_0.index t 0 * 1024 + 1 * r.val = 1024 * (t.val / 4) + r.val; rw [(at0 t).1]; omega
  · show win0_0.index t 1 * 1024 + 1 * k.val = 1024 * (t.val % 4) + k.val; rw [(at0 t).2]; omega

theorem blk1 (t : Fin cfg0.N) (k q : Fin 1024) : (iblk m c 1 t (ix3 0 k q) : EReal) = argW m c
    (ix2 ⟨1024 * (t.val % 4) + k.val, by omega⟩ q) := by
  refine Eq.trans ?_ (wts_eq m c ⟨t.val % 4, by omega⟩ k q)
  unfold iblk
  refine congrArg (wts m c) (Mat.idx3 ?_ ?_ ?_)
  · show win0_1.index t 0 * 1 + 1 * 0 = t.val % 4; rw [(at1 t).1]; omega
  · show win0_1.index t 1 * 1024 + 1 * k.val = k.val; rw [(at1 t).2.1]; omega
  · show win0_1.index t 2 * 1024 + 1 * q.val = q.val; rw [(at1 t).2.2]; omega

theorem blk2 (t : Fin cfg0.N) (r q : Fin 1024) : (iblk m c 2 t (ix2 r q) : EReal) = argX m c
    (ix2 ⟨1024 * (t.val / 4) + r.val, by have := pts t; omega⟩ q) := by
  rw [← res2_eq]
  unfold iblk
  refine congrArg (V m c main_arg2 : S4096x1024.Idx → EReal) (Mat.idx2 ?_ ?_)
  · show win0_2.index t 0 * 1024 + 1 * r.val = 1024 * (t.val / 4) + r.val; rw [(at2 t).1]; omega
  · show win0_2.index t 1 * 1024 + 1 * q.val = q.val; rw [(at2 t).2]; omega

/-- What is left after a step depends on the step's number alone. -/
theorem outs_congr {n n' : ℕ} (h : n = n') (hn : n < cfg0.N) (hn' : n' < cfg0.N) : outsAt0 m c n hn = outsAt0 m c n' hn' := by
  subst h; rfl

/-- The accumulator after the first step of a tile, after a middle step, and the block stored after the last. -/
theorem acc_a (t : Fin cfg0.N) (h : t.val % 4 = 0) :
    (outsAt0 m c t.val t.isLt).2 = k0_pay2 k0_pay1 (iblk m c 0 t) (iblk m c 1 t) := by
  have e := congrArg Prod.snd (outsAt0_A m c t h (by omega))
  dsimp only at e
  rw [acc_first] at e
  exact e

theorem acc_b (t u : Fin cfg0.N) (hu : u.val = t.val + 1) (h0 : ¬u.val % 4 = 0) (h1 : ¬u.val % 4 = 3) :
    (outsAt0 m c u.val u.isLt).2 = k0_pay2 (outsAt0 m c t.val t.isLt).2 (iblk m c 0 u) (iblk m c 1 u) := by
  have e := congrArg Prod.snd (outsAt0_B m c u h0 h1)
  rw [outs_congr m c (show u.val - 1 = t.val by omega) _ t.isLt] at e
  dsimp only at e
  rw [acc_mid] at e
  exact e

theorem out_c (t u : Fin cfg0.N) (hu : u.val = t.val + 1) (h1 : u.val % 4 = 3) :
    (outsAt0 m c u.val u.isLt).1
      = k0_pay3 (k0_pay2 (outsAt0 m c t.val t.isLt).2 (iblk m c 0 u) (iblk m c 1 u)) (iblk m c 2 u) := by
  have e := congrArg Prod.fst (outsAt0_C m c u (by omega) h1)
  rw [outs_congr m c (show u.val - 1 = t.val by omega) _ t.isLt] at e
  dsimp only at e
  rw [sum_last] at e
  exact e

/-- The finished accumulator of a tile. -/
theorem acc_tile (p : Fin 4) (t u : Fin cfg0.N) (ht : t.val = 4 * p.val + 2) (hu : u.val = 4 * p.val + 3) (r q : Fin 1024) :
    (k0_pay2 (outsAt0 m c t.val t.isLt).2 (iblk m c 0 u) (iblk m c 1 u) (ix2 r q) : EReal)
      = ∑ k : Fin 4096, argA m c (ix2 ⟨1024 * p.val + r.val, by omega⟩ k) * argW m c (ix2 k q) := by
  have hN : cfg0.N = 16 := N_0
  have ha : 4 * p.val < cfg0.N := by omega
  have hb : 4 * p.val + 1 < cfg0.N := by omega
  rw [acc_b m c ⟨4 * p.val + 1, hb⟩ t (by dsimp only; omega) (by omega) (by omega),
    acc_b m c ⟨4 * p.val, ha⟩ ⟨4 * p.val + 1, hb⟩ rfl (by dsimp only; omega) (by dsimp only; omega),
    acc_a m c ⟨4 * p.val, ha⟩ (by dsimp only; omega)]
  rw [step_apply, step_apply, step_apply, step_apply, zero_apply, zero_add]
  rw [← Mat.sum_quarters]
  refine congrArg₂ (· + ·) (congrArg₂ (· + ·) (congrArg₂ (· + ·) ?_ ?_) ?_) ?_ <;> refine Finset.sum_congr rfl fun k _ => ?_ <;>
    rw [blk0, blk1] <;> simp only [ht, hu, Mat.quarters, Nat.mul_zero, Nat.mul_one, Nat.zero_add] <;> rfl

/-- The result in a tile. -/
theorem tile_entry (p : Fin 4) (r q : Fin 1024) :
    res m c (ix2 ⟨1024 * p.val + r.val, by omega⟩ q) = argX m c (ix2 ⟨1024 * p.val + r.val, by omega⟩ q)
      + ∑ k : Fin 4096, argA m c (ix2 ⟨1024 * p.val + r.val, by omega⟩ k) * argW m c (ix2 k q) := by
  have hN : cfg0.N = 16 := N_0
  have ha : 4 * p.val + 2 < cfg0.N := by omega
  have hb : 4 * p.val + 3 < cfg0.N := by omega
  have hp : pt3Of (ix2 ⟨1024 * p.val + r.val, by omega⟩ q) = 4 * p.val + 3 := by
    show 4 * (1 * ((1024 * p.val + r.val) / 1024 - 0) + 1 * (q.val / 1024 - 0)) + 3 = _
    omega
  have hl : loc3Of (ix2 ⟨1024 * p.val + r.val, by omega⟩ q) = ix2 r q := Mat.idx2
    (by show (1024 * p.val + r.val) % 1024 = r.val; omega) (Nat.mod_eq_of_lt q.isLt)
  have e : res m c (ix2 ⟨1024 * p.val + r.val, by omega⟩ q) = (outsAt0 m c (4 * p.val + 3) hb).1 (ix2 r q) := by
    refine (dif_pos (hp.symm ▸ hb)).trans ?_
    rw [hl, outsAt0_sweep]
    exact congrFun (congrArg Prod.fst (fold0_congr m c _ _ _ _ hp)) _
  rw [e, out_c m c ⟨4 * p.val + 2, ha⟩ ⟨4 * p.val + 3, hb⟩ rfl (by dsimp only; omega), sum_apply, blk2,
    acc_tile m c p _ _ rfl rfl]
  simp only [Mat.quarters]

/-- **The kernel's result at an entry**: the residual plus the product. -/
theorem kernel_entry (i : Fin 4096) (q : Fin 1024) :
    res m c (ix2 i q) = argX m c (ix2 i q) + ∑ k : Fin 4096, argA m c (ix2 i k) * argW m c (ix2 k q) := by
  have b : 1024 * (i.val / 1024) + i.val % 1024 < 4096 := by omega
  obtain e : i = ⟨1024 * (i.val / 1024) + i.val % 1024, b⟩ := Fin.ext (Nat.div_add_mod _ _).symm
  rw [e]
  exact tile_entry m c ⟨i.val / 1024, by omega⟩ ⟨i.val % 1024, by omega⟩ q

end Cert.DownLast

namespace Cert.DownLast.Ref

open Cert.Reference8Ideal Cert.Reference8Ideal.Gen
open Idealize.ShloMosaic Idealize.ShloMosaic.TcCoe

/-- **The reference's result at an entry**. -/
theorem entry (a : S4096x4096.Idx → EReal) (w x : S4096x1024.Idx → EReal) (i : Fin 4096) (j : Fin 1024) :
    (addf (F := Ideal) (φ := .f32) x (Host.dotGeneral (F := Ideal) (φ₁ := .f32) (φ₂ := .f32) dot_S4096x4096_S4096x1024_S4096x1024_1_0_0_1_n_n none a w) (ix2 i j) : EReal)
      = x (ix2 i j) + ∑ k : Fin 4096, a (ix2 i k) * w (ix2 k j) :=
  congrArg (fun e : EReal => x (ix2 i j) + e) (Down.Ref.prod a w i j)

end Cert.DownLast.Ref

end
-- ==== Proof.FoxDwin.lean ====
/- The gradient of the attention layer's input weight, features along the rows: what the tiled kernel leaves, entry by entry. -/
module

public import proofs.«01_k».proof.Proof.MatKit
public import proofs.«01_k».proof.Proof.Gen.Kernel9Ideal.Value
public import proofs.«01_k».proof.Proof.Gen.Reference9Ideal.Run
public import Idealize.ShloMosaic.Lib.Pointwise
public import Idealize.ShloMosaic.Lib.Tactic

@[expose] public section

set_option maxRecDepth 16384

noncomputable section

namespace Cert.FoxDwin

open Cert.Kernel9Ideal Cert.Kernel9Ideal.Gen Cert.Kernel9Ideal.Value
open Idealize.ShloMosaic Idealize.ShloMosaic.TcCoe Idealize.ShloMosaic.Tactic
open Idealize.SL Idealize.SL.Sem

/-- The first step of a tile leaves, in the accumulator, the product of the two blocks over a zero start. -/
theorem acc_first (c i a3 h3 a4 h4 a5 h5 a6 h6 hc0 hc1) (x y) :
    sout0_A_0 (F := Ideal) c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S640x1024) Mat.off2, View.readCov_unit_zero (S := S640x1024) _ Mat.off2]
  simp only [View.readAt_eq_ld, h3.read_unread, h4.read_unread, View.ld_unit_zero (S := S640x2048) Mat.off2,
    View.ld_unit_zero (S := S2048x1024) Mat.off2]

/-- The last step of a tile stores the accumulator with the product of its two blocks added. -/
theorem out_last (c i a3 h3 a4 h4 a5 h5 a6 h6 hc0 hc1) (x y s) :
    out0_B_2 (F := Ideal) c i a3 h3 a4 h4 a5 h5 a6 h6 hc0 hc1 x y s = k0_pay3 (k0_pay2 s x y) := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero (S := S640x1024) Mat.off2, View.readCov_unit_zero (S := S640x1024) _ Mat.off2]
  simp only [View.readAt_eq_ld, h3.read_unread, h4.read_unread, h6.read_unread, View.ld_unit_zero (S := S640x2048) Mat.off2,
    View.ld_unit_zero (S := S2048x1024) Mat.off2, View.ld_unit_zero (S := S640x1024) Mat.off2]

/-- The product of two blocks at an entry. -/
theorem prod_apply (x : S640x2048.Idx → EReal) (y : S2048x1024.Idx → EReal) (r : Fin 640) (q : Fin 1024) :
    (matmul (F := Ideal) (φ₁ := .bf16) (φ₂ := .bf16) dot_S640x2048_S2048x1024_S640x1024_1_0_0_1_n_n none x y
      (constant S640x1024 .f32 0x00000000#32) (ix2 r q) : EReal) = ∑ k : Fin 2048, x (ix2 r k) * y (ix2 k q) := by
  simp only [pointwise, zero_add]

/-- An accumulating step at an entry. -/
theorem step_apply (s : Vec Ideal S640x1024 .f32) (x : Vec Ideal S640x2048 .bf16) (y : Vec Ideal S2048x1024 .bf16) (r : Fin 640) (q : Fin 1024) :
    k0_pay2 s x y (ix2 r q) = (s (ix2 r q) : EReal) + ∑ k : Fin 2048, (x (ix2 r k) : EReal) * y (ix2 k q) := by
  unfold k0_pay2
  simp only [shapeCast_self]
  exact congrArg (fun e : EReal => (s (ix2 r q) : EReal) + e) (prod_apply x y r q)

/-- The zero start, and the stored block. -/
theorem zero_apply (i : S640x1024.Idx) : (k0_pay1 (F := Ideal) i : EReal) = 0 := by
  unfold k0_pay1
  simp only [shapeCast_self]
  exact Ideal.ofBits_zero_f32

theorem store_apply (v : Vec Ideal S640x1024 .f32) (i : S640x1024.Idx) : (k0_pay3 v i : EReal) = v i := rfl

variable (m : (ℓ : Loc nD τ sig) → Buf (Elt Ideal) ℓ) (c : Dev nD)

theorem at0 : ∀ t : Fin cfg0.N, win0_0.index t 0 = t.val / 2 ∧ win0_0.index t 1 = t.val % 2 := by decide +kernel
theorem at1 : ∀ t : Fin cfg0.N, win0_1.index t 0 = t.val % 2 ∧ win0_1.index t 1 = 0 := by decide +kernel
theorem pts (t : Fin cfg0.N) : t.val < 10 := lt_of_lt_of_eq t.isLt (show cfg0.N = 10 from N_0)

/-- The two arguments, the two arrays the kernel reads, and the result array. -/
def argH : S4096x1024.Idx → EReal := m ((c.tc : Thread nD τ).loc main_arg0)
def argD : S4096x3200.Idx → EReal := m ((c.tc : Thread nD τ).loc main_arg1)
def cot : S3200x4096.Idx → EReal := V m c main_v1
def inp : S4096x1024.Idx → EReal := V m c main_v2
def res : S3200x1024.Idx → EReal := G2 m c

theorem inp_eq : inp m c = argH m c := by
  unfold inp V
  after_results
  rfl

theorem cot_eq (j : Fin 3200) (k : Fin 4096) : cot m c (ix2 j k) = argD m c (ix2 k j) := by
  have e : cot m c = truncf (F := Ideal) .bf16 (transpose S3200x4096 [1, 0] (m ((c.tc : Thread nD τ).loc main_arg1))
      transposes_S4096x3200_S3200x4096_1_0) bitsLt_bf16_f32 := by
    unfold cot V
    after_results
  rw [e]
  simp only [pointwise]
  rfl

/-- The blocks a step reads. -/
theorem blk0 (t : Fin cfg0.N) (r : Fin 640) (k : Fin 2048) : (iblk m c 0 t (ix2 r k) : EReal) = argD m c
    (ix2 ⟨2048 * (t.val % 2) + k.val, by omega⟩ ⟨640 * (t.val / 2) + r.val, by have := pts t; omega⟩) := by
  rw [← cot_eq]
  unfold iblk
  refine congrArg (cot m c) (Mat.idx2 ?_ ?_)
  · show win0_0.index t 0 * 640 + 1 * r.val = 640 * (t.val / 2) + r.val; rw [(at0 t).1]; omega
  · show win0_0.index t 1 * 2048 + 1 * k.val = 2048 * (t.val % 2) + k.val; rw [(at0 t).2]; omega

theorem blk1 (t : Fin cfg0.N) (k : Fin 2048) (q : Fin 1024) :
    (iblk m c 1 t (ix2 k q) : EReal) = argH m c (ix2 ⟨2048 * (t.val % 2) + k.val, by omega⟩ q) := by
  rw [← inp_eq]
  unfold iblk
  refine congrArg (inp m c) (Mat.idx2 ?_ ?_)
  · show win0_1.index t 0 * 2048 + 1 * k.val = 2048 * (t.val % 2) + k.val; rw [(at1 t).1]; omega
  · show win0_1.index t 1 * 1024 + 1 * q.val = q.val; rw [(at1 t).2]; omega

/-- What is left after a step depends on the step's number alone. -/
theorem outs_congr {n n' : ℕ} (h : n = n') (hn : n < cfg0.N) (hn' : n' < cfg0.N) : outsAt0 m c n hn = outsAt0 m c n' hn' := by
  subst h; rfl

/-- After the first step of a tile. -/
theorem pair_acc (t : Fin cfg0.N) (h : t.val % 2 = 0) :
    (outsAt0 m c t.val t.isLt).2 = k0_pay2 k0_pay1 (iblk m c 0 t) (iblk m c 1 t) := by
  have e := congrArg Prod.snd (outsAt0_A m c t h (by omega))
  dsimp only at e
  rw [acc_first] at e
  exact e

/-- After the two steps of a tile. -/
theorem pair_out (t u : Fin cfg0.N) (hu : u.val = t.val + 1) (h : t.val % 2 = 0) :
    (outsAt0 m c u.val u.isLt).1 = k0_pay3 (k0_pay2 (k0_pay2 k0_pay1 (iblk m c 0 t) (iblk m c 1 t)) (iblk m c 0 u) (iblk m c 1 u)) := by
  have e := congrArg Prod.fst (outsAt0_B m c u (by omega) (by omega))
  rw [outs_congr m c (show u.val - 1 = t.val by omega) _ t.isLt, pair_acc m c t h] at e
  dsimp only at e
  rw [out_last] at e
  exact e

/-- The result in a tile. -/
theorem tile_entry (p : Fin 5) (r : Fin 640) (q : Fin 1024) :
    res m c (ix2 ⟨640 * p.val + r.val, by omega⟩ q)
      = ∑ k : Fin 4096, argD m c (ix2 k ⟨640 * p.val + r.val, by omega⟩) * argH m c (ix2 k q) := by
  have hp : pt2Of (ix2 ⟨640 * p.val + r.val, by omega⟩ q) = 2 * p.val + 1 := by
    show 2 * (1 * ((640 * p.val + r.val) / 640 - 0) + 1 * (q.val / 1024 - 0)) + 1 = _
    omega
  have hl : loc2Of (ix2 ⟨640 * p.val + r.val, by omega⟩ q) = ix2 r q := Mat.idx2
    (by show (640 * p.val + r.val) % 640 = r.val; omega) (Nat.mod_eq_of_lt q.isLt)
  have hN : cfg0.N = 10 := N_0
  have hb : 2 * p.val + 1 < cfg0.N := by omega
  have ha : 2 * p.val < cfg0.N := by omega
  have e : res m c (ix2 ⟨640 * p.val + r.val, by omega⟩ q) = (outsAt0 m c (2 * p.val + 1) hb).1 (ix2 r q) := by
    refine (dif_pos (hp.symm ▸ hb)).trans ?_
    rw [hl, outsAt0_sweep]
    exact congrFun (congrArg Prod.fst (fold0_congr m c _ _ _ _ hp)) _
  rw [e, pair_out m c ⟨2 * p.val, ha⟩ ⟨2 * p.val + 1, hb⟩ rfl (by dsimp only; omega)]
  rw [store_apply, step_apply, step_apply, zero_apply, zero_add, ← Mat.sum_halves]
  refine congrArg₂ (· + ·) ?_ ?_ <;> refine Finset.sum_congr rfl fun k _ => ?_ <;>
    rw [blk0, blk1] <;> simp only [Mat.halves, Nat.mul_zero, Nat.mul_one, Nat.zero_add]

/-- **The kernel's result at an entry**, of its arguments. -/
theorem kernel_entry (j : Fin 3200) (q : Fin 1024) :
    res m c (ix2 j q) = ∑ k : Fin 4096, argD m c (ix2 k j) * argH m c (ix2 k q) := by
  have b : 640 * (j.val / 640) + j.val % 640 < 3200 := by omega
  obtain e : j = ⟨640 * (j.val / 640) + j.val % 640, b⟩ := Fin.ext (Nat.div_add_mod _ _).symm
  rw [e]
  exact tile_entry m c ⟨j.val / 640, by omega⟩ ⟨j.val % 640, by omega⟩ q

end Cert.FoxDwin

namespace Cert.FoxDwin.Ref

open Cert.Reference9Ideal Cert.Reference9Ideal.Gen
open Idealize.ShloMosaic Idealize.ShloMosaic.TcCoe

/-- **The reference's result at an entry**. -/
theorem entry (h : S4096x1024.Idx → EReal) (d : S4096x3200.Idx → EReal) (j : Fin 3200) (q : Fin 1024) :
    (truncf (F := Ideal) .bf16 (transpose S3200x1024 [1, 0] (transpose S1024x3200 [1, 0]
      (Host.dotGeneral (F := Ideal) (φ₁ := .f32) (φ₂ := .f32) dot_S4096x3200_S4096x1024_S3200x1024_0_0_1_1_n_n none d h)
      transposes_S3200x1024_S1024x3200_1_0) transposes_S1024x3200_S3200x1024_1_0) bitsLt_bf16_f32 (ix2 j q) : EReal)
      = ∑ k : Fin 4096, d (ix2 k j) * h (ix2 k q) := by
  simp only [pointwise, zero_add]

end Cert.FoxDwin.Ref

end
-- ==== Proof.LruDwin.lean ====
/- The gradient of the recurrent layer's input weight, in shards of its columns: what the tiled kernel leaves, entry by entry. -/
module

public import proofs.«01_k».proof.Proof.MatKit
public import proofs.«01_k».proof.Proof.Gen.Kernel10Ideal.Value
public import proofs.«01_k».proof.Proof.Gen.Reference10Ideal.Run
public import Idealize.ShloMosaic.Lib.Pointwise
public import Idealize.ShloMosaic.Lib.Tactic

@[expose] public section

set_option maxRecDepth 16384

noncomputable section

namespace Cert.LruDwin

open Cert.Kernel10Ideal Cert.Kernel10Ideal.Gen Cert.Kernel10Ideal.Value
open Idealize.ShloMosaic Idealize.ShloMosaic.TcCoe Idealize.ShloMosaic.Tactic
open Idealize.SL Idealize.SL.Sem

/-- The first step of a tile leaves, in the accumulator, the product of the two blocks over a zero start. -/
theorem acc_first (c i a3 h3 a4 h4 a5 h5 a6 h6 hc0 hc1) (x y) :
    sout0_A_0 (F := Ideal) c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x512) Mat.off2, View.readCov_unit_zero (S := S1024x512) _ Mat.off2]
  simp only [View.readAt_eq_ld, h3.read_unread, h4.read_unread, View.ld_unit_zero (S := S2048x1024) Mat.off2,
    View.ld_unit_zero (S := S2048x512) Mat.off2]

/-- The last step of a tile stores the accumulator with the product of its two blocks added. -/
theorem out_last (c i a3 h3 a4 h4 a5 h5 a6 h6 hc0 hc1) (x y s) :
    out0_B_2 (F := Ideal) c i a3 h3 a4 h4 a5 h5 a6 h6 hc0 hc1 x y s = k0_pay3 (k0_pay2 s x y) := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero (S := S1x1024x512) Mat.off3, View.readCov_unit_zero (S := S1024x512) _ Mat.off2]
  simp only [View.readAt_eq_ld, h3.read_unread, h4.read_unread, h6.read_unread, View.ld_unit_zero (S := S2048x1024) Mat.off2,
    View.ld_unit_zero (S := S2048x512) Mat.off2, View.ld_unit_zero (S := S1024x512) Mat.off2]

/-- The product of two blocks at an entry: both are contracted along their first axis. -/
theorem prod_apply (x : S2048x1024.Idx → EReal) (y : S2048x512.Idx → EReal) (r : Fin 1024) (q : Fin 512) :
    (matmul (F := Ideal) (φ₁ := .bf16) (φ₂ := .bf16) dot_S2048x1024_S2048x512_S1024x512_0_0_1_1_n_n none x y
      (constant S1024x512 .f32 0x00000000#32) (ix2 r q) : EReal) = ∑ k : Fin 2048, x (ix2 k r) * y (ix2 k q) := by
  simp only [pointwise, zero_add]

/-- An accumulating step at an entry. -/
theorem step_apply (s : Vec Ideal S1024x512 .f32) (x : Vec Ideal S2048x1024 .bf16) (y : Vec Ideal S2048x512 .bf16) (r : Fin 1024) (q : Fin 512) :
    k0_pay2 s x y (ix2 r q) = (s (ix2 r q) : EReal) + ∑ k : Fin 2048, (x (ix2 k r) : EReal) * y (ix2 k q) := by
  unfold k0_pay2
  simp only [shapeCast_self]
  exact congrArg (fun e : EReal => (s (ix2 r q) : EReal) + e) (prod_apply x y r q)

/-- The zero start, and the stored block. -/
theorem zero_apply (i : S1024x512.Idx) : (k0_pay1 (F := Ideal) i : EReal) = 0 := by
  unfold k0_pay1
  simp only [shapeCast_self]
  exact Ideal.ofBits_zero_f32

theorem store_apply (v : Vec Ideal S1024x512 .f32) (r : Fin 1024) (q : Fin 512) : (k0_pay3 v (ix3 0 r q) : EReal) = v (ix2 r q) := by
  unfold k0_pay3
  simp only [pointwise]

variable (m : (ℓ : Loc nD τ sig) → Buf (Elt Ideal) ℓ) (c : Dev nD)

theorem at0 : ∀ t : Fin cfg0.N, win0_0.index t 0 = t.val % 2 ∧ win0_0.index t 1 = 0 := by decide +kernel
theorem at1 : ∀ t : Fin cfg0.N, win0_1.index t 0 = t.val % 2 ∧ win0_1.index t 1 = t.val / 2 := by decide +kernel
theorem pts (t : Fin cfg0.N) : t.val < 8 := lt_of_lt_of_eq t.isLt (show cfg0.N = 8 from N_0)

/-- The two arguments, the two arrays the kernel reads, and the result array. -/
def argH : S4096x1024.Idx → EReal := m ((c.tc : Thread nD τ).loc main_arg0)
def argD : S4096x2048.Idx → EReal := m ((c.tc : Thread nD τ).loc main_arg1)
def inp : S4096x1024.Idx → EReal := V m c main_v0
def cot : S4096x2048.Idx → EReal := V m c main_v1
def res : S4x1024x512.Idx → EReal := G2 m c

theorem inp_eq : inp m c = argH m c := by
  unfold inp V
  after_results
  rfl

theorem cot_eq : cot m c = argD m c := by
  unfold cot V
  after_results
  rfl

/-- The blocks a step reads. -/
theorem blk0 (t : Fin cfg0.N) (k : Fin 2048) (r : Fin 1024) :
    (iblk m c 0 t (ix2 k r) : EReal) = argH m c (ix2 ⟨2048 * (t.val % 2) + k.val, by omega⟩ r) := by
  rw [← inp_eq]
  unfold iblk
  refine congrArg (inp m c) (Mat.idx2 ?_ ?_)
  · show win0_0.index t 0 * 2048 + 1 * k.val = 2048 * (t.val % 2) + k.val; rw [(at0 t).1]; omega
  · show win0_0.index t 1 * 1024 + 1 * r.val = r.val; rw [(at0 t).2]; omega

theorem blk1 (t : Fin cfg0.N) (k : Fin 2048) (q : Fin 512) : (iblk m c 1 t (ix2 k q) : EReal) = argD m c
    (ix2 ⟨2048 * (t.val % 2) + k.val, by omega⟩ ⟨512 * (t.val / 2) + q.val, by have := pts t; omega⟩) := by
  rw [← cot_eq]
  unfold iblk
  refine congrArg (cot m c) (Mat.idx2 ?_ ?_)
  · show win0_1.index t 0 * 2048 + 1 * k.val = 2048 * (t.val % 2) + k.val; rw [(at1 t).1]; omega
  · show win0_1.index t 1 * 512 + 1 * q.val = 512 * (t.val / 2) + q.val; rw [(at1 t).2]; omega

/-- What is left after a step depends on the step's number alone. -/
theorem outs_congr {n n' : ℕ} (h : n = n') (hn : n < cfg0.N) (hn' : n' < cfg0.N) : outsAt0 m c n hn = outsAt0 m c n' hn' := by
  subst h; rfl

/-- After the first step of a tile. -/
theorem pair_acc (t : Fin cfg0.N) (h : t.val % 2 = 0) :
    (outsAt0 m c t.val t.isLt).2 = k0_pay2 k0_pay1 (iblk m c 0 t) (iblk m c 1 t) := by
  have e := congrArg Prod.snd (outsAt0_A m c t h (by omega))
  dsimp only at e
  rw [acc_first] at e
  exact e

/-- After the two steps of a tile. -/
theorem pair_out (t u : Fin cfg0.N) (hu : u.val = t.val + 1) (h : t.val % 2 = 0) :
    (outsAt0 m c u.val u.isLt).1 = k0_pay3 (k0_pay2 (k0_pay2 k0_pay1 (iblk m c 0 t) (iblk m c 1 t)) (iblk m c 0 u) (iblk m c 1 u)) := by
  have e := congrArg Prod.fst (outsAt0_B m c u (by omega) (by omega))
  rw [outs_congr m c (show u.val - 1 = t.val by omega) _ t.isLt, pair_acc m c t h] at e
  dsimp only at e
  rw [out_last] at e
  exact e

/-- **The kernel's result at an entry**, of its arguments. -/
theorem kernel_entry (p : Fin 4) (r : Fin 1024) (q : Fin 512) :
    res m c (ix3 p r q) = ∑ k : Fin 4096, argH m c (ix2 k r) * argD m c (ix2 k ⟨512 * p.val + q.val, by omega⟩) := by
  have hp : pt2Of (ix3 p r q) = 2 * p.val + 1 := by
    show 2 * (1 * (p.val / 1 - 0) + 1 * (r.val / 1024 - 0) + 1 * (q.val / 512 - 0)) + 1 = _
    omega
  have hl : loc2Of (ix3 p r q) = ix3 0 r q := Mat.idx3 (Nat.mod_one _) (Nat.mod_eq_of_lt r.isLt) (Nat.mod_eq_of_lt q.isLt)
  have hN : cfg0.N = 8 := N_0
  have hb : 2 * p.val + 1 < cfg0.N := by omega
  have ha : 2 * p.val < cfg0.N := by omega
  have e : res m c (ix3 p r q) = (outsAt0 m c (2 * p.val + 1) hb).1 (ix3 0 r q) := by
    have hb' : pt2Of (ix3 p r q) < cfg0.N := hp.symm ▸ hb
    refine (dif_pos hb').trans ?_
    rw [hl, outsAt0_sweep]
    exact congrFun (congrArg Prod.fst (fold0_congr m c _ _ _ _ hp)) _
  rw [e, pair_out m c ⟨2 * p.val, ha⟩ ⟨2 * p.val + 1, hb⟩ rfl (by dsimp only; omega)]
  rw [store_apply, step_apply, step_apply, zero_apply, zero_add, ← Mat.sum_halves]
  refine congrArg₂ (· + ·) ?_ ?_ <;> refine Finset.sum_congr rfl fun k _ => ?_ <;>
    rw [blk0, blk1] <;> simp only [Mat.halves, Nat.mul_zero, Nat.mul_one, Nat.zero_add]

end Cert.LruDwin

namespace Cert.LruDwin.Ref

open Cert.Reference10Ideal Cert.Reference10Ideal.Gen
open Idealize.ShloMosaic Idealize.ShloMosaic.TcCoe

/-- **The reference's result at an entry**. -/
theorem entry (h : S4096x1024.Idx → EReal) (d : S4096x2048.Idx → EReal) (p : Fin 4) (r : Fin 1024) (q : Fin 512) :
    (truncf (F := Ideal) .bf16 (transpose S4x1024x512 [1, 0, 2] (shapeCast S1024x4x512 (transpose S1024x2048 [1, 0]
      (Host.dotGeneral (F := Ideal) (φ₁ := .f32) (φ₂ := .f32) dot_S4096x2048_S4096x1024_S2048x1024_0_0_1_1_n_n none d h)
      transposes_S2048x1024_S1024x2048_1_0) shapeCasts_S1024x2048_S1024x4x512) transposes_S1024x4x512_S4x1024x512_1_0_2) bitsLt_bf16_f32 (ix3 p r q) : EReal)
      = ∑ k : Fin 4096, h (ix2 k r) * d (ix2 k ⟨512 * p.val + q.val, by omega⟩) := by
  simp only [pointwise]
  refine (zero_add _).trans (Finset.sum_congr rfl fun k _ => ?_)
  rw [mul_comm]
  simp only [Nat.mul_comm p.val 512]

end Cert.LruDwin.Ref

end
-- ==== Proof.FoxIn.lean ====
/- The input product of the attention layer, features along the rows: what the tiled kernel leaves, entry by entry. -/
module

public import proofs.«01_k».proof.Proof.MatKit
public import proofs.«01_k».proof.Proof.Gen.Kernel13Ideal.Value
public import proofs.«01_k».proof.Proof.Gen.Reference13Ideal.Run
public import Idealize.ShloMosaic.Lib.Pointwise
public import Idealize.ShloMosaic.Lib.Tactic

@[expose] public section

set_option maxRecDepth 16384

noncomputable section

namespace Cert.FoxIn

open Cert.Kernel13Ideal Cert.Kernel13Ideal.Gen Cert.Kernel13Ideal.Value
open Idealize.ShloMosaic Idealize.ShloMosaic.TcCoe Idealize.ShloMosaic.Tactic
open Idealize.SL Idealize.SL.Sem

/-- The product of two blocks at an entry: both are contracted along their second axis. -/
theorem prod_apply (x : S640x1024.Idx → EReal) (y : S1024x1024.Idx → EReal) (r : Fin 640) (q : Fin 1024) :
    (matmul (F := Ideal) (φ₁ := .bf16) (φ₂ := .bf16) dot_S640x1024_S1024x1024_S640x1024_1_1_0_0_n_n none x y
      (constant S640x1024 .f32 0x00000000#32) (ix2 r q) : EReal) = ∑ k : Fin 1024, x (ix2 r k) * y (ix2 q k) := by
  simp only [pointwise, zero_add]

/-- What a step stores, at an entry. -/
theorem out_apply (x : Vec Ideal S640x1024 .bf16) (y : Vec Ideal S1024x1024 .bf16) (r : Fin 640) (q : Fin 1024) :
    (out0_2 x y (ix2 r q) : EReal) = ∑ k : Fin 1024, (x (ix2 r k) : EReal) * y (ix2 q k) := by
  unfold out0_2
  rw [View.canon_unit_zero (S := S640x1024) Mat.off2, View.ld_unit_zero (S := S640x1024) Mat.off2,
    View.ld_unit_zero (S := S1024x1024) Mat.off2]
  unfold k0_pay1
  simp only [shapeCast_self]
  exact prod_apply x y r q

variable (m : (ℓ : Loc nD τ sig) → Buf (Elt Ideal) ℓ) (c : Dev nD)

theorem at0 : ∀ t : Fin cfg0.N, win0_0.index t 0 = t.val / 4 ∧ win0_0.index t 1 = 0 := by decide +kernel
theorem at1 : ∀ t : Fin cfg0.N, win0_1.index t 0 = t.val % 4 ∧ win0_1.index t 1 = 0 := by decide +kernel
theorem at2 : ∀ t : Fin cfg0.N, win0_2.index t 0 = t.val / 4 ∧ win0_2.index t 1 = t.val % 4 := by decide +kernel
theorem fl2 : ∀ t : Fin cfg0.N, (cfg0.win 2).flush t = true := by decide +kernel
theorem pts (t : Fin cfg0.N) : t.val < 20 := lt_of_lt_of_eq t.isLt (show cfg0.N = 20 from N_0)

/-- The two arguments, the two arrays the kernel reads, and the result array. -/
def argH : S4096x1024.Idx → EReal := m ((c.tc : Thread nD τ).loc main_arg0)
def argW : S1024x3200.Idx → EReal := m ((c.tc : Thread nD τ).loc main_arg1)
def wts : S3200x1024.Idx → EReal := V m c main_v1
def inp : S4096x1024.Idx → EReal := V m c main_v2
def res : S3200x4096.Idx → EReal := (dats m 0 c).arrAt 2 cfg0.N

theorem inp_eq : inp m c = argH m c := by
  unfold inp V
  after_results
  rfl

theorem wts_eq (j : Fin 3200) (k : Fin 1024) : wts m c (ix2 j k) = argW m c (ix2 k j) := by
  have e : wts m c = truncf (F := Ideal) .bf16 (transpose S3200x1024 [1, 0] (m ((c.tc : Thread nD τ).loc main_arg1))
      transposes_S1024x3200_S3200x1024_1_0) bitsLt_bf16_f32 := by
    unfold wts V
    after_results
  rw [e]
  simp only [pointwise]
  rfl

/-- The blocks a step reads, and what it leaves in the result array. -/
theorem blk0 (t : Fin cfg0.N) (r : Fin 640) (k : Fin 1024) :
    (iblk m c 0 t (ix2 r k) : EReal) = wts m c (ix2 ⟨640 * (t.val / 4) + r.val, by have := pts t; omega⟩ k) := by
  unfold iblk
  refine congrArg (wts m c) (Mat.idx2 ?_ ?_)
  · show win0_0.index t 0 * 640 + 1 * r.val = 640 * (t.val / 4) + r.val; rw [(at0 t).1]; omega
  · show win0_0.index t 1 * 1024 + 1 * k.val = k.val; rw [(at0 t).2]; omega

theorem blk1 (t : Fin cfg0.N) (q k : Fin 1024) :
    (iblk m c 1 t (ix2 q k) : EReal) = inp m c (ix2 ⟨1024 * (t.val % 4) + q.val, by omega⟩ k) := by
  unfold iblk
  refine congrArg (inp m c) (Mat.idx2 ?_ ?_)
  · show win0_1.index t 0 * 1024 + 1 * q.val = 1024 * (t.val % 4) + q.val; rw [(at1 t).1]; omega
  · show win0_1.index t 1 * 1024 + 1 * k.val = k.val; rw [(at1 t).2]; omega

theorem res_blk (t : Fin cfg0.N) (r : Fin 640) (q : Fin 1024) :
    res m c (ix2 ⟨640 * (t.val / 4) + r.val, by have := pts t; omega⟩ ⟨1024 * (t.val % 4) + q.val, by omega⟩)
      = out0_2 (iblk m c 0 t) (iblk m c 1 t) (ix2 r q) := by
  refine Eq.trans (congrArg (res m c) (Mat.idx2 ?_ ?_).symm) (congrFun ((blocks2 m c t (fl2 t)).trans (flushed2 m c t)) (ix2 r q))
  · show win0_2.index t 0 * 640 + 1 * r.val = 640 * (t.val / 4) + r.val; rw [(at2 t).1]; omega
  · show win0_2.index t 1 * 1024 + 1 * q.val = 1024 * (t.val % 4) + q.val; rw [(at2 t).2]; omega

/-- **The kernel's result at an entry**, of its arguments. -/
theorem kernel_entry (j : Fin 3200) (i : Fin 4096) :
    res m c (ix2 j i) = ∑ k : Fin 1024, argH m c (ix2 i k) * argW m c (ix2 k j) := by
  have hN : cfg0.N = 20 := N_0
  obtain ⟨t, r, q, hj, hi⟩ : ∃ (t : Fin cfg0.N) (r : Fin 640) (q : Fin 1024),
      j.val = 640 * (t.val / 4) + r.val ∧ i.val = 1024 * (t.val % 4) + q.val :=
    ⟨⟨4 * (j.val / 640) + i.val / 1024, by omega⟩, ⟨j.val % 640, by omega⟩, ⟨i.val % 1024, by omega⟩, by dsimp only; omega, by dsimp only; omega⟩
  have bj : 640 * (t.val / 4) + r.val < 3200 := by have := pts t; clear hi hj; omega
  have bi : 1024 * (t.val % 4) + q.val < 4096 := by clear hi hj; omega
  obtain rfl : j = ⟨640 * (t.val / 4) + r.val, bj⟩ := Fin.ext hj
  obtain rfl : i = ⟨1024 * (t.val % 4) + q.val, bi⟩ := Fin.ext hi
  rw [res_blk, out_apply]
  refine Finset.sum_congr rfl fun k _ => ?_
  rw [blk0, blk1, inp_eq, wts_eq, mul_comm]

end Cert.FoxIn

namespace Cert.FoxIn.Ref

open Cert.Reference13Ideal Cert.Reference13Ideal.Gen
open Idealize.ShloMosaic Idealize.ShloMosaic.TcCoe

/-- **The reference's result at an entry**. -/
theorem entry (h : S4096x1024.Idx → EReal) (w : S1024x3200.Idx → EReal) (j : Fin 3200) (i : Fin 4096) :
    (transpose S3200x4096 [1, 0] (Host.dotGeneral (F := Ideal) (φ₁ := .f32) (φ₂ := .f32) dot_S4096x1024_S1024x3200_S4096x3200_1_0_0_1_n_n none h w)
      transposes_S4096x3200_S3200x4096_1_0 (ix2 j i) : EReal) = ∑ k : Fin 1024, h (ix2 i k) * w (ix2 k j) := by
  simp only [pointwise, zero_add]

end Cert.FoxIn.Ref

end
-- ==== Proof.LruIn.lean ====
/- The input product of the recurrent layer: what the tiled kernel leaves in its result, entry by entry. -/
module

public import proofs.«01_k».proof.Proof.MatKit
public import proofs.«01_k».proof.Proof.Gen.Kernel14Ideal.Value
public import proofs.«01_k».proof.Proof.Gen.Reference14Ideal.Run
public import Idealize.ShloMosaic.Lib.Pointwise
public import Idealize.ShloMosaic.Lib.Tactic

@[expose] public section

set_option maxRecDepth 16384

noncomputable section

namespace Cert.LruIn

open Cert.Kernel14Ideal Cert.Kernel14Ideal.Gen Cert.Kernel14Ideal.Value
open Idealize.ShloMosaic Idealize.ShloMosaic.TcCoe Idealize.ShloMosaic.Tactic
open Idealize.SL Idealize.SL.Sem

/-- The product of two blocks at an entry. -/
theorem prod_apply (x : S2048x1024.Idx → EReal) (y : S1024x512.Idx → EReal) (r : Fin 2048) (q : Fin 512) :
    (matmul (F := Ideal) (φ₁ := .bf16) (φ₂ := .bf16) dot_S2048x1024_S1024x512_S2048x512_1_0_0_1_n_n none x y
      (constant S2048x512 .f32 0x00000000#32) (ix2 r q) : EReal) = ∑ k : Fin 1024, x (ix2 r k) * y (ix2 k q) := by
  simp only [pointwise, zero_add]

/-- What a step stores, at an entry. -/
theorem out_apply (x : Vec Ideal S2048x1024 .bf16) (y : Vec Ideal S1x1024x512 .bf16) (r : Fin 2048) (q : Fin 512) :
    (out0_2 x y (ix2 r q) : EReal) = ∑ k : Fin 1024, (x (ix2 r k) : EReal) * y (ix3 0 k q) := by
  unfold out0_2
  rw [View.canon_unit_zero (S := S2048x512) Mat.off2, View.ld_unit_zero (S := S2048x1024) Mat.off2,
    View.ld_unit_zero (S := S1x1024x512) Mat.off3]
  unfold k0_pay1
  simp only [shapeCast_self]
  refine (prod_apply x _ r q).trans ?_
  exact Finset.sum_congr rfl fun k _ => congrArg (fun e : EReal => (x (ix2 r k) : EReal) * e) (by simp only [pointwise])

variable (m : (ℓ : Loc nD τ sig) → Buf (Elt Ideal) ℓ) (c : Dev nD)

theorem at0 : ∀ t : Fin cfg0.N, win0_0.index t 0 = t.val / 4 ∧ win0_0.index t 1 = 0 := by decide +kernel
theorem at1 : ∀ t : Fin cfg0.N, win0_1.index t 0 = t.val % 4 ∧ win0_1.index t 1 = 0 ∧ win0_1.index t 2 = 0 := by decide +kernel
theorem at2 : ∀ t : Fin cfg0.N, win0_2.index t 0 = t.val / 4 ∧ win0_2.index t 1 = t.val % 4 := by decide +kernel
theorem fl2 : ∀ t : Fin cfg0.N, (cfg0.win 2).flush t = true := by decide +kernel
theorem pts (t : Fin cfg0.N) : t.val < 8 := lt_of_lt_of_eq t.isLt (show cfg0.N = 8 from N_0)

/-- The two arguments, the two arrays the kernel reads, and the result array. -/
def argH : S4096x1024.Idx → EReal := m ((c.tc : Thread nD τ).loc main_arg0)
def argW : S1024x2048.Idx → EReal := m ((c.tc : Thread nD τ).loc main_arg1)
def inp : S4096x1024.Idx → EReal := V m c main_v0
def wts : S4x1024x512.Idx → EReal := V m c main_v3
def res : S4096x2048.Idx → EReal := (dats m 0 c).arrAt 2 cfg0.N

theorem inp_eq : inp m c = argH m c := by
  unfold inp V
  after_results
  rfl

theorem wts_eq (p : Fin 4) (k : Fin 1024) (q : Fin 512) :
    wts m c (ix3 p k q) = argW m c (ix2 k ⟨512 * p.val + q.val, by omega⟩) := by
  have e : wts m c = transpose S4x1024x512 [1, 0, 2] (shapeCast S1024x4x512 (truncf (F := Ideal) .bf16
      (m ((c.tc : Thread nD τ).loc main_arg1)) bitsLt_bf16_f32) shapeCasts_S1024x2048_S1024x4x512)
      transposes_S1024x4x512_S4x1024x512_1_0_2 := by
    unfold wts V
    after_results
    rfl
  rw [e]
  simp only [pointwise]
  simp only [Nat.mul_comm p.val 512]
  rfl

/-- The blocks a step reads, and what it leaves in the result array. -/
theorem blk0 (t : Fin cfg0.N) (r : Fin 2048) (k : Fin 1024) :
    (iblk m c 0 t (ix2 r k) : EReal) = inp m c (ix2 ⟨2048 * (t.val / 4) + r.val, by have := pts t; omega⟩ k) := by
  unfold iblk
  refine congrArg (inp m c) (Mat.idx2 ?_ ?_)
  · show win0_0.index t 0 * 2048 + 1 * r.val = 2048 * (t.val / 4) + r.val; rw [(at0 t).1]; omega
  · show win0_0.index t 1 * 1024 + 1 * k.val = k.val; rw [(at0 t).2]; omega

theorem blk1 (t : Fin cfg0.N) (k : Fin 1024) (q : Fin 512) :
    (iblk m c 1 t (ix3 0 k q) : EReal) = wts m c (ix3 ⟨t.val % 4, by omega⟩ k q) := by
  unfold iblk
  refine congrArg (wts m c) (Mat.idx3 ?_ ?_ ?_)
  · show win0_1.index t 0 * 1 + 1 * 0 = t.val % 4; rw [(at1 t).1]; omega
  · show win0_1.index t 1 * 1024 + 1 * k.val = k.val; rw [(at1 t).2.1]; omega
  · show win0_1.index t 2 * 512 + 1 * q.val = q.val; rw [(at1 t).2.2]; omega

theorem res_blk (t : Fin cfg0.N) (r : Fin 2048) (q : Fin 512) :
    res m c (ix2 ⟨2048 * (t.val / 4) + r.val, by have := pts t; omega⟩ ⟨512 * (t.val % 4) + q.val, by omega⟩)
      = out0_2 (iblk m c 0 t) (iblk m c 1 t) (ix2 r q) := by
  refine Eq.trans (congrArg (res m c) (Mat.idx2 ?_ ?_).symm) (congrFun ((blocks2 m c t (fl2 t)).trans (flushed2 m c t)) (ix2 r q))
  · show win0_2.index t 0 * 2048 + 1 * r.val = 2048 * (t.val / 4) + r.val; rw [(at2 t).1]; omega
  · show win0_2.index t 1 * 512 + 1 * q.val = 512 * (t.val % 4) + q.val; rw [(at2 t).2]; omega

/-- **The kernel's result at an entry**, of its arguments. -/
theorem kernel_entry (i : Fin 4096) (j : Fin 2048) :
    res m c (ix2 i j) = ∑ k : Fin 1024, argH m c (ix2 i k) * argW m c (ix2 k j) := by
  have hN : cfg0.N = 8 := N_0
  obtain ⟨t, r, q, hi, hj⟩ : ∃ (t : Fin cfg0.N) (r : Fin 2048) (q : Fin 512),
      i.val = 2048 * (t.val / 4) + r.val ∧ j.val = 512 * (t.val % 4) + q.val :=
    ⟨⟨4 * (i.val / 2048) + j.val / 512, by omega⟩, ⟨i.val % 2048, by omega⟩, ⟨j.val % 512, by omega⟩, by dsimp only; omega, by dsimp only; omega⟩
  have bi : 2048 * (t.val / 4) + r.val < 4096 := by have := pts t; clear hi hj; omega
  have bj : 512 * (t.val % 4) + q.val < 2048 := by clear hi hj; omega
  obtain rfl : i = ⟨2048 * (t.val / 4) + r.val, bi⟩ := Fin.ext hi
  obtain rfl : j = ⟨512 * (t.val % 4) + q.val, bj⟩ := Fin.ext hj
  rw [res_blk, out_apply]
  simp only [blk0, blk1, inp_eq, wts_eq]

end Cert.LruIn

namespace Cert.LruIn.Ref

open Cert.Reference14Ideal Cert.Reference14Ideal.Gen
open Idealize.ShloMosaic Idealize.ShloMosaic.TcCoe

/-- **The reference's result at an entry**. -/
theorem entry (h : S4096x1024.Idx → EReal) (w : S1024x2048.Idx → EReal) (i : Fin 4096) (j : Fin 2048) :
    (Host.dotGeneral (F := Ideal) (φ₁ := .f32) (φ₂ := .f32) dot_S4096x1024_S1024x2048_S4096x2048_1_0_0_1_n_n none h w (ix2 i j) : EReal)
      = ∑ k : Fin 1024, h (ix2 i k) * w (ix2 k j) := by
  simp only [pointwise, zero_add]

end Cert.LruIn.Ref

end
-- ==== Proof.FoxDout.lean ====
/- The gradient that reaches the attention layer's values, features along the rows: what the tiled kernel leaves. -/
module

public import proofs.«01_k».proof.Proof.MatKit
public import proofs.«01_k».proof.Proof.Gen.Kernel15Ideal.Value
public import proofs.«01_k».proof.Proof.Gen.Reference15Ideal.Run
public import Idealize.ShloMosaic.Lib.Pointwise
public import Idealize.ShloMosaic.Lib.Tactic

@[expose] public section

set_option maxRecDepth 16384

noncomputable section

namespace Cert.FoxDout

open Cert.Kernel15Ideal Cert.Kernel15Ideal.Gen Cert.Kernel15Ideal.Value
open Idealize.ShloMosaic Idealize.ShloMosaic.TcCoe Idealize.ShloMosaic.Tactic
open Idealize.SL Idealize.SL.Sem

/-- The product of two blocks at an entry: both are contracted along their second axis. -/
theorem prod_apply (x : S256x1024.Idx → EReal) (y : S1024x1024.Idx → EReal) (r : Fin 256) (q : Fin 1024) :
    (matmul (F := Ideal) (φ₁ := .bf16) (φ₂ := .bf16) dot_S256x1024_S1024x1024_S256x1024_1_1_0_0_n_n none x y
      (constant S256x1024 .f32 0x00000000#32) (ix2 r q) : EReal) = ∑ k : Fin 1024, x (ix2 r k) * y (ix2 q k) := by
  simp only [pointwise, zero_add]

/-- What a step stores, at an entry. -/
theorem out_apply (x : Vec Ideal S1x256x1024 .bf16) (y : Vec Ideal S1024x1024 .bf16) (r : Fin 256) (q : Fin 1024) :
    (out0_2 x y (ix2 r q) : EReal) = ∑ k : Fin 1024, (x (ix3 0 r k) : EReal) * y (ix2 q k) := by
  unfold out0_2
  rw [View.canon_unit_zero (S := S256x1024) Mat.off2, View.ld_unit_zero (S := S1x256x1024) Mat.off3,
    View.ld_unit_zero (S := S1024x1024) Mat.off2]
  unfold k0_pay1
  simp only [shapeCast_self]
  refine (prod_apply _ y r q).trans ?_
  exact Finset.sum_congr rfl fun k _ => congrArg (fun e : EReal => e * (y (ix2 q k) : EReal)) (by simp only [pointwise])

variable (m : (ℓ : Loc nD τ sig) → Buf (Elt Ideal) ℓ) (c : Dev nD)

theorem at0 : ∀ t : Fin cfg0.N, win0_0.index t 0 = t.val / 4 ∧ win0_0.index t 1 = 0 ∧ win0_0.index t 2 = 0 := by decide +kernel
theorem at1 : ∀ t : Fin cfg0.N, win0_1.index t 0 = t.val % 4 ∧ win0_1.index t 1 = 0 := by decide +kernel
theorem at2 : ∀ t : Fin cfg0.N, win0_2.index t 0 = t.val / 4 ∧ win0_2.index t 1 = t.val % 4 := by decide +kernel
theorem fl2 : ∀ t : Fin cfg0.N, (cfg0.win 2).flush t = true := by decide +kernel
theorem pts (t : Fin cfg0.N) : t.val < 16 := lt_of_lt_of_eq t.isLt (show cfg0.N = 16 from N_0)

/-- The two arguments, the two arrays the kernel reads, and the result array. -/
def argW : S1024x1024.Idx → EReal := m ((c.tc : Thread nD τ).loc main_arg0)
def argD : S4096x1024.Idx → EReal := m ((c.tc : Thread nD τ).loc main_arg1)
def wts : S4x256x1024.Idx → EReal := V m c main_v1
def cot : S4096x1024.Idx → EReal := V m c main_v2
def res : S1024x4096.Idx → EReal := (dats m 0 c).arrAt 2 cfg0.N

theorem cot_eq : cot m c = argD m c := by
  unfold cot V
  after_results
  rfl

theorem wts_eq (p : Fin 4) (r : Fin 256) (k : Fin 1024) :
    wts m c (ix3 p r k) = argW m c (ix2 ⟨256 * p.val + r.val, by omega⟩ k) := by
  have e : wts m c = shapeCast S4x256x1024 (truncf (F := Ideal) .bf16 (m ((c.tc : Thread nD τ).loc main_arg0)) bitsLt_bf16_f32)
      shapeCasts_S1024x1024_S4x256x1024 := by
    unfold wts V
    after_results
    rfl
  rw [e]
  simp only [pointwise]
  simp only [Nat.mul_comm p.val 256]
  rfl

/-- The blocks a step reads, and what it leaves in the result array. -/
theorem blk0 (t : Fin cfg0.N) (r : Fin 256) (k : Fin 1024) :
    (iblk m c 0 t (ix3 0 r k) : EReal) = wts m c (ix3 ⟨t.val / 4, by have := pts t; omega⟩ r k) := by
  unfold iblk
  refine congrArg (wts m c) (Mat.idx3 ?_ ?_ ?_)
  · show win0_0.index t 0 * 1 + 1 * 0 = t.val / 4; rw [(at0 t).1]; omega
  · show win0_0.index t 1 * 256 + 1 * r.val = r.val; rw [(at0 t).2.1]; omega
  · show win0_0.index t 2 * 1024 + 1 * k.val = k.val; rw [(at0 t).2.2]; omega

theorem blk1 (t : Fin cfg0.N) (q k : Fin 1024) :
    (iblk m c 1 t (ix2 q k) : EReal) = cot m c (ix2 ⟨1024 * (t.val % 4) + q.val, by omega⟩ k) := by
  unfold iblk
  refine congrArg (cot m c) (Mat.idx2 ?_ ?_)
  · show win0_1.index t 0 * 1024 + 1 * q.val = 1024 * (t.val % 4) + q.val; rw [(at1 t).1]; omega
  · show win0_1.index t 1 * 1024 + 1 * k.val = k.val; rw [(at1 t).2]; omega

theorem res_blk (t : Fin cfg0.N) (r : Fin 256) (q : Fin 1024) :
    res m c (ix2 ⟨256 * (t.val / 4) + r.val, by have := pts t; omega⟩ ⟨1024 * (t.val % 4) + q.val, by omega⟩)
      = out0_2 (iblk m c 0 t) (iblk m c 1 t) (ix2 r q) := by
  refine Eq.trans (congrArg (res m c) (Mat.idx2 ?_ ?_).symm) (congrFun ((blocks2 m c t (fl2 t)).trans (flushed2 m c t)) (ix2 r q))
  · show win0_2.index t 0 * 256 + 1 * r.val = 256 * (t.val / 4) + r.val; rw [(at2 t).1]; omega
  · show win0_2.index t 1 * 1024 + 1 * q.val = 1024 * (t.val % 4) + q.val; rw [(at2 t).2]; omega

/-- **The kernel's result at an entry**, of its arguments. -/
theorem kernel_entry (j : Fin 1024) (i : Fin 4096) :
    res m c (ix2 j i) = ∑ k : Fin 1024, argD m c (ix2 i k) * argW m c (ix2 j k) := by
  have hN : cfg0.N = 16 := N_0
  obtain ⟨t, r, q, hj, hi⟩ : ∃ (t : Fin cfg0.N) (r : Fin 256) (q : Fin 1024),
      j.val = 256 * (t.val / 4) + r.val ∧ i.val = 1024 * (t.val % 4) + q.val :=
    ⟨⟨4 * (j.val / 256) + i.val / 1024, by omega⟩, ⟨j.val % 256, by omega⟩, ⟨i.val % 1024, by omega⟩, by dsimp only; omega, by dsimp only; omega⟩
  have bj : 256 * (t.val / 4) + r.val < 1024 := by have := pts t; clear hi hj; omega
  have bi : 1024 * (t.val % 4) + q.val < 4096 := by clear hi hj; omega
  obtain rfl : j = ⟨256 * (t.val / 4) + r.val, bj⟩ := Fin.ext hj
  obtain rfl : i = ⟨1024 * (t.val % 4) + q.val, bi⟩ := Fin.ext hi
  rw [res_blk, out_apply]
  refine Finset.sum_congr rfl fun k _ => ?_
  rw [blk0, blk1, cot_eq, wts_eq, mul_comm]

end Cert.FoxDout

namespace Cert.FoxDout.Ref

open Cert.Reference15Ideal Cert.Reference15Ideal.Gen
open Idealize.ShloMosaic Idealize.ShloMosaic.TcCoe

/-- **The reference's result at an entry**. -/
theorem entry (w : S1024x1024.Idx → EReal) (d : S4096x1024.Idx → EReal) (j : Fin 1024) (i : Fin 4096) :
    (truncf (F := Ideal) .bf16 (transpose S1024x4096 [1, 0] (Host.dotGeneral (F := Ideal) (φ₁ := .f32) (φ₂ := .f32)
      dot_S4096x1024_S1024x1024_S4096x1024_1_1_0_0_n_n none d w) transposes_S4096x1024_S1024x4096_1_0) bitsLt_bf16_f32 (ix2 j i) : EReal)
      = ∑ k : Fin 1024, d (ix2 i k) * w (ix2 j k) := by
  simp only [pointwise, zero_add]

end Cert.FoxDout.Ref

end
-- ==== Proof.LruDout.lean ====
/- The gradient that reaches the recurrent layer's values: what the tiled kernel leaves in its result, entry by entry. -/
module

public import proofs.«01_k».proof.Proof.MatKit
public import proofs.«01_k».proof.Proof.Gen.Kernel17Ideal.Value
public import proofs.«01_k».proof.Proof.Gen.Reference17Ideal.Run
public import Idealize.ShloMosaic.Lib.Pointwise
public import Idealize.ShloMosaic.Lib.Tactic

@[expose] public section

set_option maxRecDepth 16384

noncomputable section

namespace Cert.LruDout

open Cert.Kernel17Ideal Cert.Kernel17Ideal.Gen Cert.Kernel17Ideal.Value
open Idealize.ShloMosaic Idealize.ShloMosaic.TcCoe Idealize.ShloMosaic.Tactic
open Idealize.SL Idealize.SL.Sem

/-- The product of two blocks at an entry: both are contracted along their second axis. -/
theorem prod_apply (x : S2048x1024.Idx → EReal) (y : S256x1024.Idx → EReal) (r : Fin 2048) (q : Fin 256) :
    (matmul (F := Ideal) (φ₁ := .bf16) (φ₂ := .bf16) dot_S2048x1024_S256x1024_S2048x256_1_1_0_0_n_n none x y
      (constant S2048x256 .f32 0x00000000#32) (ix2 r q) : EReal) = ∑ k : Fin 1024, x (ix2 r k) * y (ix2 q k) := by
  simp only [pointwise, zero_add]

/-- What a step stores, at an entry. -/
theorem out_apply (x : Vec Ideal S2048x1024 .bf16) (y : Vec Ideal S1x256x1024 .bf16) (r : Fin 2048) (q : Fin 256) :
    (out0_2 x y (ix2 r q) : EReal) = ∑ k : Fin 1024, (x (ix2 r k) : EReal) * y (ix3 0 q k) := by
  unfold out0_2
  rw [View.canon_unit_zero (S := S2048x256) Mat.off2, View.ld_unit_zero (S := S2048x1024) Mat.off2,
    View.ld_unit_zero (S := S1x256x1024) Mat.off3]
  unfold k0_pay1
  simp only [shapeCast_self]
  refine (prod_apply x _ r q).trans ?_
  exact Finset.sum_congr rfl fun k _ => congrArg (fun e : EReal => (x (ix2 r k) : EReal) * e) (by simp only [pointwise])

variable (m : (ℓ : Loc nD τ sig) → Buf (Elt Ideal) ℓ) (c : Dev nD)

theorem at0 : ∀ t : Fin cfg0.N, win0_0.index t 0 = t.val / 4 ∧ win0_0.index t 1 = 0 := by decide +kernel
theorem at1 : ∀ t : Fin cfg0.N, win0_1.index t 0 = t.val % 4 ∧ win0_1.index t 1 = 0 ∧ win0_1.index t 2 = 0 := by decide +kernel
theorem at2 : ∀ t : Fin cfg0.N, win0_2.index t 0 = t.val / 4 ∧ win0_2.index t 1 = t.val % 4 := by decide +kernel
theorem fl2 : ∀ t : Fin cfg0.N, (cfg0.win 2).flush t = true := by decide +kernel
theorem pts (t : Fin cfg0.N) : t.val < 8 := lt_of_lt_of_eq t.isLt (show cfg0.N = 8 from N_0)

/-- The two arguments, the two arrays the kernel reads, and the result array. -/
def argW : S1024x1024.Idx → EReal := m ((c.tc : Thread nD τ).loc main_arg0)
def argD : S4096x1024.Idx → EReal := m ((c.tc : Thread nD τ).loc main_arg1)
def cot : S4096x1024.Idx → EReal := V m c main_v0
def wts : S4x256x1024.Idx → EReal := V m c main_v2
def res : S4096x1024.Idx → EReal := (dats m 0 c).arrAt 2 cfg0.N

theorem cot_eq : cot m c = argD m c := by
  unfold cot V
  after_results
  rfl

theorem wts_eq (p : Fin 4) (q : Fin 256) (k : Fin 1024) :
    wts m c (ix3 p q k) = argW m c (ix2 ⟨256 * p.val + q.val, by omega⟩ k) := by
  have e : wts m c = shapeCast S4x256x1024 (truncf (F := Ideal) .bf16 (m ((c.tc : Thread nD τ).loc main_arg0)) bitsLt_bf16_f32)
      shapeCasts_S1024x1024_S4x256x1024 := by
    unfold wts V
    after_results
    rfl
  rw [e]
  simp only [pointwise]
  simp only [Nat.mul_comm p.val 256]
  rfl

/-- The blocks a step reads, and what it leaves in the result array. -/
theorem blk0 (t : Fin cfg0.N) (r : Fin 2048) (k : Fin 1024) :
    (iblk m c 0 t (ix2 r k) : EReal) = cot m c (ix2 ⟨2048 * (t.val / 4) + r.val, by have := pts t; omega⟩ k) := by
  unfold iblk
  refine congrArg (cot m c) (Mat.idx2 ?_ ?_)
  · show win0_0.index t 0 * 2048 + 1 * r.val = 2048 * (t.val / 4) + r.val; rw [(at0 t).1]; omega
  · show win0_0.index t 1 * 1024 + 1 * k.val = k.val; rw [(at0 t).2]; omega

theorem blk1 (t : Fin cfg0.N) (q : Fin 256) (k : Fin 1024) :
    (iblk m c 1 t (ix3 0 q k) : EReal) = wts m c (ix3 ⟨t.val % 4, by omega⟩ q k) := by
  unfold iblk
  refine congrArg (wts m c) (Mat.idx3 ?_ ?_ ?_)
  · show win0_1.index t 0 * 1 + 1 * 0 = t.val % 4; rw [(at1 t).1]; omega
  · show win0_1.index t 1 * 256 + 1 * q.val = q.val; rw [(at1 t).2.1]; omega
  · show win0_1.index t 2 * 1024 + 1 * k.val = k.val; rw [(at1 t).2.2]; omega

theorem res_blk (t : Fin cfg0.N) (r : Fin 2048) (q : Fin 256) :
    res m c (ix2 ⟨2048 * (t.val / 4) + r.val, by have := pts t; omega⟩ ⟨256 * (t.val % 4) + q.val, by omega⟩)
      = out0_2 (iblk m c 0 t) (iblk m c 1 t) (ix2 r q) := by
  refine Eq.trans (congrArg (res m c) (Mat.idx2 ?_ ?_).symm) (congrFun ((blocks2 m c t (fl2 t)).trans (flushed2 m c t)) (ix2 r q))
  · show win0_2.index t 0 * 2048 + 1 * r.val = 2048 * (t.val / 4) + r.val; rw [(at2 t).1]; omega
  · show win0_2.index t 1 * 256 + 1 * q.val = 256 * (t.val % 4) + q.val; rw [(at2 t).2]; omega

/-- **The kernel's result at an entry**, of its arguments. -/
theorem kernel_entry (i : Fin 4096) (j : Fin 1024) :
    res m c (ix2 i j) = ∑ k : Fin 1024, argD m c (ix2 i k) * argW m c (ix2 j k) := by
  have hN : cfg0.N = 8 := N_0
  obtain ⟨t, r, q, hi, hj⟩ : ∃ (t : Fin cfg0.N) (r : Fin 2048) (q : Fin 256),
      i.val = 2048 * (t.val / 4) + r.val ∧ j.val = 256 * (t.val % 4) + q.val :=
    ⟨⟨4 * (i.val / 2048) + j.val / 256, by omega⟩, ⟨i.val % 2048, by omega⟩, ⟨j.val % 256, by omega⟩, by dsimp only; omega, by dsimp only; omega⟩
  have bi : 2048 * (t.val / 4) + r.val < 4096 := by have := pts t; clear hi hj; omega
  have bj : 256 * (t.val % 4) + q.val < 1024 := by clear hi hj; omega
  obtain rfl : i = ⟨2048 * (t.val / 4) + r.val, bi⟩ := Fin.ext hi
  obtain rfl : j = ⟨256 * (t.val % 4) + q.val, bj⟩ := Fin.ext hj
  rw [res_blk, out_apply]
  simp only [blk0, blk1, cot_eq, wts_eq]

end Cert.LruDout

namespace Cert.LruDout.Ref

open Cert.Reference17Ideal Cert.Reference17Ideal.Gen
open Idealize.ShloMosaic Idealize.ShloMosaic.TcCoe

/-- **The reference's result at an entry**. -/
theorem entry (w : S1024x1024.Idx → EReal) (d : S4096x1024.Idx → EReal) (i : Fin 4096) (j : Fin 1024) :
    (Host.dotGeneral (F := Ideal) (φ₁ := .f32) (φ₂ := .f32) dot_S4096x1024_S1024x1024_S4096x1024_1_1_0_0_n_n none d w (ix2 i j) : EReal)
      = ∑ k : Fin 1024, d (ix2 i k) * w (ix2 j k) := by
  simp only [pointwise, zero_add]

end Cert.LruDout.Ref

end
-- ==== Proof.FoxDwout.lean ====
/- The gradient of the attention layer's output weight, in shards of its rows: what the tiled kernel leaves, entry by entry. -/
module

public import proofs.«01_k».proof.Proof.MatKit
public import proofs.«01_k».proof.Proof.Gen.Kernel16Ideal.Value
public import proofs.«01_k».proof.Proof.Gen.Reference16Ideal.Run
public import Idealize.ShloMosaic.Lib.Pointwise
public import Idealize.ShloMosaic.Lib.Tactic

@[expose] public section

set_option maxRecDepth 16384

noncomputable section

namespace Cert.FoxDwout

open Cert.Kernel16Ideal Cert.Kernel16Ideal.Gen Cert.Kernel16Ideal.Value
open Idealize.ShloMosaic Idealize.ShloMosaic.TcCoe Idealize.ShloMosaic.Tactic
open Idealize.SL Idealize.SL.Sem

/-- The first step of a tile leaves, in the accumulator, the product of the two blocks over a zero start. -/
theorem acc_first (c i a3 h3 a4 h4 a5 h5 a6 h6 hc0 hc1) (x y) :
    sout0_A_0 (F := Ideal) c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S256x1024) Mat.off2, View.readCov_unit_zero (S := S256x1024) _ Mat.off2]
  simp only [View.readAt_eq_ld, h3.read_unread, h4.read_unread, View.ld_unit_zero (S := S256x2048) Mat.off2,
    View.ld_unit_zero (S := S2048x1024) Mat.off2]

/-- The last step of a tile stores the accumulator with the product of its two blocks added. -/
theorem out_last (c i a3 h3 a4 h4 a5 h5 a6 h6 hc0 hc1) (x y s) :
    out0_B_2 (F := Ideal) c i a3 h3 a4 h4 a5 h5 a6 h6 hc0 hc1 x y s = k0_pay3 (k0_pay2 s x y) := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero (S := S1x256x1024) Mat.off3, View.readCov_unit_zero (S := S256x1024) _ Mat.off2]
  simp only [View.readAt_eq_ld, h3.read_unread, h4.read_unread, h6.read_unread, View.ld_unit_zero (S := S256x2048) Mat.off2,
    View.ld_unit_zero (S := S2048x1024) Mat.off2, View.ld_unit_zero (S := S256x1024) Mat.off2]

/-- The product of two blocks at an entry. -/
theorem prod_apply (x : S256x2048.Idx → EReal) (y : S2048x1024.Idx → EReal) (r : Fin 256) (q : Fin 1024) :
    (matmul (F := Ideal) (φ₁ := .bf16) (φ₂ := .bf16) dot_S256x2048_S2048x1024_S256x1024_1_0_0_1_n_n none x y
      (constant S256x1024 .f32 0x00000000#32) (ix2 r q) : EReal) = ∑ k : Fin 2048, x (ix2 r k) * y (ix2 k q) := by
  simp only [pointwise, zero_add]

/-- An accumulating step at an entry. -/
theorem step_apply (s : Vec Ideal S256x1024 .f32) (x : Vec Ideal S256x2048 .bf16) (y : Vec Ideal S2048x1024 .bf16) (r : Fin 256) (q : Fin 1024) :
    k0_pay2 s x y (ix2 r q) = (s (ix2 r q) : EReal) + ∑ k : Fin 2048, (x (ix2 r k) : EReal) * y (ix2 k q) := by
  unfold k0_pay2
  simp only [shapeCast_self]
  exact congrArg (fun e : EReal => (s (ix2 r q) : EReal) + e) (prod_apply x y r q)

/-- The zero start, and the stored block. -/
theorem zero_apply (i : S256x1024.Idx) : (k0_pay1 (F := Ideal) i : EReal) = 0 := by
  unfold k0_pay1
  simp only [shapeCast_self]
  exact Ideal.ofBits_zero_f32

theorem store_apply (v : Vec Ideal S256x1024 .f32) (r : Fin 256) (q : Fin 1024) : (k0_pay3 v (ix3 0 r q) : EReal) = v (ix2 r q) := by
  unfold k0_pay3
  simp only [pointwise]

variable (m : (ℓ : Loc nD τ sig) → Buf (Elt Ideal) ℓ) (c : Dev nD)

theorem at0 : ∀ t : Fin cfg0.N, win0_0.index t 0 = t.val / 2 ∧ win0_0.index t 1 = t.val % 2 := by decide +kernel
theorem at1 : ∀ t : Fin cfg0.N, win0_1.index t 0 = t.val % 2 ∧ win0_1.index t 1 = 0 := by decide +kernel
theorem pts (t : Fin cfg0.N) : t.val < 8 := lt_of_lt_of_eq t.isLt (show cfg0.N = 8 from N_0)

/-- The two arguments, the two arrays the kernel reads, and the result array. -/
def argO : S4096x1024.Idx → EReal := m ((c.tc : Thread nD τ).loc main_arg0)
def argD : S4096x1024.Idx → EReal := m ((c.tc : Thread nD τ).loc main_arg1)
def att : S1024x4096.Idx → EReal := V m c main_v1
def cot : S4096x1024.Idx → EReal := V m c main_v2
def res : S4x256x1024.Idx → EReal := G2 m c

theorem cot_eq : cot m c = argD m c := by
  unfold cot V
  after_results
  rfl

theorem att_eq (j : Fin 1024) (k : Fin 4096) : att m c (ix2 j k) = argO m c (ix2 k j) := by
  have e : att m c = truncf (F := Ideal) .bf16 (transpose S1024x4096 [1, 0] (m ((c.tc : Thread nD τ).loc main_arg0))
      transposes_S4096x1024_S1024x4096_1_0) bitsLt_bf16_f32 := by
    unfold att V
    after_results
  rw [e]
  simp only [pointwise]
  rfl

/-- The blocks a step reads. -/
theorem blk0 (t : Fin cfg0.N) (r : Fin 256) (k : Fin 2048) : (iblk m c 0 t (ix2 r k) : EReal) = argO m c
    (ix2 ⟨2048 * (t.val % 2) + k.val, by omega⟩ ⟨256 * (t.val / 2) + r.val, by have := pts t; omega⟩) := by
  rw [← att_eq]
  unfold iblk
  refine congrArg (att m c) (Mat.idx2 ?_ ?_)
  · show win0_0.index t 0 * 256 + 1 * r.val = 256 * (t.val / 2) + r.val; rw [(at0 t).1]; omega
  · show win0_0.index t 1 * 2048 + 1 * k.val = 2048 * (t.val % 2) + k.val; rw [(at0 t).2]; omega

theorem blk1 (t : Fin cfg0.N) (k : Fin 2048) (q : Fin 1024) :
    (iblk m c 1 t (ix2 k q) : EReal) = argD m c (ix2 ⟨2048 * (t.val % 2) + k.val, by omega⟩ q) := by
  rw [← cot_eq]
  unfold iblk
  refine congrArg (cot m c) (Mat.idx2 ?_ ?_)
  · show win0_1.index t 0 * 2048 + 1 * k.val = 2048 * (t.val % 2) + k.val; rw [(at1 t).1]; omega
  · show win0_1.index t 1 * 1024 + 1 * q.val = q.val; rw [(at1 t).2]; omega

/-- What is left after a step depends on the step's number alone. -/
theorem outs_congr {n n' : ℕ} (h : n = n') (hn : n < cfg0.N) (hn' : n' < cfg0.N) : outsAt0 m c n hn = outsAt0 m c n' hn' := by
  subst h; rfl

/-- After the first step of a tile. -/
theorem pair_acc (t : Fin cfg0.N) (h : t.val % 2 = 0) :
    (outsAt0 m c t.val t.isLt).2 = k0_pay2 k0_pay1 (iblk m c 0 t) (iblk m c 1 t) := by
  have e := congrArg Prod.snd (outsAt0_A m c t h (by omega))
  dsimp only at e
  rw [acc_first] at e
  exact e

/-- After the two steps of a tile. -/
theorem pair_out (t u : Fin cfg0.N) (hu : u.val = t.val + 1) (h : t.val % 2 = 0) :
    (outsAt0 m c u.val u.isLt).1 = k0_pay3 (k0_pay2 (k0_pay2 k0_pay1 (iblk m c 0 t) (iblk m c 1 t)) (iblk m c 0 u) (iblk m c 1 u)) := by
  have e := congrArg Prod.fst (outsAt0_B m c u (by omega) (by omega))
  rw [outs_congr m c (show u.val - 1 = t.val by omega) _ t.isLt, pair_acc m c t h] at e
  dsimp only at e
  rw [out_last] at e
  exact e

/-- **The kernel's result at an entry**, of its arguments. -/
theorem kernel_entry (p : Fin 4) (r : Fin 256) (q : Fin 1024) :
    res m c (ix3 p r q) = ∑ k : Fin 4096, argO m c (ix2 k ⟨256 * p.val + r.val, by omega⟩) * argD m c (ix2 k q) := by
  have hp : pt2Of (ix3 p r q) = 2 * p.val + 1 := by
    show 2 * (1 * (p.val / 1 - 0) + 1 * (r.val / 256 - 0) + 1 * (q.val / 1024 - 0)) + 1 = _
    omega
  have hl : loc2Of (ix3 p r q) = ix3 0 r q := Mat.idx3 (Nat.mod_one _) (Nat.mod_eq_of_lt r.isLt) (Nat.mod_eq_of_lt q.isLt)
  have hN : cfg0.N = 8 := N_0
  have hb : 2 * p.val + 1 < cfg0.N := by omega
  have ha : 2 * p.val < cfg0.N := by omega
  have e : res m c (ix3 p r q) = (outsAt0 m c (2 * p.val + 1) hb).1 (ix3 0 r q) := by
    have hb' : pt2Of (ix3 p r q) < cfg0.N := hp.symm ▸ hb
    refine (dif_pos hb').trans ?_
    rw [hl, outsAt0_sweep]
    exact congrFun (congrArg Prod.fst (fold0_congr m c _ _ _ _ hp)) _
  rw [e, pair_out m c ⟨2 * p.val, ha⟩ ⟨2 * p.val + 1, hb⟩ rfl (by dsimp only; omega)]
  rw [store_apply, step_apply, step_apply, zero_apply, zero_add, ← Mat.sum_halves]
  refine congrArg₂ (· + ·) ?_ ?_ <;> refine Finset.sum_congr rfl fun k _ => ?_ <;>
    rw [blk0, blk1] <;> simp only [Mat.halves, Nat.mul_zero, Nat.mul_one, Nat.zero_add]

end Cert.FoxDwout

namespace Cert.FoxDwout.Ref

open Cert.Reference16Ideal Cert.Reference16Ideal.Gen
open Idealize.ShloMosaic Idealize.ShloMosaic.TcCoe

/-- **The reference's result at an entry**. -/
theorem entry (o d : S4096x1024.Idx → EReal) (p : Fin 4) (r : Fin 256) (q : Fin 1024) :
    (truncf (F := Ideal) .bf16 (shapeCast S4x256x1024 (transpose S1024x1024 [1, 0]
      (Host.dotGeneral (F := Ideal) (φ₁ := .f32) (φ₂ := .f32) dot_S4096x1024_S4096x1024_S1024x1024_0_0_1_1_n_n none d o)
      transposes_S1024x1024_S1024x1024_1_0) shapeCasts_S1024x1024_S4x256x1024) bitsLt_bf16_f32 (ix3 p r q) : EReal)
      = ∑ k : Fin 4096, o (ix2 k ⟨256 * p.val + r.val, by omega⟩) * d (ix2 k q) := by
  simp only [pointwise]
  refine (zero_add _).trans (Finset.sum_congr rfl fun k _ => ?_)
  rw [mul_comm]
  simp only [Nat.mul_comm p.val 256]

end Cert.FoxDwout.Ref

end
-- ==== Proof.LruDwout.lean ====
/- The gradient of the recurrent layer's output weight, in shards of its rows: what the tiled kernel leaves, entry by entry. -/
module

public import proofs.«01_k».proof.Proof.FoxDwout
public import proofs.«01_k».proof.Proof.Gen.Kernel18Ideal.Value
public import proofs.«01_k».proof.Proof.Gen.Reference18Ideal.Run
public import Idealize.ShloMosaic.Lib.Pointwise
public import Idealize.ShloMosaic.Lib.Tactic

@[expose] public section

set_option maxRecDepth 16384

noncomputable section

namespace Cert.LruDwout

open Cert.Kernel18Ideal Cert.Kernel18Ideal.Gen Cert.Kernel18Ideal.Value
open Idealize.ShloMosaic Idealize.ShloMosaic.TcCoe Idealize.ShloMosaic.Tactic
open Idealize.SL Idealize.SL.Sem

/-- The first step of a tile leaves, in the accumulator, the product of the two blocks over a zero start. -/
theorem acc_first (c i a3 h3 a4 h4 a5 h5 a6 h6 hc0 hc1) (x y) :
    sout0_A_0 (F := Ideal) c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S256x1024) Mat.off2, View.readCov_unit_zero (S := S256x1024) _ Mat.off2]
  simp only [View.readAt_eq_ld, h3.read_unread, h4.read_unread, View.ld_unit_zero (S := S2048x256) Mat.off2,
    View.ld_unit_zero (S := S2048x1024) Mat.off2]

/-- The last step of a tile stores the accumulator with the product of its two blocks added. -/
theorem out_last (c i a3 h3 a4 h4 a5 h5 a6 h6 hc0 hc1) (x y s) :
    out0_B_2 (F := Ideal) c i a3 h3 a4 h4 a5 h5 a6 h6 hc0 hc1 x y s = k0_pay3 (k0_pay2 s x y) := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero (S := S1x256x1024) Mat.off3, View.readCov_unit_zero (S := S256x1024) _ Mat.off2]
  simp only [View.readAt_eq_ld, h3.read_unread, h4.read_unread, h6.read_unread, View.ld_unit_zero (S := S2048x256) Mat.off2,
    View.ld_unit_zero (S := S2048x1024) Mat.off2, View.ld_unit_zero (S := S256x1024) Mat.off2]

/-- The product of two blocks at an entry: both are contracted along their first axis. -/
theorem prod_apply (x : S2048x256.Idx → EReal) (y : S2048x1024.Idx → EReal) (r : Fin 256) (q : Fin 1024) :
    (matmul (F := Ideal) (φ₁ := .bf16) (φ₂ := .bf16) dot_S2048x256_S2048x1024_S256x1024_0_0_1_1_n_n none x y
      (constant S256x1024 .f32 0x00000000#32) (ix2 r q) : EReal) = ∑ k : Fin 2048, x (ix2 k r) * y (ix2 k q) := by
  simp only [pointwise, zero_add]

/-- An accumulating step at an entry. -/
theorem step_apply (s : Vec Ideal S256x1024 .f32) (x : Vec Ideal S2048x256 .bf16) (y : Vec Ideal S2048x1024 .bf16) (r : Fin 256) (q : Fin 1024) :
    k0_pay2 s x y (ix2 r q) = (s (ix2 r q) : EReal) + ∑ k : Fin 2048, (x (ix2 k r) : EReal) * y (ix2 k q) := by
  unfold k0_pay2
  simp only [shapeCast_self]
  exact congrArg (fun e : EReal => (s (ix2 r q) : EReal) + e) (prod_apply x y r q)

/-- The zero start, and the stored block. -/
theorem zero_apply (i : S256x1024.Idx) : (k0_pay1 (F := Ideal) i : EReal) = 0 := FoxDwout.zero_apply i

theorem store_apply (v : Vec Ideal S256x1024 .f32) (r : Fin 256) (q : Fin 1024) : (k0_pay3 v (ix3 0 r q) : EReal) = v (ix2 r q) :=
  FoxDwout.store_apply v r q

variable (m : (ℓ : Loc nD τ sig) → Buf (Elt Ideal) ℓ) (c : Dev nD)

theorem at0 : ∀ t : Fin cfg0.N, win0_0.index t 0 = t.val % 2 ∧ win0_0.index t 1 = t.val / 2 := by decide +kernel
theorem at1 : ∀ t : Fin cfg0.N, win0_1.index t 0 = t.val % 2 ∧ win0_1.index t 1 = 0 := by decide +kernel
theorem pts (t : Fin cfg0.N) : t.val < 8 := lt_of_lt_of_eq t.isLt (show cfg0.N = 8 from N_0)

/-- The two arguments, the two arrays the kernel reads, and the result array. -/
def argY : S4096x1024.Idx → EReal := m ((c.tc : Thread nD τ).loc main_arg0)
def argD : S4096x1024.Idx → EReal := m ((c.tc : Thread nD τ).loc main_arg1)
def rec : S4096x1024.Idx → EReal := V m c main_v0
def cot : S4096x1024.Idx → EReal := V m c main_v1
def res : S4x256x1024.Idx → EReal := G2 m c

theorem rec_eq : rec m c = argY m c := by
  unfold rec V
  after_results
  rfl

theorem cot_eq : cot m c = argD m c := by
  unfold cot V
  after_results
  rfl

/-- The blocks a step reads. -/
theorem blk0 (t : Fin cfg0.N) (k : Fin 2048) (r : Fin 256) : (iblk m c 0 t (ix2 k r) : EReal) = argY m c
    (ix2 ⟨2048 * (t.val % 2) + k.val, by omega⟩ ⟨256 * (t.val / 2) + r.val, by have := pts t; omega⟩) := by
  rw [← rec_eq]
  unfold iblk
  refine congrArg (rec m c) (Mat.idx2 ?_ ?_)
  · show win0_0.index t 0 * 2048 + 1 * k.val = 2048 * (t.val % 2) + k.val; rw [(at0 t).1]; omega
  · show win0_0.index t 1 * 256 + 1 * r.val = 256 * (t.val / 2) + r.val; rw [(at0 t).2]; omega

theorem blk1 (t : Fin cfg0.N) (k : Fin 2048) (q : Fin 1024) :
    (iblk m c 1 t (ix2 k q) : EReal) = argD m c (ix2 ⟨2048 * (t.val % 2) + k.val, by omega⟩ q) := by
  rw [← cot_eq]
  unfold iblk
  refine congrArg (cot m c) (Mat.idx2 ?_ ?_)
  · show win0_1.index t 0 * 2048 + 1 * k.val = 2048 * (t.val % 2) + k.val; rw [(at1 t).1]; omega
  · show win0_1.index t 1 * 1024 + 1 * q.val = q.val; rw [(at1 t).2]; omega

/-- What is left after a step depends on the step's number alone. -/
theorem outs_congr {n n' : ℕ} (h : n = n') (hn : n < cfg0.N) (hn' : n' < cfg0.N) : outsAt0 m c n hn = outsAt0 m c n' hn' := by
  subst h; rfl

/-- After the first step of a tile. -/
theorem pair_acc (t : Fin cfg0.N) (h : t.val % 2 = 0) :
    (outsAt0 m c t.val t.isLt).2 = k0_pay2 k0_pay1 (iblk m c 0 t) (iblk m c 1 t) := by
  have e := congrArg Prod.snd (outsAt0_A m c t h (by omega))
  dsimp only at e
  rw [acc_first] at e
  exact e

/-- After the two steps of a tile. -/
theorem pair_out (t u : Fin cfg0.N) (hu : u.val = t.val + 1) (h : t.val % 2 = 0) :
    (outsAt0 m c u.val u.isLt).1 = k0_pay3 (k0_pay2 (k0_pay2 k0_pay1 (iblk m c 0 t) (iblk m c 1 t)) (iblk m c 0 u) (iblk m c 1 u)) := by
  have e := congrArg Prod.fst (outsAt0_B m c u (by omega) (by omega))
  rw [outs_congr m c (show u.val - 1 = t.val by omega) _ t.isLt, pair_acc m c t h] at e
  dsimp only at e
  rw [out_last] at e
  exact e

/-- **The kernel's result at an entry**, of its arguments. -/
theorem kernel_entry (p : Fin 4) (r : Fin 256) (q : Fin 1024) :
    res m c (ix3 p r q) = ∑ k : Fin 4096, argY m c (ix2 k ⟨256 * p.val + r.val, by omega⟩) * argD m c (ix2 k q) := by
  have hp : pt2Of (ix3 p r q) = 2 * p.val + 1 := by
    show 2 * (1 * (p.val / 1 - 0) + 1 * (r.val / 256 - 0) + 1 * (q.val / 1024 - 0)) + 1 = _
    omega
  have hl : loc2Of (ix3 p r q) = ix3 0 r q := Mat.idx3 (Nat.mod_one _) (Nat.mod_eq_of_lt r.isLt) (Nat.mod_eq_of_lt q.isLt)
  have hN : cfg0.N = 8 := N_0
  have hb : 2 * p.val + 1 < cfg0.N := by omega
  have ha : 2 * p.val < cfg0.N := by omega
  have e : res m c (ix3 p r q) = (outsAt0 m c (2 * p.val + 1) hb).1 (ix3 0 r q) := by
    have hb' : pt2Of (ix3 p r q) < cfg0.N := hp.symm ▸ hb
    refine (dif_pos hb').trans ?_
    rw [hl, outsAt0_sweep]
    exact congrFun (congrArg Prod.fst (fold0_congr m c _ _ _ _ hp)) _
  rw [e, pair_out m c ⟨2 * p.val, ha⟩ ⟨2 * p.val + 1, hb⟩ rfl (by dsimp only; omega)]
  rw [store_apply, step_apply, step_apply, zero_apply, zero_add, ← Mat.sum_halves]
  refine congrArg₂ (· + ·) ?_ ?_ <;> refine Finset.sum_congr rfl fun k _ => ?_ <;>
    rw [blk0, blk1] <;> simp only [Mat.halves, Nat.mul_zero, Nat.mul_one, Nat.zero_add]

end Cert.LruDwout

namespace Cert.LruDwout.Ref

open Cert.Reference18Ideal Cert.Reference18Ideal.Gen
open Idealize.ShloMosaic Idealize.ShloMosaic.TcCoe

/-- **The reference's result at an entry**. -/
theorem entry (y d : S4096x1024.Idx → EReal) (p : Fin 4) (r : Fin 256) (q : Fin 1024) :
    (truncf (F := Ideal) .bf16 (shapeCast S4x256x1024 (transpose S1024x1024 [1, 0]
      (Host.dotGeneral (F := Ideal) (φ₁ := .f32) (φ₂ := .f32) dot_S4096x1024_S4096x1024_S1024x1024_0_0_1_1_n_n none d y)
      transposes_S1024x1024_S1024x1024_1_0) shapeCasts_S1024x1024_S4x256x1024) bitsLt_bf16_f32 (ix3 p r q) : EReal)
      = ∑ k : Fin 4096, y (ix2 k ⟨256 * p.val + r.val, by omega⟩) * d (ix2 k q) :=
  FoxDwout.Ref.entry y d p r q

end Cert.LruDwout.Ref

end
-- ==== Proof.FoxOut.lean ====
/- The attention layer's output product, added to the residual, and the next layer's normalised input: what the tiled
   kernel leaves in its two results, entry by entry. -/
module

public import proofs.«01_k».proof.Proof.Down
public import proofs.«01_k».proof.Proof.Gen.Kernel19Ideal.Value
public import proofs.«01_k».proof.Proof.Gen.Reference19Ideal.Run
public import Idealize.ShloMosaic.Lib.Pointwise
public import Idealize.ShloMosaic.Lib.Tactic

@[expose] public section

set_option maxRecDepth 16384

noncomputable section

namespace Cert.FoxOut

open Cert.Kernel19Ideal Cert.Kernel19Ideal.Gen Cert.Kernel19Ideal.Value
open Idealize.ShloMosaic Idealize.ShloMosaic.TcCoe Idealize.ShloMosaic.Tactic
open Idealize.SL Idealize.SL.Sem

/-- The first step of a tile leaves, in the accumulator, the product of the two blocks over a zero start. -/
theorem acc_first (c i a3 h3 a4 h4 a5 h5 a6 h6 a7 h7 a8 h8 a9 h9 hc0 hc1) (x y v g) :
    sout0_A_0 (F := Ideal) c i a3 h3 a4 h4 a5 h5 a6 h6 a7 h7 a8 h8 a9 h9 hc0 hc1 x y v g = k0_pay2 k0_pay1 x y := by
  unfold sout0_A_0
  rw [View.read_writes_eq_canon _ _ _ (scover0_A_0 c i a3 h3 a4 h4 a5 h5 a6 h6 a7 h7 a8 h8 a9 h9 hc0 hc1 x y v g)]
  unfold kernelRun0_A
  dsimp only
  sl_unfold_words
  rw [View.canon_cons_unit_zero (S := S1024x1024) Mat.off2, View.readCov_unit_zero (S := S1024x1024) _ Mat.off2]
  simp only [View.readAt_eq_ld, h3.read_unread, h4.read_unread, View.ld_unit_zero (S := S256x1024) Mat.off2,
    View.ld_unit_zero (S := S1x256x1024) Mat.off3]

/-- A middle step adds the product of its two blocks to the accumulator. -/
theorem acc_mid (c i a3 h3 a4 h4 a5 h5 a6 h6 a7 h7 a8 h8 a9 h9 hc0 hc1) (x y v g s) :
    sout0_B_0 (F := Ideal) c i a3 h3 a4 h4 a5 h5 a6 h6 a7 h7 a8 h8 a9 h9 hc0 hc1 x y v g s = k0_pay2 s x y := by
  unfold sout0_B_0
  rw [View.read_writes_eq_canon _ _ _ (scover0_B_0 c i a3 h3 a4 h4 a5 h5 a6 h6 a7 h7 a8 h8 a9 h9 hc0 hc1 x y v g s)]
  unfold kernelRun0_B
  dsimp only
  sl_unfold_words
  rw [View.canon_unit_zero (S := S1024x1024) Mat.off2]
  simp only [View.readAt_eq_ld, h3.read_unread, h4.read_unread, h9.read_unread, View.ld_unit_zero (S := S1024x1024) Mat.off2,
    View.ld_unit_zero (S := S256x1024) Mat.off2, View.ld_unit_zero (S := S1x256x1024) Mat.off3]

/-- The last step of a tile stores the residual plus the finished accumulator. -/
theorem sum_last (c i a3 h3 a4 h4 a5 h5 a6 h6 a7 h7 a8 h8 a9 h9 hc0 hc1) (x y v g s) :
    out0_C_4 (F := Ideal) c i a3 h3 a4 h4 a5 h5 a6 h6 a7 h7 a8 h8 a9 h9 hc0 hc1 x y v g s = k0_pay3 (k0_pay2 s x y) v := by
  unfold out0_C_4
  rw [View.read_writes_eq_canon _ _ _ (cover0_C_4 c i a3 h3 a4 h4 a5 h5 a6 h6 a7 h7 a8 h8 a9 h9 hc0 hc1 x y v g s)]
  unfold kernelRun0_C
  dsimp only
  sl_unfold_words
  rw [View.canon_unit_zero (S := S1024x1024) Mat.off2, View.readCov_unit_zero (S := S1024x1024) _ Mat.off2]
  simp only [View.readAt_eq_ld, h3.read_unread, h4.read_unread, h5.read_unread, h9.read_unread,
    View.ld_unit_zero (S := S1024x1024) Mat.off2, View.ld_unit_zero (S := S256x1024) Mat.off2, View.ld_unit_zero (S := S1x256x1024) Mat.off3]

/-- And beside it that sum scaled to unit mean square along its rows, times the layer's gains. -/
theorem norm_last (c i a3 h3 a4 h4 a5 h5 a6 h6 a7 h7 a8 h8 a9 h9 hc0 hc1) (x y v g s) :
    out0_C_5 (F := Ideal) c i a3 h3 a4 h4 a5 h5 a6 h6 a7 h7 a8 h8 a9 h9 hc0 hc1 x y v g s = k0_pay4 (k0_pay2 s x y) v g := by
  unfold out0_C_5
  rw [View.read_writes_eq_canon _ _ _ (cover0_C_5 c i a3 h3 a4 h4 a5 h5 a6 h6 a7 h7 a8 h8 a9 h9 hc0 hc1 x y v g s)]
  unfold kernelRun0_C
  dsimp only
  sl_unfold_words
  rw [View.canon_unit_zero (S := S1024x1024) Mat.off2, View.readCov_unit_zero (S := S1024x1024) _ Mat.off2]
  simp only [View.readAt_eq_ld, h3.read_unread, h4.read_unread, h5.read_unread, h6.read_unread, h9.read_unread,
    View.ld_unit_zero (S := S1024x1024) Mat.off2, View.ld_unit_zero (S := S256x1024) Mat.off2, View.ld_unit_zero (S := S1x256x1024) Mat.off3,
    View.ld_unit_zero (S := S1x1024) Mat.off2]

/-- The product of two blocks at an entry: both are contracted along their first axis. -/
theorem prod_apply (x y : S256x1024.Idx → EReal) (r q : Fin 1024) :
    (matmul (F := Ideal) (φ₁ := .bf16) (φ₂ := .bf16) dot_S256x1024_S256x1024_S1024x1024_0_0_1_1_n_n none x y
      (constant S1024x1024 .f32 0x00000000#32) (ix2 r q) : EReal) = ∑ k : Fin 256, x (ix2 k r) * y (ix2 k q) := by
  simp only [pointwise, zero_add]

/-- An accumulating step at an entry; the zero start, the stored sum and the stored scaled sum are as in the MLP's. -/
theorem step_apply (s : Vec Ideal S1024x1024 .f32) (x : Vec Ideal S256x1024 .bf16) (y : Vec Ideal S1x256x1024 .bf16) (r q : Fin 1024) :
    k0_pay2 s x y (ix2 r q) = (s (ix2 r q) : EReal) + ∑ k : Fin 256, (x (ix2 k r) : EReal) * y (ix3 0 k q) := by
  unfold k0_pay2
  simp only [shapeCast_self]
  refine congrArg (fun e : EReal => (s (ix2 r q) : EReal) + e) ((prod_apply x _ r q).trans ?_)
  exact Finset.sum_congr rfl fun k _ => congrArg (fun e : EReal => (x (ix2 k r) : EReal) * e) (by simp only [pointwise])

theorem zero_apply (i : S1024x1024.Idx) : (k0_pay1 (F := Ideal) i : EReal) = 0 := Down.zero_apply i

theorem sum_apply (s v : Vec Ideal S1024x1024 .f32) (r q : Fin 1024) :
    k0_pay3 s v (ix2 r q) = (v (ix2 r q) : EReal) + s (ix2 r q) := rfl

theorem norm_apply (s v : Vec Ideal S1024x1024 .f32) (g : Vec Ideal S1x1024 .f32) (r q : Fin 1024) :
    (k0_pay4 s v g (ix2 r q) : EReal) = Mat.unit (fun k => (v (ix2 r k) : EReal) + s (ix2 r k)) q * (g (ix2 0 q) : EReal) :=
  Down.norm_apply s v g r q

variable (m : (ℓ : Loc nD τ sig) → Buf (Elt Ideal) ℓ) (c : Dev nD)

theorem at0 : ∀ t : Fin cfg0.N, win0_0.index t 0 = t.val % 4 ∧ win0_0.index t 1 = t.val / 4 := by decide +kernel
theorem at1 : ∀ t : Fin cfg0.N, win0_1.index t 0 = t.val % 4 ∧ win0_1.index t 1 = 0 ∧ win0_1.index t 2 = 0 := by decide +kernel
theorem at2 : ∀ t : Fin cfg0.N, win0_2.index t 0 = t.val / 4 ∧ win0_2.index t 1 = 0 := by decide +kernel
theorem at3 : ∀ t : Fin cfg0.N, win0_3.index t 0 = 0 ∧ win0_3.index t 1 = 0 := by decide +kernel
theorem pts (t : Fin cfg0.N) : t.val < 16 := lt_of_lt_of_eq t.isLt (show cfg0.N = 16 from N_0)

/-- The four arguments (the layer's inner result, weight, residual, gains), the two arrays prepared for the kernel, and
    the two result arrays. -/
def argO : S4096x1024.Idx → EReal := m ((c.tc : Thread nD τ).loc main_arg0)
def argW : S1024x1024.Idx → EReal := m ((c.tc : Thread nD τ).loc main_arg1)
def argX : S4096x1024.Idx → EReal := m ((c.tc : Thread nD τ).loc main_arg2)
def argG : S1x1024.Idx → EReal := m ((c.tc : Thread nD τ).loc main_arg3)
def att : S1024x4096.Idx → EReal := V m c main_v1
def wts : S4x256x1024.Idx → EReal := V m c main_v3
def res : S4096x1024.Idx → EReal := G4 m c
def nrm : S4096x1024.Idx → EReal := G5 m c

theorem att_eq (j : Fin 1024) (k : Fin 4096) : att m c (ix2 j k) = argO m c (ix2 k j) := by
  have e : att m c = truncf (F := Ideal) .bf16 (transpose S1024x4096 [1, 0] (m ((c.tc : Thread nD τ).loc main_arg0))
      transposes_S4096x1024_S1024x4096_1_0) bitsLt_bf16_f32 := by
    unfold att V
    after_results
  rw [e]
  simp only [pointwise]
  rfl

theorem wts_eq (p : Fin 4) (k : Fin 256) (q : Fin 1024) : wts m c (ix3 p k q) = argW m c (ix2 ⟨256 * p.val + k.val, by omega⟩ q) := by
  have e : wts m c = shapeCast S4x256x1024 (truncf (F := Ideal) .bf16 (m ((c.tc : Thread nD τ).loc main_arg1)) bitsLt_bf16_f32)
      shapeCasts_S1024x1024_S4x256x1024 := by
    unfold wts V
    after_results
    rfl
  rw [e]
  simp only [pointwise]
  simp only [Nat.mul_comm p.val 256]
  rfl

theorem res2_eq : (V m c main_arg2 : S4096x1024.Idx → EReal) = argX m c := by
  unfold V
  after_results
  rfl

theorem gain_eq : (V m c main_arg3 : S1x1024.Idx → EReal) = argG m c := by
  unfold V
  after_results
  rfl

/-- The blocks a step reads. -/
theorem blk0 (t : Fin cfg0.N) (k : Fin 256) (r : Fin 1024) : (iblk m c 0 t (ix2 k r) : EReal) = argO m c
    (ix2 ⟨1024 * (t.val / 4) + r.val, by have := pts t; omega⟩ ⟨256 * (t.val % 4) + k.val, by omega⟩) := by
  rw [← att_eq]
  unfold iblk
  refine congrArg (att m c) (Mat.idx2 ?_ ?_)
  · show win0_0.index t 0 * 256 + 1 * k.val = 256 * (t.val % 4) + k.val; rw [(at0 t).1]; omega
  · show win0_0.index t 1 * 1024 + 1 * r.val = 1024 * (t.val / 4) + r.val; rw [(at0 t).2]; omega

theorem blk1 (t : Fin cfg0.N) (k : Fin 256) (q : Fin 1024) : (iblk m c 1 t (ix3 0 k q) : EReal) = argW m c
    (ix2 ⟨256 * (t.val % 4) + k.val, by omega⟩ q) := by
  refine Eq.trans ?_ (wts_eq m c ⟨t.val % 4, by omega⟩ k q)
  unfold iblk
  refine congrArg (wts m c) (Mat.idx3 ?_ ?_ ?_)
  · show win0_1.index t 0 * 1 + 1 * 0 = t.val % 4; rw [(at1 t).1]; omega
  · show win0_1.index t 1 * 256 + 1 * k.val = k.val; rw [(at1 t).2.1]; omega
  · show win0_1.index t 2 * 1024 + 1 * q.val = q.val; rw [(at1 t).2.2]; omega

theorem blk2 (t : Fin cfg0.N) (r q : Fin 1024) : (iblk m c 2 t (ix2 r q) : EReal) = argX m c
    (ix2 ⟨1024 * (t.val / 4) + r.val, by have := pts t; omega⟩ q) := by
  rw [← res2_eq]
  unfold iblk
  refine congrArg (V m c main_arg2 : S4096x1024.Idx → EReal) (Mat.idx2 ?_ ?_)
  · show win0_2.index t 0 * 1024 + 1 * r.val = 1024 * (t.val / 4) + r.val; rw [(at2 t).1]; omega
  · show win0_2.index t 1 * 1024 + 1 * q.val = q.val; rw [(at2 t).2]; omega

theorem blk3 (t : Fin cfg0.N) (q : Fin 1024) : (iblk m c 3 t (ix2 0 q) : EReal) = argG m c (ix2 0 q) := by
  rw [← gain_eq]
  unfold iblk
  refine congrArg (V m c main_arg3 : S1x1024.Idx → EReal) (Mat.idx2 ?_ ?_)
  · show win0_3.index t 0 * 1 + 1 * 0 = 0; rw [(at3 t).1]
  · show win0_3.index t 1 * 1024 + 1 * q.val = q.val; rw [(at3 t).2]; omega

/-- What is left after a step depends on the step's number alone. -/
theorem outs_congr {n n' : ℕ} (h : n = n') (hn : n < cfg0.N) (hn' : n' < cfg0.N) : outsAt0 m c n hn = outsAt0 m c n' hn' := by
  subst h; rfl

/-- The accumulator after the first step of a tile, after a middle step, and the blocks stored after the last. -/
theorem acc_a (t : Fin cfg0.N) (h : t.val % 4 = 0) :
    (outsAt0 m c t.val t.isLt).2.2 = k0_pay2 k0_pay1 (iblk m c 0 t) (iblk m c 1 t) := by
  have e := congrArg (fun p => p.2.2) (outsAt0_A m c t h (by omega))
  dsimp only at e
  rw [acc_first] at e
  exact e

theorem acc_b (t u : Fin cfg0.N) (hu : u.val = t.val + 1) (h0 : ¬u.val % 4 = 0) (h1 : ¬u.val % 4 = 3) :
    (outsAt0 m c u.val u.isLt).2.2 = k0_pay2 (outsAt0 m c t.val t.isLt).2.2 (iblk m c 0 u) (iblk m c 1 u) := by
  have e := congrArg (fun p => p.2.2) (outsAt0_B m c u h0 h1)
  rw [outs_congr m c (show u.val - 1 = t.val by omega) _ t.isLt] at e
  dsimp only at e
  rw [acc_mid] at e
  exact e

theorem out_c (t u : Fin cfg0.N) (hu : u.val = t.val + 1) (h1 : u.val % 4 = 3) :
    (outsAt0 m c u.val u.isLt).1
        = k0_pay3 (k0_pay2 (outsAt0 m c t.val t.isLt).2.2 (iblk m c 0 u) (iblk m c 1 u)) (iblk m c 2 u)
      ∧ (outsAt0 m c u.val u.isLt).2.1
        = k0_pay4 (k0_pay2 (outsAt0 m c t.val t.isLt).2.2 (iblk m c 0 u) (iblk m c 1 u)) (iblk m c 2 u) (iblk m c 3 u) := by
  have e := outsAt0_C m c u (by omega) h1
  rw [outs_congr m c (show u.val - 1 = t.val by omega) _ t.isLt] at e
  have e1 := congrArg (fun p => p.1) e
  have e2 := congrArg (fun p => p.2.1) e
  dsimp only at e1 e2
  rw [sum_last] at e1
  rw [norm_last] at e2
  exact ⟨e1, e2⟩

/-- The product of the inner result and the weight at an entry. -/
def prd (i : Fin 4096) (q : Fin 1024) : EReal := ∑ k : Fin 1024, argO m c (ix2 i k) * argW m c (ix2 k q)

/-- The finished accumulator of a tile. -/
theorem acc_tile (p : Fin 4) (t u : Fin cfg0.N) (ht : t.val = 4 * p.val + 2) (hu : u.val = 4 * p.val + 3) (r q : Fin 1024) :
    (k0_pay2 (outsAt0 m c t.val t.isLt).2.2 (iblk m c 0 u) (iblk m c 1 u) (ix2 r q) : EReal)
      = prd m c ⟨1024 * p.val + r.val, by omega⟩ q := by
  have hN : cfg0.N = 16 := N_0
  have ha : 4 * p.val < cfg0.N := by omega
  have hb : 4 * p.val + 1 < cfg0.N := by omega
  rw [acc_b m c ⟨4 * p.val + 1, hb⟩ t (by dsimp only; omega) (by omega) (by omega),
    acc_b m c ⟨4 * p.val, ha⟩ ⟨4 * p.val + 1, hb⟩ rfl (by dsimp only; omega) (by dsimp only; omega),
    acc_a m c ⟨4 * p.val, ha⟩ (by dsimp only; omega)]
  rw [step_apply, step_apply, step_apply, step_apply, zero_apply, zero_add]
  unfold prd
  rw [← Mat.sum_four]
  refine congrArg₂ (· + ·) (congrArg₂ (· + ·) (congrArg₂ (· + ·) ?_ ?_) ?_) ?_ <;> refine Finset.sum_congr rfl fun k _ => ?_ <;>
    rw [blk0, blk1] <;> simp only [ht, hu, Mat.quarters, Nat.mul_zero, Nat.mul_one, Nat.zero_add] <;> rfl

/-- The two results in a tile. -/
theorem res_entry (p : Fin 4) (r q : Fin 1024) :
    res m c (ix2 ⟨1024 * p.val + r.val, by omega⟩ q)
      = argX m c (ix2 ⟨1024 * p.val + r.val, by omega⟩ q) + prd m c ⟨1024 * p.val + r.val, by omega⟩ q := by
  have hN : cfg0.N = 16 := N_0
  have ha : 4 * p.val + 2 < cfg0.N := by omega
  have hb : 4 * p.val + 3 < cfg0.N := by omega
  have hp : pt4Of (ix2 ⟨1024 * p.val + r.val, by omega⟩ q) = 4 * p.val + 3 := by
    show 4 * (1 * ((1024 * p.val + r.val) / 1024 - 0) + 1 * (q.val / 1024 - 0)) + 3 = _
    omega
  have hl : loc4Of (ix2 ⟨1024 * p.val + r.val, by omega⟩ q) = ix2 r q := Mat.idx2
    (by show (1024 * p.val + r.val) % 1024 = r.val; omega) (Nat.mod_eq_of_lt q.isLt)
  have e : res m c (ix2 ⟨1024 * p.val + r.val, by omega⟩ q) = (outsAt0 m c (4 * p.val + 3) hb).1 (ix2 r q) := by
    refine (dif_pos (hp.symm ▸ hb)).trans ?_
    rw [hl, outsAt0_sweep]
    exact congrFun (congrArg (fun p => p.1) (fold0_congr m c _ _ _ _ hp)) _
  rw [e, (out_c m c ⟨4 * p.val + 2, ha⟩ ⟨4 * p.val + 3, hb⟩ rfl (by dsimp only; omega)).1, sum_apply, blk2,
    acc_tile m c p _ _ rfl rfl]
  simp only [Mat.quarters]

theorem nrm_entry (p : Fin 4) (r q : Fin 1024) :
    nrm m c (ix2 ⟨1024 * p.val + r.val, by omega⟩ q)
      = Mat.unit (fun k => argX m c (ix2 ⟨1024 * p.val + r.val, by omega⟩ k) + prd m c ⟨1024 * p.val + r.val, by omega⟩ k) q
        * argG m c (ix2 0 q) := by
  have hN : cfg0.N = 16 := N_0
  have ha : 4 * p.val + 2 < cfg0.N := by omega
  have hb : 4 * p.val + 3 < cfg0.N := by omega
  have hp : pt5Of (ix2 ⟨1024 * p.val + r.val, by omega⟩ q) = 4 * p.val + 3 := by
    show 4 * (1 * ((1024 * p.val + r.val) / 1024 - 0) + 1 * (q.val / 1024 - 0)) + 3 = _
    omega
  have hl : loc5Of (ix2 ⟨1024 * p.val + r.val, by omega⟩ q) = ix2 r q := Mat.idx2
    (by show (1024 * p.val + r.val) % 1024 = r.val; omega) (Nat.mod_eq_of_lt q.isLt)
  have e : nrm m c (ix2 ⟨1024 * p.val + r.val, by omega⟩ q) = (outsAt0 m c (4 * p.val + 3) hb).2.1 (ix2 r q) := by
    refine (dif_pos (hp.symm ▸ hb)).trans ?_
    rw [hl, outsAt0_sweep]
    exact congrFun (congrArg (fun p => p.2.1) (fold0_congr m c _ _ _ _ hp)) _
  rw [e, (out_c m c ⟨4 * p.val + 2, ha⟩ ⟨4 * p.val + 3, hb⟩ rfl (by dsimp only; omega)).2, norm_apply, blk3]
  refine congrArg (fun e : EReal => e * argG m c (ix2 0 q)) (congrArg (fun f => Mat.unit f q) (funext fun k => ?_))
  rw [blk2, acc_tile m c p _ _ rfl rfl]
  simp only [Mat.quarters]

/-- **The kernel's first result at an entry**: the residual plus the product. -/
theorem kernel_sum (i : Fin 4096) (q : Fin 1024) : res m c (ix2 i q) = argX m c (ix2 i q) + prd m c i q := by
  have b : 1024 * (i.val / 1024) + i.val % 1024 < 4096 := by omega
  obtain e : i = ⟨1024 * (i.val / 1024) + i.val % 1024, b⟩ := Fin.ext (Nat.div_add_mod _ _).symm
  rw [e]
  exact res_entry m c ⟨i.val / 1024, by omega⟩ ⟨i.val % 1024, by omega⟩ q

/-- **The kernel's second result at an entry**: the first result's row scaled to unit mean square, times the gains. -/
theorem kernel_norm (i : Fin 4096) (q : Fin 1024) :
    nrm m c (ix2 i q) = Mat.unit (fun k => argX m c (ix2 i k) + prd m c i k) q * argG m c (ix2 0 q) := by
  have b : 1024 * (i.val / 1024) + i.val % 1024 < 4096 := by omega
  obtain e : i = ⟨1024 * (i.val / 1024) + i.val % 1024, b⟩ := Fin.ext (Nat.div_add_mod _ _).symm
  rw [e]
  exact nrm_entry m c ⟨i.val / 1024, by omega⟩ ⟨i.val % 1024, by omega⟩ q

end Cert.FoxOut

namespace Cert.FoxOut.Ref

open Cert.Reference19Ideal Cert.Reference19Ideal.Gen
open Idealize.ShloMosaic Idealize.ShloMosaic.TcCoe

/-- The product of the reference at an entry. -/
theorem prod (o : S4096x1024.Idx → EReal) (w : S1024x1024.Idx → EReal) (i : Fin 4096) (j : Fin 1024) :
    (Host.dotGeneral (F := Ideal) (φ₁ := .f32) (φ₂ := .f32) dot_S4096x1024_S1024x1024_S4096x1024_1_0_0_1_n_n none o w (ix2 i j) : EReal)
      = ∑ k : Fin 1024, o (ix2 i k) * w (ix2 k j) := by
  simp only [pointwise, zero_add]

end Cert.FoxOut.Ref

end
-- ==== Proof.LruOut.lean ====
/- The recurrent layer's output product, added to the residual, and the next layer's normalised input: what the tiled
   kernel leaves in its two results, entry by entry. -/
module

public import proofs.«01_k».proof.Proof.FoxOut
public import proofs.«01_k».proof.Proof.Gen.Kernel20Ideal.Value
public import proofs.«01_k».proof.Proof.Gen.Reference20Ideal.Run
public import Idealize.ShloMosaic.Lib.Pointwise
public import Idealize.ShloMosaic.Lib.Tactic

@[expose] public section

set_option maxRecDepth 16384

noncomputable section

namespace Cert.LruOut

open Cert.Kernel20Ideal Cert.Kernel20Ideal.Gen Cert.Kernel20Ideal.Value
open Idealize.ShloMosaic Idealize.ShloMosaic.TcCoe Idealize.ShloMosaic.Tactic
open Idealize.SL Idealize.SL.Sem

/-- The first step of a tile leaves, in the accumulator, the product of the two blocks over a zero start. -/
theorem acc_first (c i a3 h3 a4 h4 a5 h5 a6 h6 a7 h7 a8 h8 a9 h9 hc0 hc1) (x y v g) :
    sout0_A_0 (F := Ideal) c i a3 h3 a4 h4 a5 h5 a6 h6 a7 h7 a8 h8 a9 h9 hc0 hc1 x y v g = k0_pay2 k0_pay1 x y := by
  unfold sout0_A_0
  rw [View.read_writes_eq_canon _ _ _ (scover0_A_0 c i a3 h3 a4 h4 a5 h5 a6 h6 a7 h7 a8 h8 a9 h9 hc0 hc1 x y v g)]
  unfold kernelRun0_A
  dsimp only
  sl_unfold_words
  rw [View.canon_cons_unit_zero (S := S1024x1024) Mat.off2, View.readCov_unit_zero (S := S1024x1024) _ Mat.off2]
  simp only [View.readAt_eq_ld, h3.read_unread, h4.read_unread, View.ld_unit_zero (S := S1024x256) Mat.off2,
    View.ld_unit_zero (S := S1x256x1024) Mat.off3]

/-- A middle step adds the product of its two blocks to the accumulator. -/
theorem acc_mid (c i a3 h3 a4 h4 a5 h5 a6 h6 a7 h7 a8 h8 a9 h9 hc0 hc1) (x y v g s) :
    sout0_B_0 (F := Ideal) c i a3 h3 a4 h4 a5 h5 a6 h6 a7 h7 a8 h8 a9 h9 hc0 hc1 x y v g s = k0_pay2 s x y := by
  unfold sout0_B_0
  rw [View.read_writes_eq_canon _ _ _ (scover0_B_0 c i a3 h3 a4 h4 a5 h5 a6 h6 a7 h7 a8 h8 a9 h9 hc0 hc1 x y v g s)]
  unfold kernelRun0_B
  dsimp only
  sl_unfold_words
  rw [View.canon_unit_zero (S := S1024x1024) Mat.off2]
  simp only [View.readAt_eq_ld, h3.read_unread, h4.read_unread, h9.read_unread, View.ld_unit_zero (S := S1024x1024) Mat.off2,
    View.ld_unit_zero (S := S1024x256) Mat.off2, View.ld_unit_zero (S := S1x256x1024) Mat.off3]

/-- The last step of a tile stores the residual plus the finished accumulator. -/
theorem sum_last (c i a3 h3 a4 h4 a5 h5 a6 h6 a7 h7 a8 h8 a9 h9 hc0 hc1) (x y v g s) :
    out0_C_4 (F := Ideal) c i a3 h3 a4 h4 a5 h5 a6 h6 a7 h7 a8 h8 a9 h9 hc0 hc1 x y v g s = k0_pay3 (k0_pay2 s x y) v := by
  unfold out0_C_4
  rw [View.read_writes_eq_canon _ _ _ (cover0_C_4 c i a3 h3 a4 h4 a5 h5 a6 h6 a7 h7 a8 h8 a9 h9 hc0 hc1 x y v g s)]
  unfold kernelRun0_C
  dsimp only
  sl_unfold_words
  rw [View.canon_unit_zero (S := S1024x1024) Mat.off2, View.readCov_unit_zero (S := S1024x1024) _ Mat.off2]
  simp only [View.readAt_eq_ld, h3.read_unread, h4.read_unread, h5.read_unread, h9.read_unread,
    View.ld_unit_zero (S := S1024x1024) Mat.off2, View.ld_unit_zero (S := S1024x256) Mat.off2, View.ld_unit_zero (S := S1x256x1024) Mat.off3]

/-- And beside it that sum scaled to unit mean square along its rows, times the layer's gains. -/
theorem norm_last (c i a3 h3 a4 h4 a5 h5 a6 h6 a7 h7 a8 h8 a9 h9 hc0 hc1) (x y v g s) :
    out0_C_5 (F := Ideal) c i a3 h3 a4 h4 a5 h5 a6 h6 a7 h7 a8 h8 a9 h9 hc0 hc1 x y v g s = k0_pay4 (k0_pay2 s x y) v g := by
  unfold out0_C_5
  rw [View.read_writes_eq_canon _ _ _ (cover0_C_5 c i a3 h3 a4 h4 a5 h5 a6 h6 a7 h7 a8 h8 a9 h9 hc0 hc1 x y v g s)]
  unfold kernelRun0_C
  dsimp only
  sl_unfold_words
  rw [View.canon_unit_zero (S := S1024x1024) Mat.off2, View.readCov_unit_zero (S := S1024x1024) _ Mat.off2]
  simp only [View.readAt_eq_ld, h3.read_unread, h4.read_unread, h5.read_unread, h6.read_unread, h9.read_unread,
    View.ld_unit_zero (S := S1024x1024) Mat.off2, View.ld_unit_zero (S := S1024x256) Mat.off2, View.ld_unit_zero (S := S1x256x1024) Mat.off3,
    View.ld_unit_zero (S := S1x1024) Mat.off2]

/-- The product of two blocks at an entry. -/
theorem prod_apply (x : S1024x256.Idx → EReal) (y : S256x1024.Idx → EReal) (r q : Fin 1024) :
    (matmul (F := Ideal) (φ₁ := .bf16) (φ₂ := .bf16) dot_S1024x256_S256x1024_S1024x1024_1_0_0_1_n_n none x y
      (constant S1024x1024 .f32 0x00000000#32) (ix2 r q) : EReal) = ∑ k : Fin 256, x (ix2 r k) * y (ix2 k q) := by
  simp only [pointwise, zero_add]

/-- An accumulating step at an entry; the zero start, the stored sum and the stored scaled sum are as in the MLP's. -/
theorem step_apply (s : Vec Ideal S1024x1024 .f32) (x : Vec Ideal S1024x256 .bf16) (y : Vec Ideal S1x256x1024 .bf16) (r q : Fin 1024) :
    k0_pay2 s x y (ix2 r q) = (s (ix2 r q) : EReal) + ∑ k : Fin 256, (x (ix2 r k) : EReal) * y (ix3 0 k q) := by
  unfold k0_pay2
  simp only [shapeCast_self]
  refine congrArg (fun e : EReal => (s (ix2 r q) : EReal) + e) ((prod_apply x _ r q).trans ?_)
  exact Finset.sum_congr rfl fun k _ => congrArg (fun e : EReal => (x (ix2 r k) : EReal) * e) (by simp only [pointwise])

theorem zero_apply (i : S1024x1024.Idx) : (k0_pay1 (F := Ideal) i : EReal) = 0 := Down.zero_apply i

theorem sum_apply (s v : Vec Ideal S1024x1024 .f32) (r q : Fin 1024) :
    k0_pay3 s v (ix2 r q) = (v (ix2 r q) : EReal) + s (ix2 r q) := rfl

theorem norm_apply (s v : Vec Ideal S1024x1024 .f32) (g : Vec Ideal S1x1024 .f32) (r q : Fin 1024) :
    (k0_pay4 s v g (ix2 r q) : EReal) = Mat.unit (fun k => (v (ix2 r k) : EReal) + s (ix2 r k)) q * (g (ix2 0 q) : EReal) :=
  Down.norm_apply s v g r q

variable (m : (ℓ : Loc nD τ sig) → Buf (Elt Ideal) ℓ) (c : Dev nD)

theorem at0 : ∀ t : Fin cfg0.N, win0_0.index t 0 = t.val / 4 ∧ win0_0.index t 1 = t.val % 4 := by decide +kernel
theorem at1 : ∀ t : Fin cfg0.N, win0_1.index t 0 = t.val % 4 ∧ win0_1.index t 1 = 0 ∧ win0_1.index t 2 = 0 := by decide +kernel
theorem at2 : ∀ t : Fin cfg0.N, win0_2.index t 0 = t.val / 4 ∧ win0_2.index t 1 = 0 := by decide +kernel
theorem at3 : ∀ t : Fin cfg0.N, win0_3.index t 0 = 0 ∧ win0_3.index t 1 = 0 := by decide +kernel
theorem pts (t : Fin cfg0.N) : t.val < 16 := lt_of_lt_of_eq t.isLt (show cfg0.N = 16 from N_0)

/-- The four arguments (the layer's inner result, weight, residual, gains), the two arrays prepared for the kernel, and
    the two result arrays. -/
def argY : S4096x1024.Idx → EReal := m ((c.tc : Thread nD τ).loc main_arg0)
def argW : S1024x1024.Idx → EReal := m ((c.tc : Thread nD τ).loc main_arg1)
def argX : S4096x1024.Idx → EReal := m ((c.tc : Thread nD τ).loc main_arg2)
def argG : S1x1024.Idx → EReal := m ((c.tc : Thread nD τ).loc main_arg3)
def rec : S4096x1024.Idx → EReal := V m c main_v0
def wts : S4x256x1024.Idx → EReal := V m c main_v2
def res : S4096x1024.Idx → EReal := G4 m c
def nrm : S4096x1024.Idx → EReal := G5 m c

theorem rec_eq : rec m c = argY m c := by
  unfold rec V
  after_results
  rfl

theorem wts_eq (p : Fin 4) (k : Fin 256) (q : Fin 1024) : wts m c (ix3 p k q) = argW m c (ix2 ⟨256 * p.val + k.val, by omega⟩ q) := by
  have e : wts m c = shapeCast S4x256x1024 (truncf (F := Ideal) .bf16 (m ((c.tc : Thread nD τ).loc main_arg1)) bitsLt_bf16_f32)
      shapeCasts_S1024x1024_S4x256x1024 := by
    unfold wts V
    after_results
    rfl
  rw [e]
  simp only [pointwise]
  simp only [Nat.mul_comm p.val 256]
  rfl

theorem res2_eq : (V m c main_arg2 : S4096x1024.Idx → EReal) = argX m c := by
  unfold V
  after_results
  rfl

theorem gain_eq : (V m c main_arg3 : S1x1024.Idx → EReal) = argG m c := by
  unfold V
  after_results
  rfl

/-- The blocks a step reads. -/
theorem blk0 (t : Fin cfg0.N) (r : Fin 1024) (k : Fin 256) : (iblk m c 0 t (ix2 r k) : EReal) = argY m c
    (ix2 ⟨1024 * (t.val / 4) + r.val, by have := pts t; omega⟩ ⟨256 * (t.val % 4) + k.val, by omega⟩) := by
  rw [← rec_eq]
  unfold iblk
  refine congrArg (rec m c) (Mat.idx2 ?_ ?_)
  · show win0_0.index t 0 * 1024 + 1 * r.val = 1024 * (t.val / 4) + r.val; rw [(at0 t).1]; omega
  · show win0_0.index t 1 * 256 + 1 * k.val = 256 * (t.val % 4) + k.val; rw [(at0 t).2]; omega

theorem blk1 (t : Fin cfg0.N) (k : Fin 256) (q : Fin 1024) : (iblk m c 1 t (ix3 0 k q) : EReal) = argW m c
    (ix2 ⟨256 * (t.val % 4) + k.val, by omega⟩ q) := by
  refine Eq.trans ?_ (wts_eq m c ⟨t.val % 4, by omega⟩ k q)
  unfold iblk
  refine congrArg (wts m c) (Mat.idx3 ?_ ?_ ?_)
  · show win0_1.index t 0 * 1 + 1 * 0 = t.val % 4; rw [(at1 t).1]; omega
  · show win0_1.index t 1 * 256 + 1 * k.val = k.val; rw [(at1 t).2.1]; omega
  · show win0_1.index t 2 * 1024 + 1 * q.val = q.val; rw [(at1 t).2.2]; omega

theorem blk2 (t : Fin cfg0.N) (r q : Fin 1024) : (iblk m c 2 t (ix2 r q) : EReal) = argX m c
    (ix2 ⟨1024 * (t.val / 4) + r.val, by have := pts t; omega⟩ q) := by
  rw [← res2_eq]
  unfold iblk
  refine congrArg (V m c main_arg2 : S4096x1024.Idx → EReal) (Mat.idx2 ?_ ?_)
  · show win0_2.index t 0 * 1024 + 1 * r.val = 1024 * (t.val / 4) + r.val; rw [(at2 t).1]; omega
  · show win0_2.index t 1 * 1024 + 1 * q.val = q.val; rw [(at2 t).2]; omega

theorem blk3 (t : Fin cfg0.N) (q : Fin 1024) : (iblk m c 3 t (ix2 0 q) : EReal) = argG m c (ix2 0 q) := by
  rw [← gain_eq]
  unfold iblk
  refine congrArg (V m c main_arg3 : S1x1024.Idx → EReal) (Mat.idx2 ?_ ?_)
  · show win0_3.index t 0 * 1 + 1 * 0 = 0; rw [(at3 t).1]
  · show win0_3.index t 1 * 1024 + 1 * q.val = q.val; rw [(at3 t).2]; omega

/-- What is left after a step depends on the step's number alone. -/
theorem outs_congr {n n' : ℕ} (h : n = n') (hn : n < cfg0.N) (hn' : n' < cfg0.N) : outsAt0 m c n hn = outsAt0 m c n' hn' := by
  subst h; rfl

/-- The accumulator after the first step of a tile, after a middle step, and the blocks stored after the last. -/
theorem acc_a (t : Fin cfg0.N) (h : t.val % 4 = 0) :
    (outsAt0 m c t.val t.isLt).2.2 = k0_pay2 k0_pay1 (iblk m c 0 t) (iblk m c 1 t) := by
  have e := congrArg (fun p => p.2.2) (outsAt0_A m c t h (by omega))
  dsimp only at e
  rw [acc_first] at e
  exact e

theorem acc_b (t u : Fin cfg0.N) (hu : u.val = t.val + 1) (h0 : ¬u.val % 4 = 0) (h1 : ¬u.val % 4 = 3) :
    (outsAt0 m c u.val u.isLt).2.2 = k0_pay2 (outsAt0 m c t.val t.isLt).2.2 (iblk m c 0 u) (iblk m c 1 u) := by
  have e := congrArg (fun p => p.2.2) (outsAt0_B m c u h0 h1)
  rw [outs_congr m c (show u.val - 1 = t.val by omega) _ t.isLt] at e
  dsimp only at e
  rw [acc_mid] at e
  exact e

theorem out_c (t u : Fin cfg0.N) (hu : u.val = t.val + 1) (h1 : u.val % 4 = 3) :
    (outsAt0 m c u.val u.isLt).1
        = k0_pay3 (k0_pay2 (outsAt0 m c t.val t.isLt).2.2 (iblk m c 0 u) (iblk m c 1 u)) (iblk m c 2 u)
      ∧ (outsAt0 m c u.val u.isLt).2.1
        = k0_pay4 (k0_pay2 (outsAt0 m c t.val t.isLt).2.2 (iblk m c 0 u) (iblk m c 1 u)) (iblk m c 2 u) (iblk m c 3 u) := by
  have e := outsAt0_C m c u (by omega) h1
  rw [outs_congr m c (show u.val - 1 = t.val by omega) _ t.isLt] at e
  have e1 := congrArg (fun p => p.1) e
  have e2 := congrArg (fun p => p.2.1) e
  dsimp only at e1 e2
  rw [sum_last] at e1
  rw [norm_last] at e2
  exact ⟨e1, e2⟩

/-- The product of the inner result and the weight at an entry. -/
def prd (i : Fin 4096) (q : Fin 1024) : EReal := ∑ k : Fin 1024, argY m c (ix2 i k) * argW m c (ix2 k q)

/-- The finished accumulator of a tile. -/
theorem acc_tile (p : Fin 4) (t u : Fin cfg0.N) (ht : t.val = 4 * p.val + 2) (hu : u.val = 4 * p.val + 3) (r q : Fin 1024) :
    (k0_pay2 (outsAt0 m c t.val t.isLt).2.2 (iblk m c 0 u) (iblk m c 1 u) (ix2 r q) : EReal)
      = prd m c ⟨1024 * p.val + r.val, by omega⟩ q := by
  have hN : cfg0.N = 16 := N_0
  have ha : 4 * p.val < cfg0.N := by omega
  have hb : 4 * p.val + 1 < cfg0.N := by omega
  rw [acc_b m c ⟨4 * p.val + 1, hb⟩ t (by dsimp only; omega) (by omega) (by omega),
    acc_b m c ⟨4 * p.val, ha⟩ ⟨4 * p.val + 1, hb⟩ rfl (by dsimp only; omega) (by dsimp only; omega),
    acc_a m c ⟨4 * p.val, ha⟩ (by dsimp only; omega)]
  rw [step_apply, step_apply, step_apply, step_apply, zero_apply, zero_add]
  unfold prd
  rw [← Mat.sum_four]
  refine congrArg₂ (· + ·) (congrArg₂ (· + ·) (congrArg₂ (· + ·) ?_ ?_) ?_) ?_ <;> refine Finset.sum_congr rfl fun k _ => ?_ <;>
    rw [blk0, blk1] <;> simp only [ht, hu, Mat.quarters, Nat.mul_zero, Nat.mul_one, Nat.zero_add] <;> rfl

/-- The two results in a tile. -/
theorem res_entry (p : Fin 4) (r q : Fin 1024) :
    res m c (ix2 ⟨1024 * p.val + r.val, by omega⟩ q)
      = argX m c (ix2 ⟨1024 * p.val + r.val, by omega⟩ q) + prd m c ⟨1024 * p.val + r.val, by omega⟩ q := by
  have hN : cfg0.N = 16 := N_0
  have ha : 4 * p.val + 2 < cfg0.N := by omega
  have hb : 4 * p.val + 3 < cfg0.N := by omega
  have hp : pt4Of (ix2 ⟨1024 * p.val + r.val, by omega⟩ q) = 4 * p.val + 3 := by
    show 4 * (1 * ((1024 * p.val + r.val) / 1024 - 0) + 1 * (q.val / 1024 - 0)) + 3 = _
    omega
  have hl : loc4Of (ix2 ⟨1024 * p.val + r.val, by omega⟩ q) = ix2 r q := Mat.idx2
    (by show (1024 * p.val + r.val) % 1024 = r.val; omega) (Nat.mod_eq_of_lt q.isLt)
  have e : res m c (ix2 ⟨1024 * p.val + r.val, by omega⟩ q) = (outsAt0 m c (4 * p.val + 3) hb).1 (ix2 r q) := by
    refine (dif_pos (hp.symm ▸ hb)).trans ?_
    rw [hl, outsAt0_sweep]
    exact congrFun (congrArg (fun p => p.1) (fold0_congr m c _ _ _ _ hp)) _
  rw [e, (out_c m c ⟨4 * p.val + 2, ha⟩ ⟨4 * p.val + 3, hb⟩ rfl (by dsimp only; omega)).1, sum_apply, blk2,
    acc_tile m c p _ _ rfl rfl]
  simp only [Mat.quarters]

theorem nrm_entry (p : Fin 4) (r q : Fin 1024) :
    nrm m c (ix2 ⟨1024 * p.val + r.val, by omega⟩ q)
      = Mat.unit (fun k => argX m c (ix2 ⟨1024 * p.val + r.val, by omega⟩ k) + prd m c ⟨1024 * p.val + r.val, by omega⟩ k) q
        * argG m c (ix2 0 q) := by
  have hN : cfg0.N = 16 := N_0
  have ha : 4 * p.val + 2 < cfg0.N := by omega
  have hb : 4 * p.val + 3 < cfg0.N := by omega
  have hp : pt5Of (ix2 ⟨1024 * p.val + r.val, by omega⟩ q) = 4 * p.val + 3 := by
    show 4 * (1 * ((1024 * p.val + r.val) / 1024 - 0) + 1 * (q.val / 1024 - 0)) + 3 = _
    omega
  have hl : loc5Of (ix2 ⟨1024 * p.val + r.val, by omega⟩ q) = ix2 r q := Mat.idx2
    (by show (1024 * p.val + r.val) % 1024 = r.val; omega) (Nat.mod_eq_of_lt q.isLt)
  have e : nrm m c (ix2 ⟨1024 * p.val + r.val, by omega⟩ q) = (outsAt0 m c (4 * p.val + 3) hb).2.1 (ix2 r q) := by
    refine (dif_pos (hp.symm ▸ hb)).trans ?_
    rw [hl, outsAt0_sweep]
    exact congrFun (congrArg (fun p => p.2.1) (fold0_congr m c _ _ _ _ hp)) _
  rw [e, (out_c m c ⟨4 * p.val + 2, ha⟩ ⟨4 * p.val + 3, hb⟩ rfl (by dsimp only; omega)).2, norm_apply, blk3]
  refine congrArg (fun e : EReal => e * argG m c (ix2 0 q)) (congrArg (fun f => Mat.unit f q) (funext fun k => ?_))
  rw [blk2, acc_tile m c p _ _ rfl rfl]
  simp only [Mat.quarters]

/-- **The kernel's first result at an entry**: the residual plus the product. -/
theorem kernel_sum (i : Fin 4096) (q : Fin 1024) : res m c (ix2 i q) = argX m c (ix2 i q) + prd m c i q := by
  have b : 1024 * (i.val / 1024) + i.val % 1024 < 4096 := by omega
  obtain e : i = ⟨1024 * (i.val / 1024) + i.val % 1024, b⟩ := Fin.ext (Nat.div_add_mod _ _).symm
  rw [e]
  exact res_entry m c ⟨i.val / 1024, by omega⟩ ⟨i.val % 1024, by omega⟩ q

/-- **The kernel's second result at an entry**: the first result's row scaled to unit mean square, times the gains. -/
theorem kernel_norm (i : Fin 4096) (q : Fin 1024) :
    nrm m c (ix2 i q) = Mat.unit (fun k => argX m c (ix2 i k) + prd m c i k) q * argG m c (ix2 0 q) := by
  have b : 1024 * (i.val / 1024) + i.val % 1024 < 4096 := by omega
  obtain e : i = ⟨1024 * (i.val / 1024) + i.val % 1024, b⟩ := Fin.ext (Nat.div_add_mod _ _).symm
  rw [e]
  exact nrm_entry m c ⟨i.val / 1024, by omega⟩ ⟨i.val % 1024, by omega⟩ q

end Cert.LruOut

namespace Cert.LruOut.Ref

open Cert.Reference20Ideal Cert.Reference20Ideal.Gen
open Idealize.ShloMosaic Idealize.ShloMosaic.TcCoe

/-- The product of the reference at an entry. -/
theorem prod (o : S4096x1024.Idx → EReal) (w : S1024x1024.Idx → EReal) (i : Fin 4096) (j : Fin 1024) :
    (Host.dotGeneral (F := Ideal) (φ₁ := .f32) (φ₂ := .f32) dot_S4096x1024_S1024x1024_S4096x1024_1_0_0_1_n_n none o w (ix2 i j) : EReal)
      = ∑ k : Fin 1024, o (ix2 i k) * w (ix2 k j) :=
  FoxOut.Ref.prod o w i j

end Cert.LruOut.Ref

end
-- ==== Proof.CallClaims.lean ====
/- The claims of the further product calls: the frames of their references, and the equality of results. -/
module

public import proofs.«01_k».proof.Defs
public import proofs.«01_k».proof.Proof.MlpClaims
public import proofs.«01_k».proof.Proof.LruDh
public import proofs.«01_k».proof.Proof.FoxDh
public import proofs.«01_k».proof.Proof.Up
public import proofs.«01_k».proof.Proof.DownLast
public import proofs.«01_k».proof.Proof.FoxDwin
public import proofs.«01_k».proof.Proof.LruDwin
public import proofs.«01_k».proof.Proof.FoxIn
public import proofs.«01_k».proof.Proof.LruIn
public import proofs.«01_k».proof.Proof.FoxDout
public import proofs.«01_k».proof.Proof.LruDout
public import proofs.«01_k».proof.Proof.LruDwout
public import proofs.«01_k».proof.Proof.LruOut

@[expose] public section

set_option maxRecDepth 16384

noncomputable section

namespace Cert.Calls

open Idealize.ShloMosaic Idealize.SL.Sem
open Mlp (ext2 ext3 quiet answers)

attribute [local instance] Kernel5Ideal.Gen.facts Reference5Ideal.Gen.facts Kernel6Ideal.Gen.facts Reference6Ideal.Gen.facts
  Kernel7Ideal.Gen.facts Reference7Ideal.Gen.facts Kernel8Ideal.Gen.facts Reference8Ideal.Gen.facts Kernel9Ideal.Gen.facts
  Reference9Ideal.Gen.facts Kernel10Ideal.Gen.facts Reference10Ideal.Gen.facts Kernel11Ideal.Gen.facts Reference11Ideal.Gen.facts
  Kernel12Ideal.Gen.facts Reference12Ideal.Gen.facts Kernel13Ideal.Gen.facts Reference13Ideal.Gen.facts Kernel14Ideal.Gen.facts
  Reference14Ideal.Gen.facts Kernel15Ideal.Gen.facts Reference15Ideal.Gen.facts Kernel16Ideal.Gen.facts Reference16Ideal.Gen.facts
  Kernel17Ideal.Gen.facts Reference17Ideal.Gen.facts Kernel18Ideal.Gen.facts Reference18Ideal.Gen.facts Kernel19Ideal.Gen.facts
  Reference19Ideal.Gen.facts Kernel20Ideal.Gen.facts Reference20Ideal.Gen.facts

/-! Every execution of a reference ends, its arguments as they were and all counters zero. -/

theorem frame_reference5 : quiescent_Reference5Ideal := fun m g _ =>
  quiet (by decide) (Reference5Ideal.Value.run m g) fun _ _ h => h.2.2.2

theorem frame_reference6 : quiescent_Reference6Ideal := fun m g _ =>
  quiet (by decide) (Reference6Ideal.Value.run m g) fun _ _ h => h.2

theorem frame_reference7 : quiescent_Reference7Ideal := fun m g _ =>
  quiet (by decide) (Reference7Ideal.Value.run m g) fun _ _ h => h.2.2

theorem frame_reference8 : quiescent_Reference8Ideal := fun m g _ =>
  quiet (by decide) (Reference8Ideal.Value.run m g) fun _ _ h => h.2

theorem frame_reference9 : quiescent_Reference9Ideal := fun m g _ =>
  quiet (by decide) (Reference9Ideal.Value.run m g) fun _ _ h => h.2

theorem frame_reference10 : quiescent_Reference10Ideal := fun m g _ =>
  quiet (by decide) (Reference10Ideal.Value.run m g) fun _ _ h => h.2

theorem frame_reference11 : quiescent_Reference11Ideal := fun m g _ =>
  quiet (by decide) (Reference11Ideal.Value.run m g) fun _ _ h => h.2.2.2

theorem frame_reference12 : quiescent_Reference12Ideal := fun m g _ =>
  quiet (by decide) (Reference12Ideal.Value.run m g) fun _ _ h => h.2.2

theorem frame_reference13 : quiescent_Reference13Ideal := fun m g _ =>
  quiet (by decide) (Reference13Ideal.Value.run m g) fun _ _ h => h.2

theorem frame_reference14 : quiescent_Reference14Ideal := fun m g _ =>
  quiet (by decide) (Reference14Ideal.Value.run m g) fun _ _ h => h.2

theorem frame_reference15 : quiescent_Reference15Ideal := fun m g _ =>
  quiet (by decide) (Reference15Ideal.Value.run m g) fun _ _ h => h.2

theorem frame_reference16 : quiescent_Reference16Ideal := fun m g _ =>
  quiet (by decide) (Reference16Ideal.Value.run m g) fun _ _ h => h.2

theorem frame_reference17 : quiescent_Reference17Ideal := fun m g _ =>
  quiet (by decide) (Reference17Ideal.Value.run m g) fun _ _ h => h.2

theorem frame_reference18 : quiescent_Reference18Ideal := fun m g _ =>
  quiet (by decide) (Reference18Ideal.Value.run m g) fun _ _ h => h.2

theorem frame_reference19 : quiescent_Reference19Ideal := fun m g _ =>
  quiet (by decide) (Reference19Ideal.Value.run m g) fun _ _ h => h.2.2

theorem frame_reference20 : quiescent_Reference20Ideal := fun m g _ =>
  quiet (by decide) (Reference20Ideal.Value.run m g) fun _ _ h => h.2.2

/-! Kernel and reference leave the same results. -/

/-- **The gradient of an MLP's input, and of its gains**. -/
theorem algebraic5 : algebraic_Kernel5Ideal_Reference5Ideal := fun m g m' g' _ hargs =>
  ⟨Dh.tot m, Dh.low m, Dh.gain m, Kernel5Ideal.Value.run m g,
    (θ_run Reference5Ideal.defs _ _).mono (fun r h c => by
        obtain ⟨a0, a1, a2, a3, a4⟩ := hargs c
        obtain ⟨e1, e2, e3, e4⟩ := h c
        have p := Dh.Ref.grads (Dh.argX m c) (Dh.argD m c) _ (Dh.argG m c) (Dh.prd m c) (Dh.Ref.prod (Dh.argZ m c) (Dh.argW m c))
        have t : Reference5Ideal.Value.res_main_v36 m' c = Dh.tot m c := ext2 fun i j => by
          unfold Reference5Ideal.Value.res_main_v36
          rw [a0, a1, a2, a3, a4]
          exact (p.1 i j).trans (Dh.kernel_tot m c i j).1.symm
        refine ⟨e1.trans t, e2.trans (Eq.trans t (ext2 fun i j => (Dh.kernel_tot m c i j).1.trans (Dh.kernel_tot m c i j).2.symm)), e3.trans ?_, e4⟩
        rw [a0, a2, a3]
        refine ext2 fun z j => ?_
        obtain rfl : z = 0 := Subsingleton.elim _ _
        exact (p.2 j).trans (Dh.kernel_gain m c j).symm)
      (Reference5Ideal.Value.run m' g')⟩

/-- **The activations of an MLP**. -/
theorem algebraic6 : algebraic_Kernel6Ideal_Reference6Ideal := fun m g m' g' _ hargs =>
  ⟨Up.res m, Kernel6Ideal.Value.run_blocks m g, answers (Reference6Ideal.Value.run m' g') fun c => ext2 fun i j => by
    obtain ⟨a0, a1⟩ := hargs c
    refine (Up.Ref.entry _ _ i j).trans ?_
    rw [a0, a1]
    exact (Up.kernel_entry m c i j).symm⟩

/-- **The MLP's result and the next layer's input**. -/
theorem algebraic7 : Cert.algebraic_Kernel7Ideal_Reference7Ideal := fun m g m' g' _ hargs =>
  ⟨fun c => Cert.Down.res m c, fun c => Cert.Down.nrm m c,
    (θ_run Cert.Kernel7Ideal.defs _ _).mono (fun r h c => h c) (Cert.Kernel7Ideal.Value.run (F := Ideal) m g),
    (θ_run Cert.Reference7Ideal.defs _ _).mono (fun r h c => by
        obtain ⟨a0, a1, a2, a3⟩ := hargs c
        obtain ⟨e1, e2, e3⟩ := h c
        rw [a0, a1, a2] at e1
        rw [a0, a1, a2, a3] at e2
        have s := fun i k => congrArg (fun e : EReal => Cert.Down.argX m c (ix2 i k) + e) (Cert.Down.Ref.prod (Cert.Down.argA m c) (Cert.Down.argW m c) i k)
        refine ⟨e1.trans (ext2 fun i j => (s i j).trans (Cert.Down.kernel_sum m c i j).symm), e2.trans (ext2 fun i j => ?_), e3⟩
        refine Eq.trans ?_ (Cert.Down.kernel_norm m c i j).symm
        refine (Cert.Down.Ref.norm _ _ i j).trans ?_
        exact congrArg (fun e : EReal => e * Cert.Down.argG m c (ix2 0 j)) (congrArg (fun f => Cert.Mat.unit f j) (funext fun k => s i k)))
      (Cert.Reference7Ideal.Value.run (F := Ideal) m' g')⟩

/-- **The last MLP's result**. -/
theorem algebraic8 : algebraic_Kernel8Ideal_Reference8Ideal := fun m g m' g' _ hargs =>
  ⟨DownLast.res m, Kernel8Ideal.Value.run m g, answers (Reference8Ideal.Value.run m' g') fun c => ext2 fun i j => by
    obtain ⟨a0, a1, a2⟩ := hargs c
    refine (DownLast.Ref.entry _ _ _ i j).trans ?_
    rw [a0, a1, a2]
    exact (DownLast.kernel_entry m c i j).symm⟩

/-- **The gradient of the attention layer's input weight**. -/
theorem algebraic9 : algebraic_Kernel9Ideal_Reference9Ideal := fun m g m' g' _ hargs =>
  ⟨FoxDwin.res m, Kernel9Ideal.Value.run m g, answers (Reference9Ideal.Value.run m' g') fun c => ext2 fun i j => by
    obtain ⟨a0, a1⟩ := hargs c
    refine (FoxDwin.Ref.entry _ _ i j).trans ?_
    rw [a0, a1]
    exact (FoxDwin.kernel_entry m c i j).symm⟩

/-- **The gradient of the recurrent layer's input weight**. -/
theorem algebraic10 : algebraic_Kernel10Ideal_Reference10Ideal := fun m g m' g' _ hargs =>
  ⟨LruDwin.res m, Kernel10Ideal.Value.run m g, answers (Reference10Ideal.Value.run m' g') fun c => ext3 fun p i j => by
    obtain ⟨a0, a1⟩ := hargs c
    refine (LruDwin.Ref.entry _ _ p i j).trans ?_
    rw [a0, a1]
    exact (LruDwin.kernel_entry m c p i j).symm⟩

/-- **The gradient of the attention layer's input, and of its gains**. -/
theorem algebraic11 : algebraic_Kernel11Ideal_Reference11Ideal := fun m g m' g' _ hargs =>
  ⟨FoxDh.tot m, FoxDh.low m, FoxDh.gain m, Kernel11Ideal.Value.run m g,
    (θ_run Reference11Ideal.defs _ _).mono (fun r h c => by
        obtain ⟨a0, a1, a2, a3, a4⟩ := hargs c
        obtain ⟨e1, e2, e3, e4⟩ := h c
        have p := Dh.Ref.grads (FoxDh.argX m c) (FoxDh.argD m c) _ (FoxDh.argG m c) (FoxDh.prd m c) (FoxDh.ref_prod (FoxDh.argZ m c) (FoxDh.argW m c))
        have t : Reference11Ideal.Value.res_main_v36 m' c = FoxDh.tot m c := ext2 fun i j => by
          unfold Reference11Ideal.Value.res_main_v36
          rw [a0, a1, a2, a3, a4]
          exact (p.1 i j).trans (FoxDh.kernel_tot m c i j).1.symm
        refine ⟨e1.trans t, e2.trans (Eq.trans t (ext2 fun i j => (FoxDh.kernel_tot m c i j).1.trans (FoxDh.kernel_tot m c i j).2.symm)), e3.trans ?_, e4⟩
        rw [a0, a2, a3]
        refine ext2 fun z j => ?_
        obtain rfl : z = 0 := Subsingleton.elim _ _
        exact (p.2 j).trans (FoxDh.kernel_gain m c j).symm)
      (Reference11Ideal.Value.run m' g')⟩

/-- **The gradient of the linear recurrence's input, and of its gains**. -/
theorem algebraic12 : algebraic_Kernel12Ideal_Reference12Ideal := fun m g m' g' _ hargs =>
  ⟨LruDh.tot m, LruDh.gain m, Kernel12Ideal.Value.run m g,
    (θ_run Reference12Ideal.defs _ _).mono (fun r h c => by
        obtain ⟨a0, a1, a2, a3, a4⟩ := hargs c
        obtain ⟨e1, e2, e3⟩ := h c
        have p := Dh.Ref.grads (LruDh.argX m c) (LruDh.argD m c) _ (LruDh.argG m c) (LruDh.prd m c) (LruDh.ref_prod (LruDh.argZ m c) (LruDh.argW m c))
        refine ⟨e1.trans (ext2 fun i j => ?_), e2.trans ?_, e3⟩
        · unfold Reference12Ideal.Value.res_main_v36
          rw [a0, a1, a2, a3, a4]
          exact (p.1 i j).trans (LruDh.kernel_tot m c i j).symm
        · rw [a0, a2, a3]
          refine ext2 fun z j => ?_
          obtain rfl : z = 0 := Subsingleton.elim _ _
          exact (p.2 j).trans (LruDh.kernel_gain m c j).symm)
      (Reference12Ideal.Value.run m' g')⟩

/-- **The attention layer's input product**. -/
theorem algebraic13 : algebraic_Kernel13Ideal_Reference13Ideal := fun m g m' g' _ hargs =>
  ⟨FoxIn.res m, Kernel13Ideal.Value.run_blocks m g, answers (Reference13Ideal.Value.run m' g') fun c => ext2 fun j i => by
    obtain ⟨a0, a1⟩ := hargs c
    refine (FoxIn.Ref.entry _ _ j i).trans ?_
    rw [a0, a1]
    exact (FoxIn.kernel_entry m c j i).symm⟩

/-- **The recurrent layer's input product**. -/
theorem algebraic14 : algebraic_Kernel14Ideal_Reference14Ideal := fun m g m' g' _ hargs =>
  ⟨LruIn.res m, Kernel14Ideal.Value.run_blocks m g, answers (Reference14Ideal.Value.run m' g') fun c => ext2 fun i j => by
    obtain ⟨a0, a1⟩ := hargs c
    refine (LruIn.Ref.entry _ _ i j).trans ?_
    rw [a0, a1]
    exact (LruIn.kernel_entry m c i j).symm⟩

/-- **The gradient that reaches the attention**. -/
theorem algebraic15 : algebraic_Kernel15Ideal_Reference15Ideal := fun m g m' g' _ hargs =>
  ⟨FoxDout.res m, Kernel15Ideal.Value.run_blocks m g, answers (Reference15Ideal.Value.run m' g') fun c => ext2 fun j i => by
    obtain ⟨a0, a1⟩ := hargs c
    refine (FoxDout.Ref.entry _ _ j i).trans ?_
    rw [a0, a1]
    exact (FoxDout.kernel_entry m c j i).symm⟩

/-- **The gradient of the attention layer's output weight**. -/
theorem algebraic16 : algebraic_Kernel16Ideal_Reference16Ideal := fun m g m' g' _ hargs =>
  ⟨FoxDwout.res m, Kernel16Ideal.Value.run m g, answers (Reference16Ideal.Value.run m' g') fun c => ext3 fun p i j => by
    obtain ⟨a0, a1⟩ := hargs c
    refine (FoxDwout.Ref.entry _ _ p i j).trans ?_
    rw [a0, a1]
    exact (FoxDwout.kernel_entry m c p i j).symm⟩

/-- **The gradient that reaches the recurrence**. -/
theorem algebraic17 : algebraic_Kernel17Ideal_Reference17Ideal := fun m g m' g' _ hargs =>
  ⟨LruDout.res m, Kernel17Ideal.Value.run_blocks m g, answers (Reference17Ideal.Value.run m' g') fun c => ext2 fun i j => by
    obtain ⟨a0, a1⟩ := hargs c
    refine (LruDout.Ref.entry _ _ i j).trans ?_
    rw [a0, a1]
    exact (LruDout.kernel_entry m c i j).symm⟩

/-- **The gradient of the recurrent layer's output weight**. -/
theorem algebraic18 : algebraic_Kernel18Ideal_Reference18Ideal := fun m g m' g' _ hargs =>
  ⟨LruDwout.res m, Kernel18Ideal.Value.run m g, answers (Reference18Ideal.Value.run m' g') fun c => ext3 fun p i j => by
    obtain ⟨a0, a1⟩ := hargs c
    refine (LruDwout.Ref.entry _ _ p i j).trans ?_
    rw [a0, a1]
    exact (LruDwout.kernel_entry m c p i j).symm⟩

/-- **The attention layer's result and the next layer's input**. -/
theorem algebraic19 : Cert.algebraic_Kernel19Ideal_Reference19Ideal := fun m g m' g' _ hargs =>
  ⟨fun c => Cert.FoxOut.res m c, fun c => Cert.FoxOut.nrm m c,
    (θ_run Cert.Kernel19Ideal.defs _ _).mono (fun r h c => h c) (Cert.Kernel19Ideal.Value.run (F := Ideal) m g),
    (θ_run Cert.Reference19Ideal.defs _ _).mono (fun r h c => by
        obtain ⟨a0, a1, a2, a3⟩ := hargs c
        obtain ⟨e1, e2, e3⟩ := h c
        rw [a0, a1, a2] at e1
        rw [a0, a1, a2, a3] at e2
        have s := fun i k => congrArg (fun e : EReal => Cert.FoxOut.argX m c (ix2 i k) + e) (Cert.FoxOut.Ref.prod (Cert.FoxOut.argO m c) (Cert.FoxOut.argW m c) i k)
        refine ⟨e1.trans (ext2 fun i j => (s i j).trans (Cert.FoxOut.kernel_sum m c i j).symm), e2.trans (ext2 fun i j => ?_), e3⟩
        refine Eq.trans ?_ (Cert.FoxOut.kernel_norm m c i j).symm
        refine (Cert.Down.Ref.norm _ _ i j).trans ?_
        exact congrArg (fun e : EReal => e * Cert.FoxOut.argG m c (ix2 0 j)) (congrArg (fun f => Cert.Mat.unit f j) (funext fun k => s i k)))
      (Cert.Reference19Ideal.Value.run (F := Ideal) m' g')⟩

/-- **The recurrent layer's result and the next layer's input**. -/
theorem algebraic20 : Cert.algebraic_Kernel20Ideal_Reference20Ideal := fun m g m' g' _ hargs =>
  ⟨fun c => Cert.LruOut.res m c, fun c => Cert.LruOut.nrm m c,
    (θ_run Cert.Kernel20Ideal.defs _ _).mono (fun r h c => h c) (Cert.Kernel20Ideal.Value.run (F := Ideal) m g),
    (θ_run Cert.Reference20Ideal.defs _ _).mono (fun r h c => by
        obtain ⟨a0, a1, a2, a3⟩ := hargs c
        obtain ⟨e1, e2, e3⟩ := h c
        rw [a0, a1, a2] at e1
        rw [a0, a1, a2, a3] at e2
        have s := fun i k => congrArg (fun e : EReal => Cert.LruOut.argX m c (ix2 i k) + e) (Cert.LruOut.Ref.prod (Cert.LruOut.argY m c) (Cert.LruOut.argW m c) i k)
        refine ⟨e1.trans (ext2 fun i j => (s i j).trans (Cert.LruOut.kernel_sum m c i j).symm), e2.trans (ext2 fun i j => ?_), e3⟩
        refine Eq.trans ?_ (Cert.LruOut.kernel_norm m c i j).symm
        refine (Cert.Down.Ref.norm _ _ i j).trans ?_
        exact congrArg (fun e : EReal => e * Cert.LruOut.argG m c (ix2 0 j)) (congrArg (fun f => Cert.Mat.unit f j) (funext fun k => s i k)))
      (Cert.Reference20Ideal.Value.run (F := Ideal) m' g')⟩

end Cert.Calls

end
-- ==== Proof.lean ====
/- The certificate: the claims of Defs.lean, each from the module that proves it. -/
module

public import proofs.«01_k».proof.Defs
public import proofs.«01_k».proof.Proof.Gen.Kernel
public import proofs.«01_k».proof.Proof.Gen.KernelIdeal
public import proofs.«01_k».proof.Proof.Gen.Pre_finite
public import proofs.«01_k».proof.Proof.Gen.ReferenceIdeal
public import proofs.«01_k».proof.Proof.Gen.ReferenceIdeal.Run
public import proofs.«01_k».proof.Proof.Gen.ReferenceIdeal.Read
public import proofs.«01_k».proof.Proof.FrameKernel
public import proofs.«01_k».proof.Proof.Frames
public import proofs.«01_k».proof.Proof.Algebraic
public import proofs.«01_k».proof.Proof.MlpClaims
public import proofs.«01_k».proof.Proof.CallClaims
public import proofs.«01_k».proof.Proof.Gen.Kernel2Ideal.Value
public import proofs.«01_k».proof.Proof.Gen.Reference2Ideal.Run
public import proofs.«01_k».proof.Proof.Gen.Kernel2.Frame
public import proofs.«01_k».proof.Proof.Gen.Kernel3Ideal.Value
public import proofs.«01_k».proof.Proof.Gen.Reference3Ideal.Run
public import proofs.«01_k».proof.Proof.Gen.Kernel3.Frame
public import proofs.«01_k».proof.Proof.Gen.Kernel4Ideal.Value
public import proofs.«01_k».proof.Proof.Gen.Reference4Ideal.Run
public import proofs.«01_k».proof.Proof.Gen.Kernel4.Frame
public import proofs.«01_k».proof.Proof.Gen.Kernel5Ideal.Value
public import proofs.«01_k».proof.Proof.Gen.Reference5Ideal.Run
public import proofs.«01_k».proof.Proof.Gen.Kernel5.Frame
public import proofs.«01_k».proof.Proof.Gen.Kernel6Ideal.Value
public import proofs.«01_k».proof.Proof.Gen.Reference6Ideal.Run
public import proofs.«01_k».proof.Proof.Gen.Kernel6.Frame
public import proofs.«01_k».proof.Proof.Gen.Kernel7Ideal.Value
public import proofs.«01_k».proof.Proof.Gen.Reference7Ideal.Run
public import proofs.«01_k».proof.Proof.Gen.Kernel7.Frame
public import proofs.«01_k».proof.Proof.Gen.Kernel8Ideal.Value
public import proofs.«01_k».proof.Proof.Gen.Reference8Ideal.Run
public import proofs.«01_k».proof.Proof.Gen.Kernel8.Frame
public import proofs.«01_k».proof.Proof.Gen.Kernel9Ideal.Value
public import proofs.«01_k».proof.Proof.Gen.Reference9Ideal.Run
public import proofs.«01_k».proof.Proof.Gen.Kernel9.Frame
public import proofs.«01_k».proof.Proof.Gen.Kernel10Ideal.Value
public import proofs.«01_k».proof.Proof.Gen.Reference10Ideal.Run
public import proofs.«01_k».proof.Proof.Gen.Kernel10.Frame
public import proofs.«01_k».proof.Proof.Gen.Kernel11Ideal.Value
public import proofs.«01_k».proof.Proof.Gen.Reference11Ideal.Run
public import proofs.«01_k».proof.Proof.Gen.Kernel11.Frame
public import proofs.«01_k».proof.Proof.Gen.Kernel12Ideal.Value
public import proofs.«01_k».proof.Proof.Gen.Reference12Ideal.Run
public import proofs.«01_k».proof.Proof.Gen.Kernel12.Frame
public import proofs.«01_k».proof.Proof.Gen.Kernel13Ideal.Value
public import proofs.«01_k».proof.Proof.Gen.Reference13Ideal.Run
public import proofs.«01_k».proof.Proof.Gen.Kernel13.Frame
public import proofs.«01_k».proof.Proof.Gen.Kernel14Ideal.Value
public import proofs.«01_k».proof.Proof.Gen.Reference14Ideal.Run
public import proofs.«01_k».proof.Proof.Gen.Kernel14.Frame
public import proofs.«01_k».proof.Proof.Gen.Kernel15Ideal.Value
public import proofs.«01_k».proof.Proof.Gen.Reference15Ideal.Run
public import proofs.«01_k».proof.Proof.Gen.Kernel15.Frame
public import proofs.«01_k».proof.Proof.Gen.Kernel16Ideal.Value
public import proofs.«01_k».proof.Proof.Gen.Reference16Ideal.Run
public import proofs.«01_k».proof.Proof.Gen.Kernel16.Frame
public import proofs.«01_k».proof.Proof.Gen.Kernel17Ideal.Value
public import proofs.«01_k».proof.Proof.Gen.Reference17Ideal.Run
public import proofs.«01_k».proof.Proof.Gen.Kernel17.Frame
public import proofs.«01_k».proof.Proof.Gen.Kernel18Ideal.Value
public import proofs.«01_k».proof.Proof.Gen.Reference18Ideal.Run
public import proofs.«01_k».proof.Proof.Gen.Kernel18.Frame
public import proofs.«01_k».proof.Proof.Gen.Kernel19Ideal.Value
public import proofs.«01_k».proof.Proof.Gen.Reference19Ideal.Run
public import proofs.«01_k».proof.Proof.Gen.Kernel19.Frame
public import proofs.«01_k».proof.Proof.Gen.Kernel20Ideal.Value
public import proofs.«01_k».proof.Proof.Gen.Reference20Ideal.Run
public import proofs.«01_k».proof.Proof.Gen.Kernel20.Frame

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Pre_finite.Gen.facts,
    Cert.KernelIdeal.Hand.frame_kernel, Cert.Frames.frame_kernelIdeal, fun m g _ => Cert.Frames.frame_kernelIdeal m g trivial,
    Cert.Frames.frame_referenceIdeal, fun m g _ => Cert.Frames.frame_referenceIdeal m g trivial,
    fun m g _ => Cert.Kernel2.Gen.frame m g, fun m g _ => Cert.Kernel2Ideal.Gen.frame m g, Cert.Mlp.frame_reference2,
    fun m g _ => Cert.Kernel3.Gen.frame m g, fun m g _ => Cert.Kernel3Ideal.Gen.frame m g, Cert.Mlp.frame_reference3,
    fun m g _ => Cert.Kernel4.Gen.frame m g, fun m g _ => Cert.Kernel4Ideal.Gen.frame m g, Cert.Mlp.frame_reference4,
    fun m g _ => Cert.Kernel5.Gen.frame m g, fun m g _ => Cert.Kernel5Ideal.Gen.frame m g, Cert.Calls.frame_reference5,
    fun m g _ => Cert.Kernel6.Gen.frame m g, fun m g _ => Cert.Kernel6Ideal.Gen.frame m g, Cert.Calls.frame_reference6,
    fun m g _ => Cert.Kernel7.Gen.frame m g, fun m g _ => Cert.Kernel7Ideal.Gen.frame m g, Cert.Calls.frame_reference7,
    fun m g _ => Cert.Kernel8.Gen.frame m g, fun m g _ => Cert.Kernel8Ideal.Gen.frame m g, Cert.Calls.frame_reference8,
    fun m g _ => Cert.Kernel9.Gen.frame m g, fun m g _ => Cert.Kernel9Ideal.Gen.frame m g, Cert.Calls.frame_reference9,
    fun m g _ => Cert.Kernel10.Gen.frame m g, fun m g _ => Cert.Kernel10Ideal.Gen.frame m g, Cert.Calls.frame_reference10,
    fun m g _ => Cert.Kernel11.Gen.frame m g, fun m g _ => Cert.Kernel11Ideal.Gen.frame m g, Cert.Calls.frame_reference11,
    fun m g _ => Cert.Kernel12.Gen.frame m g, fun m g _ => Cert.Kernel12Ideal.Gen.frame m g, Cert.Calls.frame_reference12,
    fun m g _ => Cert.Kernel13.Gen.frame m g, fun m g _ => Cert.Kernel13Ideal.Gen.frame m g, Cert.Calls.frame_reference13,
    fun m g _ => Cert.Kernel14.Gen.frame m g, fun m g _ => Cert.Kernel14Ideal.Gen.frame m g, Cert.Calls.frame_reference14,
    fun m g _ => Cert.Kernel15.Gen.frame m g, fun m g _ => Cert.Kernel15Ideal.Gen.frame m g, Cert.Calls.frame_reference15,
    fun m g _ => Cert.Kernel16.Gen.frame m g, fun m g _ => Cert.Kernel16Ideal.Gen.frame m g, Cert.Calls.frame_reference16,
    fun m g _ => Cert.Kernel17.Gen.frame m g, fun m g _ => Cert.Kernel17Ideal.Gen.frame m g, Cert.Calls.frame_reference17,
    fun m g _ => Cert.Kernel18.Gen.frame m g, fun m g _ => Cert.Kernel18Ideal.Gen.frame m g, Cert.Calls.frame_reference18,
    fun m g _ => Cert.Kernel19.Gen.frame m g, fun m g _ => Cert.Kernel19Ideal.Gen.frame m g, Cert.Calls.frame_reference19,
    fun m g _ => Cert.Kernel20.Gen.frame m g, fun m g _ => Cert.Kernel20Ideal.Gen.frame m g, Cert.Calls.frame_reference20,
    Cert.Frames.preserves, Cert.Frames.algebraic,
    trivial, Cert.Mlp.algebraic2,
    trivial, Cert.Mlp.algebraic3,
    trivial, Cert.Mlp.algebraic4,
    trivial, Cert.Calls.algebraic5,
    trivial, Cert.Calls.algebraic6,
    trivial, Cert.Calls.algebraic7,
    trivial, Cert.Calls.algebraic8,
    trivial, Cert.Calls.algebraic9,
    trivial, Cert.Calls.algebraic10,
    trivial, Cert.Calls.algebraic11,
    trivial, Cert.Calls.algebraic12,
    trivial, Cert.Calls.algebraic13,
    trivial, Cert.Calls.algebraic14,
    trivial, Cert.Calls.algebraic15,
    trivial, Cert.Calls.algebraic16,
    trivial, Cert.Calls.algebraic17,
    trivial, Cert.Calls.algebraic18,
    trivial, Cert.Calls.algebraic19,
    trivial, Cert.Calls.algebraic20⟩

end Cert.Proof

end
